-- ==== Defs.lean ====
def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvIdeal_finite_memkv [hPre_finite_memkv : Cert.Pre_finite_memkv.Facts] (m : (ℓ : Loc Cert.MemKvIdeal.nD Cert.MemKvIdeal.τ Cert.MemKvIdeal.sig) → Buf (Elt Ideal) ℓ) : Prop :=
  ∀ c : Dev Cert.MemKvIdeal.nD,
    (Cert.Pre_finite_memkv.fn (F := Ideal) (m ((c.tc : Thread Cert.MemKvIdeal.nD Cert.MemKvIdeal.τ).loc Cert.MemKvIdeal.main_arg0)) (m ((c.tc : Thread Cert.MemKvIdeal.nD Cert.MemKvIdeal.τ).loc Cert.MemKvIdeal.main_arg1)) (m ((c.tc : Thread Cert.MemKvIdeal.nD Cert.MemKvIdeal.τ).loc Cert.MemKvIdeal.main_arg2)) (m ((c.tc : Thread Cert.MemKvIdeal.nD Cert.MemKvIdeal.τ).loc Cert.MemKvIdeal.main_arg3))) = (fun _ => 1#1)

def Pre_MemKvRefIdeal (m : (ℓ : Loc Cert.MemKvRefIdeal.nD Cert.MemKvRefIdeal.τ Cert.MemKvRefIdeal.sig) → Buf (Elt Ideal) ℓ) : Prop :=
  True

def Pre_MemKvRefIdeal_finite_memkv [hPre_finite_memkv : Cert.Pre_finite_memkv.Facts] (m : (ℓ : Loc Cert.MemKvRefIdeal.nD Cert.MemKvRefIdeal.τ Cert.MemKvRefIdeal.sig) → Buf (Elt Ideal) ℓ) : Prop :=
  ∀ c : Dev Cert.MemKvRefIdeal.nD,
    (Cert.Pre_finite_memkv.fn (F := Ideal) (m ((c.tc : Thread Cert.MemKvRefIdeal.nD Cert.MemKvRefIdeal.τ).loc Cert.MemKvRefIdeal.main_arg0)) (m ((c.tc : Thread Cert.MemKvRefIdeal.nD Cert.MemKvRefIdeal.τ).loc Cert.MemKvRefIdeal.main_arg1)) (m ((c.tc : Thread Cert.MemKvRefIdeal.nD Cert.MemKvRefIdeal.τ).loc Cert.MemKvRefIdeal.main_arg2)) (m ((c.tc : Thread Cert.MemKvRefIdeal.nD Cert.MemKvRefIdeal.τ).loc Cert.MemKvRefIdeal.main_arg3))) = (fun _ => 1#1)

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsIdeal_finite_rms [hPre_finite_rms : Cert.Pre_finite_rms.Facts] (m : (ℓ : Loc Cert.RmsIdeal.nD Cert.RmsIdeal.τ Cert.RmsIdeal.sig) → Buf (Elt Ideal) ℓ) : Prop :=
  ∀ c : Dev Cert.RmsIdeal.nD,
    (Cert.Pre_finite_rms.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))) = (fun _ => 1#1)

def Pre_RmsRefIdeal (m : (ℓ : Loc Cert.RmsRefIdeal.nD Cert.RmsRefIdeal.τ Cert.RmsRefIdeal.sig) → Buf (Elt Ideal) ℓ) : Prop :=
  True

def Pre_RmsRefIdeal_finite_rms [hPre_finite_rms : Cert.Pre_finite_rms.Facts] (m : (ℓ : Loc Cert.RmsRefIdeal.nD Cert.RmsRefIdeal.τ Cert.RmsRefIdeal.sig) → Buf (Elt Ideal) ℓ) : Prop :=
  ∀ c : Dev Cert.RmsRefIdeal.nD,
    (Cert.Pre_finite_rms.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))) = (fun _ => 1#1)

def Pre_RmsGain (m : (ℓ : Loc Cert.RmsGain.nD Cert.RmsGain.τ Cert.RmsGain.sig) → Buf (Elt Bits) ℓ) : Prop :=
  True

def Pre_RmsGainIdeal (m : (ℓ : Loc Cert.RmsGainIdeal.nD Cert.RmsGainIdeal.τ Cert.RmsGainIdeal.sig) → Buf (Elt Ideal) ℓ) : Prop :=
  True

def Pre_RmsGainRefIdeal (m : (ℓ : Loc Cert.RmsGainRefIdeal.nD Cert.RmsGainRefIdeal.τ Cert.RmsGainRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))) = (fun _ => 1#1)

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite_flash [hPre_finite_flash : Cert.Pre_finite_flash.Facts] (m : (ℓ : Loc Cert.FlashIdeal.nD Cert.FlashIdeal.τ Cert.FlashIdeal.sig) → Buf (Elt Ideal) ℓ) : Prop :=
  ∀ c : Dev Cert.FlashIdeal.nD,
    (Cert.Pre_finite_flash.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))) = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_finite_flash [hPre_finite_flash : Cert.Pre_finite_flash.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_finite_flash.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))) = (fun _ => 1#1)

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_finite_mem [hPre_finite_mem : Cert.Pre_finite_mem.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_finite_mem.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3)) (m ((c.tc : Thread Cert.MemAttnIdeal.nD Cert.MemAttnIdeal.τ).loc Cert.MemAttnIdeal.main_arg4)) (m ((c.tc : Thread Cert.MemAttnIdeal.nD Cert.MemAttnIdeal.τ).loc Cert.MemAttnIdeal.main_arg5))) = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_finite_mem [hPre_finite_mem : Cert.Pre_finite_mem.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_finite_mem.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2)) (m ((c.tc : Thread Cert.MemAttnRefIdeal.nD Cert.MemAttnRefIdeal.τ).loc Cert.MemAttnRefIdeal.main_arg3)) (m ((c.tc : Thread Cert.MemAttnRefIdeal.nD Cert.MemAttnRefIdeal.τ).loc Cert.MemAttnRefIdeal.main_arg4)) (m ((c.tc : Thread Cert.MemAttnRefIdeal.nD Cert.MemAttnRefIdeal.τ).loc Cert.MemAttnRefIdeal.main_arg5))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_prep [hPre_finite_prep : Cert.Pre_finite_prep.Facts] (m : (ℓ : Loc Cert.PrepIdeal.nD Cert.PrepIdeal.τ Cert.PrepIdeal.sig) → Buf (Elt Ideal) ℓ) : Prop :=
  ∀ c : Dev Cert.PrepIdeal.nD,
    (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_finite_prep [hPre_finite_prep : Cert.Pre_finite_prep.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5))) = (fun _ => 1#1)

def Pre_FlashFwd (m : (ℓ : Loc Cert.FlashFwd.nD Cert.FlashFwd.τ Cert.FlashFwd.sig) → Buf (Elt Bits) ℓ) : Prop :=
  True

def Pre_FlashFwdIdeal (m : (ℓ : Loc Cert.FlashFwdIdeal.nD Cert.FlashFwdIdeal.τ Cert.FlashFwdIdeal.sig) → Buf (Elt Ideal) ℓ) : Prop :=
  True

def Pre_FlashFwdIdeal_finite_fwd [hPre_finite_fwd : Cert.Pre_finite_fwd.Facts] (m : (ℓ : Loc Cert.FlashFwdIdeal.nD Cert.FlashFwdIdeal.τ Cert.FlashFwdIdeal.sig) → Buf (Elt Ideal) ℓ) : Prop :=
  ∀ c : Dev Cert.FlashFwdIdeal.nD,
    (Cert.Pre_finite_fwd.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2))) = (fun _ => 1#1)

def Pre_FlashFwdRefIdeal (m : (ℓ : Loc Cert.FlashFwdRefIdeal.nD Cert.FlashFwdRefIdeal.τ Cert.FlashFwdRefIdeal.sig) → Buf (Elt Ideal) ℓ) : Prop :=
  True

def Pre_FlashFwdRefIdeal_finite_fwd [hPre_finite_fwd : Cert.Pre_finite_fwd.Facts] (m : (ℓ : Loc Cert.FlashFwdRefIdeal.nD Cert.FlashFwdRefIdeal.τ Cert.FlashFwdRefIdeal.sig) → Buf (Elt Ideal) ℓ) : Prop :=
  ∀ c : Dev Cert.FlashFwdRefIdeal.nD,
    (Cert.Pre_finite_fwd.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2))) = (fun _ => 1#1)

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpIdeal_finite_gmlp [hPre_finite_gmlp : Cert.Pre_finite_gmlp.Facts] (m : (ℓ : Loc Cert.GmlpIdeal.nD Cert.GmlpIdeal.τ Cert.GmlpIdeal.sig) → Buf (Elt Ideal) ℓ) : Prop :=
  ∀ c : Dev Cert.GmlpIdeal.nD,
    (Cert.Pre_finite_gmlp.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))) = (fun _ => 1#1)

def Pre_GmlpRefIdeal (m : (ℓ : Loc Cert.GmlpRefIdeal.nD Cert.GmlpRefIdeal.τ Cert.GmlpRefIdeal.sig) → Buf (Elt Ideal) ℓ) : Prop :=
  True

def Pre_GmlpRefIdeal_finite_gmlp [hPre_finite_gmlp : Cert.Pre_finite_gmlp.Facts] (m : (ℓ : Loc Cert.GmlpRefIdeal.nD Cert.GmlpRefIdeal.τ Cert.GmlpRefIdeal.sig) → Buf (Elt Ideal) ℓ) : Prop :=
  ∀ c : Dev Cert.GmlpRefIdeal.nD,
    (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4))) = (fun _ => 1#1)

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdIdeal_finite_mfwd [hPre_finite_mfwd : Cert.Pre_finite_mfwd.Facts] (m : (ℓ : Loc Cert.MemFwdIdeal.nD Cert.MemFwdIdeal.τ Cert.MemFwdIdeal.sig) → Buf (Elt Ideal) ℓ) : Prop :=
  ∀ c : Dev Cert.MemFwdIdeal.nD,
    (Cert.Pre_finite_mfwd.fn (F := Ideal) (m ((c.tc : Thread Cert.MemFwdIdeal.nD Cert.MemFwdIdeal.τ).loc Cert.MemFwdIdeal.main_arg0)) (m ((c.tc : Thread Cert.MemFwdIdeal.nD Cert.MemFwdIdeal.τ).loc Cert.MemFwdIdeal.main_arg1)) (m ((c.tc : Thread Cert.MemFwdIdeal.nD Cert.MemFwdIdeal.τ).loc Cert.MemFwdIdeal.main_arg2)) (m ((c.tc : Thread Cert.MemFwdIdeal.nD Cert.MemFwdIdeal.τ).loc Cert.MemFwdIdeal.main_arg3)) (m ((c.tc : Thread Cert.MemFwdIdeal.nD Cert.MemFwdIdeal.τ).loc Cert.MemFwdIdeal.main_arg4))) = (fun _ => 1#1)

def Pre_MemFwdRefIdeal (m : (ℓ : Loc Cert.MemFwdRefIdeal.nD Cert.MemFwdRefIdeal.τ Cert.MemFwdRefIdeal.sig) → Buf (Elt Ideal) ℓ) : Prop :=
  True

def Pre_MemFwdRefIdeal_finite_mfwd [hPre_finite_mfwd : Cert.Pre_finite_mfwd.Facts] (m : (ℓ : Loc Cert.MemFwdRefIdeal.nD Cert.MemFwdRefIdeal.τ Cert.MemFwdRefIdeal.sig) → Buf (Elt Ideal) ℓ) : Prop :=
  ∀ c : Dev Cert.MemFwdRefIdeal.nD,
    (Cert.Pre_finite_mfwd.fn (F := Ideal) (m ((c.tc : Thread Cert.MemFwdRefIdeal.nD Cert.MemFwdRefIdeal.τ).loc Cert.MemFwdRefIdeal.main_arg0)) (m ((c.tc : Thread Cert.MemFwdRefIdeal.nD Cert.MemFwdRefIdeal.τ).loc Cert.MemFwdRefIdeal.main_arg1)) (m ((c.tc : Thread Cert.MemFwdRefIdeal.nD Cert.MemFwdRefIdeal.τ).loc Cert.MemFwdRefIdeal.main_arg2)) (m ((c.tc : Thread Cert.MemFwdRefIdeal.nD Cert.MemFwdRefIdeal.τ).loc Cert.MemFwdRefIdeal.main_arg3)) (m ((c.tc : Thread Cert.MemFwdRefIdeal.nD Cert.MemFwdRefIdeal.τ).loc Cert.MemFwdRefIdeal.main_arg4))) = (fun _ => 1#1)

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdRefIdeal (m : (ℓ : Loc Cert.PrepFwdRefIdeal.nD Cert.PrepFwdRefIdeal.τ Cert.PrepFwdRefIdeal.sig) → Buf (Elt Ideal) ℓ) : Prop :=
  True

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaRefIdeal (m : (ℓ : Loc Cert.DeltaRefIdeal.nD Cert.DeltaRefIdeal.τ Cert.DeltaRefIdeal.sig) → Buf (Elt Ideal) ℓ) : Prop :=
  True

def Pre_ColsFwd (m : (ℓ : Loc Cert.ColsFwd.nD Cert.ColsFwd.τ Cert.ColsFwd.sig) → Buf (Elt Bits) ℓ) : Prop :=
  True

def Pre_ColsFwdIdeal (m : (ℓ : Loc Cert.ColsFwdIdeal.nD Cert.ColsFwdIdeal.τ Cert.ColsFwdIdeal.sig) → Buf (Elt Ideal) ℓ) : Prop :=
  True

def Pre_ColsFwdRefIdeal (m : (ℓ : Loc Cert.ColsFwdRefIdeal.nD Cert.ColsFwdRefIdeal.τ Cert.ColsFwdRefIdeal.sig) → Buf (Elt Ideal) ℓ) : Prop :=
  True

def Pre_Matmul (m : (ℓ : Loc Cert.Matmul.nD Cert.Matmul.τ Cert.Matmul.sig) → Buf (Elt Bits) ℓ) : Prop :=
  True

def Pre_MatmulIdeal (m : (ℓ : Loc Cert.MatmulIdeal.nD Cert.MatmulIdeal.τ Cert.MatmulIdeal.sig) → Buf (Elt Ideal) ℓ) : Prop :=
  True

def Pre_MatmulRefIdeal (m : (ℓ : Loc Cert.MatmulRefIdeal.nD Cert.MatmulRefIdeal.τ Cert.MatmulRefIdeal.sig) → Buf (Elt Ideal) ℓ) : Prop :=
  True

def Pre_ColsDgrad (m : (ℓ : Loc Cert.ColsDgrad.nD Cert.ColsDgrad.τ Cert.ColsDgrad.sig) → Buf (Elt Bits) ℓ) : Prop :=
  True

def Pre_ColsDgradIdeal (m : (ℓ : Loc Cert.ColsDgradIdeal.nD Cert.ColsDgradIdeal.τ Cert.ColsDgradIdeal.sig) → Buf (Elt Ideal) ℓ) : Prop :=
  True

def Pre_ColsDgradRefIdeal (m : (ℓ : Loc Cert.ColsDgradRefIdeal.nD Cert.ColsDgradRefIdeal.τ Cert.ColsDgradRefIdeal.sig) → Buf (Elt Ideal) ℓ) : Prop :=
  True

def Pre_ColsWgrad (m : (ℓ : Loc Cert.ColsWgrad.nD Cert.ColsWgrad.τ Cert.ColsWgrad.sig) → Buf (Elt Bits) ℓ) : Prop :=
  True

def Pre_ColsWgradIdeal (m : (ℓ : Loc Cert.ColsWgradIdeal.nD Cert.ColsWgradIdeal.τ Cert.ColsWgradIdeal.sig) → Buf (Elt Ideal) ℓ) : Prop :=
  True

def Pre_ColsWgradRefIdeal (m : (ℓ : Loc Cert.ColsWgradRefIdeal.nD Cert.ColsWgradRefIdeal.τ Cert.ColsWgradRefIdeal.sig) → Buf (Elt Ideal) ℓ) : Prop :=
  True

def Pre_Shard (m : (ℓ : Loc Cert.Shard.nD Cert.Shard.τ Cert.Shard.sig) → Buf (Elt Bits) ℓ) : Prop :=
  True

def Pre_ShardIdeal (m : (ℓ : Loc Cert.ShardIdeal.nD Cert.ShardIdeal.τ Cert.ShardIdeal.sig) → Buf (Elt Ideal) ℓ) : Prop :=
  True

def Pre_ShardRefIdeal (m : (ℓ : Loc Cert.ShardRefIdeal.nD Cert.ShardRefIdeal.τ Cert.ShardRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_PairSum (m : (ℓ : Loc Cert.PairSum.nD Cert.PairSum.τ Cert.PairSum.sig) → Buf (Elt Bits) ℓ) : Prop :=
  True

def Pre_PairSumIdeal (m : (ℓ : Loc Cert.PairSumIdeal.nD Cert.PairSumIdeal.τ Cert.PairSumIdeal.sig) → Buf (Elt Ideal) ℓ) : Prop :=
  True

def Pre_PairSumRefIdeal (m : (ℓ : Loc Cert.PairSumRefIdeal.nD Cert.PairSumRefIdeal.τ Cert.PairSumRefIdeal.sig) → Buf (Elt Ideal) ℓ) : Prop :=
  True

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvIdeal_pre_finite_memkv [hMemKvIdeal : Cert.MemKvIdeal.Facts] [hPre_finite_memkv : Cert.Pre_finite_memkv.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal_finite_memkv m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_MemKvRefIdeal_pre_finite_memkv [hMemKvRefIdeal : Cert.MemKvRefIdeal.Facts] [hPre_finite_memkv : Cert.Pre_finite_memkv.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal_finite_memkv m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsIdeal_pre_finite_rms [hRmsIdeal : Cert.RmsIdeal.Facts] [hPre_finite_rms : Cert.Pre_finite_rms.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal_finite_rms m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_RmsRefIdeal_pre_finite_rms [hRmsRefIdeal : Cert.RmsRefIdeal.Facts] [hPre_finite_rms : Cert.Pre_finite_rms.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal_finite_rms m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_RmsGain [hRmsGain : Cert.RmsGain.Facts] : Prop :=
  ∀ (m : (ℓ : Loc Cert.RmsGain.nD Cert.RmsGain.τ Cert.RmsGain.sig) → Buf (Elt Bits) ℓ) (g : Dev Cert.RmsGain.nD → PrngReg), Pre_RmsGain m →
    θ_run (Cert.RmsGain.defs (F := Bits)) (onTc (τ := Cert.RmsGain.τ) (Cert.RmsGain.main (F := Bits))) ⟨m, fun _ => 0, g⟩ (fun r => (∀ c : Dev Cert.RmsGain.nD,
      r.2.mem ((c.tc : Thread Cert.RmsGain.nD Cert.RmsGain.τ).loc Cert.RmsGain.main_arg0) = m ((c.tc : Thread Cert.RmsGain.nD Cert.RmsGain.τ).loc Cert.RmsGain.main_arg0)
      ∧ r.2.mem ((c.tc : Thread Cert.RmsGain.nD Cert.RmsGain.τ).loc Cert.RmsGain.main_arg1) = m ((c.tc : Thread Cert.RmsGain.nD Cert.RmsGain.τ).loc Cert.RmsGain.main_arg1)
      ∧ r.2.mem ((c.tc : Thread Cert.RmsGain.nD Cert.RmsGain.τ).loc Cert.RmsGain.main_arg2) = m ((c.tc : Thread Cert.RmsGain.nD Cert.RmsGain.τ).loc Cert.RmsGain.main_arg2))
      ∧ r.2.sem = fun _ => 0)

def quiescent_RmsGainIdeal [hRmsGainIdeal : Cert.RmsGainIdeal.Facts] : Prop :=
  ∀ (m : (ℓ : Loc Cert.RmsGainIdeal.nD Cert.RmsGainIdeal.τ Cert.RmsGainIdeal.sig) → Buf (Elt Ideal) ℓ) (g : Dev Cert.RmsGainIdeal.nD → PrngReg), Pre_RmsGainIdeal m →
    θ_run (Cert.RmsGainIdeal.defs (F := Ideal)) (onTc (τ := Cert.RmsGainIdeal.τ) (Cert.RmsGainIdeal.main (F := Ideal))) ⟨m, fun _ => 0, g⟩ (fun r => (∀ c : Dev Cert.RmsGainIdeal.nD,
      r.2.mem ((c.tc : Thread Cert.RmsGainIdeal.nD Cert.RmsGainIdeal.τ).loc Cert.RmsGainIdeal.main_arg0) = m ((c.tc : Thread Cert.RmsGainIdeal.nD Cert.RmsGainIdeal.τ).loc Cert.RmsGainIdeal.main_arg0)
      ∧ r.2.mem ((c.tc : Thread Cert.RmsGainIdeal.nD Cert.RmsGainIdeal.τ).loc Cert.RmsGainIdeal.main_arg1) = m ((c.tc : Thread Cert.RmsGainIdeal.nD Cert.RmsGainIdeal.τ).loc Cert.RmsGainIdeal.main_arg1)
      ∧ r.2.mem ((c.tc : Thread Cert.RmsGainIdeal.nD Cert.RmsGainIdeal.τ).loc Cert.RmsGainIdeal.main_arg2) = m ((c.tc : Thread Cert.RmsGainIdeal.nD Cert.RmsGainIdeal.τ).loc Cert.RmsGainIdeal.main_arg2))
      ∧ r.2.sem = fun _ => 0)

def quiescent_RmsGainRefIdeal [hRmsGainRefIdeal : Cert.RmsGainRefIdeal.Facts] : Prop :=
  ∀ (m : (ℓ : Loc Cert.RmsGainRefIdeal.nD Cert.RmsGainRefIdeal.τ Cert.RmsGainRefIdeal.sig) → Buf (Elt Ideal) ℓ) (g : Dev Cert.RmsGainRefIdeal.nD → PrngReg), Pre_RmsGainRefIdeal m →
    θ_run (Cert.RmsGainRefIdeal.defs (F := Ideal)) (onTc (τ := Cert.RmsGainRefIdeal.τ) (Cert.RmsGainRefIdeal.main (F := Ideal))) ⟨m, fun _ => 0, g⟩ (fun r => (∀ c : Dev Cert.RmsGainRefIdeal.nD,
      r.2.mem ((c.tc : Thread Cert.RmsGainRefIdeal.nD Cert.RmsGainRefIdeal.τ).loc Cert.RmsGainRefIdeal.main_arg0) = m ((c.tc : Thread Cert.RmsGainRefIdeal.nD Cert.RmsGainRefIdeal.τ).loc Cert.RmsGainRefIdeal.main_arg0)
      ∧ r.2.mem ((c.tc : Thread Cert.RmsGainRefIdeal.nD Cert.RmsGainRefIdeal.τ).loc Cert.RmsGainRefIdeal.main_arg1) = m ((c.tc : Thread Cert.RmsGainRefIdeal.nD Cert.RmsGainRefIdeal.τ).loc Cert.RmsGainRefIdeal.main_arg1)
      ∧ r.2.mem ((c.tc : Thread Cert.RmsGainRefIdeal.nD Cert.RmsGainRefIdeal.τ).loc Cert.RmsGainRefIdeal.main_arg2) = m ((c.tc : Thread Cert.RmsGainRefIdeal.nD Cert.RmsGainRefIdeal.τ).loc Cert.RmsGainRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashIdeal_pre_finite_flash [hFlashIdeal : Cert.FlashIdeal.Facts] [hPre_finite_flash : Cert.Pre_finite_flash.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite_flash m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_FlashRefIdeal_pre_finite_flash [hFlashRefIdeal : Cert.FlashRefIdeal.Facts] [hPre_finite_flash : Cert.Pre_finite_flash.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_finite_flash m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2)
      ∧ r.2.mem ((c.tc : Thread Cert.MemAttn.nD Cert.MemAttn.τ).loc Cert.MemAttn.main_arg3) = m ((c.tc : Thread Cert.MemAttn.nD Cert.MemAttn.τ).loc Cert.MemAttn.main_arg3)
      ∧ r.2.mem ((c.tc : Thread Cert.MemAttn.nD Cert.MemAttn.τ).loc Cert.MemAttn.main_arg4) = m ((c.tc : Thread Cert.MemAttn.nD Cert.MemAttn.τ).loc Cert.MemAttn.main_arg4)
      ∧ r.2.mem ((c.tc : Thread Cert.MemAttn.nD Cert.MemAttn.τ).loc Cert.MemAttn.main_arg5) = m ((c.tc : Thread Cert.MemAttn.nD Cert.MemAttn.τ).loc Cert.MemAttn.main_arg5))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
      ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
      ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5))
      ∧ r.2.sem = fun _ => 0)

def quiescent_MemAttnIdeal_pre_finite_mem [hMemAttnIdeal : Cert.MemAttnIdeal.Facts] [hPre_finite_mem : Cert.Pre_finite_mem.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_finite_mem m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
      ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
      ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3)
      ∧ r.2.mem ((c.tc : Thread Cert.MemAttnRefIdeal.nD Cert.MemAttnRefIdeal.τ).loc Cert.MemAttnRefIdeal.main_arg4) = m ((c.tc : Thread Cert.MemAttnRefIdeal.nD Cert.MemAttnRefIdeal.τ).loc Cert.MemAttnRefIdeal.main_arg4)
      ∧ r.2.mem ((c.tc : Thread Cert.MemAttnRefIdeal.nD Cert.MemAttnRefIdeal.τ).loc Cert.MemAttnRefIdeal.main_arg5) = m ((c.tc : Thread Cert.MemAttnRefIdeal.nD Cert.MemAttnRefIdeal.τ).loc Cert.MemAttnRefIdeal.main_arg5))
      ∧ r.2.sem = fun _ => 0)

def quiescent_MemAttnRefIdeal_pre_finite_mem [hMemAttnRefIdeal : Cert.MemAttnRefIdeal.Facts] [hPre_finite_mem : Cert.Pre_finite_mem.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_finite_mem m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3)
      ∧ r.2.mem ((c.tc : Thread Cert.MemAttnRefIdeal.nD Cert.MemAttnRefIdeal.τ).loc Cert.MemAttnRefIdeal.main_arg4) = m ((c.tc : Thread Cert.MemAttnRefIdeal.nD Cert.MemAttnRefIdeal.τ).loc Cert.MemAttnRefIdeal.main_arg4)
      ∧ r.2.mem ((c.tc : Thread Cert.MemAttnRefIdeal.nD Cert.MemAttnRefIdeal.τ).loc Cert.MemAttnRefIdeal.main_arg5) = m ((c.tc : Thread Cert.MemAttnRefIdeal.nD Cert.MemAttnRefIdeal.τ).loc Cert.MemAttnRefIdeal.main_arg5))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepIdeal_pre_finite_prep [hPrepIdeal : Cert.PrepIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_prep m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5))
      ∧ r.2.sem = fun _ => 0)

def quiescent_PrepRefIdeal_pre_finite_prep [hPrepRefIdeal : Cert.PrepRefIdeal.Facts] [hPre_finite_prep : Cert.Pre_finite_prep.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_finite_prep m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5))
      ∧ r.2.sem = fun _ => 0)

def quiescent_FlashFwd [hFlashFwd : Cert.FlashFwd.Facts] : Prop :=
  ∀ (m : (ℓ : Loc Cert.FlashFwd.nD Cert.FlashFwd.τ Cert.FlashFwd.sig) → Buf (Elt Bits) ℓ) (g : Dev Cert.FlashFwd.nD → PrngReg), Pre_FlashFwd m →
    θ_run (Cert.FlashFwd.defs (F := Bits)) (onTc (τ := Cert.FlashFwd.τ) (Cert.FlashFwd.main (F := Bits))) ⟨m, fun _ => 0, g⟩ (fun r => (∀ c : Dev Cert.FlashFwd.nD,
      r.2.mem ((c.tc : Thread Cert.FlashFwd.nD Cert.FlashFwd.τ).loc Cert.FlashFwd.main_arg0) = m ((c.tc : Thread Cert.FlashFwd.nD Cert.FlashFwd.τ).loc Cert.FlashFwd.main_arg0)
      ∧ r.2.mem ((c.tc : Thread Cert.FlashFwd.nD Cert.FlashFwd.τ).loc Cert.FlashFwd.main_arg1) = m ((c.tc : Thread Cert.FlashFwd.nD Cert.FlashFwd.τ).loc Cert.FlashFwd.main_arg1)
      ∧ r.2.mem ((c.tc : Thread Cert.FlashFwd.nD Cert.FlashFwd.τ).loc Cert.FlashFwd.main_arg2) = m ((c.tc : Thread Cert.FlashFwd.nD Cert.FlashFwd.τ).loc Cert.FlashFwd.main_arg2))
      ∧ r.2.sem = fun _ => 0)

def quiescent_FlashFwdIdeal [hFlashFwdIdeal : Cert.FlashFwdIdeal.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ r.2.sem = fun _ => 0)

def quiescent_FlashFwdIdeal_pre_finite_fwd [hFlashFwdIdeal : Cert.FlashFwdIdeal.Facts] [hPre_finite_fwd : Cert.Pre_finite_fwd.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal_finite_fwd m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ r.2.sem = fun _ => 0)

def quiescent_FlashFwdRefIdeal [hFlashFwdRefIdeal : Cert.FlashFwdRefIdeal.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2))
      ∧ r.2.sem = fun _ => 0)

def quiescent_FlashFwdRefIdeal_pre_finite_fwd [hFlashFwdRefIdeal : Cert.FlashFwdRefIdeal.Facts] [hPre_finite_fwd : Cert.Pre_finite_fwd.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal_finite_fwd m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpIdeal_pre_finite_gmlp [hGmlpIdeal : Cert.GmlpIdeal.Facts] [hPre_finite_gmlp : Cert.Pre_finite_gmlp.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal_finite_gmlp m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_GmlpRefIdeal_pre_finite_gmlp [hGmlpRefIdeal : Cert.GmlpRefIdeal.Facts] [hPre_finite_gmlp : Cert.Pre_finite_gmlp.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal_finite_gmlp m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1)
      ∧ r.2.mem ((c.tc : Thread Cert.MemFwd.nD Cert.MemFwd.τ).loc Cert.MemFwd.main_arg2) = m ((c.tc : Thread Cert.MemFwd.nD Cert.MemFwd.τ).loc Cert.MemFwd.main_arg2)
      ∧ r.2.mem ((c.tc : Thread Cert.MemFwd.nD Cert.MemFwd.τ).loc Cert.MemFwd.main_arg3) = m ((c.tc : Thread Cert.MemFwd.nD Cert.MemFwd.τ).loc Cert.MemFwd.main_arg3)
      ∧ r.2.mem ((c.tc : Thread Cert.MemFwd.nD Cert.MemFwd.τ).loc Cert.MemFwd.main_arg4) = m ((c.tc : Thread Cert.MemFwd.nD Cert.MemFwd.τ).loc Cert.MemFwd.main_arg4))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
      ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2)
      ∧ r.2.mem ((c.tc : Thread Cert.MemFwdIdeal.nD Cert.MemFwdIdeal.τ).loc Cert.MemFwdIdeal.main_arg3) = m ((c.tc : Thread Cert.MemFwdIdeal.nD Cert.MemFwdIdeal.τ).loc Cert.MemFwdIdeal.main_arg3)
      ∧ r.2.mem ((c.tc : Thread Cert.MemFwdIdeal.nD Cert.MemFwdIdeal.τ).loc Cert.MemFwdIdeal.main_arg4) = m ((c.tc : Thread Cert.MemFwdIdeal.nD Cert.MemFwdIdeal.τ).loc Cert.MemFwdIdeal.main_arg4))
      ∧ r.2.sem = fun _ => 0)

def quiescent_MemFwdIdeal_pre_finite_mfwd [hMemFwdIdeal : Cert.MemFwdIdeal.Facts] [hPre_finite_mfwd : Cert.Pre_finite_mfwd.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal_finite_mfwd m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
      ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2)
      ∧ r.2.mem ((c.tc : Thread Cert.MemFwdIdeal.nD Cert.MemFwdIdeal.τ).loc Cert.MemFwdIdeal.main_arg3) = m ((c.tc : Thread Cert.MemFwdIdeal.nD Cert.MemFwdIdeal.τ).loc Cert.MemFwdIdeal.main_arg3)
      ∧ r.2.mem ((c.tc : Thread Cert.MemFwdIdeal.nD Cert.MemFwdIdeal.τ).loc Cert.MemFwdIdeal.main_arg4) = m ((c.tc : Thread Cert.MemFwdIdeal.nD Cert.MemFwdIdeal.τ).loc Cert.MemFwdIdeal.main_arg4))
      ∧ r.2.sem = fun _ => 0)

def quiescent_MemFwdRefIdeal [hMemFwdRefIdeal : Cert.MemFwdRefIdeal.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1)
      ∧ r.2.mem ((c.tc : Thread Cert.MemFwdRefIdeal.nD Cert.MemFwdRefIdeal.τ).loc Cert.MemFwdRefIdeal.main_arg2) = m ((c.tc : Thread Cert.MemFwdRefIdeal.nD Cert.MemFwdRefIdeal.τ).loc Cert.MemFwdRefIdeal.main_arg2)
      ∧ r.2.mem ((c.tc : Thread Cert.MemFwdRefIdeal.nD Cert.MemFwdRefIdeal.τ).loc Cert.MemFwdRefIdeal.main_arg3) = m ((c.tc : Thread Cert.MemFwdRefIdeal.nD Cert.MemFwdRefIdeal.τ).loc Cert.MemFwdRefIdeal.main_arg3)
      ∧ r.2.mem ((c.tc : Thread Cert.MemFwdRefIdeal.nD Cert.MemFwdRefIdeal.τ).loc Cert.MemFwdRefIdeal.main_arg4) = m ((c.tc : Thread Cert.MemFwdRefIdeal.nD Cert.MemFwdRefIdeal.τ).loc Cert.MemFwdRefIdeal.main_arg4))
      ∧ r.2.sem = fun _ => 0)

def quiescent_MemFwdRefIdeal_pre_finite_mfwd [hMemFwdRefIdeal : Cert.MemFwdRefIdeal.Facts] [hPre_finite_mfwd : Cert.Pre_finite_mfwd.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal_finite_mfwd m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1)
      ∧ r.2.mem ((c.tc : Thread Cert.MemFwdRefIdeal.nD Cert.MemFwdRefIdeal.τ).loc Cert.MemFwdRefIdeal.main_arg2) = m ((c.tc : Thread Cert.MemFwdRefIdeal.nD Cert.MemFwdRefIdeal.τ).loc Cert.MemFwdRefIdeal.main_arg2)
      ∧ r.2.mem ((c.tc : Thread Cert.MemFwdRefIdeal.nD Cert.MemFwdRefIdeal.τ).loc Cert.MemFwdRefIdeal.main_arg3) = m ((c.tc : Thread Cert.MemFwdRefIdeal.nD Cert.MemFwdRefIdeal.τ).loc Cert.MemFwdRefIdeal.main_arg3)
      ∧ r.2.mem ((c.tc : Thread Cert.MemFwdRefIdeal.nD Cert.MemFwdRefIdeal.τ).loc Cert.MemFwdRefIdeal.main_arg4) = m ((c.tc : Thread Cert.MemFwdRefIdeal.nD Cert.MemFwdRefIdeal.τ).loc Cert.MemFwdRefIdeal.main_arg4))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1)
      ∧ r.2.mem ((c.tc : Thread Cert.PrepFwd.nD Cert.PrepFwd.τ).loc Cert.PrepFwd.main_arg2) = m ((c.tc : Thread Cert.PrepFwd.nD Cert.PrepFwd.τ).loc Cert.PrepFwd.main_arg2))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
      ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2))
      ∧ r.2.sem = fun _ => 0)

def quiescent_PrepFwdRefIdeal [hPrepFwdRefIdeal : Cert.PrepFwdRefIdeal.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1)
      ∧ r.2.mem ((c.tc : Thread Cert.PrepFwdRefIdeal.nD Cert.PrepFwdRefIdeal.τ).loc Cert.PrepFwdRefIdeal.main_arg2) = m ((c.tc : Thread Cert.PrepFwdRefIdeal.nD Cert.PrepFwdRefIdeal.τ).loc Cert.PrepFwdRefIdeal.main_arg2))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1)
      ∧ r.2.mem ((c.tc : Thread Cert.Delta.nD Cert.Delta.τ).loc Cert.Delta.main_arg2) = m ((c.tc : Thread Cert.Delta.nD Cert.Delta.τ).loc Cert.Delta.main_arg2)
      ∧ r.2.mem ((c.tc : Thread Cert.Delta.nD Cert.Delta.τ).loc Cert.Delta.main_arg3) = m ((c.tc : Thread Cert.Delta.nD Cert.Delta.τ).loc Cert.Delta.main_arg3))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3))
      ∧ r.2.sem = fun _ => 0)

def quiescent_DeltaRefIdeal [hDeltaRefIdeal : Cert.DeltaRefIdeal.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2)
      ∧ r.2.mem ((c.tc : Thread Cert.DeltaRefIdeal.nD Cert.DeltaRefIdeal.τ).loc Cert.DeltaRefIdeal.main_arg3) = m ((c.tc : Thread Cert.DeltaRefIdeal.nD Cert.DeltaRefIdeal.τ).loc Cert.DeltaRefIdeal.main_arg3))
      ∧ r.2.sem = fun _ => 0)

def quiescent_ColsFwd [hColsFwd : Cert.ColsFwd.Facts] : Prop :=
  ∀ (m : (ℓ : Loc Cert.ColsFwd.nD Cert.ColsFwd.τ Cert.ColsFwd.sig) → Buf (Elt Bits) ℓ) (g : Dev Cert.ColsFwd.nD → PrngReg), Pre_ColsFwd m →
    θ_run (Cert.ColsFwd.defs (F := Bits)) (onTc (τ := Cert.ColsFwd.τ) (Cert.ColsFwd.main (F := Bits))) ⟨m, fun _ => 0, g⟩ (fun r => (∀ c : Dev Cert.ColsFwd.nD,
      r.2.mem ((c.tc : Thread Cert.ColsFwd.nD Cert.ColsFwd.τ).loc Cert.ColsFwd.main_arg0) = m ((c.tc : Thread Cert.ColsFwd.nD Cert.ColsFwd.τ).loc Cert.ColsFwd.main_arg0)
      ∧ r.2.mem ((c.tc : Thread Cert.ColsFwd.nD Cert.ColsFwd.τ).loc Cert.ColsFwd.main_arg1) = m ((c.tc : Thread Cert.ColsFwd.nD Cert.ColsFwd.τ).loc Cert.ColsFwd.main_arg1))
      ∧ r.2.sem = fun _ => 0)

def quiescent_ColsFwdIdeal [hColsFwdIdeal : Cert.ColsFwdIdeal.Facts] : Prop :=
  ∀ (m : (ℓ : Loc Cert.ColsFwdIdeal.nD Cert.ColsFwdIdeal.τ Cert.ColsFwdIdeal.sig) → Buf (Elt Ideal) ℓ) (g : Dev Cert.ColsFwdIdeal.nD → PrngReg), Pre_ColsFwdIdeal m →
    θ_run (Cert.ColsFwdIdeal.defs (F := Ideal)) (onTc (τ := Cert.ColsFwdIdeal.τ) (Cert.ColsFwdIdeal.main (F := Ideal))) ⟨m, fun _ => 0, g⟩ (fun r => (∀ c : Dev Cert.ColsFwdIdeal.nD,
      r.2.mem ((c.tc : Thread Cert.ColsFwdIdeal.nD Cert.ColsFwdIdeal.τ).loc Cert.ColsFwdIdeal.main_arg0) = m ((c.tc : Thread Cert.ColsFwdIdeal.nD Cert.ColsFwdIdeal.τ).loc Cert.ColsFwdIdeal.main_arg0)
      ∧ r.2.mem ((c.tc : Thread Cert.ColsFwdIdeal.nD Cert.ColsFwdIdeal.τ).loc Cert.ColsFwdIdeal.main_arg1) = m ((c.tc : Thread Cert.ColsFwdIdeal.nD Cert.ColsFwdIdeal.τ).loc Cert.ColsFwdIdeal.main_arg1))
      ∧ r.2.sem = fun _ => 0)

def quiescent_ColsFwdRefIdeal [hColsFwdRefIdeal : Cert.ColsFwdRefIdeal.Facts] : Prop :=
  ∀ (m : (ℓ : Loc Cert.ColsFwdRefIdeal.nD Cert.ColsFwdRefIdeal.τ Cert.ColsFwdRefIdeal.sig) → Buf (Elt Ideal) ℓ) (g : Dev Cert.ColsFwdRefIdeal.nD → PrngReg), Pre_ColsFwdRefIdeal m →
    θ_run (Cert.ColsFwdRefIdeal.defs (F := Ideal)) (onTc (τ := Cert.ColsFwdRefIdeal.τ) (Cert.ColsFwdRefIdeal.main (F := Ideal))) ⟨m, fun _ => 0, g⟩ (fun r => (∀ c : Dev Cert.ColsFwdRefIdeal.nD,
      r.2.mem ((c.tc : Thread Cert.ColsFwdRefIdeal.nD Cert.ColsFwdRefIdeal.τ).loc Cert.ColsFwdRefIdeal.main_arg0) = m ((c.tc : Thread Cert.ColsFwdRefIdeal.nD Cert.ColsFwdRefIdeal.τ).loc Cert.ColsFwdRefIdeal.main_arg0)
      ∧ r.2.mem ((c.tc : Thread Cert.ColsFwdRefIdeal.nD Cert.ColsFwdRefIdeal.τ).loc Cert.ColsFwdRefIdeal.main_arg1) = m ((c.tc : Thread Cert.ColsFwdRefIdeal.nD Cert.ColsFwdRefIdeal.τ).loc Cert.ColsFwdRefIdeal.main_arg1))
      ∧ r.2.sem = fun _ => 0)

def quiescent_Matmul [hMatmul : Cert.Matmul.Facts] : Prop :=
  ∀ (m : (ℓ : Loc Cert.Matmul.nD Cert.Matmul.τ Cert.Matmul.sig) → Buf (Elt Bits) ℓ) (g : Dev Cert.Matmul.nD → PrngReg), Pre_Matmul m →
    θ_run (Cert.Matmul.defs (F := Bits)) (onTc (τ := Cert.Matmul.τ) (Cert.Matmul.main (F := Bits))) ⟨m, fun _ => 0, g⟩ (fun r => (∀ c : Dev Cert.Matmul.nD,
      r.2.mem ((c.tc : Thread Cert.Matmul.nD Cert.Matmul.τ).loc Cert.Matmul.main_arg0) = m ((c.tc : Thread Cert.Matmul.nD Cert.Matmul.τ).loc Cert.Matmul.main_arg0)
      ∧ r.2.mem ((c.tc : Thread Cert.Matmul.nD Cert.Matmul.τ).loc Cert.Matmul.main_arg1) = m ((c.tc : Thread Cert.Matmul.nD Cert.Matmul.τ).loc Cert.Matmul.main_arg1))
      ∧ r.2.sem = fun _ => 0)

def quiescent_MatmulIdeal [hMatmulIdeal : Cert.MatmulIdeal.Facts] : Prop :=
  ∀ (m : (ℓ : Loc Cert.MatmulIdeal.nD Cert.MatmulIdeal.τ Cert.MatmulIdeal.sig) → Buf (Elt Ideal) ℓ) (g : Dev Cert.MatmulIdeal.nD → PrngReg), Pre_MatmulIdeal m →
    θ_run (Cert.MatmulIdeal.defs (F := Ideal)) (onTc (τ := Cert.MatmulIdeal.τ) (Cert.MatmulIdeal.main (F := Ideal))) ⟨m, fun _ => 0, g⟩ (fun r => (∀ c : Dev Cert.MatmulIdeal.nD,
      r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
      ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1))
      ∧ r.2.sem = fun _ => 0)

def quiescent_MatmulRefIdeal [hMatmulRefIdeal : Cert.MatmulRefIdeal.Facts] : Prop :=
  ∀ (m : (ℓ : Loc Cert.MatmulRefIdeal.nD Cert.MatmulRefIdeal.τ Cert.MatmulRefIdeal.sig) → Buf (Elt Ideal) ℓ) (g : Dev Cert.MatmulRefIdeal.nD → PrngReg), Pre_MatmulRefIdeal m →
    θ_run (Cert.MatmulRefIdeal.defs (F := Ideal)) (onTc (τ := Cert.MatmulRefIdeal.τ) (Cert.MatmulRefIdeal.main (F := Ideal))) ⟨m, fun _ => 0, g⟩ (fun r => (∀ c : Dev Cert.MatmulRefIdeal.nD,
      r.2.mem ((c.tc : Thread Cert.MatmulRefIdeal.nD Cert.MatmulRefIdeal.τ).loc Cert.MatmulRefIdeal.main_arg0) = m ((c.tc : Thread Cert.MatmulRefIdeal.nD Cert.MatmulRefIdeal.τ).loc Cert.MatmulRefIdeal.main_arg0)
      ∧ r.2.mem ((c.tc : Thread Cert.MatmulRefIdeal.nD Cert.MatmulRefIdeal.τ).loc Cert.MatmulRefIdeal.main_arg1) = m ((c.tc : Thread Cert.MatmulRefIdeal.nD Cert.MatmulRefIdeal.τ).loc Cert.MatmulRefIdeal.main_arg1))
      ∧ r.2.sem = fun _ => 0)

def quiescent_ColsDgrad [hColsDgrad : Cert.ColsDgrad.Facts] : Prop :=
  ∀ (m : (ℓ : Loc Cert.ColsDgrad.nD Cert.ColsDgrad.τ Cert.ColsDgrad.sig) → Buf (Elt Bits) ℓ) (g : Dev Cert.ColsDgrad.nD → PrngReg), Pre_ColsDgrad m →
    θ_run (Cert.ColsDgrad.defs (F := Bits)) (onTc (τ := Cert.ColsDgrad.τ) (Cert.ColsDgrad.main (F := Bits))) ⟨m, fun _ => 0, g⟩ (fun r => (∀ c : Dev Cert.ColsDgrad.nD,
      r.2.mem ((c.tc : Thread Cert.ColsDgrad.nD Cert.ColsDgrad.τ).loc Cert.ColsDgrad.main_arg0) = m ((c.tc : Thread Cert.ColsDgrad.nD Cert.ColsDgrad.τ).loc Cert.ColsDgrad.main_arg0)
      ∧ r.2.mem ((c.tc : Thread Cert.ColsDgrad.nD Cert.ColsDgrad.τ).loc Cert.ColsDgrad.main_arg1) = m ((c.tc : Thread Cert.ColsDgrad.nD Cert.ColsDgrad.τ).loc Cert.ColsDgrad.main_arg1)
      ∧ r.2.mem ((c.tc : Thread Cert.ColsDgrad.nD Cert.ColsDgrad.τ).loc Cert.ColsDgrad.main_arg2) = m ((c.tc : Thread Cert.ColsDgrad.nD Cert.ColsDgrad.τ).loc Cert.ColsDgrad.main_arg2))
      ∧ r.2.sem = fun _ => 0)

def quiescent_ColsDgradIdeal [hColsDgradIdeal : Cert.ColsDgradIdeal.Facts] : Prop :=
  ∀ (m : (ℓ : Loc Cert.ColsDgradIdeal.nD Cert.ColsDgradIdeal.τ Cert.ColsDgradIdeal.sig) → Buf (Elt Ideal) ℓ) (g : Dev Cert.ColsDgradIdeal.nD → PrngReg), Pre_ColsDgradIdeal m →
    θ_run (Cert.ColsDgradIdeal.defs (F := Ideal)) (onTc (τ := Cert.ColsDgradIdeal.τ) (Cert.ColsDgradIdeal.main (F := Ideal))) ⟨m, fun _ => 0, g⟩ (fun r => (∀ c : Dev Cert.ColsDgradIdeal.nD,
      r.2.mem ((c.tc : Thread Cert.ColsDgradIdeal.nD Cert.ColsDgradIdeal.τ).loc Cert.ColsDgradIdeal.main_arg0) = m ((c.tc : Thread Cert.ColsDgradIdeal.nD Cert.ColsDgradIdeal.τ).loc Cert.ColsDgradIdeal.main_arg0)
      ∧ r.2.mem ((c.tc : Thread Cert.ColsDgradIdeal.nD Cert.ColsDgradIdeal.τ).loc Cert.ColsDgradIdeal.main_arg1) = m ((c.tc : Thread Cert.ColsDgradIdeal.nD Cert.ColsDgradIdeal.τ).loc Cert.ColsDgradIdeal.main_arg1)
      ∧ r.2.mem ((c.tc : Thread Cert.ColsDgradIdeal.nD Cert.ColsDgradIdeal.τ).loc Cert.ColsDgradIdeal.main_arg2) = m ((c.tc : Thread Cert.ColsDgradIdeal.nD Cert.ColsDgradIdeal.τ).loc Cert.ColsDgradIdeal.main_arg2))
      ∧ r.2.sem = fun _ => 0)

def quiescent_ColsDgradRefIdeal [hColsDgradRefIdeal : Cert.ColsDgradRefIdeal.Facts] : Prop :=
  ∀ (m : (ℓ : Loc Cert.ColsDgradRefIdeal.nD Cert.ColsDgradRefIdeal.τ Cert.ColsDgradRefIdeal.sig) → Buf (Elt Ideal) ℓ) (g : Dev Cert.ColsDgradRefIdeal.nD → PrngReg), Pre_ColsDgradRefIdeal m →
    θ_run (Cert.ColsDgradRefIdeal.defs (F := Ideal)) (onTc (τ := Cert.ColsDgradRefIdeal.τ) (Cert.ColsDgradRefIdeal.main (F := Ideal))) ⟨m, fun _ => 0, g⟩ (fun r => (∀ c : Dev Cert.ColsDgradRefIdeal.nD,
      r.2.mem ((c.tc : Thread Cert.ColsDgradRefIdeal.nD Cert.ColsDgradRefIdeal.τ).loc Cert.ColsDgradRefIdeal.main_arg0) = m ((c.tc : Thread Cert.ColsDgradRefIdeal.nD Cert.ColsDgradRefIdeal.τ).loc Cert.ColsDgradRefIdeal.main_arg0)
      ∧ r.2.mem ((c.tc : Thread Cert.ColsDgradRefIdeal.nD Cert.ColsDgradRefIdeal.τ).loc Cert.ColsDgradRefIdeal.main_arg1) = m ((c.tc : Thread Cert.ColsDgradRefIdeal.nD Cert.ColsDgradRefIdeal.τ).loc Cert.ColsDgradRefIdeal.main_arg1)
      ∧ r.2.mem ((c.tc : Thread Cert.ColsDgradRefIdeal.nD Cert.ColsDgradRefIdeal.τ).loc Cert.ColsDgradRefIdeal.main_arg2) = m ((c.tc : Thread Cert.ColsDgradRefIdeal.nD Cert.ColsDgradRefIdeal.τ).loc Cert.ColsDgradRefIdeal.main_arg2))
      ∧ r.2.sem = fun _ => 0)

def quiescent_ColsWgrad [hColsWgrad : Cert.ColsWgrad.Facts] : Prop :=
  ∀ (m : (ℓ : Loc Cert.ColsWgrad.nD Cert.ColsWgrad.τ Cert.ColsWgrad.sig) → Buf (Elt Bits) ℓ) (g : Dev Cert.ColsWgrad.nD → PrngReg), Pre_ColsWgrad m →
    θ_run (Cert.ColsWgrad.defs (F := Bits)) (onTc (τ := Cert.ColsWgrad.τ) (Cert.ColsWgrad.main (F := Bits))) ⟨m, fun _ => 0, g⟩ (fun r => (∀ c : Dev Cert.ColsWgrad.nD,
      r.2.mem ((c.tc : Thread Cert.ColsWgrad.nD Cert.ColsWgrad.τ).loc Cert.ColsWgrad.main_arg0) = m ((c.tc : Thread Cert.ColsWgrad.nD Cert.ColsWgrad.τ).loc Cert.ColsWgrad.main_arg0)
      ∧ r.2.mem ((c.tc : Thread Cert.ColsWgrad.nD Cert.ColsWgrad.τ).loc Cert.ColsWgrad.main_arg1) = m ((c.tc : Thread Cert.ColsWgrad.nD Cert.ColsWgrad.τ).loc Cert.ColsWgrad.main_arg1)
      ∧ r.2.mem ((c.tc : Thread Cert.ColsWgrad.nD Cert.ColsWgrad.τ).loc Cert.ColsWgrad.main_arg2) = m ((c.tc : Thread Cert.ColsWgrad.nD Cert.ColsWgrad.τ).loc Cert.ColsWgrad.main_arg2))
      ∧ r.2.sem = fun _ => 0)

def quiescent_ColsWgradIdeal [hColsWgradIdeal : Cert.ColsWgradIdeal.Facts] : Prop :=
  ∀ (m : (ℓ : Loc Cert.ColsWgradIdeal.nD Cert.ColsWgradIdeal.τ Cert.ColsWgradIdeal.sig) → Buf (Elt Ideal) ℓ) (g : Dev Cert.ColsWgradIdeal.nD → PrngReg), Pre_ColsWgradIdeal m →
    θ_run (Cert.ColsWgradIdeal.defs (F := Ideal)) (onTc (τ := Cert.ColsWgradIdeal.τ) (Cert.ColsWgradIdeal.main (F := Ideal))) ⟨m, fun _ => 0, g⟩ (fun r => (∀ c : Dev Cert.ColsWgradIdeal.nD,
      r.2.mem ((c.tc : Thread Cert.ColsWgradIdeal.nD Cert.ColsWgradIdeal.τ).loc Cert.ColsWgradIdeal.main_arg0) = m ((c.tc : Thread Cert.ColsWgradIdeal.nD Cert.ColsWgradIdeal.τ).loc Cert.ColsWgradIdeal.main_arg0)
      ∧ r.2.mem ((c.tc : Thread Cert.ColsWgradIdeal.nD Cert.ColsWgradIdeal.τ).loc Cert.ColsWgradIdeal.main_arg1) = m ((c.tc : Thread Cert.ColsWgradIdeal.nD Cert.ColsWgradIdeal.τ).loc Cert.ColsWgradIdeal.main_arg1)
      ∧ r.2.mem ((c.tc : Thread Cert.ColsWgradIdeal.nD Cert.ColsWgradIdeal.τ).loc Cert.ColsWgradIdeal.main_arg2) = m ((c.tc : Thread Cert.ColsWgradIdeal.nD Cert.ColsWgradIdeal.τ).loc Cert.ColsWgradIdeal.main_arg2))
      ∧ r.2.sem = fun _ => 0)

def quiescent_ColsWgradRefIdeal [hColsWgradRefIdeal : Cert.ColsWgradRefIdeal.Facts] : Prop :=
  ∀ (m : (ℓ : Loc Cert.ColsWgradRefIdeal.nD Cert.ColsWgradRefIdeal.τ Cert.ColsWgradRefIdeal.sig) → Buf (Elt Ideal) ℓ) (g : Dev Cert.ColsWgradRefIdeal.nD → PrngReg), Pre_ColsWgradRefIdeal m →
    θ_run (Cert.ColsWgradRefIdeal.defs (F := Ideal)) (onTc (τ := Cert.ColsWgradRefIdeal.τ) (Cert.ColsWgradRefIdeal.main (F := Ideal))) ⟨m, fun _ => 0, g⟩ (fun r => (∀ c : Dev Cert.ColsWgradRefIdeal.nD,
      r.2.mem ((c.tc : Thread Cert.ColsWgradRefIdeal.nD Cert.ColsWgradRefIdeal.τ).loc Cert.ColsWgradRefIdeal.main_arg0) = m ((c.tc : Thread Cert.ColsWgradRefIdeal.nD Cert.ColsWgradRefIdeal.τ).loc Cert.ColsWgradRefIdeal.main_arg0)
      ∧ r.2.mem ((c.tc : Thread Cert.ColsWgradRefIdeal.nD Cert.ColsWgradRefIdeal.τ).loc Cert.ColsWgradRefIdeal.main_arg1) = m ((c.tc : Thread Cert.ColsWgradRefIdeal.nD Cert.ColsWgradRefIdeal.τ).loc Cert.ColsWgradRefIdeal.main_arg1)
      ∧ r.2.mem ((c.tc : Thread Cert.ColsWgradRefIdeal.nD Cert.ColsWgradRefIdeal.τ).loc Cert.ColsWgradRefIdeal.main_arg2) = m ((c.tc : Thread Cert.ColsWgradRefIdeal.nD Cert.ColsWgradRefIdeal.τ).loc Cert.ColsWgradRefIdeal.main_arg2))
      ∧ r.2.sem = fun _ => 0)

def quiescent_Shard [hShard : Cert.Shard.Facts] : Prop :=
  ∀ (m : (ℓ : Loc Cert.Shard.nD Cert.Shard.τ Cert.Shard.sig) → Buf (Elt Bits) ℓ) (g : Dev Cert.Shard.nD → PrngReg), Pre_Shard m →
    θ_run (Cert.Shard.defs (F := Bits)) (onTc (τ := Cert.Shard.τ) (Cert.Shard.main (F := Bits))) ⟨m, fun _ => 0, g⟩ (fun r => (∀ c : Dev Cert.Shard.nD,
      r.2.mem ((c.tc : Thread Cert.Shard.nD Cert.Shard.τ).loc Cert.Shard.main_arg0) = m ((c.tc : Thread Cert.Shard.nD Cert.Shard.τ).loc Cert.Shard.main_arg0))
      ∧ r.2.sem = fun _ => 0)

def quiescent_ShardIdeal [hShardIdeal : Cert.ShardIdeal.Facts] : Prop :=
  ∀ (m : (ℓ : Loc Cert.ShardIdeal.nD Cert.ShardIdeal.τ Cert.ShardIdeal.sig) → Buf (Elt Ideal) ℓ) (g : Dev Cert.ShardIdeal.nD → PrngReg), Pre_ShardIdeal m →
    θ_run (Cert.ShardIdeal.defs (F := Ideal)) (onTc (τ := Cert.ShardIdeal.τ) (Cert.ShardIdeal.main (F := Ideal))) ⟨m, fun _ => 0, g⟩ (fun r => (∀ c : Dev Cert.ShardIdeal.nD,
      r.2.mem ((c.tc : Thread Cert.ShardIdeal.nD Cert.ShardIdeal.τ).loc Cert.ShardIdeal.main_arg0) = m ((c.tc : Thread Cert.ShardIdeal.nD Cert.ShardIdeal.τ).loc Cert.ShardIdeal.main_arg0))
      ∧ r.2.sem = fun _ => 0)

def quiescent_ShardRefIdeal [hShardRefIdeal : Cert.ShardRefIdeal.Facts] : Prop :=
  ∀ (m : (ℓ : Loc Cert.ShardRefIdeal.nD Cert.ShardRefIdeal.τ Cert.ShardRefIdeal.sig) → Buf (Elt Ideal) ℓ) (g : Dev Cert.ShardRefIdeal.nD → PrngReg), Pre_ShardRefIdeal m →
    θ_run (Cert.ShardRefIdeal.defs (F := Ideal)) (onTc (τ := Cert.ShardRefIdeal.τ) (Cert.ShardRefIdeal.main (F := Ideal))) ⟨m, fun _ => 0, g⟩ (fun r => (∀ c : Dev Cert.ShardRefIdeal.nD,
      r.2.mem ((c.tc : Thread Cert.ShardRefIdeal.nD Cert.ShardRefIdeal.τ).loc Cert.ShardRefIdeal.main_arg0) = m ((c.tc : Thread Cert.ShardRefIdeal.nD Cert.ShardRefIdeal.τ).loc Cert.ShardRefIdeal.main_arg0))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3)
      ∧ r.2.mem ((c.tc : Thread Cert.Adamw.nD Cert.Adamw.τ).loc Cert.Adamw.main_arg4) = m ((c.tc : Thread Cert.Adamw.nD Cert.Adamw.τ).loc Cert.Adamw.main_arg4)
      ∧ r.2.mem ((c.tc : Thread Cert.Adamw.nD Cert.Adamw.τ).loc Cert.Adamw.main_arg5) = m ((c.tc : Thread Cert.Adamw.nD Cert.Adamw.τ).loc Cert.Adamw.main_arg5)
      ∧ r.2.mem ((c.tc : Thread Cert.Adamw.nD Cert.Adamw.τ).loc Cert.Adamw.main_arg6) = m ((c.tc : Thread Cert.Adamw.nD Cert.Adamw.τ).loc Cert.Adamw.main_arg6)
      ∧ r.2.mem ((c.tc : Thread Cert.Adamw.nD Cert.Adamw.τ).loc Cert.Adamw.main_arg7) = m ((c.tc : Thread Cert.Adamw.nD Cert.Adamw.τ).loc Cert.Adamw.main_arg7))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
      ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
      ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5)
      ∧ r.2.mem ((c.tc : Thread Cert.AdamwIdeal.nD Cert.AdamwIdeal.τ).loc Cert.AdamwIdeal.main_arg6) = m ((c.tc : Thread Cert.AdamwIdeal.nD Cert.AdamwIdeal.τ).loc Cert.AdamwIdeal.main_arg6)
      ∧ r.2.mem ((c.tc : Thread Cert.AdamwIdeal.nD Cert.AdamwIdeal.τ).loc Cert.AdamwIdeal.main_arg7) = m ((c.tc : Thread Cert.AdamwIdeal.nD Cert.AdamwIdeal.τ).loc Cert.AdamwIdeal.main_arg7))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3)
      ∧ r.2.mem ((c.tc : Thread Cert.AdamwRefIdeal.nD Cert.AdamwRefIdeal.τ).loc Cert.AdamwRefIdeal.main_arg4) = m ((c.tc : Thread Cert.AdamwRefIdeal.nD Cert.AdamwRefIdeal.τ).loc Cert.AdamwRefIdeal.main_arg4)
      ∧ r.2.mem ((c.tc : Thread Cert.AdamwRefIdeal.nD Cert.AdamwRefIdeal.τ).loc Cert.AdamwRefIdeal.main_arg5) = m ((c.tc : Thread Cert.AdamwRefIdeal.nD Cert.AdamwRefIdeal.τ).loc Cert.AdamwRefIdeal.main_arg5)
      ∧ r.2.mem ((c.tc : Thread Cert.AdamwRefIdeal.nD Cert.AdamwRefIdeal.τ).loc Cert.AdamwRefIdeal.main_arg6) = m ((c.tc : Thread Cert.AdamwRefIdeal.nD Cert.AdamwRefIdeal.τ).loc Cert.AdamwRefIdeal.main_arg6)
      ∧ r.2.mem ((c.tc : Thread Cert.AdamwRefIdeal.nD Cert.AdamwRefIdeal.τ).loc Cert.AdamwRefIdeal.main_arg7) = m ((c.tc : Thread Cert.AdamwRefIdeal.nD Cert.AdamwRefIdeal.τ).loc Cert.AdamwRefIdeal.main_arg7))
      ∧ r.2.sem = fun _ => 0)

def quiescent_PairSum [hPairSum : Cert.PairSum.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1))
      ∧ r.2.sem = fun _ => 0)

def quiescent_PairSumIdeal [hPairSumIdeal : Cert.PairSumIdeal.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1))
      ∧ r.2.sem = fun _ => 0)

def preserves_MemKv_MemKvIdeal : Prop :=
  True

def algebraic_MemKvIdeal_MemKvRefIdeal_pre_finite_memkv [hMemKvIdeal : Cert.MemKvIdeal.Facts] [hMemKvRefIdeal : Cert.MemKvRefIdeal.Facts] [hPre_finite_memkv : Cert.Pre_finite_memkv.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal_finite_memkv m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v1_0)) (v1 : (c : Dev Cert.MemKvIdeal.nD) → Buf (Elt Ideal) ((c.tc : Thread Cert.MemKvIdeal.nD Cert.MemKvIdeal.τ).loc Cert.MemKvIdeal.main_v1_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1_0) = v0 c
          ∧ r.2.mem ((c.tc : Thread Cert.MemKvIdeal.nD Cert.MemKvIdeal.τ).loc Cert.MemKvIdeal.main_v1_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v45) = v0 c
          ∧ r.2.mem ((c.tc : Thread Cert.MemKvRefIdeal.nD Cert.MemKvRefIdeal.τ).loc Cert.MemKvRefIdeal.main_v46) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Rms_RmsIdeal : Prop :=
  True

def algebraic_RmsIdeal_RmsRefIdeal_pre_finite_rms [hRmsIdeal : Cert.RmsIdeal.Facts] [hRmsRefIdeal : Cert.RmsRefIdeal.Facts] [hPre_finite_rms : Cert.Pre_finite_rms.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal_finite_rms m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v1_0)) (v1 : (c : Dev Cert.RmsIdeal.nD) → Buf (Elt Ideal) ((c.tc : Thread Cert.RmsIdeal.nD Cert.RmsIdeal.τ).loc Cert.RmsIdeal.main_v1_1)) (v2 : (c : Dev Cert.RmsIdeal.nD) → Buf (Elt Ideal) ((c.tc : Thread Cert.RmsIdeal.nD Cert.RmsIdeal.τ).loc Cert.RmsIdeal.main_v1_2)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1_0) = v0 c
          ∧ r.2.mem ((c.tc : Thread Cert.RmsIdeal.nD Cert.RmsIdeal.τ).loc Cert.RmsIdeal.main_v1_1) = v1 c
          ∧ r.2.mem ((c.tc : Thread Cert.RmsIdeal.nD Cert.RmsIdeal.τ).loc Cert.RmsIdeal.main_v1_2) = v2 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v36) = v0 c
          ∧ r.2.mem ((c.tc : Thread Cert.RmsRefIdeal.nD Cert.RmsRefIdeal.τ).loc Cert.RmsRefIdeal.main_v37) = v1 c
          ∧ r.2.mem ((c.tc : Thread Cert.RmsRefIdeal.nD Cert.RmsRefIdeal.τ).loc Cert.RmsRefIdeal.main_v38) = v2 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_RmsGain_RmsGainIdeal : Prop :=
  True

def algebraic_RmsGainIdeal_RmsGainRefIdeal [hRmsGainIdeal : Cert.RmsGainIdeal.Facts] [hRmsGainRefIdeal : Cert.RmsGainRefIdeal.Facts] : Prop :=
  ∀ (m : (ℓ : Loc Cert.RmsGainIdeal.nD Cert.RmsGainIdeal.τ Cert.RmsGainIdeal.sig) → Buf (Elt Ideal) ℓ) (g : Dev Cert.RmsGainIdeal.nD → PrngReg)
    (m' : (ℓ : Loc Cert.RmsGainRefIdeal.nD Cert.RmsGainRefIdeal.τ Cert.RmsGainRefIdeal.sig) → Buf (Elt Ideal) ℓ) (g' : Dev Cert.RmsGainRefIdeal.nD → PrngReg), Pre_RmsGainIdeal m →
    (∀ c : Dev Cert.RmsGainIdeal.nD,
      m' ((c.tc : Thread Cert.RmsGainRefIdeal.nD Cert.RmsGainRefIdeal.τ).loc Cert.RmsGainRefIdeal.main_arg0) = m ((c.tc : Thread Cert.RmsGainIdeal.nD Cert.RmsGainIdeal.τ).loc Cert.RmsGainIdeal.main_arg0)
      ∧ m' ((c.tc : Thread Cert.RmsGainRefIdeal.nD Cert.RmsGainRefIdeal.τ).loc Cert.RmsGainRefIdeal.main_arg1) = m ((c.tc : Thread Cert.RmsGainIdeal.nD Cert.RmsGainIdeal.τ).loc Cert.RmsGainIdeal.main_arg1)
      ∧ m' ((c.tc : Thread Cert.RmsGainRefIdeal.nD Cert.RmsGainRefIdeal.τ).loc Cert.RmsGainRefIdeal.main_arg2) = m ((c.tc : Thread Cert.RmsGainIdeal.nD Cert.RmsGainIdeal.τ).loc Cert.RmsGainIdeal.main_arg2)) →
    ∃ (v0 : (c : Dev Cert.RmsGainIdeal.nD) → Buf (Elt Ideal) ((c.tc : Thread Cert.RmsGainIdeal.nD Cert.RmsGainIdeal.τ).loc Cert.RmsGainIdeal.main_v1)),
      θ_run (Cert.RmsGainIdeal.defs (F := Ideal)) (onTc (τ := Cert.RmsGainIdeal.τ) (Cert.RmsGainIdeal.main (F := Ideal))) ⟨m, fun _ => 0, g⟩ (fun r => ∀ c : Dev Cert.RmsGainIdeal.nD,
          r.2.mem ((c.tc : Thread Cert.RmsGainIdeal.nD Cert.RmsGainIdeal.τ).loc Cert.RmsGainIdeal.main_v1) = v0 c
          ∧ r.2.mem ((c.tc : Thread Cert.RmsGainIdeal.nD Cert.RmsGainIdeal.τ).loc Cert.RmsGainIdeal.main_arg0) = m ((c.tc : Thread Cert.RmsGainIdeal.nD Cert.RmsGainIdeal.τ).loc Cert.RmsGainIdeal.main_arg0)
          ∧ r.2.mem ((c.tc : Thread Cert.RmsGainIdeal.nD Cert.RmsGainIdeal.τ).loc Cert.RmsGainIdeal.main_arg1) = m ((c.tc : Thread Cert.RmsGainIdeal.nD Cert.RmsGainIdeal.τ).loc Cert.RmsGainIdeal.main_arg1)
          ∧ r.2.mem ((c.tc : Thread Cert.RmsGainIdeal.nD Cert.RmsGainIdeal.τ).loc Cert.RmsGainIdeal.main_arg2) = m ((c.tc : Thread Cert.RmsGainIdeal.nD Cert.RmsGainIdeal.τ).loc Cert.RmsGainIdeal.main_arg2))
      ∧ θ_run (Cert.RmsGainRefIdeal.defs (F := Ideal)) (onTc (τ := Cert.RmsGainRefIdeal.τ) (Cert.RmsGainRefIdeal.main (F := Ideal))) ⟨m', fun _ => 0, g'⟩ (fun r => ∀ c : Dev Cert.RmsGainRefIdeal.nD,
          r.2.mem ((c.tc : Thread Cert.RmsGainRefIdeal.nD Cert.RmsGainRefIdeal.τ).loc Cert.RmsGainRefIdeal.main_v17) = v0 c
          ∧ r.2.mem ((c.tc : Thread Cert.RmsGainRefIdeal.nD Cert.RmsGainRefIdeal.τ).loc Cert.RmsGainRefIdeal.main_arg0) = m' ((c.tc : Thread Cert.RmsGainRefIdeal.nD Cert.RmsGainRefIdeal.τ).loc Cert.RmsGainRefIdeal.main_arg0)
          ∧ r.2.mem ((c.tc : Thread Cert.RmsGainRefIdeal.nD Cert.RmsGainRefIdeal.τ).loc Cert.RmsGainRefIdeal.main_arg1) = m' ((c.tc : Thread Cert.RmsGainRefIdeal.nD Cert.RmsGainRefIdeal.τ).loc Cert.RmsGainRefIdeal.main_arg1)
          ∧ r.2.mem ((c.tc : Thread Cert.RmsGainRefIdeal.nD Cert.RmsGainRefIdeal.τ).loc Cert.RmsGainRefIdeal.main_arg2) = m' ((c.tc : Thread Cert.RmsGainRefIdeal.nD Cert.RmsGainRefIdeal.τ).loc Cert.RmsGainRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v15) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_v16) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v11) = v0 c
          ∧ r.2.mem ((c.tc : Thread Cert.FfnRefIdeal.nD Cert.FfnRefIdeal.τ).loc Cert.FfnRefIdeal.main_v12) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Flash_FlashIdeal : Prop :=
  IdealRules.named_const.Statement Cert.FlashIdeal.κ "ln2" .f32 0x3F317218#32 ((Real.log 2 : ℝ) : EReal)

def algebraic_FlashIdeal_FlashRefIdeal_pre_finite_flash [hFlashIdeal : Cert.FlashIdeal.Facts] [hFlashRefIdeal : Cert.FlashRefIdeal.Facts] [hPre_finite_flash : Cert.Pre_finite_flash.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_finite_flash m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)) →
    ∃ (v0 : (c : Dev Cert.FlashIdeal.nD) → Buf (Elt Ideal) ((c.tc : Thread Cert.FlashIdeal.nD Cert.FlashIdeal.τ).loc Cert.FlashIdeal.main_v43_0)) (v1 : (c : Dev Cert.FlashIdeal.nD) → Buf (Elt Ideal) ((c.tc : Thread Cert.FlashIdeal.nD Cert.FlashIdeal.τ).loc Cert.FlashIdeal.main_v43_1)) (v2 : (c : Dev Cert.FlashIdeal.nD) → Buf (Elt Ideal) ((c.tc : Thread Cert.FlashIdeal.nD Cert.FlashIdeal.τ).loc Cert.FlashIdeal.main_v43_2)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v43_0) = v0 c
          ∧ r.2.mem ((c.tc : Thread Cert.FlashIdeal.nD Cert.FlashIdeal.τ).loc Cert.FlashIdeal.main_v43_1) = v1 c
          ∧ r.2.mem ((c.tc : Thread Cert.FlashIdeal.nD Cert.FlashIdeal.τ).loc Cert.FlashIdeal.main_v43_2) = v2 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v66) = v0 c
          ∧ r.2.mem ((c.tc : Thread Cert.FlashRefIdeal.nD Cert.FlashRefIdeal.τ).loc Cert.FlashRefIdeal.main_v65) = v1 c
          ∧ r.2.mem ((c.tc : Thread Cert.FlashRefIdeal.nD Cert.FlashRefIdeal.τ).loc Cert.FlashRefIdeal.main_v64) = v2 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3))

def preserves_MemAttn_MemAttnIdeal : Prop :=
  True

def algebraic_MemAttnIdeal_MemAttnRefIdeal_pre_finite_mem [hMemAttnIdeal : Cert.MemAttnIdeal.Facts] [hMemAttnRefIdeal : Cert.MemAttnRefIdeal.Facts] [hPre_finite_mem : Cert.Pre_finite_mem.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_finite_mem m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)
      ∧ m' ((c.tc : Thread Cert.MemAttnRefIdeal.nD Cert.MemAttnRefIdeal.τ).loc Cert.MemAttnRefIdeal.main_arg3) = m ((c.tc : Thread Cert.MemAttnIdeal.nD Cert.MemAttnIdeal.τ).loc Cert.MemAttnIdeal.main_arg3)
      ∧ m' ((c.tc : Thread Cert.MemAttnRefIdeal.nD Cert.MemAttnRefIdeal.τ).loc Cert.MemAttnRefIdeal.main_arg4) = m ((c.tc : Thread Cert.MemAttnIdeal.nD Cert.MemAttnIdeal.τ).loc Cert.MemAttnIdeal.main_arg4)
      ∧ m' ((c.tc : Thread Cert.MemAttnRefIdeal.nD Cert.MemAttnRefIdeal.τ).loc Cert.MemAttnRefIdeal.main_arg5) = m ((c.tc : Thread Cert.MemAttnIdeal.nD Cert.MemAttnIdeal.τ).loc Cert.MemAttnIdeal.main_arg5)) →
    ∃ (v0 : (c : Dev Cert.MemAttnIdeal.nD) → Buf (Elt Ideal) ((c.tc : Thread Cert.MemAttnIdeal.nD Cert.MemAttnIdeal.τ).loc Cert.MemAttnIdeal.main_v2_0)) (v1 : (c : Dev Cert.MemAttnIdeal.nD) → Buf (Elt Ideal) ((c.tc : Thread Cert.MemAttnIdeal.nD Cert.MemAttnIdeal.τ).loc Cert.MemAttnIdeal.main_v2_1)) (v2 : (c : Dev Cert.MemAttnIdeal.nD) → Buf (Elt Ideal) ((c.tc : Thread Cert.MemAttnIdeal.nD Cert.MemAttnIdeal.τ).loc Cert.MemAttnIdeal.main_v2_2)) (v3 : (c : Dev Cert.MemAttnIdeal.nD) → Buf (Elt Ideal) ((c.tc : Thread Cert.MemAttnIdeal.nD Cert.MemAttnIdeal.τ).loc Cert.MemAttnIdeal.main_v2_3)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v2_0) = v0 c
          ∧ r.2.mem ((c.tc : Thread Cert.MemAttnIdeal.nD Cert.MemAttnIdeal.τ).loc Cert.MemAttnIdeal.main_v2_1) = v1 c
          ∧ r.2.mem ((c.tc : Thread Cert.MemAttnIdeal.nD Cert.MemAttnIdeal.τ).loc Cert.MemAttnIdeal.main_v2_2) = v2 c
          ∧ r.2.mem ((c.tc : Thread Cert.MemAttnIdeal.nD Cert.MemAttnIdeal.τ).loc Cert.MemAttnIdeal.main_v2_3) = v3 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
          ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
          ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
          ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v117) = v0 c
          ∧ r.2.mem ((c.tc : Thread Cert.MemAttnRefIdeal.nD Cert.MemAttnRefIdeal.τ).loc Cert.MemAttnRefIdeal.main_v118) = v1 c
          ∧ r.2.mem ((c.tc : Thread Cert.MemAttnRefIdeal.nD Cert.MemAttnRefIdeal.τ).loc Cert.MemAttnRefIdeal.main_v119) = v2 c
          ∧ r.2.mem ((c.tc : Thread Cert.MemAttnRefIdeal.nD Cert.MemAttnRefIdeal.τ).loc Cert.MemAttnRefIdeal.main_v120) = v3 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2)
          ∧ r.2.mem ((c.tc : Thread Cert.MemAttnRefIdeal.nD Cert.MemAttnRefIdeal.τ).loc Cert.MemAttnRefIdeal.main_arg3) = m' ((c.tc : Thread Cert.MemAttnRefIdeal.nD Cert.MemAttnRefIdeal.τ).loc Cert.MemAttnRefIdeal.main_arg3)
          ∧ r.2.mem ((c.tc : Thread Cert.MemAttnRefIdeal.nD Cert.MemAttnRefIdeal.τ).loc Cert.MemAttnRefIdeal.main_arg4) = m' ((c.tc : Thread Cert.MemAttnRefIdeal.nD Cert.MemAttnRefIdeal.τ).loc Cert.MemAttnRefIdeal.main_arg4)
          ∧ r.2.mem ((c.tc : Thread Cert.MemAttnRefIdeal.nD Cert.MemAttnRefIdeal.τ).loc Cert.MemAttnRefIdeal.main_arg5) = m' ((c.tc : Thread Cert.MemAttnRefIdeal.nD Cert.MemAttnRefIdeal.τ).loc Cert.MemAttnRefIdeal.main_arg5))

def preserves_Prep_PrepIdeal : Prop :=
  True

def algebraic_PrepIdeal_PrepRefIdeal_on_prep_mask_pre_finite_prep [hPrepIdeal : Cert.PrepIdeal.Facts] [hPrepRefIdeal : Cert.PrepRefIdeal.Facts] [hPre_finite_prep : Cert.Pre_finite_prep.Facts] [hOn_prep_mask : Cert.On_prep_mask.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_finite_prep m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)) →
    ∃ (v0 : (c : Dev Cert.PrepIdeal.nD) → Buf (Elt Ideal) ((c.tc : Thread Cert.PrepIdeal.nD Cert.PrepIdeal.τ).loc Cert.PrepIdeal.main_v38_0)) (v1 : (c : Dev Cert.PrepIdeal.nD) → Buf (Elt Ideal) ((c.tc : Thread Cert.PrepIdeal.nD Cert.PrepIdeal.τ).loc Cert.PrepIdeal.main_v38_1)) (v2 : (c : Dev Cert.PrepIdeal.nD) → Buf (Elt Ideal) ((c.tc : Thread Cert.PrepIdeal.nD Cert.PrepIdeal.τ).loc Cert.PrepIdeal.main_v38_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          (∀ i : (⟨2, ![4096, 3072]⟩ : Shape).Idx, (Cert.On_prep_mask.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))).1 i = 1#1 → r.2.mem ((c.tc : Thread Cert.PrepIdeal.nD Cert.PrepIdeal.τ).loc Cert.PrepIdeal.main_v38_0) i = v0 c i)
          ∧ (∀ i : (⟨2, ![1, 128]⟩ : Shape).Idx, (Cert.On_prep_mask.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))).2.1 i = 1#1 → r.2.mem ((c.tc : Thread Cert.PrepIdeal.nD Cert.PrepIdeal.τ).loc Cert.PrepIdeal.main_v38_1) i = v1 c i)
          ∧ (∀ i : (⟨2, ![1, 128]⟩ : Shape).Idx, (Cert.On_prep_mask.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))).2.2 i = 1#1 → r.2.mem ((c.tc : Thread Cert.PrepIdeal.nD Cert.PrepIdeal.τ).loc Cert.PrepIdeal.main_v38_2) i = v2 c i)
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          (∀ i : (⟨2, ![4096, 3072]⟩ : Shape).Idx, (Cert.On_prep_mask.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))).1 i = 1#1 → r.2.mem ((c.tc : Thread Cert.PrepRefIdeal.nD Cert.PrepRefIdeal.τ).loc Cert.PrepRefIdeal.main_v182) i = v0 c i)
          ∧ (∀ i : (⟨2, ![1, 128]⟩ : Shape).Idx, (Cert.On_prep_mask.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))).2.1 i = 1#1 → r.2.mem ((c.tc : Thread Cert.PrepRefIdeal.nD Cert.PrepRefIdeal.τ).loc Cert.PrepRefIdeal.main_v183) i = v1 c i)
          ∧ (∀ i : (⟨2, ![1, 128]⟩ : Shape).Idx, (Cert.On_prep_mask.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))).2.2 i = 1#1 → r.2.mem ((c.tc : Thread Cert.PrepRefIdeal.nD Cert.PrepRefIdeal.τ).loc Cert.PrepRefIdeal.main_v184) i = v2 c i)
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5))

def preserves_FlashFwd_FlashFwdIdeal : Prop :=
  IdealRules.named_const.Statement Cert.FlashFwdIdeal.κ "log2e" .f32 0x3FB8AA3B#32 (((Real.log 2)⁻¹ : ℝ) : EReal)

def algebraic_FlashFwdIdeal_FlashFwdRefIdeal_on_fwd_mask_pre_finite_fwd [hFlashFwdIdeal : Cert.FlashFwdIdeal.Facts] [hFlashFwdRefIdeal : Cert.FlashFwdRefIdeal.Facts] [hPre_finite_fwd : Cert.Pre_finite_fwd.Facts] [hOn_fwd_mask : Cert.On_fwd_mask.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg)
    (m' : (ℓ : Loc Cert.FlashFwdRefIdeal.nD Cert.FlashFwdRefIdeal.τ Cert.FlashFwdRefIdeal.sig) → Buf (Elt Ideal) ℓ) (g' : Dev Cert.FlashFwdRefIdeal.nD → PrngReg), Pre_FlashFwdIdeal_finite_fwd m →
    (∀ c : Dev Cert.FlashFwdIdeal.nD,
      m' ((c.tc : Thread Cert.FlashFwdRefIdeal.nD Cert.FlashFwdRefIdeal.τ).loc Cert.FlashFwdRefIdeal.main_arg0) = m ((c.tc : Thread Cert.FlashFwdIdeal.nD Cert.FlashFwdIdeal.τ).loc Cert.FlashFwdIdeal.main_arg0)
      ∧ m' ((c.tc : Thread Cert.FlashFwdRefIdeal.nD Cert.FlashFwdRefIdeal.τ).loc Cert.FlashFwdRefIdeal.main_arg1) = m ((c.tc : Thread Cert.FlashFwdIdeal.nD Cert.FlashFwdIdeal.τ).loc Cert.FlashFwdIdeal.main_arg1)
      ∧ m' ((c.tc : Thread Cert.FlashFwdRefIdeal.nD Cert.FlashFwdRefIdeal.τ).loc Cert.FlashFwdRefIdeal.main_arg2) = m ((c.tc : Thread Cert.FlashFwdIdeal.nD Cert.FlashFwdIdeal.τ).loc Cert.FlashFwdIdeal.main_arg2)) →
    ∃ (v0 : (c : Dev Cert.FlashFwdIdeal.nD) → Buf (Elt Ideal) ((c.tc : Thread Cert.FlashFwdIdeal.nD Cert.FlashFwdIdeal.τ).loc Cert.FlashFwdIdeal.main_v8_0)) (v1 : (c : Dev Cert.FlashFwdIdeal.nD) → Buf (Elt Ideal) ((c.tc : Thread Cert.FlashFwdIdeal.nD Cert.FlashFwdIdeal.τ).loc Cert.FlashFwdIdeal.main_v8_1)),
      θ_run (Cert.FlashFwdIdeal.defs (F := Ideal)) (onTc (τ := Cert.FlashFwdIdeal.τ) (Cert.FlashFwdIdeal.main (F := Ideal))) ⟨m, fun _ => 0, g⟩ (fun r => ∀ c : Dev Cert.FlashFwdIdeal.nD,
          (∀ i : (⟨2, ![4096, 2048]⟩ : Shape).Idx, (Cert.On_fwd_mask.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2))).1 i = 1#1 → r.2.mem ((c.tc : Thread Cert.FlashFwdIdeal.nD Cert.FlashFwdIdeal.τ).loc Cert.FlashFwdIdeal.main_v8_0) i = v0 c i)
          ∧ (∀ i : (⟨3, ![4, 12288, 128]⟩ : Shape).Idx, (Cert.On_fwd_mask.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2))).2 i = 1#1 → r.2.mem ((c.tc : Thread Cert.FlashFwdIdeal.nD Cert.FlashFwdIdeal.τ).loc Cert.FlashFwdIdeal.main_v8_1) i = v1 c i)
          ∧ r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
          ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
          ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ θ_run (Cert.FlashFwdRefIdeal.defs (F := Ideal)) (onTc (τ := Cert.FlashFwdRefIdeal.τ) (Cert.FlashFwdRefIdeal.main (F := Ideal))) ⟨m', fun _ => 0, g'⟩ (fun r => ∀ c : Dev Cert.FlashFwdRefIdeal.nD,
          (∀ i : (⟨2, ![4096, 2048]⟩ : Shape).Idx, (Cert.On_fwd_mask.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2))).1 i = 1#1 → r.2.mem ((c.tc : Thread Cert.FlashFwdRefIdeal.nD Cert.FlashFwdRefIdeal.τ).loc Cert.FlashFwdRefIdeal.main_v38) i = v0 c i)
          ∧ (∀ i : (⟨3, ![4, 12288, 128]⟩ : Shape).Idx, (Cert.On_fwd_mask.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2))).2 i = 1#1 → r.2.mem ((c.tc : Thread Cert.FlashFwdRefIdeal.nD Cert.FlashFwdRefIdeal.τ).loc Cert.FlashFwdRefIdeal.main_v39) i = v1 c i)
          ∧ r.2.mem ((c.tc : Thread Cert.FlashFwdRefIdeal.nD Cert.FlashFwdRefIdeal.τ).loc Cert.FlashFwdRefIdeal.main_arg0) = m' ((c.tc : Thread Cert.FlashFwdRefIdeal.nD Cert.FlashFwdRefIdeal.τ).loc Cert.FlashFwdRefIdeal.main_arg0)
          ∧ r.2.mem ((c.tc : Thread Cert.FlashFwdRefIdeal.nD Cert.FlashFwdRefIdeal.τ).loc Cert.FlashFwdRefIdeal.main_arg1) = m' ((c.tc : Thread Cert.FlashFwdRefIdeal.nD Cert.FlashFwdRefIdeal.τ).loc Cert.FlashFwdRefIdeal.main_arg1)
          ∧ r.2.mem ((c.tc : Thread Cert.FlashFwdRefIdeal.nD Cert.FlashFwdRefIdeal.τ).loc Cert.FlashFwdRefIdeal.main_arg2) = m' ((c.tc : Thread Cert.FlashFwdRefIdeal.nD Cert.FlashFwdRefIdeal.τ).loc Cert.FlashFwdRefIdeal.main_arg2))

def preserves_Gmlp_GmlpIdeal : Prop :=
  True

def algebraic_GmlpIdeal_GmlpRefIdeal_on_gmlp_mask_pre_finite_gmlp [hGmlpIdeal : Cert.GmlpIdeal.Facts] [hGmlpRefIdeal : Cert.GmlpRefIdeal.Facts] [hPre_finite_gmlp : Cert.Pre_finite_gmlp.Facts] [hOn_gmlp_mask : Cert.On_gmlp_mask.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal_finite_gmlp m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)) →
    ∃ (v0 : (c : Dev Cert.GmlpIdeal.nD) → Buf (Elt Ideal) ((c.tc : Thread Cert.GmlpIdeal.nD Cert.GmlpIdeal.τ).loc Cert.GmlpIdeal.main_v2_0)) (v1 : (c : Dev Cert.GmlpIdeal.nD) → Buf (Elt Ideal) ((c.tc : Thread Cert.GmlpIdeal.nD Cert.GmlpIdeal.τ).loc Cert.GmlpIdeal.main_v2_1)) (v2 : (c : Dev Cert.GmlpIdeal.nD) → Buf (Elt Ideal) ((c.tc : Thread Cert.GmlpIdeal.nD Cert.GmlpIdeal.τ).loc Cert.GmlpIdeal.main_v2_2)) (v3 : (c : Dev Cert.GmlpIdeal.nD) → Buf (Elt Ideal) ((c.tc : Thread Cert.GmlpIdeal.nD Cert.GmlpIdeal.τ).loc Cert.GmlpIdeal.main_v2_3)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          (∀ i : (⟨2, ![4096, 3584]⟩ : Shape).Idx, (Cert.On_gmlp_mask.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).1 i = 1#1 → r.2.mem ((c.tc : Thread Cert.GmlpIdeal.nD Cert.GmlpIdeal.τ).loc Cert.GmlpIdeal.main_v2_0) i = v0 c i)
          ∧ (∀ i : (⟨3, ![12, 128, 128]⟩ : Shape).Idx, (Cert.On_gmlp_mask.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).2.1 i = 1#1 → r.2.mem ((c.tc : Thread Cert.GmlpIdeal.nD Cert.GmlpIdeal.τ).loc Cert.GmlpIdeal.main_v2_1) i = v1 c i)
          ∧ (∀ i : (⟨2, ![128, 12]⟩ : Shape).Idx, (Cert.On_gmlp_mask.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).2.2.1 i = 1#1 → r.2.mem ((c.tc : Thread Cert.GmlpIdeal.nD Cert.GmlpIdeal.τ).loc Cert.GmlpIdeal.main_v2_2) i = v2 c i)
          ∧ (∀ i : (⟨2, ![1, 1536]⟩ : Shape).Idx, (Cert.On_gmlp_mask.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).2.2.2 i = 1#1 → r.2.mem ((c.tc : Thread Cert.GmlpIdeal.nD Cert.GmlpIdeal.τ).loc Cert.GmlpIdeal.main_v2_3) i = v3 c i)
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          (∀ i : (⟨2, ![4096, 3584]⟩ : Shape).Idx, (Cert.On_gmlp_mask.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).1 i = 1#1 → r.2.mem ((c.tc : Thread Cert.GmlpRefIdeal.nD Cert.GmlpRefIdeal.τ).loc Cert.GmlpRefIdeal.main_v89) i = v0 c i)
          ∧ (∀ i : (⟨3, ![12, 128, 128]⟩ : Shape).Idx, (Cert.On_gmlp_mask.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).2.1 i = 1#1 → r.2.mem ((c.tc : Thread Cert.GmlpRefIdeal.nD Cert.GmlpRefIdeal.τ).loc Cert.GmlpRefIdeal.main_v61) i = v1 c i)
          ∧ (∀ i : (⟨2, ![128, 12]⟩ : Shape).Idx, (Cert.On_gmlp_mask.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).2.2.1 i = 1#1 → r.2.mem ((c.tc : Thread Cert.GmlpRefIdeal.nD Cert.GmlpRefIdeal.τ).loc Cert.GmlpRefIdeal.main_v90) i = v2 c i)
          ∧ (∀ i : (⟨2, ![1, 1536]⟩ : Shape).Idx, (Cert.On_gmlp_mask.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).2.2.2 i = 1#1 → r.2.mem ((c.tc : Thread Cert.GmlpRefIdeal.nD Cert.GmlpRefIdeal.τ).loc Cert.GmlpRefIdeal.main_v91) i = v3 c i)
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v3_0)) (v1 : (c : Dev Cert.FfnUpIdeal.nD) → Buf (Elt Ideal) ((c.tc : Thread Cert.FfnUpIdeal.nD Cert.FfnUpIdeal.τ).loc Cert.FfnUpIdeal.main_v3_1)) (v2 : (c : Dev Cert.FfnUpIdeal.nD) → Buf (Elt Ideal) ((c.tc : Thread Cert.FfnUpIdeal.nD Cert.FfnUpIdeal.τ).loc Cert.FfnUpIdeal.main_v3_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v3_0) = v0 c
          ∧ r.2.mem ((c.tc : Thread Cert.FfnUpIdeal.nD Cert.FfnUpIdeal.τ).loc Cert.FfnUpIdeal.main_v3_1) = v1 c
          ∧ r.2.mem ((c.tc : Thread Cert.FfnUpIdeal.nD Cert.FfnUpIdeal.τ).loc Cert.FfnUpIdeal.main_v3_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v4) = v0 c
          ∧ r.2.mem ((c.tc : Thread Cert.FfnUpRefIdeal.nD Cert.FfnUpRefIdeal.τ).loc Cert.FfnUpRefIdeal.main_v5) = v1 c
          ∧ r.2.mem ((c.tc : Thread Cert.FfnUpRefIdeal.nD Cert.FfnUpRefIdeal.τ).loc Cert.FfnUpRefIdeal.main_v8) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_GmlpFwd_GmlpFwdIdeal : Prop :=
  True

def algebraic_GmlpFwdIdeal_GmlpFwdRefIdeal_on_gate_mask [hGmlpFwdIdeal : Cert.GmlpFwdIdeal.Facts] [hGmlpFwdRefIdeal : Cert.GmlpFwdRefIdeal.Facts] [hOn_gate_mask : Cert.On_gate_mask.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)) →
    ∃ (v0 : (c : Dev Cert.GmlpFwdIdeal.nD) → Buf (Elt Ideal) ((c.tc : Thread Cert.GmlpFwdIdeal.nD Cert.GmlpFwdIdeal.τ).loc Cert.GmlpFwdIdeal.main_v2)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          (∀ i : (⟨2, ![4096, 2048]⟩ : Shape).Idx, (Cert.On_gate_mask.fn (F := Ideal) (m ((c.tc : Thread Cert.GmlpFwdIdeal.nD Cert.GmlpFwdIdeal.τ).loc Cert.GmlpFwdIdeal.main_arg0)) (m ((c.tc : Thread Cert.GmlpFwdIdeal.nD Cert.GmlpFwdIdeal.τ).loc Cert.GmlpFwdIdeal.main_arg1)) (m ((c.tc : Thread Cert.GmlpFwdIdeal.nD Cert.GmlpFwdIdeal.τ).loc Cert.GmlpFwdIdeal.main_arg2)) (m ((c.tc : Thread Cert.GmlpFwdIdeal.nD Cert.GmlpFwdIdeal.τ).loc Cert.GmlpFwdIdeal.main_arg3))) i = 1#1 → r.2.mem ((c.tc : Thread Cert.GmlpFwdIdeal.nD Cert.GmlpFwdIdeal.τ).loc Cert.GmlpFwdIdeal.main_v2) i = v0 c i)
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          (∀ i : (⟨2, ![4096, 2048]⟩ : Shape).Idx, (Cert.On_gate_mask.fn (F := Ideal) (m ((c.tc : Thread Cert.GmlpFwdIdeal.nD Cert.GmlpFwdIdeal.τ).loc Cert.GmlpFwdIdeal.main_arg0)) (m ((c.tc : Thread Cert.GmlpFwdIdeal.nD Cert.GmlpFwdIdeal.τ).loc Cert.GmlpFwdIdeal.main_arg1)) (m ((c.tc : Thread Cert.GmlpFwdIdeal.nD Cert.GmlpFwdIdeal.τ).loc Cert.GmlpFwdIdeal.main_arg2)) (m ((c.tc : Thread Cert.GmlpFwdIdeal.nD Cert.GmlpFwdIdeal.τ).loc Cert.GmlpFwdIdeal.main_arg3))) i = 1#1 → r.2.mem ((c.tc : Thread Cert.GmlpFwdRefIdeal.nD Cert.GmlpFwdRefIdeal.τ).loc Cert.GmlpFwdRefIdeal.main_v34) i = v0 c i)
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3))

def preserves_MemFwd_MemFwdIdeal : Prop :=
  True

def algebraic_MemFwdIdeal_MemFwdRefIdeal_pre_finite_mfwd [hMemFwdIdeal : Cert.MemFwdIdeal.Facts] [hMemFwdRefIdeal : Cert.MemFwdRefIdeal.Facts] [hPre_finite_mfwd : Cert.Pre_finite_mfwd.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdRefIdeal.nD Cert.MemFwdRefIdeal.τ Cert.MemFwdRefIdeal.sig) → Buf (Elt Ideal) ℓ) (g' : Dev Cert.MemFwdRefIdeal.nD → PrngReg), Pre_MemFwdIdeal_finite_mfwd m →
    (∀ c : Dev Cert.MemFwdIdeal.nD,
      m' ((c.tc : Thread Cert.MemFwdRefIdeal.nD Cert.MemFwdRefIdeal.τ).loc Cert.MemFwdRefIdeal.main_arg0) = m ((c.tc : Thread Cert.MemFwdIdeal.nD Cert.MemFwdIdeal.τ).loc Cert.MemFwdIdeal.main_arg0)
      ∧ m' ((c.tc : Thread Cert.MemFwdRefIdeal.nD Cert.MemFwdRefIdeal.τ).loc Cert.MemFwdRefIdeal.main_arg1) = m ((c.tc : Thread Cert.MemFwdIdeal.nD Cert.MemFwdIdeal.τ).loc Cert.MemFwdIdeal.main_arg1)
      ∧ m' ((c.tc : Thread Cert.MemFwdRefIdeal.nD Cert.MemFwdRefIdeal.τ).loc Cert.MemFwdRefIdeal.main_arg2) = m ((c.tc : Thread Cert.MemFwdIdeal.nD Cert.MemFwdIdeal.τ).loc Cert.MemFwdIdeal.main_arg2)
      ∧ m' ((c.tc : Thread Cert.MemFwdRefIdeal.nD Cert.MemFwdRefIdeal.τ).loc Cert.MemFwdRefIdeal.main_arg3) = m ((c.tc : Thread Cert.MemFwdIdeal.nD Cert.MemFwdIdeal.τ).loc Cert.MemFwdIdeal.main_arg3)
      ∧ m' ((c.tc : Thread Cert.MemFwdRefIdeal.nD Cert.MemFwdRefIdeal.τ).loc Cert.MemFwdRefIdeal.main_arg4) = m ((c.tc : Thread Cert.MemFwdIdeal.nD Cert.MemFwdIdeal.τ).loc Cert.MemFwdIdeal.main_arg4)) →
    ∃ (v0 : (c : Dev Cert.MemFwdIdeal.nD) → Buf (Elt Ideal) ((c.tc : Thread Cert.MemFwdIdeal.nD Cert.MemFwdIdeal.τ).loc Cert.MemFwdIdeal.main_v2)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v2) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
          ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2)
          ∧ r.2.mem ((c.tc : Thread Cert.MemFwdIdeal.nD Cert.MemFwdIdeal.τ).loc Cert.MemFwdIdeal.main_arg3) = m ((c.tc : Thread Cert.MemFwdIdeal.nD Cert.MemFwdIdeal.τ).loc Cert.MemFwdIdeal.main_arg3)
          ∧ r.2.mem ((c.tc : Thread Cert.MemFwdIdeal.nD Cert.MemFwdIdeal.τ).loc Cert.MemFwdIdeal.main_arg4) = m ((c.tc : Thread Cert.MemFwdIdeal.nD Cert.MemFwdIdeal.τ).loc Cert.MemFwdIdeal.main_arg4))
      ∧ θ_run (Cert.MemFwdRefIdeal.defs (F := Ideal)) (onTc (τ := Cert.MemFwdRefIdeal.τ) (Cert.MemFwdRefIdeal.main (F := Ideal))) ⟨m', fun _ => 0, g'⟩ (fun r => ∀ c : Dev Cert.MemFwdRefIdeal.nD,
          r.2.mem ((c.tc : Thread Cert.MemFwdRefIdeal.nD Cert.MemFwdRefIdeal.τ).loc Cert.MemFwdRefIdeal.main_v51) = v0 c
          ∧ r.2.mem ((c.tc : Thread Cert.MemFwdRefIdeal.nD Cert.MemFwdRefIdeal.τ).loc Cert.MemFwdRefIdeal.main_arg0) = m' ((c.tc : Thread Cert.MemFwdRefIdeal.nD Cert.MemFwdRefIdeal.τ).loc Cert.MemFwdRefIdeal.main_arg0)
          ∧ r.2.mem ((c.tc : Thread Cert.MemFwdRefIdeal.nD Cert.MemFwdRefIdeal.τ).loc Cert.MemFwdRefIdeal.main_arg1) = m' ((c.tc : Thread Cert.MemFwdRefIdeal.nD Cert.MemFwdRefIdeal.τ).loc Cert.MemFwdRefIdeal.main_arg1)
          ∧ r.2.mem ((c.tc : Thread Cert.MemFwdRefIdeal.nD Cert.MemFwdRefIdeal.τ).loc Cert.MemFwdRefIdeal.main_arg2) = m' ((c.tc : Thread Cert.MemFwdRefIdeal.nD Cert.MemFwdRefIdeal.τ).loc Cert.MemFwdRefIdeal.main_arg2)
          ∧ r.2.mem ((c.tc : Thread Cert.MemFwdRefIdeal.nD Cert.MemFwdRefIdeal.τ).loc Cert.MemFwdRefIdeal.main_arg3) = m' ((c.tc : Thread Cert.MemFwdRefIdeal.nD Cert.MemFwdRefIdeal.τ).loc Cert.MemFwdRefIdeal.main_arg3)
          ∧ r.2.mem ((c.tc : Thread Cert.MemFwdRefIdeal.nD Cert.MemFwdRefIdeal.τ).loc Cert.MemFwdRefIdeal.main_arg4) = m' ((c.tc : Thread Cert.MemFwdRefIdeal.nD Cert.MemFwdRefIdeal.τ).loc Cert.MemFwdRefIdeal.main_arg4))

def preserves_PrepFwd_PrepFwdIdeal : Prop :=
  IdealRules.named_const.Statement Cert.PrepFwdIdeal.κ "scale2" .f32 0x3E0293EE#32 (((11863283 * 134217728⁻¹) * (Real.log 2)⁻¹ : ℝ) : EReal)

def algebraic_PrepFwdIdeal_PrepFwdRefIdeal [hPrepFwdIdeal : Cert.PrepFwdIdeal.Facts] [hPrepFwdRefIdeal : Cert.PrepFwdRefIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg)
    (m' : (ℓ : Loc Cert.PrepFwdRefIdeal.nD Cert.PrepFwdRefIdeal.τ Cert.PrepFwdRefIdeal.sig) → Buf (Elt Ideal) ℓ) (g' : Dev Cert.PrepFwdRefIdeal.nD → PrngReg), Pre_PrepFwdIdeal m →
    (∀ c : Dev Cert.PrepFwdIdeal.nD,
      m' ((c.tc : Thread Cert.PrepFwdRefIdeal.nD Cert.PrepFwdRefIdeal.τ).loc Cert.PrepFwdRefIdeal.main_arg0) = m ((c.tc : Thread Cert.PrepFwdIdeal.nD Cert.PrepFwdIdeal.τ).loc Cert.PrepFwdIdeal.main_arg0)
      ∧ m' ((c.tc : Thread Cert.PrepFwdRefIdeal.nD Cert.PrepFwdRefIdeal.τ).loc Cert.PrepFwdRefIdeal.main_arg1) = m ((c.tc : Thread Cert.PrepFwdIdeal.nD Cert.PrepFwdIdeal.τ).loc Cert.PrepFwdIdeal.main_arg1)
      ∧ m' ((c.tc : Thread Cert.PrepFwdRefIdeal.nD Cert.PrepFwdRefIdeal.τ).loc Cert.PrepFwdRefIdeal.main_arg2) = m ((c.tc : Thread Cert.PrepFwdIdeal.nD Cert.PrepFwdIdeal.τ).loc Cert.PrepFwdIdeal.main_arg2)) →
    ∃ (v0 : (c : Dev Cert.PrepFwdIdeal.nD) → Buf (Elt Ideal) ((c.tc : Thread Cert.PrepFwdIdeal.nD Cert.PrepFwdIdeal.τ).loc Cert.PrepFwdIdeal.main_v38_0)) (v1 : (c : Dev Cert.PrepFwdIdeal.nD) → Buf (Elt Ideal) ((c.tc : Thread Cert.PrepFwdIdeal.nD Cert.PrepFwdIdeal.τ).loc Cert.PrepFwdIdeal.main_v38_1)) (v2 : (c : Dev Cert.PrepFwdIdeal.nD) → Buf (Elt Ideal) ((c.tc : Thread Cert.PrepFwdIdeal.nD Cert.PrepFwdIdeal.τ).loc Cert.PrepFwdIdeal.main_v38_2)),
      θ_run (Cert.PrepFwdIdeal.defs (F := Ideal)) (onTc (τ := Cert.PrepFwdIdeal.τ) (Cert.PrepFwdIdeal.main (F := Ideal))) ⟨m, fun _ => 0, g⟩ (fun r => ∀ c : Dev Cert.PrepFwdIdeal.nD,
          r.2.mem ((c.tc : Thread Cert.PrepFwdIdeal.nD Cert.PrepFwdIdeal.τ).loc Cert.PrepFwdIdeal.main_v38_0) = v0 c
          ∧ r.2.mem ((c.tc : Thread Cert.PrepFwdIdeal.nD Cert.PrepFwdIdeal.τ).loc Cert.PrepFwdIdeal.main_v38_1) = v1 c
          ∧ r.2.mem ((c.tc : Thread Cert.PrepFwdIdeal.nD Cert.PrepFwdIdeal.τ).loc Cert.PrepFwdIdeal.main_v38_2) = v2 c
          ∧ r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
          ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
          ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2))
      ∧ θ_run (Cert.PrepFwdRefIdeal.defs (F := Ideal)) (onTc (τ := Cert.PrepFwdRefIdeal.τ) (Cert.PrepFwdRefIdeal.main (F := Ideal))) ⟨m', fun _ => 0, g'⟩ (fun r => ∀ c : Dev Cert.PrepFwdRefIdeal.nD,
          r.2.mem ((c.tc : Thread Cert.PrepFwdRefIdeal.nD Cert.PrepFwdRefIdeal.τ).loc Cert.PrepFwdRefIdeal.main_v102) = v0 c
          ∧ r.2.mem ((c.tc : Thread Cert.PrepFwdRefIdeal.nD Cert.PrepFwdRefIdeal.τ).loc Cert.PrepFwdRefIdeal.main_v104) = v1 c
          ∧ r.2.mem ((c.tc : Thread Cert.PrepFwdRefIdeal.nD Cert.PrepFwdRefIdeal.τ).loc Cert.PrepFwdRefIdeal.main_v105) = v2 c
          ∧ r.2.mem ((c.tc : Thread Cert.PrepFwdRefIdeal.nD Cert.PrepFwdRefIdeal.τ).loc Cert.PrepFwdRefIdeal.main_arg0) = m' ((c.tc : Thread Cert.PrepFwdRefIdeal.nD Cert.PrepFwdRefIdeal.τ).loc Cert.PrepFwdRefIdeal.main_arg0)
          ∧ r.2.mem ((c.tc : Thread Cert.PrepFwdRefIdeal.nD Cert.PrepFwdRefIdeal.τ).loc Cert.PrepFwdRefIdeal.main_arg1) = m' ((c.tc : Thread Cert.PrepFwdRefIdeal.nD Cert.PrepFwdRefIdeal.τ).loc Cert.PrepFwdRefIdeal.main_arg1)
          ∧ r.2.mem ((c.tc : Thread Cert.PrepFwdRefIdeal.nD Cert.PrepFwdRefIdeal.τ).loc Cert.PrepFwdRefIdeal.main_arg2) = m' ((c.tc : Thread Cert.PrepFwdRefIdeal.nD Cert.PrepFwdRefIdeal.τ).loc Cert.PrepFwdRefIdeal.main_arg2))

def preserves_Delta_DeltaIdeal : Prop :=
  True

def algebraic_DeltaIdeal_DeltaRefIdeal [hDeltaIdeal : Cert.DeltaIdeal.Facts] [hDeltaRefIdeal : Cert.DeltaRefIdeal.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.DeltaRefIdeal.nD Cert.DeltaRefIdeal.τ Cert.DeltaRefIdeal.sig) → Buf (Elt Ideal) ℓ) (g' : Dev Cert.DeltaRefIdeal.nD → PrngReg), Pre_DeltaIdeal m →
    (∀ c : Dev Cert.DeltaIdeal.nD,
      m' ((c.tc : Thread Cert.DeltaRefIdeal.nD Cert.DeltaRefIdeal.τ).loc Cert.DeltaRefIdeal.main_arg0) = m ((c.tc : Thread Cert.DeltaIdeal.nD Cert.DeltaIdeal.τ).loc Cert.DeltaIdeal.main_arg0)
      ∧ m' ((c.tc : Thread Cert.DeltaRefIdeal.nD Cert.DeltaRefIdeal.τ).loc Cert.DeltaRefIdeal.main_arg1) = m ((c.tc : Thread Cert.DeltaIdeal.nD Cert.DeltaIdeal.τ).loc Cert.DeltaIdeal.main_arg1)
      ∧ m' ((c.tc : Thread Cert.DeltaRefIdeal.nD Cert.DeltaRefIdeal.τ).loc Cert.DeltaRefIdeal.main_arg2) = m ((c.tc : Thread Cert.DeltaIdeal.nD Cert.DeltaIdeal.τ).loc Cert.DeltaIdeal.main_arg2)
      ∧ m' ((c.tc : Thread Cert.DeltaRefIdeal.nD Cert.DeltaRefIdeal.τ).loc Cert.DeltaRefIdeal.main_arg3) = m ((c.tc : Thread Cert.DeltaIdeal.nD Cert.DeltaIdeal.τ).loc Cert.DeltaIdeal.main_arg3)) →
    ∃ (v0 : (c : Dev Cert.DeltaIdeal.nD) → Buf (Elt Ideal) ((c.tc : Thread Cert.DeltaIdeal.nD Cert.DeltaIdeal.τ).loc Cert.DeltaIdeal.main_v22)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v22) = v0 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
          ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
          ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3))
      ∧ θ_run (Cert.DeltaRefIdeal.defs (F := Ideal)) (onTc (τ := Cert.DeltaRefIdeal.τ) (Cert.DeltaRefIdeal.main (F := Ideal))) ⟨m', fun _ => 0, g'⟩ (fun r => ∀ c : Dev Cert.DeltaRefIdeal.nD,
          r.2.mem ((c.tc : Thread Cert.DeltaRefIdeal.nD Cert.DeltaRefIdeal.τ).loc Cert.DeltaRefIdeal.main_v29) = v0 c
          ∧ r.2.mem ((c.tc : Thread Cert.DeltaRefIdeal.nD Cert.DeltaRefIdeal.τ).loc Cert.DeltaRefIdeal.main_arg0) = m' ((c.tc : Thread Cert.DeltaRefIdeal.nD Cert.DeltaRefIdeal.τ).loc Cert.DeltaRefIdeal.main_arg0)
          ∧ r.2.mem ((c.tc : Thread Cert.DeltaRefIdeal.nD Cert.DeltaRefIdeal.τ).loc Cert.DeltaRefIdeal.main_arg1) = m' ((c.tc : Thread Cert.DeltaRefIdeal.nD Cert.DeltaRefIdeal.τ).loc Cert.DeltaRefIdeal.main_arg1)
          ∧ r.2.mem ((c.tc : Thread Cert.DeltaRefIdeal.nD Cert.DeltaRefIdeal.τ).loc Cert.DeltaRefIdeal.main_arg2) = m' ((c.tc : Thread Cert.DeltaRefIdeal.nD Cert.DeltaRefIdeal.τ).loc Cert.DeltaRefIdeal.main_arg2)
          ∧ r.2.mem ((c.tc : Thread Cert.DeltaRefIdeal.nD Cert.DeltaRefIdeal.τ).loc Cert.DeltaRefIdeal.main_arg3) = m' ((c.tc : Thread Cert.DeltaRefIdeal.nD Cert.DeltaRefIdeal.τ).loc Cert.DeltaRefIdeal.main_arg3))

def preserves_ColsFwd_ColsFwdIdeal : Prop :=
  True

def algebraic_ColsFwdIdeal_ColsFwdRefIdeal [hColsFwdIdeal : Cert.ColsFwdIdeal.Facts] [hColsFwdRefIdeal : Cert.ColsFwdRefIdeal.Facts] : Prop :=
  ∀ (m : (ℓ : Loc Cert.ColsFwdIdeal.nD Cert.ColsFwdIdeal.τ Cert.ColsFwdIdeal.sig) → Buf (Elt Ideal) ℓ) (g : Dev Cert.ColsFwdIdeal.nD → PrngReg)
    (m' : (ℓ : Loc Cert.ColsFwdRefIdeal.nD Cert.ColsFwdRefIdeal.τ Cert.ColsFwdRefIdeal.sig) → Buf (Elt Ideal) ℓ) (g' : Dev Cert.ColsFwdRefIdeal.nD → PrngReg), Pre_ColsFwdIdeal m →
    (∀ c : Dev Cert.ColsFwdIdeal.nD,
      m' ((c.tc : Thread Cert.ColsFwdRefIdeal.nD Cert.ColsFwdRefIdeal.τ).loc Cert.ColsFwdRefIdeal.main_arg0) = m ((c.tc : Thread Cert.ColsFwdIdeal.nD Cert.ColsFwdIdeal.τ).loc Cert.ColsFwdIdeal.main_arg0)
      ∧ m' ((c.tc : Thread Cert.ColsFwdRefIdeal.nD Cert.ColsFwdRefIdeal.τ).loc Cert.ColsFwdRefIdeal.main_arg1) = m ((c.tc : Thread Cert.ColsFwdIdeal.nD Cert.ColsFwdIdeal.τ).loc Cert.ColsFwdIdeal.main_arg1)) →
    ∃ (v0 : (c : Dev Cert.ColsFwdIdeal.nD) → Buf (Elt Ideal) ((c.tc : Thread Cert.ColsFwdIdeal.nD Cert.ColsFwdIdeal.τ).loc Cert.ColsFwdIdeal.main_v3)),
      θ_run (Cert.ColsFwdIdeal.defs (F := Ideal)) (onTc (τ := Cert.ColsFwdIdeal.τ) (Cert.ColsFwdIdeal.main (F := Ideal))) ⟨m, fun _ => 0, g⟩ (fun r => ∀ c : Dev Cert.ColsFwdIdeal.nD,
          r.2.mem ((c.tc : Thread Cert.ColsFwdIdeal.nD Cert.ColsFwdIdeal.τ).loc Cert.ColsFwdIdeal.main_v3) = v0 c
          ∧ r.2.mem ((c.tc : Thread Cert.ColsFwdIdeal.nD Cert.ColsFwdIdeal.τ).loc Cert.ColsFwdIdeal.main_arg0) = m ((c.tc : Thread Cert.ColsFwdIdeal.nD Cert.ColsFwdIdeal.τ).loc Cert.ColsFwdIdeal.main_arg0)
          ∧ r.2.mem ((c.tc : Thread Cert.ColsFwdIdeal.nD Cert.ColsFwdIdeal.τ).loc Cert.ColsFwdIdeal.main_arg1) = m ((c.tc : Thread Cert.ColsFwdIdeal.nD Cert.ColsFwdIdeal.τ).loc Cert.ColsFwdIdeal.main_arg1))
      ∧ θ_run (Cert.ColsFwdRefIdeal.defs (F := Ideal)) (onTc (τ := Cert.ColsFwdRefIdeal.τ) (Cert.ColsFwdRefIdeal.main (F := Ideal))) ⟨m', fun _ => 0, g'⟩ (fun r => ∀ c : Dev Cert.ColsFwdRefIdeal.nD,
          r.2.mem ((c.tc : Thread Cert.ColsFwdRefIdeal.nD Cert.ColsFwdRefIdeal.τ).loc Cert.ColsFwdRefIdeal.main_v1) = v0 c
          ∧ r.2.mem ((c.tc : Thread Cert.ColsFwdRefIdeal.nD Cert.ColsFwdRefIdeal.τ).loc Cert.ColsFwdRefIdeal.main_arg0) = m' ((c.tc : Thread Cert.ColsFwdRefIdeal.nD Cert.ColsFwdRefIdeal.τ).loc Cert.ColsFwdRefIdeal.main_arg0)
          ∧ r.2.mem ((c.tc : Thread Cert.ColsFwdRefIdeal.nD Cert.ColsFwdRefIdeal.τ).loc Cert.ColsFwdRefIdeal.main_arg1) = m' ((c.tc : Thread Cert.ColsFwdRefIdeal.nD Cert.ColsFwdRefIdeal.τ).loc Cert.ColsFwdRefIdeal.main_arg1))

def preserves_Matmul_MatmulIdeal : Prop :=
  True

def algebraic_MatmulIdeal_MatmulRefIdeal [hMatmulIdeal : Cert.MatmulIdeal.Facts] [hMatmulRefIdeal : Cert.MatmulRefIdeal.Facts] : Prop :=
  ∀ (m : (ℓ : Loc Cert.MatmulIdeal.nD Cert.MatmulIdeal.τ Cert.MatmulIdeal.sig) → Buf (Elt Ideal) ℓ) (g : Dev Cert.MatmulIdeal.nD → PrngReg)
    (m' : (ℓ : Loc Cert.MatmulRefIdeal.nD Cert.MatmulRefIdeal.τ Cert.MatmulRefIdeal.sig) → Buf (Elt Ideal) ℓ) (g' : Dev Cert.MatmulRefIdeal.nD → PrngReg), Pre_MatmulIdeal m →
    (∀ c : Dev Cert.MatmulIdeal.nD,
      m' ((c.tc : Thread Cert.MatmulRefIdeal.nD Cert.MatmulRefIdeal.τ).loc Cert.MatmulRefIdeal.main_arg0) = m ((c.tc : Thread Cert.MatmulIdeal.nD Cert.MatmulIdeal.τ).loc Cert.MatmulIdeal.main_arg0)
      ∧ m' ((c.tc : Thread Cert.MatmulRefIdeal.nD Cert.MatmulRefIdeal.τ).loc Cert.MatmulRefIdeal.main_arg1) = m ((c.tc : Thread Cert.MatmulIdeal.nD Cert.MatmulIdeal.τ).loc Cert.MatmulIdeal.main_arg1)) →
    ∃ (v0 : (c : Dev Cert.MatmulIdeal.nD) → Buf (Elt Ideal) ((c.tc : Thread Cert.MatmulIdeal.nD Cert.MatmulIdeal.τ).loc Cert.MatmulIdeal.main_v0)),
      θ_run (Cert.MatmulIdeal.defs (F := Ideal)) (onTc (τ := Cert.MatmulIdeal.τ) (Cert.MatmulIdeal.main (F := Ideal))) ⟨m, fun _ => 0, g⟩ (fun r => ∀ c : Dev Cert.MatmulIdeal.nD,
          r.2.mem ((c.tc : Thread Cert.MatmulIdeal.nD Cert.MatmulIdeal.τ).loc Cert.MatmulIdeal.main_v0) = v0 c
          ∧ r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
          ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1))
      ∧ θ_run (Cert.MatmulRefIdeal.defs (F := Ideal)) (onTc (τ := Cert.MatmulRefIdeal.τ) (Cert.MatmulRefIdeal.main (F := Ideal))) ⟨m', fun _ => 0, g'⟩ (fun r => ∀ c : Dev Cert.MatmulRefIdeal.nD,
          r.2.mem ((c.tc : Thread Cert.MatmulRefIdeal.nD Cert.MatmulRefIdeal.τ).loc Cert.MatmulRefIdeal.main_v6) = v0 c
          ∧ r.2.mem ((c.tc : Thread Cert.MatmulRefIdeal.nD Cert.MatmulRefIdeal.τ).loc Cert.MatmulRefIdeal.main_arg0) = m' ((c.tc : Thread Cert.MatmulRefIdeal.nD Cert.MatmulRefIdeal.τ).loc Cert.MatmulRefIdeal.main_arg0)
          ∧ r.2.mem ((c.tc : Thread Cert.MatmulRefIdeal.nD Cert.MatmulRefIdeal.τ).loc Cert.MatmulRefIdeal.main_arg1) = m' ((c.tc : Thread Cert.MatmulRefIdeal.nD Cert.MatmulRefIdeal.τ).loc Cert.MatmulRefIdeal.main_arg1))

def preserves_ColsDgrad_ColsDgradIdeal : Prop :=
  True

def algebraic_ColsDgradIdeal_ColsDgradRefIdeal [hColsDgradIdeal : Cert.ColsDgradIdeal.Facts] [hColsDgradRefIdeal : Cert.ColsDgradRefIdeal.Facts] : Prop :=
  ∀ (m : (ℓ : Loc Cert.ColsDgradIdeal.nD Cert.ColsDgradIdeal.τ Cert.ColsDgradIdeal.sig) → Buf (Elt Ideal) ℓ) (g : Dev Cert.ColsDgradIdeal.nD → PrngReg)
    (m' : (ℓ : Loc Cert.ColsDgradRefIdeal.nD Cert.ColsDgradRefIdeal.τ Cert.ColsDgradRefIdeal.sig) → Buf (Elt Ideal) ℓ) (g' : Dev Cert.ColsDgradRefIdeal.nD → PrngReg), Pre_ColsDgradIdeal m →
    (∀ c : Dev Cert.ColsDgradIdeal.nD,
      m' ((c.tc : Thread Cert.ColsDgradRefIdeal.nD Cert.ColsDgradRefIdeal.τ).loc Cert.ColsDgradRefIdeal.main_arg0) = m ((c.tc : Thread Cert.ColsDgradIdeal.nD Cert.ColsDgradIdeal.τ).loc Cert.ColsDgradIdeal.main_arg0)
      ∧ m' ((c.tc : Thread Cert.ColsDgradRefIdeal.nD Cert.ColsDgradRefIdeal.τ).loc Cert.ColsDgradRefIdeal.main_arg1) = m ((c.tc : Thread Cert.ColsDgradIdeal.nD Cert.ColsDgradIdeal.τ).loc Cert.ColsDgradIdeal.main_arg1)
      ∧ m' ((c.tc : Thread Cert.ColsDgradRefIdeal.nD Cert.ColsDgradRefIdeal.τ).loc Cert.ColsDgradRefIdeal.main_arg2) = m ((c.tc : Thread Cert.ColsDgradIdeal.nD Cert.ColsDgradIdeal.τ).loc Cert.ColsDgradIdeal.main_arg2)) →
    ∃ (v0 : (c : Dev Cert.ColsDgradIdeal.nD) → Buf (Elt Ideal) ((c.tc : Thread Cert.ColsDgradIdeal.nD Cert.ColsDgradIdeal.τ).loc Cert.ColsDgradIdeal.main_v3)),
      θ_run (Cert.ColsDgradIdeal.defs (F := Ideal)) (onTc (τ := Cert.ColsDgradIdeal.τ) (Cert.ColsDgradIdeal.main (F := Ideal))) ⟨m, fun _ => 0, g⟩ (fun r => ∀ c : Dev Cert.ColsDgradIdeal.nD,
          r.2.mem ((c.tc : Thread Cert.ColsDgradIdeal.nD Cert.ColsDgradIdeal.τ).loc Cert.ColsDgradIdeal.main_v3) = v0 c
          ∧ r.2.mem ((c.tc : Thread Cert.ColsDgradIdeal.nD Cert.ColsDgradIdeal.τ).loc Cert.ColsDgradIdeal.main_arg0) = m ((c.tc : Thread Cert.ColsDgradIdeal.nD Cert.ColsDgradIdeal.τ).loc Cert.ColsDgradIdeal.main_arg0)
          ∧ r.2.mem ((c.tc : Thread Cert.ColsDgradIdeal.nD Cert.ColsDgradIdeal.τ).loc Cert.ColsDgradIdeal.main_arg1) = m ((c.tc : Thread Cert.ColsDgradIdeal.nD Cert.ColsDgradIdeal.τ).loc Cert.ColsDgradIdeal.main_arg1)
          ∧ r.2.mem ((c.tc : Thread Cert.ColsDgradIdeal.nD Cert.ColsDgradIdeal.τ).loc Cert.ColsDgradIdeal.main_arg2) = m ((c.tc : Thread Cert.ColsDgradIdeal.nD Cert.ColsDgradIdeal.τ).loc Cert.ColsDgradIdeal.main_arg2))
      ∧ θ_run (Cert.ColsDgradRefIdeal.defs (F := Ideal)) (onTc (τ := Cert.ColsDgradRefIdeal.τ) (Cert.ColsDgradRefIdeal.main (F := Ideal))) ⟨m', fun _ => 0, g'⟩ (fun r => ∀ c : Dev Cert.ColsDgradRefIdeal.nD,
          r.2.mem ((c.tc : Thread Cert.ColsDgradRefIdeal.nD Cert.ColsDgradRefIdeal.τ).loc Cert.ColsDgradRefIdeal.main_v4) = v0 c
          ∧ r.2.mem ((c.tc : Thread Cert.ColsDgradRefIdeal.nD Cert.ColsDgradRefIdeal.τ).loc Cert.ColsDgradRefIdeal.main_arg0) = m' ((c.tc : Thread Cert.ColsDgradRefIdeal.nD Cert.ColsDgradRefIdeal.τ).loc Cert.ColsDgradRefIdeal.main_arg0)
          ∧ r.2.mem ((c.tc : Thread Cert.ColsDgradRefIdeal.nD Cert.ColsDgradRefIdeal.τ).loc Cert.ColsDgradRefIdeal.main_arg1) = m' ((c.tc : Thread Cert.ColsDgradRefIdeal.nD Cert.ColsDgradRefIdeal.τ).loc Cert.ColsDgradRefIdeal.main_arg1)
          ∧ r.2.mem ((c.tc : Thread Cert.ColsDgradRefIdeal.nD Cert.ColsDgradRefIdeal.τ).loc Cert.ColsDgradRefIdeal.main_arg2) = m' ((c.tc : Thread Cert.ColsDgradRefIdeal.nD Cert.ColsDgradRefIdeal.τ).loc Cert.ColsDgradRefIdeal.main_arg2))

def preserves_ColsWgrad_ColsWgradIdeal : Prop :=
  True

def algebraic_ColsWgradIdeal_ColsWgradRefIdeal [hColsWgradIdeal : Cert.ColsWgradIdeal.Facts] [hColsWgradRefIdeal : Cert.ColsWgradRefIdeal.Facts] : Prop :=
  ∀ (m : (ℓ : Loc Cert.ColsWgradIdeal.nD Cert.ColsWgradIdeal.τ Cert.ColsWgradIdeal.sig) → Buf (Elt Ideal) ℓ) (g : Dev Cert.ColsWgradIdeal.nD → PrngReg)
    (m' : (ℓ : Loc Cert.ColsWgradRefIdeal.nD Cert.ColsWgradRefIdeal.τ Cert.ColsWgradRefIdeal.sig) → Buf (Elt Ideal) ℓ) (g' : Dev Cert.ColsWgradRefIdeal.nD → PrngReg), Pre_ColsWgradIdeal m →
    (∀ c : Dev Cert.ColsWgradIdeal.nD,
      m' ((c.tc : Thread Cert.ColsWgradRefIdeal.nD Cert.ColsWgradRefIdeal.τ).loc Cert.ColsWgradRefIdeal.main_arg0) = m ((c.tc : Thread Cert.ColsWgradIdeal.nD Cert.ColsWgradIdeal.τ).loc Cert.ColsWgradIdeal.main_arg0)
      ∧ m' ((c.tc : Thread Cert.ColsWgradRefIdeal.nD Cert.ColsWgradRefIdeal.τ).loc Cert.ColsWgradRefIdeal.main_arg1) = m ((c.tc : Thread Cert.ColsWgradIdeal.nD Cert.ColsWgradIdeal.τ).loc Cert.ColsWgradIdeal.main_arg1)
      ∧ m' ((c.tc : Thread Cert.ColsWgradRefIdeal.nD Cert.ColsWgradRefIdeal.τ).loc Cert.ColsWgradRefIdeal.main_arg2) = m ((c.tc : Thread Cert.ColsWgradIdeal.nD Cert.ColsWgradIdeal.τ).loc Cert.ColsWgradIdeal.main_arg2)) →
    ∃ (v0 : (c : Dev Cert.ColsWgradIdeal.nD) → Buf (Elt Ideal) ((c.tc : Thread Cert.ColsWgradIdeal.nD Cert.ColsWgradIdeal.τ).loc Cert.ColsWgradIdeal.main_v0)),
      θ_run (Cert.ColsWgradIdeal.defs (F := Ideal)) (onTc (τ := Cert.ColsWgradIdeal.τ) (Cert.ColsWgradIdeal.main (F := Ideal))) ⟨m, fun _ => 0, g⟩ (fun r => ∀ c : Dev Cert.ColsWgradIdeal.nD,
          r.2.mem ((c.tc : Thread Cert.ColsWgradIdeal.nD Cert.ColsWgradIdeal.τ).loc Cert.ColsWgradIdeal.main_v0) = v0 c
          ∧ r.2.mem ((c.tc : Thread Cert.ColsWgradIdeal.nD Cert.ColsWgradIdeal.τ).loc Cert.ColsWgradIdeal.main_arg0) = m ((c.tc : Thread Cert.ColsWgradIdeal.nD Cert.ColsWgradIdeal.τ).loc Cert.ColsWgradIdeal.main_arg0)
          ∧ r.2.mem ((c.tc : Thread Cert.ColsWgradIdeal.nD Cert.ColsWgradIdeal.τ).loc Cert.ColsWgradIdeal.main_arg1) = m ((c.tc : Thread Cert.ColsWgradIdeal.nD Cert.ColsWgradIdeal.τ).loc Cert.ColsWgradIdeal.main_arg1)
          ∧ r.2.mem ((c.tc : Thread Cert.ColsWgradIdeal.nD Cert.ColsWgradIdeal.τ).loc Cert.ColsWgradIdeal.main_arg2) = m ((c.tc : Thread Cert.ColsWgradIdeal.nD Cert.ColsWgradIdeal.τ).loc Cert.ColsWgradIdeal.main_arg2))
      ∧ θ_run (Cert.ColsWgradRefIdeal.defs (F := Ideal)) (onTc (τ := Cert.ColsWgradRefIdeal.τ) (Cert.ColsWgradRefIdeal.main (F := Ideal))) ⟨m', fun _ => 0, g'⟩ (fun r => ∀ c : Dev Cert.ColsWgradRefIdeal.nD,
          r.2.mem ((c.tc : Thread Cert.ColsWgradRefIdeal.nD Cert.ColsWgradRefIdeal.τ).loc Cert.ColsWgradRefIdeal.main_v9) = v0 c
          ∧ r.2.mem ((c.tc : Thread Cert.ColsWgradRefIdeal.nD Cert.ColsWgradRefIdeal.τ).loc Cert.ColsWgradRefIdeal.main_arg0) = m' ((c.tc : Thread Cert.ColsWgradRefIdeal.nD Cert.ColsWgradRefIdeal.τ).loc Cert.ColsWgradRefIdeal.main_arg0)
          ∧ r.2.mem ((c.tc : Thread Cert.ColsWgradRefIdeal.nD Cert.ColsWgradRefIdeal.τ).loc Cert.ColsWgradRefIdeal.main_arg1) = m' ((c.tc : Thread Cert.ColsWgradRefIdeal.nD Cert.ColsWgradRefIdeal.τ).loc Cert.ColsWgradRefIdeal.main_arg1)
          ∧ r.2.mem ((c.tc : Thread Cert.ColsWgradRefIdeal.nD Cert.ColsWgradRefIdeal.τ).loc Cert.ColsWgradRefIdeal.main_arg2) = m' ((c.tc : Thread Cert.ColsWgradRefIdeal.nD Cert.ColsWgradRefIdeal.τ).loc Cert.ColsWgradRefIdeal.main_arg2))

def preserves_Shard_ShardIdeal : Prop :=
  True

def algebraic_ShardIdeal_ShardRefIdeal_on_shard_mask [hShardIdeal : Cert.ShardIdeal.Facts] [hShardRefIdeal : Cert.ShardRefIdeal.Facts] [hOn_shard_mask : Cert.On_shard_mask.Facts] : Prop :=
  ∀ (m : (ℓ : Loc Cert.ShardIdeal.nD Cert.ShardIdeal.τ Cert.ShardIdeal.sig) → Buf (Elt Ideal) ℓ) (g : Dev Cert.ShardIdeal.nD → PrngReg)
    (m' : (ℓ : Loc Cert.ShardRefIdeal.nD Cert.ShardRefIdeal.τ Cert.ShardRefIdeal.sig) → Buf (Elt Ideal) ℓ) (g' : Dev Cert.ShardRefIdeal.nD → PrngReg), Pre_ShardIdeal m →
    (∀ c : Dev Cert.ShardIdeal.nD,
      m' ((c.tc : Thread Cert.ShardRefIdeal.nD Cert.ShardRefIdeal.τ).loc Cert.ShardRefIdeal.main_arg0) = m ((c.tc : Thread Cert.ShardIdeal.nD Cert.ShardIdeal.τ).loc Cert.ShardIdeal.main_arg0)) →
    ∃ (v0 : (c : Dev Cert.ShardIdeal.nD) → Buf (Elt Ideal) ((c.tc : Thread Cert.ShardIdeal.nD Cert.ShardIdeal.τ).loc Cert.ShardIdeal.main_v0)),
      θ_run (Cert.ShardIdeal.defs (F := Ideal)) (onTc (τ := Cert.ShardIdeal.τ) (Cert.ShardIdeal.main (F := Ideal))) ⟨m, fun _ => 0, g⟩ (fun r => ∀ c : Dev Cert.ShardIdeal.nD,
          (∀ i : (⟨3, ![8, 2048, 1408]⟩ : Shape).Idx, (Cert.On_shard_mask.fn (F := Ideal) (m ((c.tc : Thread Cert.ShardIdeal.nD Cert.ShardIdeal.τ).loc Cert.ShardIdeal.main_arg0))) i = 1#1 → r.2.mem ((c.tc : Thread Cert.ShardIdeal.nD Cert.ShardIdeal.τ).loc Cert.ShardIdeal.main_v0) i = v0 c i)
          ∧ r.2.mem ((c.tc : Thread Cert.ShardIdeal.nD Cert.ShardIdeal.τ).loc Cert.ShardIdeal.main_arg0) = m ((c.tc : Thread Cert.ShardIdeal.nD Cert.ShardIdeal.τ).loc Cert.ShardIdeal.main_arg0))
      ∧ θ_run (Cert.ShardRefIdeal.defs (F := Ideal)) (onTc (τ := Cert.ShardRefIdeal.τ) (Cert.ShardRefIdeal.main (F := Ideal))) ⟨m', fun _ => 0, g'⟩ (fun r => ∀ c : Dev Cert.ShardRefIdeal.nD,
          (∀ i : (⟨3, ![8, 2048, 1408]⟩ : Shape).Idx, (Cert.On_shard_mask.fn (F := Ideal) (m ((c.tc : Thread Cert.ShardIdeal.nD Cert.ShardIdeal.τ).loc Cert.ShardIdeal.main_arg0))) i = 1#1 → r.2.mem ((c.tc : Thread Cert.ShardRefIdeal.nD Cert.ShardRefIdeal.τ).loc Cert.ShardRefIdeal.main_v3) i = v0 c i)
          ∧ r.2.mem ((c.tc : Thread Cert.ShardRefIdeal.nD Cert.ShardRefIdeal.τ).loc Cert.ShardRefIdeal.main_arg0) = m' ((c.tc : Thread Cert.ShardRefIdeal.nD Cert.ShardRefIdeal.τ).loc Cert.ShardRefIdeal.main_arg0))

def preserves_Adamw_AdamwIdeal : Prop :=
  IdealRules.named_const.Statement Cert.AdamwIdeal.κ "c1" .f32 0x3FC48605#32 (((5463681 / 8388608)⁻¹ : ℝ) : EReal)
  ∧ IdealRules.named_const.Statement Cert.AdamwIdeal.κ "c2" .f32 0x42C8E6D3#32 (((2672307 / 268435456)⁻¹ : ℝ) : EReal)

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)
      ∧ m' ((c.tc : Thread Cert.AdamwRefIdeal.nD Cert.AdamwRefIdeal.τ).loc Cert.AdamwRefIdeal.main_arg4) = m ((c.tc : Thread Cert.AdamwIdeal.nD Cert.AdamwIdeal.τ).loc Cert.AdamwIdeal.main_arg4)
      ∧ m' ((c.tc : Thread Cert.AdamwRefIdeal.nD Cert.AdamwRefIdeal.τ).loc Cert.AdamwRefIdeal.main_arg5) = m ((c.tc : Thread Cert.AdamwIdeal.nD Cert.AdamwIdeal.τ).loc Cert.AdamwIdeal.main_arg5)
      ∧ m' ((c.tc : Thread Cert.AdamwRefIdeal.nD Cert.AdamwRefIdeal.τ).loc Cert.AdamwRefIdeal.main_arg6) = m ((c.tc : Thread Cert.AdamwIdeal.nD Cert.AdamwIdeal.τ).loc Cert.AdamwIdeal.main_arg6)
      ∧ m' ((c.tc : Thread Cert.AdamwRefIdeal.nD Cert.AdamwRefIdeal.τ).loc Cert.AdamwRefIdeal.main_arg7) = m ((c.tc : Thread Cert.AdamwIdeal.nD Cert.AdamwIdeal.τ).loc Cert.AdamwIdeal.main_arg7)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
          ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
          ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5)
          ∧ r.2.mem ((c.tc : Thread Cert.AdamwIdeal.nD Cert.AdamwIdeal.τ).loc Cert.AdamwIdeal.main_arg6) = m ((c.tc : Thread Cert.AdamwIdeal.nD Cert.AdamwIdeal.τ).loc Cert.AdamwIdeal.main_arg6)
          ∧ r.2.mem ((c.tc : Thread Cert.AdamwIdeal.nD Cert.AdamwIdeal.τ).loc Cert.AdamwIdeal.main_arg7) = m ((c.tc : Thread Cert.AdamwIdeal.nD Cert.AdamwIdeal.τ).loc Cert.AdamwIdeal.main_arg7))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v35) = v0 c
          ∧ r.2.mem ((c.tc : Thread Cert.AdamwRefIdeal.nD Cert.AdamwRefIdeal.τ).loc Cert.AdamwRefIdeal.main_v39) = v1 c
          ∧ r.2.mem ((c.tc : Thread Cert.AdamwRefIdeal.nD Cert.AdamwRefIdeal.τ).loc Cert.AdamwRefIdeal.main_v43) = v2 c
          ∧ r.2.mem ((c.tc : Thread Cert.AdamwRefIdeal.nD Cert.AdamwRefIdeal.τ).loc Cert.AdamwRefIdeal.main_v47) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3)
          ∧ r.2.mem ((c.tc : Thread Cert.AdamwRefIdeal.nD Cert.AdamwRefIdeal.τ).loc Cert.AdamwRefIdeal.main_arg4) = m' ((c.tc : Thread Cert.AdamwRefIdeal.nD Cert.AdamwRefIdeal.τ).loc Cert.AdamwRefIdeal.main_arg4)
          ∧ r.2.mem ((c.tc : Thread Cert.AdamwRefIdeal.nD Cert.AdamwRefIdeal.τ).loc Cert.AdamwRefIdeal.main_arg5) = m' ((c.tc : Thread Cert.AdamwRefIdeal.nD Cert.AdamwRefIdeal.τ).loc Cert.AdamwRefIdeal.main_arg5)
          ∧ r.2.mem ((c.tc : Thread Cert.AdamwRefIdeal.nD Cert.AdamwRefIdeal.τ).loc Cert.AdamwRefIdeal.main_arg6) = m' ((c.tc : Thread Cert.AdamwRefIdeal.nD Cert.AdamwRefIdeal.τ).loc Cert.AdamwRefIdeal.main_arg6)
          ∧ r.2.mem ((c.tc : Thread Cert.AdamwRefIdeal.nD Cert.AdamwRefIdeal.τ).loc Cert.AdamwRefIdeal.main_arg7) = m' ((c.tc : Thread Cert.AdamwRefIdeal.nD Cert.AdamwRefIdeal.τ).loc Cert.AdamwRefIdeal.main_arg7))

def preserves_PairSum_PairSumIdeal : Prop :=
  True

def algebraic_PairSumIdeal_PairSumRefIdeal_on_pair_mask [hPairSumIdeal : Cert.PairSumIdeal.Facts] [hPairSumRefIdeal : Cert.PairSumRefIdeal.Facts] [hOn_pair_mask : Cert.On_pair_mask.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m' ((c.tc : Thread Cert.PairSumRefIdeal.nD Cert.PairSumRefIdeal.τ).loc Cert.PairSumRefIdeal.main_arg0) = m ((c.tc : Thread Cert.PairSumIdeal.nD Cert.PairSumIdeal.τ).loc Cert.PairSumIdeal.main_arg0)
      ∧ m' ((c.tc : Thread Cert.PairSumRefIdeal.nD Cert.PairSumRefIdeal.τ).loc Cert.PairSumRefIdeal.main_arg1) = m ((c.tc : Thread Cert.PairSumIdeal.nD Cert.PairSumIdeal.τ).loc Cert.PairSumIdeal.main_arg1)) →
    ∃ (v0 : (c : Dev Cert.PairSumIdeal.nD) → Buf (Elt Ideal) ((c.tc : Thread Cert.PairSumIdeal.nD Cert.PairSumIdeal.τ).loc Cert.PairSumIdeal.main_v0_0)) (v1 : (c : Dev Cert.PairSumIdeal.nD) → Buf (Elt Ideal) ((c.tc : Thread Cert.PairSumIdeal.nD Cert.PairSumIdeal.τ).loc Cert.PairSumIdeal.main_v0_1)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          (∀ i : (⟨3, ![4, 2048, 1408]⟩ : Shape).Idx, (Cert.On_pair_mask.fn (F := Ideal) (m ((c.tc : Thread Cert.PairSumIdeal.nD Cert.PairSumIdeal.τ).loc Cert.PairSumIdeal.main_arg0)) (m ((c.tc : Thread Cert.PairSumIdeal.nD Cert.PairSumIdeal.τ).loc Cert.PairSumIdeal.main_arg1))).1 i = 1#1 → r.2.mem ((c.tc : Thread Cert.PairSumIdeal.nD Cert.PairSumIdeal.τ).loc Cert.PairSumIdeal.main_v0_0) i = v0 c i)
          ∧ (∀ i : (⟨3, ![4, 2048, 1408]⟩ : Shape).Idx, (Cert.On_pair_mask.fn (F := Ideal) (m ((c.tc : Thread Cert.PairSumIdeal.nD Cert.PairSumIdeal.τ).loc Cert.PairSumIdeal.main_arg0)) (m ((c.tc : Thread Cert.PairSumIdeal.nD Cert.PairSumIdeal.τ).loc Cert.PairSumIdeal.main_arg1))).2 i = 1#1 → r.2.mem ((c.tc : Thread Cert.PairSumIdeal.nD Cert.PairSumIdeal.τ).loc Cert.PairSumIdeal.main_v0_1) i = v1 c i)
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ θ_run (Cert.PairSumRefIdeal.defs (F := Ideal)) (onTc (τ := Cert.PairSumRefIdeal.τ) (Cert.PairSumRefIdeal.main (F := Ideal))) ⟨m', fun _ => 0, g'⟩ (fun r => ∀ c : Dev Cert.PairSumRefIdeal.nD,
          (∀ i : (⟨3, ![4, 2048, 1408]⟩ : Shape).Idx, (Cert.On_pair_mask.fn (F := Ideal) (m ((c.tc : Thread Cert.PairSumIdeal.nD Cert.PairSumIdeal.τ).loc Cert.PairSumIdeal.main_arg0)) (m ((c.tc : Thread Cert.PairSumIdeal.nD Cert.PairSumIdeal.τ).loc Cert.PairSumIdeal.main_arg1))).1 i = 1#1 → r.2.mem ((c.tc : Thread Cert.PairSumRefIdeal.nD Cert.PairSumRefIdeal.τ).loc Cert.PairSumRefIdeal.main_v6) i = v0 c i)
          ∧ (∀ i : (⟨3, ![4, 2048, 1408]⟩ : Shape).Idx, (Cert.On_pair_mask.fn (F := Ideal) (m ((c.tc : Thread Cert.PairSumIdeal.nD Cert.PairSumIdeal.τ).loc Cert.PairSumIdeal.main_arg0)) (m ((c.tc : Thread Cert.PairSumIdeal.nD Cert.PairSumIdeal.τ).loc Cert.PairSumIdeal.main_arg1))).2 i = 1#1 → r.2.mem ((c.tc : Thread Cert.PairSumRefIdeal.nD Cert.PairSumRefIdeal.τ).loc Cert.PairSumRefIdeal.main_v6) i = v1 c i)
          ∧ r.2.mem ((c.tc : Thread Cert.PairSumRefIdeal.nD Cert.PairSumRefIdeal.τ).loc Cert.PairSumRefIdeal.main_arg0) = m' ((c.tc : Thread Cert.PairSumRefIdeal.nD Cert.PairSumRefIdeal.τ).loc Cert.PairSumRefIdeal.main_arg0)
          ∧ r.2.mem ((c.tc : Thread Cert.PairSumRefIdeal.nD Cert.PairSumRefIdeal.τ).loc Cert.PairSumRefIdeal.main_arg1) = m' ((c.tc : Thread Cert.PairSumRefIdeal.nD Cert.PairSumRefIdeal.τ).loc Cert.PairSumRefIdeal.main_arg1))

def Claim : Prop :=
  ∃ (hMemKv : Cert.MemKv.Facts) (hMemKvIdeal : Cert.MemKvIdeal.Facts) (hMemKvRefIdeal : Cert.MemKvRefIdeal.Facts) (hRms : Cert.Rms.Facts) (hRmsIdeal : Cert.RmsIdeal.Facts) (hRmsRefIdeal : Cert.RmsRefIdeal.Facts) (hRmsGain : Cert.RmsGain.Facts) (hRmsGainIdeal : Cert.RmsGainIdeal.Facts) (hRmsGainRefIdeal : Cert.RmsGainRefIdeal.Facts) (hLoss : Cert.Loss.Facts) (hLossIdeal : Cert.LossIdeal.Facts) (hLossRefIdeal : Cert.LossRefIdeal.Facts) (hFfn : Cert.Ffn.Facts) (hFfnIdeal : Cert.FfnIdeal.Facts) (hFfnRefIdeal : Cert.FfnRefIdeal.Facts) (hFlash : Cert.Flash.Facts) (hFlashIdeal : Cert.FlashIdeal.Facts) (hFlashRefIdeal : Cert.FlashRefIdeal.Facts) (hMemAttn : Cert.MemAttn.Facts) (hMemAttnIdeal : Cert.MemAttnIdeal.Facts) (hMemAttnRefIdeal : Cert.MemAttnRefIdeal.Facts) (hPrep : Cert.Prep.Facts) (hPrepIdeal : Cert.PrepIdeal.Facts) (hPrepRefIdeal : Cert.PrepRefIdeal.Facts) (hFlashFwd : Cert.FlashFwd.Facts) (hFlashFwdIdeal : Cert.FlashFwdIdeal.Facts) (hFlashFwdRefIdeal : Cert.FlashFwdRefIdeal.Facts) (hGmlp : Cert.Gmlp.Facts) (hGmlpIdeal : Cert.GmlpIdeal.Facts) (hGmlpRefIdeal : Cert.GmlpRefIdeal.Facts) (hRmsFwd : Cert.RmsFwd.Facts) (hRmsFwdIdeal : Cert.RmsFwdIdeal.Facts) (hRmsFwdRefIdeal : Cert.RmsFwdRefIdeal.Facts) (hFfnUp : Cert.FfnUp.Facts) (hFfnUpIdeal : Cert.FfnUpIdeal.Facts) (hFfnUpRefIdeal : Cert.FfnUpRefIdeal.Facts) (hGmlpFwd : Cert.GmlpFwd.Facts) (hGmlpFwdIdeal : Cert.GmlpFwdIdeal.Facts) (hGmlpFwdRefIdeal : Cert.GmlpFwdRefIdeal.Facts) (hMemFwd : Cert.MemFwd.Facts) (hMemFwdIdeal : Cert.MemFwdIdeal.Facts) (hMemFwdRefIdeal : Cert.MemFwdRefIdeal.Facts) (hPrepFwd : Cert.PrepFwd.Facts) (hPrepFwdIdeal : Cert.PrepFwdIdeal.Facts) (hPrepFwdRefIdeal : Cert.PrepFwdRefIdeal.Facts) (hDelta : Cert.Delta.Facts) (hDeltaIdeal : Cert.DeltaIdeal.Facts) (hDeltaRefIdeal : Cert.DeltaRefIdeal.Facts) (hColsFwd : Cert.ColsFwd.Facts) (hColsFwdIdeal : Cert.ColsFwdIdeal.Facts) (hColsFwdRefIdeal : Cert.ColsFwdRefIdeal.Facts) (hMatmul : Cert.Matmul.Facts) (hMatmulIdeal : Cert.MatmulIdeal.Facts) (hMatmulRefIdeal : Cert.MatmulRefIdeal.Facts) (hColsDgrad : Cert.ColsDgrad.Facts) (hColsDgradIdeal : Cert.ColsDgradIdeal.Facts) (hColsDgradRefIdeal : Cert.ColsDgradRefIdeal.Facts) (hColsWgrad : Cert.ColsWgrad.Facts) (hColsWgradIdeal : Cert.ColsWgradIdeal.Facts) (hColsWgradRefIdeal : Cert.ColsWgradRefIdeal.Facts) (hShard : Cert.Shard.Facts) (hShardIdeal : Cert.ShardIdeal.Facts) (hShardRefIdeal : Cert.ShardRefIdeal.Facts) (hAdamw : Cert.Adamw.Facts) (hAdamwIdeal : Cert.AdamwIdeal.Facts) (hAdamwRefIdeal : Cert.AdamwRefIdeal.Facts) (hPairSum : Cert.PairSum.Facts) (hPairSumIdeal : Cert.PairSumIdeal.Facts) (hPairSumRefIdeal : Cert.PairSumRefIdeal.Facts) (hPre_finite_memkv : Cert.Pre_finite_memkv.Facts) (hPre_finite_rms : Cert.Pre_finite_rms.Facts) (hPre_finite_ffn : Cert.Pre_finite_ffn.Facts) (hPre_finite_flash : Cert.Pre_finite_flash.Facts) (hPre_finite_mem : Cert.Pre_finite_mem.Facts) (hPre_finite_prep : Cert.Pre_finite_prep.Facts) (hPre_finite_fwd : Cert.Pre_finite_fwd.Facts) (hPre_finite_gmlp : Cert.Pre_finite_gmlp.Facts) (hPre_finite_mfwd : Cert.Pre_finite_mfwd.Facts) (hOn_prep_mask : Cert.On_prep_mask.Facts) (hOn_fwd_mask : Cert.On_fwd_mask.Facts) (hOn_gmlp_mask : Cert.On_gmlp_mask.Facts) (hOn_gate_mask : Cert.On_gate_mask.Facts) (hOn_shard_mask : Cert.On_shard_mask.Facts) (hOn_pair_mask : Cert.On_pair_mask.Facts),
    quiescent_MemKv (hMemKv := hMemKv)
    ∧ quiescent_MemKvIdeal (hMemKvIdeal := hMemKvIdeal)
    ∧ quiescent_MemKvIdeal_pre_finite_memkv (hMemKvIdeal := hMemKvIdeal) (hPre_finite_memkv := hPre_finite_memkv)
    ∧ quiescent_MemKvRefIdeal (hMemKvRefIdeal := hMemKvRefIdeal)
    ∧ quiescent_MemKvRefIdeal_pre_finite_memkv (hMemKvRefIdeal := hMemKvRefIdeal) (hPre_finite_memkv := hPre_finite_memkv)
    ∧ quiescent_Rms (hRms := hRms)
    ∧ quiescent_RmsIdeal (hRmsIdeal := hRmsIdeal)
    ∧ quiescent_RmsIdeal_pre_finite_rms (hRmsIdeal := hRmsIdeal) (hPre_finite_rms := hPre_finite_rms)
    ∧ quiescent_RmsRefIdeal (hRmsRefIdeal := hRmsRefIdeal)
    ∧ quiescent_RmsRefIdeal_pre_finite_rms (hRmsRefIdeal := hRmsRefIdeal) (hPre_finite_rms := hPre_finite_rms)
    ∧ quiescent_RmsGain (hRmsGain := hRmsGain)
    ∧ quiescent_RmsGainIdeal (hRmsGainIdeal := hRmsGainIdeal)
    ∧ quiescent_RmsGainRefIdeal (hRmsGainRefIdeal := hRmsGainRefIdeal)
    ∧ quiescent_Loss (hLoss := hLoss)
    ∧ quiescent_LossIdeal (hLossIdeal := hLossIdeal)
    ∧ quiescent_LossRefIdeal (hLossRefIdeal := hLossRefIdeal)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Flash (hFlash := hFlash)
    ∧ quiescent_FlashIdeal (hFlashIdeal := hFlashIdeal)
    ∧ quiescent_FlashIdeal_pre_finite_flash (hFlashIdeal := hFlashIdeal) (hPre_finite_flash := hPre_finite_flash)
    ∧ quiescent_FlashRefIdeal (hFlashRefIdeal := hFlashRefIdeal)
    ∧ quiescent_FlashRefIdeal_pre_finite_flash (hFlashRefIdeal := hFlashRefIdeal) (hPre_finite_flash := hPre_finite_flash)
    ∧ quiescent_MemAttn (hMemAttn := hMemAttn)
    ∧ quiescent_MemAttnIdeal (hMemAttnIdeal := hMemAttnIdeal)
    ∧ quiescent_MemAttnIdeal_pre_finite_mem (hMemAttnIdeal := hMemAttnIdeal) (hPre_finite_mem := hPre_finite_mem)
    ∧ quiescent_MemAttnRefIdeal (hMemAttnRefIdeal := hMemAttnRefIdeal)
    ∧ quiescent_MemAttnRefIdeal_pre_finite_mem (hMemAttnRefIdeal := hMemAttnRefIdeal) (hPre_finite_mem := hPre_finite_mem)
    ∧ quiescent_Prep (hPrep := hPrep)
    ∧ quiescent_PrepIdeal (hPrepIdeal := hPrepIdeal)
    ∧ quiescent_PrepIdeal_pre_finite_prep (hPrepIdeal := hPrepIdeal) (hPre_finite_prep := hPre_finite_prep)
    ∧ quiescent_PrepRefIdeal (hPrepRefIdeal := hPrepRefIdeal)
    ∧ quiescent_PrepRefIdeal_pre_finite_prep (hPrepRefIdeal := hPrepRefIdeal) (hPre_finite_prep := hPre_finite_prep)
    ∧ quiescent_FlashFwd (hFlashFwd := hFlashFwd)
    ∧ quiescent_FlashFwdIdeal (hFlashFwdIdeal := hFlashFwdIdeal)
    ∧ quiescent_FlashFwdIdeal_pre_finite_fwd (hFlashFwdIdeal := hFlashFwdIdeal) (hPre_finite_fwd := hPre_finite_fwd)
    ∧ quiescent_FlashFwdRefIdeal (hFlashFwdRefIdeal := hFlashFwdRefIdeal)
    ∧ quiescent_FlashFwdRefIdeal_pre_finite_fwd (hFlashFwdRefIdeal := hFlashFwdRefIdeal) (hPre_finite_fwd := hPre_finite_fwd)
    ∧ quiescent_Gmlp (hGmlp := hGmlp)
    ∧ quiescent_GmlpIdeal (hGmlpIdeal := hGmlpIdeal)
    ∧ quiescent_GmlpIdeal_pre_finite_gmlp (hGmlpIdeal := hGmlpIdeal) (hPre_finite_gmlp := hPre_finite_gmlp)
    ∧ quiescent_GmlpRefIdeal (hGmlpRefIdeal := hGmlpRefIdeal)
    ∧ quiescent_GmlpRefIdeal_pre_finite_gmlp (hGmlpRefIdeal := hGmlpRefIdeal) (hPre_finite_gmlp := hPre_finite_gmlp)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_GmlpFwd (hGmlpFwd := hGmlpFwd)
    ∧ quiescent_GmlpFwdIdeal (hGmlpFwdIdeal := hGmlpFwdIdeal)
    ∧ quiescent_GmlpFwdRefIdeal (hGmlpFwdRefIdeal := hGmlpFwdRefIdeal)
    ∧ quiescent_MemFwd (hMemFwd := hMemFwd)
    ∧ quiescent_MemFwdIdeal (hMemFwdIdeal := hMemFwdIdeal)
    ∧ quiescent_MemFwdIdeal_pre_finite_mfwd (hMemFwdIdeal := hMemFwdIdeal) (hPre_finite_mfwd := hPre_finite_mfwd)
    ∧ quiescent_MemFwdRefIdeal (hMemFwdRefIdeal := hMemFwdRefIdeal)
    ∧ quiescent_MemFwdRefIdeal_pre_finite_mfwd (hMemFwdRefIdeal := hMemFwdRefIdeal) (hPre_finite_mfwd := hPre_finite_mfwd)
    ∧ quiescent_PrepFwd (hPrepFwd := hPrepFwd)
    ∧ quiescent_PrepFwdIdeal (hPrepFwdIdeal := hPrepFwdIdeal)
    ∧ quiescent_PrepFwdRefIdeal (hPrepFwdRefIdeal := hPrepFwdRefIdeal)
    ∧ quiescent_Delta (hDelta := hDelta)
    ∧ quiescent_DeltaIdeal (hDeltaIdeal := hDeltaIdeal)
    ∧ quiescent_DeltaRefIdeal (hDeltaRefIdeal := hDeltaRefIdeal)
    ∧ quiescent_ColsFwd (hColsFwd := hColsFwd)
    ∧ quiescent_ColsFwdIdeal (hColsFwdIdeal := hColsFwdIdeal)
    ∧ quiescent_ColsFwdRefIdeal (hColsFwdRefIdeal := hColsFwdRefIdeal)
    ∧ quiescent_Matmul (hMatmul := hMatmul)
    ∧ quiescent_MatmulIdeal (hMatmulIdeal := hMatmulIdeal)
    ∧ quiescent_MatmulRefIdeal (hMatmulRefIdeal := hMatmulRefIdeal)
    ∧ quiescent_ColsDgrad (hColsDgrad := hColsDgrad)
    ∧ quiescent_ColsDgradIdeal (hColsDgradIdeal := hColsDgradIdeal)
    ∧ quiescent_ColsDgradRefIdeal (hColsDgradRefIdeal := hColsDgradRefIdeal)
    ∧ quiescent_ColsWgrad (hColsWgrad := hColsWgrad)
    ∧ quiescent_ColsWgradIdeal (hColsWgradIdeal := hColsWgradIdeal)
    ∧ quiescent_ColsWgradRefIdeal (hColsWgradRefIdeal := hColsWgradRefIdeal)
    ∧ quiescent_Shard (hShard := hShard)
    ∧ quiescent_ShardIdeal (hShardIdeal := hShardIdeal)
    ∧ quiescent_ShardRefIdeal (hShardRefIdeal := hShardRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_PairSum (hPairSum := hPairSum)
    ∧ quiescent_PairSumIdeal (hPairSumIdeal := hPairSumIdeal)
    ∧ quiescent_PairSumRefIdeal (hPairSumRefIdeal := hPairSumRefIdeal)
    ∧ preserves_MemKv_MemKvIdeal
    ∧ algebraic_MemKvIdeal_MemKvRefIdeal_pre_finite_memkv (hMemKvIdeal := hMemKvIdeal) (hMemKvRefIdeal := hMemKvRefIdeal) (hPre_finite_memkv := hPre_finite_memkv)
    ∧ preserves_Rms_RmsIdeal
    ∧ algebraic_RmsIdeal_RmsRefIdeal_pre_finite_rms (hRmsIdeal := hRmsIdeal) (hRmsRefIdeal := hRmsRefIdeal) (hPre_finite_rms := hPre_finite_rms)
    ∧ preserves_RmsGain_RmsGainIdeal
    ∧ algebraic_RmsGainIdeal_RmsGainRefIdeal (hRmsGainIdeal := hRmsGainIdeal) (hRmsGainRefIdeal := hRmsGainRefIdeal)
    ∧ preserves_Loss_LossIdeal
    ∧ algebraic_LossIdeal_LossRefIdeal (hLossIdeal := hLossIdeal) (hLossRefIdeal := hLossRefIdeal)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Flash_FlashIdeal
    ∧ algebraic_FlashIdeal_FlashRefIdeal_pre_finite_flash (hFlashIdeal := hFlashIdeal) (hFlashRefIdeal := hFlashRefIdeal) (hPre_finite_flash := hPre_finite_flash)
    ∧ preserves_MemAttn_MemAttnIdeal
    ∧ algebraic_MemAttnIdeal_MemAttnRefIdeal_pre_finite_mem (hMemAttnIdeal := hMemAttnIdeal) (hMemAttnRefIdeal := hMemAttnRefIdeal) (hPre_finite_mem := hPre_finite_mem)
    ∧ preserves_Prep_PrepIdeal
    ∧ algebraic_PrepIdeal_PrepRefIdeal_on_prep_mask_pre_finite_prep (hPrepIdeal := hPrepIdeal) (hPrepRefIdeal := hPrepRefIdeal) (hPre_finite_prep := hPre_finite_prep) (hOn_prep_mask := hOn_prep_mask)
    ∧ preserves_FlashFwd_FlashFwdIdeal
    ∧ algebraic_FlashFwdIdeal_FlashFwdRefIdeal_on_fwd_mask_pre_finite_fwd (hFlashFwdIdeal := hFlashFwdIdeal) (hFlashFwdRefIdeal := hFlashFwdRefIdeal) (hPre_finite_fwd := hPre_finite_fwd) (hOn_fwd_mask := hOn_fwd_mask)
    ∧ preserves_Gmlp_GmlpIdeal
    ∧ algebraic_GmlpIdeal_GmlpRefIdeal_on_gmlp_mask_pre_finite_gmlp (hGmlpIdeal := hGmlpIdeal) (hGmlpRefIdeal := hGmlpRefIdeal) (hPre_finite_gmlp := hPre_finite_gmlp) (hOn_gmlp_mask := hOn_gmlp_mask)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_FfnUp_FfnUpIdeal
    ∧ algebraic_FfnUpIdeal_FfnUpRefIdeal (hFfnUpIdeal := hFfnUpIdeal) (hFfnUpRefIdeal := hFfnUpRefIdeal)
    ∧ preserves_GmlpFwd_GmlpFwdIdeal
    ∧ algebraic_GmlpFwdIdeal_GmlpFwdRefIdeal_on_gate_mask (hGmlpFwdIdeal := hGmlpFwdIdeal) (hGmlpFwdRefIdeal := hGmlpFwdRefIdeal) (hOn_gate_mask := hOn_gate_mask)
    ∧ preserves_MemFwd_MemFwdIdeal
    ∧ algebraic_MemFwdIdeal_MemFwdRefIdeal_pre_finite_mfwd (hMemFwdIdeal := hMemFwdIdeal) (hMemFwdRefIdeal := hMemFwdRefIdeal) (hPre_finite_mfwd := hPre_finite_mfwd)
    ∧ preserves_PrepFwd_PrepFwdIdeal
    ∧ algebraic_PrepFwdIdeal_PrepFwdRefIdeal (hPrepFwdIdeal := hPrepFwdIdeal) (hPrepFwdRefIdeal := hPrepFwdRefIdeal)
    ∧ preserves_Delta_DeltaIdeal
    ∧ algebraic_DeltaIdeal_DeltaRefIdeal (hDeltaIdeal := hDeltaIdeal) (hDeltaRefIdeal := hDeltaRefIdeal)
    ∧ preserves_ColsFwd_ColsFwdIdeal
    ∧ algebraic_ColsFwdIdeal_ColsFwdRefIdeal (hColsFwdIdeal := hColsFwdIdeal) (hColsFwdRefIdeal := hColsFwdRefIdeal)
    ∧ preserves_Matmul_MatmulIdeal
    ∧ algebraic_MatmulIdeal_MatmulRefIdeal (hMatmulIdeal := hMatmulIdeal) (hMatmulRefIdeal := hMatmulRefIdeal)
    ∧ preserves_ColsDgrad_ColsDgradIdeal
    ∧ algebraic_ColsDgradIdeal_ColsDgradRefIdeal (hColsDgradIdeal := hColsDgradIdeal) (hColsDgradRefIdeal := hColsDgradRefIdeal)
    ∧ preserves_ColsWgrad_ColsWgradIdeal
    ∧ algebraic_ColsWgradIdeal_ColsWgradRefIdeal (hColsWgradIdeal := hColsWgradIdeal) (hColsWgradRefIdeal := hColsWgradRefIdeal)
    ∧ preserves_Shard_ShardIdeal
    ∧ algebraic_ShardIdeal_ShardRefIdeal_on_shard_mask (hShardIdeal := hShardIdeal) (hShardRefIdeal := hShardRefIdeal) (hOn_shard_mask := hOn_shard_mask)
    ∧ preserves_Adamw_AdamwIdeal
    ∧ algebraic_AdamwIdeal_AdamwRefIdeal (hAdamwIdeal := hAdamwIdeal) (hAdamwRefIdeal := hAdamwRefIdeal)
    ∧ preserves_PairSum_PairSumIdeal
    ∧ algebraic_PairSumIdeal_PairSumRefIdeal_on_pair_mask (hPairSumIdeal := hPairSumIdeal) (hPairSumRefIdeal := hPairSumRefIdeal) (hOn_pair_mask := hOn_pair_mask)
-- ==== On_fwd_mask.lean ====
abbrev S4096x1536 : Shape := ⟨2, ![4096, 1536]⟩
abbrev S4096x512 : Shape := ⟨2, ![4096, 512]⟩
abbrev S2048 : Shape := ⟨1, ![2048]⟩
abbrev S1x2048 : Shape := ⟨2, ![1, 2048]⟩
abbrev S4096x2048 : Shape := ⟨2, ![4096, 2048]⟩
abbrev S_ : Shape := ⟨0, ![]⟩
abbrev S4x12288x128 : Shape := ⟨3, ![4, 12288, 128]⟩

class Facts : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  bcast_S_S4x12288x128 : S_.BroadcastsInDim S4x12288x128 (![] : Fin 0 → Fin S4x12288x128.rank)

variable [Facts]

def fn {F : FTy → Type} [FloatOps F] (main_arg0 : FVec F S4096x1536 .f32) (main_arg1 : FVec F S4096x512 .f32) (main_arg2 : FVec F S4096x512 .f32) : IVec S4096x2048 1 × IVec S4x12288x128 1 :=
  let main_v0 : IVec S2048 32 := iotaInDim S2048 32 0
  let main_v1 : IVec S1x2048 32 := broadcastInDim S1x2048 ![1] bcast_S2048_S1x2048_1 main_v0
  let main_v2 : IVec S4096x2048 32 := broadcastInDim S4096x2048 ![0, 1] bcast_S1x2048_S4096x2048_0_1 main_v1
  let main_c : IVec S_ 32 := constantI S_ 32 1536#32
  let main_v3 : IVec S4096x2048 32 := broadcastInDim S4096x2048 ![] bcast_S_S4096x2048 main_c
  let main_v4 : IVec S4096x2048 1 := cmpi .slt main_v2 main_v3
  let main_c_0 : IVec S_ 1 := constantI S_ 1 1#1
  let main_v5 : IVec S4x12288x128 1 := broadcastInDim S4x12288x128 ![] bcast_S_S4x12288x128 main_c_0
  (main_v4, main_v5)
-- ==== On_gate_mask.lean ====
abbrev S4096x3584 : Shape := ⟨2, ![4096, 3584]⟩
abbrev S1536 : Shape := ⟨1, ![1536]⟩
abbrev S12x128x128 : Shape := ⟨3, ![12, 128, 128]⟩
abbrev S12x128 : Shape := ⟨2, ![12, 128]⟩
abbrev S2048 : Shape := ⟨1, ![2048]⟩
abbrev S1x2048 : Shape := ⟨2, ![1, 2048]⟩
abbrev S4096x2048 : Shape := ⟨2, ![4096, 2048]⟩
abbrev S_ : Shape := ⟨0, ![]⟩

class Facts : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)

variable [Facts]

def fn {F : FTy → Type} [FloatOps F] (main_arg0 : FVec F S4096x3584 .f32) (main_arg1 : FVec F S1536 .f32) (main_arg2 : FVec F S12x128x128 .f32) (main_arg3 : FVec F S12x128 .f32) : IVec S4096x2048 1 :=
  let main_v0 : IVec S2048 32 := iotaInDim S2048 32 0
  let main_v1 : IVec S1x2048 32 := broadcastInDim S1x2048 ![1] bcast_S2048_S1x2048_1 main_v0
  let main_v2 : IVec S4096x2048 32 := broadcastInDim S4096x2048 ![0, 1] bcast_S1x2048_S4096x2048_0_1 main_v1
  let main_c : IVec S_ 32 := constantI S_ 32 1536#32
  let main_v3 : IVec S4096x2048 32 := broadcastInDim S4096x2048 ![] bcast_S_S4096x2048 main_c
  let main_v4 : IVec S4096x2048 1 := cmpi .slt main_v2 main_v3
  main_v4
-- ==== On_gmlp_mask.lean ====
abbrev S4096x3584 : Shape := ⟨2, ![4096, 3584]⟩
abbrev S1536 : Shape := ⟨1, ![1536]⟩
abbrev S12x128x128 : Shape := ⟨3, ![12, 128, 128]⟩
abbrev S12x128 : Shape := ⟨2, ![12, 128]⟩
abbrev S4096x2048 : Shape := ⟨2, ![4096, 2048]⟩
abbrev S3584 : Shape := ⟨1, ![3584]⟩
abbrev S1x3584 : Shape := ⟨2, ![1, 3584]⟩
abbrev S_ : Shape := ⟨0, ![]⟩
abbrev S128x12 : Shape := ⟨2, ![128, 12]⟩
abbrev S1x1536 : Shape := ⟨2, ![1, 1536]⟩

class Facts : Prop where
  bcast_S3584_S1x3584_1 : S3584.BroadcastsInDim S1x3584 (![1] : Fin 1 → Fin S1x3584.rank)
  bcast_S1x3584_S4096x3584_0_1 : S1x3584.BroadcastsInDim S4096x3584 (![0, 1] : Fin 2 → Fin S4096x3584.rank)
  bcast_S_S4096x3584 : S_.BroadcastsInDim S4096x3584 (![] : Fin 0 → Fin S4096x3584.rank)
  bcast_S_S12x128x128 : S_.BroadcastsInDim S12x128x128 (![] : Fin 0 → Fin S12x128x128.rank)
  bcast_S_S128x12 : S_.BroadcastsInDim S128x12 (![] : Fin 0 → Fin S128x12.rank)
  bcast_S_S1x1536 : S_.BroadcastsInDim S1x1536 (![] : Fin 0 → Fin S1x1536.rank)

variable [Facts]

def fn {F : FTy → Type} [FloatOps F] (main_arg0 : FVec F S4096x3584 .f32) (main_arg1 : FVec F S1536 .f32) (main_arg2 : FVec F S12x128x128 .f32) (main_arg3 : FVec F S12x128 .f32) (main_arg4 : FVec F S4096x2048 .bf16) : IVec S4096x3584 1 × IVec S12x128x128 1 × IVec S128x12 1 × IVec S1x1536 1 :=
  let main_v0 : IVec S3584 32 := iotaInDim S3584 32 0
  let main_v1 : IVec S1x3584 32 := broadcastInDim S1x3584 ![1] bcast_S3584_S1x3584_1 main_v0
  let main_v2 : IVec S4096x3584 32 := broadcastInDim S4096x3584 ![0, 1] bcast_S1x3584_S4096x3584_0_1 main_v1
  let main_c : IVec S_ 32 := constantI S_ 32 3072#32
  let main_v3 : IVec S4096x3584 32 := broadcastInDim S4096x3584 ![] bcast_S_S4096x3584 main_c
  let main_v4 : IVec S4096x3584 1 := cmpi .slt main_v2 main_v3
  let main_c_0 : IVec S_ 1 := constantI S_ 1 1#1
  let main_v5 : IVec S12x128x128 1 := broadcastInDim S12x128x128 ![] bcast_S_S12x128x128 main_c_0
  let main_c_1 : IVec S_ 1 := constantI S_ 1 1#1
  let main_v6 : IVec S128x12 1 := broadcastInDim S128x12 ![] bcast_S_S128x12 main_c_1
  let main_c_2 : IVec S_ 1 := constantI S_ 1 1#1
  let main_v7 : IVec S1x1536 1 := broadcastInDim S1x1536 ![] bcast_S_S1x1536 main_c_2
  (main_v4, main_v5, main_v6, main_v7)
-- ==== On_pair_mask.lean ====
abbrev S8x2048x1408 : Shape := ⟨3, ![8, 2048, 1408]⟩
abbrev S4x2048x1408 : Shape := ⟨3, ![4, 2048, 1408]⟩
abbrev S_ : Shape := ⟨0, ![]⟩

class Facts : Prop where
  bcast_S_S4x2048x1408 : S_.BroadcastsInDim S4x2048x1408 (![] : Fin 0 → Fin S4x2048x1408.rank)

variable [Facts]

def fn {F : FTy → Type} [FloatOps F] (main_arg0 : FVec F S8x2048x1408 .bf16) (main_arg1 : FVec F S4x2048x1408 .bf16) : IVec S4x2048x1408 1 × IVec S4x2048x1408 1 :=
  let main_v0 : IVec S4x2048x1408 32 := iotaInDim S4x2048x1408 32 0
  let main_c : IVec S_ 32 := constantI S_ 32 4#32
  let main_v1 : IVec S4x2048x1408 32 := broadcastInDim S4x2048x1408 ![] bcast_S_S4x2048x1408 main_c
  let main_v2 : IVec S4x2048x1408 1 := cmpi .slt main_v0 main_v1
  let main_c_0 : IVec S_ 32 := constantI S_ 32 0#32
  let main_v3 : IVec S4x2048x1408 32 := broadcastInDim S4x2048x1408 ![] bcast_S_S4x2048x1408 main_c_0
  let main_v4 : IVec S4x2048x1408 1 := cmpi .eq main_v0 main_v3
  (main_v2, main_v4)
-- ==== On_prep_mask.lean ====
abbrev S4096x3072 : Shape := ⟨2, ![4096, 3072]⟩
abbrev S128 : Shape := ⟨1, ![128]⟩
abbrev S4096x1536 : Shape := ⟨2, ![4096, 1536]⟩
abbrev S4096x512 : Shape := ⟨2, ![4096, 512]⟩
abbrev S3072 : Shape := ⟨1, ![3072]⟩
abbrev S1x3072 : Shape := ⟨2, ![1, 3072]⟩
abbrev S_ : Shape := ⟨0, ![]⟩
abbrev S1x128 : Shape := ⟨2, ![1, 128]⟩

class Facts : Prop where
  bcast_S3072_S1x3072_1 : S3072.BroadcastsInDim S1x3072 (![1] : Fin 1 → Fin S1x3072.rank)
  bcast_S1x3072_S4096x3072_0_1 : S1x3072.BroadcastsInDim S4096x3072 (![0, 1] : Fin 2 → Fin S4096x3072.rank)
  bcast_S_S4096x3072 : S_.BroadcastsInDim S4096x3072 (![] : Fin 0 → Fin S4096x3072.rank)
  bcast_S_S1x128 : S_.BroadcastsInDim S1x128 (![] : Fin 0 → Fin S1x128.rank)

variable [Facts]

def fn {F : FTy → Type} [FloatOps F] (main_arg0 : FVec F S4096x3072 .f32) (main_arg1 : FVec F S128 .f32) (main_arg2 : FVec F S128 .f32) (main_arg3 : FVec F S4096x1536 .f32) (main_arg4 : FVec F S4096x512 .f32) (main_arg5 : FVec F S4096x512 .f32) : IVec S4096x3072 1 × IVec S1x128 1 × IVec S1x128 1 :=
  let main_v0 : IVec S3072 32 := iotaInDim S3072 32 0
  let main_v1 : IVec S1x3072 32 := broadcastInDim S1x3072 ![1] bcast_S3072_S1x3072_1 main_v0
  let main_v2 : IVec S4096x3072 32 := broadcastInDim S4096x3072 ![0, 1] bcast_S1x3072_S4096x3072_0_1 main_v1
  let main_c : IVec S_ 32 := constantI S_ 32 2560#32
  let main_v3 : IVec S4096x3072 32 := broadcastInDim S4096x3072 ![] bcast_S_S4096x3072 main_c
  let main_v4 : IVec S4096x3072 1 := cmpi .slt main_v2 main_v3
  let main_c_0 : IVec S_ 1 := constantI S_ 1 1#1
  let main_v5 : IVec S1x128 1 := broadcastInDim S1x128 ![] bcast_S_S1x128 main_c_0
  let main_c_1 : IVec S_ 1 := constantI S_ 1 1#1
  let main_v6 : IVec S1x128 1 := broadcastInDim S1x128 ![] bcast_S_S1x128 main_c_1
  (main_v4, main_v5, main_v6)
-- ==== On_shard_mask.lean ====
abbrev S4x2048x1408 : Shape := ⟨3, ![4, 2048, 1408]⟩
abbrev S8x2048x1408 : Shape := ⟨3, ![8, 2048, 1408]⟩
abbrev S_ : Shape := ⟨0, ![]⟩

class Facts : Prop where
  bcast_S_S8x2048x1408 : S_.BroadcastsInDim S8x2048x1408 (![] : Fin 0 → Fin S8x2048x1408.rank)

variable [Facts]

def fn {F : FTy → Type} [FloatOps F] (main_arg0 : FVec F S4x2048x1408 .f32) : IVec S8x2048x1408 1 :=
  let main_v0 : IVec S8x2048x1408 32 := iotaInDim S8x2048x1408 32 0
  let main_c : IVec S_ 32 := constantI S_ 32 0#32
  let main_v1 : IVec S8x2048x1408 32 := broadcastInDim S8x2048x1408 ![] bcast_S_S8x2048x1408 main_c
  let main_v2 : IVec S8x2048x1408 1 := cmpi .eq main_v0 main_v1
  main_v2
-- ==== Pre_finite_ffn.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_v16 : IVec S_ 1) (main_v17 : FVec F S4096x5632 .f32) : IVec S_ 1 :=
  let main_v18 : FVec F S4096x5632 .f32 := Host.absf main_v17
  let main_cst_4 : FVec F S_ .f32 := constant S_ .f32 0x7F800000#32
  let main_v19 : FVec F S4096x5632 .f32 := broadcastInDim S4096x5632 ![] bcast_S_S4096x5632 main_cst_4
  let main_v20 : IVec S4096x5632 1 := cmpf .olt main_v18 main_v19
  let main_c_5 : IVec S_ 1 := constantI S_ 1 1#1
  let main_v21 : IVec S_ 1 := (fun x v => Host.reduce IntOp.andi x v reducesTo_S4096x5632_S_d0_1 h_S_) main_v20 main_c_5
  let main_v22 : IVec S_ 1 := andi main_v16 main_v21
  main_v22

def fn {F : FTy → Type} [FloatOps F] (main_arg0 : FVec F S4096x2048 .bf16) (main_arg1 : FVec F S5632x2048 .bf16) (main_arg2 : FVec F S4096x5632 .bf16) (main_arg3 : FVec F S4096x5632 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : IVec S_ 1 := andi main_v4 main_v9
  let main_v11 : FVec F S4096x5632 .f32 := (extf .f32 · bitsLt_bf16_f32) main_arg2
  let main_v12 : FVec F S4096x5632 .f32 := Host.absf main_v11
  let main_cst_2 : FVec F S_ .f32 := constant S_ .f32 0x7F800000#32
  let main_v13 : FVec F S4096x5632 .f32 := broadcastInDim S4096x5632 ![] bcast_S_S4096x5632 main_cst_2
  let main_v14 : IVec S4096x5632 1 := cmpf .olt main_v12 main_v13
  let main_c_3 : IVec S_ 1 := constantI S_ 1 1#1
  let main_v15 : IVec S_ 1 := (fun x v => Host.reduce IntOp.andi x v reducesTo_S4096x5632_S_d0_1 h_S_) main_v14 main_c_3
  let main_v16 : IVec S_ 1 := andi main_v10 main_v15
  let main_v17 : FVec F S4096x5632 .f32 := (extf .f32 · bitsLt_bf16_f32) main_arg3
  fn_part1 (F := F) main_v16 main_v17
-- ==== Pre_finite_flash.lean ====
abbrev S4096x1536 : Shape := ⟨2, ![4096, 1536]⟩
abbrev S4096x512 : Shape := ⟨2, ![4096, 512]⟩
abbrev S4096x2048 : Shape := ⟨2, ![4096, 2048]⟩
abbrev S_ : Shape := ⟨0, ![]⟩

class Facts : Prop where
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  slices_S4096x2048_S4096x1536_0_0 : S4096x2048.Slices ![0, 0] S4096x1536
  bitsLt_bf16_f32 : FTy.bits .bf16 < FTy.bits .f32

variable [Facts]

def fn_part1 {F : FTy → Type} [FloatOps F] (main_v13 : IVec S_ 1) (main_v16 : FVec F S4096x1536 .f32) (main_cst_4 : FVec F S_ .f32) : IVec S_ 1 :=
  let main_v17 : FVec F S4096x1536 .f32 := broadcastInDim S4096x1536 ![] bcast_S_S4096x1536 main_cst_4
  let main_v18 : IVec S4096x1536 1 := cmpf .olt main_v16 main_v17
  let main_c_5 : IVec S_ 1 := constantI S_ 1 1#1
  let main_v19 : IVec S_ 1 := (fun x v => Host.reduce IntOp.andi x v reducesTo_S4096x1536_S_d0_1 h_S_) main_v18 main_c_5
  let main_v20 : IVec S_ 1 := andi main_v13 main_v19
  main_v20

def fn {F : FTy → Type} [FloatOps F] (main_arg0 : FVec F S4096x1536 .f32) (main_arg1 : FVec F S4096x512 .f32) (main_arg2 : FVec F S4096x512 .f32) (main_arg3 : FVec F S4096x2048 .bf16) : IVec S_ 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_c : IVec S_ 1 := constantI S_ 1 1#1
  let main_v3 : IVec S_ 1 := (fun x v => Host.reduce IntOp.andi x v reducesTo_S4096x1536_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x1536 .bf16 := (extractStridedSlice S4096x1536 ![0, 0] · slices_S4096x2048_S4096x1536_0_0) main_arg3
  let main_v15 : FVec F S4096x1536 .f32 := (extf .f32 · bitsLt_bf16_f32) main_v14
  let main_v16 : FVec F S4096x1536 .f32 := Host.absf main_v15
  let main_cst_4 : FVec F S_ .f32 := constant S_ .f32 0x7F800000#32
  fn_part1 (F := F) main_v13 main_v16 main_cst_4
-- ==== Pre_finite_fwd.lean ====
abbrev S4096x1536 : Shape := ⟨2, ![4096, 1536]⟩
abbrev S4096x512 : Shape := ⟨2, ![4096, 512]⟩
abbrev S_ : Shape := ⟨0, ![]⟩

class Facts : Prop where
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x1536 .f32) (main_arg1 : FVec F S4096x512 .f32) (main_arg2 : FVec F S4096x512 .f32) : IVec S_ 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_c : IVec S_ 1 := constantI S_ 1 1#1
  let main_v3 : IVec S_ 1 := (fun x v => Host.reduce IntOp.andi x v reducesTo_S4096x1536_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  main_v13
-- ==== Pre_finite_gmlp.lean ====
abbrev S4096x3584 : Shape := ⟨2, ![4096, 3584]⟩
abbrev S1536 : Shape := ⟨1, ![1536]⟩
abbrev S12x128x128 : Shape := ⟨3, ![12, 128, 128]⟩
abbrev S12x128 : Shape := ⟨2, ![12, 128]⟩
abbrev S4096x2048 : Shape := ⟨2, ![4096, 2048]⟩
abbrev S4096x3072 : Shape := ⟨2, ![4096, 3072]⟩
abbrev S_ : Shape := ⟨0, ![]⟩
abbrev S4096x1536 : Shape := ⟨2, ![4096, 1536]⟩

class Facts : Prop where
  slices_S4096x3584_S4096x3072_0_0 : S4096x3584.Slices ![0, 0] S4096x3072
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S1536 : S_.BroadcastsInDim S1536 (![] : Fin 0 → Fin S1536.rank)
  reducesTo_S1536_S_d0 : S1536.ReducesTo [0] S_
  bcast_S_S12x128x128 : S_.BroadcastsInDim S12x128x128 (![] : Fin 0 → Fin S12x128x128.rank)
  reducesTo_S12x128x128_S_d0_1_2 : S12x128x128.ReducesTo [0, 1, 2] S_
  slices_S4096x2048_S4096x1536_0_0 : S4096x2048.Slices ![0, 0] S4096x1536
  bitsLt_bf16_f32 : FTy.bits .bf16 < FTy.bits .f32
  bcast_S_S4096x1536 : S_.BroadcastsInDim S4096x1536 (![] : Fin 0 → Fin S4096x1536.rank)
  reducesTo_S4096x1536_S_d0_1 : S4096x1536.ReducesTo [0, 1] S_

variable [Facts]

def fn_part1 {F : FTy → Type} [FloatOps F] (main_v14 : IVec S_ 1) (main_v17 : FVec F S4096x1536 .f32) : IVec S_ 1 :=
  let main_cst_4 : FVec F S_ .f32 := constant S_ .f32 0x7F800000#32
  let main_v18 : FVec F S4096x1536 .f32 := broadcastInDim S4096x1536 ![] bcast_S_S4096x1536 main_cst_4
  let main_v19 : IVec S4096x1536 1 := cmpf .olt main_v17 main_v18
  let main_c_5 : IVec S_ 1 := constantI S_ 1 1#1
  let main_v20 : IVec S_ 1 := (fun x v => Host.reduce IntOp.andi x v reducesTo_S4096x1536_S_d0_1 h_S_) main_v19 main_c_5
  let main_v21 : IVec S_ 1 := andi main_v14 main_v20
  main_v21

def fn {F : FTy → Type} [FloatOps F] (main_arg0 : FVec F S4096x3584 .f32) (main_arg1 : FVec F S1536 .f32) (main_arg2 : FVec F S12x128x128 .f32) (main_arg3 : FVec F S12x128 .f32) (main_arg4 : FVec F S4096x2048 .bf16) : IVec S_ 1 :=
  let main_v0 : FVec F S4096x3072 .f32 := (extractStridedSlice S4096x3072 ![0, 0] · slices_S4096x3584_S4096x3072_0_0) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_c : IVec S_ 1 := constantI S_ 1 1#1
  let main_v4 : IVec S_ 1 := (fun x v => Host.reduce IntOp.andi x v reducesTo_S4096x3072_S_d0_1 h_S_) main_v3 main_c
  let main_v5 : FVec F S1536 .f32 := Host.absf main_arg1
  let main_cst_0 : FVec F S_ .f32 := constant S_ .f32 0x7F800000#32
  let main_v6 : FVec F S1536 .f32 := broadcastInDim S1536 ![] bcast_S_S1536 main_cst_0
  let main_v7 : IVec S1536 1 := cmpf .olt main_v5 main_v6
  let main_c_1 : IVec S_ 1 := constantI S_ 1 1#1
  let main_v8 : IVec S_ 1 := (fun x v => Host.reduce IntOp.andi x v reducesTo_S1536_S_d0 h_S_) main_v7 main_c_1
  let main_v9 : IVec S_ 1 := andi main_v4 main_v8
  let main_v10 : FVec F S12x128x128 .f32 := Host.absf main_arg2
  let main_cst_2 : FVec F S_ .f32 := constant S_ .f32 0x7F800000#32
  let main_v11 : FVec F S12x128x128 .f32 := broadcastInDim S12x128x128 ![] bcast_S_S12x128x128 main_cst_2
  let main_v12 : IVec S12x128x128 1 := cmpf .olt main_v10 main_v11
  let main_c_3 : IVec S_ 1 := constantI S_ 1 1#1
  let main_v13 : IVec S_ 1 := (fun x v => Host.reduce IntOp.andi x v reducesTo_S12x128x128_S_d0_1_2 h_S_) main_v12 main_c_3
  let main_v14 : IVec S_ 1 := andi main_v9 main_v13
  let main_v15 : FVec F S4096x1536 .bf16 := (extractStridedSlice S4096x1536 ![0, 0] · slices_S4096x2048_S4096x1536_0_0) main_arg4
  let main_v16 : FVec F S4096x1536 .f32 := (extf .f32 · bitsLt_bf16_f32) main_v15
  let main_v17 : FVec F S4096x1536 .f32 := Host.absf main_v16
  fn_part1 (F := F) main_v14 main_v17
-- ==== Pre_finite_mem.lean ====
abbrev S4096x3584 : Shape := ⟨2, ![4096, 3584]⟩
abbrev S256x1024 : Shape := ⟨2, ![256, 1024]⟩
abbrev S128 : Shape := ⟨1, ![128]⟩
abbrev S4096x2048 : Shape := ⟨2, ![4096, 2048]⟩
abbrev S4096x512 : Shape := ⟨2, ![4096, 512]⟩
abbrev S_ : Shape := ⟨0, ![]⟩

class Facts : Prop where
  slices_S4096x3584_S4096x512_0_3072 : S4096x3584.Slices ![0, 3072] S4096x512
  bcast_S_S4096x512 : S_.BroadcastsInDim S4096x512 (![] : Fin 0 → Fin S4096x512.rank)
  reducesTo_S4096x512_S_d0_1 : S4096x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S128 : S_.BroadcastsInDim S128 (![] : Fin 0 → Fin S128.rank)
  reducesTo_S128_S_d0 : S128.ReducesTo [0] S_
  slices_S4096x2048_S4096x512_0_1536 : S4096x2048.Slices ![0, 1536] S4096x512
  bitsLt_bf16_f32 : FTy.bits .bf16 < FTy.bits .f32

variable [Facts]

def fn_part1 {F : FTy → Type} [FloatOps F] (main_arg4 : FVec F S4096x2048 .bf16) (main_v14 : IVec S_ 1) (main_v15 : FVec F S128 .f32) (main_v16 : FVec F S128 .f32) : IVec S_ 1 :=
  let main_v17 : IVec S128 1 := cmpf .olt main_v15 main_v16
  let main_c_5 : IVec S_ 1 := constantI S_ 1 1#1
  let main_v18 : IVec S_ 1 := (fun x v => Host.reduce IntOp.andi x v reducesTo_S128_S_d0 h_S_) main_v17 main_c_5
  let main_v19 : IVec S_ 1 := andi main_v14 main_v18
  let main_v20 : FVec F S4096x512 .bf16 := (extractStridedSlice S4096x512 ![0, 1536] · slices_S4096x2048_S4096x512_0_1536) main_arg4
  let main_v21 : FVec F S4096x512 .f32 := (extf .f32 · bitsLt_bf16_f32) main_v20
  let main_v22 : FVec F S4096x512 .f32 := Host.absf main_v21
  let main_cst_6 : FVec F S_ .f32 := constant S_ .f32 0x7F800000#32
  let main_v23 : FVec F S4096x512 .f32 := broadcastInDim S4096x512 ![] bcast_S_S4096x512 main_cst_6
  let main_v24 : IVec S4096x512 1 := cmpf .olt main_v22 main_v23
  let main_c_7 : IVec S_ 1 := constantI S_ 1 1#1
  let main_v25 : IVec S_ 1 := (fun x v => Host.reduce IntOp.andi x v reducesTo_S4096x512_S_d0_1 h_S_) main_v24 main_c_7
  let main_v26 : IVec S_ 1 := andi main_v19 main_v25
  main_v26

def fn {F : FTy → Type} [FloatOps F] (main_arg0 : FVec F S4096x3584 .f32) (main_arg1 : FVec F S256x1024 .f32) (main_arg2 : FVec F S128 .f32) (main_arg3 : FVec F S128 .f32) (main_arg4 : FVec F S4096x2048 .bf16) (main_arg5 : FVec F S4096x3584 .bf16) : IVec S_ 1 :=
  let main_v0 : FVec F S4096x512 .f32 := (extractStridedSlice S4096x512 ![0, 3072] · slices_S4096x3584_S4096x512_0_3072) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S256x1024 .f32 := Host.absf main_arg1
  let main_cst_0 : FVec F S_ .f32 := constant S_ .f32 0x7F800000#32
  let main_v6 : FVec F S256x1024 .f32 := broadcastInDim S256x1024 ![] bcast_S_S256x1024 main_cst_0
  let main_v7 : IVec S256x1024 1 := cmpf .olt main_v5 main_v6
  let main_c_1 : IVec S_ 1 := constantI S_ 1 1#1
  let main_v8 : IVec S_ 1 := (fun x v => Host.reduce IntOp.andi x v reducesTo_S256x1024_S_d0_1 h_S_) main_v7 main_c_1
  let main_v9 : IVec S_ 1 := andi main_v4 main_v8
  let main_v10 : FVec F S128 .f32 := Host.absf main_arg2
  let main_cst_2 : FVec F S_ .f32 := constant S_ .f32 0x7F800000#32
  let main_v11 : FVec F S128 .f32 := broadcastInDim S128 ![] bcast_S_S128 main_cst_2
  let main_v12 : IVec S128 1 := cmpf .olt main_v10 main_v11
  let main_c_3 : IVec S_ 1 := constantI S_ 1 1#1
  let main_v13 : IVec S_ 1 := (fun x v => Host.reduce IntOp.andi x v reducesTo_S128_S_d0 h_S_) main_v12 main_c_3
  let main_v14 : IVec S_ 1 := andi main_v9 main_v13
  let main_v15 : FVec F S128 .f32 := Host.absf main_arg3
  let main_cst_4 : FVec F S_ .f32 := constant S_ .f32 0x7F800000#32
  let main_v16 : FVec F S128 .f32 := broadcastInDim S128 ![] bcast_S_S128 main_cst_4
  fn_part1 (F := F) main_arg4 main_v14 main_v15 main_v16
-- ==== Pre_finite_memkv.lean ====
abbrev S256x1024 : Shape := ⟨2, ![256, 1024]⟩
abbrev S128 : Shape := ⟨1, ![128]⟩
abbrev S256x512 : Shape := ⟨2, ![256, 512]⟩
abbrev S_ : Shape := ⟨0, ![]⟩

class Facts : Prop where
  slices_S256x1024_S256x512_0_0 : S256x1024.Slices ![0, 0] S256x512
  bcast_S_S256x512 : S_.BroadcastsInDim S256x512 (![] : Fin 0 → Fin S256x512.rank)
  reducesTo_S256x512_S_d0_1 : S256x512.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S256x1024 .f32) (main_arg1 : FVec F S128 .f32) (main_arg2 : FVec F S256x512 .f32) (main_arg3 : FVec F S256x512 .f32) : IVec S_ 1 :=
  let main_v0 : FVec F S256x512 .f32 := (extractStridedSlice S256x512 ![0, 0] · slices_S256x1024_S256x512_0_0) main_arg0
  let main_v1 : FVec F S256x512 .f32 := Host.absf main_v0
  let main_cst : FVec F S_ .f32 := constant S_ .f32 0x7F800000#32
  let main_v2 : FVec F S256x512 .f32 := broadcastInDim S256x512 ![] bcast_S_S256x512 main_cst
  let main_v3 : IVec S256x512 1 := cmpf .olt main_v1 main_v2
  let main_c : IVec S_ 1 := constantI S_ 1 1#1
  let main_v4 : IVec S_ 1 := (fun x v => Host.reduce IntOp.andi x v reducesTo_S256x512_S_d0_1 h_S_) main_v3 main_c
  let main_v5 : FVec F S128 .f32 := Host.absf main_arg1
  let main_cst_0 : FVec F S_ .f32 := constant S_ .f32 0x7F800000#32
  let main_v6 : FVec F S128 .f32 := broadcastInDim S128 ![] bcast_S_S128 main_cst_0
  let main_v7 : IVec S128 1 := cmpf .olt main_v5 main_v6
  let main_c_1 : IVec S_ 1 := constantI S_ 1 1#1
  let main_v8 : IVec S_ 1 := (fun x v => Host.reduce IntOp.andi x v reducesTo_S128_S_d0 h_S_) main_v7 main_c_1
  let main_v9 : IVec S_ 1 := andi main_v4 main_v8
  let main_v10 : FVec F S256x512 .f32 := Host.absf main_arg2
  let main_cst_2 : FVec F S_ .f32 := constant S_ .f32 0x7F800000#32
  let main_v11 : FVec F S256x512 .f32 := broadcastInDim S256x512 ![] bcast_S_S256x512 main_cst_2
  let main_v12 : IVec S256x512 1 := cmpf .olt main_v10 main_v11
  let main_c_3 : IVec S_ 1 := constantI S_ 1 1#1
  let main_v13 : IVec S_ 1 := (fun x v => Host.reduce IntOp.andi x v reducesTo_S256x512_S_d0_1 h_S_) main_v12 main_c_3
  let main_v14 : IVec S_ 1 := andi main_v9 main_v13
  main_v14
-- ==== Pre_finite_mfwd.lean ====
abbrev S4096x3584 : Shape := ⟨2, ![4096, 3584]⟩
abbrev S256x1024 : Shape := ⟨2, ![256, 1024]⟩
abbrev S128 : Shape := ⟨1, ![128]⟩
abbrev S4096x2048 : Shape := ⟨2, ![4096, 2048]⟩
abbrev S4096x512 : Shape := ⟨2, ![4096, 512]⟩
abbrev S_ : Shape := ⟨0, ![]⟩

class Facts : Prop where
  slices_S4096x3584_S4096x512_0_3072 : S4096x3584.Slices ![0, 3072] S4096x512
  bcast_S_S4096x512 : S_.BroadcastsInDim S4096x512 (![] : Fin 0 → Fin S4096x512.rank)
  reducesTo_S4096x512_S_d0_1 : S4096x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v14 : IVec S_ 1) (main_v15 : FVec F S128 .f32) (main_v16 : FVec F S128 .f32) : IVec S_ 1 :=
  let main_v17 : IVec S128 1 := cmpf .olt main_v15 main_v16
  let main_c_5 : IVec S_ 1 := constantI S_ 1 1#1
  let main_v18 : IVec S_ 1 := (fun x v => Host.reduce IntOp.andi x v reducesTo_S128_S_d0 h_S_) main_v17 main_c_5
  let main_v19 : IVec S_ 1 := andi main_v14 main_v18
  main_v19

def fn {F : FTy → Type} [FloatOps F] (main_arg0 : FVec F S4096x3584 .f32) (main_arg1 : FVec F S256x1024 .f32) (main_arg2 : FVec F S128 .f32) (main_arg3 : FVec F S128 .f32) (main_arg4 : FVec F S4096x2048 .bf16) : IVec S_ 1 :=
  let main_v0 : FVec F S4096x512 .f32 := (extractStridedSlice S4096x512 ![0, 3072] · slices_S4096x3584_S4096x512_0_3072) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S256x1024 .f32 := Host.absf main_arg1
  let main_cst_0 : FVec F S_ .f32 := constant S_ .f32 0x7F800000#32
  let main_v6 : FVec F S256x1024 .f32 := broadcastInDim S256x1024 ![] bcast_S_S256x1024 main_cst_0
  let main_v7 : IVec S256x1024 1 := cmpf .olt main_v5 main_v6
  let main_c_1 : IVec S_ 1 := constantI S_ 1 1#1
  let main_v8 : IVec S_ 1 := (fun x v => Host.reduce IntOp.andi x v reducesTo_S256x1024_S_d0_1 h_S_) main_v7 main_c_1
  let main_v9 : IVec S_ 1 := andi main_v4 main_v8
  let main_v10 : FVec F S128 .f32 := Host.absf main_arg2
  let main_cst_2 : FVec F S_ .f32 := constant S_ .f32 0x7F800000#32
  let main_v11 : FVec F S128 .f32 := broadcastInDim S128 ![] bcast_S_S128 main_cst_2
  let main_v12 : IVec S128 1 := cmpf .olt main_v10 main_v11
  let main_c_3 : IVec S_ 1 := constantI S_ 1 1#1
  let main_v13 : IVec S_ 1 := (fun x v => Host.reduce IntOp.andi x v reducesTo_S128_S_d0 h_S_) main_v12 main_c_3
  let main_v14 : IVec S_ 1 := andi main_v9 main_v13
  let main_v15 : FVec F S128 .f32 := Host.absf main_arg3
  let main_cst_4 : FVec F S_ .f32 := constant S_ .f32 0x7F800000#32
  let main_v16 : FVec F S128 .f32 := broadcastInDim S128 ![] bcast_S_S128 main_cst_4
  fn_part1 (F := F) main_v14 main_v15 main_v16
-- ==== Pre_finite_prep.lean ====
abbrev S4096x3072 : Shape := ⟨2, ![4096, 3072]⟩
abbrev S128 : Shape := ⟨1, ![128]⟩
abbrev S4096x1536 : Shape := ⟨2, ![4096, 1536]⟩
abbrev S4096x512 : Shape := ⟨2, ![4096, 512]⟩
abbrev S4096x2048 : Shape := ⟨2, ![4096, 2048]⟩
abbrev S_ : Shape := ⟨0, ![]⟩

class Facts : Prop where
  slices_S4096x3072_S4096x2048_0_0 : S4096x3072.Slices ![0, 0] S4096x2048
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S128 : S_.BroadcastsInDim S128 (![] : Fin 0 → Fin S128.rank)
  reducesTo_S128_S_d0 : S128.ReducesTo [0] S_
  bcast_S_S4096x1536 : S_.BroadcastsInDim S4096x1536 (![] : Fin 0 → Fin S4096x1536.rank)
  reducesTo_S4096x1536_S_d0_1 : S4096x1536.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_arg4 : FVec F S4096x512 .f32) (main_v14 : IVec S_ 1) (main_v15 : FVec F S4096x1536 .f32) (main_v16 : FVec F S4096x1536 .f32) : IVec S_ 1 :=
  let main_v17 : IVec S4096x1536 1 := cmpf .olt main_v15 main_v16
  let main_c_5 : IVec S_ 1 := constantI S_ 1 1#1
  let main_v18 : IVec S_ 1 := (fun x v => Host.reduce IntOp.andi x v reducesTo_S4096x1536_S_d0_1 h_S_) main_v17 main_c_5
  let main_v19 : IVec S_ 1 := andi main_v14 main_v18
  let main_v20 : FVec F S4096x512 .f32 := Host.absf main_arg4
  let main_cst_6 : FVec F S_ .f32 := constant S_ .f32 0x7F800000#32
  let main_v21 : FVec F S4096x512 .f32 := broadcastInDim S4096x512 ![] bcast_S_S4096x512 main_cst_6
  let main_v22 : IVec S4096x512 1 := cmpf .olt main_v20 main_v21
  let main_c_7 : IVec S_ 1 := constantI S_ 1 1#1
  let main_v23 : IVec S_ 1 := (fun x v => Host.reduce IntOp.andi x v reducesTo_S4096x512_S_d0_1 h_S_) main_v22 main_c_7
  let main_v24 : IVec S_ 1 := andi main_v19 main_v23
  main_v24

def fn {F : FTy → Type} [FloatOps F] (main_arg0 : FVec F S4096x3072 .f32) (main_arg1 : FVec F S128 .f32) (main_arg2 : FVec F S128 .f32) (main_arg3 : FVec F S4096x1536 .f32) (main_arg4 : FVec F S4096x512 .f32) (main_arg5 : FVec F S4096x512 .f32) : IVec S_ 1 :=
  let main_v0 : FVec F S4096x2048 .f32 := (extractStridedSlice S4096x2048 ![0, 0] · slices_S4096x3072_S4096x2048_0_0) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S128 .f32 := Host.absf main_arg1
  let main_cst_0 : FVec F S_ .f32 := constant S_ .f32 0x7F800000#32
  let main_v6 : FVec F S128 .f32 := broadcastInDim S128 ![] bcast_S_S128 main_cst_0
  let main_v7 : IVec S128 1 := cmpf .olt main_v5 main_v6
  let main_c_1 : IVec S_ 1 := constantI S_ 1 1#1
  let main_v8 : IVec S_ 1 := (fun x v => Host.reduce IntOp.andi x v reducesTo_S128_S_d0 h_S_) main_v7 main_c_1
  let main_v9 : IVec S_ 1 := andi main_v4 main_v8
  let main_v10 : FVec F S128 .f32 := Host.absf main_arg2
  let main_cst_2 : FVec F S_ .f32 := constant S_ .f32 0x7F800000#32
  let main_v11 : FVec F S128 .f32 := broadcastInDim S128 ![] bcast_S_S128 main_cst_2
  let main_v12 : IVec S128 1 := cmpf .olt main_v10 main_v11
  let main_c_3 : IVec S_ 1 := constantI S_ 1 1#1
  let main_v13 : IVec S_ 1 := (fun x v => Host.reduce IntOp.andi x v reducesTo_S128_S_d0 h_S_) main_v12 main_c_3
  let main_v14 : IVec S_ 1 := andi main_v9 main_v13
  let main_v15 : FVec F S4096x1536 .f32 := Host.absf main_arg3
  let main_cst_4 : FVec F S_ .f32 := constant S_ .f32 0x7F800000#32
  let main_v16 : FVec F S4096x1536 .f32 := broadcastInDim S4096x1536 ![] bcast_S_S4096x1536 main_cst_4
  fn_part1 (F := F) main_arg4 main_v14 main_v15 main_v16
-- ==== Pre_finite_rms.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S2048 .f32) (main_arg2 : FVec F S4096x2048 .f32) (main_arg3 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== MemKv.lean ====
abbrev S256x1024 : Shape := ⟨2, ![256, 1024]⟩
abbrev S128 : Shape := ⟨1, ![128]⟩
abbrev S256x512 : Shape := ⟨2, ![256, 512]⟩
abbrev S1x128 : Shape := ⟨2, ![1, 128]⟩
abbrev S256x128 : Shape := ⟨2, ![256, 128]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S128, .f32⟩
  | .hbm, ⟨2, _⟩ => ⟨S256x512, .f32⟩
  | .hbm, ⟨3, _⟩ => ⟨S256x512, .f32⟩
  | .hbm, ⟨4, _⟩ => ⟨S1x128, .f32⟩
  | .hbm, ⟨5, _⟩ => ⟨S256x1024, .bf16⟩
  | .hbm, ⟨6, _⟩ => ⟨S1x128, .f32⟩
  | .local _ .vmem, ⟨0, _⟩ => ⟨S256x1024, .f32⟩
  | .local _ .vmem, ⟨1, _⟩ => ⟨S1x128, .f32⟩
  | .local _ .vmem, ⟨2, _⟩ => ⟨S256x512, .f32⟩
  | .local _ .vmem, ⟨3, _⟩ => ⟨S256x512, .f32⟩
  | .local _ .vmem, ⟨4, _⟩ => ⟨S256x1024, .bf16⟩
  | .local _ .vmem, ⟨5, _⟩ => ⟨S1x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MemKvRefIdeal.lean ====
abbrev S256x1024 : Shape := ⟨2, ![256, 1024]⟩
abbrev S128 : Shape := ⟨1, ![128]⟩
abbrev S256x512 : Shape := ⟨2, ![256, 512]⟩
abbrev S256x4x128 : Shape := ⟨3, ![256, 4, 128]⟩
abbrev S_ : Shape := ⟨0, ![]⟩
abbrev S256x4 : Shape := ⟨2, ![256, 4]⟩
abbrev S256x4x1 : Shape := ⟨3, ![256, 4, 1]⟩
abbrev S1x1x128 : Shape := ⟨3, ![1, 1, 128]⟩
abbrev S1x128 : Shape := ⟨2, ![1, 128]⟩

abbrev nBuf : Space → Nat
  | .hbm => 60
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S128, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x4x128, .f32⟩
  | .hbm, ⟨7, _⟩ => ⟨S256x4x128, .f32⟩
  | .hbm, ⟨8, _⟩ => ⟨S_, .f32⟩
  | .hbm, ⟨9, _⟩ => ⟨S256x4, .f32⟩
  | .hbm, ⟨10, _⟩ => ⟨S256x4x1, .f32⟩
  | .hbm, ⟨11, _⟩ => ⟨S_, .f32⟩
  | .hbm, ⟨12, _⟩ => ⟨S256x4x1, .f32⟩
  | .hbm, ⟨13, _⟩ => ⟨S256x4x1, .f32⟩
  | .hbm, ⟨14, _⟩ => ⟨S_, .f32⟩
  | .hbm, ⟨15, _⟩ => ⟨S256x4x1, .f32⟩
  | .hbm, ⟨16, _⟩ => ⟨S256x4x1, .f32⟩
  | .hbm, ⟨17, _⟩ => ⟨S256x4x1, .f32⟩
  | .hbm, ⟨18, _⟩ => ⟨S256x4x1, .f32⟩
  | .hbm, ⟨19, _⟩ => ⟨S_, .f32⟩
  | .hbm, ⟨20, _⟩ => ⟨S256x4x1, .f32⟩
  | .hbm, ⟨21, _⟩ => ⟨S256x4x1, .f32⟩
  | .hbm, ⟨22, _⟩ => ⟨S256x4x128, .f32⟩
  | .hbm, ⟨23, _⟩ => ⟨S256x4x128, .f32⟩
  | .hbm, ⟨24, _⟩ => ⟨S1x1x128, .f32⟩
  | .hbm, ⟨25, _⟩ => ⟨S256x4x128, .f32⟩
  | .hbm, ⟨26, _⟩ => ⟨S256x4x128, .f32⟩
  | .hbm, ⟨27, _⟩ => ⟨S256x4x128, .f32⟩
  | .hbm, ⟨28, _⟩ => ⟨S256x4x128, .f32⟩
  | .hbm, ⟨29, _⟩ => ⟨S256x4x128, .f32⟩
  | .hbm, ⟨30, _⟩ => ⟨S256x512, .f32⟩
  | .hbm, ⟨31, _⟩ => ⟨S256x4x128, .f32⟩
  | .hbm, ⟨32, _⟩ => ⟨S_, .f32⟩
  | .hbm, ⟨33, _⟩ => ⟨S128, .f32⟩
  | .hbm, ⟨34, _⟩ => ⟨S1x1x128, .f32⟩
  | .hbm, ⟨35, _⟩ => ⟨S256x4x128, .f32⟩
  | .hbm, ⟨36, _⟩ => ⟨S256x4x128, .f32⟩
  | .hbm, ⟨37, _⟩ => ⟨S_, .f32⟩
  | .hbm, ⟨38, _⟩ => ⟨S128, .f32⟩
  | .hbm, ⟨39, _⟩ => ⟨S256x4x128, .f32⟩
  | .hbm, ⟨40, _⟩ => ⟨S_, .f32⟩
  | .hbm, ⟨41, _⟩ => ⟨S256x4, .f32⟩
  | .hbm, ⟨42, _⟩ => ⟨S256x4x1, .f32⟩
  | .hbm, ⟨43, _⟩ => ⟨S256x4x128, .f32⟩
  | .hbm, ⟨44, _⟩ => ⟨S256x4x128, .f32⟩
  | .hbm, ⟨45, _⟩ => ⟨S256x4x1, .f32⟩
  | .hbm, ⟨46, _⟩ => ⟨S_, .f32⟩
  | .hbm, ⟨47, _⟩ => ⟨S256x4x1, .f32⟩
  | .hbm, ⟨48, _⟩ => ⟨S256x4x1, .f32⟩
  | .hbm, ⟨49, _⟩ => ⟨S_, .f32⟩
  | .hbm, ⟨50, _⟩ => ⟨S256x4, .f32⟩
  | .hbm, ⟨51, _⟩ => ⟨S256x4x128, .f32⟩
  | .hbm, ⟨52, _⟩ => ⟨S256x4x128, .f32⟩
  | .hbm, ⟨53, _⟩ => ⟨S256x4x128, .f32⟩
  | .hbm, ⟨54, _⟩ => ⟨S256x4x128, .f32⟩
  | .hbm, ⟨55, _⟩ => ⟨S256x4x128, .f32⟩
  | .hbm, ⟨56, _⟩ => ⟨S256x512, .f32⟩
  | .hbm, ⟨57, _⟩ => ⟨S256x1024, .f32⟩
  | .hbm, ⟨58, _⟩ => ⟨S256x1024, .bf16⟩
  | .hbm, ⟨59, _⟩ => ⟨S1x128, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Rms.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== RmsGain.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 5
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S1x2048, .f32⟩
  | .hbm, ⟨4, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .f32⟩
  | .local _ .vmem, ⟨3, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RmsGainRefIdeal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S2048, .f32⟩
  | .hbm, ⟨22, _⟩ => ⟨S1x2048, .f32⟩
  | .hbm, ⟨23, _⟩ => ⟨S_, .f32⟩
  | .hbm, ⟨24, _⟩ => ⟨S2048, .f32⟩
  | .hbm, ⟨25, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Loss.lean ====
abbrev S4096x2048 : Shape := ⟨2, ![4096, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x128, .f32⟩
  | .hbm, ⟨3, _⟩ => ⟨S4096x2048, .f32⟩
  | .hbm, ⟨4, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x128, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LossRefIdeal.lean ====
abbrev S4096x2048 : Shape := ⟨2, ![4096, 2048]⟩
abbrev S_ : Shape := ⟨0, ![]⟩
abbrev S4096 : Shape := ⟨1, ![4096]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S1x128, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Ffn.lean ====
abbrev S4096x2048 : Shape := ⟨2, ![4096, 2048]⟩
abbrev S5632x2048 : Shape := ⟨2, ![5632, 2048]⟩
abbrev S4096x5632 : Shape := ⟨2, ![4096, 5632]⟩
abbrev S512x2048 : Shape := ⟨2, ![512, 2048]⟩
abbrev S1408x2048 : Shape := ⟨2, ![1408, 2048]⟩
abbrev S512x1408 : Shape := ⟨2, ![512, 1408]⟩
abbrev S256x2048 : Shape := ⟨2, ![256, 2048]⟩
abbrev S256x1408 : Shape := ⟨2, ![256, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnRefIdeal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x2048, .f32⟩
  | .hbm, ⟨5, _⟩ => ⟨S5632x2048, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x2048, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .bf16⟩
  | .hbm, ⟨31, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Flash.lean ====
abbrev S4096x1536 : Shape := ⟨2, ![4096, 1536]⟩
abbrev S4096x512 : Shape := ⟨2, ![4096, 512]⟩
abbrev S4096x2048 : Shape := ⟨2, ![4096, 2048]⟩
abbrev S4096x4x3x128 : Shape := ⟨4, ![4096, 4, 3, 128]⟩
abbrev S4096x4x128 : Shape := ⟨3, ![4096, 4, 128]⟩
abbrev S_ : Shape := ⟨0, ![]⟩
abbrev S4x4096x4096x3 : Shape := ⟨4, ![4, 4096, 4096, 3]⟩
abbrev S4x3x4096x4096 : Shape := ⟨4, ![4, 3, 4096, 4096]⟩
abbrev S4x3x4096 : Shape := ⟨3, ![4, 3, 4096]⟩
abbrev S4x3x4096x1 : Shape := ⟨4, ![4, 3, 4096, 1]⟩
abbrev S4x128x3x4096 : Shape := ⟨4, ![4, 128, 3, 4096]⟩
abbrev S4x3x8x512 : Shape := ⟨4, ![4, 3, 8, 512]⟩
abbrev S4x8x3x512 : Shape := ⟨4, ![4, 8, 3, 512]⟩
abbrev S4x12288x1 : Shape := ⟨3, ![4, 12288, 1]⟩
abbrev S4x12288x128 : Shape := ⟨3, ![4, 12288, 128]⟩
abbrev S8x512x4x3x128 : Shape := ⟨5, ![8, 512, 4, 3, 128]⟩
abbrev S8x512x4x3 : Shape := ⟨4, ![8, 512, 4, 3]⟩
abbrev S512x384 : Shape := ⟨2, ![512, 384]⟩
abbrev S1024x128 : Shape := ⟨2, ![1024, 128]⟩
abbrev S1x1536x128 : Shape := ⟨3, ![1, 1536, 128]⟩
abbrev S12288x128 : Shape := ⟨2, ![12288, 128]⟩
abbrev S512x128 : Shape := ⟨2, ![512, 128]⟩
abbrev S512x1024 : Shape := ⟨2, ![512, 1024]⟩
abbrev S1x512x1 : Shape := ⟨3, ![1, 512, 1]⟩
abbrev S512x1 : Shape := ⟨2, ![512, 1]⟩
abbrev S1536x128 : Shape := ⟨2, ![1536, 128]⟩

abbrev nBuf : Space → Nat
  | .hbm => 56
  | .vmem => 21
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x512, .f32⟩
  | .hbm, ⟨3, _⟩ => ⟨S4096x2048, .bf16⟩
  | .hbm, ⟨4, _⟩ => ⟨S4096x4x3x128, .f32⟩
  | .hbm, ⟨5, _⟩ => ⟨S4096x4x128, .f32⟩
  | .hbm, ⟨6, _⟩ => ⟨S4096x4x128, .f32⟩
  | .hbm, ⟨7, _⟩ => ⟨S_, .f32⟩
  | .hbm, ⟨8, _⟩ => ⟨S_, .f32⟩
  | .hbm, ⟨9, _⟩ => ⟨S4x4096x4096x3, .f32⟩
  | .hbm, ⟨10, _⟩ => ⟨S4x3x4096x4096, .f32⟩
  | .hbm, ⟨11, _⟩ => ⟨S_, .f32⟩
  | .hbm, ⟨12, _⟩ => ⟨S4x3x4096x4096, .f32⟩
  | .hbm, ⟨13, _⟩ => ⟨S4x3x4096x4096, .f32⟩
  | .hbm, ⟨14, _⟩ => ⟨S_, .f32⟩
  | .hbm, ⟨15, _⟩ => ⟨S4x3x4096, .f32⟩
  | .hbm, ⟨16, _⟩ => ⟨S4x3x4096x1, .f32⟩
  | .hbm, ⟨17, _⟩ => ⟨S4x3x4096x4096, .f32⟩
  | .hbm, ⟨18, _⟩ => ⟨S4x3x4096x4096, .f32⟩
  | .hbm, ⟨19, _⟩ => ⟨S4x3x4096x4096, .f32⟩
  | .hbm, ⟨20, _⟩ => ⟨S_, .f32⟩
  | .hbm, ⟨21, _⟩ => ⟨S4x3x4096, .f32⟩
  | .hbm, ⟨22, _⟩ => ⟨S4x3x4096x1, .f32⟩
  | .hbm, ⟨23, _⟩ => ⟨S4x3x4096x1, .f32⟩
  | .hbm, ⟨24, _⟩ => ⟨S4x3x4096x1, .f32⟩
  | .hbm, ⟨25, _⟩ => ⟨S4x3x4096x1, .f32⟩
  | .hbm, ⟨26, _⟩ => ⟨S4x3x4096x1, .f32⟩
  | .hbm, ⟨27, _⟩ => ⟨S4x3x4096x4096, .f32⟩
  | .hbm, ⟨28, _⟩ => ⟨S4x3x4096x4096, .f32⟩
  | .hbm, ⟨29, _⟩ => ⟨S4x128x3x4096, .f32⟩
  | .hbm, ⟨30, _⟩ => ⟨S4096x4x3x128, .f32⟩
  | .hbm, ⟨31, _⟩ => ⟨S4096x1536, .f32⟩
  | .hbm, ⟨32, _⟩ => ⟨S4x3x8x512, .f32⟩
  | .hbm, ⟨33, _⟩ => ⟨S4x8x3x512, .f32⟩
  | .hbm, ⟨34, _⟩ => ⟨S4x12288x1, .f32⟩
  | .hbm, ⟨35, _⟩ => ⟨S4x12288x128, .f32⟩
  | .hbm, ⟨36, _⟩ => ⟨S4096x1536, .bf16⟩
  | .hbm, ⟨37, _⟩ => ⟨S4096x1536, .f32⟩
  | .hbm, ⟨38, _⟩ => ⟨S4096x1536, .f32⟩
  | .hbm, ⟨39, _⟩ => ⟨S8x512x4x3x128, .f32⟩
  | .hbm, ⟨40, _⟩ => ⟨S_, .f32⟩
  | .hbm, ⟨41, _⟩ => ⟨S8x512x4x3, .f32⟩
  | .hbm, ⟨42, _⟩ => ⟨S4x8x3x512, .f32⟩
  | .hbm, ⟨43, _⟩ => ⟨S4x12288x1, .f32⟩
  | .hbm, ⟨44, _⟩ => ⟨S4x12288x128, .f32⟩
  | .hbm, ⟨45, _⟩ => ⟨S_, .f32⟩
  | .hbm, ⟨46, _⟩ => ⟨S4096x1536, .f32⟩
  | .hbm, ⟨47, _⟩ => ⟨S4096x1536, .f32⟩
  | .hbm, ⟨48, _⟩ => ⟨S4096x1536, .f32⟩
  | .hbm, ⟨49, _⟩ => ⟨S4096x1536, .f32⟩
  | .hbm, ⟨50, _⟩ => ⟨S4096x1536, .bf16⟩
  | .hbm, ⟨51, _⟩ => ⟨S4096x512, .bf16⟩
  | .hbm, ⟨52, _⟩ => ⟨S4096x512, .bf16⟩
  | .hbm, ⟨53, _⟩ => ⟨S4096x1536, .f32⟩
  | .hbm, ⟨54, _⟩ => ⟨S4096x512, .f32⟩
  | .hbm, ⟨55, _⟩ => ⟨S4096x512, .f32⟩
  | .local _ .vmem, ⟨0, _⟩ => ⟨S512x384, .bf16⟩
  | .local _ .vmem, ⟨1, _⟩ => ⟨S512x384, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S512x384, .bf16⟩
  | .local _ .vmem, ⟨7, _⟩ => ⟨S512x384, .bf16⟩
  | .local _ .vmem, ⟨8, _⟩ => ⟨S1x1536x128, .f32⟩
  | .local _ .vmem, ⟨9, _⟩ => ⟨S1x1536x128, .f32⟩
  | .local _ .vmem, ⟨10, _⟩ => ⟨S1x1536x128, .f32⟩
  | .local _ .vmem, ⟨11, _⟩ => ⟨S1x1536x128, .f32⟩
  | .local _ .vmem, ⟨12, _⟩ => ⟨S512x384, .f32⟩
  | .local _ .vmem, ⟨13, _⟩ => ⟨S512x384, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S12288x128, .f32⟩
  | .local _ .vmem, ⟨19, _⟩ => ⟨S1024x128, .f32⟩
  | .local _ .vmem, ⟨20, _⟩ => ⟨S1024x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43_0 : Ref sig .tc := ⟨.hbm, 53, rfl⟩
abbrev main_v43_1 : Ref sig .tc := ⟨.hbm, 54, rfl⟩
abbrev main_v43_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c1536_i32 : BitVec 32 := 1536#32
  let v81 : BitVec 32 := Scalar.muli arg2 c1536_i32
  v81
def k0_cond2 (i : grid0.Coords) : BitVec 1 :=
  let arg1 : BitVec 32 := BitVec.ofNat 32 (i 1).val
  let c0_i32_52 : BitVec 32 := 0#32
  let v84 : BitVec 1 := Scalar.cmpi .eq arg1 c0_i32_52
  let v85 : BitVec 32 := Scalar.extui v84
  let c0_i32_53 : BitVec 32 := 0#32
  let v86 : BitVec 1 := Scalar.cmpi .ne v85 c0_i32_53
  v86

def k0_off1 (i : grid0.Coords) : Fin 2 → Nat :=
  let arg2 : BitVec 32 := BitVec.ofNat 32 (i 2).val
  let c1536_i32 : BitVec 32 := 1536#32
  let v81 : BitVec 32 := Scalar.muli arg2 c1536_i32
  let v82 : BitVec 32 := v81
  let v96 : Index := Scalar.indexCast v82
  let c0_58 : Index := 0#32
  ![v96.toNat, 0]
def k0_cond3 (i : grid0.Coords) : BitVec 1 :=
  let arg1 : BitVec 32 := BitVec.ofNat 32 (i 1).val
  let c0_i32_54 : BitVec 32 := 0#32
  let v87 : BitVec 1 := Scalar.cmpi .sgt arg1 c0_i32_54
  let v88 : BitVec 32 := Scalar.extui v87
  let c0_i32_55 : BitVec 32 := 0#32
  let v89 : BitVec 1 := Scalar.cmpi .ne v88 c0_i32_55
  v89

def k0_off2 (i : grid0.Coords) : Fin 2 → Nat :=
  let arg2 : BitVec 32 := BitVec.ofNat 32 (i 2).val
  let c1536_i32 : BitVec 32 := 1536#32
  let v81 : BitVec 32 := Scalar.muli arg2 c1536_i32
  let v82 : BitVec 32 := v81
  let v96 : Index := Scalar.indexCast v82
  let c0_58 : Index := 0#32
  ![v96.toNat, 0]
def k0_cond4 (i : grid0.Coords) : BitVec 1 :=
  let arg1 : BitVec 32 := BitVec.ofNat 32 (i 1).val
  let c3_i32 : BitVec 32 := 3#32
  let v90 : BitVec 1 := Scalar.cmpi .eq arg1 c3_i32
  let v91 : BitVec 32 := Scalar.extui v90
  let c0_i32_56 : BitVec 32 := 0#32
  let v92 : BitVec 1 := Scalar.cmpi .ne v91 c0_i32_56
  v92

def k0_off3 (i : grid0.Coords) : Fin 2 → Nat :=
  let arg2 : BitVec 32 := BitVec.ofNat 32 (i 2).val
  let c1536_i32 : BitVec 32 := 1536#32
  let v81 : BitVec 32 := Scalar.muli arg2 c1536_i32
  let v82 : BitVec 32 := v81
  let v96 : Index := Scalar.indexCast v82
  let c0_58 : Index := 0#32
  ![v96.toNat, 0]
def k0_cond5 (i : grid0.Coords) : BitVec 1 :=
  let arg2 : BitVec 32 := BitVec.ofNat 32 (i 2).val
  let c7_i32 : BitVec 32 := 7#32
  let v93 : BitVec 1 := Scalar.cmpi .eq arg2 c7_i32
  let v94 : BitVec 32 := Scalar.extui v93
  let c0_i32_57 : BitVec 32 := 0#32
  let v95 : BitVec 1 := Scalar.cmpi .ne v94 c0_i32_57
  v95

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .eq arg1 c3_i32
  let c0_i32 : BitVec 32 := 0#32
  let v1 : BitVec 32 := Scalar.select v0 arg2 c0_i32
  let c0_i32_0 : BitVec 32 := 0#32
  ![v1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1536x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1536x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== FlashIdeal.lean ====
variable {F : FTy → Type} [FloatOps F] [Named F]
def κ : String → Option EReal := fun
  | "ln2" => some ((Real.log 2 : ℝ) : EReal)
  | _ => none
-- ==== FlashRefIdeal.lean ====
abbrev S4096x1536 : Shape := ⟨2, ![4096, 1536]⟩
abbrev S4096x512 : Shape := ⟨2, ![4096, 512]⟩
abbrev S4096x2048 : Shape := ⟨2, ![4096, 2048]⟩
abbrev S4096x4x3x128 : Shape := ⟨4, ![4096, 4, 3, 128]⟩
abbrev S4096x4x128 : Shape := ⟨3, ![4096, 4, 128]⟩
abbrev S4x4096x4096x3 : Shape := ⟨4, ![4, 4096, 4096, 3]⟩
abbrev S4x3x4096x4096 : Shape := ⟨4, ![4, 3, 4096, 4096]⟩
abbrev S_ : Shape := ⟨0, ![]⟩
abbrev S4x3x4096 : Shape := ⟨3, ![4, 3, 4096]⟩
abbrev S4x3x4096x1 : Shape := ⟨4, ![4, 3, 4096, 1]⟩
abbrev S4x128x3x4096 : Shape := ⟨4, ![4, 128, 3, 4096]⟩
abbrev S4x128x4096 : Shape := ⟨3, ![4, 128, 4096]⟩
abbrev S4x4096x3x128 : Shape := ⟨4, ![4, 4096, 3, 128]⟩
abbrev S4x4096x128 : Shape := ⟨3, ![4, 4096, 128]⟩

abbrev nBuf : Space → Nat
  | .hbm => 85
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x512, .f32⟩
  | .hbm, ⟨3, _⟩ => ⟨S4096x2048, .bf16⟩
  | .hbm, ⟨4, _⟩ => ⟨S4096x4x3x128, .f32⟩
  | .hbm, ⟨5, _⟩ => ⟨S4096x4x128, .f32⟩
  | .hbm, ⟨6, _⟩ => ⟨S4096x4x128, .f32⟩
  | .hbm, ⟨7, _⟩ => ⟨S4x4096x4096x3, .f32⟩
  | .hbm, ⟨8, _⟩ => ⟨S4x3x4096x4096, .f32⟩
  | .hbm, ⟨9, _⟩ => ⟨S_, .f32⟩
  | .hbm, ⟨10, _⟩ => ⟨S4x3x4096x4096, .f32⟩
  | .hbm, ⟨11, _⟩ => ⟨S4x3x4096x4096, .f32⟩
  | .hbm, ⟨12, _⟩ => ⟨S_, .f32⟩
  | .hbm, ⟨13, _⟩ => ⟨S4x3x4096, .f32⟩
  | .hbm, ⟨14, _⟩ => ⟨S4x3x4096x1, .f32⟩
  | .hbm, ⟨15, _⟩ => ⟨S4x3x4096x4096, .f32⟩
  | .hbm, ⟨16, _⟩ => ⟨S4x3x4096x4096, .i1⟩
  | .hbm, ⟨17, _⟩ => ⟨S4x3x4096x4096, .f32⟩
  | .hbm, ⟨18, _⟩ => ⟨S_, .f32⟩
  | .hbm, ⟨19, _⟩ => ⟨S4x3x4096, .f32⟩
  | .hbm, ⟨20, _⟩ => ⟨S_, .f32⟩
  | .hbm, ⟨21, _⟩ => ⟨S4x3x4096, .f32⟩
  | .hbm, ⟨22, _⟩ => ⟨S4x3x4096, .f32⟩
  | .hbm, ⟨23, _⟩ => ⟨S_, .f32⟩
  | .hbm, ⟨24, _⟩ => ⟨S4x3x4096, .f32⟩
  | .hbm, ⟨25, _⟩ => ⟨S4x3x4096, .i1⟩
  | .hbm, ⟨26, _⟩ => ⟨S_, .f32⟩
  | .hbm, ⟨27, _⟩ => ⟨S4x3x4096, .f32⟩
  | .hbm, ⟨28, _⟩ => ⟨S4x3x4096, .i1⟩
  | .hbm, ⟨29, _⟩ => ⟨S_, .f32⟩
  | .hbm, ⟨30, _⟩ => ⟨S4x3x4096, .f32⟩
  | .hbm, ⟨31, _⟩ => ⟨S_, .f32⟩
  | .hbm, ⟨32, _⟩ => ⟨S4x3x4096, .f32⟩
  | .hbm, ⟨33, _⟩ => ⟨S_, .f32⟩
  | .hbm, ⟨34, _⟩ => ⟨S4x3x4096, .f32⟩
  | .hbm, ⟨35, _⟩ => ⟨S4x3x4096, .f32⟩
  | .hbm, ⟨36, _⟩ => ⟨S4x3x4096, .f32⟩
  | .hbm, ⟨37, _⟩ => ⟨S4x3x4096x1, .f32⟩
  | .hbm, ⟨38, _⟩ => ⟨S4x3x4096x4096, .f32⟩
  | .hbm, ⟨39, _⟩ => ⟨S4x3x4096x4096, .f32⟩
  | .hbm, ⟨40, _⟩ => ⟨S4x3x4096x4096, .f32⟩
  | .hbm, ⟨41, _⟩ => ⟨S_, .f32⟩
  | .hbm, ⟨42, _⟩ => ⟨S4x3x4096, .f32⟩
  | .hbm, ⟨43, _⟩ => ⟨S4x3x4096x1, .f32⟩
  | .hbm, ⟨44, _⟩ => ⟨S4x3x4096x4096, .f32⟩
  | .hbm, ⟨45, _⟩ => ⟨S4x3x4096x4096, .f32⟩
  | .hbm, ⟨46, _⟩ => ⟨S4x3x4096x1, .f32⟩
  | .hbm, ⟨47, _⟩ => ⟨S_, .f32⟩
  | .hbm, ⟨48, _⟩ => ⟨S4x3x4096x1, .f32⟩
  | .hbm, ⟨49, _⟩ => ⟨S4x3x4096x1, .f32⟩
  | .hbm, ⟨50, _⟩ => ⟨S4x128x3x4096, .f32⟩
  | .hbm, ⟨51, _⟩ => ⟨S4096x4x3x128, .f32⟩
  | .hbm, ⟨52, _⟩ => ⟨S4096x1536, .f32⟩
  | .hbm, ⟨53, _⟩ => ⟨S4096x1536, .bf16⟩
  | .hbm, ⟨54, _⟩ => ⟨S4096x1536, .f32⟩
  | .hbm, ⟨55, _⟩ => ⟨S4096x4x3x128, .f32⟩
  | .hbm, ⟨56, _⟩ => ⟨S4x128x3x4096, .f32⟩
  | .hbm, ⟨57, _⟩ => ⟨S4x3x4096x4096, .f32⟩
  | .hbm, ⟨58, _⟩ => ⟨S4x128x4096, .f32⟩
  | .hbm, ⟨59, _⟩ => ⟨S4096x4x128, .f32⟩
  | .hbm, ⟨60, _⟩ => ⟨S4x3x4096x4096, .f32⟩
  | .hbm, ⟨61, _⟩ => ⟨S4x3x4096x4096, .f32⟩
  | .hbm, ⟨62, _⟩ => ⟨S4x3x4096x4096, .f32⟩
  | .hbm, ⟨63, _⟩ => ⟨S_, .f32⟩
  | .hbm, ⟨64, _⟩ => ⟨S4x3x4096, .f32⟩
  | .hbm, ⟨65, _⟩ => ⟨S4x3x4096x1, .f32⟩
  | .hbm, ⟨66, _⟩ => ⟨S4x3x4096x1, .f32⟩
  | .hbm, ⟨67, _⟩ => ⟨S4x3x4096x4096, .f32⟩
  | .hbm, ⟨68, _⟩ => ⟨S4x3x4096x4096, .f32⟩
  | .hbm, ⟨69, _⟩ => ⟨S_, .f32⟩
  | .hbm, ⟨70, _⟩ => ⟨S4x3x4096, .f32⟩
  | .hbm, ⟨71, _⟩ => ⟨S4x3x4096x4096, .f32⟩
  | .hbm, ⟨72, _⟩ => ⟨S4x3x4096x4096, .f32⟩
  | .hbm, ⟨73, _⟩ => ⟨S4x3x4096x4096, .f32⟩
  | .hbm, ⟨74, _⟩ => ⟨S_, .f32⟩
  | .hbm, ⟨75, _⟩ => ⟨S4x3x4096x4096, .f32⟩
  | .hbm, ⟨76, _⟩ => ⟨S4x3x4096x4096, .f32⟩
  | .hbm, ⟨77, _⟩ => ⟨S4x4096x4096x3, .f32⟩
  | .hbm, ⟨78, _⟩ => ⟨S4x4096x3x128, .f32⟩
  | .hbm, ⟨79, _⟩ => ⟨S4096x4x3x128, .f32⟩
  | .hbm, ⟨80, _⟩ => ⟨S4x4096x128, .f32⟩
  | .hbm, ⟨81, _⟩ => ⟨S4096x4x128, .f32⟩
  | .hbm, ⟨82, _⟩ => ⟨S4096x512, .f32⟩
  | .hbm, ⟨83, _⟩ => ⟨S4096x512, .f32⟩
  | .hbm, ⟨84, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== MemAttn.lean ====
abbrev S4096x3584 : Shape := ⟨2, ![4096, 3584]⟩
abbrev S256x1024 : Shape := ⟨2, ![256, 1024]⟩
abbrev S128 : Shape := ⟨1, ![128]⟩
abbrev S4096x2048 : Shape := ⟨2, ![4096, 2048]⟩
abbrev S1x128 : Shape := ⟨2, ![1, 128]⟩
abbrev S256x512 : Shape := ⟨2, ![256, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S256x128 : Shape := ⟨2, ![256, 128]⟩
abbrev S256 : Shape := ⟨1, ![256]⟩
abbrev S256x1 : Shape := ⟨2, ![256, 1]⟩
abbrev S512x256 : Shape := ⟨2, ![512, 256]⟩

abbrev nBuf : Space → Nat
  | .hbm => 12
  | .vmem => 12
  | .smem => 0
  | _ => 0

abbrev bufTy : (tb : Table) → Fin (tcTables nBuf tb) → BufTy
  | .hbm, ⟨0, _⟩ => ⟨S4096x3584, .f32⟩
  | .hbm, ⟨1, _⟩ => ⟨S256x1024, .f32⟩
  | .hbm, ⟨2, _⟩ => ⟨S128, .f32⟩
  | .hbm, ⟨3, _⟩ => ⟨S128, .f32⟩
  | .hbm, ⟨4, _⟩ => ⟨S4096x2048, .bf16⟩
  | .hbm, ⟨5, _⟩ => ⟨S4096x3584, .bf16⟩
  | .hbm, ⟨6, _⟩ => ⟨S1x128, .f32⟩
  | .hbm, ⟨7, _⟩ => ⟨S1x128, .f32⟩
  | .hbm, ⟨8, _⟩ => ⟨S4096x3584, .bf16⟩
  | .hbm, ⟨9, _⟩ => ⟨S256x512, .f32⟩
  | .hbm, ⟨10, _⟩ => ⟨S256x512, .f32⟩
  | .hbm, ⟨11, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S1x128, .f32⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S256x512, .f32⟩
  | .local _ .vmem, ⟨10, _⟩ => ⟨S256x512, .f32⟩
  | .local _ .vmem, ⟨11, _⟩ => ⟨S1x128, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MemAttnRefIdeal.lean ====
abbrev S4096x3584 : Shape := ⟨2, ![4096, 3584]⟩
abbrev S256x1024 : Shape := ⟨2, ![256, 1024]⟩
abbrev S128 : Shape := ⟨1, ![128]⟩
abbrev S4096x2048 : Shape := ⟨2, ![4096, 2048]⟩
abbrev S4096x512 : Shape := ⟨2, ![4096, 512]⟩
abbrev S256x512 : Shape := ⟨2, ![256, 512]⟩
abbrev S256x4x128 : Shape := ⟨3, ![256, 4, 128]⟩
abbrev S_ : Shape := ⟨0, ![]⟩
abbrev S256x4 : Shape := ⟨2, ![256, 4]⟩
abbrev S256x4x1 : Shape := ⟨3, ![256, 4, 1]⟩
abbrev S1x1x128 : Shape := ⟨3, ![1, 1, 128]⟩
abbrev S4096x4x128 : Shape := ⟨3, ![4096, 4, 128]⟩
abbrev S4096x4 : Shape := ⟨2, ![4096, 4]⟩
abbrev S4096x4x1 : Shape := ⟨3, ![4096, 4, 1]⟩
abbrev S4x4096x256 : Shape := ⟨3, ![4, 4096, 256]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩
abbrev S4096x3072 : Shape := ⟨2, ![4096, 3072]⟩
abbrev S1x128 : Shape := ⟨2, ![1, 128]⟩

abbrev nBuf : Space → Nat
  | .hbm => 153
  | .vmem => 0
  | .smem => 0
  | _ => 0

abbrev hbmTy0_0 (i : Nat) : BufTy := match i % 128 with
  | 0 => ⟨S4096x3584, .f32⟩
  | 1 => ⟨S256x1024, .f32⟩
  | 2 => ⟨S128, .f32⟩
  | 3 => ⟨S128, .f32⟩
  | 4 => ⟨S4096x2048, .bf16⟩
  | 5 => ⟨S4096x3584, .bf16⟩
  | 6 => ⟨S4096x512, .f32⟩
  | 7 => ⟨S256x512, .f32⟩
  | 8 => ⟨S256x512, .f32⟩
  | 9 => ⟨S256x4x128, .f32⟩
  | 10 => ⟨S256x4x128, .f32⟩
  | 11 => ⟨S_, .f32⟩
  | 12 => ⟨S256x4, .f32⟩
  | 13 => ⟨S256x4x1, .f32⟩
  | 14 => ⟨S_, .f32⟩
  | 15 => ⟨S256x4x1, .f32⟩
  | 16 => ⟨S256x4x1, .f32⟩
  | 17 => ⟨S_, .f32⟩
  | 18 => ⟨S256x4x1, .f32⟩
  | 19 => ⟨S256x4x1, .f32⟩
  | 20 => ⟨S256x4x1, .f32⟩
  | 21 => ⟨S256x4x128, .f32⟩
  | 22 => ⟨S256x4x128, .f32⟩
  | 23 => ⟨S1x1x128, .f32⟩
  | 24 => ⟨S256x4x128, .f32⟩
  | 25 => ⟨S256x4x128, .f32⟩
  | 26 => ⟨S256x4x128, .f32⟩
  | 27 => ⟨S4096x4x128, .f32⟩
  | 28 => ⟨S4096x4x128, .f32⟩
  | 29 => ⟨S_, .f32⟩
  | 30 => ⟨S4096x4, .f32⟩
  | 31 => ⟨S4096x4x1, .f32⟩
  | 32 => ⟨S_, .f32⟩
  | 33 => ⟨S4096x4x1, .f32⟩
  | 34 => ⟨S4096x4x1, .f32⟩
  | 35 => ⟨S_, .f32⟩
  | 36 => ⟨S4096x4x1, .f32⟩
  | 37 => ⟨S4096x4x1, .f32⟩
  | 38 => ⟨S4096x4x1, .f32⟩
  | 39 => ⟨S4096x4x1, .f32⟩
  | 40 => ⟨S_, .f32⟩
  | 41 => ⟨S4096x4x1, .f32⟩
  | 42 => ⟨S4096x4x1, .f32⟩
  | 43 => ⟨S4096x4x128, .f32⟩
  | 44 => ⟨S4096x4x128, .f32⟩
  | 45 => ⟨S1x1x128, .f32⟩
  | 46 => ⟨S4096x4x128, .f32⟩
  | 47 => ⟨S4096x4x128, .f32⟩
  | 48 => ⟨S4x4096x256, .f32⟩
  | 49 => ⟨S_, .f32⟩
  | 50 => ⟨S4x4096x256, .f32⟩
  | 51 => ⟨S4x4096x256, .f32⟩
  | 52 => ⟨S_, .f32⟩
  | 53 => ⟨S4x4096, .f32⟩
  | 54 => ⟨S4x4096x1, .f32⟩
  | 55 => ⟨S4x4096x256, .f32⟩
  | 56 => ⟨S4x4096x256, .i1⟩
  | 57 => ⟨S4x4096x256, .f32⟩
  | 58 => ⟨S_, .f32⟩
  | 59 => ⟨S4x4096, .f32⟩
  | 60 => ⟨S_, .f32⟩
  | 61 => ⟨S4x4096, .f32⟩
  | 62 => ⟨S4x4096, .f32⟩
  | 63 => ⟨S_, .f32⟩
  | 64 => ⟨S4x4096, .f32⟩
  | 65 => ⟨S4x4096, .i1⟩
  | 66 => ⟨S_, .f32⟩
  | 67 => ⟨S4x4096, .f32⟩
  | 68 => ⟨S4x4096, .i1⟩
  | 69 => ⟨S_, .f32⟩
  | 70 => ⟨S4x4096, .f32⟩
  | 71 => ⟨S_, .f32⟩
  | 72 => ⟨S4x4096, .f32⟩
  | 73 => ⟨S_, .f32⟩
  | 74 => ⟨S4x4096, .f32⟩
  | 75 => ⟨S4x4096, .f32⟩
  | 76 => ⟨S4x4096, .f32⟩
  | 77 => ⟨S4x4096x1, .f32⟩
  | 78 => ⟨S4x4096x256, .f32⟩
  | 79 => ⟨S4x4096x256, .f32⟩
  | 80 => ⟨S4x4096x256, .f32⟩
  | 81 => ⟨S_, .f32⟩
  | 82 => ⟨S4x4096, .f32⟩
  | 83 => ⟨S4x4096x1, .f32⟩
  | 84 => ⟨S4x4096x256, .f32⟩
  | 85 => ⟨S4x4096x256, .f32⟩
  | 86 => ⟨S4x4096x1, .f32⟩
  | 87 => ⟨S_, .f32⟩
  | 88 => ⟨S4x4096x1, .f32⟩
  | 89 => ⟨S4x4096x1, .f32⟩
  | 90 => ⟨S4x128x4096, .f32⟩
  | 91 => ⟨S4096x4x128, .f32⟩
  | 92 => ⟨S4096x512, .f32⟩
  | 93 => ⟨S4096x512, .bf16⟩
  | 94 => ⟨S4096x512, .f32⟩
  | 95 => ⟨S4096x4x128, .f32⟩
  | 96 => ⟨S4x128x4096, .f32⟩
  | 97 => ⟨S4x4096x256, .f32⟩
  | 98 => ⟨S4x128x256, .f32⟩
  | 99 => ⟨S256x4x128, .f32⟩
  | 100 => ⟨S4x4096x256, .f32⟩
  | 101 => ⟨S4x4096x256, .f32⟩
  | 102 => ⟨S4x4096x256, .f32⟩
  | 103 => ⟨S_, .f32⟩
  | 104 => ⟨S4x4096, .f32⟩
  | 105 => ⟨S4x4096x1, .f32⟩
  | 106 => ⟨S4x4096x1, .f32⟩
  | 107 => ⟨S4x4096x256, .f32⟩
  | 108 => ⟨S4x4096x256, .f32⟩
  | 109 => ⟨S_, .f32⟩
  | 110 => ⟨S4x4096, .f32⟩
  | 111 => ⟨S4x4096x256, .f32⟩
  | 112 => ⟨S4x4096x256, .f32⟩
  | 113 => ⟨S4x4096x256, .f32⟩
  | 114 => ⟨S_, .f32⟩
  | 115 => ⟨S4x4096x256, .f32⟩
  | 116 => ⟨S4x4096x256, .f32⟩
  | 117 => ⟨S4x256x128, .f32⟩
  | 118 => ⟨S256x4x128, .f32⟩
  | 119 => ⟨S4x4096x128, .f32⟩
  | 120 => ⟨S4096x4x128, .f32⟩
  | 121 => ⟨S4096x4x128, .f32⟩
  | 122 => ⟨S_, .f32⟩
  | 123 => ⟨S128, .f32⟩
  | 124 => ⟨S1x1x128, .f32⟩
  | 125 => ⟨S4096x4x128, .f32⟩
  | 126 => ⟨S4096x4x128, .f32⟩
  | 127 => ⟨S_, .f32⟩
  | _ => ⟨S4096x3584, .f32⟩

abbrev hbmTy0_1 (i : Nat) : BufTy := match i % 128 with
  | 0 => ⟨S128, .f32⟩
  | 1 => ⟨S4096x4x128, .f32⟩
  | 2 => ⟨S_, .f32⟩
  | 3 => ⟨S4096x4, .f32⟩
  | 4 => ⟨S4096x4x1, .f32⟩
  | 5 => ⟨S4096x4x128, .f32⟩
  | 6 => ⟨S4096x4x128, .f32⟩
  | 7 => ⟨S4096x4x1, .f32⟩
  | 8 => ⟨S_, .f32⟩
  | 9 => ⟨S4096x4x1, .f32⟩
  | 10 => ⟨S4096x4x1, .f32⟩
  | 11 => ⟨S_, .f32⟩
  | 12 => ⟨S4096x4, .f32⟩
  | 13 => ⟨S4096x4x128, .f32⟩
  | 14 => ⟨S4096x4x128, .f32⟩
  | 15 => ⟨S4096x4x128, .f32⟩
  | 16 => ⟨S4096x4x128, .f32⟩
  | 17 => ⟨S4096x4x128, .f32⟩
  | 18 => ⟨S4096x512, .f32⟩
  | 19 => ⟨S4096x3072, .bf16⟩
  | 20 => ⟨S4096x512, .bf16⟩
  | 21 => ⟨S4096x3584, .bf16⟩
  | 22 => ⟨S256x512, .f32⟩
  | 23 => ⟨S256x512, .f32⟩
  | 24 => ⟨S1x128, .f32⟩
  | _ => ⟨S4096x3584, .f32⟩

abbrev hbmTy (i : Nat) : BufTy := match i / 128 with
  | 0 => hbmTy0_0 i
  | 1 => hbmTy0_1 i
  | _ => ⟨S4096x3584, .f32⟩

abbrev bufTy : (tb : Table) → Fin (tcTables nBuf tb) → BufTy
  | .hbm, ⟨i, _⟩ => hbmTy i
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_cst_14 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_17 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_18 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_19 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_20 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_21 : Ref sig .tc := ⟨.hbm, 127, rfl⟩
abbrev main_v99 : Ref sig .tc := ⟨.hbm, 128, rfl⟩
abbrev main_v100 : Ref sig .tc := ⟨.hbm, 129, rfl⟩
abbrev main_cst_22 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_23 : Ref sig .tc := ⟨.hbm, 136, rfl⟩
abbrev main_v106 : Ref sig .tc := ⟨.hbm, 137, rfl⟩
abbrev main_v107 : Ref sig .tc := ⟨.hbm, 138, rfl⟩
abbrev main_cst_24 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩

abbrev nD : Nat := 1
abbrev τ : Topo := Topo.v7x

variable {F : FTy → Type} [FloatOps F]
-- ==== Prep.lean ====
abbrev S4096x3072 : Shape := ⟨2, ![4096, 3072]⟩
abbrev S128 : Shape := ⟨1, ![128]⟩
abbrev S4096x1536 : Shape := ⟨2, ![4096, 1536]⟩
abbrev S4096x512 : Shape := ⟨2, ![4096, 512]⟩
abbrev S1x128 : Shape := ⟨2, ![1, 128]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S256x2560 : Shape := ⟨2, ![256, 2560]⟩
abbrev S256x128 : Shape := ⟨2, ![256, 128]⟩
abbrev S256x1536 : Shape := ⟨2, ![256, 1536]⟩
abbrev S256x512 : Shape := ⟨2, ![256, 512]⟩
abbrev S256 : Shape := ⟨1, ![256]⟩
abbrev S256x1 : Shape := ⟨2, ![256, 1]⟩

abbrev nBuf : Space → Nat
  | .hbm => 79
  | .vmem => 20
  | .smem => 0
  | _ => 0

abbrev bufTy : (tb : Table) → Fin (tcTables nBuf tb) → BufTy
  | .hbm, ⟨0, _⟩ => ⟨S4096x3072, .f32⟩
  | .hbm, ⟨1, _⟩ => ⟨S128, .f32⟩
  | .hbm, ⟨2, _⟩ => ⟨S128, .f32⟩
  | .hbm, ⟨3, _⟩ => ⟨S4096x1536, .f32⟩
  | .hbm, ⟨4, _⟩ => ⟨S4096x512, .f32⟩
  | .hbm, ⟨5, _⟩ => ⟨S4096x512, .f32⟩
  | .hbm, ⟨6, _⟩ => ⟨S1x128, .f32⟩
  | .hbm, ⟨7, _⟩ => ⟨S1x128, .f32⟩
  | .hbm, ⟨8, _⟩ => ⟨S64, .i32⟩
  | .hbm, ⟨9, _⟩ => ⟨S64x1, .i32⟩
  | .hbm, ⟨10, _⟩ => ⟨S64x64, .i32⟩
  | .hbm, ⟨11, _⟩ => ⟨S4096, .i32⟩
  | .hbm, ⟨12, _⟩ => ⟨S64, .i32⟩
  | .hbm, ⟨13, _⟩ => ⟨S1x64, .i32⟩
  | .hbm, ⟨14, _⟩ => ⟨S64x64, .i32⟩
  | .hbm, ⟨15, _⟩ => ⟨S4096, .i32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S4096, .f32⟩
  | .hbm, ⟨25, _⟩ => ⟨S4096x1, .f32⟩
  | .hbm, ⟨26, _⟩ => ⟨S1x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096, .f32⟩
  | .hbm, ⟨31, _⟩ => ⟨S4096x1, .f32⟩
  | .hbm, ⟨32, _⟩ => ⟨S1x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x128, .f32⟩
  | .hbm, ⟨37, _⟩ => ⟨S4096x128, .f32⟩
  | .hbm, ⟨38, _⟩ => ⟨S4096x128, .f32⟩
  | .hbm, ⟨39, _⟩ => ⟨S128, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S128, .i32⟩
  | .hbm, ⟨47, _⟩ => ⟨S128, .i32⟩
  | .hbm, ⟨48, _⟩ => ⟨S_, .i32⟩
  | .hbm, ⟨49, _⟩ => ⟨S128, .i32⟩
  | .hbm, ⟨50, _⟩ => ⟨S128, .i1⟩
  | .hbm, ⟨51, _⟩ => ⟨S_, .i32⟩
  | .hbm, ⟨52, _⟩ => ⟨S128, .i32⟩
  | .hbm, ⟨53, _⟩ => ⟨S128, .i1⟩
  | .hbm, ⟨54, _⟩ => ⟨S_, .i32⟩
  | .hbm, ⟨55, _⟩ => ⟨S_, .i1⟩
  | .hbm, ⟨56, _⟩ => ⟨S128, .i1⟩
  | .hbm, ⟨57, _⟩ => ⟨S128, .i1⟩
  | .hbm, ⟨58, _⟩ => ⟨S128, .i1⟩
  | .hbm, ⟨59, _⟩ => ⟨S128, .i32⟩
  | .hbm, ⟨60, _⟩ => ⟨S128, .i32⟩
  | .hbm, ⟨61, _⟩ => ⟨S128, .i32⟩
  | .hbm, ⟨62, _⟩ => ⟨S_, .i32⟩
  | .hbm, ⟨63, _⟩ => ⟨S128, .i32⟩
  | .hbm, ⟨64, _⟩ => ⟨S128, .i1⟩
  | .hbm, ⟨65, _⟩ => ⟨S4096x128, .f32⟩
  | .hbm, ⟨66, _⟩ => ⟨S_, .f32⟩
  | .hbm, ⟨67, _⟩ => ⟨S_, .f32⟩
  | .hbm, ⟨68, _⟩ => ⟨S4096x128, .i1⟩
  | .hbm, ⟨69, _⟩ => ⟨S4096x128, .f32⟩
  | .hbm, ⟨70, _⟩ => ⟨S4096x128, .f32⟩
  | .hbm, ⟨71, _⟩ => ⟨S_, .f32⟩
  | .hbm, ⟨72, _⟩ => ⟨S_, .f32⟩
  | .hbm, ⟨73, _⟩ => ⟨S4096x128, .i1⟩
  | .hbm, ⟨74, _⟩ => ⟨S4096x128, .f32⟩
  | .hbm, ⟨75, _⟩ => ⟨S4096x128, .f32⟩
  | .hbm, ⟨76, _⟩ => ⟨S4096x3072, .bf16⟩
  | .hbm, ⟨77, _⟩ => ⟨S1x128, .f32⟩
  | .hbm, ⟨78, _⟩ => ⟨S1x128, .f32⟩
  | .local _ .vmem, ⟨0, _⟩ => ⟨S256x2560, .f32⟩
  | .local _ .vmem, ⟨1, _⟩ => ⟨S256x2560, .f32⟩
  | .local _ .vmem, ⟨2, _⟩ => ⟨S1x128, .f32⟩
  | .local _ .vmem, ⟨3, _⟩ => ⟨S1x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x1536, .f32⟩
  | .local _ .vmem, ⟨11, _⟩ => ⟨S256x1536, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x2560, .bf16⟩
  | .local _ .vmem, ⟨17, _⟩ => ⟨S256x2560, .bf16⟩
  | .local _ .vmem, ⟨18, _⟩ => ⟨S1x128, .f32⟩
  | .local _ .vmem, ⟨19, _⟩ => ⟨S1x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_call0_v0 : Ref sig .tc := ⟨.hbm, 41, rfl⟩
abbrev main_call0_c : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_c_1 : Ref sig .tc := ⟨.hbm, 48, rfl⟩
abbrev main_call0_v5 : Ref sig .tc := ⟨.hbm, 49, rfl⟩
abbrev main_call0_v6 : Ref sig .tc := ⟨.hbm, 50, rfl⟩
abbrev main_call0_c_2 : Ref sig .tc := ⟨.hbm, 51, rfl⟩
abbrev main_call0_v7 : Ref sig .tc := ⟨.hbm, 52, rfl⟩
abbrev main_call0_v8 : Ref sig .tc := ⟨.hbm, 53, rfl⟩
abbrev main_call0_c_3 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_v12 : Ref sig .tc := ⟨.hbm, 58, rfl⟩
abbrev main_call0_v13 : Ref sig .tc := ⟨.hbm, 59, rfl⟩
abbrev main_call0_v14 : Ref sig .tc := ⟨.hbm, 60, rfl⟩
abbrev main_v32 : Ref sig .tc := ⟨.hbm, 61, rfl⟩
abbrev main_c_1 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_2 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v36 : Ref sig .tc := ⟨.hbm, 70, rfl⟩
abbrev main_cst_3 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v37 : Ref sig .tc := ⟨.hbm, 75, rfl⟩
abbrev main_v38_0 : Ref sig .tc := ⟨.hbm, 76, rfl⟩
abbrev main_v38_1 : Ref sig .tc := ⟨.hbm, 77, rfl⟩
abbrev main_v38_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2560 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PrepRefIdeal.lean ====
abbrev S4096x3072 : Shape := ⟨2, ![4096, 3072]⟩
abbrev S128 : Shape := ⟨1, ![128]⟩
abbrev S4096x1536 : Shape := ⟨2, ![4096, 1536]⟩
abbrev S4096x512 : Shape := ⟨2, ![4096, 512]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4096x2560 : Shape := ⟨2, ![4096, 2560]⟩
abbrev S4096x12x128 : Shape := ⟨3, ![4096, 12, 128]⟩
abbrev S4096x12 : Shape := ⟨2, ![4096, 12]⟩
abbrev S4096x12x1 : Shape := ⟨3, ![4096, 12, 1]⟩
abbrev S1x1x128 : Shape := ⟨3, ![1, 1, 128]⟩
abbrev S4096x1x128 : Shape := ⟨3, ![4096, 1, 128]⟩
abbrev S4096x12x2x2x32 : Shape := ⟨5, ![4096, 12, 2, 2, 32]⟩
abbrev S4096x12x2x1x32 : Shape := ⟨5, ![4096, 12, 2, 1, 32]⟩
abbrev S4096x12x2x32 : Shape := ⟨4, ![4096, 12, 2, 32]⟩
abbrev S4096x4x128 : Shape := ⟨3, ![4096, 4, 128]⟩
abbrev S4096x4 : Shape := ⟨2, ![4096, 4]⟩
abbrev S4096x4x1 : Shape := ⟨3, ![4096, 4, 1]⟩
abbrev S4096x4x2x2x32 : Shape := ⟨5, ![4096, 4, 2, 2, 32]⟩
abbrev S4096x4x2x1x32 : Shape := ⟨5, ![4096, 4, 2, 1, 32]⟩
abbrev S4096x4x2x32 : Shape := ⟨4, ![4096, 4, 2, 32]⟩
abbrev S1x128 : Shape := ⟨2, ![1, 128]⟩

abbrev nBuf : Space → Nat
  | .hbm => 216
  | .vmem => 0
  | .smem => 0
  | _ => 0

abbrev hbmTy0_0 (i : Nat) : BufTy := match i % 128 with
  | 0 => ⟨S4096x3072, .f32⟩
  | 1 => ⟨S128, .f32⟩
  | 2 => ⟨S128, .f32⟩
  | 3 => ⟨S4096x1536, .f32⟩
  | 4 => ⟨S4096x512, .f32⟩
  | 5 => ⟨S4096x512, .f32⟩
  | 6 => ⟨S64, .i32⟩
  | 7 => ⟨S64x1, .i32⟩
  | 8 => ⟨S64x64, .i32⟩
  | 9 => ⟨S4096, .i32⟩
  | 10 => ⟨S64, .i32⟩
  | 11 => ⟨S1x64, .i32⟩
  | 12 => ⟨S64x64, .i32⟩
  | 13 => ⟨S4096, .i32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S4096, .f32⟩
  | 23 => ⟨S4096x1, .f32⟩
  | 24 => ⟨S1x32, .f32⟩
  | 25 => ⟨S4096x32, .f32⟩
  | 26 => ⟨S4096x32, .f32⟩
  | 27 => ⟨S4096x32, .f32⟩
  | 28 => ⟨S4096, .f32⟩
  | 29 => ⟨S4096x1, .f32⟩
  | 30 => ⟨S1x32, .f32⟩
  | 31 => ⟨S4096x32, .f32⟩
  | 32 => ⟨S4096x32, .f32⟩
  | 33 => ⟨S4096x32, .f32⟩
  | 34 => ⟨S4096x128, .f32⟩
  | 35 => ⟨S4096x128, .f32⟩
  | 36 => ⟨S4096x128, .f32⟩
  | 37 => ⟨S4096x2560, .f32⟩
  | 38 => ⟨S4096x1536, .f32⟩
  | 39 => ⟨S4096x512, .f32⟩
  | 40 => ⟨S4096x512, .f32⟩
  | 41 => ⟨S4096x12x128, .f32⟩
  | 42 => ⟨S4096x12x128, .f32⟩
  | 43 => ⟨S_, .f32⟩
  | 44 => ⟨S4096x12, .f32⟩
  | 45 => ⟨S4096x12x1, .f32⟩
  | 46 => ⟨S_, .f32⟩
  | 47 => ⟨S4096x12x1, .f32⟩
  | 48 => ⟨S4096x12x1, .f32⟩
  | 49 => ⟨S_, .f32⟩
  | 50 => ⟨S4096x12x1, .f32⟩
  | 51 => ⟨S4096x12x1, .f32⟩
  | 52 => ⟨S4096x12x1, .f32⟩
  | 53 => ⟨S4096x12x1, .f32⟩
  | 54 => ⟨S_, .f32⟩
  | 55 => ⟨S4096x12x1, .f32⟩
  | 56 => ⟨S4096x12x1, .f32⟩
  | 57 => ⟨S4096x12x128, .f32⟩
  | 58 => ⟨S4096x12x128, .f32⟩
  | 59 => ⟨S1x1x128, .f32⟩
  | 60 => ⟨S4096x12x128, .f32⟩
  | 61 => ⟨S4096x12x128, .f32⟩
  | 62 => ⟨S4096x1x128, .f32⟩
  | 63 => ⟨S4096x1x128, .f32⟩
  | 64 => ⟨S4096x12x2x2x32, .f32⟩
  | 65 => ⟨S4096x12x2x1x32, .f32⟩
  | 66 => ⟨S4096x12x2x32, .f32⟩
  | 67 => ⟨S4096x12x2x32, .f32⟩
  | 68 => ⟨S4096x12x2x1x32, .f32⟩
  | 69 => ⟨S4096x12x2x32, .f32⟩
  | 70 => ⟨S4096x12x2x1x32, .f32⟩
  | 71 => ⟨S4096x12x2x1x32, .f32⟩
  | 72 => ⟨S4096x12x2x2x32, .f32⟩
  | 73 => ⟨S4096x12x128, .f32⟩
  | 74 => ⟨S4096x12x128, .f32⟩
  | 75 => ⟨S4096x12x128, .f32⟩
  | 76 => ⟨S4096x12x128, .f32⟩
  | 77 => ⟨S4096x12x128, .f32⟩
  | 78 => ⟨S4096x12x128, .f32⟩
  | 79 => ⟨S4096x4x128, .f32⟩
  | 80 => ⟨S4096x4x128, .f32⟩
  | 81 => ⟨S_, .f32⟩
  | 82 => ⟨S4096x4, .f32⟩
  | 83 => ⟨S4096x4x1, .f32⟩
  | 84 => ⟨S_, .f32⟩
  | 85 => ⟨S4096x4x1, .f32⟩
  | 86 => ⟨S4096x4x1, .f32⟩
  | 87 => ⟨S_, .f32⟩
  | 88 => ⟨S4096x4x1, .f32⟩
  | 89 => ⟨S4096x4x1, .f32⟩
  | 90 => ⟨S4096x4x1, .f32⟩
  | 91 => ⟨S4096x4x1, .f32⟩
  | 92 => ⟨S_, .f32⟩
  | 93 => ⟨S4096x4x1, .f32⟩
  | 94 => ⟨S4096x4x1, .f32⟩
  | 95 => ⟨S4096x4x128, .f32⟩
  | 96 => ⟨S4096x4x128, .f32⟩
  | 97 => ⟨S1x1x128, .f32⟩
  | 98 => ⟨S4096x4x128, .f32⟩
  | 99 => ⟨S4096x4x128, .f32⟩
  | 100 => ⟨S4096x1x128, .f32⟩
  | 101 => ⟨S4096x1x128, .f32⟩
  | 102 => ⟨S4096x4x2x2x32, .f32⟩
  | 103 => ⟨S4096x4x2x1x32, .f32⟩
  | 104 => ⟨S4096x4x2x32, .f32⟩
  | 105 => ⟨S4096x4x2x32, .f32⟩
  | 106 => ⟨S4096x4x2x1x32, .f32⟩
  | 107 => ⟨S4096x4x2x32, .f32⟩
  | 108 => ⟨S4096x4x2x1x32, .f32⟩
  | 109 => ⟨S4096x4x2x1x32, .f32⟩
  | 110 => ⟨S4096x4x2x2x32, .f32⟩
  | 111 => ⟨S4096x4x128, .f32⟩
  | 112 => ⟨S4096x4x128, .f32⟩
  | 113 => ⟨S4096x4x128, .f32⟩
  | 114 => ⟨S4096x4x128, .f32⟩
  | 115 => ⟨S4096x4x128, .f32⟩
  | 116 => ⟨S4096x4x128, .f32⟩
  | 117 => ⟨S4096x12x128, .f32⟩
  | 118 => ⟨S4096x4x128, .f32⟩
  | 119 => ⟨S4096x4x128, .f32⟩
  | 120 => ⟨S4096x4x128, .f32⟩
  | 121 => ⟨S4096x4x128, .f32⟩
  | 122 => ⟨S4096x4x128, .f32⟩
  | 123 => ⟨S4096x4x2x2x32, .f32⟩
  | 124 => ⟨S4096x4x2x1x32, .f32⟩
  | 125 => ⟨S4096x4x2x32, .f32⟩
  | 126 => ⟨S4096x4x2x1x32, .f32⟩
  | 127 => ⟨S4096x4x2x32, .f32⟩
  | _ => ⟨S4096x3072, .f32⟩

abbrev hbmTy0_1 (i : Nat) : BufTy := match i % 128 with
  | 0 => ⟨S4096x4x2x1x32, .f32⟩
  | 1 => ⟨S_, .f32⟩
  | 2 => ⟨S4096x4x2x2x32, .f32⟩
  | 3 => ⟨S4096x4x2x32, .f32⟩
  | 4 => ⟨S4096x4x2x1x32, .f32⟩
  | 5 => ⟨S_, .f32⟩
  | 6 => ⟨S4096x4x2x2x32, .f32⟩
  | 7 => ⟨S4096x4x2x2x32, .f32⟩
  | 8 => ⟨S4096x4x128, .f32⟩
  | 9 => ⟨S4096x4x128, .f32⟩
  | 10 => ⟨S4096x4x128, .f32⟩
  | 11 => ⟨S_, .f32⟩
  | 12 => ⟨S128, .f32⟩
  | 13 => ⟨S1x1x128, .f32⟩
  | 14 => ⟨S4096x4x128, .f32⟩
  | 15 => ⟨S4096x4x128, .f32⟩
  | 16 => ⟨S_, .f32⟩
  | 17 => ⟨S128, .f32⟩
  | 18 => ⟨S4096x4x128, .f32⟩
  | 19 => ⟨S_, .f32⟩
  | 20 => ⟨S4096x4, .f32⟩
  | 21 => ⟨S4096x4x1, .f32⟩
  | 22 => ⟨S4096x4x128, .f32⟩
  | 23 => ⟨S4096x4x128, .f32⟩
  | 24 => ⟨S4096x4x1, .f32⟩
  | 25 => ⟨S_, .f32⟩
  | 26 => ⟨S4096x4x1, .f32⟩
  | 27 => ⟨S4096x4x1, .f32⟩
  | 28 => ⟨S_, .f32⟩
  | 29 => ⟨S4096x4, .f32⟩
  | 30 => ⟨S4096x4x128, .f32⟩
  | 31 => ⟨S4096x4x128, .f32⟩
  | 32 => ⟨S4096x4x128, .f32⟩
  | 33 => ⟨S4096x4x128, .f32⟩
  | 34 => ⟨S4096x4x128, .f32⟩
  | 35 => ⟨S4096x512, .f32⟩
  | 36 => ⟨S4096x12x128, .f32⟩
  | 37 => ⟨S4096x12x128, .f32⟩
  | 38 => ⟨S4096x12x128, .f32⟩
  | 39 => ⟨S4096x12x128, .f32⟩
  | 40 => ⟨S4096x12x2x2x32, .f32⟩
  | 41 => ⟨S4096x12x2x1x32, .f32⟩
  | 42 => ⟨S4096x12x2x32, .f32⟩
  | 43 => ⟨S4096x12x2x1x32, .f32⟩
  | 44 => ⟨S4096x12x2x32, .f32⟩
  | 45 => ⟨S4096x12x2x1x32, .f32⟩
  | 46 => ⟨S_, .f32⟩
  | 47 => ⟨S4096x12x2x2x32, .f32⟩
  | 48 => ⟨S4096x12x2x32, .f32⟩
  | 49 => ⟨S4096x12x2x1x32, .f32⟩
  | 50 => ⟨S_, .f32⟩
  | 51 => ⟨S4096x12x2x2x32, .f32⟩
  | 52 => ⟨S4096x12x2x2x32, .f32⟩
  | 53 => ⟨S4096x12x128, .f32⟩
  | 54 => ⟨S4096x12x128, .f32⟩
  | 55 => ⟨S4096x12x128, .f32⟩
  | 56 => ⟨S_, .f32⟩
  | 57 => ⟨S128, .f32⟩
  | 58 => ⟨S1x1x128, .f32⟩
  | 59 => ⟨S4096x12x128, .f32⟩
  | 60 => ⟨S4096x12x128, .f32⟩
  | 61 => ⟨S_, .f32⟩
  | 62 => ⟨S128, .f32⟩
  | 63 => ⟨S4096x12x128, .f32⟩
  | 64 => ⟨S_, .f32⟩
  | 65 => ⟨S4096x12, .f32⟩
  | 66 => ⟨S4096x12x1, .f32⟩
  | 67 => ⟨S4096x12x128, .f32⟩
  | 68 => ⟨S4096x12x128, .f32⟩
  | 69 => ⟨S4096x12x1, .f32⟩
  | 70 => ⟨S_, .f32⟩
  | 71 => ⟨S4096x12x1, .f32⟩
  | 72 => ⟨S4096x12x1, .f32⟩
  | 73 => ⟨S_, .f32⟩
  | 74 => ⟨S4096x12, .f32⟩
  | 75 => ⟨S4096x12x128, .f32⟩
  | 76 => ⟨S4096x12x128, .f32⟩
  | 77 => ⟨S4096x12x128, .f32⟩
  | 78 => ⟨S4096x12x128, .f32⟩
  | 79 => ⟨S4096x12x128, .f32⟩
  | 80 => ⟨S4096x1536, .f32⟩
  | 81 => ⟨S4096x2560, .f32⟩
  | 82 => ⟨S_, .f32⟩
  | 83 => ⟨S4096x512, .f32⟩
  | 84 => ⟨S4096x3072, .f32⟩
  | 85 => ⟨S4096x3072, .bf16⟩
  | 86 => ⟨S1x128, .f32⟩
  | 87 => ⟨S1x128, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_1 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_5 : Ref sig .tc := ⟨.hbm, 81, rfl⟩
abbrev main_v69 : Ref sig .tc := ⟨.hbm, 82, rfl⟩
abbrev main_v70 : Ref sig .tc := ⟨.hbm, 83, rfl⟩
abbrev main_cst_6 : Ref sig .tc := ⟨.hbm, 84, rfl⟩
abbrev main_v71 : Ref sig .tc := ⟨.hbm, 85, rfl⟩
abbrev main_v72 : Ref sig .tc := ⟨.hbm, 86, rfl⟩
abbrev main_cst_7 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_8 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_cst_9 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_cst_10 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_cst_11 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_cst_12 : Ref sig .tc := ⟨.hbm, 144, rfl⟩
abbrev main_v125 : Ref sig .tc := ⟨.hbm, 145, rfl⟩
abbrev main_v126 : Ref sig .tc := ⟨.hbm, 146, rfl⟩
abbrev main_cst_13 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_cst_14 : Ref sig .tc := ⟨.hbm, 153, rfl⟩
abbrev main_v132 : Ref sig .tc := ⟨.hbm, 154, rfl⟩
abbrev main_v133 : Ref sig .tc := ⟨.hbm, 155, rfl⟩
abbrev main_cst_15 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_cst_16 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_cst_17 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_cst_18 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_cst_19 : Ref sig .tc := ⟨.hbm, 189, rfl⟩
abbrev main_v163 : Ref sig .tc := ⟨.hbm, 190, rfl⟩
abbrev main_v164 : Ref sig .tc := ⟨.hbm, 191, rfl⟩
abbrev main_cst_20 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_cst_21 : Ref sig .tc := ⟨.hbm, 198, rfl⟩
abbrev main_v170 : Ref sig .tc := ⟨.hbm, 199, rfl⟩
abbrev main_v171 : Ref sig .tc := ⟨.hbm, 200, rfl⟩
abbrev main_cst_22 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_cst_23 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩

abbrev nD : Nat := 1
abbrev τ : Topo := Topo.v7x

variable {F : FTy → Type} [FloatOps F]
-- ==== FlashFwd.lean ====
abbrev S4096x1536 : Shape := ⟨2, ![4096, 1536]⟩
abbrev S4096x512 : Shape := ⟨2, ![4096, 512]⟩
abbrev S_ : Shape := ⟨0, ![]⟩
abbrev S4096x2048 : Shape := ⟨2, ![4096, 2048]⟩
abbrev S4x12288x128 : Shape := ⟨3, ![4, 12288, 128]⟩
abbrev S512x384 : Shape := ⟨2, ![512, 384]⟩
abbrev S1024x128 : Shape := ⟨2, ![1024, 128]⟩
abbrev S1x1536x128 : Shape := ⟨3, ![1, 1536, 128]⟩
abbrev S1536x1 : Shape := ⟨2, ![1536, 1]⟩
abbrev S1536x256 : Shape := ⟨2, ![1536, 256]⟩
abbrev S1024x256 : Shape := ⟨2, ![1024, 256]⟩
abbrev S512x128 : Shape := ⟨2, ![512, 128]⟩
abbrev S512x1024 : Shape := ⟨2, ![512, 1024]⟩
abbrev S512x1 : Shape := ⟨2, ![512, 1]⟩
abbrev S512 : Shape := ⟨1, ![512]⟩
abbrev S512x256 : Shape := ⟨2, ![512, 256]⟩
abbrev S1536x128 : Shape := ⟨2, ![1536, 128]⟩

abbrev nBuf : Space → Nat
  | .hbm => 15
  | .vmem => 12
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096x1536, .f32⟩
  | .hbm, ⟨5, _⟩ => ⟨S4096x1536, .f32⟩
  | .hbm, ⟨6, _⟩ => ⟨S_, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .bf16⟩
  | .hbm, ⟨11, _⟩ => ⟨S4096x512, .bf16⟩
  | .hbm, ⟨12, _⟩ => ⟨S4096x512, .bf16⟩
  | .hbm, ⟨13, _⟩ => ⟨S4096x2048, .bf16⟩
  | .hbm, ⟨14, _⟩ => ⟨S4x12288x128, .f32⟩
  | .local _ .vmem, ⟨0, _⟩ => ⟨S512x384, .bf16⟩
  | .local _ .vmem, ⟨1, _⟩ => ⟨S512x384, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S512x384, .bf16⟩
  | .local _ .vmem, ⟨7, _⟩ => ⟨S512x384, .bf16⟩
  | .local _ .vmem, ⟨8, _⟩ => ⟨S1x1536x128, .f32⟩
  | .local _ .vmem, ⟨9, _⟩ => ⟨S1x1536x128, .f32⟩
  | .local _ .vmem, ⟨10, _⟩ => ⟨S1536x1, .f32⟩
  | .local _ .vmem, ⟨11, _⟩ => ⟨S1536x256, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v81 : BitVec 1 := Scalar.cmpi .eq arg2 c3_i32
  let v82 : BitVec 32 := Scalar.extui v81
  let c0_i32_39 : BitVec 32 := 0#32
  let v83 : BitVec 1 := Scalar.cmpi .ne v82 c0_i32_39
  v83

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1536x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FlashFwdIdeal.lean ====
variable {F : FTy → Type} [FloatOps F] [Named F]
def κ : String → Option EReal := fun
  | "log2e" => some (((Real.log 2)⁻¹ : ℝ) : EReal)
  | _ => none
-- ==== FlashFwdRefIdeal.lean ====
abbrev S4096x1536 : Shape := ⟨2, ![4096, 1536]⟩
abbrev S4096x512 : Shape := ⟨2, ![4096, 512]⟩
abbrev S4096x4x3x128 : Shape := ⟨4, ![4096, 4, 3, 128]⟩
abbrev S4096x4x128 : Shape := ⟨3, ![4096, 4, 128]⟩
abbrev S4x4096x4096x3 : Shape := ⟨4, ![4, 4096, 4096, 3]⟩
abbrev S4x3x4096x4096 : Shape := ⟨4, ![4, 3, 4096, 4096]⟩
abbrev S_ : Shape := ⟨0, ![]⟩
abbrev S4x3x4096 : Shape := ⟨3, ![4, 3, 4096]⟩
abbrev S4x3x4096x1 : Shape := ⟨4, ![4, 3, 4096, 1]⟩
abbrev S4x128x3x4096 : Shape := ⟨4, ![4, 128, 3, 4096]⟩
abbrev S4x3x8x512 : Shape := ⟨4, ![4, 3, 8, 512]⟩
abbrev S4x8x3x512 : Shape := ⟨4, ![4, 8, 3, 512]⟩
abbrev S4x12288x1 : Shape := ⟨3, ![4, 12288, 1]⟩
abbrev S4096x2048 : Shape := ⟨2, ![4096, 2048]⟩
abbrev S4x12288x128 : Shape := ⟨3, ![4, 12288, 128]⟩

abbrev nBuf : Space → Nat
  | .hbm => 51
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x512, .f32⟩
  | .hbm, ⟨3, _⟩ => ⟨S4096x4x3x128, .f32⟩
  | .hbm, ⟨4, _⟩ => ⟨S4096x4x128, .f32⟩
  | .hbm, ⟨5, _⟩ => ⟨S4096x4x128, .f32⟩
  | .hbm, ⟨6, _⟩ => ⟨S4x4096x4096x3, .f32⟩
  | .hbm, ⟨7, _⟩ => ⟨S4x3x4096x4096, .f32⟩
  | .hbm, ⟨8, _⟩ => ⟨S_, .f32⟩
  | .hbm, ⟨9, _⟩ => ⟨S4x3x4096x4096, .f32⟩
  | .hbm, ⟨10, _⟩ => ⟨S4x3x4096x4096, .f32⟩
  | .hbm, ⟨11, _⟩ => ⟨S_, .f32⟩
  | .hbm, ⟨12, _⟩ => ⟨S4x3x4096, .f32⟩
  | .hbm, ⟨13, _⟩ => ⟨S_, .f32⟩
  | .hbm, ⟨14, _⟩ => ⟨S4x3x4096, .f32⟩
  | .hbm, ⟨15, _⟩ => ⟨S4x3x4096, .f32⟩
  | .hbm, ⟨16, _⟩ => ⟨S4x3x4096x1, .f32⟩
  | .hbm, ⟨17, _⟩ => ⟨S4x3x4096x4096, .f32⟩
  | .hbm, ⟨18, _⟩ => ⟨S4x3x4096x4096, .f32⟩
  | .hbm, ⟨19, _⟩ => ⟨S4x3x4096x4096, .f32⟩
  | .hbm, ⟨20, _⟩ => ⟨S_, .f32⟩
  | .hbm, ⟨21, _⟩ => ⟨S4x3x4096, .f32⟩
  | .hbm, ⟨22, _⟩ => ⟨S4x3x4096x1, .f32⟩
  | .hbm, ⟨23, _⟩ => ⟨S4x3x4096x4096, .f32⟩
  | .hbm, ⟨24, _⟩ => ⟨S4x3x4096x4096, .f32⟩
  | .hbm, ⟨25, _⟩ => ⟨S4x128x3x4096, .f32⟩
  | .hbm, ⟨26, _⟩ => ⟨S4096x4x3x128, .f32⟩
  | .hbm, ⟨27, _⟩ => ⟨S4096x1536, .f32⟩
  | .hbm, ⟨28, _⟩ => ⟨S_, .f32⟩
  | .hbm, ⟨29, _⟩ => ⟨S4x3x4096, .f32⟩
  | .hbm, ⟨30, _⟩ => ⟨S4x3x4096x1, .f32⟩
  | .hbm, ⟨31, _⟩ => ⟨S4x3x4096x4096, .f32⟩
  | .hbm, ⟨32, _⟩ => ⟨S4x3x4096x4096, .f32⟩
  | .hbm, ⟨33, _⟩ => ⟨S4x3x4096x4096, .f32⟩
  | .hbm, ⟨34, _⟩ => ⟨S_, .f32⟩
  | .hbm, ⟨35, _⟩ => ⟨S4x3x4096, .f32⟩
  | .hbm, ⟨36, _⟩ => ⟨S4x3x4096x1, .f32⟩
  | .hbm, ⟨37, _⟩ => ⟨S4x3x4096x1, .f32⟩
  | .hbm, ⟨38, _⟩ => ⟨S4x3x4096x1, .f32⟩
  | .hbm, ⟨39, _⟩ => ⟨S_, .f32⟩
  | .hbm, ⟨40, _⟩ => ⟨S_, .f32⟩
  | .hbm, ⟨41, _⟩ => ⟨S4x3x4096x1, .f32⟩
  | .hbm, ⟨42, _⟩ => ⟨S4x3x4096x1, .f32⟩
  | .hbm, ⟨43, _⟩ => ⟨S4x3x8x512, .f32⟩
  | .hbm, ⟨44, _⟩ => ⟨S4x8x3x512, .f32⟩
  | .hbm, ⟨45, _⟩ => ⟨S4x12288x1, .f32⟩
  | .hbm, ⟨46, _⟩ => ⟨S_, .f32⟩
  | .hbm, ⟨47, _⟩ => ⟨S4096x512, .f32⟩
  | .hbm, ⟨48, _⟩ => ⟨S4096x2048, .f32⟩
  | .hbm, ⟨49, _⟩ => ⟨S4096x2048, .bf16⟩
  | .hbm, ⟨50, _⟩ => ⟨S4x12288x128, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Gmlp.lean ====
abbrev S4096x3584 : Shape := ⟨2, ![4096, 3584]⟩
abbrev S1536 : Shape := ⟨1, ![1536]⟩
abbrev S12x128x128 : Shape := ⟨3, ![12, 128, 128]⟩
abbrev S12x128 : Shape := ⟨2, ![12, 128]⟩
abbrev S4096x2048 : Shape := ⟨2, ![4096, 2048]⟩
abbrev S1x1536 : Shape := ⟨2, ![1, 1536]⟩
abbrev S128x12 : Shape := ⟨2, ![128, 12]⟩
abbrev S256x3072 : Shape := ⟨2, ![256, 3072]⟩
abbrev S256x1536 : Shape := ⟨2, ![256, 1536]⟩
abbrev S128x1536 : Shape := ⟨2, ![128, 1536]⟩
abbrev S128x3072 : Shape := ⟨2, ![128, 3072]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩

abbrev nBuf : Space → Nat
  | .hbm => 11
  | .vmem => 13
  | .smem => 0
  | _ => 0

abbrev bufTy : (tb : Table) → Fin (tcTables nBuf tb) → BufTy
  | .hbm, ⟨0, _⟩ => ⟨S4096x3584, .f32⟩
  | .hbm, ⟨1, _⟩ => ⟨S1536, .f32⟩
  | .hbm, ⟨2, _⟩ => ⟨S12x128x128, .f32⟩
  | .hbm, ⟨3, _⟩ => ⟨S12x128, .f32⟩
  | .hbm, ⟨4, _⟩ => ⟨S4096x2048, .bf16⟩
  | .hbm, ⟨5, _⟩ => ⟨S1x1536, .f32⟩
  | .hbm, ⟨6, _⟩ => ⟨S128x12, .f32⟩
  | .hbm, ⟨7, _⟩ => ⟨S4096x3584, .bf16⟩
  | .hbm, ⟨8, _⟩ => ⟨S12x128x128, .f32⟩
  | .hbm, ⟨9, _⟩ => ⟨S128x12, .f32⟩
  | .hbm, ⟨10, _⟩ => ⟨S1x1536, .f32⟩
  | .local _ .vmem, ⟨0, _⟩ => ⟨S256x3072, .f32⟩
  | .local _ .vmem, ⟨1, _⟩ => ⟨S256x3072, .f32⟩
  | .local _ .vmem, ⟨2, _⟩ => ⟨S1x1536, .f32⟩
  | .local _ .vmem, ⟨3, _⟩ => ⟨S12x128x128, .f32⟩
  | .local _ .vmem, ⟨4, _⟩ => ⟨S128x12, .f32⟩
  | .local _ .vmem, ⟨5, _⟩ => ⟨S256x1536, .bf16⟩
  | .local _ .vmem, ⟨6, _⟩ => ⟨S256x1536, .bf16⟩
  | .local _ .vmem, ⟨7, _⟩ => ⟨S256x3072, .bf16⟩
  | .local _ .vmem, ⟨8, _⟩ => ⟨S256x3072, .bf16⟩
  | .local _ .vmem, ⟨9, _⟩ => ⟨S12x128x128, .f32⟩
  | .local _ .vmem, ⟨10, _⟩ => ⟨S128x12, .f32⟩
  | .local _ .vmem, ⟨11, _⟩ => ⟨S1x1536, .f32⟩
  | .local _ .vmem, ⟨12, _⟩ => ⟨S128x1536, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v683 : BitVec 1 := Scalar.cmpi .eq arg0 c15_i32
  let v684 : BitVec 32 := Scalar.extui v683
  let c0_i32_387 : BitVec 32 := 0#32
  let v685 : BitVec 1 := Scalar.cmpi .ne v684 c0_i32_387
  v685

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S12x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GmlpRefIdeal.lean ====
abbrev S4096x3584 : Shape := ⟨2, ![4096, 3584]⟩
abbrev S1536 : Shape := ⟨1, ![1536]⟩
abbrev S12x128x128 : Shape := ⟨3, ![12, 128, 128]⟩
abbrev S12x128 : Shape := ⟨2, ![12, 128]⟩
abbrev S4096x2048 : Shape := ⟨2, ![4096, 2048]⟩
abbrev S4096x3072 : Shape := ⟨2, ![4096, 3072]⟩
abbrev S_ : Shape := ⟨0, ![]⟩
abbrev S4096x1536 : Shape := ⟨2, ![4096, 1536]⟩
abbrev S4096 : Shape := ⟨1, ![4096]⟩
abbrev S4096x1 : Shape := ⟨2, ![4096, 1]⟩
abbrev S1x1536 : Shape := ⟨2, ![1, 1536]⟩
abbrev S32x128x12x128 : Shape := ⟨4, ![32, 128, 12, 128]⟩
abbrev S12x32x128x128 : Shape := ⟨4, ![12, 32, 128, 128]⟩
abbrev S128x12 : Shape := ⟨2, ![128, 12]⟩
abbrev S1x128x12x1 : Shape := ⟨4, ![1, 128, 12, 1]⟩
abbrev S4096x512 : Shape := ⟨2, ![4096, 512]⟩

abbrev nBuf : Space → Nat
  | .hbm => 117
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S1536, .f32⟩
  | .hbm, ⟨2, _⟩ => ⟨S12x128x128, .f32⟩
  | .hbm, ⟨3, _⟩ => ⟨S12x128, .f32⟩
  | .hbm, ⟨4, _⟩ => ⟨S4096x2048, .bf16⟩
  | .hbm, ⟨5, _⟩ => ⟨S4096x3072, .f32⟩
  | .hbm, ⟨6, _⟩ => ⟨S_, .f32⟩
  | .hbm, ⟨7, _⟩ => ⟨S4096x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S_, .f32⟩
  | .hbm, ⟨15, _⟩ => ⟨S4096x3072, .f32⟩
  | .hbm, ⟨16, _⟩ => ⟨S4096x3072, .f32⟩
  | .hbm, ⟨17, _⟩ => ⟨S_, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S_, .f32⟩
  | .hbm, ⟨22, _⟩ => ⟨S4096x3072, .f32⟩
  | .hbm, ⟨23, _⟩ => ⟨S4096x3072, .f32⟩
  | .hbm, ⟨24, _⟩ => ⟨S4096x3072, .f32⟩
  | .hbm, ⟨25, _⟩ => ⟨S_, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S_, .f32⟩
  | .hbm, ⟨30, _⟩ => ⟨S4096x3072, .f32⟩
  | .hbm, ⟨31, _⟩ => ⟨S4096x3072, .f32⟩
  | .hbm, ⟨32, _⟩ => ⟨S_, .f32⟩
  | .hbm, ⟨33, _⟩ => ⟨S4096x3072, .f32⟩
  | .hbm, ⟨34, _⟩ => ⟨S4096x3072, .f32⟩
  | .hbm, ⟨35, _⟩ => ⟨S4096x3072, .f32⟩
  | .hbm, ⟨36, _⟩ => ⟨S4096x3072, .f32⟩
  | .hbm, ⟨37, _⟩ => ⟨S4096x1536, .f32⟩
  | .hbm, ⟨38, _⟩ => ⟨S4096x1536, .f32⟩
  | .hbm, ⟨39, _⟩ => ⟨S4096x1536, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1536, .f32⟩
  | .hbm, ⟨55, _⟩ => ⟨S4096x1536, .f32⟩
  | .hbm, ⟨56, _⟩ => ⟨S1x1536, .f32⟩
  | .hbm, ⟨57, _⟩ => ⟨S4096x1536, .f32⟩
  | .hbm, ⟨58, _⟩ => ⟨S4096x1536, .f32⟩
  | .hbm, ⟨59, _⟩ => ⟨S32x128x12x128, .f32⟩
  | .hbm, ⟨60, _⟩ => ⟨S12x32x128x128, .f32⟩
  | .hbm, ⟨61, _⟩ => ⟨S32x128x12x128, .f32⟩
  | .hbm, ⟨62, _⟩ => ⟨S128x12, .f32⟩
  | .hbm, ⟨63, _⟩ => ⟨S1x128x12x1, .f32⟩
  | .hbm, ⟨64, _⟩ => ⟨S32x128x12x128, .f32⟩
  | .hbm, ⟨65, _⟩ => ⟨S32x128x12x128, .f32⟩
  | .hbm, ⟨66, _⟩ => ⟨S4096x1536, .f32⟩
  | .hbm, ⟨67, _⟩ => ⟨S4096x1536, .f32⟩
  | .hbm, ⟨68, _⟩ => ⟨S4096x1536, .bf16⟩
  | .hbm, ⟨69, _⟩ => ⟨S4096x1536, .f32⟩
  | .hbm, ⟨70, _⟩ => ⟨S4096x1536, .f32⟩
  | .hbm, ⟨71, _⟩ => ⟨S4096x1536, .f32⟩
  | .hbm, ⟨72, _⟩ => ⟨S32x128x12x128, .f32⟩
  | .hbm, ⟨73, _⟩ => ⟨S_, .f32⟩
  | .hbm, ⟨74, _⟩ => ⟨S128x12, .f32⟩
  | .hbm, ⟨75, _⟩ => ⟨S1x128x12x1, .f32⟩
  | .hbm, ⟨76, _⟩ => ⟨S_, .f32⟩
  | .hbm, ⟨77, _⟩ => ⟨S128x12, .f32⟩
  | .hbm, ⟨78, _⟩ => ⟨S12x128, .f32⟩
  | .hbm, ⟨79, _⟩ => ⟨S12x32x128x128, .f32⟩
  | .hbm, ⟨80, _⟩ => ⟨S12x128x128, .f32⟩
  | .hbm, ⟨81, _⟩ => ⟨S12x32x128x128, .f32⟩
  | .hbm, ⟨82, _⟩ => ⟨S32x128x12x128, .f32⟩
  | .hbm, ⟨83, _⟩ => ⟨S4096x1536, .f32⟩
  | .hbm, ⟨84, _⟩ => ⟨S4096x1536, .f32⟩
  | .hbm, ⟨85, _⟩ => ⟨S_, .f32⟩
  | .hbm, ⟨86, _⟩ => ⟨S1536, .f32⟩
  | .hbm, ⟨87, _⟩ => ⟨S1x1536, .f32⟩
  | .hbm, ⟨88, _⟩ => ⟨S4096x1536, .f32⟩
  | .hbm, ⟨89, _⟩ => ⟨S4096x1536, .f32⟩
  | .hbm, ⟨90, _⟩ => ⟨S_, .f32⟩
  | .hbm, ⟨91, _⟩ => ⟨S1536, .f32⟩
  | .hbm, ⟨92, _⟩ => ⟨S4096x1536, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S4096x1536, .f32⟩
  | .hbm, ⟨97, _⟩ => ⟨S4096x1536, .f32⟩
  | .hbm, ⟨98, _⟩ => ⟨S4096x1, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S_, .f32⟩
  | .hbm, ⟨103, _⟩ => ⟨S4096, .f32⟩
  | .hbm, ⟨104, _⟩ => ⟨S4096x1536, .f32⟩
  | .hbm, ⟨105, _⟩ => ⟨S4096x1536, .f32⟩
  | .hbm, ⟨106, _⟩ => ⟨S4096x1536, .f32⟩
  | .hbm, ⟨107, _⟩ => ⟨S4096x1536, .f32⟩
  | .hbm, ⟨108, _⟩ => ⟨S4096x1536, .f32⟩
  | .hbm, ⟨109, _⟩ => ⟨S4096x3072, .f32⟩
  | .hbm, ⟨110, _⟩ => ⟨S4096x3072, .f32⟩
  | .hbm, ⟨111, _⟩ => ⟨S_, .f32⟩
  | .hbm, ⟨112, _⟩ => ⟨S4096x512, .f32⟩
  | .hbm, ⟨113, _⟩ => ⟨S4096x3584, .f32⟩
  | .hbm, ⟨114, _⟩ => ⟨S4096x3584, .bf16⟩
  | .hbm, ⟨115, _⟩ => ⟨S128x12, .f32⟩
  | .hbm, ⟨116, _⟩ => ⟨S1x1536, .f32⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_14 : Ref sig .tc := ⟨.hbm, 90, rfl⟩
abbrev main_v70 : Ref sig .tc := ⟨.hbm, 91, rfl⟩
abbrev main_v71 : Ref sig .tc := ⟨.hbm, 92, rfl⟩
abbrev main_cst_15 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_16 : Ref sig .tc := ⟨.hbm, 99, rfl⟩
abbrev main_v77 : Ref sig .tc := ⟨.hbm, 100, rfl⟩
abbrev main_v78 : Ref sig .tc := ⟨.hbm, 101, rfl⟩
abbrev main_cst_17 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_18 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩

abbrev nD : Nat := 1
abbrev τ : Topo := Topo.v7x

variable {F : FTy → Type} [FloatOps F]
-- ==== RmsFwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FfnUp.lean ====
abbrev S4096x2048 : Shape := ⟨2, ![4096, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S4096x5632 : Shape := ⟨2, ![4096, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .f32⟩
  | .hbm, ⟨2, _⟩ => ⟨S2048x11264, .bf16⟩
  | .hbm, ⟨3, _⟩ => ⟨S2048x8x1408, .bf16⟩
  | .hbm, ⟨4, _⟩ => ⟨S8x2048x1408, .bf16⟩
  | .hbm, ⟨5, _⟩ => ⟨S4096x5632, .bf16⟩
  | .hbm, ⟨6, _⟩ => ⟨S4096x5632, .bf16⟩
  | .hbm, ⟨7, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .f32⟩
  | .hbm, ⟨2, _⟩ => ⟨S4096x2048, .f32⟩
  | .hbm, ⟨3, _⟩ => ⟨S4096x11264, .f32⟩
  | .hbm, ⟨4, _⟩ => ⟨S4096x5632, .f32⟩
  | .hbm, ⟨5, _⟩ => ⟨S4096x5632, .f32⟩
  | .hbm, ⟨6, _⟩ => ⟨S4096x5632, .bf16⟩
  | .hbm, ⟨7, _⟩ => ⟨S4096x5632, .bf16⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== GmlpFwd.lean ====
abbrev S4096x3584 : Shape := ⟨2, ![4096, 3584]⟩
abbrev S1536 : Shape := ⟨1, ![1536]⟩
abbrev S12x128x128 : Shape := ⟨3, ![12, 128, 128]⟩
abbrev S12x128 : Shape := ⟨2, ![12, 128]⟩
abbrev S1x1536 : Shape := ⟨2, ![1, 1536]⟩
abbrev S128x12 : Shape := ⟨2, ![128, 12]⟩
abbrev S4096x2048 : Shape := ⟨2, ![4096, 2048]⟩
abbrev S256x3072 : Shape := ⟨2, ![256, 3072]⟩
abbrev S256x1536 : Shape := ⟨2, ![256, 1536]⟩
abbrev S128x3072 : Shape := ⟨2, ![128, 3072]⟩
abbrev S128x1536 : Shape := ⟨2, ![128, 1536]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩

abbrev nBuf : Space → Nat
  | .hbm => 7
  | .vmem => 7
  | .smem => 0
  | _ => 0

abbrev bufTy : (tb : Table) → Fin (tcTables nBuf tb) → BufTy
  | .hbm, ⟨0, _⟩ => ⟨S4096x3584, .f32⟩
  | .hbm, ⟨1, _⟩ => ⟨S1536, .f32⟩
  | .hbm, ⟨2, _⟩ => ⟨S12x128x128, .f32⟩
  | .hbm, ⟨3, _⟩ => ⟨S12x128, .f32⟩
  | .hbm, ⟨4, _⟩ => ⟨S1x1536, .f32⟩
  | .hbm, ⟨5, _⟩ => ⟨S128x12, .f32⟩
  | .hbm, ⟨6, _⟩ => ⟨S4096x2048, .bf16⟩
  | .local _ .vmem, ⟨0, _⟩ => ⟨S256x3072, .f32⟩
  | .local _ .vmem, ⟨1, _⟩ => ⟨S256x3072, .f32⟩
  | .local _ .vmem, ⟨2, _⟩ => ⟨S1x1536, .f32⟩
  | .local _ .vmem, ⟨3, _⟩ => ⟨S12x128x128, .f32⟩
  | .local _ .vmem, ⟨4, _⟩ => ⟨S128x12, .f32⟩
  | .local _ .vmem, ⟨5, _⟩ => ⟨S256x1536, .bf16⟩
  | .local _ .vmem, ⟨6, _⟩ => ⟨S256x1536, .bf16⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GmlpFwdRefIdeal.lean ====
abbrev S4096x3584 : Shape := ⟨2, ![4096, 3584]⟩
abbrev S1536 : Shape := ⟨1, ![1536]⟩
abbrev S12x128x128 : Shape := ⟨3, ![12, 128, 128]⟩
abbrev S12x128 : Shape := ⟨2, ![12, 128]⟩
abbrev S4096x3072 : Shape := ⟨2, ![4096, 3072]⟩
abbrev S_ : Shape := ⟨0, ![]⟩
abbrev S4096x1536 : Shape := ⟨2, ![4096, 1536]⟩
abbrev S4096 : Shape := ⟨1, ![4096]⟩
abbrev S4096x1 : Shape := ⟨2, ![4096, 1]⟩
abbrev S1x1536 : Shape := ⟨2, ![1, 1536]⟩
abbrev S32x128x12x128 : Shape := ⟨4, ![32, 128, 12, 128]⟩
abbrev S12x32x128x128 : Shape := ⟨4, ![12, 32, 128, 128]⟩
abbrev S128x12 : Shape := ⟨2, ![128, 12]⟩
abbrev S1x128x12x1 : Shape := ⟨4, ![1, 128, 12, 1]⟩
abbrev S4096x512 : Shape := ⟨2, ![4096, 512]⟩
abbrev S4096x2048 : Shape := ⟨2, ![4096, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S1536, .f32⟩
  | .hbm, ⟨2, _⟩ => ⟨S12x128x128, .f32⟩
  | .hbm, ⟨3, _⟩ => ⟨S12x128, .f32⟩
  | .hbm, ⟨4, _⟩ => ⟨S4096x3072, .f32⟩
  | .hbm, ⟨5, _⟩ => ⟨S_, .f32⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S_, .f32⟩
  | .hbm, ⟨10, _⟩ => ⟨S4096x3072, .f32⟩
  | .hbm, ⟨11, _⟩ => ⟨S4096x3072, .f32⟩
  | .hbm, ⟨12, _⟩ => ⟨S4096x3072, .f32⟩
  | .hbm, ⟨13, _⟩ => ⟨S4096x3072, .f32⟩
  | .hbm, ⟨14, _⟩ => ⟨S4096x1536, .f32⟩
  | .hbm, ⟨15, _⟩ => ⟨S4096x1536, .f32⟩
  | .hbm, ⟨16, _⟩ => ⟨S4096x1536, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1536, .f32⟩
  | .hbm, ⟨28, _⟩ => ⟨S4096x1536, .f32⟩
  | .hbm, ⟨29, _⟩ => ⟨S1x1536, .f32⟩
  | .hbm, ⟨30, _⟩ => ⟨S4096x1536, .f32⟩
  | .hbm, ⟨31, _⟩ => ⟨S4096x1536, .f32⟩
  | .hbm, ⟨32, _⟩ => ⟨S32x128x12x128, .f32⟩
  | .hbm, ⟨33, _⟩ => ⟨S12x32x128x128, .f32⟩
  | .hbm, ⟨34, _⟩ => ⟨S32x128x12x128, .f32⟩
  | .hbm, ⟨35, _⟩ => ⟨S128x12, .f32⟩
  | .hbm, ⟨36, _⟩ => ⟨S1x128x12x1, .f32⟩
  | .hbm, ⟨37, _⟩ => ⟨S32x128x12x128, .f32⟩
  | .hbm, ⟨38, _⟩ => ⟨S32x128x12x128, .f32⟩
  | .hbm, ⟨39, _⟩ => ⟨S4096x1536, .f32⟩
  | .hbm, ⟨40, _⟩ => ⟨S4096x1536, .f32⟩
  | .hbm, ⟨41, _⟩ => ⟨S_, .f32⟩
  | .hbm, ⟨42, _⟩ => ⟨S4096x512, .f32⟩
  | .hbm, ⟨43, _⟩ => ⟨S4096x2048, .f32⟩
  | .hbm, ⟨44, _⟩ => ⟨S4096x2048, .bf16⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== MemFwd.lean ====
abbrev S4096x3584 : Shape := ⟨2, ![4096, 3584]⟩
abbrev S256x1024 : Shape := ⟨2, ![256, 1024]⟩
abbrev S128 : Shape := ⟨1, ![128]⟩
abbrev S4096x2048 : Shape := ⟨2, ![4096, 2048]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S256x128 : Shape := ⟨2, ![256, 128]⟩
abbrev S256 : Shape := ⟨1, ![256]⟩
abbrev S256x1 : Shape := ⟨2, ![256, 1]⟩
abbrev S512x256 : Shape := ⟨2, ![512, 256]⟩

abbrev nBuf : Space → Nat
  | .hbm => 8
  | .vmem => 7
  | .smem => 0
  | _ => 0

abbrev bufTy : (tb : Table) → Fin (tcTables nBuf tb) → BufTy
  | .hbm, ⟨0, _⟩ => ⟨S4096x3584, .f32⟩
  | .hbm, ⟨1, _⟩ => ⟨S256x1024, .f32⟩
  | .hbm, ⟨2, _⟩ => ⟨S128, .f32⟩
  | .hbm, ⟨3, _⟩ => ⟨S128, .f32⟩
  | .hbm, ⟨4, _⟩ => ⟨S4096x2048, .bf16⟩
  | .hbm, ⟨5, _⟩ => ⟨S1x128, .f32⟩
  | .hbm, ⟨6, _⟩ => ⟨S1x128, .f32⟩
  | .hbm, ⟨7, _⟩ => ⟨S4096x2048, .bf16⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S1x128, .f32⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemFwdRefIdeal.lean ====
abbrev S4096x3584 : Shape := ⟨2, ![4096, 3584]⟩
abbrev S256x1024 : Shape := ⟨2, ![256, 1024]⟩
abbrev S128 : Shape := ⟨1, ![128]⟩
abbrev S4096x2048 : Shape := ⟨2, ![4096, 2048]⟩
abbrev S4096x512 : Shape := ⟨2, ![4096, 512]⟩
abbrev S256x512 : Shape := ⟨2, ![256, 512]⟩
abbrev S256x4x128 : Shape := ⟨3, ![256, 4, 128]⟩
abbrev S_ : Shape := ⟨0, ![]⟩
abbrev S256x4 : Shape := ⟨2, ![256, 4]⟩
abbrev S256x4x1 : Shape := ⟨3, ![256, 4, 1]⟩
abbrev S1x1x128 : Shape := ⟨3, ![1, 1, 128]⟩
abbrev S4096x4x128 : Shape := ⟨3, ![4096, 4, 128]⟩
abbrev S4096x4 : Shape := ⟨2, ![4096, 4]⟩
abbrev S4096x4x1 : Shape := ⟨3, ![4096, 4, 1]⟩
abbrev S4x4096x256 : Shape := ⟨3, ![4, 4096, 256]⟩
abbrev S4x4096 : Shape := ⟨2, ![4, 4096]⟩
abbrev S4x4096x1 : Shape := ⟨3, ![4, 4096, 1]⟩
abbrev S4x128x4096 : Shape := ⟨3, ![4, 128, 4096]⟩
abbrev S4096x1536 : Shape := ⟨2, ![4096, 1536]⟩

abbrev nBuf : Space → Nat
  | .hbm => 67
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S256x1024, .f32⟩
  | .hbm, ⟨2, _⟩ => ⟨S128, .f32⟩
  | .hbm, ⟨3, _⟩ => ⟨S128, .f32⟩
  | .hbm, ⟨4, _⟩ => ⟨S4096x2048, .bf16⟩
  | .hbm, ⟨5, _⟩ => ⟨S4096x512, .f32⟩
  | .hbm, ⟨6, _⟩ => ⟨S256x512, .f32⟩
  | .hbm, ⟨7, _⟩ => ⟨S256x512, .f32⟩
  | .hbm, ⟨8, _⟩ => ⟨S256x4x128, .f32⟩
  | .hbm, ⟨9, _⟩ => ⟨S256x4x128, .f32⟩
  | .hbm, ⟨10, _⟩ => ⟨S_, .f32⟩
  | .hbm, ⟨11, _⟩ => ⟨S256x4, .f32⟩
  | .hbm, ⟨12, _⟩ => ⟨S256x4x1, .f32⟩
  | .hbm, ⟨13, _⟩ => ⟨S_, .f32⟩
  | .hbm, ⟨14, _⟩ => ⟨S256x4x1, .f32⟩
  | .hbm, ⟨15, _⟩ => ⟨S256x4x1, .f32⟩
  | .hbm, ⟨16, _⟩ => ⟨S_, .f32⟩
  | .hbm, ⟨17, _⟩ => ⟨S256x4x1, .f32⟩
  | .hbm, ⟨18, _⟩ => ⟨S256x4x1, .f32⟩
  | .hbm, ⟨19, _⟩ => ⟨S256x4x1, .f32⟩
  | .hbm, ⟨20, _⟩ => ⟨S256x4x128, .f32⟩
  | .hbm, ⟨21, _⟩ => ⟨S256x4x128, .f32⟩
  | .hbm, ⟨22, _⟩ => ⟨S1x1x128, .f32⟩
  | .hbm, ⟨23, _⟩ => ⟨S256x4x128, .f32⟩
  | .hbm, ⟨24, _⟩ => ⟨S256x4x128, .f32⟩
  | .hbm, ⟨25, _⟩ => ⟨S256x4x128, .f32⟩
  | .hbm, ⟨26, _⟩ => ⟨S4096x4x128, .f32⟩
  | .hbm, ⟨27, _⟩ => ⟨S4096x4x128, .f32⟩
  | .hbm, ⟨28, _⟩ => ⟨S_, .f32⟩
  | .hbm, ⟨29, _⟩ => ⟨S4096x4, .f32⟩
  | .hbm, ⟨30, _⟩ => ⟨S4096x4x1, .f32⟩
  | .hbm, ⟨31, _⟩ => ⟨S_, .f32⟩
  | .hbm, ⟨32, _⟩ => ⟨S4096x4x1, .f32⟩
  | .hbm, ⟨33, _⟩ => ⟨S4096x4x1, .f32⟩
  | .hbm, ⟨34, _⟩ => ⟨S_, .f32⟩
  | .hbm, ⟨35, _⟩ => ⟨S4096x4x1, .f32⟩
  | .hbm, ⟨36, _⟩ => ⟨S4096x4x1, .f32⟩
  | .hbm, ⟨37, _⟩ => ⟨S4096x4x1, .f32⟩
  | .hbm, ⟨38, _⟩ => ⟨S4096x4x128, .f32⟩
  | .hbm, ⟨39, _⟩ => ⟨S4096x4x128, .f32⟩
  | .hbm, ⟨40, _⟩ => ⟨S1x1x128, .f32⟩
  | .hbm, ⟨41, _⟩ => ⟨S4096x4x128, .f32⟩
  | .hbm, ⟨42, _⟩ => ⟨S4096x4x128, .f32⟩
  | .hbm, ⟨43, _⟩ => ⟨S4x4096x256, .f32⟩
  | .hbm, ⟨44, _⟩ => ⟨S_, .f32⟩
  | .hbm, ⟨45, _⟩ => ⟨S4x4096x256, .f32⟩
  | .hbm, ⟨46, _⟩ => ⟨S4x4096x256, .f32⟩
  | .hbm, ⟨47, _⟩ => ⟨S_, .f32⟩
  | .hbm, ⟨48, _⟩ => ⟨S4x4096, .f32⟩
  | .hbm, ⟨49, _⟩ => ⟨S_, .f32⟩
  | .hbm, ⟨50, _⟩ => ⟨S4x4096, .f32⟩
  | .hbm, ⟨51, _⟩ => ⟨S4x4096, .f32⟩
  | .hbm, ⟨52, _⟩ => ⟨S4x4096x1, .f32⟩
  | .hbm, ⟨53, _⟩ => ⟨S4x4096x256, .f32⟩
  | .hbm, ⟨54, _⟩ => ⟨S4x4096x256, .f32⟩
  | .hbm, ⟨55, _⟩ => ⟨S4x4096x256, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S4x4096x256, .f32⟩
  | .hbm, ⟨60, _⟩ => ⟨S4x4096x256, .f32⟩
  | .hbm, ⟨61, _⟩ => ⟨S4x128x4096, .f32⟩
  | .hbm, ⟨62, _⟩ => ⟨S4096x4x128, .f32⟩
  | .hbm, ⟨63, _⟩ => ⟨S4096x512, .f32⟩
  | .hbm, ⟨64, _⟩ => ⟨S4096x1536, .bf16⟩
  | .hbm, ⟨65, _⟩ => ⟨S4096x512, .bf16⟩
  | .hbm, ⟨66, _⟩ => ⟨S4096x2048, .bf16⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== PrepFwd.lean ====
abbrev S4096x3072 : Shape := ⟨2, ![4096, 3072]⟩
abbrev S128 : Shape := ⟨1, ![128]⟩
abbrev S1x128 : Shape := ⟨2, ![1, 128]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4096x1536 : Shape := ⟨2, ![4096, 1536]⟩
abbrev S4096x512 : Shape := ⟨2, ![4096, 512]⟩
abbrev S256x2560 : Shape := ⟨2, ![256, 2560]⟩
abbrev S256x128 : Shape := ⟨2, ![256, 128]⟩
abbrev S256x1536 : Shape := ⟨2, ![256, 1536]⟩
abbrev S256x512 : Shape := ⟨2, ![256, 512]⟩
abbrev S256 : Shape := ⟨1, ![256]⟩
abbrev S256x1 : Shape := ⟨2, ![256, 1]⟩

abbrev nBuf : Space → Nat
  | .hbm => 76
  | .vmem => 16
  | .smem => 0
  | _ => 0

abbrev bufTy : (tb : Table) → Fin (tcTables nBuf tb) → BufTy
  | .hbm, ⟨0, _⟩ => ⟨S4096x3072, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S64, .i32⟩
  | .hbm, ⟨6, _⟩ => ⟨S64x1, .i32⟩
  | .hbm, ⟨7, _⟩ => ⟨S64x64, .i32⟩
  | .hbm, ⟨8, _⟩ => ⟨S4096, .i32⟩
  | .hbm, ⟨9, _⟩ => ⟨S64, .i32⟩
  | .hbm, ⟨10, _⟩ => ⟨S1x64, .i32⟩
  | .hbm, ⟨11, _⟩ => ⟨S64x64, .i32⟩
  | .hbm, ⟨12, _⟩ => ⟨S4096, .i32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096, .f32⟩
  | .hbm, ⟨28, _⟩ => ⟨S4096x1, .f32⟩
  | .hbm, ⟨29, _⟩ => ⟨S1x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x128, .f32⟩
  | .hbm, ⟨34, _⟩ => ⟨S4096x128, .f32⟩
  | .hbm, ⟨35, _⟩ => ⟨S4096x128, .f32⟩
  | .hbm, ⟨36, _⟩ => ⟨S128, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S_, .i32⟩
  | .hbm, ⟨46, _⟩ => ⟨S128, .i32⟩
  | .hbm, ⟨47, _⟩ => ⟨S128, .i1⟩
  | .hbm, ⟨48, _⟩ => ⟨S_, .i32⟩
  | .hbm, ⟨49, _⟩ => ⟨S128, .i32⟩
  | .hbm, ⟨50, _⟩ => ⟨S128, .i1⟩
  | .hbm, ⟨51, _⟩ => ⟨S_, .i32⟩
  | .hbm, ⟨52, _⟩ => ⟨S_, .i1⟩
  | .hbm, ⟨53, _⟩ => ⟨S128, .i1⟩
  | .hbm, ⟨54, _⟩ => ⟨S128, .i1⟩
  | .hbm, ⟨55, _⟩ => ⟨S128, .i1⟩
  | .hbm, ⟨56, _⟩ => ⟨S128, .i32⟩
  | .hbm, ⟨57, _⟩ => ⟨S128, .i32⟩
  | .hbm, ⟨58, _⟩ => ⟨S128, .i32⟩
  | .hbm, ⟨59, _⟩ => ⟨S_, .i32⟩
  | .hbm, ⟨60, _⟩ => ⟨S128, .i32⟩
  | .hbm, ⟨61, _⟩ => ⟨S128, .i1⟩
  | .hbm, ⟨62, _⟩ => ⟨S4096x128, .f32⟩
  | .hbm, ⟨63, _⟩ => ⟨S_, .f32⟩
  | .hbm, ⟨64, _⟩ => ⟨S_, .f32⟩
  | .hbm, ⟨65, _⟩ => ⟨S4096x128, .i1⟩
  | .hbm, ⟨66, _⟩ => ⟨S4096x128, .f32⟩
  | .hbm, ⟨67, _⟩ => ⟨S4096x128, .f32⟩
  | .hbm, ⟨68, _⟩ => ⟨S_, .f32⟩
  | .hbm, ⟨69, _⟩ => ⟨S_, .f32⟩
  | .hbm, ⟨70, _⟩ => ⟨S4096x128, .i1⟩
  | .hbm, ⟨71, _⟩ => ⟨S4096x128, .f32⟩
  | .hbm, ⟨72, _⟩ => ⟨S4096x128, .f32⟩
  | .hbm, ⟨73, _⟩ => ⟨S4096x1536, .bf16⟩
  | .hbm, ⟨74, _⟩ => ⟨S4096x512, .bf16⟩
  | .hbm, ⟨75, _⟩ => ⟨S4096x512, .bf16⟩
  | .local _ .vmem, ⟨0, _⟩ => ⟨S256x2560, .f32⟩
  | .local _ .vmem, ⟨1, _⟩ => ⟨S256x2560, .f32⟩
  | .local _ .vmem, ⟨2, _⟩ => ⟨S1x128, .f32⟩
  | .local _ .vmem, ⟨3, _⟩ => ⟨S1x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x1536, .bf16⟩
  | .local _ .vmem, ⟨11, _⟩ => ⟨S256x1536, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_c : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_c_1 : Ref sig .tc := ⟨.hbm, 45, rfl⟩
abbrev main_call0_v5 : Ref sig .tc := ⟨.hbm, 46, rfl⟩
abbrev main_call0_v6 : Ref sig .tc := ⟨.hbm, 47, rfl⟩
abbrev main_call0_c_2 : Ref sig .tc := ⟨.hbm, 48, rfl⟩
abbrev main_call0_v7 : Ref sig .tc := ⟨.hbm, 49, rfl⟩
abbrev main_call0_v8 : Ref sig .tc := ⟨.hbm, 50, rfl⟩
abbrev main_call0_c_3 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_v32 : Ref sig .tc := ⟨.hbm, 58, rfl⟩
abbrev main_c_1 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_2 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v36 : Ref sig .tc := ⟨.hbm, 67, rfl⟩
abbrev main_cst_3 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v37 : Ref sig .tc := ⟨.hbm, 72, rfl⟩
abbrev main_v38_0 : Ref sig .tc := ⟨.hbm, 73, rfl⟩
abbrev main_v38_1 : Ref sig .tc := ⟨.hbm, 74, rfl⟩
abbrev main_v38_2 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PrepFwdIdeal.lean ====
variable {F : FTy → Type} [FloatOps F] [Named F]
def κ : String → Option EReal := fun
  | "scale2" => some (((11863283 * 134217728⁻¹) * (Real.log 2)⁻¹ : ℝ) : EReal)
  | _ => none
-- ==== PrepFwdRefIdeal.lean ====
abbrev S4096x3072 : Shape := ⟨2, ![4096, 3072]⟩
abbrev S128 : Shape := ⟨1, ![128]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4096x2560 : Shape := ⟨2, ![4096, 2560]⟩
abbrev S4096x1536 : Shape := ⟨2, ![4096, 1536]⟩
abbrev S4096x512 : Shape := ⟨2, ![4096, 512]⟩
abbrev S4096x12x128 : Shape := ⟨3, ![4096, 12, 128]⟩
abbrev S4096x12 : Shape := ⟨2, ![4096, 12]⟩
abbrev S4096x12x1 : Shape := ⟨3, ![4096, 12, 1]⟩
abbrev S1x1x128 : Shape := ⟨3, ![1, 1, 128]⟩
abbrev S4096x1x128 : Shape := ⟨3, ![4096, 1, 128]⟩
abbrev S4096x12x2x2x32 : Shape := ⟨5, ![4096, 12, 2, 2, 32]⟩
abbrev S4096x12x2x1x32 : Shape := ⟨5, ![4096, 12, 2, 1, 32]⟩
abbrev S4096x12x2x32 : Shape := ⟨4, ![4096, 12, 2, 32]⟩
abbrev S4096x4x128 : Shape := ⟨3, ![4096, 4, 128]⟩
abbrev S4096x4 : Shape := ⟨2, ![4096, 4]⟩
abbrev S4096x4x1 : Shape := ⟨3, ![4096, 4, 1]⟩
abbrev S4096x4x2x2x32 : Shape := ⟨5, ![4096, 4, 2, 2, 32]⟩
abbrev S4096x4x2x1x32 : Shape := ⟨5, ![4096, 4, 2, 1, 32]⟩
abbrev S4096x4x2x32 : Shape := ⟨4, ![4096, 4, 2, 32]⟩

abbrev nBuf : Space → Nat
  | .hbm => 119
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S128, .f32⟩
  | .hbm, ⟨2, _⟩ => ⟨S128, .f32⟩
  | .hbm, ⟨3, _⟩ => ⟨S64, .i32⟩
  | .hbm, ⟨4, _⟩ => ⟨S64x1, .i32⟩
  | .hbm, ⟨5, _⟩ => ⟨S64x64, .i32⟩
  | .hbm, ⟨6, _⟩ => ⟨S4096, .i32⟩
  | .hbm, ⟨7, _⟩ => ⟨S64, .i32⟩
  | .hbm, ⟨8, _⟩ => ⟨S1x64, .i32⟩
  | .hbm, ⟨9, _⟩ => ⟨S64x64, .i32⟩
  | .hbm, ⟨10, _⟩ => ⟨S4096, .i32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096, .f32⟩
  | .hbm, ⟨26, _⟩ => ⟨S4096x1, .f32⟩
  | .hbm, ⟨27, _⟩ => ⟨S1x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S4096x2560, .f32⟩
  | .hbm, ⟨35, _⟩ => ⟨S4096x1536, .f32⟩
  | .hbm, ⟨36, _⟩ => ⟨S4096x512, .f32⟩
  | .hbm, ⟨37, _⟩ => ⟨S4096x512, .f32⟩
  | .hbm, ⟨38, _⟩ => ⟨S4096x12x128, .f32⟩
  | .hbm, ⟨39, _⟩ => ⟨S4096x12x128, .f32⟩
  | .hbm, ⟨40, _⟩ => ⟨S_, .f32⟩
  | .hbm, ⟨41, _⟩ => ⟨S4096x12, .f32⟩
  | .hbm, ⟨42, _⟩ => ⟨S4096x12x1, .f32⟩
  | .hbm, ⟨43, _⟩ => ⟨S_, .f32⟩
  | .hbm, ⟨44, _⟩ => ⟨S4096x12x1, .f32⟩
  | .hbm, ⟨45, _⟩ => ⟨S4096x12x1, .f32⟩
  | .hbm, ⟨46, _⟩ => ⟨S_, .f32⟩
  | .hbm, ⟨47, _⟩ => ⟨S4096x12x1, .f32⟩
  | .hbm, ⟨48, _⟩ => ⟨S4096x12x1, .f32⟩
  | .hbm, ⟨49, _⟩ => ⟨S4096x12x1, .f32⟩
  | .hbm, ⟨50, _⟩ => ⟨S4096x12x128, .f32⟩
  | .hbm, ⟨51, _⟩ => ⟨S4096x12x128, .f32⟩
  | .hbm, ⟨52, _⟩ => ⟨S1x1x128, .f32⟩
  | .hbm, ⟨53, _⟩ => ⟨S4096x12x128, .f32⟩
  | .hbm, ⟨54, _⟩ => ⟨S4096x12x128, .f32⟩
  | .hbm, ⟨55, _⟩ => ⟨S4096x1x128, .f32⟩
  | .hbm, ⟨56, _⟩ => ⟨S4096x1x128, .f32⟩
  | .hbm, ⟨57, _⟩ => ⟨S4096x12x2x2x32, .f32⟩
  | .hbm, ⟨58, _⟩ => ⟨S4096x12x2x1x32, .f32⟩
  | .hbm, ⟨59, _⟩ => ⟨S4096x12x2x32, .f32⟩
  | .hbm, ⟨60, _⟩ => ⟨S4096x12x2x32, .f32⟩
  | .hbm, ⟨61, _⟩ => ⟨S4096x12x2x1x32, .f32⟩
  | .hbm, ⟨62, _⟩ => ⟨S4096x12x2x32, .f32⟩
  | .hbm, ⟨63, _⟩ => ⟨S4096x12x2x1x32, .f32⟩
  | .hbm, ⟨64, _⟩ => ⟨S4096x12x2x1x32, .f32⟩
  | .hbm, ⟨65, _⟩ => ⟨S4096x12x2x2x32, .f32⟩
  | .hbm, ⟨66, _⟩ => ⟨S4096x12x128, .f32⟩
  | .hbm, ⟨67, _⟩ => ⟨S4096x12x128, .f32⟩
  | .hbm, ⟨68, _⟩ => ⟨S4096x12x128, .f32⟩
  | .hbm, ⟨69, _⟩ => ⟨S4096x12x128, .f32⟩
  | .hbm, ⟨70, _⟩ => ⟨S4096x12x128, .f32⟩
  | .hbm, ⟨71, _⟩ => ⟨S4096x12x128, .f32⟩
  | .hbm, ⟨72, _⟩ => ⟨S4096x4x128, .f32⟩
  | .hbm, ⟨73, _⟩ => ⟨S4096x4x128, .f32⟩
  | .hbm, ⟨74, _⟩ => ⟨S_, .f32⟩
  | .hbm, ⟨75, _⟩ => ⟨S4096x4, .f32⟩
  | .hbm, ⟨76, _⟩ => ⟨S4096x4x1, .f32⟩
  | .hbm, ⟨77, _⟩ => ⟨S_, .f32⟩
  | .hbm, ⟨78, _⟩ => ⟨S4096x4x1, .f32⟩
  | .hbm, ⟨79, _⟩ => ⟨S4096x4x1, .f32⟩
  | .hbm, ⟨80, _⟩ => ⟨S_, .f32⟩
  | .hbm, ⟨81, _⟩ => ⟨S4096x4x1, .f32⟩
  | .hbm, ⟨82, _⟩ => ⟨S4096x4x1, .f32⟩
  | .hbm, ⟨83, _⟩ => ⟨S4096x4x1, .f32⟩
  | .hbm, ⟨84, _⟩ => ⟨S4096x4x128, .f32⟩
  | .hbm, ⟨85, _⟩ => ⟨S4096x4x128, .f32⟩
  | .hbm, ⟨86, _⟩ => ⟨S1x1x128, .f32⟩
  | .hbm, ⟨87, _⟩ => ⟨S4096x4x128, .f32⟩
  | .hbm, ⟨88, _⟩ => ⟨S4096x4x128, .f32⟩
  | .hbm, ⟨89, _⟩ => ⟨S4096x1x128, .f32⟩
  | .hbm, ⟨90, _⟩ => ⟨S4096x1x128, .f32⟩
  | .hbm, ⟨91, _⟩ => ⟨S4096x4x2x2x32, .f32⟩
  | .hbm, ⟨92, _⟩ => ⟨S4096x4x2x1x32, .f32⟩
  | .hbm, ⟨93, _⟩ => ⟨S4096x4x2x32, .f32⟩
  | .hbm, ⟨94, _⟩ => ⟨S4096x4x2x32, .f32⟩
  | .hbm, ⟨95, _⟩ => ⟨S4096x4x2x1x32, .f32⟩
  | .hbm, ⟨96, _⟩ => ⟨S4096x4x2x32, .f32⟩
  | .hbm, ⟨97, _⟩ => ⟨S4096x4x2x1x32, .f32⟩
  | .hbm, ⟨98, _⟩ => ⟨S4096x4x2x1x32, .f32⟩
  | .hbm, ⟨99, _⟩ => ⟨S4096x4x2x2x32, .f32⟩
  | .hbm, ⟨100, _⟩ => ⟨S4096x4x128, .f32⟩
  | .hbm, ⟨101, _⟩ => ⟨S4096x4x128, .f32⟩
  | .hbm, ⟨102, _⟩ => ⟨S4096x4x128, .f32⟩
  | .hbm, ⟨103, _⟩ => ⟨S4096x4x128, .f32⟩
  | .hbm, ⟨104, _⟩ => ⟨S4096x4x128, .f32⟩
  | .hbm, ⟨105, _⟩ => ⟨S4096x4x128, .f32⟩
  | .hbm, ⟨106, _⟩ => ⟨S_, .f32⟩
  | .hbm, ⟨107, _⟩ => ⟨S4096x12x128, .f32⟩
  | .hbm, ⟨108, _⟩ => ⟨S4096x12x128, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S4096x12x128, .f32⟩
  | .hbm, ⟨113, _⟩ => ⟨S4096x12x128, .f32⟩
  | .hbm, ⟨114, _⟩ => ⟨S4096x1536, .f32⟩
  | .hbm, ⟨115, _⟩ => ⟨S4096x1536, .bf16⟩
  | .hbm, ⟨116, _⟩ => ⟨S4096x512, .f32⟩
  | .hbm, ⟨117, _⟩ => ⟨S4096x512, .bf16⟩
  | .hbm, ⟨118, _⟩ => ⟨S4096x512, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_cst_4 : Ref sig .tc := ⟨.hbm, 74, rfl⟩
abbrev main_v66 : Ref sig .tc := ⟨.hbm, 75, rfl⟩
abbrev main_v67 : Ref sig .tc := ⟨.hbm, 76, rfl⟩
abbrev main_cst_5 : Ref sig .tc := ⟨.hbm, 77, rfl⟩
abbrev main_v68 : Ref sig .tc := ⟨.hbm, 78, rfl⟩
abbrev main_v69 : Ref sig .tc := ⟨.hbm, 79, rfl⟩
abbrev main_cst_6 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_cst_7 : Ref sig .tc := ⟨.hbm, 106, rfl⟩
abbrev main_v95 : Ref sig .tc := ⟨.hbm, 107, rfl⟩
abbrev main_v96 : Ref sig .tc := ⟨.hbm, 108, rfl⟩
abbrev main_cst_8 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩

abbrev nD : Nat := 1
abbrev τ : Topo := Topo.v7x

variable {F : FTy → Type} [FloatOps F]
-- ==== Delta.lean ====
abbrev S4096x1536 : Shape := ⟨2, ![4096, 1536]⟩
abbrev S4096x512 : Shape := ⟨2, ![4096, 512]⟩
abbrev S4096x2048 : Shape := ⟨2, ![4096, 2048]⟩
abbrev S4096x4x3x128 : Shape := ⟨4, ![4096, 4, 3, 128]⟩
abbrev S4096x4x128 : Shape := ⟨3, ![4096, 4, 128]⟩
abbrev S4x4096x4096x3 : Shape := ⟨4, ![4, 4096, 4096, 3]⟩
abbrev S4x3x4096x4096 : Shape := ⟨4, ![4, 3, 4096, 4096]⟩
abbrev S_ : Shape := ⟨0, ![]⟩
abbrev S4x3x4096 : Shape := ⟨3, ![4, 3, 4096]⟩
abbrev S4x3x4096x1 : Shape := ⟨4, ![4, 3, 4096, 1]⟩
abbrev S4x128x3x4096 : Shape := ⟨4, ![4, 128, 3, 4096]⟩
abbrev S4x12288x128 : Shape := ⟨3, ![4, 12288, 128]⟩
abbrev S512x384 : Shape := ⟨2, ![512, 384]⟩
abbrev S1x1536x128 : Shape := ⟨3, ![1, 1536, 128]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩

abbrev nBuf : Space → Nat
  | .hbm => 31
  | .vmem => 6
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x512, .f32⟩
  | .hbm, ⟨3, _⟩ => ⟨S4096x2048, .bf16⟩
  | .hbm, ⟨4, _⟩ => ⟨S4096x4x3x128, .f32⟩
  | .hbm, ⟨5, _⟩ => ⟨S4096x4x128, .f32⟩
  | .hbm, ⟨6, _⟩ => ⟨S4096x4x128, .f32⟩
  | .hbm, ⟨7, _⟩ => ⟨S4x4096x4096x3, .f32⟩
  | .hbm, ⟨8, _⟩ => ⟨S4x3x4096x4096, .f32⟩
  | .hbm, ⟨9, _⟩ => ⟨S_, .f32⟩
  | .hbm, ⟨10, _⟩ => ⟨S4x3x4096x4096, .f32⟩
  | .hbm, ⟨11, _⟩ => ⟨S4x3x4096x4096, .f32⟩
  | .hbm, ⟨12, _⟩ => ⟨S_, .f32⟩
  | .hbm, ⟨13, _⟩ => ⟨S4x3x4096, .f32⟩
  | .hbm, ⟨14, _⟩ => ⟨S4x3x4096x1, .f32⟩
  | .hbm, ⟨15, _⟩ => ⟨S4x3x4096x4096, .f32⟩
  | .hbm, ⟨16, _⟩ => ⟨S4x3x4096x4096, .f32⟩
  | .hbm, ⟨17, _⟩ => ⟨S4x3x4096x4096, .f32⟩
  | .hbm, ⟨18, _⟩ => ⟨S_, .f32⟩
  | .hbm, ⟨19, _⟩ => ⟨S4x3x4096, .f32⟩
  | .hbm, ⟨20, _⟩ => ⟨S4x3x4096x1, .f32⟩
  | .hbm, ⟨21, _⟩ => ⟨S4x3x4096x4096, .f32⟩
  | .hbm, ⟨22, _⟩ => ⟨S4x3x4096x4096, .f32⟩
  | .hbm, ⟨23, _⟩ => ⟨S4x128x3x4096, .f32⟩
  | .hbm, ⟨24, _⟩ => ⟨S4096x4x3x128, .f32⟩
  | .hbm, ⟨25, _⟩ => ⟨S4096x1536, .f32⟩
  | .hbm, ⟨26, _⟩ => ⟨S4096x1536, .bf16⟩
  | .hbm, ⟨27, _⟩ => ⟨S_, .bf16⟩
  | .hbm, ⟨28, _⟩ => ⟨S4096x512, .bf16⟩
  | .hbm, ⟨29, _⟩ => ⟨S4096x2048, .bf16⟩
  | .hbm, ⟨30, _⟩ => ⟨S4x12288x128, .f32⟩
  | .local _ .vmem, ⟨0, _⟩ => ⟨S512x384, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S1x1536x128, .f32⟩
  | .local _ .vmem, ⟨5, _⟩ => ⟨S1x1536x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DeltaRefIdeal.lean ====
abbrev S4096x1536 : Shape := ⟨2, ![4096, 1536]⟩
abbrev S4096x512 : Shape := ⟨2, ![4096, 512]⟩
abbrev S4096x2048 : Shape := ⟨2, ![4096, 2048]⟩
abbrev S4096x4x3x128 : Shape := ⟨4, ![4096, 4, 3, 128]⟩
abbrev S4096x4x128 : Shape := ⟨3, ![4096, 4, 128]⟩
abbrev S4x4096x4096x3 : Shape := ⟨4, ![4, 4096, 4096, 3]⟩
abbrev S4x3x4096x4096 : Shape := ⟨4, ![4, 3, 4096, 4096]⟩
abbrev S_ : Shape := ⟨0, ![]⟩
abbrev S4x3x4096 : Shape := ⟨3, ![4, 3, 4096]⟩
abbrev S4x3x4096x1 : Shape := ⟨4, ![4, 3, 4096, 1]⟩
abbrev S4x128x3x4096 : Shape := ⟨4, ![4, 128, 3, 4096]⟩
abbrev S4096x4x3 : Shape := ⟨3, ![4096, 4, 3]⟩
abbrev S8x512x4x3 : Shape := ⟨4, ![8, 512, 4, 3]⟩
abbrev S4x8x3x512 : Shape := ⟨4, ![4, 8, 3, 512]⟩
abbrev S4x12288x1 : Shape := ⟨3, ![4, 12288, 1]⟩
abbrev S4x12288x128 : Shape := ⟨3, ![4, 12288, 128]⟩

abbrev nBuf : Space → Nat
  | .hbm => 38
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x512, .f32⟩
  | .hbm, ⟨3, _⟩ => ⟨S4096x2048, .bf16⟩
  | .hbm, ⟨4, _⟩ => ⟨S4096x4x3x128, .f32⟩
  | .hbm, ⟨5, _⟩ => ⟨S4096x4x128, .f32⟩
  | .hbm, ⟨6, _⟩ => ⟨S4096x4x128, .f32⟩
  | .hbm, ⟨7, _⟩ => ⟨S4x4096x4096x3, .f32⟩
  | .hbm, ⟨8, _⟩ => ⟨S4x3x4096x4096, .f32⟩
  | .hbm, ⟨9, _⟩ => ⟨S_, .f32⟩
  | .hbm, ⟨10, _⟩ => ⟨S4x3x4096x4096, .f32⟩
  | .hbm, ⟨11, _⟩ => ⟨S4x3x4096x4096, .f32⟩
  | .hbm, ⟨12, _⟩ => ⟨S_, .f32⟩
  | .hbm, ⟨13, _⟩ => ⟨S4x3x4096, .f32⟩
  | .hbm, ⟨14, _⟩ => ⟨S_, .f32⟩
  | .hbm, ⟨15, _⟩ => ⟨S4x3x4096, .f32⟩
  | .hbm, ⟨16, _⟩ => ⟨S4x3x4096, .f32⟩
  | .hbm, ⟨17, _⟩ => ⟨S4x3x4096x1, .f32⟩
  | .hbm, ⟨18, _⟩ => ⟨S4x3x4096x4096, .f32⟩
  | .hbm, ⟨19, _⟩ => ⟨S4x3x4096x4096, .f32⟩
  | .hbm, ⟨20, _⟩ => ⟨S4x3x4096x4096, .f32⟩
  | .hbm, ⟨21, _⟩ => ⟨S_, .f32⟩
  | .hbm, ⟨22, _⟩ => ⟨S4x3x4096, .f32⟩
  | .hbm, ⟨23, _⟩ => ⟨S4x3x4096x1, .f32⟩
  | .hbm, ⟨24, _⟩ => ⟨S4x3x4096x4096, .f32⟩
  | .hbm, ⟨25, _⟩ => ⟨S4x3x4096x4096, .f32⟩
  | .hbm, ⟨26, _⟩ => ⟨S4x128x3x4096, .f32⟩
  | .hbm, ⟨27, _⟩ => ⟨S4096x4x3x128, .f32⟩
  | .hbm, ⟨28, _⟩ => ⟨S4096x4x3x128, .bf16⟩
  | .hbm, ⟨29, _⟩ => ⟨S4096x4x3x128, .f32⟩
  | .hbm, ⟨30, _⟩ => ⟨S4096x1536, .bf16⟩
  | .hbm, ⟨31, _⟩ => ⟨S4096x4x3x128, .bf16⟩
  | .hbm, ⟨32, _⟩ => ⟨S4096x4x3x128, .f32⟩
  | .hbm, ⟨33, _⟩ => ⟨S4096x4x3, .f32⟩
  | .hbm, ⟨34, _⟩ => ⟨S8x512x4x3, .f32⟩
  | .hbm, ⟨35, _⟩ => ⟨S4x8x3x512, .f32⟩
  | .hbm, ⟨36, _⟩ => ⟨S4x12288x1, .f32⟩
  | .hbm, ⟨37, _⟩ => ⟨S4x12288x128, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== ColsFwd.lean ====
abbrev S4096x2048 : Shape := ⟨2, ![4096, 2048]⟩
abbrev S2048x3584 : Shape := ⟨2, ![2048, 3584]⟩
abbrev S2048x8x448 : Shape := ⟨3, ![2048, 8, 448]⟩
abbrev S8x2048x448 : Shape := ⟨3, ![8, 2048, 448]⟩
abbrev S4096x3584 : Shape := ⟨2, ![4096, 3584]⟩
abbrev S1024x2048 : Shape := ⟨2, ![1024, 2048]⟩
abbrev S2x2048x448 : Shape := ⟨3, ![2, 2048, 448]⟩
abbrev S1024x896 : Shape := ⟨2, ![1024, 896]⟩
abbrev S1x2048x448 : Shape := ⟨3, ![1, 2048, 448]⟩
abbrev S2048x448 : Shape := ⟨2, ![2048, 448]⟩
abbrev S1024x448 : Shape := ⟨2, ![1024, 448]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x3584, .f32⟩
  | .hbm, ⟨2, _⟩ => ⟨S2048x3584, .bf16⟩
  | .hbm, ⟨3, _⟩ => ⟨S2048x8x448, .bf16⟩
  | .hbm, ⟨4, _⟩ => ⟨S8x2048x448, .bf16⟩
  | .hbm, ⟨5, _⟩ => ⟨S4096x3584, .f32⟩
  | .local _ .vmem, ⟨0, _⟩ => ⟨S1024x2048, .bf16⟩
  | .local _ .vmem, ⟨1, _⟩ => ⟨S1024x2048, .bf16⟩
  | .local _ .vmem, ⟨2, _⟩ => ⟨S2x2048x448, .bf16⟩
  | .local _ .vmem, ⟨3, _⟩ => ⟨S2x2048x448, .bf16⟩
  | .local _ .vmem, ⟨4, _⟩ => ⟨S1024x896, .f32⟩
  | .local _ .vmem, ⟨5, _⟩ => ⟨S1024x896, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x2048x448 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ColsFwdRefIdeal.lean ====
abbrev S4096x2048 : Shape := ⟨2, ![4096, 2048]⟩
abbrev S2048x3584 : Shape := ⟨2, ![2048, 3584]⟩
abbrev S4096x3584 : Shape := ⟨2, ![4096, 3584]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3584, .f32⟩
  | .hbm, ⟨2, _⟩ => ⟨S4096x2048, .f32⟩
  | .hbm, ⟨3, _⟩ => ⟨S4096x3584, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Matmul.lean ====
abbrev S4096x5632 : Shape := ⟨2, ![4096, 5632]⟩
abbrev S4096x2048 : Shape := ⟨2, ![4096, 2048]⟩
abbrev S5632x2048 : Shape := ⟨2, ![5632, 2048]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MatmulRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S_, .f32⟩
  | .hbm, ⟨5, _⟩ => ⟨S5632x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ColsDgrad.lean ====
abbrev S4096x5632 : Shape := ⟨2, ![4096, 5632]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S4096x2048 : Shape := ⟨2, ![4096, 2048]⟩
abbrev S512x2816 : Shape := ⟨2, ![512, 2816]⟩
abbrev S2x2048x1408 : Shape := ⟨3, ![2, 2048, 1408]⟩
abbrev S512x2048 : Shape := ⟨2, ![512, 2048]⟩
abbrev S512x1408 : Shape := ⟨2, ![512, 1408]⟩
abbrev S1x2048x1408 : Shape := ⟨3, ![1, 2048, 1408]⟩
abbrev S2048x1408 : Shape := ⟨2, ![2048, 1408]⟩

abbrev nBuf : Space → Nat
  | .hbm => 7
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x11264, .f32⟩
  | .hbm, ⟨3, _⟩ => ⟨S2048x11264, .bf16⟩
  | .hbm, ⟨4, _⟩ => ⟨S2048x8x1408, .bf16⟩
  | .hbm, ⟨5, _⟩ => ⟨S8x2048x1408, .bf16⟩
  | .hbm, ⟨6, _⟩ => ⟨S4096x2048, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2x2048x1408, .bf16⟩
  | .local _ .vmem, ⟨5, _⟩ => ⟨S2x2048x1408, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ColsDgradRefIdeal.lean ====
abbrev S4096x5632 : Shape := ⟨2, ![4096, 5632]⟩
abbrev S2048x11264 : Shape := ⟨2, ![2048, 11264]⟩
abbrev S4096x11264 : Shape := ⟨2, ![4096, 11264]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x11264, .f32⟩
  | .hbm, ⟨3, _⟩ => ⟨S4096x11264, .bf16⟩
  | .hbm, ⟨4, _⟩ => ⟨S4096x11264, .f32⟩
  | .hbm, ⟨5, _⟩ => ⟨S_, .f32⟩
  | .hbm, ⟨6, _⟩ => ⟨S4096x2048, .f32⟩
  | .hbm, ⟨7, _⟩ => ⟨S4096x11264, .f32⟩
  | .hbm, ⟨8, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== ColsWgrad.lean ====
abbrev S4096x2048 : Shape := ⟨2, ![4096, 2048]⟩
abbrev S4096x5632 : Shape := ⟨2, ![4096, 5632]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg2.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ColsWgradRefIdeal.lean ====
abbrev S4096x2048 : Shape := ⟨2, ![4096, 2048]⟩
abbrev S4096x5632 : Shape := ⟨2, ![4096, 5632]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S4096x2048, .f32⟩
  | .hbm, ⟨4, _⟩ => ⟨S4096x11264, .bf16⟩
  | .hbm, ⟨5, _⟩ => ⟨S4096x11264, .f32⟩
  | .hbm, ⟨6, _⟩ => ⟨S_, .f32⟩
  | .hbm, ⟨7, _⟩ => ⟨S2048x11264, .f32⟩
  | .hbm, ⟨8, _⟩ => ⟨S4096x11264, .f32⟩
  | .hbm, ⟨9, _⟩ => ⟨S11264x2048, .f32⟩
  | .hbm, ⟨10, _⟩ => ⟨S2048x11264, .f32⟩
  | .hbm, ⟨11, _⟩ => ⟨S2048x8x1408, .f32⟩
  | .hbm, ⟨12, _⟩ => ⟨S8x2048x1408, .f32⟩
  | .hbm, ⟨13, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Shard.lean ====
abbrev S4x2048x1408 : Shape := ⟨3, ![4, 2048, 1408]⟩
abbrev S8x2048x1408 : Shape := ⟨3, ![8, 2048, 1408]⟩
abbrev S1x256x1408 : Shape := ⟨3, ![1, 256, 1408]⟩
abbrev S256x1408 : Shape := ⟨2, ![256, 1408]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x1408, .f32⟩
  | .hbm, ⟨1, _⟩ => ⟨S8x2048x1408, .bf16⟩
  | .local _ .vmem, ⟨0, _⟩ => ⟨S1x256x1408, .f32⟩
  | .local _ .vmem, ⟨1, _⟩ => ⟨S1x256x1408, .f32⟩
  | .local _ .vmem, ⟨2, _⟩ => ⟨S1x256x1408, .bf16⟩
  | .local _ .vmem, ⟨3, _⟩ => ⟨S1x256x1408, .bf16⟩
  | _, _ => ⟨S4x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ShardRefIdeal.lean ====
abbrev S4x2048x1408 : Shape := ⟨3, ![4, 2048, 1408]⟩
abbrev S1x2048x1408 : Shape := ⟨3, ![1, 2048, 1408]⟩
abbrev S2048x1408 : Shape := ⟨2, ![2048, 1408]⟩
abbrev S8x2048x1408 : Shape := ⟨3, ![8, 2048, 1408]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x1408, .f32⟩
  | .hbm, ⟨1, _⟩ => ⟨S1x2048x1408, .f32⟩
  | .hbm, ⟨2, _⟩ => ⟨S2048x1408, .f32⟩
  | .hbm, ⟨3, _⟩ => ⟨S2048x1408, .bf16⟩
  | .hbm, ⟨4, _⟩ => ⟨S8x2048x1408, .bf16⟩
  | _, _ => ⟨S4x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== Adamw.lean ====
abbrev S4x2048x1408 : Shape := ⟨3, ![4, 2048, 1408]⟩
abbrev S4x128x1408 : Shape := ⟨3, ![4, 128, 1408]⟩
abbrev S1x128x1408 : Shape := ⟨3, ![1, 128, 1408]⟩
abbrev S128x1408 : Shape := ⟨2, ![128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x1408, .bf16⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .local _ .vmem, ⟨0, _⟩ => ⟨S4x128x1408, .bf16⟩
  | .local _ .vmem, ⟨1, _⟩ => ⟨S4x128x1408, .bf16⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S4x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S4x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamwRefIdeal.lean ====
abbrev S4x2048x1408 : Shape := ⟨3, ![4, 2048, 1408]⟩
abbrev S_ : Shape := ⟨0, ![]⟩
abbrev S2048x1408 : Shape := ⟨2, ![2048, 1408]⟩
abbrev S1x2048x1408 : Shape := ⟨3, ![1, 2048, 1408]⟩
abbrev S2x2048x1408 : Shape := ⟨3, ![2, 2048, 1408]⟩

abbrev nBuf : Space → Nat
  | .hbm => 66
  | .vmem => 0
  | .smem => 0
  | _ => 0

abbrev bufTy : (tb : Table) → Fin (tcTables nBuf tb) → BufTy
  | .hbm, ⟨0, _⟩ => ⟨S4x2048x1408, .bf16⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S_, .f32⟩
  | .hbm, ⟨10, _⟩ => ⟨S2048x1408, .f32⟩
  | .hbm, ⟨11, _⟩ => ⟨S1x2048x1408, .f32⟩
  | .hbm, ⟨12, _⟩ => ⟨S2048x1408, .f32⟩
  | .hbm, ⟨13, _⟩ => ⟨S1x2048x1408, .f32⟩
  | .hbm, ⟨14, _⟩ => ⟨S2048x1408, .f32⟩
  | .hbm, ⟨15, _⟩ => ⟨S1x2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S_, .f32⟩
  | .hbm, ⟨21, _⟩ => ⟨S2048x1408, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S_, .f32⟩
  | .hbm, ⟨36, _⟩ => ⟨S2048x1408, .f32⟩
  | .hbm, ⟨37, _⟩ => ⟨S2048x1408, .f32⟩
  | .hbm, ⟨38, _⟩ => ⟨S2048x1408, .f32⟩
  | .hbm, ⟨39, _⟩ => ⟨S_, .f32⟩
  | .hbm, ⟨40, _⟩ => ⟨S2048x1408, .f32⟩
  | .hbm, ⟨41, _⟩ => ⟨S2048x1408, .f32⟩
  | .hbm, ⟨42, _⟩ => ⟨S2048x1408, .f32⟩
  | .hbm, ⟨43, _⟩ => ⟨S_, .f32⟩
  | .hbm, ⟨44, _⟩ => ⟨S2048x1408, .f32⟩
  | .hbm, ⟨45, _⟩ => ⟨S2048x1408, .f32⟩
  | .hbm, ⟨46, _⟩ => ⟨S2048x1408, .f32⟩
  | .hbm, ⟨47, _⟩ => ⟨S_, .f32⟩
  | .hbm, ⟨48, _⟩ => ⟨S2048x1408, .f32⟩
  | .hbm, ⟨49, _⟩ => ⟨S2048x1408, .f32⟩
  | .hbm, ⟨50, _⟩ => ⟨S1x2048x1408, .f32⟩
  | .hbm, ⟨51, _⟩ => ⟨S1x2048x1408, .f32⟩
  | .hbm, ⟨52, _⟩ => ⟨S2x2048x1408, .f32⟩
  | .hbm, ⟨53, _⟩ => ⟨S4x2048x1408, .f32⟩
  | .hbm, ⟨54, _⟩ => ⟨S1x2048x1408, .f32⟩
  | .hbm, ⟨55, _⟩ => ⟨S1x2048x1408, .f32⟩
  | .hbm, ⟨56, _⟩ => ⟨S2x2048x1408, .f32⟩
  | .hbm, ⟨57, _⟩ => ⟨S4x2048x1408, .f32⟩
  | .hbm, ⟨58, _⟩ => ⟨S1x2048x1408, .f32⟩
  | .hbm, ⟨59, _⟩ => ⟨S1x2048x1408, .f32⟩
  | .hbm, ⟨60, _⟩ => ⟨S2x2048x1408, .f32⟩
  | .hbm, ⟨61, _⟩ => ⟨S4x2048x1408, .f32⟩
  | .hbm, ⟨62, _⟩ => ⟨S1x2048x1408, .f32⟩
  | .hbm, ⟨63, _⟩ => ⟨S1x2048x1408, .f32⟩
  | .hbm, ⟨64, _⟩ => ⟨S2x2048x1408, .f32⟩
  | .hbm, ⟨65, _⟩ => ⟨S4x2048x1408, .f32⟩
  | _, _ => ⟨S4x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== PairSum.lean ====
abbrev S8x2048x1408 : Shape := ⟨3, ![8, 2048, 1408]⟩
abbrev S4x2048x1408 : Shape := ⟨3, ![4, 2048, 1408]⟩
abbrev S1x1024x1408 : Shape := ⟨3, ![1, 1024, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x1408, .bf16⟩
  | .hbm, ⟨1, _⟩ => ⟨S4x2048x1408, .bf16⟩
  | .hbm, ⟨2, _⟩ => ⟨S4x2048x1408, .bf16⟩
  | .hbm, ⟨3, _⟩ => ⟨S4x2048x1408, .bf16⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== PairSumRefIdeal.lean ====
abbrev S8x2048x1408 : Shape := ⟨3, ![8, 2048, 1408]⟩
abbrev S4x2048x1408 : Shape := ⟨3, ![4, 2048, 1408]⟩
abbrev S4x2x2048x1408 : Shape := ⟨4, ![4, 2, 2048, 1408]⟩
abbrev S4x1x2048x1408 : Shape := ⟨4, ![4, 1, 2048, 1408]⟩

abbrev nBuf : Space → Nat
  | .hbm => 9
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S4x2048x1408, .bf16⟩
  | .hbm, ⟨2, _⟩ => ⟨S4x2x2048x1408, .bf16⟩
  | .hbm, ⟨3, _⟩ => ⟨S4x1x2048x1408, .bf16⟩
  | .hbm, ⟨4, _⟩ => ⟨S4x2048x1408, .bf16⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .bf16⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Proof.Lift.lean ====
/- Real numbers under the ideal reading. The ideal programs compute with extended reals; where every input is finite every
   value they form is a real number, and the lemmas here move the inclusion of the reals outwards through the operations the
   programs use, so that what is left of a claim is an identity of real numbers. -/
module

public import Idealize.ShloMosaic.Lib.Pipeline.ValueKit
public import Idealize.ShloMosaic.Lib.Pointwise
public import Idealize.ShloMosaic.Lib.Claim
public import Idealize.ShloMosaic.Lib.ReduceAll
public import Idealize.ShloMosaic.Lib.IdealHost
public import Idealize.ShloMosaic.PureOps.Ideal.Laws

@[expose] public section

set_option maxRecDepth 16384

noncomputable section

namespace Cert.Lift

open Idealize.ShloMosaic

/-! ## Sums, quotients, roots and exponentials of reals -/

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A product of a real number with itself is its square (for reals only, so that the inclusion moves outwards first). -/
theorem sq_real (a : ℝ) : a * a = a ^ 2 := (sq a).symm

theorem div_coe (a b : ℝ) (hb : b ≠ 0) : Ideal.div (a : EReal) (b : EReal) = ((a / b : ℝ) : EReal) := by
  rw [Ideal.div_coe hb, ← EReal.coe_mul, mul_one_div]

theorem rsqrt_coe (r : ℝ) (h : 0 < r) : Ideal.rsqrt (r : EReal) = (((√r)⁻¹ : ℝ) : EReal) := by
  show (if r < 0 then (⊥ : EReal) else if r = 0 then ⊤ else (((√r)⁻¹ : ℝ) : EReal)) = _
  rw [if_neg (not_lt.2 h.le), if_neg h.ne']

theorem exp_coe (r : ℝ) : Ideal.exp (r : EReal) = ((Real.exp r : ℝ) : EReal) := rfl

theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem zero_coe : (0 : EReal) = ((0 : ℝ) : EReal) := rfl

theorem one_coe : (1 : EReal) = ((1 : ℝ) : EReal) := rfl

/-- The derivative of the reciprocal root, as the reference writes it. -/
theorem inv_sqrt_div (v : ℝ) (h : 0 < v) : (√v)⁻¹ / v = (√v)⁻¹ * (√v)⁻¹ * (√v)⁻¹ := by
  have hs : √v * √v = v := Real.mul_self_sqrt h.le
  have hp : √v ≠ 0 := (Real.sqrt_pos.2 h).ne'
  generalize √v = q at hs hp ⊢
  rw [← hs]
  field_simp

/-! ## Literals -/

theorem lit_128 : Ideal.ofBits .f32 0x43000000#32 = ((128 : ℝ) : EReal) := by
  simp [Ideal.ofBits, Ideal.ieee]; rw [← EReal.coe_mul]; congr 1; norm_num

theorem lit_2048 : Ideal.ofBits .f32 0x45000000#32 = ((2048 : ℝ) : EReal) := by
  simp [Ideal.ofBits, Ideal.ieee]; rw [← EReal.coe_mul]; congr 1; norm_num

theorem lit_neg_half : Ideal.ofBits .f32 0xBF000000#32 = ((-(1 / 2) : ℝ) : EReal) := by
  simp [Ideal.ofBits, Ideal.ieee]; rw [← EReal.coe_mul]; congr 1; norm_num

theorem lit_half : Ideal.ofBits .f32 0x3F000000#32 = ((1 / 2 : ℝ) : EReal) := by
  simp [Ideal.ofBits, Ideal.ieee]; rw [← EReal.coe_mul]; congr 1; norm_num

/-- The root mean square's small constant, the rational number that its word stores. -/
def eps : ℝ := 8796093 / 2 ^ 43

theorem eps_pos : 0 < eps := by unfold eps; positivity

theorem lit_eps : Ideal.ofBits .f32 0x358637BD#32 = ((eps : ℝ) : EReal) := by
  unfold eps; simp [Ideal.ofBits, Ideal.ieee]; rw [← EReal.coe_mul]; congr 1

/-! ## A host sum over the first two axes of three -/

theorem drop_01 {A B C : ℕ} (h : (⟨3, ![A, B, C]⟩ : Shape).ReducesTo [0, 1] ⟨1, ![C]⟩) (a : Fin A) (b : Fin B) (c : Fin C) :
    h.drop (ix3 a b c) = ix1 c := by
  funext k
  obtain rfl : k = 0 := Subsingleton.elim (α := Fin 1) k 0
  rfl

theorem hostReduceAdd_01 {A B C : ℕ} (h : (⟨3, ![A, B, C]⟩ : Shape).ReducesTo [0, 1] ⟨1, ![C]⟩)
    (x : (⟨3, ![A, B, C]⟩ : Shape).Idx → EReal) (init : EReal) (d : Fin C) :
    Ideal.hostReduceAdd h x init (ix1 d) = init + ∑ a, ∑ b, x (ix3 a b d) := by
  unfold Ideal.hostReduceAdd
  rw [Finset.sum_filter, sum_idx3]
  refine congrArg _ (Finset.sum_congr rfl fun a _ => Finset.sum_congr rfl fun b _ => ?_)
  rw [Finset.sum_eq_single d]
  · rw [drop_01, if_pos rfl]
  · intro c _ hc
    rw [drop_01, if_neg]
    intro he
    exact hc (congrFun he 0)
  · intro hd
    exact absurd (Finset.mem_univ d) hd

/-! ## Finite arguments -/

/-- A printed `|x| < +∞` that holds makes `x` a real number. -/
theorem real_of_abs_lt (x : Ideal .f32)
    (h : FloatOps.cmpf .olt (FloatOps.hostAbsf x) (FloatOps.ofBits (F := Ideal) .f32 0x7F800000#32) = 1#1) :
    (x : EReal) = ((EReal.toReal x : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hc
    simp [Ideal.cmp, hc] at h'
  rw [max_lt_iff] at hlt
  refine (EReal.coe_toReal hlt.1.ne ?_).symm
  intro hb
  rw [hb] at hlt
  simp at hlt

/-- A printed `jnp.all(jnp.abs(x) < jnp.inf)` that holds makes every element of `x` a real number. -/
theorem real_of_all {s t u : Shape} {axes : List (Fin s.rank)} [Subsingleton t.Idx] (x c : FVec Ideal s .f32) (init : IVec u 1)
    (h : s.ReducesTo axes t) (hu : 0 < u.numel) (j : t.Idx)
    (e : Host.reduce IntOp.andi (cmpf .olt (Host.absf x) c) init h hu j = 1#1)
    (hc : ∀ i, c i = FloatOps.ofBits (F := Ideal) .f32 0x7F800000#32) (i : s.Idx) :
    (x i : EReal) = ((EReal.toReal (x i) : ℝ) : EReal) := by
  refine real_of_abs_lt (x i) ?_
  rw [← hc i]
  exact Host.reduce_andi_all _ _ _ _ j e i

/-- A matrix of real numbers, read at natural numbers. -/
theorem reals2 {A B : ℕ} (f : Fin A → Fin B → EReal) (h : ∀ i j, f i j = ((f i j).toReal : EReal)) :
    ∃ r : ℕ → ℕ → ℝ, ∀ (i : Fin A) (n : ℕ) (hn : n < B), f i ⟨n, hn⟩ = (r i n : EReal) := by
  refine ⟨fun i n => if e : i < A ∧ n < B then (f ⟨i, e.1⟩ ⟨n, e.2⟩).toReal else 0, fun i n hn => ?_⟩
  dsimp only
  rw [dif_pos ⟨i.2, hn⟩]
  exact h i ⟨n, hn⟩

end Cert.Lift
-- ==== Proof.MemKv.lean ====
/- The gradient of the memory's key norm (`_mem_kv_bwd`): the kernel's values are the reference's.

   Each row of 128 keys of a head is normed by its root mean square and scaled by the gain. With `r` the reciprocal root, the
   kernel stores `r · (gy − k·r · mean (gy · k·r))` for `gy` the incoming gradient times the gain; the reference is the
   gradient of the norm's own lines, which goes through the derivative `−½ · r / (mean square + ε)`. Over the reals the two are
   one function (`rms_grad`). The gain's gradient is one sum in two orders and needs no real numbers. -/
module

public import proofs.«01_k».proof.Defs
public import proofs.«01_k».proof.Proof.Gen.Pre_finite_memkv
public import proofs.«01_k».proof.Proof.Gen.MemKvRefIdeal.Read
public import proofs.«01_k».proof.Proof.Gen.MemKvIdeal.Value
public import proofs.«01_k».proof.Proof.Lift

@[expose] public section

set_option maxRecDepth 16384

noncomputable section

namespace Cert.MemKvProof

open Idealize.ShloMosaic Idealize.ShloMosaic.TcCoe Idealize.SL.Sem
open Idealize.ShloMosaic.Pipeline (Dat)
open Cert.Lift

/-! ## The identity of real numbers -/

/-- The gradient of a row `x` of a root-mean-square norm with gain `g` under the incoming gradient `a`, as the kernel forms it. -/
def rmsGrad (x a g : Fin 128 → ℝ) (d : Fin 128) : ℝ :=
  (√((∑ k, x k ^ 2) / 128 + eps))⁻¹ * (a d * g d - x d * (√((∑ k, x k ^ 2) / 128 + eps))⁻¹
    * ((∑ k, a k * g k * (x k * (√((∑ k, x k ^ 2) / 128 + eps))⁻¹)) / 128))

/-- It is what the reference's chain of derivatives comes to. -/
theorem rms_grad (x a g : Fin 128 → ℝ) (d : Fin 128) :
    rmsGrad x a g d
      = a d * g d * (√((∑ k, x k ^ 2) / 128 + eps))⁻¹
        + x d * ((∑ k, x k * (a k * g k)) * (-(1 / 2) * ((√((∑ k, x k ^ 2) / 128 + eps))⁻¹ / ((∑ k, x k ^ 2) / 128 + eps))) / 128)
        + (∑ k, x k * (a k * g k)) * (-(1 / 2) * ((√((∑ k, x k ^ 2) / 128 + eps))⁻¹ / ((∑ k, x k ^ 2) / 128 + eps))) / 128 * x d := by
  have hv : 0 < (∑ k, x k ^ 2) / 128 + eps := by have := eps_pos; positivity
  unfold rmsGrad
  rw [inv_sqrt_div _ hv]
  generalize (√((∑ k, x k ^ 2) / 128 + eps))⁻¹ = r
  have hs : ∑ k, a k * g k * (x k * r) = (∑ k, x k * (a k * g k)) * r := by
    rw [Finset.sum_mul]; exact Finset.sum_congr rfl fun k _ => by ring
  rw [hs]
  ring

/-! ## The reference at an index -/

section Reference
open Cert.MemKvRefIdeal Cert.MemKvRefIdeal.Read

variable (kv : FVec Ideal S256x1024 .f32) (g : FVec Ideal S128 .f32) (a b : FVec Ideal S256x512 .f32)

/-- The reference's gradient in a key column: the kernel's function of the row's real numbers. -/
theorem ref_dk (xr : ℕ → ℕ → ℝ) (hx : ∀ s n (hn : n < 1024), n < 512 → kv (ix2 s ⟨n, hn⟩) = (xr s n : EReal))
    (gr : Fin 128 → ℝ) (hg : ∀ d, g (ix1 d) = (gr d : EReal))
    (ar : ℕ → ℕ → ℝ) (ha : ∀ s n hn, a (ix2 s ⟨n, hn⟩) = (ar s n : EReal))
    (s : Fin 256) (h : Fin 4) (d : Fin 128) (j : Fin 1024) (e : (j : ℕ) = h * 128 + d) :
    val_main_v45 (F := Ideal) kv g a b (ix2 s j)
      = (rmsGrad (fun k => xr s (h * 128 + k)) (fun k => ar s (h * 128 + k)) gr d : ℝ) := by
  have hr := eps_pos
  have hl : (h : ℕ) * 128 + d < 512 := by omega
  have hl' : (h : ℕ) * 128 + d < 1024 := by omega
  obtain rfl : j = ⟨h * 128 + d, hl'⟩ := Fin.ext e
  pointwise [
    val_main_v0, val_main_v1, val_main_v2, val_main_v3, val_main_cst, val_main_v4, val_main_v5, val_main_cst_0, val_main_v6,
    val_main_v7, val_main_cst_1, val_main_v8, val_main_v9, val_main_v10, val_main_v11, val_main_cst_2, val_main_v12,
    val_main_v13, val_main_v14, val_main_v15, val_main_v16, val_main_v17, val_main_v18, val_main_v19, val_main_v20,
    val_main_v21, val_main_v22, val_main_v23, val_main_cst_3, val_main_v24, val_main_v25, val_main_v26, val_main_v27,
    val_main_cst_4, val_main_v28, val_main_v29, val_main_cst_5, val_main_v30, val_main_v31, val_main_v32, val_main_v33,
    val_main_v34, val_main_cst_6, val_main_v35, val_main_v36, val_main_cst_7, val_main_v37, val_main_v38, val_main_v39,
    val_main_v40, val_main_v41, val_main_v42, val_main_v43, val_main_v44, val_main_v45, val_main_v46]
  rw [dif_pos hl]
  simp (disch := first | omega | positivity | norm_num) only [hx, hg, ha, lit_128, lit_eps, lit_neg_half, ← EReal.coe_mul,
    ← EReal.coe_add, sum_coe, sq_real, div_coe, rsqrt_coe]
  simp only [Finset.univ_unique, Finset.sum_singleton]
  exact congrArg _ (rms_grad (fun k => xr s (h * 128 + k)) (fun k => ar s (h * 128 + k)) gr d).symm

/-- The reference's gradient in a value column is the incoming one. -/
theorem ref_dv (s : Fin 256) (d : Fin 512) (j : Fin 1024) (e : (j : ℕ) = 512 + d) :
    val_main_v45 (F := Ideal) kv g a b (ix2 s j) = b (ix2 s d) := by
  have hj : 512 + (d : ℕ) < 1024 := by omega
  obtain rfl : j = ⟨512 + d, hj⟩ := Fin.ext e
  have hl : ¬ 512 + (d : ℕ) < 512 := by omega
  unfold val_main_v45 val_main_v44 val_main_v22 val_main_v21
  pointwise

/-- The reference's gradient of the gain: one sum over the rows for each head. -/
theorem ref_dg (d : Fin 128) :
    val_main_v46 (F := Ideal) kv a (ix2 0 d)
      = ∑ s : Fin 256, ∑ h : Fin 4, kv (ix2 s ⟨h * 128 + d, by omega⟩)
          * Ideal.rsqrt (Ideal.div (∑ k : Fin 128, kv (ix2 s ⟨h * 128 + k, by omega⟩) * kv (ix2 s ⟨h * 128 + k, by omega⟩))
              (Ideal.ofBits .f32 0x43000000#32) + Ideal.ofBits .f32 0x358637BD#32)
          * a (ix2 s ⟨h * 128 + d, by omega⟩) := by
  pointwise [hostReduceAdd_01,
    val_main_v0, val_main_v1, val_main_v2, val_main_v3, val_main_cst, val_main_v4, val_main_v5, val_main_cst_0, val_main_v6,
    val_main_v7, val_main_cst_1, val_main_v8, val_main_v9, val_main_v10, val_main_v11, val_main_cst_2, val_main_v12,
    val_main_v13, val_main_v14, val_main_v15, val_main_v16, val_main_v17, val_main_v18, val_main_v19, val_main_v20,
    val_main_v21, val_main_v22, val_main_v23, val_main_cst_3, val_main_v24, val_main_v25, val_main_v26, val_main_v27,
    val_main_cst_4, val_main_v28, val_main_v29, val_main_cst_5, val_main_v30, val_main_v31, val_main_v32, val_main_v33,
    val_main_v34, val_main_cst_6, val_main_v35, val_main_v36, val_main_cst_7, val_main_v37, val_main_v38, val_main_v39,
    val_main_v40, val_main_v41, val_main_v42, val_main_v43, val_main_v44, val_main_v45, val_main_v46]
  simp only [Finset.univ_unique, Finset.sum_singleton]

end Reference

/-! ## The kernel's two results -/

section Kernel
open Cert.MemKvIdeal Cert.MemKvIdeal.Gen

variable (m : (ℓ : Loc nD τ sig) → Buf (Elt Ideal) ℓ)

/-- Every block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

theorem iblk0 (c : Dev nD) (t : Fin cfg0.N) : iblk m c 0 t = m ((c : Thread nD τ).loc main_arg0) := by
  blk_ext! [iblk, V, idx t]

theorem iblk2 (c : Dev nD) (t : Fin cfg0.N) : iblk m c 2 t = m ((c : Thread nD τ).loc main_arg2) := by
  blk_ext! [iblk, V, idx t]

theorem iblk3 (c : Dev nD) (t : Fin cfg0.N) : iblk m c 3 t = m ((c : Thread nD τ).loc main_arg3) := by
  blk_ext! [iblk, V, idx t]

/-- The gain's block is the gain, which the host has made a row of. -/
theorem iblk1 (c : Dev nD) (t : Fin cfg0.N) (d : Fin 128) :
    iblk m c 1 t (ix2 0 d) = m ((c : Thread nD τ).loc main_arg1) (ix1 d) := by
  blk_simp [iblk]
  entry_read
  pointwise
  blk_ext [idx t]

/-- The gradient of the keys and values after the run is the reference's, where the keys, the gain and the keys' incoming
    gradient are finite. -/
theorem final4 (c : Dev nD)
    (xr : ℕ → ℕ → ℝ) (hx : ∀ s n (hn : n < 1024), n < 512 → m ((c : Thread nD τ).loc main_arg0) (ix2 s ⟨n, hn⟩) = (xr s n : EReal))
    (gr : Fin 128 → ℝ) (hg : ∀ d, m ((c : Thread nD τ).loc main_arg1) (ix1 d) = (gr d : EReal))
    (ar : ℕ → ℕ → ℝ) (ha : ∀ s n hn, m ((c : Thread nD τ).loc main_arg2) (ix2 s ⟨n, hn⟩) = (ar s n : EReal)) :
    (dats m 0 c).arrAt 4 cfg0.N
      = MemKvRefIdeal.Read.val_main_v45 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_after_last 4 t0_0 (by decide +kernel) _ fun j => ?_
  blk_simp
  rw [after0_4]
  unfold outsAt0
  frame_out
  have hr := eps_pos
  simp only [(Memref.isWhole_whole _).read_unread, Memref.IsWhole.read_unread, iblk0, iblk2, iblk3]
  have hgk : ∀ d : Fin 128, iblk m c 1 t0_0 (ix2 0 d) = (gr d : EReal) := fun d => (iblk1 m c t0_0 d).trans (hg d)
  idx_vars j
  have at_head (h : Fin 4) (s : Fin 256) (d : Fin 128) (e0 : (j0 : ℕ) = s) (e : (j1 : ℕ) = h * 128 + d) :=
    (congrArg (fun q => MemKvRefIdeal.Read.val_main_v45 (F := Ideal) (m ((c : Thread nD τ).loc main_arg0))
      (m ((c : Thread nD τ).loc main_arg1)) (m ((c : Thread nD τ).loc main_arg2)) (m ((c : Thread nD τ).loc main_arg3))
      (ix2 q j1)) (Fin.ext e0)).trans (ref_dk _ _ _ _ xr hx gr hg ar ha s h d j1 e)
  canon_tiles x h using View.cover_of_tiledBy _ ![256, 128] (by sl_kernel_rfl) (ix2 j0 j1)
  case piece0 =>
    refine Eq.trans ?_ (ref_dv _ _ _ _ j0 (x 1) j1 h1).symm
    obtain rfl : j0 = x 0 := Fin.ext h0
    idx_vars x
    pointwise [k0_pay2]
  all_goals
    first
      | refine Eq.trans ?_ (at_head 3 (x 0) (x 1) h0 h1).symm
      | refine Eq.trans ?_ (at_head 2 (x 0) (x 1) h0 h1).symm
      | refine Eq.trans ?_ (at_head 1 (x 0) (x 1) h0 h1).symm
      | refine Eq.trans ?_ (at_head 0 (x 0) (x 1) h0 (h1.trans (Nat.zero_add _).symm)).symm
    idx_vars x
    pointwise [
    k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19]
    simp (disch := first | omega | positivity | norm_num) only [hx, hgk, ha, lit_128, lit_eps, ← EReal.coe_mul,
      ← EReal.coe_sub, ← EReal.coe_add, sum_coe, sq_real, div_coe, rsqrt_coe]
    first
      | rfl
      | simp only [rmsGrad, Fin.val_zero, zero_mul, zero_add]

/-- The gradient of the gain after the run is the reference's, whatever the arguments. -/
theorem final5 (c : Dev nD) :
    (dats m 0 c).arrAt 5 cfg0.N
      = MemKvRefIdeal.Read.val_main_v46 (F := Ideal) (m ((c : Thread nD τ).loc main_arg0)) (m ((c : Thread nD τ).loc main_arg2)) := by
  refine (dats m 0 c).arrAt_eq_of_after_last 5 t0_0 (by decide +kernel) _ fun j => ?_
  blk_simp
  rw [after0_5]
  unfold outsAt0
  frame_out
  simp only [(Memref.isWhole_whole _).read_unread, Memref.IsWhole.read_unread, iblk0, iblk2]
  idx_vars j
  obtain rfl : j0 = 0 := Subsingleton.elim _ _
  refine Eq.trans ?_ (ref_dg _ _ j1).symm
  pointwise [
    k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19]
  simp only [Fin.sum_univ_four, Finset.sum_add_distrib, Fin.val_zero, Fin.val_one, Fin.val_two, zero_mul, zero_add, one_mul,
    Nat.reduceMul, Fin.isValue, Fin.coe_ofNat_eq_mod, Nat.reduceMod]
  ac_rfl

end Kernel

/-! ## The claim -/

/-- The precondition says that the keys, the gain and the keys' incoming gradient are real numbers. -/
theorem finite (x0 : FVec Ideal Pre_finite_memkv.S256x1024 .f32) (x1 : FVec Ideal Pre_finite_memkv.S128 .f32)
    (x2 x3 : FVec Ideal Pre_finite_memkv.S256x512 .f32)
    (h : Pre_finite_memkv.fn (F := Ideal) x0 x1 x2 x3 = fun _ => 1#1) :
    (∃ xr : ℕ → ℕ → ℝ, ∀ s n (hn : n < 1024), n < 512 → x0 (ix2 s ⟨n, hn⟩) = (xr s n : EReal))
      ∧ (∃ gr : Fin 128 → ℝ, ∀ d, x1 (ix1 d) = (gr d : EReal))
      ∧ (∃ ar : ℕ → ℕ → ℝ, ∀ s n hn, x2 (ix2 s ⟨n, hn⟩) = (ar s n : EReal)) := by
  have h0 := congrFun h ix0
  unfold Pre_finite_memkv.fn at h0
  obtain ⟨h01, h2⟩ := IntOp.andi_eq_one.1 h0
  obtain ⟨h0, h1⟩ := IntOp.andi_eq_one.1 h01
  have hx := real_of_all _ _ _ _ _ _ h0 fun _ => rfl
  have hg := real_of_all _ _ _ _ _ _ h1 fun _ => rfl
  have ha := real_of_all _ _ _ _ _ _ h2 fun _ => rfl
  refine ⟨?_, ⟨fun d => (x1 (ix1 d)).toReal, fun d => hg (ix1 d)⟩, reals2 (fun s n => x2 (ix2 s n)) fun s n => ha (ix2 s n)⟩
  obtain ⟨xr, hr⟩ := reals2 (fun (s : Fin 256) (n : Fin 512) => x0 (ix2 s ⟨n, by omega⟩)) fun s n => by
    have h := hx (ix2 s n)
    pointwise at h
    exact h
  exact ⟨xr, fun s n hn hl => hr s n hl⟩

theorem frame_ref : Cert.quiescent_MemKvRefIdeal := fun m ρ _ =>
  (θ_run Cert.MemKvRefIdeal.defs _ _).mono (fun r h => ⟨fun c => (h c).2.2, sem_eq_zero_of_no_sems (by decide) r.2⟩)
    (Cert.MemKvRefIdeal.Value.run (F := Ideal) m ρ)

theorem algebraic : Cert.algebraic_MemKvIdeal_MemKvRefIdeal_pre_finite_memkv := by
  pair_intro
  · run_from Cert.MemKvIdeal.Value.run_blocks m g
  · run_from Cert.MemKvRefIdeal.Value.run m' g'
    all_goals obtain ⟨e0, e1, e2, e3⟩ := hagree c
    · obtain ⟨⟨xr, hx⟩, ⟨gr, hg⟩, ar, ha⟩ := finite _ _ _ _ (hpre c)
      rw [Cert.MemKvRefIdeal.Read.val_main_v45_eq, e0, e1, e2, e3]
      exact (final4 m c xr hx gr hg ar ha).symm
    · exact (Cert.MemKvRefIdeal.Read.val_main_v46_eq _ _).trans (final5 m c).symm

end Cert.MemKvProof
-- ==== Proof.Rms.lean ====
/- The gradient of a layer's root-mean-square norm (`_rms_bwd`), with the residual's gradient added: the kernel's three
   results are the reference's.

   A grid point takes 512 rows. In each row the kernel adds to the residual's gradient the norm's, `r · (gy − xh · mean (gy · xh))`
   for `xh` the normed row and `gy` the incoming gradient times the gain; the reference's chain of derivatives comes to the same
   real number (`row_grad`). The gain's gradient is summed over the grid in a block that stays; that sum is the reference's sum
   over all the rows, whatever the arguments. -/
module

public import proofs.«01_k».proof.Defs
public import proofs.«01_k».proof.Proof.Gen.Pre_finite_rms
public import proofs.«01_k».proof.Proof.Gen.RmsRefIdeal.Read
public import proofs.«01_k».proof.Proof.Gen.RmsIdeal.Value
public import proofs.«01_k».proof.Proof.Lift

@[expose] public section

set_option maxRecDepth 16384

noncomputable section

namespace Cert.RmsProof

open Idealize.ShloMosaic Idealize.ShloMosaic.TcCoe Idealize.SL.Sem
open Idealize.ShloMosaic.Pipeline (Dat)
open Cert.Lift

/-! ## The identity of real numbers -/

/-- The gradient of a row `x` of a root-mean-square norm with gain `g` under the incoming gradient `a`, as the kernel forms it. -/
def rowGrad (x a g : Fin 2048 → ℝ) (d : Fin 2048) : ℝ :=
  (√((∑ k, x k ^ 2) / 2048 + eps))⁻¹ * (a d * g d - x d * (√((∑ k, x k ^ 2) / 2048 + eps))⁻¹
    * ((∑ k, a k * g k * (x k * (√((∑ k, x k ^ 2) / 2048 + eps))⁻¹)) / 2048))

/-- It is what the reference's chain of derivatives comes to. -/
theorem row_grad (x a g : Fin 2048 → ℝ) (d : Fin 2048) :
    rowGrad x a g d
      = a d * g d * (√((∑ k, x k ^ 2) / 2048 + eps))⁻¹
        + x d * ((∑ k, x k * (a k * g k)) * (-(1 / 2) * ((√((∑ k, x k ^ 2) / 2048 + eps))⁻¹ / ((∑ k, x k ^ 2) / 2048 + eps))) / 2048)
        + (∑ k, x k * (a k * g k)) * (-(1 / 2) * ((√((∑ k, x k ^ 2) / 2048 + eps))⁻¹ / ((∑ k, x k ^ 2) / 2048 + eps))) / 2048 * x d := by
  have hv : 0 < (∑ k, x k ^ 2) / 2048 + eps := by have := eps_pos; positivity
  unfold rowGrad
  rw [inv_sqrt_div _ hv]
  generalize (√((∑ k, x k ^ 2) / 2048 + eps))⁻¹ = r
  have hs : ∑ k, a k * g k * (x k * r) = (∑ k, x k * (a k * g k)) * r := by
    rw [Finset.sum_mul]; exact Finset.sum_congr rfl fun k _ => by ring
  rw [hs]
  ring

/-! ## The reference at an index -/

section Reference
open Cert.RmsRefIdeal Cert.RmsRefIdeal.Read

variable (x : FVec Ideal S4096x2048 .f32) (g : FVec Ideal S2048 .f32) (a b : FVec Ideal S4096x2048 .f32)

theorem ref_dx (xr : S4096x2048.Idx → ℝ) (hx : ∀ i, x i = (xr i : EReal)) (gr : S2048.Idx → ℝ) (hg : ∀ i, g i = (gr i : EReal))
    (ar : S4096x2048.Idx → ℝ) (ha : ∀ i, a i = (ar i : EReal)) (s : Fin 4096) (d : Fin 2048) :
    val_main_v36 (F := Ideal) x g a b (ix2 s d)
      = b (ix2 s d) + (rowGrad (fun k => xr (ix2 s k)) (fun k => ar (ix2 s k)) (fun k => gr (ix1 k)) d : ℝ) := by
  have hr := eps_pos
  pointwise [
    val_main_v0, val_main_cst, val_main_v1, val_main_v2, val_main_cst_0, val_main_v3, val_main_v4, val_main_cst_1, val_main_v5,
    val_main_v6, val_main_v7, val_main_v8, val_main_cst_2, val_main_v9, val_main_v10, val_main_v11, val_main_v12, val_main_v13,
    val_main_v14, val_main_v15, val_main_v16, val_main_cst_3, val_main_v17, val_main_v18, val_main_v19, val_main_v20,
    val_main_cst_4, val_main_v21, val_main_v22, val_main_cst_5, val_main_v23, val_main_v24, val_main_v25, val_main_v26,
    val_main_v27, val_main_v28, val_main_cst_6, val_main_v29, val_main_v30, val_main_cst_7, val_main_v31, val_main_v32,
    val_main_v33, val_main_v34, val_main_v35, val_main_v36]
  simp (disch := first | omega | positivity | norm_num) only [hx, hg, ha, lit_2048, lit_eps, lit_neg_half, ← EReal.coe_mul,
    ← EReal.coe_add, sum_coe, sq_real, div_coe, rsqrt_coe]
  simp only [Finset.univ_unique, Finset.sum_singleton]
  rw [add_assoc, add_assoc, ← EReal.coe_add, ← EReal.coe_add, ← add_assoc]
  exact congrArg (fun q : ℝ => b (ix2 s d) + (q : EReal)) (row_grad (fun k => xr (ix2 s k)) (fun k => ar (ix2 s k)) (fun k => gr (ix1 k)) d).symm

/-- The gain's gradient: one sum over the rows. -/
theorem ref_dg (d : Fin 2048) :
    val_main_v38 (F := Ideal) x a (ix2 0 d)
      = ∑ s : Fin 4096, a (ix2 s d) * (x (ix2 s d)
          * Ideal.rsqrt (Ideal.div (∑ k : Fin 2048, x (ix2 s k) * x (ix2 s k)) (Ideal.ofBits .f32 0x45000000#32)
              + Ideal.ofBits .f32 0x358637BD#32)) := by
  pointwise [
    val_main_v0, val_main_cst, val_main_v1, val_main_v2, val_main_cst_0, val_main_v3, val_main_v4, val_main_cst_1, val_main_v5,
    val_main_v6, val_main_v7, val_main_v11, val_main_v12, val_main_v15, val_main_v16, val_main_cst_3, val_main_v17, val_main_v18,
    val_main_v19, val_main_v20,
    val_main_cst_4, val_main_v21, val_main_v38]
  simp only [Finset.univ_unique, Finset.sum_singleton]
  ac_rfl

end Reference

/-! ## The kernel's blocks -/

section Kernel
open Cert.RmsIdeal Cert.RmsIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- Row `r` of the `t`-th block of 512 rows. -/
def row (t : Fin cfg0.N) (r : Fin 512) : Fin 4096 :=
  ⟨512 * t.val + r, by have := lt_of_lt_of_eq t.isLt N_0; omega⟩

theorem iblk0 (c : Dev nD) (t : Fin cfg0.N) (r : Fin 512) (d : Fin 2048) :
    iblk m c 0 t (ix2 r d) = m ((c : Thread nD τ).loc main_arg0) (ix2 (row t r) d) := by
  blk_ext [iblk, V, row, idx t]

theorem iblk1 (c : Dev nD) (t : Fin cfg0.N) (d : Fin 2048) :
    iblk m c 1 t (ix2 0 d) = m ((c : Thread nD τ).loc main_arg1) (ix1 d) := by
  blk_simp [iblk]
  entry_read
  pointwise
  blk_ext [idx t]

theorem iblk2 (c : Dev nD) (t : Fin cfg0.N) (r : Fin 512) (d : Fin 2048) :
    iblk m c 2 t (ix2 r d) = m ((c : Thread nD τ).loc main_arg2) (ix2 (row t r) d) := by
  blk_ext [iblk, V, row, idx t]

theorem iblk3 (c : Dev nD) (t : Fin cfg0.N) (r : Fin 512) (d : Fin 2048) :
    iblk m c 3 t (ix2 r d) = m ((c : Thread nD τ).loc main_arg3) (ix2 (row t r) d) := by
  blk_ext [iblk, V, row, idx t]

/-- What every point leaves in the two blocks of the row's gradient. -/
theorem outs_dx (c : Dev nD) (t : Fin cfg0.N) :
    (outsAt0 m c t.val t.isLt).1 = k0_pay1 (iblk m c 3 t) (k0_pay7 (iblk m c 0 t) (iblk m c 2 t) (iblk m c 1 t))
      ∧ (outsAt0 m c t.val t.isLt).2.1 = k0_pay2 (iblk m c 3 t) (k0_pay7 (iblk m c 0 t) (iblk m c 2 t) (iblk m c 1 t)) := by
  by_cases h : t.val % 8 = 0
  · rw [outsAt0_A m c t h]; exact ⟨by frame_out, by frame_out⟩
  · rw [outsAt0_B m c t h]; exact ⟨by frame_out, by frame_out⟩

/-! ## The three results -/

/-- A row's gradient, as a point computes it, is the reference's, where the row, the gain and the incoming gradient are finite. -/
theorem point (c : Dev nD) (xr : S4096x2048.Idx → ℝ) (hx : ∀ i, m ((c : Thread nD τ).loc main_arg0) i = (xr i : EReal))
    (gr : S2048.Idx → ℝ) (hg : ∀ i, m ((c : Thread nD τ).loc main_arg1) i = (gr i : EReal))
    (ar : S4096x2048.Idx → ℝ) (ha : ∀ i, m ((c : Thread nD τ).loc main_arg2) i = (ar i : EReal))
    (t : Fin cfg0.N) (r : Fin 512) (d : Fin 2048) :
    k0_pay1 (iblk m c 3 t) (k0_pay7 (iblk m c 0 t) (iblk m c 2 t) (iblk m c 1 t)) (ix2 r d)
      = RmsRefIdeal.Read.val_main_v36 (F := Ideal) (m ((c : Thread nD τ).loc main_arg0)) (m ((c : Thread nD τ).loc main_arg1))
          (m ((c : Thread nD τ).loc main_arg2)) (m ((c : Thread nD τ).loc main_arg3)) (ix2 (row t r) d) := by
  have hr := eps_pos
  rw [ref_dx _ _ _ _ xr hx gr hg ar ha]
  pointwise [k0_pay1, k0_pay4, k0_pay5, k0_pay7]
  simp (disch := first | omega | positivity | norm_num) only [iblk0 m c t, iblk1 m c t, iblk2 m c t, iblk3 m c t, hx, hg, ha, lit_2048,
    lit_eps, ← EReal.coe_mul, ← EReal.coe_sub, ← EReal.coe_add, sum_coe, sq_real, div_coe, rsqrt_coe]
  rfl

theorem final4 (c : Dev nD) (xr : S4096x2048.Idx → ℝ) (hx : ∀ i, m ((c : Thread nD τ).loc main_arg0) i = (xr i : EReal))
    (gr : S2048.Idx → ℝ) (hg : ∀ i, m ((c : Thread nD τ).loc main_arg1) i = (gr i : EReal))
    (ar : S4096x2048.Idx → ℝ) (ha : ∀ i, m ((c : Thread nD τ).loc main_arg2) i = (ar i : EReal)) :
    (dats m 0 c).arrAt 4 cfg0.N
      = RmsRefIdeal.Read.val_main_v36 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4, (outs_dx m c t).1]
  idx_vars y
  refine (point m c xr hx gr hg ar ha t y0 y1).trans ?_
  blk_ext [row, idx t]

/-- The copy for the products is the same numbers. -/
theorem final5 (c : Dev nD) (xr : S4096x2048.Idx → ℝ) (hx : ∀ i, m ((c : Thread nD τ).loc main_arg0) i = (xr i : EReal))
    (gr : S2048.Idx → ℝ) (hg : ∀ i, m ((c : Thread nD τ).loc main_arg1) i = (gr i : EReal))
    (ar : S4096x2048.Idx → ℝ) (ha : ∀ i, m ((c : Thread nD τ).loc main_arg2) i = (ar i : EReal)) :
    (dats m 0 c).arrAt 5 cfg0.N
      = RmsRefIdeal.Read.val_main_v37 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t _ y => ?_
  blk_simp
  rw [after0_5, (outs_dx m c t).2]
  idx_vars y
  refine (point m c xr hx gr hg ar ha t y0 y1).trans ?_
  blk_ext [row, idx t]

/-- What a point adds to the gain's gradient. -/
def part (x a : FVec Ideal S4096x2048 .f32) (t : Fin cfg0.N) (d : Fin 2048) : EReal :=
  ∑ r : Fin 512, a (ix2 (row t r) d) * (x (ix2 (row t r) d)
    * Ideal.rsqrt (Ideal.div (∑ k : Fin 2048, x (ix2 (row t r) k) * x (ix2 (row t r) k)) (Ideal.ofBits .f32 0x45000000#32)
        + Ideal.ofBits .f32 0x358637BD#32))

theorem pay_dg (c : Dev nD) (t : Fin cfg0.N) (z : Vec Ideal S1x2048 .f32) (d : Fin 2048) :
    k0_pay6 (iblk m c 0 t) (iblk m c 2 t) z (ix2 0 d)
      = z (ix2 0 d) + part (m ((c : Thread nD τ).loc main_arg0)) (m ((c : Thread nD τ).loc main_arg2)) t d := by
  pointwise [k0_pay4, k0_pay5, k0_pay6]
  simp only [iblk0 m c t, iblk2 m c t]
  rfl

theorem final6 (c : Dev nD) :
    (dats m 0 c).arrAt 6 cfg0.N
      = RmsRefIdeal.Read.val_main_v38 (F := Ideal) (m ((c : Thread nD τ).loc main_arg0)) (m ((c : Thread nD τ).loc main_arg2)) := by
  refine (dats m 0 c).arrAt_eq_of_after_last 6 t0_7 (by decide +kernel) _ fun j => ?_
  blk_simp
  rw [after0_6]
  idx_vars j
  obtain rfl : j0 = 0 := Subsingleton.elim _ _
  rw [Pipeline.eq_sum_fin_of_reset_step_apply_last (fun n h d => (outsAt0 m c n h).2.2 (ix2 0 d)) 8 (fun _ => 0)
    (part (m ((c : Thread nD τ).loc main_arg0)) (m ((c : Thread nD τ).loc main_arg2)))
    (fun t h d => by
      rw [outsAt0_A m c t h]
      frame_out
      rw [pay_dg]
      refine congrArg (· + part _ _ t d) ?_
      pointwise [k0_pay3])
    (fun t h d => by rw [outsAt0_B m c t h]; frame_out; rw [pay_dg]) (le_of_eq N_0) t0_7 rfl j1, zero_add]
  refine Eq.trans ?_ (ref_dg _ _ j1).symm
  unfold part
  refine Fin.sum_mul_add_congr (fun t r hl => ?_) (by rw [show cfg0.N = 8 from N_0])
  have e : row t r = ⟨t.val * 512 + r.val, hl⟩ := Fin.ext (by show 512 * t.val + r.val = t.val * 512 + r.val; omega)
  rw [e]

end Kernel

/-! ## The claim -/

/-- The precondition says that the rows, the gain and the incoming gradient are real numbers. -/
theorem finite (x0 : FVec Ideal Pre_finite_rms.S4096x2048 .f32) (x1 : FVec Ideal Pre_finite_rms.S2048 .f32)
    (x2 x3 : FVec Ideal Pre_finite_rms.S4096x2048 .f32)
    (h : Pre_finite_rms.fn (F := Ideal) x0 x1 x2 x3 = fun _ => 1#1) :
    (∀ i, x0 i = ((x0 i).toReal : EReal)) ∧ (∀ i, x1 i = ((x1 i).toReal : EReal)) ∧ (∀ i, x2 i = ((x2 i).toReal : EReal)) := by
  have h0 := congrFun h ix0
  unfold Pre_finite_rms.fn at h0
  obtain ⟨h01, h2⟩ := IntOp.andi_eq_one.1 h0
  obtain ⟨h0, h1⟩ := IntOp.andi_eq_one.1 h01
  exact ⟨real_of_all _ _ _ _ _ _ h0 fun _ => rfl, real_of_all _ _ _ _ _ _ h1 fun _ => rfl, real_of_all _ _ _ _ _ _ h2 fun _ => rfl⟩

theorem frame_ref : Cert.quiescent_RmsRefIdeal := fun m ρ _ =>
  (θ_run Cert.RmsRefIdeal.defs _ _).mono (fun r h => ⟨fun c => (h c).2.2.2, sem_eq_zero_of_no_sems (by decide) r.2⟩)
    (Cert.RmsRefIdeal.Value.run (F := Ideal) m ρ)

theorem algebraic : Cert.algebraic_RmsIdeal_RmsRefIdeal_pre_finite_rms := by
  pair_intro
  · run_from Cert.RmsIdeal.Value.run_blocks m g
  · run_from Cert.RmsRefIdeal.Value.run m' g'
    all_goals obtain ⟨e0, e1, e2, e3⟩ := hagree c
    · obtain ⟨hx, hg, ha⟩ := finite _ _ _ _ (hpre c)
      exact (Cert.RmsRefIdeal.Read.val_main_v36_eq _ _ _ _).trans (final4 m c _ hx _ hg _ ha).symm
    · obtain ⟨hx, hg, ha⟩ := finite _ _ _ _ (hpre c)
      exact (Cert.RmsRefIdeal.Read.val_main_v37_eq _ _ _ _).trans (final5 m c _ hx _ hg _ ha).symm
    · exact (Cert.RmsRefIdeal.Read.val_main_v38_eq _ _).trans (final6 m c).symm

end Cert.RmsProof
-- ==== Proof.RmsGain.lean ====
/- The gradient of the gain of the memory's norm (`_rms_bwd` without a residual): the kernel's value is the reference's, whatever
   the arguments. Both are one sum over the rows of the incoming gradient times the normed row. -/
module

public import proofs.«01_k».proof.Defs
public import proofs.«01_k».proof.Proof.Gen.RmsGainRefIdeal.Read
public import proofs.«01_k».proof.Proof.Gen.RmsGainIdeal.Value
public import proofs.«01_k».proof.Proof.Lift

@[expose] public section

set_option maxRecDepth 16384

noncomputable section

namespace Cert.RmsGainProof

open Idealize.ShloMosaic Idealize.ShloMosaic.TcCoe Idealize.SL.Sem
open Idealize.ShloMosaic.Pipeline (Dat)
open Cert.Lift

/-! ## The reference at an index -/

section Reference
open Cert.RmsGainRefIdeal Cert.RmsGainRefIdeal.Read

theorem ref_dg (x a : FVec Ideal S256x2048 .f32) (d : Fin 2048) :
    val_main_v17 (F := Ideal) x a (ix2 0 d)
      = ∑ s : Fin 256, a (ix2 s d) * (x (ix2 s d)
          * Ideal.rsqrt (Ideal.div (∑ k : Fin 2048, x (ix2 s k) * x (ix2 s k)) (Ideal.ofBits .f32 0x45000000#32)
              + Ideal.ofBits .f32 0x358637BD#32)) := by
  pointwise [
    val_main_v0, val_main_cst, val_main_v1, val_main_v2, val_main_cst_0, val_main_v3, val_main_v4, val_main_cst_1, val_main_v5,
    val_main_v6, val_main_v7, val_main_v8, val_main_v9, val_main_v10, val_main_v11, val_main_v12, val_main_v13, val_main_cst_2,
    val_main_v14, val_main_v15, val_main_cst_3, val_main_v16, val_main_v17]
  simp only [Finset.univ_unique, Finset.sum_singleton]
  ac_rfl

end Reference

/-! ## The kernel's result -/

section Kernel
open Cert.RmsGainIdeal Cert.RmsGainIdeal.Gen

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] := (by decide +kernel : ∀ t : Fin grid0.N, _)

theorem final3 (c : Dev nD) :
    (dats m 0 c).arrAt 3 cfg0.N
      = RmsGainRefIdeal.Read.val_main_v17 (F := Ideal) (m ((c : Thread nD τ).loc main_arg0)) (m ((c : Thread nD τ).loc main_arg2)) := by
  refine (dats m 0 c).arrAt_eq_of_after_last 3 t0_0 (by decide +kernel) _ fun j => ?_
  blk_simp
  rw [after0_3]
  unfold outsAt0
  frame_out
  have h0 : iblk m c 0 t0_0 = m ((c : Thread nD τ).loc main_arg0) := by blk_ext! [iblk, V, idx t0_0]
  have h2 : iblk m c 2 t0_0 = m ((c : Thread nD τ).loc main_arg2) := by blk_ext! [iblk, V, idx t0_0]
  simp only [(Memref.isWhole_whole _).read_unread, Memref.IsWhole.read_unread, h0, h2]
  idx_vars j
  obtain rfl : j0 = 0 := Subsingleton.elim _ _
  refine Eq.trans ?_ (ref_dg _ _ j1).symm
  pointwise [k0_pay1, k0_pay2]

end Kernel

/-! ## The claim -/

theorem frame_ref : Cert.quiescent_RmsGainRefIdeal := fun m ρ _ =>
  (θ_run Cert.RmsGainRefIdeal.defs _ _).mono (fun r h => ⟨fun c => (h c).2, sem_eq_zero_of_no_sems (by decide) r.2⟩)
    (Cert.RmsGainRefIdeal.Value.run (F := Ideal) m ρ)

theorem algebraic : Cert.algebraic_RmsGainIdeal_RmsGainRefIdeal := by
  pair_intro
  · run_from Cert.RmsGainIdeal.Value.run_blocks m g
  · run_from Cert.RmsGainRefIdeal.Value.run m' g'
    all_goals obtain ⟨e0, e1, e2⟩ := hagree c
    exact (Cert.RmsGainRefIdeal.Read.val_main_v17_eq _ _).trans (final3 m c).symm

end Cert.RmsGainProof
-- ==== Proof.Loss.lean ====
/- The loss and its gradient (`_loss_head`): the kernel's three results are the reference's, whatever the arguments.

   The gradient of half the mean square is the error over the row's length. The loss is half a sum over the rows, which the
   kernel halves point by point: half of a sum of extended reals is the sum of the halves. -/
module

public import proofs.«01_k».proof.Defs
public import proofs.«01_k».proof.Proof.Gen.LossRefIdeal.Read
public import proofs.«01_k».proof.Proof.Gen.LossIdeal.Value
public import proofs.«01_k».proof.Proof.Lift

@[expose] public section

set_option maxRecDepth 16384

noncomputable section

namespace Cert.LossProof

open Idealize.ShloMosaic Idealize.ShloMosaic.TcCoe Idealize.SL.Sem
open Idealize.ShloMosaic.Pipeline (Dat)
open Cert.Lift

/-! ## Constants -/

theorem lit_two : Ideal.ofBits .f32 0x40000000#32 = ((2 : ℝ) : EReal) := by
  simp [Ideal.ofBits, Ideal.ieee]; rw [← EReal.coe_mul]; congr 1; norm_num

theorem lit_inv_2048 : Ideal.ofBits .f32 0x3A000000#32 = ((1 / 2048 : ℝ) : EReal) := by
  simp [Ideal.ofBits, Ideal.ieee]; rw [← EReal.coe_mul]; congr 1; norm_num

/-- Half of a sum of extended reals is the sum of the halves. -/
theorem half_sum {ι : Type} (s : Finset ι) (f : ι → EReal) :
    Ideal.ofBits .f32 0x3F000000#32 * ∑ i ∈ s, f i = ∑ i ∈ s, Ideal.ofBits .f32 0x3F000000#32 * f i := by
  classical
  have h : (0 : EReal) ≤ ((1 / 2 : ℝ) : EReal) := by exact_mod_cast (by norm_num : (0 : ℝ) ≤ 1 / 2)
  rw [lit_half]
  induction s using Finset.induction_on with
  | empty => simp
  | insert a s ha ih => rw [Finset.sum_insert ha, Finset.sum_insert ha, EReal.left_distrib_of_nonneg_of_ne_top h (EReal.coe_ne_top _), ih]

/-! ## The reference at an index -/

section Reference
open Cert.LossRefIdeal Cert.LossRefIdeal.Read

variable (y z : FVec Ideal S4096x2048 .f32)

theorem ref_dy (s : Fin 4096) (d : Fin 2048) :
    val_main_v14 (F := Ideal) y z (ix2 s d) = (y (ix2 s d) - z (ix2 s d)) * Ideal.ofBits .f32 0x3A000000#32 := by
  pointwise [val_main_v0, val_main_v2, val_main_v3, val_main_cst_0, val_main_cst_4, val_main_cst_5, val_main_v9, val_main_v10,
    val_main_cst_6, val_main_v11, val_main_v12, val_main_v13, val_main_v14, val_main_v1, val_main_cst]
  rw [lit_half, lit_2048, lit_two, lit_inv_2048, div_coe _ _ (by norm_num), ← mul_assoc, ← EReal.coe_mul, mul_comm]
  norm_num

theorem ref_loss (j : Fin 128) :
    val_main_v15 (F := Ideal) y z (ix2 0 j)
      = Ideal.ofBits .f32 0x3F000000#32 * ∑ s : Fin 4096, Ideal.div
          (∑ k : Fin 2048, (y (ix2 s k) - z (ix2 s k)) * (y (ix2 s k) - z (ix2 s k))) (Ideal.ofBits .f32 0x45000000#32) := by
  pointwise [
    val_main_v0, val_main_v1, val_main_cst, val_main_v2, val_main_v3, val_main_cst_0, val_main_v4, val_main_cst_1, val_main_v5,
    val_main_v6, val_main_cst_2, val_main_v7, val_main_cst_3, val_main_v8, val_main_v15]

end Reference

section Kernel
open Cert.LossIdeal Cert.LossIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] :=
  (by decide +kernel : ∀ t : Fin grid0.N, _)

/-- Row `r` of the `t`-th block of 512 rows. -/
def row (t : Fin cfg0.N) (r : Fin 512) : Fin 4096 :=
  ⟨512 * t.val + r, by have := lt_of_lt_of_eq t.isLt N_0; omega⟩

theorem iblk0 (c : Dev nD) (t : Fin cfg0.N) (r : Fin 512) (d : Fin 2048) :
    iblk m c 0 t (ix2 r d) = m ((c : Thread nD τ).loc main_arg0) (ix2 (row t r) d) := by
  blk_ext [iblk, V, row, idx t]

theorem iblk1 (c : Dev nD) (t : Fin cfg0.N) (r : Fin 512) (d : Fin 2048) :
    iblk m c 1 t (ix2 r d) = m ((c : Thread nD τ).loc main_arg1) (ix2 (row t r) d) := by
  blk_ext [iblk, V, row, idx t]

/-- What every point leaves in the two blocks of the gradient. -/
theorem outs_dy (c : Dev nD) (t : Fin cfg0.N) :
    (outsAt0 m c t.val t.isLt).2.1 = k0_pay4 (iblk m c 0 t) (iblk m c 1 t)
      ∧ (outsAt0 m c t.val t.isLt).2.2 = k0_pay5 (iblk m c 0 t) (iblk m c 1 t) := by
  by_cases h : t.val % 8 = 0
  · rw [outsAt0_A m c t h]; exact ⟨by frame_out, by frame_out⟩
  · rw [outsAt0_B m c t h]; exact ⟨by frame_out, by frame_out⟩

/-! ## The three results -/

theorem point (c : Dev nD) (t : Fin cfg0.N) (r : Fin 512) (d : Fin 2048) :
    k0_pay4 (iblk m c 0 t) (iblk m c 1 t) (ix2 r d)
      = LossRefIdeal.Read.val_main_v14 (F := Ideal) (m ((c : Thread nD τ).loc main_arg0)) (m ((c : Thread nD τ).loc main_arg1)) (ix2 (row t r) d) := by
  rw [ref_dy]
  pointwise [k0_pay2, k0_pay4]
  simp only [iblk0 m c t, iblk1 m c t]

theorem final3 (c : Dev nD) :
    (dats m 0 c).arrAt 3 cfg0.N
      = LossRefIdeal.Read.val_main_v14 (F := Ideal) (m ((c : Thread nD τ).loc main_arg0)) (m ((c : Thread nD τ).loc main_arg1)) := by
  refine (dats m 0 c).arrAt_eq_of_covers 3 _ (by decide +kernel) fun t _ y => ?_
  blk_simp
  rw [after0_3, (outs_dy m c t).1]
  idx_vars y
  refine (point m c t y0 y1).trans ?_
  blk_ext [row, idx t]

/-- The copy for the products is the same numbers. -/
theorem final4 (c : Dev nD) :
    (dats m 0 c).arrAt 4 cfg0.N
      = LossRefIdeal.Read.val_main_v16 (F := Ideal) (m ((c : Thread nD τ).loc main_arg0)) (m ((c : Thread nD τ).loc main_arg1)) := by
  refine (dats m 0 c).arrAt_eq_of_covers 4 _ (by decide +kernel) fun t _ y => ?_
  blk_simp
  rw [after0_4, (outs_dy m c t).2]
  idx_vars y
  refine (point m c t y0 y1).trans ?_
  pointwise [LossRefIdeal.Read.val_main_v16]
  blk_ext [row, idx t]

/-- What a point adds to the loss. -/
def part (y z : FVec Ideal S4096x2048 .f32) (t : Fin cfg0.N) : EReal :=
  ∑ r : Fin 512, Ideal.ofBits .f32 0x3F000000#32 * Ideal.div
    (∑ k : Fin 2048, (y (ix2 (row t r) k) - z (ix2 (row t r) k)) * (y (ix2 (row t r) k) - z (ix2 (row t r) k)))
    (Ideal.ofBits .f32 0x45000000#32)

theorem pay_loss (c : Dev nD) (t : Fin cfg0.N) (z : Vec Ideal S1x128 .f32) (d : Fin 128) :
    k0_pay3 (iblk m c 0 t) (iblk m c 1 t) z (ix2 0 d)
      = z (ix2 0 d) + part (m ((c : Thread nD τ).loc main_arg0)) (m ((c : Thread nD τ).loc main_arg1)) t := by
  pointwise [k0_pay2, k0_pay3]
  simp only [iblk0 m c t, iblk1 m c t]
  exact congrArg _ (half_sum _ _)

theorem final2 (c : Dev nD) :
    (dats m 0 c).arrAt 2 cfg0.N
      = LossRefIdeal.Read.val_main_v15 (F := Ideal) (m ((c : Thread nD τ).loc main_arg0)) (m ((c : Thread nD τ).loc main_arg1)) := by
  refine (dats m 0 c).arrAt_eq_of_after_last 2 t0_7 (by decide +kernel) _ fun j => ?_
  blk_simp
  rw [after0_2]
  idx_vars j
  obtain rfl : j0 = 0 := Subsingleton.elim _ _
  rw [Pipeline.eq_sum_fin_of_reset_step_apply_last (fun n h d => (outsAt0 m c n h).1 (ix2 0 d)) 8 (fun _ => 0)
    (fun t _ => part (m ((c : Thread nD τ).loc main_arg0)) (m ((c : Thread nD τ).loc main_arg1)) t)
    (fun t h d => by
      rw [outsAt0_A m c t h]
      frame_out
      rw [pay_loss]
      refine congrArg (· + part _ _ t) ?_
      pointwise [k0_pay1])
    (fun t h d => by rw [outsAt0_B m c t h]; frame_out; rw [pay_loss]) (le_of_eq N_0) t0_7 rfl j1, zero_add]
  refine Eq.trans ?_ (ref_loss _ _ j1).symm
  rw [half_sum]
  unfold part
  refine Fin.sum_mul_add_congr (fun t r hl => ?_) (by rw [show cfg0.N = 8 from N_0])
  have e : row t r = ⟨t.val * 512 + r.val, hl⟩ := Fin.ext (by show 512 * t.val + r.val = t.val * 512 + r.val; omega)
  rw [e]

end Kernel

/-! ## The claim -/

theorem frame_ref : Cert.quiescent_LossRefIdeal := fun m ρ _ =>
  (θ_run Cert.LossRefIdeal.defs _ _).mono (fun r h => ⟨fun c => (h c).2.2.2, sem_eq_zero_of_no_sems (by decide) r.2⟩)
    (Cert.LossRefIdeal.Value.run (F := Ideal) m ρ)

theorem algebraic : Cert.algebraic_LossIdeal_LossRefIdeal := by
  pair_intro
  · run_from Cert.LossIdeal.Value.run_blocks m g
  · run_from Cert.LossRefIdeal.Value.run m' g'
    all_goals obtain ⟨e0, e1⟩ := hagree c
    · exact (Cert.LossRefIdeal.Read.val_main_v15_eq _ _).trans (final2 m c).symm
    · exact (Cert.LossRefIdeal.Read.val_main_v14_eq _ _).trans (final3 m c).symm
    · exact (Cert.LossRefIdeal.Read.val_main_v16_eq _ _).trans (final4 m c).symm

end Cert.LossProof
-- ==== Proof.Ffn.lean ====
/- The product with the down weights joined with the gate's gradient (`_ffn_down_bwd`): the kernel's two results are the
   reference's, where the arguments are finite.

   With `a` the product of the incoming gradient and the weights and `σ` the sigmoid of the gate `g`, the kernel stores
   `a · u · σ · (1 + g · (1 − σ))` and `a · g · σ`; the reference's chain of derivatives of `g · σ · u` comes to the same. -/
module

public import proofs.«01_k».proof.Defs
public import proofs.«01_k».proof.Proof.Gen.Pre_finite_ffn
public import proofs.«01_k».proof.Proof.Gen.FfnRefIdeal.Read
public import proofs.«01_k».proof.Proof.Gen.FfnIdeal.Value
public import proofs.«01_k».proof.Proof.Lift

@[expose] public section

set_option maxRecDepth 16384

noncomputable section

namespace Cert.FfnProof

open Idealize.ShloMosaic Idealize.ShloMosaic.TcCoe Idealize.SL.Sem
open Idealize.ShloMosaic.Pipeline (Dat)
open Cert.Lift

/-! ## The sigmoid of a real number -/

theorem neg_coe (x : ℝ) : -(x : EReal) = ((-x : ℝ) : EReal) := (EReal.coe_neg x).symm

theorem one_add_exp_ne (x : ℝ) : 1 + Real.exp x ≠ 0 := by positivity

theorem logistic_coe (x : ℝ) : Ideal.logistic (x : EReal) = ((1 / (1 + Real.exp (-x)) : ℝ) : EReal) := by
  show Ideal.div 1 (1 + Ideal.exp (-(x : EReal))) = _
  rw [neg_coe, exp_coe, one_coe, ← EReal.coe_add, div_coe _ _ (one_add_exp_ne _)]

/-- The gate's gradient, and the other factor's, in real numbers: `a` is the gradient that comes in to the product. -/
def dgate (a u g : ℝ) : ℝ := a * u * (1 / (1 + Real.exp (-g))) * (1 + g * (1 - 1 / (1 + Real.exp (-g))))
def dup (a g : ℝ) : ℝ := a * g * (1 / (1 + Real.exp (-g)))

/-! ## The reference at an index -/

section Reference
open Cert.FfnRefIdeal Cert.FfnRefIdeal.Read

variable (x : FVec Ideal S4096x2048 .bf16) (w : FVec Ideal S5632x2048 .bf16) (g u : FVec Ideal S4096x5632 .bf16)
  (xr : S4096x2048.Idx → ℝ) (hx : ∀ i, x i = (xr i : EReal)) (wr : S5632x2048.Idx → ℝ) (hw : ∀ i, w i = (wr i : EReal))
  (gr : S4096x5632.Idx → ℝ) (hg : ∀ i, g i = (gr i : EReal)) (ur : S4096x5632.Idx → ℝ) (hu : ∀ i, u i = (ur i : EReal))

include hx hw hg hu in
theorem ref_dg (s : Fin 4096) (f : Fin 5632) :
    val_main_v11 (F := Ideal) x w g u (ix2 s f)
      = (dgate (∑ k : Fin 2048, xr (ix2 s k) * wr (ix2 f k)) (ur (ix2 s f)) (gr (ix2 s f)) : ℝ) := by
  pointwise [
    val_main_v0, val_main_v1, val_main_v2, val_main_v3, val_main_call0_v0, val_main_call0_v1, val_main_call0_cst,
    val_main_call0_v2, val_main_call0_v3, val_main_call0_cst_0, val_main_call0_v4, val_main_v4_2, val_main_call0_cst_1,
    val_main_call0_v6, val_main_call0_v7, val_main_v4_1, val_main_v7, val_main_v9, val_main_call1_v0, val_main_call1_v1,
    val_main_call1_v2, val_main_v10, val_main_v11]
  simp (disch := exact one_add_exp_ne _) only [hx, hg, hw, hu, one_coe, neg_coe, exp_coe, ← EReal.coe_mul, ← EReal.coe_add, ← EReal.coe_sub,
    sum_coe, div_coe]
  refine congrArg _ ?_
  unfold dgate
  ring

include hx hw hg in
theorem ref_du (s : Fin 4096) (f : Fin 5632) :
    val_main_v12 (F := Ideal) x w g (ix2 s f)
      = (dup (∑ k : Fin 2048, xr (ix2 s k) * wr (ix2 f k)) (gr (ix2 s f)) : ℝ) := by
  pointwise [val_main_v0, val_main_v1, val_main_v2, val_main_call0_v0, val_main_call0_v1, val_main_call0_cst, val_main_call0_v2,
    val_main_call0_v3, val_main_call0_cst_0, val_main_call0_v4, val_main_v4_2, val_main_v4_0, val_main_v7, val_main_v8, val_main_v12]
  simp (disch := exact one_add_exp_ne _) only [hx, hg, hw, one_coe, neg_coe, exp_coe, ← EReal.coe_mul, ← EReal.coe_add,
    sum_coe, div_coe]
  refine congrArg _ ?_
  unfold dup
  ring

end Reference

/-! ## The payloads in real numbers: the incoming gradient's rows `a`, the weights `w`, the gate `g` and the other factor `u` -/

section Payloads
open Cert.FfnIdeal Cert.FfnIdeal.Gen

variable (w : Vec Ideal S1408x2048 .bf16) (a : Vec Ideal S256x2048 .bf16) (g u : Vec Ideal S256x1408 .bf16) (r : Fin 256) (q : Fin 1408)
  (ar wr : Fin 2048 → ℝ) (gr ur : ℝ) (ha : ∀ k, a (ix2 r k) = (ar k : EReal)) (hw : ∀ k, w (ix2 q k) = (wr k : EReal))
  (hg : g (ix2 r q) = (gr : EReal)) (hu : u (ix2 r q) = (ur : EReal))

include ha hw hg hu in
theorem pay_dg : k0_pay7 w a g u (ix2 r q) = (dgate (∑ k, ar k * wr k) ur gr : ℝ) := by
  pointwise [k0_pay3, k0_pay5, k0_pay6, k0_pay7]
  simp only [ha, hw, hg, hu, logistic_coe, one_coe, ← EReal.coe_mul, ← EReal.coe_add, ← EReal.coe_sub, sum_coe]
  rfl

include ha hw hg in
theorem pay_du : k0_pay8 w a g (ix2 r q) = (dup (∑ k, ar k * wr k) gr : ℝ) := by
  pointwise [k0_pay3, k0_pay5, k0_pay6, k0_pay8]
  simp only [ha, hw, hg, logistic_coe, ← EReal.coe_mul, sum_coe]
  rfl

/-- The second half's payloads are the first half's, of the second half's rows. -/
theorem pay_dg_low (w : Vec Ideal S1408x2048 .bf16) (a : Vec Ideal S256x2048 .bf16) (g u : Vec Ideal S256x1408 .bf16) :
    k0_pay1 (k0_pay9 g) (k0_pay11 w a g u) (k0_pay12 g) = k0_pay7 w a g u := rfl

theorem pay_du_low (w : Vec Ideal S1408x2048 .bf16) (a : Vec Ideal S256x2048 .bf16) (g : Vec Ideal S256x1408 .bf16) :
    k0_pay2 (k0_pay4 w a) (k0_pay9 g) (k0_pay10 g) = k0_pay8 w a g := rfl

end Payloads

/-! ## The kernel's blocks -/

section Kernel
open Cert.FfnIdeal Cert.FfnIdeal.Gen

variable (m : (ℓ : Loc nD τ sig) → Buf (Elt Ideal) ℓ)

/-- Point `t` is rows `t / 4` and columns `t % 4`. -/
theorem idx : ∀ t : Fin cfg0.N, win0_0.index t = ![t.val / 4, 0] ∧ win0_1.index t = ![t.val % 4, 0]
    ∧ win0_2.index t = ![t.val / 4, t.val % 4] ∧ win0_3.index t = ![t.val / 4, t.val % 4] ∧ win0_4.index t = ![t.val / 4, t.val % 4]
    ∧ win0_5.index t = ![t.val / 4, t.val % 4] :=
  (by decide +kernel : ∀ t : Fin grid0.N, _)

def row (t : Fin cfg0.N) (r : Fin 512) : Fin 4096 :=
  ⟨512 * (t.val / 4) + r, by have := lt_of_lt_of_eq t.isLt N_0; omega⟩

def col (t : Fin cfg0.N) (q : Fin 1408) : Fin 5632 := ⟨1408 * (t.val % 4) + q, by omega⟩

theorem iblk0 (c : Dev nD) (t : Fin cfg0.N) (r : Fin 512) (d : Fin 2048) :
    iblk m c 0 t (ix2 r d) = m ((c : Thread nD τ).loc main_arg0) (ix2 (row t r) d) := by
  blk_ext [iblk, V, row, idx t]

theorem iblk1 (c : Dev nD) (t : Fin cfg0.N) (q : Fin 1408) (d : Fin 2048) :
    iblk m c 1 t (ix2 q d) = m ((c : Thread nD τ).loc main_arg1) (ix2 (col t q) d) := by
  blk_ext [iblk, V, col, idx t]

theorem iblk2 (c : Dev nD) (t : Fin cfg0.N) (r : Fin 512) (q : Fin 1408) :
    iblk m c 2 t (ix2 r q) = m ((c : Thread nD τ).loc main_arg2) (ix2 (row t r) (col t q)) := by
  blk_ext [iblk, V, row, col, idx t]

theorem iblk3 (c : Dev nD) (t : Fin cfg0.N) (r : Fin 512) (q : Fin 1408) :
    iblk m c 3 t (ix2 r q) = m ((c : Thread nD τ).loc main_arg3) (ix2 (row t r) (col t q)) := by
  blk_ext [iblk, V, row, col, idx t]

/-! ## The two results -/

variable (c : Dev nD)
  (xr : S4096x2048.Idx → ℝ) (hx : ∀ i, m ((c : Thread nD τ).loc main_arg0) i = (xr i : EReal))
  (wr : S5632x2048.Idx → ℝ) (hw : ∀ i, m ((c : Thread nD τ).loc main_arg1) i = (wr i : EReal))
  (gr : S4096x5632.Idx → ℝ) (hg : ∀ i, m ((c : Thread nD τ).loc main_arg2) i = (gr i : EReal))
  (ur : S4096x5632.Idx → ℝ) (hu : ∀ i, m ((c : Thread nD τ).loc main_arg3) i = (ur i : EReal))

include hx hw hg hu in
theorem final4 :
    (dats m 0 c).arrAt 4 cfg0.N
      = FfnRefIdeal.Read.val_main_v11 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]
  frame_out
  idx_vars y
  have at_row (r : Fin 512) (q : Fin 1408) (e0 : (y0 : ℕ) = r) (e1 : (y1 : ℕ) = q) :
      FfnRefIdeal.Read.val_main_v11 (F := Ideal) (m ((c : Thread nD τ).loc main_arg0)) (m ((c : Thread nD τ).loc main_arg1))
          (m ((c : Thread nD τ).loc main_arg2)) (m ((c : Thread nD τ).loc main_arg3))
          (((View.whole main_v0_0).slice (win0_4.rect t)).emb (ix2 y0 y1))
        = (dgate (∑ k : Fin 2048, xr (ix2 (row t r) k) * wr (ix2 (col t q) k)) (ur (ix2 (row t r) (col t q))) (gr (ix2 (row t r) (col t q))) : ℝ) := by
    obtain rfl : y0 = r := Fin.ext e0
    obtain rfl : y1 = q := Fin.ext e1
    refine Eq.trans ?_ (ref_dg _ _ _ _ xr hx wr hw gr hg ur hu (row t y0) (col t y1))
    blk_ext [row, col, idx t]
  canon_tiles x h using View.cover_of_tiledBy _ ![256, 1408] (by sl_kernel_rfl) (ix2 y0 y1)
  case piece0 =>
    idx_vars x
    refine Eq.trans ?_ (at_row ⟨256 + x0, by omega⟩ x1 h0 h1).symm
    rw [k0_pay13, pay_dg_low]
    refine pay_dg _ _ _ _ x0 x1 (fun k => xr (ix2 (row t ⟨256 + x0, by omega⟩) k)) (fun k => wr (ix2 (col t x1) k)) _ _ (fun k => ?_) (fun k => ?_) ?_ ?_
    · refine Eq.trans ?_ ((iblk0 m c t ⟨256 + x0, by omega⟩ k).trans (hx _)); refine View.ld_unit_apply_of _ _ _ _ _ _ fun a => ?_; fin_cases a <;> simp
    · refine Eq.trans ?_ ((iblk1 m c t x1 k).trans (hw _)); refine View.ld_unit_apply_of _ _ _ _ _ _ fun a => ?_; fin_cases a <;> simp
    · refine Eq.trans ?_ ((iblk2 m c t ⟨256 + x0, by omega⟩ x1).trans (hg _)); refine View.ld_unit_apply_of _ _ _ _ _ _ fun a => ?_; fin_cases a <;> simp
    · refine Eq.trans ?_ ((iblk3 m c t ⟨256 + x0, by omega⟩ x1).trans (hu _)); refine View.ld_unit_apply_of _ _ _ _ _ _ fun a => ?_; fin_cases a <;> simp
  case piece1 =>
    idx_vars x
    refine Eq.trans ?_ (at_row ⟨x0, by omega⟩ x1 h0 h1).symm
    refine pay_dg _ _ _ _ x0 x1 (fun k => xr (ix2 (row t ⟨x0, by omega⟩) k)) (fun k => wr (ix2 (col t x1) k)) _ _ (fun k => ?_) (fun k => ?_) ?_ ?_
    · refine Eq.trans ?_ ((iblk0 m c t ⟨x0, by omega⟩ k).trans (hx _)); refine View.ld_unit_apply_of _ _ _ _ _ _ fun a => ?_; fin_cases a <;> simp
    · refine Eq.trans ?_ ((iblk1 m c t x1 k).trans (hw _)); refine View.ld_unit_apply_of _ _ _ _ _ _ fun a => ?_; fin_cases a <;> simp
    · refine Eq.trans ?_ ((iblk2 m c t ⟨x0, by omega⟩ x1).trans (hg _)); refine View.ld_unit_apply_of _ _ _ _ _ _ fun a => ?_; fin_cases a <;> simp
    · refine Eq.trans ?_ ((iblk3 m c t ⟨x0, by omega⟩ x1).trans (hu _)); refine View.ld_unit_apply_of _ _ _ _ _ _ fun a => ?_; fin_cases a <;> simp

include hx hw hg in
theorem final5 :
    (dats m 0 c).arrAt 5 cfg0.N
      = FfnRefIdeal.Read.val_main_v12 (F := Ideal) (m ((c : Thread nD τ).loc main_arg0)) (m ((c : Thread nD τ).loc main_arg1))
          (m ((c : Thread nD τ).loc main_arg2)) := by
  refine (dats m 0 c).arrAt_eq_of_covers 5 _ (by decide +kernel) fun t _ y => ?_
  blk_simp
  rw [after0_5]
  frame_out
  idx_vars y
  have at_row (r : Fin 512) (q : Fin 1408) (e0 : (y0 : ℕ) = r) (e1 : (y1 : ℕ) = q) :
      FfnRefIdeal.Read.val_main_v12 (F := Ideal) (m ((c : Thread nD τ).loc main_arg0)) (m ((c : Thread nD τ).loc main_arg1))
          (m ((c : Thread nD τ).loc main_arg2))
          (((View.whole main_v0_1).slice (win0_5.rect t)).emb (ix2 y0 y1))
        = (dup (∑ k : Fin 2048, xr (ix2 (row t r) k) * wr (ix2 (col t q) k)) (gr (ix2 (row t r) (col t q))) : ℝ) := by
    obtain rfl : y0 = r := Fin.ext e0
    obtain rfl : y1 = q := Fin.ext e1
    refine Eq.trans ?_ (ref_du _ _ _ xr hx wr hw gr hg (row t y0) (col t y1))
    blk_ext [row, col, idx t]
  canon_tiles x h using View.cover_of_tiledBy _ ![256, 1408] (by sl_kernel_rfl) (ix2 y0 y1)
  case piece0 =>
    idx_vars x
    refine Eq.trans ?_ (at_row ⟨256 + x0, by omega⟩ x1 h0 h1).symm
    rw [k0_pay13, pay_du_low]
    refine pay_du _ _ _ x0 x1 (fun k => xr (ix2 (row t ⟨256 + x0, by omega⟩) k)) (fun k => wr (ix2 (col t x1) k)) _ (fun k => ?_) (fun k => ?_) ?_
    · refine Eq.trans ?_ ((iblk0 m c t ⟨256 + x0, by omega⟩ k).trans (hx _)); refine View.ld_unit_apply_of _ _ _ _ _ _ fun a => ?_; fin_cases a <;> simp
    · refine Eq.trans ?_ ((iblk1 m c t x1 k).trans (hw _)); refine View.ld_unit_apply_of _ _ _ _ _ _ fun a => ?_; fin_cases a <;> simp
    · refine Eq.trans ?_ ((iblk2 m c t ⟨256 + x0, by omega⟩ x1).trans (hg _)); refine View.ld_unit_apply_of _ _ _ _ _ _ fun a => ?_; fin_cases a <;> simp
  case piece1 =>
    idx_vars x
    refine Eq.trans ?_ (at_row ⟨x0, by omega⟩ x1 h0 h1).symm
    refine pay_du _ _ _ x0 x1 (fun k => xr (ix2 (row t ⟨x0, by omega⟩) k)) (fun k => wr (ix2 (col t x1) k)) _ (fun k => ?_) (fun k => ?_) ?_
    · refine Eq.trans ?_ ((iblk0 m c t ⟨x0, by omega⟩ k).trans (hx _)); refine View.ld_unit_apply_of _ _ _ _ _ _ fun a => ?_; fin_cases a <;> simp
    · refine Eq.trans ?_ ((iblk1 m c t x1 k).trans (hw _)); refine View.ld_unit_apply_of _ _ _ _ _ _ fun a => ?_; fin_cases a <;> simp
    · refine Eq.trans ?_ ((iblk2 m c t ⟨x0, by omega⟩ x1).trans (hg _)); refine View.ld_unit_apply_of _ _ _ _ _ _ fun a => ?_; fin_cases a <;> simp

end Kernel

/-! ## The claim -/

theorem finite (x : FVec Ideal FfnIdeal.S4096x2048 .bf16) (w : FVec Ideal FfnIdeal.S5632x2048 .bf16) (g u : FVec Ideal FfnIdeal.S4096x5632 .bf16)
    (h : Pre_finite_ffn.fn (F := Ideal) x w g u = fun _ => 1#1) :
    (∀ i, x i = ((x i).toReal : EReal)) ∧ (∀ i, w i = ((w i).toReal : EReal)) ∧ (∀ i, g i = ((g i).toReal : EReal))
      ∧ ∀ i, u i = ((u i).toReal : EReal) := by
  have h0 := congrFun h ix0
  unfold Pre_finite_ffn.fn at h0
  obtain ⟨h012, h3⟩ := IntOp.andi_eq_one.1 h0
  obtain ⟨h01, h2⟩ := IntOp.andi_eq_one.1 h012
  obtain ⟨h0, h1⟩ := IntOp.andi_eq_one.1 h01
  exact ⟨real_of_all _ _ _ _ _ _ h0 fun _ => rfl, real_of_all _ _ _ _ _ _ h1 fun _ => rfl, real_of_all _ _ _ _ _ _ h2 fun _ => rfl,
    real_of_all _ _ _ _ _ _ h3 fun _ => rfl⟩

theorem frame_ref : Cert.quiescent_FfnRefIdeal := fun m ρ _ =>
  (θ_run Cert.FfnRefIdeal.defs _ _).mono (fun r h => ⟨fun c => (h c).2.2, sem_eq_zero_of_no_sems (by decide) r.2⟩)
    (Cert.FfnRefIdeal.Value.run (F := Ideal) m ρ)

theorem algebraic : Cert.algebraic_FfnIdeal_FfnRefIdeal_pre_finite_ffn := by
  pair_intro
  · run_from Cert.FfnIdeal.Value.run_blocks m g
  · run_from Cert.FfnRefIdeal.Value.run m' g'
    all_goals obtain ⟨e0, e1, e2, e3⟩ := hagree c
    · obtain ⟨hx, hw, hg, hu⟩ := finite _ _ _ _ (hpre c)
      exact (Cert.FfnRefIdeal.Read.val_main_v11_eq _ _ _ _).trans (final4 m c _ hx _ hw _ hg _ hu).symm
    · obtain ⟨hx, hw, hg, -⟩ := finite _ _ _ _ (hpre c)
      exact (Cert.FfnRefIdeal.Read.val_main_v12_eq _ _ _).trans (final5 m c _ hx _ hw _ hg).symm

end Cert.FfnProof
-- ==== Proof.FlashBody.lean ====
module

public import proofs.«01_k».proof.Proof.Gen.FlashIdeal.Frame
public import proofs.«01_k».proof.Proof.Gen.FlashIdeal.Skeleton
public import Idealize.ShloMosaic.Lib.VecWindow
public import Idealize.ShloMosaic.Lib.Pipeline.ValueKit
public import Idealize.ShloMosaic.Lib.Claim

/-! One grid point of the attention's gradient: what the body leaves in the three results' buffers and in the three
accumulators, as functions of the point's blocks and of what the accumulators held. -/

@[expose] public section

set_option maxRecDepth 16384

noncomputable section

namespace Cert.FlashIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The point's mathematics -/

/-- The three heads' columns of a query block. -/
abbrev head0 (x : Vec F S512x384 .bf16) : Vec F S512x128 .bf16 := View.ld x (Rect.unit (s := S512x384) ![0, 0] S512x128.size inb_S512x384_S512x128_0_0)
abbrev head1 (x : Vec F S512x384 .bf16) : Vec F S512x128 .bf16 := View.ld x (Rect.unit (s := S512x384) ![0, 128] S512x128.size inb_S512x384_S512x128_0_128)
abbrev head2 (x : Vec F S512x384 .bf16) : Vec F S512x128 .bf16 := View.ld x (Rect.unit (s := S512x384) ![0, 256] S512x128.size inb_S512x384_S512x128_0_256)

/-- The three heads' rows of a block of one number per query row. -/
abbrev row0 (x : Vec F S1x1536x128 .f32) : Vec F S1x512x1 .f32 := View.ld x (Rect.unit (s := S1x1536x128) ![0, 0, 0] S1x512x1.size inb_S1x1536x128_S1x512x1_0_0_0)
abbrev row1 (x : Vec F S1x1536x128 .f32) : Vec F S1x512x1 .f32 := View.ld x (Rect.unit (s := S1x1536x128) ![0, 512, 0] S1x512x1.size inb_S1x1536x128_S1x512x1_0_512_0)
abbrev row2 (x : Vec F S1x1536x128 .f32) : Vec F S1x512x1 .f32 := View.ld x (Rect.unit (s := S1x1536x128) ![0, 1024, 0] S1x512x1.size inb_S1x1536x128_S1x512x1_0_1024_0)

/-- The six input blocks of a point. -/
structure Blocks (F : FTy → Type) [FloatOps F] where
  q : Vec F S512x384 .bf16
  k : Vec F S1024x128 .bf16
  v : Vec F S1024x128 .bf16
  g : Vec F S512x384 .bf16
  lse : Vec F S1x1536x128 .f32
  delta : Vec F S1x1536x128 .f32

/-- The first head's scores' gradient. -/
def Blocks.ds0 (x : Blocks F) : FVec F S512x1024 .bf16 := k0_pay19 x.k x.v (head0 x.q) (head0 x.g) (row0 x.lse) (row0 x.delta)
/-- The second head's scores, and its probabilities' gradient. -/
def Blocks.sc1 (x : Blocks F) : FVec F S512x1024 .f32 := k0_pay16 x.k (head1 x.q)
def Blocks.dp1 (x : Blocks F) : FVec F S512x1024 .f32 := k0_pay17 x.v (head1 x.g)
/-- The third head's scores' gradient. -/
def Blocks.ds2 (x : Blocks F) : FVec F S512x1024 .bf16 :=
  k0_pay29 (k0_pay12 x.k) (k0_pay13 x.v) (head2 x.q) (head2 x.g) (row2 x.lse) (row2 x.delta)

/-- The values' gradient after the point, from what it was before. -/
def Blocks.dv (x : Blocks F) (y : Vec F S1024x128 .f32) : Vec F S1024x128 .f32 :=
  k0_pay1 (k0_pay25 (head1 x.g) x.sc1 (k0_pay20 x.k (head0 x.q) (head0 x.g) (row0 x.lse)) (row1 x.lse))
    (k0_pay30 (k0_pay12 x.k) (head2 x.q) (head2 x.g) (row2 x.lse)) y

/-- The keys' gradient after the point, from what it was before. -/
def Blocks.dk (x : Blocks F) (y : Vec F S1024x128 .f32) : Vec F S1024x128 .f32 :=
  k0_pay2 (k0_pay22 (head2 x.q))
    (k0_pay26 (k0_pay14 (head0 x.q)) (k0_pay15 (head1 x.q)) x.sc1 x.dp1 x.ds0 (constant S1024x128 .f32 0x00000000#32) (row1 x.lse) (row1 x.delta)) x.ds2 y

/-- The queries' gradient of the first block of keys. -/
def Blocks.dqFirst (x : Blocks F) : Vec F S1536x128 .f32 :=
  k0_pay4 (k0_pay12 x.k) (k0_pay21 (k0_pay12 x.k) x.ds0) (k0_pay27 (k0_pay12 x.k) x.sc1 x.dp1 (row1 x.lse) (row1 x.delta)) x.ds2

/-- The queries' gradient with one more block of keys. -/
def Blocks.dqNext (x : Blocks F) (w : Vec F S1536x128 .f32) : Vec F S1536x128 .f32 :=
  k0_pay5 (k0_pay12 x.k) (k0_pay21 (k0_pay12 x.k) x.ds0) (k0_pay27 (k0_pay12 x.k) x.sc1 x.dp1 (row1 x.lse) (row1 x.delta)) x.ds2 w

/-- The queries' gradient's block: the three heads side by side. -/
def dqOut (w : Vec F S1536x128 .f32) : Vec F S512x384 .f32 :=
  View.canon [⟨Rect.unit (s := S512x384) ![0, 256] S512x128.size inb_S512x384_S512x128_0_256, k0_pay8 w⟩,
    ⟨Rect.unit (s := S512x384) ![0, 128] S512x128.size inb_S512x384_S512x128_0_128, k0_pay7 w⟩,
    ⟨Rect.unit (s := S512x384) ![0, 0] S512x128.size inb_S512x384_S512x128_0_0, k0_pay6 w⟩]

/-! ## The body's run -/

abbrev Mem (s : Shape) (e : EltTy) := Memref sig .tc .vmem s e

/-- The first branch's condition: the first block of queries. -/
abbrev cond1 (i : grid0.Coords) : Prop := (Scalar.cmpi .ne (Scalar.extui (Scalar.cmpi .eq (BitVec.ofNat 32 (i 2).val) 0#32)) 0#32) = 1#1

/-- The queries' gradient's slice after the point. -/
def Blocks.dq (x : Blocks F) (i : grid0.Coords) (w : Vec F S1536x128 .f32) : Vec F S1536x128 .f32 :=
  if k0_cond2 i = 1#1 then x.dqFirst else x.dqNext w

set_option maxHeartbeats 100000000 in
theorem run (c : Dev nD) (i : grid0.Coords) (a3 : Mem S512x384 .bf16) (h3 : a3.IsWhole) (a4 : Mem S1024x128 .bf16) (h4 : a4.IsWhole)
    (a5 : Mem S1024x128 .bf16) (h5 : a5.IsWhole) (a6 : Mem S512x384 .bf16) (h6 : a6.IsWhole) (a7 : Mem S1x1536x128 .f32) (h7 : a7.IsWhole)
    (a8 : Mem S1x1536x128 .f32) (h8 : a8.IsWhole) (a9 : Mem S512x384 .f32) (h9 : a9.IsWhole) (a10 : Mem S1024x128 .f32) (h10 : a10.IsWhole)
    (a11 : Mem S1024x128 .f32) (h11 : a11.IsWhole) (a12 : Mem S12288x128 .f32) (h12 : a12.IsWhole) (a13 : Mem S1024x128 .f32) (h13 : a13.IsWhole)
    (a14 : Mem S1024x128 .f32) (h14 : a14.IsWhole)
    (hq : (cond1 i ∧ ¬ k0_cond5 i = 1#1) ∨ (¬ cond1 i ∧ ¬ k0_cond5 i = 1#1) ∨ (¬ cond1 i ∧ k0_cond5 i = 1#1))
    (hk : (k0_cond2 i = 1#1 ∧ ¬ k0_cond3 i = 1#1 ∧ ¬ k0_cond4 i = 1#1) ∨ (¬ k0_cond2 i = 1#1 ∧ k0_cond3 i = 1#1 ∧ ¬ k0_cond4 i = 1#1)
      ∨ (¬ k0_cond2 i = 1#1 ∧ k0_cond3 i = 1#1 ∧ k0_cond4 i = 1#1))
    (o : Fin 2 → ℕ) (inb : ∀ a, o a + S1536x128.size a ≤ S12288x128.size a)
    (ho : k0_off1 i = o ∧ k0_off2 i = o ∧ k0_off3 i = o) (x : Blocks F) (d6 : Vec F S512x384 .f32) (d7 d8 : Vec F S1024x128 .f32)
    (y0 : Vec F S12288x128 .f32) (y1 y2 : Vec F S1024x128 .f32) (E : Set ℕ) (K : PUnit → sProp 𝕄) :
    iprop(owns (c : Thread nD τ) a3 fullShare x.q ∗ owns (c : Thread nD τ) a4 fullShare x.k ∗ owns (c : Thread nD τ) a5 fullShare x.v
        ∗ owns (c : Thread nD τ) a6 fullShare x.g ∗ owns (c : Thread nD τ) a7 fullShare x.lse ∗ owns (c : Thread nD τ) a8 fullShare x.delta
        ∗ owns (c : Thread nD τ) a9 fullShare d6 ∗ owns (c : Thread nD τ) a10 fullShare d7 ∗ owns (c : Thread nD τ) a11 fullShare d8
        ∗ owns (c : Thread nD τ) a12 fullShare y0 ∗ owns (c : Thread nD τ) a13 fullShare y1 ∗ owns (c : Thread nD τ) a14 fullShare y2
        ∗ (iprop(owns (c : Thread nD τ) a3 fullShare x.q ∗ owns (c : Thread nD τ) a4 fullShare x.k ∗ owns (c : Thread nD τ) a5 fullShare x.v
            ∗ owns (c : Thread nD τ) a6 fullShare x.g ∗ owns (c : Thread nD τ) a7 fullShare x.lse ∗ owns (c : Thread nD τ) a8 fullShare x.delta
            ∗ owns (c : Thread nD τ) a9 fullShare (if k0_cond4 i = 1#1 then dqOut (x.dq i (VecWindow.window y0 o S1536x128.size inb)) else d6)
            ∗ owns (c : Thread nD τ) a10 fullShare (if k0_cond5 i = 1#1 then k0_pay9 (x.dk (if cond1 i then k0_pay10 else y1)) else d7)
            ∗ owns (c : Thread nD τ) a11 fullShare (if k0_cond5 i = 1#1 then x.dv (if cond1 i then k0_pay11 else y2) else d8)
            ∗ owns (c : Thread nD τ) a12 fullShare (VecWindow.put y0 o S1536x128.size (x.dq i (VecWindow.window y0 o S1536x128.size inb)))
            ∗ owns (c : Thread nD τ) a13 fullShare (x.dk (if cond1 i then k0_pay10 else y1))
            ∗ owns (c : Thread nD τ) a14 fullShare (x.dv (if cond1 i then k0_pay11 else y2))) -∗ K ⟨⟩))
      ⊢ wp frame (wpE (defs₀ (F := F)) Variants.none c none) E
          (cc0_flash_bwd_4096 i a3 h3 a4 h4 a5 h5 a6 h6 a7 h7 a8 h8 a9 h9 a10 h10 a11 h11 a12 h12 a13 h13 a14 h14) K := by
  obtain ⟨ho1, ho2, ho3⟩ := ho
  obtain ⟨x0, x1, x2, x3, x4, x5⟩ := x
  simp only [cc0_flash_bwd_4096_eq_skeleton]; unfold cc0_flash_bwd_4096_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%g0, %hg0, G0⟩, ⟨%g1, %hg1, G1⟩, ⟨%g2, %hg2, G2⟩, Hk⟩
  obtain rfl := h3.eq_unread hf0; obtain rfl := h4.eq_unread hf1; obtain rfl := h5.eq_unread hf2; obtain rfl := h6.eq_unread hf3
  obtain rfl := h7.eq_unread hf4; obtain rfl := h8.eq_unread hf5; obtain rfl := h9.eq_unread hf6; obtain rfl := h10.eq_unread hf7
  obtain rfl := h11.eq_unread hf8; obtain rfl := h12.eq_unread hg0; obtain rfl := h13.eq_unread hg1; obtain rfl := h14.eq_unread hg2
  rcases hq with ⟨hc1, hc5⟩ | ⟨hc1, hc5⟩ | ⟨hc1, hc5⟩ <;> rcases hk with ⟨hc2, hc3, hc4⟩ | ⟨hc2, hc3, hc4⟩ | ⟨hc2, hc3, hc4⟩
  all_goals
    simp only [Blocks.dq, hc2, hc4, hc5, if_true, if_false]
    sl_exec (disch := first | sl_exact hc1 | sl_exact hc2 | sl_exact hc3 | sl_exact hc4 | sl_exact hc5)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr; · ipureintro; exact h8.read_unread _
      iexact H5
    isplitl [H6]
    · iexists _; isplitr; swap; · iexact H6
      ipureintro; first
        | exact h9.read_unread d6
        | (refine (View.read_writes_eq_canon (Val := Elt F) _ _ _ ?_).trans ?_
           · exact View.cover_of_tiledL _ S512x128.size (by sl_kernel_rfl)
           refine congrArg (dqOut (F := F)) ?_
           unfold Blocks.dqNext Blocks.ds0 Blocks.ds2 Blocks.sc1 Blocks.dp1
           frame_open
           unfold View.readCov
           rw [View.readAt_unit _ _ _ ho3 inb, View.read_writes_cons_put _ _ _ _ _ ho2, VecWindow.window_put_same]
           simp (disch := decide) only [View.ld_unit_lit', View.readAt_eq_ld, Memref.IsWhole.read_unread]
           subst ho2
           rfl)
    isplitl [H7]
    · iexists _; isplitr; swap; · iexact H7
      ipureintro; first
        | (refine (View.read_writes_full _ _ _ _ _).trans ?_
           first | rw [if_pos hc1] | rw [if_neg hc1] | skip
           unfold Blocks.dk Blocks.ds0 Blocks.ds2 Blocks.sc1 Blocks.dp1; frame_out)
        | exact h10.read_unread d7
    isplitl [H8]
    · iexists _; isplitr; swap; · iexact H8
      ipureintro; first
        | (refine (View.read_writes_full _ _ _ _ _).trans ?_
           first | rw [if_pos hc1] | rw [if_neg hc1] | skip
           unfold Blocks.dv Blocks.sc1; frame_out)
        | exact h11.read_unread d8
    isplitl [G0]
    · iexists _; isplitr; swap; · iexact G0
      ipureintro
      refine (View.read_writes_cons_put _ _ _ _ _ (by first | exact ho1 | exact ho2)).trans ?_
      rw [View.writes_nil, h12.read_unread]
      first | unfold Blocks.dqNext | unfold Blocks.dqFirst
      unfold Blocks.ds0 Blocks.ds2 Blocks.sc1 Blocks.dp1; frame_out
      try (subst ho2; rfl)
    isplitl [G1]
    · iexists _; isplitr; swap; · iexact G1
      ipureintro
      refine (View.read_writes_full _ _ _ _ _).trans ?_
      first | rw [if_pos hc1] | rw [if_neg hc1] | skip
      unfold Blocks.dk Blocks.ds0 Blocks.ds2 Blocks.sc1 Blocks.dp1; frame_out
    · iexists _; isplitr; swap; · iexact G2
      ipureintro
      refine (View.read_writes_full _ _ _ _ _).trans ?_
      first | rw [if_pos hc1] | rw [if_neg hc1] | skip
      unfold Blocks.dv Blocks.sc1; frame_out

end Cert.FlashIdeal.Gen

end
-- ==== Proof.FlashFrame.lean ====
module

public import proofs.«01_k».proof.Proof.FlashBody

/-! The attention's gradient, over the whole grid: heads, then blocks of keys, then blocks of queries. The keys' and
the values' gradients are summed over the blocks of queries; the queries' gradients are kept one slice per block of
queries and summed over the blocks of keys. -/

@[expose] public section

set_option maxRecDepth 16384

noncomputable section

namespace Cert.FlashIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The branches and the slices, at a point -/

/-- Point `t` is head `t / 32`, block of keys `t / 8 % 4`, block of queries `t % 8`. -/
theorem cond_at : ∀ t : Fin grid0.N, (cond1 (grid0.coords t) ↔ t.val % 8 = 0) ∧ (k0_cond5 (grid0.coords t) = 1#1 ↔ t.val % 8 = 7)
    ∧ (k0_cond2 (grid0.coords t) = 1#1 ↔ t.val / 8 % 4 = 0) ∧ (k0_cond3 (grid0.coords t) = 1#1 ↔ ¬ t.val / 8 % 4 = 0)
    ∧ (k0_cond4 (grid0.coords t) = 1#1 ↔ t.val / 8 % 4 = 3) := by decide +kernel

/-- The rows of the queries' gradient of point `n`'s block of queries. -/
def off (n : ℕ) : Fin 2 → ℕ := ![1536 * (n % 8), 0]

theorem off_inb (n : ℕ) : ∀ a, off n a + S1536x128.size a ≤ S12288x128.size a :=
  Fin.forall_fin_two.2 ⟨by show 1536 * (n % 8) + 1536 ≤ 12288; omega, by show 0 + 128 ≤ 128; omega⟩

theorem off_at (t : Fin grid0.N) :
    k0_off1 (grid0.coords t) = off t.val ∧ k0_off2 (grid0.coords t) = off t.val ∧ k0_off3 (grid0.coords t) = off t.val := by
  have h := (by decide +kernel : ∀ t : Fin grid0.N, ∀ a : Fin 2, k0_off1 (grid0.coords t) a = off t.val a
    ∧ k0_off2 (grid0.coords t) a = off t.val a ∧ k0_off3 (grid0.coords t) a = off t.val a) t
  exact ⟨funext fun a => (h a).1, funext fun a => (h a).2.1, funext fun a => (h a).2.2⟩

/-! ## What the accumulators hold after each point -/

/-- Point `t`'s blocks. -/
def blks (c : Dev nD) (t : Fin cfg0.N) : Blocks F :=
  ⟨iblk m c 0 t, iblk m c 1 t, iblk m c 2 t, X0_3 m c t, iblk m c 4 t, iblk m c 5 t⟩

/-- The keys' gradient: zeroed at the first block of queries. -/
def dkAt (c : Dev nD) : (n : ℕ) → n < cfg0.N → Vec F S1024x128 .f32
  | 0, h => (blks m c ⟨0, h⟩).dk k0_pay10
  | n + 1, h => (blks m c ⟨n + 1, h⟩).dk (if (n + 1) % 8 = 0 then k0_pay10 else dkAt c n (Nat.lt_of_succ_lt h))

/-- The values' gradient: zeroed at the first block of queries. -/
def dvAt (c : Dev nD) : (n : ℕ) → n < cfg0.N → Vec F S1024x128 .f32
  | 0, h => (blks m c ⟨0, h⟩).dv k0_pay11
  | n + 1, h => (blks m c ⟨n + 1, h⟩).dv (if (n + 1) % 8 = 0 then k0_pay11 else dvAt c n (Nat.lt_of_succ_lt h))

/-- The queries' gradient's slice after `j + 1` blocks of keys, the last of them point `n`'s. -/
def dqAt (c : Dev nD) : ℕ → (n : ℕ) → n < cfg0.N → Vec F S1536x128 .f32
  | 0, n, h => (blks m c ⟨n, h⟩).dqFirst
  | j + 1, n, h => (blks m c ⟨n, h⟩).dqNext (dqAt c j (n - 8) (Nat.lt_of_le_of_lt (Nat.sub_le _ _) h))

/-- The accumulators before point `n`: each slice of the queries' gradient at what its last point left, and the keys'
and values' gradients at what the point before left. -/
def Inv (c : Dev nD) (n : ℕ) (y0 : Vec F S12288x128 .f32) (y1 y2 : Vec F S1024x128 .f32) : Prop :=
  (∀ n' (h : n' < cfg0.N), n' < n → n ≤ n' + 8 → VecWindow.window y0 (off n') S1536x128.size (off_inb n') = dqAt m c (n' / 8 % 4) n' h)
  ∧ ∀ (h : n - 1 < cfg0.N), 0 < n → y1 = dkAt m c (n - 1) h ∧ y2 = dvAt m c (n - 1) h

theorem inv_zero (c : Dev nD) (y0 : Vec F S12288x128 .f32) (y1 y2 : Vec F S1024x128 .f32) : Inv m c 0 y0 y1 y2 :=
  ⟨fun n' _ h => absurd h (Nat.not_lt_zero _), fun _ h => absurd h (lt_irrefl _)⟩

/-- The point's results, from accumulators that satisfy the invariant. -/
theorem step_eq (c : Dev nD) (t : Fin cfg0.N) (y0 : Vec F S12288x128 .f32) (y1 y2 : Vec F S1024x128 .f32) (h : Inv m c t.val y0 y1 y2) :
    (blks m c t).dq (grid0.coords t) (VecWindow.window y0 (off t.val) S1536x128.size (off_inb t.val)) = dqAt m c (t.val / 8 % 4) t.val t.isLt
    ∧ (blks m c t).dk (if cond1 (grid0.coords t) then k0_pay10 else y1) = dkAt m c t.val t.isLt
    ∧ (blks m c t).dv (if cond1 (grid0.coords t) then k0_pay11 else y2) = dvAt m c t.val t.isLt := by
  obtain ⟨c1, -, c2, -, -⟩ := cond_at t
  obtain ⟨n, hn⟩ := t
  refine ⟨?_, ?_⟩
  · unfold Blocks.dq
    cases hj : n / 8 % 4 with
    | zero => rw [if_pos (c2.2 hj)]; exact (rfl : _ = dqAt m c 0 n hn)
    | succ j =>
      rw [if_neg fun e => by have := c2.1 e; dsimp only at this; omega]
      have e := h.1 (n - 8) (Nat.lt_of_le_of_lt (Nat.sub_le _ _) hn) (by dsimp only; omega) (by dsimp only; omega)
      have ho : off (n - 8) = off n := by unfold off; congr 2; omega
      have hj' : (n - 8) / 8 % 4 = j := by omega
      have key : ∀ o hi, o = off n → VecWindow.window y0 o S1536x128.size hi = VecWindow.window y0 (off n) S1536x128.size (off_inb n) := by
        rintro _ _ rfl; rfl
      exact congrArg _ ((key _ _ ho).symm.trans (e.trans (by rw [hj'])))
  · cases n with
    | zero => rw [if_pos (c1.2 rfl), if_pos (c1.2 rfl)]; exact ⟨rfl, rfl⟩
    | succ n =>
      obtain ⟨e1, e2⟩ := h.2 (Nat.lt_of_le_of_lt (Nat.sub_le _ _) hn) (Nat.succ_pos n)
      subst e1 e2
      by_cases h8 : (n + 1) % 8 = 0
      · rw [if_pos (c1.2 h8), if_pos (c1.2 h8)]
        exact ⟨congrArg (blks m c ⟨n + 1, hn⟩).dk (if_pos h8).symm, congrArg (blks m c ⟨n + 1, hn⟩).dv (if_pos h8).symm⟩
      · rw [if_neg fun e => h8 (c1.1 e), if_neg fun e => h8 (c1.1 e)]
        exact ⟨congrArg (blks m c ⟨n + 1, hn⟩).dk (if_neg h8).symm, congrArg (blks m c ⟨n + 1, hn⟩).dv (if_neg h8).symm⟩

/-- The point keeps the invariant. -/
theorem inv_succ (c : Dev nD) (t : Fin cfg0.N) (y0 : Vec F S12288x128 .f32) (y1 y2 : Vec F S1024x128 .f32) (h : Inv m c t.val y0 y1 y2) :
    Inv m c (t.val + 1) (VecWindow.put y0 (off t.val) S1536x128.size (dqAt m c (t.val / 8 % 4) t.val t.isLt))
      (dkAt m c t.val t.isLt) (dvAt m c t.val t.isLt) := by
  refine ⟨fun n' hn' h1 h2 => ?_, fun _ _ => ⟨rfl, rfl⟩⟩
  by_cases hn : n' = t.val
  · subst hn; exact VecWindow.window_put_same _ _ _ _ _
  · refine (VecWindow.window_put_of_disjoint _ _ _ _ _ _ _ (0 : Fin 2) ?_).trans (h.1 n' hn' (by omega) (by omega))
    show 1536 * (n' % 8) + 1536 ≤ 1536 * (t.val % 8) ∨ 1536 * (t.val % 8) + 1536 ≤ 1536 * (n' % 8)
    omega

/-! ## The pipeline's proof data -/

abbrev ms0_0 (t : Fin cfg0.N) : Mem S512x384 .bf16 := win0_0.stage (cfg0.slots t 0)
abbrev ms0_1 (t : Fin cfg0.N) : Mem S1024x128 .bf16 := win0_1.stage (cfg0.slots t 1)
abbrev ms0_2 (t : Fin cfg0.N) : Mem S1024x128 .bf16 := win0_2.stage (cfg0.slots t 2)
abbrev ms0_3 (t : Fin cfg0.N) : Mem S512x384 .bf16 := win0_3.stage (cfg0.slots t 3)
abbrev ms0_4 (t : Fin cfg0.N) : Mem S1x1536x128 .f32 := win0_4.stage (cfg0.slots t 4)
abbrev ms0_5 (t : Fin cfg0.N) : Mem S1x1536x128 .f32 := win0_5.stage (cfg0.slots t 5)
abbrev ms0_6 (t : Fin cfg0.N) : Mem S512x384 .f32 := win0_6.stage (cfg0.slots t 6)
abbrev ms0_7 (t : Fin cfg0.N) : Mem S1024x128 .f32 := win0_7.stage (cfg0.slots t 7)
abbrev ms0_8 (t : Fin cfg0.N) : Mem S1024x128 .f32 := win0_8.stage (cfg0.slots t 8)
abbrev acc0 : Mem S12288x128 .f32 := Memref.whole cc0_scratch0
abbrev acc1 : Mem S1024x128 .f32 := Memref.whole cc0_scratch1
abbrev acc2 : Mem S1024x128 .f32 := Memref.whole cc0_scratch2

/-- The invariant between points: the three accumulators at contents that satisfy `Inv`. -/
def PhiF (c : Dev nD) (n : ℕ) : sProp 𝕄 :=
  iprop(∃ (y0 : Vec F S12288x128 .f32) (y1 y2 : Vec F S1024x128 .f32), ⌜Inv m c n y0 y1 y2⌝
    ∗ (owns (c : Thread nD τ) acc0 fullShare y0 ∗ owns (c : Thread nD τ) acc1 fullShare y1 ∗ owns (c : Thread nD τ) acc2 fullShare y2)
    ∗ (∃ r, prngReg c r))

theorem PhiA0_eq (c : Dev nD) :
    (Pipeline.ΦA spec0 c : sProp 𝕄)
      = iprop(iprop((∃ d, owns (c : Thread nD τ) acc0 fullShare d) ∗ (∃ d, owns (c : Thread nD τ) acc1 fullShare d) ∗ (∃ d, owns (c : Thread nD τ) acc2 fullShare d)) ∗ (∃ r, prngReg c r)) := by
  unfold Pipeline.ΦA; rw [scopedRest0_eq]; simp only [acc0, acc1, acc2, owns_whole]; try rfl

/-- Each input's buffer at its block, each result's at what its last point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => dqOut (dqAt m c (t.val / 8 % 4) t.val t.isLt)
    | ⟨7, _⟩ => k0_pay9 (dkAt m c t.val t.isLt)
    | ⟨8, _⟩ => dvAt m c t.val t.isLt
  Φ t := PhiF m c t.val
  q _ := fullShare
  owed _ := 0

theorem A_eq (c : Dev nD) (w : Fin cfg0.W) : (dats m 0 c).A w = V m c (Pipeline.arrRef spec0 w) := by
  dsimp only [dats]

theorem after0_6 (c : Dev nD) (t : Fin cfg0.N) : (dats m 0 c).after 6 t = dqOut (dqAt m c (t.val / 8 % 4) t.val t.isLt) := by dsimp only [dats]
theorem after0_7 (c : Dev nD) (t : Fin cfg0.N) : (dats m 0 c).after 7 t = k0_pay9 (dkAt m c t.val t.isLt) := by dsimp only [dats]
theorem after0_8 (c : Dev nD) (t : Fin cfg0.N) : (dats m 0 c).after 8 t = dvAt m c t.val t.isLt := by dsimp only [dats]

/-- The inputs' buffers hold their blocks, before the body and after it. -/
theorem before_in (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t)
    ∧ (∀ d, (dats m 0 c).before 3 t d = X0_3 m c t) ∧ (∀ d, (dats m 0 c).before 4 t d = iblk m c 4 t) ∧ (∀ d, (dats m 0 c).before 5 t d = iblk m c 5 t) :=
  ⟨before0_0_of m (dats m 0 c) (A_eq m c 0) (fun _ => by dsimp only [dats]) t, before0_1_of m (dats m 0 c) (A_eq m c 1) (fun _ => by dsimp only [dats]) t,
    before0_2_of m (dats m 0 c) (A_eq m c 2) (fun _ => by dsimp only [dats]) t, before0_3_of m (dats m 0 c) (A_eq m c 3) (fun _ => by dsimp only [dats]) t,
    before0_4_of m (dats m 0 c) (A_eq m c 4) (fun _ => by dsimp only [dats]) t, before0_5_of m (dats m 0 c) (A_eq m c 5) (fun _ => by dsimp only [dats]) t⟩

theorem leaves_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (X0_3 m c t)
    ∧ (dats m 0 c).leavesExact 4 t = owns (c : Thread nD τ) (ms0_4 t) fullShare (iblk m c 4 t)
    ∧ (dats m 0 c).leavesExact 5 t = owns (c : Thread nD τ) (ms0_5 t) fullShare (iblk m c 5 t) := by
  have h3 : (dats m 0 c).after 3 t = X0_3 m c t := by dsimp only [dats]
  have l3 : (dats m 0 c).leavesExact 3 t = owns (c : Thread nD τ) (ms0_3 t) fullShare ((dats m 0 c).after 3 t) := by
    unfold Dat.leavesExact; rfl
  refine ⟨?_, ?_, ?_, l3.trans (by rw [h3]), ?_, ?_⟩ <;> · unfold Dat.leavesExact; rfl

/-- Where a result's buffer is left alone, and not written back. -/
theorem idle_at : ∀ t : Fin cfg0.N,
    cfg0.idle 6 (grid0.coords t) = !decide (k0_cond4 (grid0.coords t) = 1#1)
    ∧ cfg0.idle 7 (grid0.coords t) = !decide (k0_cond5 (grid0.coords t) = 1#1)
    ∧ cfg0.idle 8 (grid0.coords t) = !decide (k0_cond5 (grid0.coords t) = 1#1)
    ∧ (¬ k0_cond4 (grid0.coords t) = 1#1 → (cfg0.win 6).flush t = false)
    ∧ (¬ k0_cond5 (grid0.coords t) = 1#1 → (cfg0.win 7).flush t = false)
    ∧ (¬ k0_cond5 (grid0.coords t) = 1#1 → (cfg0.win 8).flush t = false) := by decide +kernel

/-- What the body leaves in a result's buffer is what the pipeline expects there. -/
theorem leaves6 (c : Dev nD) (t : Fin cfg0.N) (d) :
    owns (c : Thread nD τ) (ms0_6 t) fullShare (if k0_cond4 (grid0.coords t) = 1#1 then dqOut (dqAt m c (t.val / 8 % 4) t.val t.isLt) else (dats m 0 c).before 6 t d)
      ⊢ (dats m 0 c).leavesExact 6 t := by
  obtain ⟨i, -, -, f, -, -⟩ := idle_at t
  by_cases h : k0_cond4 (grid0.coords t) = 1#1
  · rw [if_pos h, show (dats m 0 c).leavesExact 6 t = owns (c : Thread nD τ) (ms0_6 t) fullShare ((dats m 0 c).after 6 t) from by
      unfold Dat.leavesExact; rw [i, decide_eq_true h]; rfl, after0_6]
  · rw [if_neg h, Dat.leavesExact_idle (dats m 0 c) 6 t (by rw [i, decide_eq_false h]; rfl) (f h)]
    iintro H; iexists _; iexact H

theorem leaves7 (c : Dev nD) (t : Fin cfg0.N) (d) :
    owns (c : Thread nD τ) (ms0_7 t) fullShare (if k0_cond5 (grid0.coords t) = 1#1 then k0_pay9 (dkAt m c t.val t.isLt) else (dats m 0 c).before 7 t d)
      ⊢ (dats m 0 c).leavesExact 7 t := by
  obtain ⟨-, i, -, -, f, -⟩ := idle_at t
  by_cases h : k0_cond5 (grid0.coords t) = 1#1
  · rw [if_pos h, show (dats m 0 c).leavesExact 7 t = owns (c : Thread nD τ) (ms0_7 t) fullShare ((dats m 0 c).after 7 t) from by
      unfold Dat.leavesExact; rw [i, decide_eq_true h]; rfl, after0_7]
  · rw [if_neg h, Dat.leavesExact_idle (dats m 0 c) 7 t (by rw [i, decide_eq_false h]; rfl) (f h)]
    iintro H; iexists _; iexact H

theorem leaves8 (c : Dev nD) (t : Fin cfg0.N) (d) :
    owns (c : Thread nD τ) (ms0_8 t) fullShare (if k0_cond5 (grid0.coords t) = 1#1 then dvAt m c t.val t.isLt else (dats m 0 c).before 8 t d)
      ⊢ (dats m 0 c).leavesExact 8 t := by
  obtain ⟨-, -, i, -, -, f⟩ := idle_at t
  by_cases h : k0_cond5 (grid0.coords t) = 1#1
  · rw [if_pos h, show (dats m 0 c).leavesExact 8 t = owns (c : Thread nD τ) (ms0_8 t) fullShare ((dats m 0 c).after 8 t) from by
      unfold Dat.leavesExact; rw [i, decide_eq_true h]; rfl, after0_8]
  · rw [if_neg h, Dat.leavesExact_idle (dats m 0 c) 8 t (by rw [i, decide_eq_false h]; rfl) (f h)]
    iintro H; iexists _; iexact H

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t)

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  obtain ⟨b0, b1, b2, b3, b4, b5⟩ := before_in m c t
  obtain ⟨l0, l1, l2, l3, l4, l5⟩ := leaves_in m c t
  obtain ⟨c1, c5, c2, c3, c4⟩ := cond_at t
  unfold bodyPre bodyPost bodyAt0
  simp only [b0, b1, b2, b3, b4, b5, l0, l1, l2, l3, l4, l5]
  rw [show (dats m 0 c).owesAt () t.succ = (dats m 0 c).owesAt () t.castSucc from rfl,
    show (dats m 0 c).Φ t.castSucc = PhiF m c t.val from rfl, show (dats m 0 c).Φ t.succ = PhiF m c (t.val + 1) from rfl]
  unfold PhiF
  iintro ⟨⟨%y0, %y1, %y2, %hI, ⟨G0, G1, G2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨e0, e1, e2⟩ := step_eq m c t y0 y1 y2 hI
  iapply (run c (grid0.coords t) _ _ _ _ _ _ _ _ _ _ _ _ _ _ _ _ _ _ _ _ _ _ _ _
    (by rw [c1, c5]; omega) (by rw [c2, c3, c4]; omega) (off t.val) (off_inb t.val) (off_at t) (blks m c t) _ _ _ y0 y1 y2 Set.univ _)
  rw [e0, e1, e2]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [G0]; · iexact G0
  isplitl [G1]; · iexact G1
  isplitl [G2]; · iexact G2
  iintro ⟨H0, H1, H2, H3, H4, H5, H6, H7, H8, G0, G1, G2⟩
  isplitl [G0 G1 G2 Hg]
  · iexists _; iexists _; iexists _
    isplitr; · ipureintro; exact inv_succ m c t y0 y1 y2 hI
    isplitl [G0 G1 G2]
    · isplitl [G0]; · iexact G0
      isplitl [G1]; · iexact G1
      iexact G2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves6 m c t d6); iexact H6
  isplitl [H7]; · iapply (leaves7 m c t d7); iexact H7
  iapply (leaves8 m c t d8); iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦA spec0 c ⊢ (dats m 0 c).Φ 0 := by
  rw [show (dats m 0 c).Φ 0 = PhiF m c 0 from rfl, PhiA0_eq]
  unfold PhiF
  iintro ⟨⟨⟨%y0, G0⟩, ⟨%y1, G1⟩, ⟨%y2, G2⟩⟩, Hg⟩
  iexists y0; iexists y1; iexists y2
  isplitr; · ipureintro; exact inv_zero m c y0 y1 y2
  isplitl [G0 G1 G2]
  · isplitl [G0]; · iexact G0
    isplitl [G1]; · iexact G1
    iexact G2
  iexact Hg

theorem hout (c : Dev nD) : (dats m 0 c).Φ (Fin.last cfg0.N) ⊢ Pipeline.ΦA spec0 c := by
  rw [show (dats m 0 c).Φ (Fin.last cfg0.N) = PhiF m c cfg0.N from rfl, PhiA0_eq]
  unfold PhiF
  iintro ⟨%y0, %y1, %y2, %hI, ⟨G0, G1, G2⟩, Hg⟩
  isplitl [G0 G1 G2]
  · isplitl [G0]; · iexists _; iexact G0
    isplitl [G1]; · iexists _; iexact G1
    iexists _; iexact G2
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The program ends, its arguments unchanged and its semaphores at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FlashIdeal.Gen

end
-- ==== Proof.FlashReal.lean ====
/- The attention's gradient in real numbers: what the two programs are shown to compute, and the facts about reals that
   join them. -/
module

public import proofs.«01_k».proof.Proof.Lift

@[expose] public section

set_option maxRecDepth 16384

noncomputable section

namespace Cert.FlashProof

open Idealize.ShloMosaic Idealize.ShloMosaic.TcCoe Idealize.SL.Sem
open Cert.Lift

/-! ## A row's maximum is a real number -/

theorem foldl_max_real {ι : Type} (l : List ι) (f : ι → ℝ) (a : EReal) (ha : a = ⊥ ∨ ∃ r : ℝ, a = r) (hl : l ≠ []) :
    ∃ r : ℝ, l.foldl (fun r n => max r (f n : EReal)) a = r := by
  induction l generalizing a with
  | nil => exact absurd rfl hl
  | cons i l ih =>
    have hm : ∃ r : ℝ, max a (f i : EReal) = r := by
      rcases ha with rfl | ⟨r, rfl⟩
      · exact ⟨f i, max_eq_right bot_le⟩
      · exact ⟨max r (f i), max_coe r (f i)⟩
    rw [List.foldl_cons]
    rcases List.eq_nil_or_concat l with rfl | ⟨l', b, rfl⟩
    · exact hm
    · exact ih _ (Or.inr hm) (by simp)

theorem drop_3 {A B C D : ℕ} (h : (⟨4, ![A, B, C, D]⟩ : Shape).ReducesTo [3] ⟨3, ![A, B, C]⟩) (a : Fin A) (b : Fin B) (c : Fin C) (d : Fin D) :
    h.drop (ix4 a b c d) = ix3 a b c := by
  funext k
  fin_cases k <;> rfl

theorem reduce_max_real {A B C D : ℕ} {u : Shape} (h : (⟨4, ![A, B, C, D]⟩ : Shape).ReducesTo [3] ⟨3, ![A, B, C]⟩) (hu : 0 < u.numel)
    (x : FVec Ideal ⟨4, ![A, B, C, D]⟩ .f32) (hx : ∀ i, ∃ r : ℝ, x i = (r : EReal)) (init : FVec Ideal u .f32)
    (hi : ∀ i, init i = (⊥ : EReal)) (a : Fin A) (b : Fin B) (c : Fin C) (d : Fin D) :
    ∃ r : ℝ, Host.reduce FloatOps.maximumf x init h hu (ix3 a b c) = (r : EReal) := by
  choose f hf using hx
  unfold Host.reduce
  rw [hi]
  have e : (fun (r : EReal) n => max r (x ((⟨4, ![A, B, C, D]⟩ : Shape).rowMajor.symm n)))
      = fun (r : EReal) n => max r (f ((⟨4, ![A, B, C, D]⟩ : Shape).rowMajor.symm n) : EReal) := by
    funext r n; rw [hf]
  show ∃ r : ℝ, List.foldl (fun (r : EReal) n => max r (x ((⟨4, ![A, B, C, D]⟩ : Shape).rowMajor.symm n))) ⊥ _ = (r : EReal)
  rw [e]
  refine foldl_max_real _ _ _ (Or.inl rfl) (List.ne_nil_of_mem (a := (⟨4, ![A, B, C, D]⟩ : Shape).rowMajor (ix4 a b c d)) ?_)
  rw [List.mem_filter]
  exact ⟨List.mem_finRange _, by simp [drop_3 h a b c d]⟩

theorem lit_bot : Ideal.ofBits .f32 4286578688#32 = ⊥ := by simp [Ideal.ofBits, Ideal.ieee]

theorem lit_two : Ideal.ofBits .f32 1073741824#32 = ((2 : ℝ) : EReal) := by
  simp [Ideal.ofBits, Ideal.ieee]; rw [← EReal.coe_mul]; congr 1; norm_num

/-! ## The scale -/

/-- The scale of the scores, the rational number that its word stores. -/
def s0 : ℝ := (Ideal.ofBits .f32 1035273459#32).toReal

theorem lit_s0 : Ideal.ofBits .f32 1035273459#32 = ((s0 : ℝ) : EReal) := by
  have h : ∃ r : ℝ, Ideal.ofBits .f32 1035273459#32 = (r : EReal) := by
    simp only [Ideal.ofBits, Ideal.ieee]; simp; exact ⟨_, (EReal.coe_mul _ _).symm⟩
  obtain ⟨r, hr⟩ := h
  unfold s0; rw [hr]; rfl

theorem log_coe (r : ℝ) (h : 0 < r) : Ideal.log (r : EReal) = ((Real.log r : ℝ) : EReal) := by
  show (if r ≤ 0 then (⊥ : EReal) else ((Real.log r : ℝ) : EReal)) = _
  rw [if_neg (not_le.2 h)]

theorem exp2_coe (r : ℝ) : Ideal.exp2 (r : EReal) = (((2 : ℝ) ^ r : ℝ) : EReal) := rfl

theorem log2_pos : 0 < Real.log 2 := Real.log_pos (by norm_num)

/-! ## The gradient -/

/-- The column of head `h`, group `g`, lane `d` of the queries; of head `h`, lane `d` of the keys. -/
def qc (h : Fin 4) (g : Fin 3) (d : Fin 128) : Fin 1536 := ⟨h.val * 384 + g.val * 128 + d.val, by omega⟩
def kc (h : Fin 4) (d : Fin 128) : Fin 512 := ⟨h.val * 128 + d.val, by omega⟩

variable (Q : Fin 4096 → Fin 1536 → ℝ) (K V : Fin 4096 → Fin 512 → ℝ) (D : Fin 4096 → Fin 1536 → ℝ)

/-- A score, a probability, the gradient of a probability, the gradient of a score. -/
def sc (h : Fin 4) (g : Fin 3) (s k : Fin 4096) : ℝ := (∑ x, Q s (qc h g x) * K k (kc h x)) * s0
def pr (h : Fin 4) (g : Fin 3) (s k : Fin 4096) : ℝ := Real.exp (sc Q K h g s k) / ∑ k', Real.exp (sc Q K h g s k')
def dpr (h : Fin 4) (g : Fin 3) (s k : Fin 4096) : ℝ := ∑ x, D s (qc h g x) * V k (kc h x)
def dsc (h : Fin 4) (g : Fin 3) (s k : Fin 4096) : ℝ :=
  pr Q K h g s k * (dpr V D h g s k - ∑ k', pr Q K h g s k' * dpr V D h g s k')

/-- The gradients of the queries, the keys and the values. -/
def dq (s : Fin 4096) (h : Fin 4) (g : Fin 3) (d : Fin 128) : ℝ := ∑ k, dsc Q K V D h g s k * K k (kc h d) * s0
def dk (k : Fin 4096) (h : Fin 4) (d : Fin 128) : ℝ := ∑ g, ∑ s, dsc Q K V D h g s k * Q s (qc h g d) * s0
def dv (k : Fin 4096) (h : Fin 4) (d : Fin 128) : ℝ := ∑ g, ∑ s, pr Q K h g s k * D s (qc h g d)

/-- The sum of a row's exponentials is positive. -/
theorem sum_exp_pos (a : Fin 4096 → ℝ) : 0 < ∑ k, Real.exp (a k) :=
  Finset.sum_pos (fun k _ => Real.exp_pos _) ⟨0, Finset.mem_univ _⟩

/-- A probability does not depend on what is taken from every score. -/
theorem shift (a : Fin 4096 → ℝ) (M : ℝ) (k : Fin 4096) :
    Real.exp (a k - M) / ∑ k', Real.exp (a k' - M) = Real.exp (a k) / ∑ k', Real.exp (a k') := by
  simp only [Real.exp_sub]
  rw [← Finset.sum_div, div_div_div_cancel_right₀ (Real.exp_ne_zero M)]

/-- The reference's derivative of a quotient by a row's sum, with the sum's own part gathered. -/
theorem softmax_grad (e a : Fin 4096 → ℝ) (l : ℝ) (hl : l ≠ 0) (k : Fin 4096) :
    (a k / l + -∑ x, a x * (1 / (l * l)) * e x) * e k = e k / l * (a k - ∑ x, e x / l * a x) := by
  have h : ∑ x, e x / l * a x = l * ∑ x, a x * (1 / (l * l)) * e x := by
    rw [Finset.mul_sum]
    refine Finset.sum_congr rfl fun x _ => ?_
    field_simp
  rw [h]
  field_simp
  ring

/-- A power of two of a difference of scores, each over the logarithm of two, is a probability. -/
theorem exp2_prob (a M l : ℝ) (hl : 0 < l) :
    (2 : ℝ) ^ (a / Real.log 2 - (M + Real.log l) / Real.log 2) = Real.exp (a - M) / l := by
  rw [Real.rpow_def_of_pos (by norm_num), ← sub_div, mul_div_cancel₀ _ log2_pos.ne', ← sub_sub, Real.exp_sub, Real.exp_log hl]

end Cert.FlashProof
-- ==== Proof.FlashRef.lean ====
/- The attention's gradient: what the reference computes, in real numbers. -/
module

public import proofs.«01_k».proof.Defs
public import proofs.«01_k».proof.Proof.Gen.FlashRefIdeal.Read
public import proofs.«01_k».proof.Proof.FlashReal

@[expose] public section

set_option maxRecDepth 16384

noncomputable section

namespace Cert.FlashProof

open Idealize.ShloMosaic Idealize.ShloMosaic.TcCoe Idealize.SL.Sem
open Cert.Lift
open Cert.FlashRefIdeal Cert.FlashRefIdeal.Read

variable (xq : FVec Ideal S4096x1536 .f32) (xk xv : FVec Ideal S4096x512 .f32) (xd : FVec Ideal S4096x2048 .bf16)

variable (Q : Fin 4096 → Fin 1536 → ℝ) (hQ : ∀ s j, xq (ix2 s j) = (Q s j : EReal))
  (K : Fin 4096 → Fin 512 → ℝ) (hK : ∀ s j, xk (ix2 s j) = (K s j : EReal))
  (V : Fin 4096 → Fin 512 → ℝ) (hV : ∀ s j, xv (ix2 s j) = (V s j : EReal))
  (D : Fin 4096 → Fin 1536 → ℝ) (hD : ∀ s (j : Fin 1536) (h : j.val < 2048), xd (ix2 s ⟨j.val, h⟩) = (D s j : EReal))

include hQ hK in
theorem ref_sc (h : Fin 4) (g : Fin 3) (s k : Fin 4096) :
    val_main_v6 (F := Ideal) xq xk (ix4 h g s k) = (sc Q K h g s k : EReal) := by
  pointwise [val_main_v0, val_main_v1, val_main_v3, val_main_v4, val_main_cst, val_main_v5, val_main_v6]
  simp only [hQ, hK, lit_s0, ← EReal.coe_mul, sum_coe]
  refine congrArg _ ?_
  unfold sc
  refine congrArg (· * s0) (Finset.sum_congr rfl fun x _ => mul_comm _ _)

include hQ hK in
/-- The scores' row maximum, whatever it is. -/
theorem ref_max (h : Fin 4) (g : Fin 3) (s : Fin 4096) : ∃ M : ℝ, val_main_v7 (F := Ideal) xq xk (ix3 h g s) = (M : EReal) := by
  unfold val_main_v7
  refine reduce_max_real _ _ _ (fun i => ?_) _ (fun i => lit_bot) h g s 0
  idx_vars i
  exact ⟨_, ref_sc xq xk Q hQ K hK i0 i1 i2 i3⟩

theorem ref_v25 (h : Fin 4) (g : Fin 3) (s k : Fin 4096) :
    val_main_v25 (F := Ideal) xq xk (ix4 h g s k) = val_main_v14 (F := Ideal) xq xk (ix3 h g s) := by
  rw [val_main_v25_apply, val_main_v24_apply]
  refine congrArg _ ?_
  funext a; fin_cases a <;> rfl

include hQ hK in
theorem ref_e (h : Fin 4) (g : Fin 3) (s : Fin 4096) :
    ∃ M : ℝ, ∀ k, val_main_v27 (F := Ideal) xq xk (ix4 h g s k) = ((Real.exp (sc Q K h g s k - M) : ℝ) : EReal) := by
  obtain ⟨M, hM⟩ := ref_max xq xk Q hQ K hK h g s
  refine ⟨M, fun k => ?_⟩
  have e14 : val_main_v14 (F := Ideal) xq xk (ix3 h g s) = (M : EReal) := by
    rw [val_main_v14_apply, hM]
    show max (Ideal.ofBits .f32 4286578688#32) (M : EReal) = _
    rw [lit_bot, max_eq_right bot_le]
  rw [val_main_v27_apply, val_main_v26_apply, ref_v25, e14, ref_sc xq xk Q hQ K hK]
  show Ideal.exp ((sc Q K h g s k : EReal) - (M : EReal)) = _
  rw [← EReal.coe_sub, exp_coe]

include hQ hK in
theorem ref_p (h : Fin 4) (g : Fin 3) (s k : Fin 4096) :
    val_main_v31 (F := Ideal) xq xk (ix4 h g s k) = (pr Q K h g s k : EReal) := by
  obtain ⟨M, hM⟩ := ref_e xq xk Q hQ K hK h g s
  pointwise [val_main_v31, val_main_v30, val_main_v29, val_main_cst_8, val_main_v28]
  have hs : (∑ k', Real.exp (sc Q K h g s k' - M)) ≠ 0 := (sum_exp_pos _).ne'
  simp (disch := exact hs) only [hM, sum_coe, div_coe]
  exact congrArg _ (shift (fun k => sc Q K h g s k) M k)

include hD hV in
theorem ref_dp (h : Fin 4) (g : Fin 3) (s k : Fin 4096) :
    val_main_v42 (F := Ideal) xv xd (ix4 h g s k) = (dpr V D h g s k : EReal) := by
  pointwise [val_main_v2, val_main_v38, val_main_v39, val_main_v40, val_main_v41, val_main_v42]
  have hd (j : ℕ) (h1 : j < 1536) : xd (ix2 s ⟨j, by omega⟩) = (D s ⟨j, h1⟩ : EReal) := hD s ⟨j, h1⟩ (by omega)
  simp (disch := omega) only [hd, hV, ← EReal.coe_mul, sum_coe]
  rfl

include hQ hK hV hD in
theorem ref_ds (h : Fin 4) (g : Fin 3) (s k : Fin 4096) :
    val_main_v56 (F := Ideal) xq xk xv xd (ix4 h g s k) = (dsc Q K V D h g s k : EReal) := by
  obtain ⟨M, hM⟩ := ref_e xq xk Q hQ K hK h g s
  pointwise [val_main_v45, val_main_v29, val_main_v28, val_main_v32, val_main_cst_9, val_main_v33, val_main_v34, val_main_v35,
    val_main_v36, val_main_v46, val_main_v47, val_main_cst_10, val_main_v48, val_main_v49, val_main_v50, val_main_v51, val_main_v52,
    val_main_cst_11, val_main_v53, val_main_v54, val_main_v55, val_main_v56, val_main_cst_8]
  have hs : (∑ k', Real.exp (sc Q K h g s k' - M)) ≠ 0 := (sum_exp_pos _).ne'
  have hl : (∑ k', Real.exp (sc Q K h g s k' - M)) * ∑ k', Real.exp (sc Q K h g s k' - M) ≠ 0 := mul_ne_zero hs hs
  simp only [Finset.univ_unique, Finset.sum_singleton]
  simp (disch := first | exact hs | exact hl) only [hM, ref_dp xv xd V hV D hD, one_coe, sum_coe, ← EReal.coe_mul, div_coe, ← EReal.coe_neg, ← EReal.coe_add]
  refine congrArg _ ?_
  unfold dsc
  simp only [pr, ← shift (fun k => sc Q K h g s k) M]
  exact softmax_grad _ _ _ hs _

include hQ hK hD in
theorem ref_dv (s : Fin 4096) (h : Fin 4) (d : Fin 128) :
    val_main_v64 (F := Ideal) xq xk xd (ix2 s (kc h d)) = (dv Q K D s h d : EReal) := by
  unfold kc
  pointwise [val_main_v64, val_main_v44, val_main_v43, val_main_v41, val_main_v40, val_main_v39, val_main_v38]
  have hd (s : Fin 4096) (j : ℕ) (h1 : j < 1536) : xd (ix2 s ⟨j, by omega⟩) = (D s ⟨j, h1⟩ : EReal) := hD s ⟨j, h1⟩ (by omega)
  simp (disch := omega) only [hd, ref_p xq xk Q hQ K hK, ← EReal.coe_mul, sum_coe]
  refine congrArg _ ?_
  unfold dv
  refine Finset.sum_congr rfl fun g _ => Finset.sum_congr rfl fun s' _ => mul_comm _ _

include hQ hK hV hD in
theorem ref_dq (s : Fin 4096) (h : Fin 4) (g : Fin 3) (d : Fin 128) :
    val_main_v66 (F := Ideal) xq xk xv xd (ix2 s (qc h g d)) = (dq Q K V D s h g d : EReal) := by
  unfold qc
  pointwise [val_main_cst_12, val_main_v57, val_main_v58,
    val_main_v59, val_main_v60, val_main_v61, val_main_v66, val_main_v1]
  simp only [ref_ds xq xk xv xd Q hQ K hK V hV D hD, hK, lit_s0, ← EReal.coe_mul, sum_coe]
  refine congrArg _ ?_
  unfold dq
  exact Finset.sum_congr rfl fun k _ => mul_right_comm _ _ _
include hQ hK hV hD in
theorem ref_dk (s : Fin 4096) (h : Fin 4) (d : Fin 128) :
    val_main_v65 (F := Ideal) xq xk xv xd (ix2 s (kc h d)) = (dk Q K V D s h d : EReal) := by
  unfold kc
  pointwise [val_main_cst_12, val_main_v57, val_main_v58,
    val_main_v59, val_main_v60, val_main_v62, val_main_v63, val_main_v65, val_main_v0]
  simp only [ref_ds xq xk xv xd Q hQ K hK V hV D hD, hQ, lit_s0, ← EReal.coe_mul, sum_coe]
  refine congrArg _ ?_
  unfold dk
  rw [Finset.sum_comm]
  exact Finset.sum_congr rfl fun g _ => Finset.sum_congr rfl fun k _ => mul_right_comm _ _ _
end Cert.FlashProof
-- ==== Proof.FlashHost.lean ====
/- The attention's gradient: what the host hands to the kernel, in real numbers. The forward pass's logarithms of the rows'
   sums, in powers of two; the sums of the output times its gradient; the scaled queries, the keys and the values. -/
module

public import proofs.«01_k».proof.Defs
public import proofs.«01_k».proof.Proof.FlashFrame
public import proofs.«01_k».proof.Proof.FlashReal

@[expose] public section

set_option maxRecDepth 16384

noncomputable section

namespace Cert.FlashProof

open Idealize.ShloMosaic Idealize.ShloMosaic.TcCoe Idealize.SL.Sem
open Cert.Lift
open Cert.FlashIdeal Cert.FlashIdeal.Gen

/-! ## The host's stages, as functions of the arrays they read -/

/-- The scores of every head. -/
def hSc (q : FVec Ideal S4096x1536 .f32) (k : FVec Ideal S4096x512 .f32) : FVec Ideal S4x3x4096x4096 .f32 :=
  mulf (transpose S4x3x4096x4096 [0, 3, 2, 1]
      (Host.dotGeneral dot_S4096x4x128_S4096x4x3x128_S4x4096x4096x3_2_3_0_02_1_1 none
        (shapeCast S4096x4x128 k shapeCasts_S4096x512_S4096x4x128) (shapeCast S4096x4x3x128 q shapeCasts_S4096x1536_S4096x4x3x128))
      transposes_S4x4096x4096x3_S4x3x4096x4096_0_3_2_1)
    (broadcastInDim S4x3x4096x4096 ![] bcast_S_S4x3x4096x4096 (constant S_ .f32 0x3DB504F3#32))

/-- The rows' maxima. -/
def hMax (X : FVec Ideal S4x3x4096x4096 .f32) : FVec Ideal S4x3x4096 .f32 :=
  Host.reduce FloatOps.maximumf X (constant S_ .f32 0xFF800000#32) reducesTo_S4x3x4096x4096_S4x3x4096_d3 h_S_

/-- The exponentials of the scores less their rows' maxima. -/
def hE (X : FVec Ideal S4x3x4096x4096 .f32) (M : FVec Ideal S4x3x4096 .f32) : FVec Ideal S4x3x4096x4096 .f32 :=
  Host.exp (subf X (broadcastInDim S4x3x4096x4096 ![0, 1, 2, 3] bcast_S4x3x4096x1_S4x3x4096x4096_0_1_2_3
    (broadcastInDim S4x3x4096x1 ![0, 1, 2] bcast_S4x3x4096_S4x3x4096x1_0_1_2 M)))

/-- The rows' sums. -/
def hL (E : FVec Ideal S4x3x4096x4096 .f32) : FVec Ideal S4x3x4096x1 .f32 :=
  broadcastInDim S4x3x4096x1 ![0, 1, 2] bcast_S4x3x4096_S4x3x4096x1_0_1_2
    (Host.reduceAdd E (constant S_ .f32 0x00000000#32) reducesTo_S4x3x4096x4096_S4x3x4096_d3 h_S_)

/-- The logarithms of the rows' sums, laid out by blocks of queries. -/
def hLse (M : FVec Ideal S4x3x4096 .f32) (L : FVec Ideal S4x3x4096x1 .f32) : FVec Ideal S4x12288x128 .f32 :=
  broadcastInDim S4x12288x128 ![0, 1, 2] bcast_S4x12288x1_S4x12288x128_0_1_2
    (shapeCast S4x12288x1 (transpose S4x8x3x512 [0, 2, 1, 3]
      (shapeCast S4x3x8x512 (Host.divf (addf (broadcastInDim S4x3x4096x1 ![0, 1, 2] bcast_S4x3x4096_S4x3x4096x1_0_1_2 M) (Host.log L))
        (broadcastInDim S4x3x4096x1 ![] bcast_S_S4x3x4096x1 (Host.log (constant S_ .f32 0x40000000#32))))
        shapeCasts_S4x3x4096x1_S4x3x8x512) transposes_S4x3x8x512_S4x8x3x512_0_2_1_3) shapeCasts_S4x8x3x512_S4x12288x1)

/-- The attention's output. -/
def hO (E : FVec Ideal S4x3x4096x4096 .f32) (L : FVec Ideal S4x3x4096x1 .f32) (v : FVec Ideal S4096x512 .f32) : FVec Ideal S4096x1536 .f32 :=
  shapeCast S4096x1536 (transpose S4096x4x3x128 [3, 0, 2, 1]
    (Host.dotGeneral dot_S4096x4x128_S4x3x4096x4096_S4x128x3x4096_0_3_2_12_1_0 none (shapeCast S4096x4x128 v shapeCasts_S4096x512_S4096x4x128)
      (Host.divf E (broadcastInDim S4x3x4096x4096 ![0, 1, 2, 3] bcast_S4x3x4096x1_S4x3x4096x4096_0_1_2_3 L)))
    transposes_S4x128x3x4096_S4096x4x3x128_3_0_2_1) shapeCasts_S4096x4x3x128_S4096x1536

/-- The sums of the output times its gradient, laid out by blocks of queries. -/
def hDelta (O : FVec Ideal S4096x1536 .f32) (d : FVec Ideal S4096x2048 .bf16) : FVec Ideal S4x12288x128 .f32 :=
  broadcastInDim S4x12288x128 ![0, 1, 2] bcast_S4x12288x1_S4x12288x128_0_1_2
    (shapeCast S4x12288x1 (transpose S4x8x3x512 [2, 0, 3, 1]
      (Host.reduceAdd (shapeCast S8x512x4x3x128
          (mulf O (extf .f32 (extractStridedSlice S4096x1536 ![0, 0] d slices_S4096x2048_S4096x1536_0_0) bitsLt_bf16_f32))
          shapeCasts_S4096x1536_S8x512x4x3x128)
        (constant S_ .f32 0x00000000#32) reducesTo_S8x512x4x3x128_S8x512x4x3_d4 h_S_)
      transposes_S8x512x4x3_S4x8x3x512_2_0_3_1) shapeCasts_S4x8x3x512_S4x12288x1)

/-! ## The stages at an index -/

/-- The row, within a head, of block `i` of queries, group `g`, row `x`; and the query there. -/
def lr (i : Fin 8) (g : Fin 3) (x : Fin 512) : Fin 12288 := ⟨i.val * 1536 + g.val * 512 + x.val, by omega⟩
def qr (i : Fin 8) (x : Fin 512) : Fin 4096 := ⟨i.val * 512 + x.val, by omega⟩

theorem hE_at (X : FVec Ideal S4x3x4096x4096 .f32) (M : FVec Ideal S4x3x4096 .f32) (h : Fin 4) (g : Fin 3) (s k : Fin 4096) :
    hE X M (ix4 h g s k) = Ideal.exp (X (ix4 h g s k) - M (ix3 h g s)) := by
  pointwise [hE]

theorem hL_at (E : FVec Ideal S4x3x4096x4096 .f32) (h : Fin 4) (g : Fin 3) (s : Fin 4096) :
    hL E (ix4 h g s (0 : Fin 1)) = ∑ k, E (ix4 h g s k) := by
  pointwise [hL]

theorem hLse_at (M : FVec Ideal S4x3x4096 .f32) (L : FVec Ideal S4x3x4096x1 .f32) (h : Fin 4) (i : Fin 8) (g : Fin 3) (x : Fin 512) (d : Fin 128) :
    hLse M L (ix3 h (lr i g x) d)
      = Ideal.div (M (ix3 h g (qr i x)) + Ideal.log (L (ix4 h g (qr i x) (0 : Fin 1)))) (Ideal.log (Ideal.ofBits .f32 0x40000000#32)) := by
  unfold lr qr
  pointwise [hLse]

theorem hO_at (E : FVec Ideal S4x3x4096x4096 .f32) (L : FVec Ideal S4x3x4096x1 .f32) (v : FVec Ideal S4096x512 .f32) (s : Fin 4096) (h : Fin 4) (g : Fin 3) (d : Fin 128) :
    hO E L v (ix2 s (qc h g d)) = ∑ k, v (ix2 k (kc h d)) * Ideal.div (E (ix4 h g s k)) (L (ix4 h g s (0 : Fin 1))) := by
  unfold qc kc
  pointwise [hO]

theorem hDelta_at (O : FVec Ideal S4096x1536 .f32) (d : FVec Ideal S4096x2048 .bf16) (h : Fin 4) (i : Fin 8) (g : Fin 3) (x : Fin 512) (l : Fin 128) :
    hDelta O d (ix3 h (lr i g x) l)
      = ∑ j : Fin 128, O (ix2 (qr i x) (qc h g j)) * d (ix2 (qr i x) ⟨(qc h g j).val, by omega⟩) := by
  unfold lr qr qc
  pointwise [hDelta]

/-! ## The operands -/

variable (m : (ℓ : Loc nD τ sig) → Buf (Elt Ideal) ℓ) (c : Dev nD)

theorem V27 : V (F := Ideal) m c main_v27
    = hLse (hMax (hSc (m ((c : Thread nD τ).loc main_arg0)) (m ((c : Thread nD τ).loc main_arg1))))
        (hL (hE (hSc (m ((c : Thread nD τ).loc main_arg0)) (m ((c : Thread nD τ).loc main_arg1)))
          (hMax (hSc (m ((c : Thread nD τ).loc main_arg0)) (m ((c : Thread nD τ).loc main_arg1)))))) := by
  entry_read
  rfl

theorem V35 : V (F := Ideal) m c main_v35
    = hDelta (hO (hE (hSc (m ((c : Thread nD τ).loc main_arg0)) (m ((c : Thread nD τ).loc main_arg1)))
          (hMax (hSc (m ((c : Thread nD τ).loc main_arg0)) (m ((c : Thread nD τ).loc main_arg1)))))
        (hL (hE (hSc (m ((c : Thread nD τ).loc main_arg0)) (m ((c : Thread nD τ).loc main_arg1)))
          (hMax (hSc (m ((c : Thread nD τ).loc main_arg0)) (m ((c : Thread nD τ).loc main_arg1))))))
        (m ((c : Thread nD τ).loc main_arg2))) (m ((c : Thread nD τ).loc main_arg3)) := by
  entry_read
  rfl

/-! ## The operands in real numbers -/

variable (Q : Fin 4096 → Fin 1536 → ℝ) (hQ : ∀ s j, m ((c : Thread nD τ).loc main_arg0) (ix2 s j) = (Q s j : EReal))
  (K : Fin 4096 → Fin 512 → ℝ) (hK : ∀ s j, m ((c : Thread nD τ).loc main_arg1) (ix2 s j) = (K s j : EReal))
  (Vr : Fin 4096 → Fin 512 → ℝ) (hV : ∀ s j, m ((c : Thread nD τ).loc main_arg2) (ix2 s j) = (Vr s j : EReal))
  (D : Fin 4096 → Fin 1536 → ℝ)
  (hD : ∀ s (j : Fin 1536) (h : j.val < 2048), m ((c : Thread nD τ).loc main_arg3) (ix2 s ⟨j.val, h⟩) = (D s j : EReal))

theorem lit_log2 : Ideal.log (Ideal.ofBits .f32 0x40000000#32) = ((Real.log 2 : ℝ) : EReal) := by
  rw [lit_two, log_coe _ (by norm_num)]

include hQ in
theorem V40_at (s : Fin 4096) (j : Fin 1536) :
    V (F := Ideal) m c main_v40 (ix2 s j) = ((Q s j * s0 / Real.log 2 : ℝ) : EReal) := by
  entry_read
  pointwise
  rw [lit_log2]
  simp (disch := exact log2_pos.ne') only [lit_s0, ← EReal.coe_mul, div_coe, hQ]

include hK in
theorem V41_at (s : Fin 4096) (j : Fin 512) : V (F := Ideal) m c main_v41 (ix2 s j) = (K s j : EReal) := by
  entry_read
  pointwise
  exact hK s j

include hV in
theorem V42_at (s : Fin 4096) (j : Fin 512) : V (F := Ideal) m c main_v42 (ix2 s j) = (Vr s j : EReal) := by
  entry_read
  pointwise
  exact hV s j

theorem hSc_at (q : FVec Ideal S4096x1536 .f32) (k : FVec Ideal S4096x512 .f32) (hq : ∀ s j, q (ix2 s j) = (Q s j : EReal))
    (hk : ∀ s j, k (ix2 s j) = (K s j : EReal)) (h : Fin 4) (g : Fin 3) (s t : Fin 4096) : hSc q k (ix4 h g s t) = (sc Q K h g s t : EReal) := by
  pointwise [hSc]
  simp only [hq, hk, lit_s0, ← EReal.coe_mul, sum_coe]
  refine congrArg _ ?_
  unfold sc
  refine congrArg (· * s0) (Finset.sum_congr rfl fun x _ => mul_comm _ _)

theorem hMax_real (X : FVec Ideal S4x3x4096x4096 .f32) (hX : ∀ i, ∃ r : ℝ, X i = (r : EReal)) (h : Fin 4) (g : Fin 3) (s : Fin 4096) :
    ∃ M : ℝ, hMax X (ix3 h g s) = (M : EReal) :=
  reduce_max_real _ _ _ hX _ (fun i => lit_bot) h g s 0

include hQ hK in
/-- The row maximum that the forward pass takes from a query's scores. -/
theorem max_exists (h : Fin 4) (g : Fin 3) (s : Fin 4096) : ∃ M : ℝ,
    hMax (hSc (m ((c : Thread nD τ).loc main_arg0)) (m ((c : Thread nD τ).loc main_arg1))) (ix3 h g s) = (M : EReal) := by
  refine hMax_real _ (fun i => ?_) h g s
  idx_vars i
  exact ⟨_, hSc_at Q K _ _ hQ hK i0 i1 i2 i3⟩

include hQ hK in
theorem V27_at (h : Fin 4) (g : Fin 3) (i : Fin 8) (x : Fin 512) : ∃ M : ℝ, ∀ d : Fin 128,
    V (F := Ideal) m c main_v27 (ix3 h (lr i g x) d)
      = (((M + Real.log (∑ k, Real.exp (sc Q K h g (qr i x) k - M))) / Real.log 2 : ℝ) : EReal) := by
  obtain ⟨M, hM⟩ := max_exists m c Q hQ K hK h g (qr i x)
  refine ⟨M, fun d => ?_⟩
  rw [V27, hLse_at, hL_at, hM, lit_log2]
  simp only [hE_at, hM, hSc_at Q K _ _ hQ hK, ← EReal.coe_sub, exp_coe, sum_coe]
  rw [log_coe _ (sum_exp_pos _), ← EReal.coe_add, div_coe _ _ log2_pos.ne']

include hQ hK hV hD in
theorem V35_at (h : Fin 4) (g : Fin 3) (i : Fin 8) (x : Fin 512) (d : Fin 128) :
    V (F := Ideal) m c main_v35 (ix3 h (lr i g x) d)
      = ((∑ k, pr Q K h g (qr i x) k * dpr Vr D h g (qr i x) k : ℝ) : EReal) := by
  obtain ⟨M, hM⟩ := max_exists m c Q hQ K hK h g (qr i x)
  have hs : (∑ k', Real.exp (sc Q K h g (qr i x) k' - M)) ≠ 0 := (sum_exp_pos _).ne'
  rw [V35, hDelta_at]
  simp (disch := exact hs) only [hO_at, hL_at, hE_at, hM, hSc_at Q K _ _ hQ hK, ← EReal.coe_sub, exp_coe, sum_coe, div_coe, hV, hD, ← EReal.coe_mul]
  refine congrArg _ ?_
  simp only [shift (fun k => sc Q K h g (qr i x) k) M]
  unfold pr dpr
  simp only [Finset.mul_sum, Finset.sum_mul]
  rw [Finset.sum_comm]
  refine Finset.sum_congr rfl fun k _ => Finset.sum_congr rfl fun j _ => ?_
  ring

end Cert.FlashProof
-- ==== Proof.FlashPoint.lean ====
/- The attention's gradient: one grid point in real numbers. Where a point's blocks are real, so are the probabilities and
   the scores' gradients it forms, and what it adds to the three accumulators are their products with the blocks. -/
module

public import proofs.«01_k».proof.Defs
public import proofs.«01_k».proof.Proof.FlashBody
public import proofs.«01_k».proof.Proof.FlashReal

@[expose] public section

set_option maxRecDepth 16384

noncomputable section

namespace Cert.FlashProof

open Idealize.ShloMosaic Idealize.ShloMosaic.TcCoe Idealize.SL.Sem
open Cert.Lift
open Cert.FlashIdeal Cert.FlashIdeal.Gen

/-! ## The heads' parts of a block -/

/-- Column `d` of group `g` in a block of queries; row `r` of group `g` in a block of one number per query. -/
def bc (g : Fin 3) (d : Fin 128) : Fin 384 := ⟨g.val * 128 + d.val, by omega⟩
def br (g : Fin 3) (r : Fin 512) : Fin 1536 := ⟨g.val * 512 + r.val, by omega⟩

theorem head0_at (x : Vec Ideal S512x384 .bf16) (r : Fin 512) (d : Fin 128) : head0 x (ix2 r d) = x (ix2 r (bc 0 d)) := by
  refine View.ld_unit_apply_of _ _ _ _ _ _ fun a => ?_
  fin_cases a <;> simp [bc]
theorem head1_at (x : Vec Ideal S512x384 .bf16) (r : Fin 512) (d : Fin 128) : head1 x (ix2 r d) = x (ix2 r (bc 1 d)) := by
  refine View.ld_unit_apply_of _ _ _ _ _ _ fun a => ?_
  fin_cases a <;> simp [bc]
theorem head2_at (x : Vec Ideal S512x384 .bf16) (r : Fin 512) (d : Fin 128) : head2 x (ix2 r d) = x (ix2 r (bc 2 d)) := by
  refine View.ld_unit_apply_of _ _ _ _ _ _ fun a => ?_
  fin_cases a <;> simp [bc]
theorem row0_at (x : Vec Ideal S1x1536x128 .f32) (r : Fin 512) : row0 x (ix3 (0 : Fin 1) r (0 : Fin 1)) = x (ix3 (0 : Fin 1) (br 0 r) (0 : Fin 128)) := by
  refine View.ld_unit_apply_of _ _ _ _ _ _ fun a => ?_
  fin_cases a <;> simp [br]
theorem row1_at (x : Vec Ideal S1x1536x128 .f32) (r : Fin 512) : row1 x (ix3 (0 : Fin 1) r (0 : Fin 1)) = x (ix3 (0 : Fin 1) (br 1 r) (0 : Fin 128)) := by
  refine View.ld_unit_apply_of _ _ _ _ _ _ fun a => ?_
  fin_cases a <;> simp [br]
theorem row2_at (x : Vec Ideal S1x1536x128 .f32) (r : Fin 512) : row2 x (ix3 (0 : Fin 1) r (0 : Fin 1)) = x (ix3 (0 : Fin 1) (br 2 r) (0 : Fin 128)) := by
  refine View.ld_unit_apply_of _ _ _ _ _ _ fun a => ?_
  fin_cases a <;> simp [br]

/-! ## The probabilities and the scores' gradients -/

/-- A probability, and a score's gradient, from the rows they are formed of. -/
def prob (a b : Fin 128 → ℝ) (l : ℝ) : ℝ := (2 : ℝ) ^ ((∑ d, a d * b d) - l)
def sgrad (a b e f : Fin 128 → ℝ) (l δ : ℝ) : ℝ := prob a b l * ((∑ d, e d * f d) - δ)

section Payloads

variable (k v : Vec Ideal S1024x128 .bf16) (q g : Vec Ideal S512x128 .bf16) (ls dl : Vec Ideal S1x512x1 .f32) (r : Fin 512) (c : Fin 1024)
  (a b e f : Fin 128 → ℝ) (l δ : ℝ) (hq : ∀ d, q (ix2 r d) = (a d : EReal)) (hk : ∀ d, k (ix2 c d) = (b d : EReal))
  (hg : ∀ d, g (ix2 r d) = (e d : EReal)) (hv : ∀ d, v (ix2 c d) = (f d : EReal))
  (hl : ls (ix3 (0 : Fin 1) r (0 : Fin 1)) = (l : EReal)) (hd : dl (ix3 (0 : Fin 1) r (0 : Fin 1)) = (δ : EReal))

include hq hk hl

theorem prob0 : k0_pay18 k q ls (ix2 r c) = (prob a b l : EReal) := by
  pointwise [k0_pay18, k0_pay14, k0_pay12]
  simp only [hq, hk, hl, ← EReal.coe_mul, sum_coe, ← EReal.coe_sub, exp2_coe]
  rfl

theorem prob1 : k0_pay23 (k0_pay16 k q) ls (ix2 r c) = (prob a b l : EReal) := by
  pointwise [k0_pay23, k0_pay16, k0_pay15, k0_pay12]
  simp only [hq, hk, hl, ← EReal.coe_mul, sum_coe, ← EReal.coe_sub, exp2_coe]
  rfl

theorem prob2 : k0_pay28 (k0_pay12 k) q ls (ix2 r c) = (prob a b l : EReal) := by
  pointwise [k0_pay28, k0_pay22, k0_pay12]
  simp only [hq, hk, hl, ← EReal.coe_mul, sum_coe, ← EReal.coe_sub, exp2_coe]
  rfl

include hg hv hd

theorem sgrad0 : k0_pay19 k v q g ls dl (ix2 r c) = (sgrad a b e f l δ : EReal) := by
  have hp := prob0 k q ls r c a b l hq hk hl
  pointwise [k0_pay19, k0_pay13]
  simp only [hp, hg, hv, hd, ← EReal.coe_mul, sum_coe, ← EReal.coe_sub]
  rfl

theorem sgrad1 : k0_pay24 (k0_pay16 k q) (k0_pay17 v g) ls dl (ix2 r c) = (sgrad a b e f l δ : EReal) := by
  have hp := prob1 k q ls r c a b l hq hk hl
  pointwise [k0_pay24, k0_pay17, k0_pay13]
  simp only [hp, hg, hv, hd, ← EReal.coe_mul, sum_coe, ← EReal.coe_sub]
  rfl

theorem sgrad2 : k0_pay29 (k0_pay12 k) (k0_pay13 v) q g ls dl (ix2 r c) = (sgrad a b e f l δ : EReal) := by
  have hp := prob2 k q ls r c a b l hq hk hl
  pointwise [k0_pay29, k0_pay13]
  simp only [hp, hg, hv, hd, ← EReal.coe_mul, sum_coe, ← EReal.coe_sub]
  rfl

end Payloads

/-! ## A point whose blocks are real -/

/-- The real numbers in a point's six blocks. -/
structure Reals where
  q : Fin 3 → Fin 512 → Fin 128 → ℝ
  k : Fin 1024 → Fin 128 → ℝ
  v : Fin 1024 → Fin 128 → ℝ
  g : Fin 3 → Fin 512 → Fin 128 → ℝ
  lse : Fin 3 → Fin 512 → ℝ
  delta : Fin 3 → Fin 512 → ℝ

structure Reals.Of (y : Reals) (x : Blocks Ideal) : Prop where
  q : ∀ g r d, x.q (ix2 r (bc g d)) = (y.q g r d : EReal)
  k : ∀ c d, x.k (ix2 c d) = (y.k c d : EReal)
  v : ∀ c d, x.v (ix2 c d) = (y.v c d : EReal)
  g : ∀ g r d, x.g (ix2 r (bc g d)) = (y.g g r d : EReal)
  lse : ∀ g r, x.lse (ix3 (0 : Fin 1) (br g r) (0 : Fin 128)) = (y.lse g r : EReal)
  delta : ∀ g r, x.delta (ix3 (0 : Fin 1) (br g r) (0 : Fin 128)) = (y.delta g r : EReal)

def Reals.p (y : Reals) (g : Fin 3) (r : Fin 512) (c : Fin 1024) : ℝ := prob (y.q g r) (y.k c) (y.lse g r)
def Reals.ds (y : Reals) (g : Fin 3) (r : Fin 512) (c : Fin 1024) : ℝ := sgrad (y.q g r) (y.k c) (y.g g r) (y.v c) (y.lse g r) (y.delta g r)

variable {x : Blocks Ideal} {y : Reals} (h : y.Of x)
include h

theorem p0 (r : Fin 512) (c : Fin 1024) : k0_pay18 x.k (head0 x.q) (row0 x.lse) (ix2 r c) = (y.p 0 r c : EReal) :=
  prob0 _ _ _ r c _ _ _ (fun d => (head0_at _ r d).trans (h.q 0 r d)) (h.k c) ((row0_at _ r).trans (h.lse 0 r))
theorem p1 (r : Fin 512) (c : Fin 1024) : k0_pay23 x.sc1 (row1 x.lse) (ix2 r c) = (y.p 1 r c : EReal) :=
  prob1 _ _ _ r c _ _ _ (fun d => (head1_at _ r d).trans (h.q 1 r d)) (h.k c) ((row1_at _ r).trans (h.lse 1 r))
theorem p2 (r : Fin 512) (c : Fin 1024) : k0_pay28 (k0_pay12 x.k) (head2 x.q) (row2 x.lse) (ix2 r c) = (y.p 2 r c : EReal) :=
  prob2 _ _ _ r c _ _ _ (fun d => (head2_at _ r d).trans (h.q 2 r d)) (h.k c) ((row2_at _ r).trans (h.lse 2 r))

theorem ds0 (r : Fin 512) (c : Fin 1024) : x.ds0 (ix2 r c) = (y.ds 0 r c : EReal) :=
  sgrad0 _ _ _ _ _ _ r c _ _ _ _ _ _ (fun d => (head0_at _ r d).trans (h.q 0 r d)) (h.k c) (fun d => (head0_at _ r d).trans (h.g 0 r d)) (h.v c)
    ((row0_at _ r).trans (h.lse 0 r)) ((row0_at _ r).trans (h.delta 0 r))
theorem ds1 (r : Fin 512) (c : Fin 1024) : k0_pay24 x.sc1 x.dp1 (row1 x.lse) (row1 x.delta) (ix2 r c) = (y.ds 1 r c : EReal) :=
  sgrad1 _ _ _ _ _ _ r c _ _ _ _ _ _ (fun d => (head1_at _ r d).trans (h.q 1 r d)) (h.k c) (fun d => (head1_at _ r d).trans (h.g 1 r d)) (h.v c)
    ((row1_at _ r).trans (h.lse 1 r)) ((row1_at _ r).trans (h.delta 1 r))
theorem ds2 (r : Fin 512) (c : Fin 1024) : x.ds2 (ix2 r c) = (y.ds 2 r c : EReal) :=
  sgrad2 _ _ _ _ _ _ r c _ _ _ _ _ _ (fun d => (head2_at _ r d).trans (h.q 2 r d)) (h.k c) (fun d => (head2_at _ r d).trans (h.g 2 r d)) (h.v c)
    ((row2_at _ r).trans (h.lse 2 r)) ((row2_at _ r).trans (h.delta 2 r))

/-- The values' gradient takes the probabilities times the incoming gradient. -/
theorem dv_at (z : Vec Ideal S1024x128 .f32) (c : Fin 1024) (d : Fin 128) :
    x.dv z (ix2 c d) = z (ix2 c d) + ((∑ g, ∑ r, y.p g r c * y.g g r d : ℝ) : EReal) := by
  have h0 (r : Fin 512) := (head0_at x.g r d).trans (h.g 0 r d)
  have h1 (r : Fin 512) := (head1_at x.g r d).trans (h.g 1 r d)
  have h2 (r : Fin 512) := (head2_at x.g r d).trans (h.g 2 r d)
  unfold Blocks.dv
  generalize head0 x.g = g0 at h0 ⊢
  generalize head1 x.g = g1 at h1 ⊢
  generalize head2 x.g = g2 at h2 ⊢
  pointwise [k0_pay1, k0_pay25, k0_pay20, k0_pay30]
  simp only [p0 h, p1 h, p2 h, h0, h1, h2, ← EReal.coe_mul, sum_coe, ← EReal.coe_add, Fin.sum_univ_three]

/-- The keys' gradient takes the scores' gradient times the queries. -/
theorem dk_at (z : Vec Ideal S1024x128 .f32) (c : Fin 1024) (d : Fin 128) :
    x.dk z (ix2 c d) = z (ix2 c d) + ((∑ g, ∑ r, y.ds g r c * y.q g r d : ℝ) : EReal) := by
  have h0 (r : Fin 512) := (head0_at x.q r d).trans (h.q 0 r d)
  have h1 (r : Fin 512) := (head1_at x.q r d).trans (h.q 1 r d)
  have h2 (r : Fin 512) := (head2_at x.q r d).trans (h.q 2 r d)
  have e1 := ds1 h
  unfold Blocks.dk
  generalize head0 x.q = g0 at h0 ⊢
  generalize head1 x.q = g1 at h1 ⊢
  generalize head2 x.q = g2 at h2 ⊢
  generalize hds0 : x.ds0 = a0
  generalize hds2 : x.ds2 = a2
  have e0 (r : Fin 512) (c : Fin 1024) : a0 (ix2 r c) = (y.ds 0 r c : EReal) := hds0 ▸ ds0 h r c
  have e2 (r : Fin 512) (c : Fin 1024) : a2 (ix2 r c) = (y.ds 2 r c : EReal) := hds2 ▸ ds2 h r c
  pointwise [k0_pay2, k0_pay26, k0_pay22, k0_pay14, k0_pay15]
  simp only [e0, e1, e2, h0, h1, h2, ← EReal.coe_mul, sum_coe, ← EReal.coe_add, Fin.sum_univ_three]

/-- The queries' gradient takes the scores' gradient times the keys. -/
theorem dqFirst_at (g : Fin 3) (r : Fin 512) (d : Fin 128) :
    x.dqFirst (ix2 (br g r) d) = ((∑ c, y.ds g r c * y.k c d : ℝ) : EReal) := by
  have e1 := ds1 h
  unfold Blocks.dqFirst
  generalize hds0 : x.ds0 = a0
  generalize hds2 : x.ds2 = a2
  have e0 (r : Fin 512) (c : Fin 1024) : a0 (ix2 r c) = (y.ds 0 r c : EReal) := hds0 ▸ ds0 h r c
  have e2 (r : Fin 512) (c : Fin 1024) : a2 (ix2 r c) = (y.ds 2 r c : EReal) := hds2 ▸ ds2 h r c
  unfold br
  pointwise [k0_pay4, k0_pay3, k0_pay27, k0_pay21, k0_pay12]
  obtain rfl | rfl | rfl : g = 0 ∨ g = 1 ∨ g = 2 := by fin_cases g <;> simp
  · rw [dif_pos (by simp)]
    simp only [e0, h.k, ← EReal.coe_mul, sum_coe]
    refine congrArg _ (Finset.sum_congr rfl fun c _ => ?_)
    congr 2; exact Fin.ext (by simp)
  · rw [dif_neg (by simp), dif_pos (by simp)]
    simp only [e1, h.k, ← EReal.coe_mul, sum_coe]
    refine congrArg _ (Finset.sum_congr rfl fun c _ => ?_)
    congr 2; exact Fin.ext (by simp)
  · rw [dif_neg (by simp; omega), dif_neg (by simp; omega)]
    simp only [e2, h.k, ← EReal.coe_mul, sum_coe]
    refine congrArg _ (Finset.sum_congr rfl fun c _ => ?_)
    congr 2; exact Fin.ext (by simp; omega)

theorem dqNext_at (w : Vec Ideal S1536x128 .f32) (g : Fin 3) (r : Fin 512) (d : Fin 128) :
    x.dqNext w (ix2 (br g r) d) = w (ix2 (br g r) d) + ((∑ c, y.ds g r c * y.k c d : ℝ) : EReal) := by
  rw [← dqFirst_at h]
  unfold Blocks.dqNext Blocks.dqFirst
  pointwise [k0_pay4, k0_pay5]

omit h in
/-- The queries' gradient's block, scaled, at an index. -/
theorem dqOut_at (w : Vec Ideal S1536x128 .f32) (g : Fin 3) (r : Fin 512) (d : Fin 128) :
    dqOut w (ix2 r (bc g d)) = w (ix2 (br g r) d) * (s0 : EReal) := by
  have at_row (e : Fin 512) (f : Fin 1536) (b : Fin 128) (h0 : (r : ℕ) = e) (h1 : (f : ℕ) = g.val * 512 + e.val) (h2 : (d : ℕ) = b) :
      w (ix2 (br g r) d) = w (ix2 f b) := by
    obtain rfl : r = e := Fin.ext h0
    obtain rfl : d = b := Fin.ext h2
    exact congrArg (fun f => w (ix2 f d)) (Fin.ext h1.symm)
  unfold dqOut
  canon_tiles x h using View.cover_of_tiledBy _ ![512, 128] (by sl_kernel_rfl) (ix2 r (bc g d))
  case piece0 =>
    idx_vars x
    have hb : g.val * 128 + d.val = 256 + x1.val := h1
    rw [at_row x0 ⟨1024 + x0.val, by omega⟩ x1 h0 (by show 1024 + x0.val = _; omega) (by omega)]
    pointwise [k0_pay8]
    rw [lit_s0]
  case piece1 =>
    idx_vars x
    have hb : g.val * 128 + d.val = 128 + x1.val := h1
    rw [at_row x0 ⟨512 + x0.val, by omega⟩ x1 h0 (by show 512 + x0.val = _; omega) (by omega)]
    pointwise [k0_pay7]
    rw [lit_s0]
  case piece2 =>
    idx_vars x
    have hb : g.val * 128 + d.val = x1.val := h1
    rw [at_row x0 ⟨x0.val, by omega⟩ x1 h0 (by show x0.val = _; omega) (by omega)]
    pointwise [k0_pay6]
    rw [lit_s0]

end Cert.FlashProof
-- ==== Proof.FlashSum.lean ====
/- The attention's gradient: the kernel's blocks and accumulators over the grid, in real numbers. Point `32 h + 8 j + i` works on
   head `h`, block `j` of keys and block `i` of queries. -/
module

public import proofs.«01_k».proof.Defs
public import proofs.«01_k».proof.Proof.FlashFrame
public import proofs.«01_k».proof.Proof.FlashHost
public import proofs.«01_k».proof.Proof.FlashPoint

@[expose] public section

set_option maxRecDepth 16384

noncomputable section

namespace Cert.FlashProof

open Idealize.ShloMosaic Idealize.ShloMosaic.TcCoe Idealize.SL.Sem
open Cert.Lift
open Cert.FlashIdeal Cert.FlashIdeal.Gen

/-! ## The points and their blocks -/

theorem points : cfg0.N = 128 := N_0

/-- Point `t`'s head, block of keys and block of queries. -/
def hd (t : Fin cfg0.N) : Fin 4 := ⟨t.val / 32, by have := t.isLt.trans_eq points; omega⟩
def kj (t : Fin cfg0.N) : Fin 4 := ⟨t.val / 8 % 4, by omega⟩
def qi (t : Fin cfg0.N) : Fin 8 := ⟨t.val % 8, by omega⟩

/-- Key `c` of block `j`. -/
def kr (j : Fin 4) (c : Fin 1024) : Fin 4096 := ⟨j.val * 1024 + c.val, by omega⟩

theorem idx : ∀ t : Fin cfg0.N, win0_0.index t = ![t.val % 8, t.val / 32] ∧ win0_1.index t = ![t.val / 8 % 4, t.val / 32]
    ∧ win0_2.index t = ![t.val / 8 % 4, t.val / 32] ∧ win0_3.index t = ![t.val % 8, t.val / 32]
    ∧ win0_4.index t = ![t.val / 32, t.val % 8, 0] ∧ win0_5.index t = ![t.val / 32, t.val % 8, 0] :=
  (by decide +kernel : ∀ t : Fin grid0.N, _)

variable (m : (ℓ : Loc nD τ sig) → Buf (Elt Ideal) ℓ) (c : Dev nD) (t : Fin cfg0.N)

theorem iblk0 (g : Fin 3) (r : Fin 512) (d : Fin 128) :
    iblk m c 0 t (ix2 r (bc g d)) = V (F := Ideal) m c main_v40 (ix2 (qr (qi t) r) (qc (hd t) g d)) := by
  unfold iblk
  generalize V (F := Ideal) m c = W
  blk_ext [idx t, bc, qr, qc, qi, hd]

theorem iblk1 (k : Fin 1024) (d : Fin 128) :
    iblk m c 1 t (ix2 k d) = V (F := Ideal) m c main_v41 (ix2 (kr (kj t) k) (kc (hd t) d)) := by
  unfold iblk
  generalize V (F := Ideal) m c = W
  blk_ext [idx t, kr, kc, kj, hd]

theorem iblk2 (k : Fin 1024) (d : Fin 128) :
    iblk m c 2 t (ix2 k d) = V (F := Ideal) m c main_v42 (ix2 (kr (kj t) k) (kc (hd t) d)) := by
  unfold iblk
  generalize V (F := Ideal) m c = W
  blk_ext [idx t, kr, kc, kj, hd]

theorem iblk3 (g : Fin 3) (r : Fin 512) (d : Fin 128) :
    X0_3 m c t (ix2 r (bc g d)) = m ((c : Thread nD τ).loc main_arg3) (ix2 (qr (qi t) r) ⟨(qc (hd t) g d).val, by omega⟩) := by
  unfold X0_3 Pipeline.Window.fill
  rw [dif_pos (moved0_3 t _)]
  blk_ext [iblk, idx t, bc, qr, qc, qi, hd]

theorem iblk4 (g : Fin 3) (r : Fin 512) (l : Fin 128) :
    iblk m c 4 t (ix3 (0 : Fin 1) (br g r) l) = V (F := Ideal) m c main_v27 (ix3 (hd t) (lr (qi t) g r) l) := by
  unfold iblk
  generalize V (F := Ideal) m c = W
  blk_ext [idx t, br, lr, qi, hd]

theorem iblk5 (g : Fin 3) (r : Fin 512) (l : Fin 128) :
    iblk m c 5 t (ix3 (0 : Fin 1) (br g r) l) = V (F := Ideal) m c main_v35 (ix3 (hd t) (lr (qi t) g r) l) := by
  unfold iblk
  generalize V (F := Ideal) m c = W
  blk_ext [idx t, br, lr, qi, hd]

/-! ## The blocks in real numbers -/

variable (Q : Fin 4096 → Fin 1536 → ℝ) (hQ : ∀ s j, m ((c : Thread nD τ).loc main_arg0) (ix2 s j) = (Q s j : EReal))
  (K : Fin 4096 → Fin 512 → ℝ) (hK : ∀ s j, m ((c : Thread nD τ).loc main_arg1) (ix2 s j) = (K s j : EReal))
  (Vr : Fin 4096 → Fin 512 → ℝ) (hV : ∀ s j, m ((c : Thread nD τ).loc main_arg2) (ix2 s j) = (Vr s j : EReal))
  (D : Fin 4096 → Fin 1536 → ℝ)
  (hD : ∀ s (j : Fin 1536) (h : j.val < 2048), m ((c : Thread nD τ).loc main_arg3) (ix2 s ⟨j.val, h⟩) = (D s j : EReal))

/-- A point's blocks, where `M` is what the forward pass takes from each query's scores. -/
def reals (M : Fin 3 → Fin 512 → ℝ) : Reals where
  q g r d := Q (qr (qi t) r) (qc (hd t) g d) * s0 / Real.log 2
  k k d := K (kr (kj t) k) (kc (hd t) d)
  v k d := Vr (kr (kj t) k) (kc (hd t) d)
  g g r d := D (qr (qi t) r) (qc (hd t) g d)
  lse g r := (M g r + Real.log (∑ k, Real.exp (sc Q K (hd t) g (qr (qi t) r) k - M g r))) / Real.log 2
  delta g r := ∑ k, pr Q K (hd t) g (qr (qi t) r) k * dpr Vr D (hd t) g (qr (qi t) r) k

set_option maxHeartbeats 4000000 in
include hQ hK hV hD in
theorem reals_of : ∃ M : Fin 3 → Fin 512 → ℝ, (reals t Q K Vr D M).Of (blks m c t) := by
  choose M hM using fun (g : Fin 3) (r : Fin 512) => V27_at m c Q hQ K hK (hd t) g (qi t) r
  exact ⟨M,
    { q := fun g r d => (iblk0 m c t g r d).trans (V40_at m c Q hQ (qr (qi t) r) (qc (hd t) g d))
      k := fun k d => (iblk1 m c t k d).trans (V41_at m c K hK (kr (kj t) k) (kc (hd t) d))
      v := fun k d => (iblk2 m c t k d).trans (V42_at m c Vr hV (kr (kj t) k) (kc (hd t) d))
      g := fun g r d => (iblk3 m c t g r d).trans (hD (qr (qi t) r) (qc (hd t) g d) _)
      lse := fun g r => (iblk4 m c t g r 0).trans (hM g r 0)
      delta := fun g r => (iblk5 m c t g r 0).trans (V35_at m c Q hQ K hK Vr hV D hD (hd t) g (qi t) r 0) }⟩

/-- The probabilities a point forms are the attention's. -/
theorem reals_p (M : Fin 3 → Fin 512 → ℝ) (g : Fin 3) (r : Fin 512) (k : Fin 1024) :
    (reals t Q K Vr D M).p g r k = pr Q K (hd t) g (qr (qi t) r) (kr (kj t) k) := by
  have e : ∑ d, Q (qr (qi t) r) (qc (hd t) g d) * s0 / Real.log 2 * K (kr (kj t) k) (kc (hd t) d)
      = sc Q K (hd t) g (qr (qi t) r) (kr (kj t) k) / Real.log 2 := by
    unfold sc
    rw [Finset.sum_mul, Finset.sum_div]
    exact Finset.sum_congr rfl fun d _ => by ring
  unfold Reals.p prob reals pr
  dsimp only
  rw [e, exp2_prob _ _ _ (sum_exp_pos _)]
  exact shift (fun k => sc Q K (hd t) g (qr (qi t) r) k) _ _

/-- The scores' gradients a point forms are the attention's. -/
theorem reals_ds (M : Fin 3 → Fin 512 → ℝ) (g : Fin 3) (r : Fin 512) (k : Fin 1024) :
    (reals t Q K Vr D M).ds g r k = dsc Q K Vr D (hd t) g (qr (qi t) r) (kr (kj t) k) := by
  have e := reals_p t Q K Vr D M g r k
  unfold Reals.p at e
  unfold Reals.ds sgrad
  rw [e]
  rfl

/-! ## What a point adds -/

/-- A point's part of the values' gradient, of the keys' (without its last factor) and of the queries' (without its scale). -/
def dvT (h j : Fin 4) (i : Fin 8) (k : Fin 1024) (d : Fin 128) : ℝ :=
  ∑ g, ∑ r, pr Q K h g (qr i r) (kr j k) * D (qr i r) (qc h g d)
def dkT (h j : Fin 4) (i : Fin 8) (k : Fin 1024) (d : Fin 128) : ℝ :=
  ∑ g, ∑ r, dsc Q K Vr D h g (qr i r) (kr j k) * (Q (qr i r) (qc h g d) * s0 / Real.log 2)
def dqT (h j : Fin 4) (i : Fin 8) (g : Fin 3) (r : Fin 512) (d : Fin 128) : ℝ :=
  ∑ k, dsc Q K Vr D h g (qr i r) (kr j k) * K (kr j k) (kc h d)

include hQ hK hV hD

theorem step_dv (z : Vec Ideal S1024x128 .f32) (k : Fin 1024) (d : Fin 128) :
    (blks m c t).dv z (ix2 k d) = z (ix2 k d) + (dvT Q K D (hd t) (kj t) (qi t) k d : EReal) := by
  obtain ⟨M, hM⟩ := reals_of m c t Q hQ K hK Vr hV D hD
  rw [dv_at hM]
  simp only [reals_p]
  rfl

theorem step_dk (z : Vec Ideal S1024x128 .f32) (k : Fin 1024) (d : Fin 128) :
    (blks m c t).dk z (ix2 k d) = z (ix2 k d) + (dkT Q K Vr D (hd t) (kj t) (qi t) k d : EReal) := by
  obtain ⟨M, hM⟩ := reals_of m c t Q hQ K hK Vr hV D hD
  rw [dk_at hM]
  simp only [reals_ds]
  rfl

theorem step_dqFirst (g : Fin 3) (r : Fin 512) (d : Fin 128) :
    (blks m c t).dqFirst (ix2 (br g r) d) = (dqT Q K Vr D (hd t) (kj t) (qi t) g r d : EReal) := by
  obtain ⟨M, hM⟩ := reals_of m c t Q hQ K hK Vr hV D hD
  rw [dqFirst_at hM]
  simp only [reals_ds]
  rfl

theorem step_dqNext (w : Vec Ideal S1536x128 .f32) (g : Fin 3) (r : Fin 512) (d : Fin 128) :
    (blks m c t).dqNext w (ix2 (br g r) d) = w (ix2 (br g r) d) + (dqT Q K Vr D (hd t) (kj t) (qi t) g r d : EReal) := by
  obtain ⟨M, hM⟩ := reals_of m c t Q hQ K hK Vr hV D hD
  rw [dqNext_at hM]
  simp only [reals_ds]
  rfl

/-! ## The accumulators -/

/-- The values' gradient after point `n`: the sum over the blocks of queries so far. -/
theorem dvAt_at (n : ℕ) (h : n < cfg0.N) (k : Fin 1024) (d : Fin 128) :
    dvAt m c n h (ix2 k d)
      = ((∑ i ∈ Finset.range (n % 8 + 1), if hi : i < 8 then dvT Q K D (hd ⟨n, h⟩) (kj ⟨n, h⟩) ⟨i, hi⟩ k d else 0 : ℝ) : EReal) := by
  have z0 : k0_pay11 (F := Ideal) (ix2 k d) = ((0 : ℝ) : EReal) := by pointwise [k0_pay11]; rfl
  have start (n : ℕ) (h : n < cfg0.N) (hn : n % 8 = 0) : (blks m c ⟨n, h⟩).dv (k0_pay11 (F := Ideal)) (ix2 k d)
      = ((∑ i ∈ Finset.range (n % 8 + 1), if hi : i < 8 then dvT Q K D (hd ⟨n, h⟩) (kj ⟨n, h⟩) ⟨i, hi⟩ k d else 0 : ℝ) : EReal) := by
    rw [step_dv m c _ Q hQ K hK Vr hV D hD, z0, hn, Finset.sum_range_one, dif_pos (by omega), ← EReal.coe_add, zero_add]
    congr 2; exact Fin.ext hn
  induction n with
  | zero => exact start 0 h rfl
  | succ n ih =>
    by_cases h8 : (n + 1) % 8 = 0
    · refine Eq.trans ?_ (start (n + 1) h h8)
      unfold dvAt; rw [if_pos h8]
    · have ehd : hd ⟨n, Nat.lt_of_succ_lt h⟩ = hd ⟨n + 1, h⟩ := Fin.ext (by show n / 32 = (n + 1) / 32; omega)
      have ekj : kj ⟨n, Nat.lt_of_succ_lt h⟩ = kj ⟨n + 1, h⟩ := Fin.ext (by show n / 8 % 4 = (n + 1) / 8 % 4; omega)
      have e8 : (n + 1) % 8 = n % 8 + 1 := by omega
      unfold dvAt; rw [if_neg h8, step_dv m c _ Q hQ K hK Vr hV D hD, ih, ehd, ekj, e8, Finset.sum_range_succ _ (n % 8 + 1), dif_pos (by omega),
        ← EReal.coe_add]
      congr 3; exact Fin.ext e8

/-- The keys' gradient after point `n`. -/
theorem dkAt_at (n : ℕ) (h : n < cfg0.N) (k : Fin 1024) (d : Fin 128) :
    dkAt m c n h (ix2 k d)
      = ((∑ i ∈ Finset.range (n % 8 + 1), if hi : i < 8 then dkT Q K Vr D (hd ⟨n, h⟩) (kj ⟨n, h⟩) ⟨i, hi⟩ k d else 0 : ℝ) : EReal) := by
  have z0 : k0_pay10 (F := Ideal) (ix2 k d) = ((0 : ℝ) : EReal) := by pointwise [k0_pay10]; rfl
  have start (n : ℕ) (h : n < cfg0.N) (hn : n % 8 = 0) : (blks m c ⟨n, h⟩).dk (k0_pay10 (F := Ideal)) (ix2 k d)
      = ((∑ i ∈ Finset.range (n % 8 + 1), if hi : i < 8 then dkT Q K Vr D (hd ⟨n, h⟩) (kj ⟨n, h⟩) ⟨i, hi⟩ k d else 0 : ℝ) : EReal) := by
    rw [step_dk m c _ Q hQ K hK Vr hV D hD, z0, hn, Finset.sum_range_one, dif_pos (by omega), ← EReal.coe_add, zero_add]
    congr 2; exact Fin.ext hn
  induction n with
  | zero => exact start 0 h rfl
  | succ n ih =>
    by_cases h8 : (n + 1) % 8 = 0
    · refine Eq.trans ?_ (start (n + 1) h h8)
      unfold dkAt; rw [if_pos h8]
    · have ehd : hd ⟨n, Nat.lt_of_succ_lt h⟩ = hd ⟨n + 1, h⟩ := Fin.ext (by show n / 32 = (n + 1) / 32; omega)
      have ekj : kj ⟨n, Nat.lt_of_succ_lt h⟩ = kj ⟨n + 1, h⟩ := Fin.ext (by show n / 8 % 4 = (n + 1) / 8 % 4; omega)
      have e8 : (n + 1) % 8 = n % 8 + 1 := by omega
      unfold dkAt; rw [if_neg h8, step_dk m c _ Q hQ K hK Vr hV D hD, ih, ehd, ekj, e8, Finset.sum_range_succ _ (n % 8 + 1), dif_pos (by omega),
        ← EReal.coe_add]
      congr 3; exact Fin.ext e8

/-- The queries' gradient's slice after `j + 1` blocks of keys. -/
theorem dqAt_at (j : ℕ) (n : ℕ) (h : n < cfg0.N) (hj : n / 8 % 4 = j) (g : Fin 3) (r : Fin 512) (d : Fin 128) :
    dqAt m c j n h (ix2 (br g r) d)
      = ((∑ b ∈ Finset.range (j + 1), if hb : b < 4 then dqT Q K Vr D (hd ⟨n, h⟩) ⟨b, hb⟩ (qi ⟨n, h⟩) g r d else 0 : ℝ) : EReal) := by
  induction j generalizing n with
  | zero =>
    unfold dqAt
    rw [step_dqFirst m c _ Q hQ K hK Vr hV D hD, Finset.sum_range_one, dif_pos (by omega)]
    congr 2; exact Fin.ext hj
  | succ j ih =>
    have ehd : hd ⟨n - 8, Nat.lt_of_le_of_lt (Nat.sub_le _ _) h⟩ = hd ⟨n, h⟩ := Fin.ext (by show (n - 8) / 32 = n / 32; omega)
    have eqi : qi ⟨n - 8, Nat.lt_of_le_of_lt (Nat.sub_le _ _) h⟩ = qi ⟨n, h⟩ := Fin.ext (by show (n - 8) % 8 = n % 8; omega)
    unfold dqAt
    rw [step_dqNext m c _ Q hQ K hK Vr hV D hD, ih (n - 8) _ (by omega), ehd, eqi, Finset.sum_range_succ _ (j + 1), dif_pos (by omega),
      ← EReal.coe_add]
    congr 3; exact Fin.ext hj

end Cert.FlashProof
-- ==== Proof.Flash.lean ====
/- The attention's gradient (`_flash_bwd`): the kernel's three results are the reference's, where the arguments are finite.

   The reference differentiates the softmax of the scaled products. The kernel is given the logarithms of the rows' sums and the
   sums of the output times its gradient, forms each probability again as a power of two, and from each probability `p` with
   gradient `dp` the score's gradient `p (dp - Σ p dp)`. The logarithm of two is a named constant of the kernel: its last
   factor of the keys' gradient undoes the host's division of the queries by it. -/
module

public import proofs.«01_k».proof.Defs
public import proofs.«01_k».proof.Proof.Gen.Pre_finite_flash
public import proofs.«01_k».proof.Proof.Gen.FlashRefIdeal.Run
public import proofs.«01_k».proof.Proof.FlashFrame
public import proofs.«01_k».proof.Proof.FlashFrameBits
public import proofs.«01_k».proof.Proof.FlashRef
public import proofs.«01_k».proof.Proof.FlashSum

@[expose] public section

set_option maxRecDepth 16384

noncomputable section

namespace Cert.FlashProof

open Idealize.ShloMosaic Idealize.ShloMosaic.TcCoe Idealize.SL.Sem
open Idealize.ShloMosaic.Pipeline (Dat)
open Cert.Lift

/-! ## The three results -/

section Kernel
open Cert.FlashIdeal Cert.FlashIdeal.Gen

theorem sum_below (N : ℕ) (f : Fin N → ℝ) : (∑ i ∈ Finset.range N, if hi : i < N then f ⟨i, hi⟩ else 0) = ∑ i, f i := by
  rw [Finset.sum_range]
  exact Finset.sum_congr rfl fun i _ => dif_pos i.2

theorem flush_at : ∀ t : Fin cfg0.N, ((cfg0.win 6).flush t = true → t.val / 8 % 4 = 3)
    ∧ ((cfg0.win 7).flush t = true → t.val % 8 = 7) ∧ ((cfg0.win 8).flush t = true → t.val % 8 = 7) :=
  (by decide +kernel : ∀ t : Fin grid0.N, _)

theorem idxOut : ∀ t : Fin cfg0.N, win0_7.index t = ![t.val / 8 % 4, t.val / 32] ∧ win0_8.index t = ![t.val / 8 % 4, t.val / 32] :=
  (by decide +kernel : ∀ t : Fin grid0.N, _)

theorem idxOut6 : ∀ t : Fin cfg0.N, t.val / 8 % 4 = 3 → win0_6.index t = ![t.val % 8, t.val / 32] :=
  (by decide +kernel : ∀ t : Fin grid0.N, _)

variable (m : (ℓ : Loc nD τ sig) → Buf (Elt Ideal) ℓ) (c : Dev nD)
  (Q : Fin 4096 → Fin 1536 → ℝ) (hQ : ∀ s j, m ((c : Thread nD τ).loc main_arg0) (ix2 s j) = (Q s j : EReal))
  (K : Fin 4096 → Fin 512 → ℝ) (hK : ∀ s j, m ((c : Thread nD τ).loc main_arg1) (ix2 s j) = (K s j : EReal))
  (Vr : Fin 4096 → Fin 512 → ℝ) (hV : ∀ s j, m ((c : Thread nD τ).loc main_arg2) (ix2 s j) = (Vr s j : EReal))
  (D : Fin 4096 → Fin 1536 → ℝ)
  (hD : ∀ s (j : Fin 1536) (h : j.val < 2048), m ((c : Thread nD τ).loc main_arg3) (ix2 s ⟨j.val, h⟩) = (D s j : EReal))

/-- The sums over the queries, block by block. -/
theorem sum_queries (f : Fin 4096 → ℝ) : ∑ s, f s = ∑ i : Fin 8, ∑ r : Fin 512, f (qr i r) := Fin.sum_univ_tiles 8 512 rfl f
theorem sum_keys (f : Fin 4096 → ℝ) : ∑ s, f s = ∑ j : Fin 4, ∑ k : Fin 1024, f (kr j k) := Fin.sum_univ_tiles 4 1024 rfl f

theorem total_dv (h j : Fin 4) (k : Fin 1024) (d : Fin 128) : ∑ i, dvT Q K D h j i k d = dv Q K D (kr j k) h d := by
  unfold dvT dv
  rw [Finset.sum_comm]
  exact Finset.sum_congr rfl fun g _ => (sum_queries fun s => pr Q K h g s (kr j k) * D s (qc h g d)).symm

theorem total_dk (h j : Fin 4) (k : Fin 1024) (d : Fin 128) : (∑ i, dkT Q K Vr D h j i k d) * Real.log 2 = dk Q K Vr D (kr j k) h d := by
  have hl := log2_pos.ne'
  unfold dkT dk
  rw [Finset.sum_comm, Finset.sum_mul]
  refine Finset.sum_congr rfl fun g _ => ?_
  rw [sum_queries, Finset.sum_mul]
  refine Finset.sum_congr rfl fun i _ => ?_
  rw [Finset.sum_mul]
  refine Finset.sum_congr rfl fun r _ => ?_
  field_simp

theorem total_dq (h : Fin 4) (i : Fin 8) (g : Fin 3) (r : Fin 512) (d : Fin 128) :
    (∑ j, dqT Q K Vr D h j i g r d) * s0 = dq Q K Vr D (qr i r) h g d := by
  unfold dqT dq
  rw [sum_keys, Finset.sum_mul]
  refine Finset.sum_congr rfl fun j _ => ?_
  rw [Finset.sum_mul]

include hQ hK hV hD

theorem final8 :
    (dats m 0 c).arrAt 8 cfg0.N
      = FlashRefIdeal.Read.val_main_v64 (F := Ideal) (m ((c : Thread nD τ).loc main_arg0)) (m ((c : Thread nD τ).loc main_arg1))
          (m ((c : Thread nD τ).loc main_arg3)) := by
  refine (dats m 0 c).arrAt_eq_of_covers 8 _ (by decide +kernel) fun t hf y => ?_
  have h7 : t.val % 8 = 7 := (flush_at t).2.2 hf
  blk_simp
  rw [after0_8]
  idx_vars y
  rw [dvAt_at m c Q hQ K hK Vr hV D hD, h7, sum_below 8 (fun i => dvT Q K D (hd t) (kj t) i y0 y1), total_dv]
  refine (Eq.trans ?_ (ref_dv _ _ _ Q hQ K hK D hD (kr (kj t) y0) (hd t) y1)).symm
  blk_ext [idxOut t, kr, kc, kj, hd]

theorem final7 :
    (dats m 0 c).arrAt 7 cfg0.N
      = FlashRefIdeal.Read.val_main_v65 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 7 _ (by decide +kernel) fun t hf y => ?_
  have h7 : t.val % 8 = 7 := (flush_at t).2.1 hf
  blk_simp
  rw [after0_7]
  idx_vars y
  have e : k0_pay9 (dkAt m c t.val t.isLt) (ix2 y0 y1) = dkAt m c t.val t.isLt (ix2 y0 y1) * ((Real.log 2 : ℝ) : EReal) := by
    generalize dkAt m c t.val t.isLt = w
    pointwise [k0_pay9]
    rfl
  rw [e, dkAt_at m c Q hQ K hK Vr hV D hD, h7, sum_below 8 (fun i => dkT Q K Vr D (hd t) (kj t) i y0 y1), ← EReal.coe_mul, total_dk]
  refine (Eq.trans ?_ (ref_dk _ _ _ _ Q hQ K hK Vr hV D hD (kr (kj t) y0) (hd t) y1)).symm
  blk_ext [idxOut t, kr, kc, kj, hd]

theorem final6 :
    (dats m 0 c).arrAt 6 cfg0.N
      = FlashRefIdeal.Read.val_main_v66 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 6 _ (by decide +kernel) fun t hf y => ?_
  have h3 : t.val / 8 % 4 = 3 := (flush_at t).1 hf
  have hi := idxOut6 t h3
  blk_simp
  rw [after0_6]
  idx_vars y
  obtain ⟨g, d, hy⟩ : ∃ (g : Fin 3) (d : Fin 128), y1 = bc g d :=
    ⟨⟨y1.val / 128, by omega⟩, ⟨y1.val % 128, by omega⟩, Fin.ext (by show y1.val = y1.val / 128 * 128 + y1.val % 128; omega)⟩
  subst hy
  rw [dqOut_at, h3, dqAt_at m c Q hQ K hK Vr hV D hD 3 t.val t.isLt h3, sum_below 4 (fun j => dqT Q K Vr D (hd t) j (qi t) g y0 d),
    ← EReal.coe_mul, total_dq]
  refine (Eq.trans ?_ (ref_dq _ _ _ _ Q hQ K hK Vr hV D hD (qr (qi t) y0) (hd t) g d)).symm
  blk_ext [hi, qr, qc, qi, hd, bc]

end Kernel

/-! ## The claims -/

theorem finite (q : FVec Ideal FlashIdeal.S4096x1536 .f32) (k v : FVec Ideal FlashIdeal.S4096x512 .f32) (g : FVec Ideal FlashIdeal.S4096x2048 .bf16)
    (h : Pre_finite_flash.fn (F := Ideal) q k v g = fun _ => 1#1) :
    (∀ s j, q (ix2 s j) = ((q (ix2 s j)).toReal : EReal)) ∧ (∀ s j, k (ix2 s j) = ((k (ix2 s j)).toReal : EReal))
      ∧ (∀ s j, v (ix2 s j) = ((v (ix2 s j)).toReal : EReal))
      ∧ ∀ s (j : Fin 1536) (h : j.val < 2048), g (ix2 s ⟨j.val, h⟩) = ((g (ix2 s ⟨j.val, h⟩)).toReal : EReal) := by
  have h0 := congrFun h ix0
  unfold Pre_finite_flash.fn at h0
  obtain ⟨h012, h3⟩ := IntOp.andi_eq_one.1 h0
  obtain ⟨h01, h2⟩ := IntOp.andi_eq_one.1 h012
  obtain ⟨h0, h1⟩ := IntOp.andi_eq_one.1 h01
  refine ⟨fun s j => real_of_all _ _ _ _ _ _ h0 (fun _ => rfl) _, fun s j => real_of_all _ _ _ _ _ _ h1 (fun _ => rfl) _,
    fun s j => real_of_all _ _ _ _ _ _ h2 (fun _ => rfl) _, fun s j h => ?_⟩
  have e := real_of_all _ _ _ _ _ _ h3 (fun _ => rfl) (ix2 s j)
  pointwise at e
  exact e

theorem preserves : Cert.preserves_Flash_FlashIdeal :=
  IdealRules.named_const.statement Cert.FlashIdeal.κ "ln2" .f32 0x3F317218#32 (Real.log 2 : ℝ) rfl

theorem frame_ideal : Cert.quiescent_FlashIdeal := fun m ρ _ => Cert.FlashIdeal.Gen.frame m ρ
theorem frame_bits : Cert.quiescent_Flash := fun m ρ _ => Cert.Flash.Gen.frame m ρ

theorem frame_ref : Cert.quiescent_FlashRefIdeal := fun m ρ _ =>
  (θ_run Cert.FlashRefIdeal.defs _ _).mono (fun r h => ⟨fun c => (h c).2.2.2, sem_eq_zero_of_no_sems (by decide) r.2⟩)
    (Cert.FlashRefIdeal.Value.run (F := Ideal) m ρ)

section Run
open Cert.FlashIdeal Cert.FlashIdeal.Gen

/-- The kernel's run: each result is what the grid leaves in its array, and the arguments are unchanged. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43_0) = (dats m 0 c).arrAt 6 cfg0.N
      ∧ r.2.mem ((c.tc : Thread nD τ).loc main_v43_1) = (dats m 0 c).arrAt 7 cfg0.N
      ∧ r.2.mem ((c.tc : Thread nD τ).loc main_v43_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 6, (h.1 c).1 7, (h.1 c).1 8, h.2 c⟩)
    (θ_run_and (run_main m ρ) (frame_of m ρ (dats m) (A_eq m) (run_main m ρ)))

end Run

theorem algebraic : Cert.algebraic_FlashIdeal_FlashRefIdeal_pre_finite_flash := by
  pair_intro
  · run_from Cert.FlashProof.run_blocks m g
  · run_from Cert.FlashRefIdeal.Value.run m' g'
    all_goals obtain ⟨e0, e1, e2, e3⟩ := hagree c
    all_goals obtain ⟨hq, hk, hv, hd⟩ := finite _ _ _ _ (hpre c)
    · refine (Cert.FlashRefIdeal.Read.val_main_v66_eq m' c).trans ?_
      rw [e0, e1, e2, e3]
      exact (final6 m c _ hq _ hk _ hv (fun s j => (m ((c.tc : Thread FlashIdeal.nD FlashIdeal.τ).loc FlashIdeal.main_arg3) (ix2 s ⟨j.val, by omega⟩)).toReal) hd).symm
    · refine (Cert.FlashRefIdeal.Read.val_main_v65_eq m' c).trans ?_
      rw [e0, e1, e2, e3]
      exact (final7 m c _ hq _ hk _ hv (fun s j => (m ((c.tc : Thread FlashIdeal.nD FlashIdeal.τ).loc FlashIdeal.main_arg3) (ix2 s ⟨j.val, by omega⟩)).toReal) hd).symm
    · exact (Cert.FlashRefIdeal.Read.val_main_v64_eq _ _ _).trans
        (final8 m c _ hq _ hk _ hv (fun s j => (m ((c.tc : Thread FlashIdeal.nD FlashIdeal.τ).loc FlashIdeal.main_arg3) (ix2 s ⟨j.val, by omega⟩)).toReal) hd).symm

end Cert.FlashProof
-- ==== Proof.Soft.lean ====
/- Facts about real numbers that the gradients of the norms and of the memory's attention share: the gradient of a
   root-mean-square norm, a row's maximum, and the gradient of a softmax. -/
module

public import proofs.«01_k».proof.Proof.Lift

@[expose] public section

set_option maxRecDepth 16384

noncomputable section

namespace Cert.Lift

open Idealize.ShloMosaic Idealize.ShloMosaic.TcCoe Idealize.SL.Sem

/-! ## The gradient of a root-mean-square norm over 128 lanes -/

/-- The gradient of a row `x` of a root-mean-square norm with gain `g` under the incoming gradient `a`, as the kernels form it. -/
def rmsGrad (x a g : Fin 128 → ℝ) (d : Fin 128) : ℝ :=
  (√((∑ k, x k ^ 2) / 128 + eps))⁻¹ * (a d * g d - x d * (√((∑ k, x k ^ 2) / 128 + eps))⁻¹
    * ((∑ k, a k * g k * (x k * (√((∑ k, x k ^ 2) / 128 + eps))⁻¹)) / 128))

/-- It is what the references' chain of derivatives comes to. -/
theorem rms_grad (x a g : Fin 128 → ℝ) (d : Fin 128) :
    rmsGrad x a g d
      = a d * g d * (√((∑ k, x k ^ 2) / 128 + eps))⁻¹
        + x d * ((∑ k, x k * (a k * g k)) * (-(1 / 2) * ((√((∑ k, x k ^ 2) / 128 + eps))⁻¹ / ((∑ k, x k ^ 2) / 128 + eps))) / 128)
        + (∑ k, x k * (a k * g k)) * (-(1 / 2) * ((√((∑ k, x k ^ 2) / 128 + eps))⁻¹ / ((∑ k, x k ^ 2) / 128 + eps))) / 128 * x d := by
  have hv : 0 < (∑ k, x k ^ 2) / 128 + eps := by have := eps_pos; positivity
  unfold rmsGrad
  rw [inv_sqrt_div _ hv]
  generalize (√((∑ k, x k ^ 2) / 128 + eps))⁻¹ = r
  have hs : ∑ k, a k * g k * (x k * r) = (∑ k, x k * (a k * g k)) * r := by
    rw [Finset.sum_mul]; exact Finset.sum_congr rfl fun k _ => by ring
  rw [hs]
  ring

/-! ## A row's maximum is a real number -/

/-- The maximum of a list of real numbers, begun at a real or at minus infinity, is a real number. -/
theorem foldl_max_coe {ι : Type} (l : List ι) (f : ι → ℝ) (a : EReal) (ha : a = ⊥ ∨ ∃ r : ℝ, a = r) (hl : l ≠ []) :
    ∃ r : ℝ, l.foldl (fun r n => max r (f n : EReal)) a = r := by
  induction l generalizing a with
  | nil => exact absurd rfl hl
  | cons i l ih =>
    have hm : ∃ r : ℝ, max a (f i : EReal) = r := by
      rcases ha with rfl | ⟨r, rfl⟩
      · exact ⟨f i, max_eq_right bot_le⟩
      · exact ⟨max r (f i), max_coe r (f i)⟩
    rw [List.foldl_cons]
    rcases List.eq_nil_or_concat l with rfl | ⟨l', b, rfl⟩
    · exact hm
    · exact ih _ (Or.inr hm) (by simp)

/-- The host's maximum over axes of an array of real numbers. -/
theorem host_max_real {s t u : Shape} {axes : List (Fin s.rank)} (h : s.ReducesTo axes t) (hu : 0 < u.numel)
    (x : FVec Ideal s .f32) (hx : ∀ i, ∃ r : ℝ, x i = (r : EReal)) (init : FVec Ideal u .f32)
    (hi : ∀ i, init i = (⊥ : EReal)) (j : t.Idx) (i : s.Idx) (hij : h.drop i = j) :
    ∃ r : ℝ, Host.reduce FloatOps.maximumf x init h hu j = (r : EReal) := by
  choose f hf using hx
  unfold Host.reduce
  rw [hi]
  have e : (fun (r : EReal) n => max r (x (s.rowMajor.symm n))) = fun (r : EReal) n => max r (f (s.rowMajor.symm n) : EReal) := by
    funext r n; rw [hf]
  show ∃ r : ℝ, List.foldl (fun (r : EReal) n => max r (x (s.rowMajor.symm n))) ⊥ _ = (r : EReal)
  rw [e]
  refine foldl_max_coe _ _ _ (Or.inl rfl) (List.ne_nil_of_mem (a := s.rowMajor i) ?_)
  rw [List.mem_filter]
  exact ⟨List.mem_finRange _, by simp [hij]⟩

/-- The kernel's maximum over lanes of real numbers. -/
theorem fold_max_coe {n : ℕ} [NeZero n] (f : Fin n → ℝ) :
    ∃ r : ℝ, Finset.univ.fold max (⊥ : EReal) (fun k => (f k : EReal)) = (r : EReal) := by
  classical
  have h (s : Finset (Fin n)) : (s.fold max (⊥ : EReal) (fun k => (f k : EReal)) = ⊥ ∧ s = ∅)
      ∨ ∃ r : ℝ, s.fold max (⊥ : EReal) (fun k => (f k : EReal)) = (r : EReal) := by
    induction s using Finset.induction_on with
    | empty => exact Or.inl ⟨Finset.fold_empty, rfl⟩
    | insert a s ha ih =>
      refine Or.inr ?_
      rw [Finset.fold_insert ha]
      rcases ih with ⟨e, _⟩ | ⟨r, e⟩
      · exact ⟨f a, by rw [e]; exact max_eq_left bot_le⟩
      · exact ⟨max (f a) r, by rw [e]; exact max_coe _ _⟩
  rcases h Finset.univ with ⟨_, e⟩ | h
  · exact absurd (Finset.mem_univ (0 : Fin n)) (by rw [e]; simp)
  · exact h

/-- Entries of a matrix that are real numbers from column `b` on, as a table of real numbers. -/
theorem table {A B : ℕ} {φ : FTy} (x : FVec Ideal ⟨2, ![A, B]⟩ φ) (b : ℕ)
    (h : ∀ (s : Fin A) (n : ℕ) (hn : n < B), b ≤ n → ((x (ix2 s ⟨n, hn⟩) : EReal)) = ((x (ix2 s ⟨n, hn⟩) : EReal).toReal : EReal)) :
    ∃ r : ℕ → ℕ → ℝ, ∀ (s : Fin A) (n : ℕ) (hn : n < B), b ≤ n → (x (ix2 s ⟨n, hn⟩) : EReal) = (r s n : EReal) :=
  ⟨fun s n => if h : s < A ∧ n < B then (x (ix2 ⟨s, h.1⟩ ⟨n, h.2⟩) : EReal).toReal else 0,
    fun s n hn hl => by dsimp only; rw [dif_pos ⟨s.isLt, hn⟩]; exact h s n hn hl⟩

theorem lit_bot : Ideal.ofBits .f32 4286578688#32 = ⊥ := by simp [Ideal.ofBits, Ideal.ieee]

/-- The scale of the scores, the rational number that its word stores. -/
def scale : ℝ := (Ideal.ofBits .f32 1035273459#32).toReal

theorem lit_scale : Ideal.ofBits .f32 1035273459#32 = ((scale : ℝ) : EReal) := by
  have h : ∃ r : ℝ, Ideal.ofBits .f32 1035273459#32 = (r : EReal) := by
    simp only [Ideal.ofBits, Ideal.ieee]; simp; exact ⟨_, (EReal.coe_mul _ _).symm⟩
  obtain ⟨r, hr⟩ := h
  unfold scale; rw [hr]; rfl

/-! ## Softmax -/

section Softmax
variable {n : ℕ} [NeZero n]

/-- The sum of a row's exponentials is positive. -/
theorem exps_pos (a : Fin n → ℝ) : 0 < ∑ k, Real.exp (a k) :=
  Finset.sum_pos (fun k _ => Real.exp_pos _) ⟨0, Finset.mem_univ _⟩

/-- A probability does not depend on what is taken from every score. -/
theorem prob_shift (a : Fin n → ℝ) (M : ℝ) (k : Fin n) :
    Real.exp (a k - M) / ∑ k', Real.exp (a k' - M) = Real.exp (a k) / ∑ k', Real.exp (a k') := by
  simp only [Real.exp_sub]
  rw [← Finset.sum_div, div_div_div_cancel_right₀ (Real.exp_ne_zero M)]

/-- The reference's derivative of a quotient by a row's sum, with the sum's own part gathered. -/
theorem prob_grad (e a : Fin n → ℝ) (l : ℝ) (hl : l ≠ 0) (k : Fin n) :
    (a k / l + -∑ x, a x * (1 / (l * l)) * e x) * e k = e k / l * (a k - ∑ x, e x / l * a x) := by
  have h : ∑ x, e x / l * a x = l * ∑ x, a x * (1 / (l * l)) * e x := by
    rw [Finset.mul_sum]
    refine Finset.sum_congr rfl fun x _ => ?_
    field_simp
  rw [h]
  field_simp
  ring

end Softmax

end Cert.Lift
-- ==== Proof.MemReal.lean ====
/- The memory attention's gradient in real numbers: one head of one row, which is all that the two programs have in common
   before they sum over the rows. -/
module

public import proofs.«01_k».proof.Proof.Soft

@[expose] public section

set_option maxRecDepth 16384

noncomputable section

namespace Cert.MemAttnProof

open Cert.Lift

/-- The reciprocal of a row's root mean square. -/
def rms (x : Fin 128 → ℝ) : ℝ := (√((∑ k, x k ^ 2) / 128 + eps))⁻¹

/-- A head's columns of the queries, of the keys, of the values, and of the incoming gradient. -/
def zrow (zr : ℕ → ℕ → ℝ) (s h : ℕ) (d : Fin 128) : ℝ := zr s (3072 + (h * 128 + d))
def krow (kr : ℕ → ℕ → ℝ) (h : ℕ) (j : Fin 256) (d : Fin 128) : ℝ := kr j (h * 128 + d)
def vrow (kr : ℕ → ℕ → ℝ) (h : ℕ) (j : Fin 256) (d : Fin 128) : ℝ := kr j (512 + (h * 128 + d))
def erow (er : ℕ → ℕ → ℝ) (s h : ℕ) (d : Fin 128) : ℝ := er s (1536 + (h * 128 + d))

/- A head of a row `x` of the queries, the head's keys `k` and values `v` before their norm, the gains of the two norms, and the
   gradient `e` of the head's result. -/
variable (x : Fin 128 → ℝ) (k v : Fin 256 → Fin 128 → ℝ) (gq gk e : Fin 128 → ℝ)

/-- The normed query without its gain; a normed query and a normed key with theirs. -/
def hat (d : Fin 128) : ℝ := x d * rms x
def qn (d : Fin 128) : ℝ := hat x d * gq d
def kn (j : Fin 256) (d : Fin 128) : ℝ := k j d * rms (k j) * gk d

/-- A score, a probability, the gradient of a probability, the gradient of a score times the scale. -/
def sc (j : Fin 256) : ℝ := (∑ d, qn x gq d * kn k gk j d) * scale
def pr (j : Fin 256) : ℝ := Real.exp (sc x k gq gk j) / ∑ j', Real.exp (sc x k gq gk j')
def dpr (j : Fin 256) : ℝ := ∑ d, e d * v j d
def dsc (j : Fin 256) : ℝ := pr x k gq gk j * (dpr v e j - ∑ j', pr x k gq gk j' * dpr v e j') * scale

/-- The gradient of the normed query, and of the query itself. -/
def dqn (d : Fin 128) : ℝ := ∑ j, dsc x k v gq gk e j * kn k gk j d
def dz (d : Fin 128) : ℝ := rmsGrad x (dqn x k v gq gk e) gq d

end Cert.MemAttnProof
-- ==== Proof.MemPoint.lean ====
/- The memory attention's gradient: what the kernel computes of one head of one tile of rows, in real numbers. -/
module

public import proofs.«01_k».proof.Defs
public import proofs.«01_k».proof.Proof.Gen.MemAttnIdeal.Value
public import proofs.«01_k».proof.Proof.MemReal

@[expose] public section

set_option maxRecDepth 16384

noncomputable section

namespace Cert.MemAttnProof

open Idealize.ShloMosaic Idealize.ShloMosaic.TcCoe Idealize.SL.Sem
open Cert.Lift
open Cert.MemAttnIdeal Cert.MemAttnIdeal.Gen

/- A head's block of the queries, of the keys, of the values and of the incoming gradient, and the two gains. -/
variable (z : FVec Ideal S512x128 .f32) (k v : FVec Ideal S256x128 .f32) (g b : FVec Ideal S1x128 .f32)
  (e : FVec Ideal S512x128 .bf16)

variable (zr : Fin 512 → Fin 128 → ℝ) (hz : ∀ s d, z (ix2 s d) = (zr s d : EReal))
  (kr : Fin 256 → Fin 128 → ℝ) (hk : ∀ s d, k (ix2 s d) = (kr s d : EReal))
  (vr : Fin 256 → Fin 128 → ℝ) (hv : ∀ s d, v (ix2 s d) = (vr s d : EReal))
  (gq : Fin 128 → ℝ) (hq : ∀ d, g (ix2 0 d) = (gq d : EReal))
  (gk : Fin 128 → ℝ) (hg : ∀ d, b (ix2 0 d) = (gk d : EReal))
  (er : Fin 512 → Fin 128 → ℝ) (he : ∀ s d, e (ix2 s d) = (er s d : EReal))

include hz in
theorem rms_at (s : Fin 512) : k0_pay6 (F := Ideal) z (ix2 s 0) = (rms (zr s) : EReal) := by
  have hr := eps_pos
  pointwise [k0_pay6]
  simp (disch := first | positivity | norm_num) only [hz, lit_128, lit_eps, ← EReal.coe_mul, ← EReal.coe_add, sum_coe,
    sq_real, div_coe, rsqrt_coe]
  rfl

include hz in
theorem hat_at (s : Fin 512) (d : Fin 128) : k0_pay7 (F := Ideal) z (ix2 s d) = (hat (zr s) d : EReal) := by
  pointwise [k0_pay7]
  simp only [hz, rms_at z zr hz, ← EReal.coe_mul]
  rfl

include hz hq in
theorem qn_at (s : Fin 512) (d : Fin 128) : k0_pay10 (F := Ideal) z g (ix2 s d) = (qn (zr s) gq d : EReal) := by
  pointwise [k0_pay10]
  simp only [hat_at z zr hz, hq, ← EReal.coe_mul]
  rfl

include hk hg in
theorem kn_at (j : Fin 256) (d : Fin 128) : k0_pay8 (F := Ideal) k b (ix2 j d) = (kn kr gk j d : EReal) := by
  have hr := eps_pos
  pointwise [k0_pay8]
  simp (disch := first | positivity | norm_num) only [hk, hg, lit_128, lit_eps, ← EReal.coe_mul, ← EReal.coe_add, sum_coe,
    sq_real, div_coe, rsqrt_coe]
  rfl

include hz hk hq hg in
theorem dot_at (s : Fin 512) (j : Fin 256) :
    k0_pay11 (F := Ideal) z k b g (ix2 s j) = ((∑ d, qn (zr s) gq d * kn kr gk j d : ℝ) : EReal) := by
  pointwise [k0_pay11]
  simp only [qn_at z g zr hz gq hq, kn_at k b kr hk gk hg, ← EReal.coe_mul, sum_coe]

/- A head's probabilities, their gradients' parts, from the products `a` of its queries and keys. -/
variable (a : FVec Ideal S512x256 .f32) (ha : ∀ s j, a (ix2 s j) = ((∑ d, qn (zr s) gq d * kn kr gk j d : ℝ) : EReal))
  (c : Ideal .f32) (hc : c = (scale : EReal))

include ha hc in
theorem pr_at (s : Fin 512) (j : Fin 256) :
    k0_pay12 (F := Ideal) a c (ix2 s j) = (pr (zr s) kr gq gk j : EReal) := by
  pointwise [k0_pay12]
  have hs (j : Fin 256) : a (ix2 s j) * c = (sc (zr s) kr gq gk j : EReal) := by
    rw [ha, hc, ← EReal.coe_mul]; rfl
  simp only [hs, lit_bot]
  obtain ⟨M, hM⟩ := fold_max_coe fun j => sc (zr s) kr gq gk j
  rw [hM]
  have hp : (∑ j', Real.exp (sc (zr s) kr gq gk j' - M)) ≠ 0 := (exps_pos _).ne'
  simp (disch := exact hp) only [← EReal.coe_sub, exp_coe, sum_coe, div_coe]
  exact congrArg _ (prob_shift (fun j => sc (zr s) kr gq gk j) M j)

include ha hc he in
theorem dv_at (old : FVec Ideal S256x128 .f32) (j : Fin 256) (d : Fin 128) :
    k0_pay13 (F := Ideal) a c e old (ix2 j d)
      = old (ix2 j d) + ((∑ s, pr (zr s) kr gq gk j * er s d : ℝ) : EReal) := by
  pointwise [k0_pay13]
  simp only [pr_at zr kr gq gk a ha c hc, he, ← EReal.coe_mul, sum_coe]

include ha hc he hv in
theorem ds_at (s : Fin 512) (j : Fin 256) :
    k0_pay14 (F := Ideal) (k0_pay9 v) a c e (ix2 s j)
      = (dsc (zr s) kr vr gq gk (er s) j : EReal) := by
  pointwise [k0_pay14, k0_pay9]
  simp only [pr_at zr kr gq gk a ha c hc, he, hv, lit_scale, ← EReal.coe_mul, ← EReal.coe_sub, sum_coe]
  refine congrArg _ ?_
  unfold dsc dpr
  simp only [mul_comm (pr (zr s) kr gq gk _) (∑ d, er s d * vr _ d)]

include ha hc he hv hk hg in
theorem dqn_at (s : Fin 512) (d : Fin 128) :
    k0_pay15 (F := Ideal) (k0_pay8 k b) (k0_pay9 v) a c e (ix2 s d)
      = (dqn (zr s) kr vr gq gk (er s) d : EReal) := by
  pointwise [k0_pay15]
  simp only [ds_at v e zr kr vr hv gq gk er he a ha c hc, kn_at k b kr hk gk hg, ← EReal.coe_mul, sum_coe]
  rfl

include ha hc he hv hz hq in
theorem dkn_at (old : FVec Ideal S256x128 .f32) (j : Fin 256) (d : Fin 128) :
    k0_pay16 (F := Ideal) (k0_pay9 v) (k0_pay10 z g) a c e old (ix2 j d)
      = old (ix2 j d) + ((∑ s, dsc (zr s) kr vr gq gk (er s) j * qn (zr s) gq d : ℝ) : EReal) := by
  pointwise [k0_pay16]
  simp only [ds_at v e zr kr vr hv gq gk er he a ha c hc, qn_at z g zr hz gq hq, ← EReal.coe_mul, sum_coe]

include ha hc he hv hk hg hz in
theorem dg_at (old : FVec Ideal S1x128 .f32) (d : Fin 128) :
    k0_pay19 (F := Ideal) (k0_pay17 old)
        (k0_pay18 (k0_pay7 z) (k0_pay8 k b) (k0_pay9 v) a c e) (ix2 0 d)
      = old (ix2 0 d) + ((∑ s, dqn (zr s) kr vr gq gk (er s) d * hat (zr s) d : ℝ) : EReal) := by
  pointwise [k0_pay17, k0_pay18, k0_pay19]
  simp only [dqn_at k v b e zr kr hk vr hv gq gk hg er he a ha c hc, hat_at z zr hz, ← EReal.coe_mul, sum_coe]

include ha hc he hv hk hg hz hq in
theorem dz_at (s : Fin 512) (d : Fin 128) :
    k0_pay20 (F := Ideal) (k0_pay6 z) (k0_pay7 z)
        (k0_pay15 (k0_pay8 k b) (k0_pay9 v) a c e) g (ix2 s d)
      = (dz (zr s) kr vr gq gk (er s) d : EReal) := by
  pointwise [k0_pay20]
  simp (disch := norm_num) only [dqn_at k v b e zr kr hk vr hv gq gk hg er he a ha c hc, hat_at z zr hz, rms_at z zr hz, hq, lit_128,
    ← EReal.coe_mul, ← EReal.coe_sub, sum_coe, div_coe]
  rfl

end Cert.MemAttnProof
-- ==== Proof.MemRef.lean ====
/- The memory attention's gradient: what the reference computes, in real numbers. -/
module

public import proofs.«01_k».proof.Defs
public import proofs.«01_k».proof.Proof.Gen.MemAttnRefIdeal.Read
public import proofs.«01_k».proof.Proof.MemReal

@[expose] public section

set_option maxRecDepth 16384

noncomputable section

namespace Cert.MemAttnProof

open Idealize.ShloMosaic Idealize.ShloMosaic.TcCoe Idealize.SL.Sem
open Cert.Lift
open Cert.MemAttnRefIdeal Cert.MemAttnRefIdeal.Read

variable (x0 : FVec Ideal S4096x3584 .f32) (x1 : FVec Ideal S256x1024 .f32) (x2 x3 : FVec Ideal S128 .f32)
  (x4 : FVec Ideal S4096x2048 .bf16)

variable (zr : ℕ → ℕ → ℝ) (hz : ∀ s n (hn : n < 3584), 3072 ≤ n → x0 (ix2 s ⟨n, hn⟩) = (zr s n : EReal))
  (kr : ℕ → ℕ → ℝ) (hk : ∀ s n hn, x1 (ix2 s ⟨n, hn⟩) = (kr s n : EReal))
  (gq : Fin 128 → ℝ) (hq : ∀ d, x2 (ix1 d) = (gq d : EReal))
  (gk : Fin 128 → ℝ) (hg : ∀ d, x3 (ix1 d) = (gk d : EReal))
  (er : ℕ → ℕ → ℝ) (he : ∀ s n (hn : n < 2048), 1536 ≤ n → x4 (ix2 s ⟨n, hn⟩) = (er s n : EReal))

include hk hg in
theorem ref_kn (j : Fin 256) (h : Fin 4) (d : Fin 128) :
    val_main_v16 (F := Ideal) x1 x3 (ix3 j h d) = (kn (krow kr h) gk j d : EReal) := by
  have hr := eps_pos
  pointwise [val_main_v1, val_main_v3, val_main_v4, val_main_cst, val_main_v5, val_main_v6, val_main_cst_0, val_main_v7, val_main_v8,
    val_main_cst_1, val_main_v9, val_main_v10, val_main_v11, val_main_v12, val_main_v13, val_main_v14, val_main_v15, val_main_v16]
  simp (disch := first | omega | positivity | norm_num) only [hk, hg, lit_128, lit_eps, ← EReal.coe_mul, ← EReal.coe_add, sum_coe,
    sq_real, div_coe, rsqrt_coe]
  rfl

include hz in
theorem ref_rms (s : Fin 4096) (h : Fin 4) :
    val_main_v26 (F := Ideal) x0 (ix3 s h 0) = (rms (zrow zr s h) : EReal) := by
  have hr := eps_pos
  pointwise [val_main_v0, val_main_v18, val_main_v19, val_main_cst_2, val_main_v20,
    val_main_v21, val_main_cst_3, val_main_v22, val_main_v23, val_main_cst_4, val_main_v24, val_main_v25, val_main_v26]
  simp (disch := first | omega | positivity | norm_num) only [hz, lit_128, lit_eps, ← EReal.coe_mul, ← EReal.coe_add, sum_coe,
    sq_real, div_coe, rsqrt_coe]
  rfl

include hz in
theorem ref_hat (s : Fin 4096) (h : Fin 4) (d : Fin 128) :
    val_main_v31 (F := Ideal) x0 (ix3 s h d) = (hat (zrow zr s h) d : EReal) := by
  pointwise [val_main_v0, val_main_v18, val_main_v30, val_main_v31]
  simp (disch := omega) only [hz, ref_rms x0 zr hz, ← EReal.coe_mul]
  rfl

include hz hq in
theorem ref_qn (s : Fin 4096) (h : Fin 4) (d : Fin 128) :
    val_main_v34 (F := Ideal) x0 x2 (ix3 s h d) = (qn (zrow zr s h) gq d : EReal) := by
  pointwise [val_main_v32, val_main_v33, val_main_v34]
  simp only [hq, ref_hat x0 zr hz, ← EReal.coe_mul]
  rfl

include hz hk hq hg in
theorem ref_sc (h : Fin 4) (s : Fin 4096) (j : Fin 256) :
    val_main_v37 (F := Ideal) x0 x1 x2 x3 (ix3 h s j) = (sc (zrow zr s h) (krow kr h) gq gk j : EReal) := by
  pointwise [val_main_v35, val_main_cst_6, val_main_v36, val_main_v37]
  simp only [ref_qn x0 x2 zr hz gq hq, ref_kn x1 x3 kr hk gk hg, lit_scale, ← EReal.coe_mul, sum_coe]
  rfl

include hz hk hq hg in
theorem ref_max (h : Fin 4) (s : Fin 4096) : ∃ M : ℝ, val_main_v38 (F := Ideal) x0 x1 x2 x3 (ix2 h s) = (M : EReal) := by
  unfold val_main_v38
  refine host_max_real _ _ _ (fun i => ?_) _ (fun i => lit_bot) (ix2 h s) (ix3 h s 0) (by funext k; fin_cases k <;> rfl)
  idx_vars i
  exact ⟨_, ref_sc x0 x1 x2 x3 zr hz kr hk gq hq gk hg i0 i1 i2⟩

theorem ref_v56 (h : Fin 4) (s : Fin 4096) (j : Fin 256) :
    val_main_v56 (F := Ideal) x0 x1 x2 x3 (ix3 h s j) = val_main_v45 (F := Ideal) x0 x1 x2 x3 (ix2 h s) := by
  rw [val_main_v56_apply, val_main_v55_apply]
  refine congrArg _ ?_
  funext a; fin_cases a <;> rfl

include hz hk hq hg in
theorem ref_e (h : Fin 4) (s : Fin 4096) :
    ∃ M : ℝ, ∀ j, val_main_v58 (F := Ideal) x0 x1 x2 x3 (ix3 h s j)
      = ((Real.exp (sc (zrow zr s h) (krow kr h) gq gk j - M) : ℝ) : EReal) := by
  obtain ⟨M, hM⟩ := ref_max x0 x1 x2 x3 zr hz kr hk gq hq gk hg h s
  refine ⟨M, fun j => ?_⟩
  have e14 : val_main_v45 (F := Ideal) x0 x1 x2 x3 (ix2 h s) = (M : EReal) := by
    rw [val_main_v45_apply, hM]
    show max (Ideal.ofBits .f32 4286578688#32) (M : EReal) = _
    rw [lit_bot, max_eq_right bot_le]
  rw [val_main_v58_apply, val_main_v57_apply, ref_v56, e14, ref_sc x0 x1 x2 x3 zr hz kr hk gq hq gk hg]
  show Ideal.exp ((sc (zrow zr s h) (krow kr h) gq gk j : EReal) - (M : EReal)) = _
  rw [← EReal.coe_sub, exp_coe]

include hz hk hq hg in
theorem ref_p (h : Fin 4) (s : Fin 4096) (j : Fin 256) :
    val_main_v62 (F := Ideal) x0 x1 x2 x3 (ix3 h s j) = (pr (zrow zr s h) (krow kr h) gq gk j : EReal) := by
  obtain ⟨M, hM⟩ := ref_e x0 x1 x2 x3 zr hz kr hk gq hq gk hg h s
  pointwise [val_main_v62, val_main_v61, val_main_v60, val_main_cst_15, val_main_v59]
  have hs : (∑ j', Real.exp (sc (zrow zr s h) (krow kr h) gq gk j' - M)) ≠ 0 := (exps_pos _).ne'
  simp (disch := exact hs) only [hM, sum_coe, div_coe]
  exact congrArg _ (prob_shift (fun j => sc (zrow zr s h) (krow kr h) gq gk j) M j)

include he in
theorem ref_dm (h : Fin 4) (s : Fin 4096) (d : Fin 128) :
    val_main_v72 (F := Ideal) x4 (ix3 h d s) = (erow er s h d : EReal) := by
  pointwise [val_main_v69, val_main_v70, val_main_v71, val_main_v72]
  simp (disch := omega) only [he]
  rfl

include hk he in
theorem ref_dp (h : Fin 4) (s : Fin 4096) (j : Fin 256) :
    val_main_v73 (F := Ideal) x1 x4 (ix3 h s j) = (dpr (vrow kr h) (erow er s h) j : EReal) := by
  pointwise [val_main_v2, val_main_v17, val_main_v73]
  simp (disch := omega) only [ref_dm x4 er he, hk, ← EReal.coe_mul, sum_coe]
  rfl

include hz hk hq hg he in
theorem ref_ds (h : Fin 4) (s : Fin 4096) (j : Fin 256) :
    val_main_v89 (F := Ideal) x0 x1 x2 x3 x4 (ix3 h s j)
      = (dsc (zrow zr s h) (krow kr h) (vrow kr h) gq gk (erow er s h) j : EReal) := by
  obtain ⟨M, hM⟩ := ref_e x0 x1 x2 x3 zr hz kr hk gq hq gk hg h s
  pointwise [val_main_cst_15, val_main_v59, val_main_v60, val_main_v63, val_main_cst_16, val_main_v64, val_main_v65, val_main_v76,
    val_main_v77, val_main_v78, val_main_cst_17, val_main_v79, val_main_v80, val_main_v81, val_main_v82, val_main_v83,
    val_main_cst_18, val_main_v84, val_main_v85, val_main_v86, val_main_v87, val_main_cst_19, val_main_v88, val_main_v89]
  have hs : (∑ j', Real.exp (sc (zrow zr s h) (krow kr h) gq gk j' - M)) ≠ 0 := (exps_pos _).ne'
  have hl : (∑ j', Real.exp (sc (zrow zr s h) (krow kr h) gq gk j' - M))
      * ∑ j', Real.exp (sc (zrow zr s h) (krow kr h) gq gk j' - M) ≠ 0 := mul_ne_zero hs hs
  simp only [Finset.univ_unique, Finset.sum_singleton]
  simp (disch := first | exact hs | exact hl) only [hM, ref_dp x1 x4 kr hk er he, lit_scale, one_coe, sum_coe, ← EReal.coe_mul,
    div_coe, ← EReal.coe_neg, ← EReal.coe_add]
  refine congrArg _ ?_
  unfold dsc
  simp only [pr, ← prob_shift (fun j => sc (zrow zr s h) (krow kr h) gq gk j) M]
  exact congrArg (· * scale) (prob_grad _ _ _ hs _)

include hz hk hq hg he in
theorem ref_dqn (s : Fin 4096) (h : Fin 4) (d : Fin 128) :
    val_main_v93 (F := Ideal) x0 x1 x2 x3 x4 (ix3 s h d)
      = (dqn (zrow zr s h) (krow kr h) (vrow kr h) gq gk (erow er s h) d : EReal) := by
  pointwise [val_main_v92, val_main_v93]
  simp only [ref_ds x0 x1 x2 x3 x4 zr hz kr hk gq hq gk hg er he, ref_kn x1 x3 kr hk gk hg, ← EReal.coe_mul, sum_coe]
  rfl

include hz hk hq hg he in
theorem ref_dz (s : Fin 4096) (h : Fin 4) (d : Fin 128) :
    val_main_v113 (F := Ideal) x0 x1 x2 x3 x4 (ix3 s h d)
      = (dz (zrow zr s h) (krow kr h) (vrow kr h) gq gk (erow er s h) d : EReal) := by
  have hr := eps_pos
  pointwise [val_main_v0, val_main_v18, val_main_v19, val_main_cst_2, val_main_v20,
    val_main_v21, val_main_cst_3, val_main_v22, val_main_v23, val_main_cst_4, val_main_v24, val_main_v25, val_main_v26,
    val_main_v27, val_main_cst_5, val_main_v28, val_main_v29, val_main_v32, val_main_v97, val_main_v98, val_main_v100,
    val_main_cst_22, val_main_v101, val_main_v102, val_main_v103, val_main_v104, val_main_v105, val_main_cst_23, val_main_v106,
    val_main_v107, val_main_cst_24, val_main_v108, val_main_v109, val_main_v110, val_main_v111, val_main_v112, val_main_v113]
  simp only [Finset.univ_unique, Finset.sum_singleton]
  simp (disch := first | omega | positivity | norm_num) only [hz, hq, ref_dqn x0 x1 x2 x3 x4 zr hz kr hk gq hq gk hg er he,
    lit_128, lit_eps, lit_neg_half, ← EReal.coe_mul, ← EReal.coe_add, sum_coe, sq_real, div_coe, rsqrt_coe]
  exact congrArg _ (rms_grad (zrow zr s h) (dqn (zrow zr s h) (krow kr h) (vrow kr h) gq gk (erow er s h)) gq d).symm

/-! The reference's four results. -/

/-- The columns that the call leaves alone. -/
theorem ref_out0 (x5 : FVec Ideal S4096x3584 .bf16) (s : Fin 4096) (n : Fin 3584) (hn : n.val < 3072) :
    val_main_v117 (F := Ideal) x0 x1 x2 x3 x4 x5 (ix2 s n) = x5 (ix2 s n) := by
  unfold val_main_v117 val_main_v116 val_main_v115
  pointwise
  rw [dif_pos hn]

include hz hk hq hg he in
theorem ref_out1 (x5 : FVec Ideal S4096x3584 .bf16) (s : Fin 4096) (h : Fin 4) (d : Fin 128) (n : Fin 3584)
    (hn : n.val = 3072 + (h.val * 128 + d.val)) :
    val_main_v117 (F := Ideal) x0 x1 x2 x3 x4 x5 (ix2 s n)
      = (dz (zrow zr s h) (krow kr h) (vrow kr h) gq gk (erow er s h) d : EReal) := by
  have hl : 3072 + (h.val * 128 + d.val) < 3584 := by omega
  obtain rfl : n = ⟨3072 + (h.val * 128 + d.val), hl⟩ := Fin.ext hn
  have h1 : ¬ 3072 + (h.val * 128 + d.val) < 3072 := by omega
  unfold val_main_v117 val_main_v116 val_main_v115 val_main_v114
  pointwise
  exact ref_dz x0 x1 x2 x3 x4 zr hz kr hk gq hq gk hg er he s h d

include hz hk hq hg he in
theorem ref_dkn (j : Fin 256) (h : Fin 4) (d : Fin 128) (n : Fin 512) (hn : n.val = h.val * 128 + d.val) :
    val_main_v118 (F := Ideal) x0 x1 x2 x3 x4 (ix2 j n)
      = ((∑ s : Fin 4096, dsc (zrow zr s h) (krow kr h) (vrow kr h) gq gk (erow er s h) j * qn (zrow zr s h) gq d : ℝ) : EReal) := by
  have hl : h.val * 128 + d.val < 512 := by omega
  obtain rfl : n = ⟨h.val * 128 + d.val, hl⟩ := Fin.ext hn
  pointwise [val_main_v90, val_main_v91, val_main_v118]
  simp only [ref_ds x0 x1 x2 x3 x4 zr hz kr hk gq hq gk hg er he, ref_qn x0 x2 zr hz gq hq, ← EReal.coe_mul, sum_coe]

include hz hk hq hg he in
theorem ref_dv (j : Fin 256) (h : Fin 4) (d : Fin 128) (n : Fin 512) (hn : n.val = h.val * 128 + d.val) :
    val_main_v119 (F := Ideal) x0 x1 x2 x3 x4 (ix2 j n)
      = ((∑ s : Fin 4096, pr (zrow zr s h) (krow kr h) gq gk j * erow er s h d : ℝ) : EReal) := by
  have hl : h.val * 128 + d.val < 512 := by omega
  obtain rfl : n = ⟨h.val * 128 + d.val, hl⟩ := Fin.ext hn
  pointwise [val_main_v74, val_main_v75, val_main_v119]
  simp only [ref_dm x4 er he, ref_p x0 x1 x2 x3 zr hz kr hk gq hq gk hg, ← EReal.coe_mul, sum_coe]
  exact congrArg _ (Finset.sum_congr rfl fun s _ => mul_comm _ _)

include hz hk hq hg he in
theorem ref_dg (d : Fin 128) :
    val_main_v120 (F := Ideal) x0 x1 x2 x3 x4 (ix2 0 d)
      = ((∑ s : Fin 4096, ∑ h : Fin 4, dqn (zrow zr s h) (krow kr h) (vrow kr h) gq gk (erow er s h) d * hat (zrow zr s h) d : ℝ)
          : EReal) := by
  pointwise [hostReduceAdd_01, val_main_v94, val_main_cst_20, val_main_v95, val_main_v96, val_main_cst_21, val_main_v99, val_main_v120]
  simp only [Finset.univ_unique, Finset.sum_singleton, ref_hat x0 zr hz, ref_dqn x0 x1 x2 x3 x4 zr hz kr hk gq hq gk hg er he,
    ← EReal.coe_mul, sum_coe]
  exact congrArg _ (Finset.sum_congr rfl fun s _ => Finset.sum_congr rfl fun h _ => mul_comm _ _)

end Cert.MemAttnProof
-- ==== Proof.MemSum.lean ====
/- The memory attention's gradient: what a grid point, a tile of 512 rows, leaves in the four results, in real numbers. -/
module

public import proofs.«01_k».proof.Proof.MemPoint
public import proofs.«01_k».proof.Proof.MemRef
public import Idealize.ShloMosaic.Lib.Pipeline.ReadBack

@[expose] public section

set_option maxRecDepth 16384

noncomputable section

namespace Cert.MemAttnProof

open Idealize.ShloMosaic Idealize.ShloMosaic.TcCoe Idealize.SL.Sem
open Idealize.ShloMosaic.Pipeline (Dat)
open Cert.Lift
open Cert.MemAttnIdeal Cert.MemAttnIdeal.Gen

/-! ## The four heads are one computation

    The kernel's heads differ only in how their values are named, so each head's store is the first head's. -/

section Heads
variable (z : FVec Ideal S512x128 .f32) (k v : FVec Ideal S256x128 .f32) (g b : FVec Ideal S1x128 .f32)
  (e : FVec Ideal S512x128 .bf16) (o : FVec Ideal S256x128 .f32) (q : FVec Ideal S1x128 .f32)

/-- The scale's word. -/
def word : Ideal .f32 := FloatOps.ofBits .f32 1035273459#32

/-- What a head stores: the gradients of the values, of the normed keys, of the query norm's gain, and of the queries. -/
def headV : FVec Ideal S256x128 .f32 := k0_pay13 (k0_pay11 z k b g) word e o
def headK : FVec Ideal S256x128 .f32 := k0_pay16 (k0_pay9 v) (k0_pay10 z g) (k0_pay11 z k b g) word e o
def headG : FVec Ideal S1x128 .f32 :=
  k0_pay19 (k0_pay17 q) (k0_pay18 (k0_pay7 z) (k0_pay8 k b) (k0_pay9 v) (k0_pay11 z k b g) word e)
def headZ : FVec Ideal S512x128 .bf16 :=
  k0_pay20 (k0_pay6 z) (k0_pay7 z) (k0_pay15 (k0_pay8 k b) (k0_pay9 v) (k0_pay11 z k b g) word e) g

theorem v0 : k0_pay13 (k0_pay11 z k b g) (FloatOps.ofBits .f32 1035273459#32) e o = headV z k g b e o := rfl
theorem v1 : k0_pay27 (k0_pay22 z) k (k0_pay23 k) b g e o = headV z k g b e o := rfl
theorem v2 : k0_pay41 (k0_pay40 z (k0_pay34 z) k b g) e o = headV z k g b e o := rfl
theorem v3 : k0_pay55 (k0_pay50 z) (k0_pay51 k b) g e o = headV z k g b e o := rfl

theorem k0 : k0_pay16 (k0_pay9 v) (k0_pay10 z g) (k0_pay11 z k b g) (FloatOps.ofBits .f32 1035273459#32) e o = headK z k v g b e o := rfl
theorem k1 : k0_pay31 (k0_pay25 (k0_pay22 z) g) (k0_pay28 (k0_pay22 z) k (k0_pay23 k) b v g e) o = headK z k v g b e o := rfl
theorem k2 : k0_pay44 (k0_pay38 v) (k0_pay39 z (k0_pay34 z) g) (k0_pay40 z (k0_pay34 z) k b g) e o = headK z k v g b e o := rfl
theorem k3 : k0_pay58 (k0_pay50 z) (k0_pay51 k b) (k0_pay52 v) g e o = headK z k v g b e o := rfl

theorem g0 : k0_pay19 (k0_pay17 q) (k0_pay18 (k0_pay7 z) (k0_pay8 k b) (k0_pay9 v) (k0_pay11 z k b g) (FloatOps.ofBits .f32 1035273459#32) e)
    = headG z k v g b e q := rfl
theorem g1 : k0_pay32 (k0_pay22 z) (k0_pay24 k (k0_pay23 k) b) (k0_pay28 (k0_pay22 z) k (k0_pay23 k) b v g e) q
    = headG z k v g b e q := rfl
theorem g2 : k0_pay45 (k0_pay36 z (k0_pay34 z)) (k0_pay37 k b) (k0_pay38 v) (k0_pay40 z (k0_pay34 z) k b g) e q
    = headG z k v g b e q := rfl
theorem g3 : k0_pay1 (k0_pay50 z) (k0_pay57 (k0_pay50 z) (k0_pay51 k b) (k0_pay52 v) g e) q = headG z k v g b e q := rfl

theorem z0 : k0_pay20 (k0_pay6 z) (k0_pay7 z) (k0_pay15 (k0_pay8 k b) (k0_pay9 v) (k0_pay11 z k b g) (FloatOps.ofBits .f32 1035273459#32) e) g
    = headZ z k v g b e := rfl
theorem z1 : k0_pay33 (k0_pay21 z) (k0_pay22 z) (k0_pay24 k (k0_pay23 k) b) (k0_pay28 (k0_pay22 z) k (k0_pay23 k) b v g e) g
    = headZ z k v g b e := rfl
theorem z2 : k0_pay48 (k0_pay35 (k0_pay34 z)) (k0_pay36 z (k0_pay34 z))
      (k0_pay46 (k0_pay37 k b) (k0_pay38 v) (k0_pay40 z (k0_pay34 z) k b g) e g)
      (k0_pay47 (k0_pay36 z (k0_pay34 z)) (k0_pay37 k b) (k0_pay38 v) (k0_pay40 z (k0_pay34 z) k b g) e g)
    = headZ z k v g b e := rfl
theorem z3 : k0_pay2 (k0_pay49 z) (k0_pay50 z) (k0_pay57 (k0_pay50 z) (k0_pay51 k b) (k0_pay52 v) g e) g = headZ z k v g b e := rfl

end Heads

/-! ## The blocks of a grid point -/

variable (m : (ℓ : Loc nD τ sig) → Buf (Elt Ideal) ℓ)

theorem idx : ∀ t : Fin cfg0.N, win0_0.index t = ![t.val, 6] ∧ win0_1.index t = ![0, 0] ∧ win0_2.index t = ![0, 0]
    ∧ win0_3.index t = ![0, 0] ∧ win0_4.index t = ![t.val, 3] ∧ win0_5.index t = ![t.val, 6] ∧ win0_6.index t = ![0, 0]
    ∧ win0_7.index t = ![0, 0] ∧ win0_8.index t = ![0, 0] :=
  (by decide +kernel : ∀ t : Fin grid0.N, _)

/-- Row `r` of the `t`-th block of 512 rows. -/
def row (t : Fin cfg0.N) (r : Fin 512) : Fin 4096 :=
  ⟨512 * t.val + r, by have := lt_of_lt_of_eq t.isLt N_0; omega⟩

theorem iblk0 (c : Dev nD) (t : Fin cfg0.N) (r : Fin 512) (d : Fin 512) :
    iblk m c 0 t (ix2 r d) = m ((c : Thread nD τ).loc main_arg0) (ix2 (row t r) ⟨3072 + d, by omega⟩) := by
  blk_ext [iblk, V, row, idx t]

theorem iblk1 (c : Dev nD) (t : Fin cfg0.N) : iblk m c 1 t = m ((c : Thread nD τ).loc main_arg1) := by
  blk_ext! [iblk, V, idx t]

theorem iblk2 (c : Dev nD) (t : Fin cfg0.N) (d : Fin 128) :
    iblk m c 2 t (ix2 0 d) = m ((c : Thread nD τ).loc main_arg2) (ix1 d) := by
  blk_simp [iblk]
  entry_read
  pointwise
  blk_ext [idx t]

theorem iblk3 (c : Dev nD) (t : Fin cfg0.N) (d : Fin 128) :
    iblk m c 3 t (ix2 0 d) = m ((c : Thread nD τ).loc main_arg3) (ix1 d) := by
  blk_simp [iblk]
  entry_read
  pointwise
  blk_ext [idx t]

theorem iblk4 (c : Dev nD) (t : Fin cfg0.N) (r : Fin 512) (d : Fin 512) :
    iblk m c 4 t (ix2 r d) = m ((c : Thread nD τ).loc main_arg4) (ix2 (row t r) ⟨1536 + d, by omega⟩) := by
  blk_ext [iblk, V, row, idx t]

/-! ## A head of a grid point, in real numbers -/

variable (c : Dev nD)
  (zr : ℕ → ℕ → ℝ) (hz : ∀ s n (hn : n < 3584), 3072 ≤ n → m ((c : Thread nD τ).loc main_arg0) (ix2 s ⟨n, hn⟩) = (zr s n : EReal))
  (kr : ℕ → ℕ → ℝ) (hk : ∀ s n hn, m ((c : Thread nD τ).loc main_arg1) (ix2 s ⟨n, hn⟩) = (kr s n : EReal))
  (gq : Fin 128 → ℝ) (hq : ∀ d, m ((c : Thread nD τ).loc main_arg2) (ix1 d) = (gq d : EReal))
  (gk : Fin 128 → ℝ) (hg : ∀ d, m ((c : Thread nD τ).loc main_arg3) (ix1 d) = (gk d : EReal))
  (er : ℕ → ℕ → ℝ) (he : ∀ s n (hn : n < 2048), 1536 ≤ n → m ((c : Thread nD τ).loc main_arg4) (ix2 s ⟨n, hn⟩) = (er s n : EReal))
  (t : Fin cfg0.N) (h o p : ℕ) (ho : o = h * 128) (hp : p = 512 + h * 128) (hh : h < 4)

include hz ho hh in
theorem tile_z (inb) (s : Fin 512) (d : Fin 128) :
    View.ld (iblk m c 0 t) (Rect.unit (s := S512x512) ![0, o] ![512, 128] inb) (ix2 s d) = (zrow zr (row t s) h d : EReal) := by
  subst ho
  refine Eq.trans (View.ld_unit_apply_of _ _ _ _ _ (ix2 s ⟨h * 128 + d, by omega⟩) fun a => ?_) ?_
  · fin_cases a <;> simp
  · rw [iblk0]; exact hz _ _ _ (by omega)

include hk ho hh in
theorem tile_k (inb) (s : Fin 256) (d : Fin 128) :
    View.ld (iblk m c 1 t) (Rect.unit (s := S256x1024) ![0, o] ![256, 128] inb) (ix2 s d) = (krow kr h s d : EReal) := by
  subst ho
  refine Eq.trans (View.ld_unit_apply_of _ _ _ _ _ (ix2 s ⟨h * 128 + d, by omega⟩) fun a => ?_) ?_
  · fin_cases a <;> simp
  · rw [iblk1]; exact hk _ _ _

include hk hp hh in
theorem tile_v (inb) (s : Fin 256) (d : Fin 128) :
    View.ld (iblk m c 1 t) (Rect.unit (s := S256x1024) ![0, p] ![256, 128] inb) (ix2 s d) = (vrow kr h s d : EReal) := by
  subst hp
  refine Eq.trans (View.ld_unit_apply_of _ _ _ _ _ (ix2 s ⟨512 + (h * 128 + d), by omega⟩) fun a => ?_) ?_
  · fin_cases a
    · simp
    · simp [add_assoc]
  · rw [iblk1]; exact hk _ _ _

include he ho hh in
theorem tile_e (inb) (s : Fin 512) (d : Fin 128) :
    View.ld (iblk m c 4 t) (Rect.unit (s := S512x512) ![0, o] ![512, 128] inb) (ix2 s d) = (erow er (row t s) h d : EReal) := by
  subst ho
  refine Eq.trans (View.ld_unit_apply_of _ _ _ _ _ (ix2 s ⟨h * 128 + d, by omega⟩) fun a => ?_) ?_
  · fin_cases a <;> simp
  · rw [iblk4]; exact he _ _ _ (by omega)

include hz hk hq hg he ho hh in
theorem headV_at (i0 i1 i4) (q : FVec Ideal S256x128 .f32) (j : Fin 256) (d : Fin 128) :
    headV (View.ld (iblk m c 0 t) (Rect.unit (s := S512x512) ![0, o] ![512, 128] i0))
        (View.ld (iblk m c 1 t) (Rect.unit (s := S256x1024) ![0, o] ![256, 128] i1)) (iblk m c 2 t) (iblk m c 3 t)
        (View.ld (iblk m c 4 t) (Rect.unit (s := S512x512) ![0, o] ![512, 128] i4)) q (ix2 j d)
      = q (ix2 j d) + ((∑ s, pr (zrow zr (row t s) h) (krow kr h) gq gk j * erow er (row t s) h d : ℝ) : EReal) := by
  refine dv_at _ _ _ gq gk _ (tile_e m c er he t h o ho hh i4) _ ?_ _ lit_scale q j d
  exact dot_at _ _ _ _ _ (tile_z m c zr hz t h o ho hh i0) _ (tile_k m c kr hk t h o ho hh i1) gq
    (fun d => (iblk2 m c t d).trans (hq d)) gk (fun d => (iblk3 m c t d).trans (hg d))

include hz hk hq hg he ho hp hh in
theorem headK_at (i0 i1 i2 i4) (q : FVec Ideal S256x128 .f32) (j : Fin 256) (d : Fin 128) :
    headK (View.ld (iblk m c 0 t) (Rect.unit (s := S512x512) ![0, o] ![512, 128] i0))
        (View.ld (iblk m c 1 t) (Rect.unit (s := S256x1024) ![0, o] ![256, 128] i1))
        (View.ld (iblk m c 1 t) (Rect.unit (s := S256x1024) ![0, p] ![256, 128] i2)) (iblk m c 2 t) (iblk m c 3 t)
        (View.ld (iblk m c 4 t) (Rect.unit (s := S512x512) ![0, o] ![512, 128] i4)) q (ix2 j d)
      = q (ix2 j d) + ((∑ s, dsc (zrow zr (row t s) h) (krow kr h) (vrow kr h) gq gk (erow er (row t s) h) j
          * qn (zrow zr (row t s) h) gq d : ℝ) : EReal) := by
  refine dkn_at _ _ _ _ _ (tile_z m c zr hz t h o ho hh i0) _ _ (tile_v m c kr hk t h p hp hh i2) gq
    (fun d => (iblk2 m c t d).trans (hq d)) gk _ (tile_e m c er he t h o ho hh i4) _ ?_ _ lit_scale q j d
  exact dot_at _ _ _ _ _ (tile_z m c zr hz t h o ho hh i0) _ (tile_k m c kr hk t h o ho hh i1) gq
    (fun d => (iblk2 m c t d).trans (hq d)) gk (fun d => (iblk3 m c t d).trans (hg d))

include hz hk hq hg he ho hp hh in
theorem headG_at (i0 i1 i2 i4) (q : FVec Ideal S1x128 .f32) (d : Fin 128) :
    headG (View.ld (iblk m c 0 t) (Rect.unit (s := S512x512) ![0, o] ![512, 128] i0))
        (View.ld (iblk m c 1 t) (Rect.unit (s := S256x1024) ![0, o] ![256, 128] i1))
        (View.ld (iblk m c 1 t) (Rect.unit (s := S256x1024) ![0, p] ![256, 128] i2)) (iblk m c 2 t) (iblk m c 3 t)
        (View.ld (iblk m c 4 t) (Rect.unit (s := S512x512) ![0, o] ![512, 128] i4)) q (ix2 0 d)
      = q (ix2 0 d) + ((∑ s, dqn (zrow zr (row t s) h) (krow kr h) (vrow kr h) gq gk (erow er (row t s) h) d
          * hat (zrow zr (row t s) h) d : ℝ) : EReal) := by
  refine dg_at _ _ _ _ _ _ (tile_z m c zr hz t h o ho hh i0) _ (tile_k m c kr hk t h o ho hh i1) _ (tile_v m c kr hk t h p hp hh i2)
    gq gk (fun d => (iblk3 m c t d).trans (hg d)) _ (tile_e m c er he t h o ho hh i4) _ ?_ _ lit_scale q d
  exact dot_at _ _ _ _ _ (tile_z m c zr hz t h o ho hh i0) _ (tile_k m c kr hk t h o ho hh i1) gq
    (fun d => (iblk2 m c t d).trans (hq d)) gk (fun d => (iblk3 m c t d).trans (hg d))

include hz hk hq hg he ho hp hh in
theorem headZ_at (i0 i1 i2 i4) (s : Fin 512) (d : Fin 128) :
    headZ (View.ld (iblk m c 0 t) (Rect.unit (s := S512x512) ![0, o] ![512, 128] i0))
        (View.ld (iblk m c 1 t) (Rect.unit (s := S256x1024) ![0, o] ![256, 128] i1))
        (View.ld (iblk m c 1 t) (Rect.unit (s := S256x1024) ![0, p] ![256, 128] i2)) (iblk m c 2 t) (iblk m c 3 t)
        (View.ld (iblk m c 4 t) (Rect.unit (s := S512x512) ![0, o] ![512, 128] i4)) (ix2 s d)
      = (dz (zrow zr (row t s) h) (krow kr h) (vrow kr h) gq gk (erow er (row t s) h) d : EReal) := by
  refine dz_at _ _ _ _ _ _ _ (tile_z m c zr hz t h o ho hh i0) _ (tile_k m c kr hk t h o ho hh i1) _ (tile_v m c kr hk t h p hp hh i2)
    gq (fun d => (iblk2 m c t d).trans (hq d)) gk (fun d => (iblk3 m c t d).trans (hg d)) _ (tile_e m c er he t h o ho hh i4) _ ?_ _
    lit_scale s d
  exact dot_at _ _ _ _ _ (tile_z m c zr hz t h o ho hh i0) _ (tile_k m c kr hk t h o ho hh i1) gq
    (fun d => (iblk2 m c t d).trans (hq d)) gk (fun d => (iblk3 m c t d).trans (hg d))

end Cert.MemAttnProof
-- ==== Proof.MemAttn.lean ====
/- The gradient of the memory's attention (`_mem_bwd`): the kernel's values are the reference's.

   Each grid point takes 512 rows. It norms the rows' queries and the memory's keys, forms the probabilities again, and leaves
   the rows' own gradient in its block; the gradients of the normed keys, of the values and of the query norm's gain are added
   up over the points. -/
module

public import proofs.«01_k».proof.Defs
public import proofs.«01_k».proof.Proof.Gen.Pre_finite_mem
public import proofs.«01_k».proof.Proof.Gen.MemAttnRefIdeal.Run
public import proofs.«01_k».proof.Proof.MemSum

@[expose] public section

set_option maxRecDepth 16384

noncomputable section

namespace Cert.MemAttnProof

open Idealize.ShloMosaic Idealize.ShloMosaic.TcCoe Idealize.SL.Sem
open Idealize.ShloMosaic.Pipeline (Dat)
open Cert.Lift

/-- Below four stores that cover an index the stores before them are not seen. -/
theorem canon_four {Val : EltTy → Type} [∀ e, Nonempty (Val e)] {S : Shape} {e : EltTy} (a b c d : View.Piece Val S e)
    (L : List (View.Piece Val S e)) (y : S.Idx) (h : ∃ p ∈ [a, b, c, d], y ∈ p.1.set) :
    View.canon (a :: b :: c :: d :: L) y = View.canon [a, b, c, d] y := by
  have key : ∀ (K : List (View.Piece Val S e)), (∃ p ∈ K, y ∈ p.1.set) → View.canon (K ++ L) y = View.canon K y := by
    intro K
    induction K with
    | nil => rintro ⟨p, hp, _⟩; simp at hp
    | cons q K ih =>
      intro hK
      by_cases hm : y ∈ q.1.set
      · obtain ⟨x, rfl⟩ := q.1.exists_idx_of_mem hm
        rw [List.cons_append, show q.1.idx x = q.1.emb x from rfl, View.canon_cons_emb, View.canon_cons_emb]
      · rw [List.cons_append, View.canon_cons_of_not_mem _ _ hm, View.canon_cons_of_not_mem _ _ hm]
        refine ih ?_
        obtain ⟨r, hr, hy⟩ := hK
        rcases List.mem_cons.mp hr with rfl | hr'
        · exact absurd hy hm
        · exact ⟨r, hr', hy⟩
  exact key [a, b, c, d] h

section Kernel
open Cert.MemAttnIdeal Cert.MemAttnIdeal.Gen

variable (m : (ℓ : Loc nD τ sig) → Buf (Elt Ideal) ℓ)

variable (c : Dev nD)
  (zr : ℕ → ℕ → ℝ) (hz : ∀ s n (hn : n < 3584), 3072 ≤ n → m ((c : Thread nD τ).loc main_arg0) (ix2 s ⟨n, hn⟩) = (zr s n : EReal))
  (kr : ℕ → ℕ → ℝ) (hk : ∀ s n hn, m ((c : Thread nD τ).loc main_arg1) (ix2 s ⟨n, hn⟩) = (kr s n : EReal))
  (gq : Fin 128 → ℝ) (hq : ∀ d, m ((c : Thread nD τ).loc main_arg2) (ix1 d) = (gq d : EReal))
  (gk : Fin 128 → ℝ) (hg : ∀ d, m ((c : Thread nD τ).loc main_arg3) (ix1 d) = (gk d : EReal))
  (er : ℕ → ℕ → ℝ) (he : ∀ s n (hn : n < 2048), 1536 ≤ n → m ((c : Thread nD τ).loc main_arg4) (ix2 s ⟨n, hn⟩) = (er s n : EReal))

/-- What one row adds to the gradient of a normed key and of a value in a column, and to the gain's in a lane. -/
def rowK (s : ℕ) (j : Fin 256) (n : ℕ) : ℝ :=
  dsc (zrow zr s (n / 128)) (krow kr (n / 128)) (vrow kr (n / 128)) gq gk (erow er s (n / 128)) j
    * qn (zrow zr s (n / 128)) gq ⟨n % 128, Nat.mod_lt _ (by norm_num)⟩
def rowV (s : ℕ) (j : Fin 256) (n : ℕ) : ℝ :=
  pr (zrow zr s (n / 128)) (krow kr (n / 128)) gq gk j * erow er s (n / 128) ⟨n % 128, Nat.mod_lt _ (by norm_num)⟩
def rowG (s h : ℕ) (d : Fin 128) : ℝ :=
  dqn (zrow zr s h) (krow kr h) (vrow kr h) gq gk (erow er s h) d * hat (zrow zr s h) d

variable (t : Fin cfg0.N) (h o p : ℕ) (ho : o = h * 128) (hp : p = 512 + h * 128) (hh : h < 4)

theorem ld_at (O : Vec Ideal S256x512 .f32) (inb) (j : Fin 256) (n : Fin 512) (d : Fin 128) (hn : n.val = o + d.val) :
    View.ld O (Rect.unit (s := S256x512) ![0, o] ![256, 128] inb) (ix2 j d) = O (ix2 j n) := by
  refine View.ld_unit_apply_of _ _ _ _ _ _ fun a => ?_
  fin_cases a
  · simp
  · simpa using hn

include hz hk hq hg he ho hp hh in
theorem pieceK (O : Vec Ideal S256x512 .f32) (i0 i1 i2 i4 i6) (j j' : Fin 256) (n : Fin 512) (d : Fin 128)
    (hj : j.val = j'.val) (hn : n.val = o + d.val) :
    headK (View.ld (iblk m c 0 t) (Rect.unit (s := S512x512) ![0, o] ![512, 128] i0))
        (View.ld (iblk m c 1 t) (Rect.unit (s := S256x1024) ![0, o] ![256, 128] i1))
        (View.ld (iblk m c 1 t) (Rect.unit (s := S256x1024) ![0, p] ![256, 128] i2)) (iblk m c 2 t) (iblk m c 3 t)
        (View.ld (iblk m c 4 t) (Rect.unit (s := S512x512) ![0, o] ![512, 128] i4))
        (View.ld O (Rect.unit (s := S256x512) ![0, o] ![256, 128] i6)) (ix2 j' d)
      = O (ix2 j n) + ((∑ s : Fin 512, rowK zr kr gq gk er (row t s) j n : ℝ) : EReal) := by
  obtain rfl := Fin.ext hj
  rw [headK_at m c zr hz kr hk gq hq gk hg er he t h o p ho hp hh, ld_at o O i6 j n d hn]
  have e1 : n.val / 128 = h := by omega
  have e2 : (⟨n.val % 128, Nat.mod_lt _ (by norm_num)⟩ : Fin 128) = d := Fin.ext (by show n.val % 128 = d.val; omega)
  unfold rowK
  rw [e1, e2]

include hz hk hq hg he ho hh in
theorem pieceV (O : Vec Ideal S256x512 .f32) (i0 i1 i4 i6) (j j' : Fin 256) (n : Fin 512) (d : Fin 128)
    (hj : j.val = j'.val) (hn : n.val = o + d.val) :
    headV (View.ld (iblk m c 0 t) (Rect.unit (s := S512x512) ![0, o] ![512, 128] i0))
        (View.ld (iblk m c 1 t) (Rect.unit (s := S256x1024) ![0, o] ![256, 128] i1)) (iblk m c 2 t) (iblk m c 3 t)
        (View.ld (iblk m c 4 t) (Rect.unit (s := S512x512) ![0, o] ![512, 128] i4))
        (View.ld O (Rect.unit (s := S256x512) ![0, o] ![256, 128] i6)) (ix2 j' d)
      = O (ix2 j n) + ((∑ s : Fin 512, rowV zr kr gq gk er (row t s) j n : ℝ) : EReal) := by
  obtain rfl := Fin.ext hj
  rw [headV_at m c zr hz kr hk gq hq gk hg er he t h o ho hh, ld_at o O i6 j n d hn]
  have e1 : n.val / 128 = h := by omega
  have e2 : (⟨n.val % 128, Nat.mod_lt _ (by norm_num)⟩ : Fin 128) = d := Fin.ext (by show n.val % 128 = d.val; omega)
  unfold rowV
  rw [e1, e2]

/-! ## What a grid point leaves -/

include hz hk hq hg he in
theorem dkn_first (h0 : t.val % 8 = 0) (j : Fin 256) (n : Fin 512) :
    (outsAt0 m c t.val t.isLt).2.1 (ix2 j n) = 0 + ((∑ s : Fin 512, rowK zr kr gq gk er (row t s) j n : ℝ) : EReal) := by
  rw [outsAt0_A m c t h0]
  frame_open
  simp (disch := decide) only [↓ View.readCov_skip, ↓ View.readCov_cons_toLoadRect, ↓ View.readCov_fill]
  frame_out
  simp only [k0, k1, k2, k3]
  have z0 : (0 : EReal) = k0_pay3 (F := Ideal) (ix2 j n) := by pointwise [k0_pay3]
  rw [z0, canon_four _ _ _ _ _ _ (View.cover_of_tiledBy _ ![256, 128] (by sl_kernel_rfl) _)]
  canon_tiles x h using View.cover_of_tiledBy _ ![256, 128] (by sl_kernel_rfl) (ix2 j n)
  all_goals idx_vars x
  · exact pieceK m c zr hz kr hk gq hq gk hg er he t 3 384 896 rfl rfl (by norm_num) _ _ _ _ _ _ j x0 n x1 h0 h1
  · exact pieceK m c zr hz kr hk gq hq gk hg er he t 2 256 768 rfl rfl (by norm_num) _ _ _ _ _ _ j x0 n x1 h0 h1
  · exact pieceK m c zr hz kr hk gq hq gk hg er he t 1 128 640 rfl rfl (by norm_num) _ _ _ _ _ _ j x0 n x1 h0 h1
  · exact pieceK m c zr hz kr hk gq hq gk hg er he t 0 0 512 rfl rfl (by norm_num) _ _ _ _ _ _ j x0 n x1 h0 (by omega)

include hz hk hq hg he in
theorem dkn_next (h0 : ¬ t.val % 8 = 0) (j : Fin 256) (n : Fin 512) :
    (outsAt0 m c t.val t.isLt).2.1 (ix2 j n)
      = (outsAt0 m c (t.val - 1) (Nat.lt_of_le_of_lt (Nat.sub_le _ _) t.isLt)).2.1 (ix2 j n)
        + ((∑ s : Fin 512, rowK zr kr gq gk er (row t s) j n : ℝ) : EReal) := by
  rw [outsAt0_B m c t h0]
  frame_out
  simp only [k0, k1, k2, k3]
  canon_tiles x h using View.cover_of_tiledBy _ ![256, 128] (by sl_kernel_rfl) (ix2 j n)
  all_goals idx_vars x
  · exact pieceK m c zr hz kr hk gq hq gk hg er he t 3 384 896 rfl rfl (by norm_num) _ _ _ _ _ _ j x0 n x1 h0 h1
  · exact pieceK m c zr hz kr hk gq hq gk hg er he t 2 256 768 rfl rfl (by norm_num) _ _ _ _ _ _ j x0 n x1 h0 h1
  · exact pieceK m c zr hz kr hk gq hq gk hg er he t 1 128 640 rfl rfl (by norm_num) _ _ _ _ _ _ j x0 n x1 h0 h1
  · exact pieceK m c zr hz kr hk gq hq gk hg er he t 0 0 512 rfl rfl (by norm_num) _ _ _ _ _ _ j x0 n x1 h0 (by omega)

include hz hk hq hg he in
theorem dv_first (h0 : t.val % 8 = 0) (j : Fin 256) (n : Fin 512) :
    (outsAt0 m c t.val t.isLt).2.2.1 (ix2 j n) = 0 + ((∑ s : Fin 512, rowV zr kr gq gk er (row t s) j n : ℝ) : EReal) := by
  rw [outsAt0_A m c t h0]
  frame_open
  simp (disch := decide) only [↓ View.readCov_skip, ↓ View.readCov_cons_toLoadRect, ↓ View.readCov_fill]
  frame_out
  simp only [v0, v1, v2, v3]
  have z0 : (0 : EReal) = k0_pay4 (F := Ideal) (ix2 j n) := by pointwise [k0_pay4]
  rw [z0, canon_four _ _ _ _ _ _ (View.cover_of_tiledBy _ ![256, 128] (by sl_kernel_rfl) _)]
  canon_tiles x h using View.cover_of_tiledBy _ ![256, 128] (by sl_kernel_rfl) (ix2 j n)
  all_goals idx_vars x
  · exact pieceV m c zr hz kr hk gq hq gk hg er he t 3 384 rfl (by norm_num) _ _ _ _ _ j x0 n x1 h0 h1
  · exact pieceV m c zr hz kr hk gq hq gk hg er he t 2 256 rfl (by norm_num) _ _ _ _ _ j x0 n x1 h0 h1
  · exact pieceV m c zr hz kr hk gq hq gk hg er he t 1 128 rfl (by norm_num) _ _ _ _ _ j x0 n x1 h0 h1
  · exact pieceV m c zr hz kr hk gq hq gk hg er he t 0 0 rfl (by norm_num) _ _ _ _ _ j x0 n x1 h0 (by omega)

include hz hk hq hg he in
theorem dv_next (h0 : ¬ t.val % 8 = 0) (j : Fin 256) (n : Fin 512) :
    (outsAt0 m c t.val t.isLt).2.2.1 (ix2 j n)
      = (outsAt0 m c (t.val - 1) (Nat.lt_of_le_of_lt (Nat.sub_le _ _) t.isLt)).2.2.1 (ix2 j n)
        + ((∑ s : Fin 512, rowV zr kr gq gk er (row t s) j n : ℝ) : EReal) := by
  rw [outsAt0_B m c t h0]
  frame_out
  simp only [v0, v1, v2, v3]
  canon_tiles x h using View.cover_of_tiledBy _ ![256, 128] (by sl_kernel_rfl) (ix2 j n)
  all_goals idx_vars x
  · exact pieceV m c zr hz kr hk gq hq gk hg er he t 3 384 rfl (by norm_num) _ _ _ _ _ j x0 n x1 h0 h1
  · exact pieceV m c zr hz kr hk gq hq gk hg er he t 2 256 rfl (by norm_num) _ _ _ _ _ j x0 n x1 h0 h1
  · exact pieceV m c zr hz kr hk gq hq gk hg er he t 1 128 rfl (by norm_num) _ _ _ _ _ j x0 n x1 h0 h1
  · exact pieceV m c zr hz kr hk gq hq gk hg er he t 0 0 rfl (by norm_num) _ _ _ _ _ j x0 n x1 h0 (by omega)

/-- What the four heads add to the gain's gradient at one grid point. -/
def partG (t : Fin cfg0.N) (d : Fin 128) : ℝ := ∑ s : Fin 512, ∑ h : Fin 4, rowG zr kr gq gk er (row t s) h d

include hz hk hq hg he in
theorem gain_step (q : FVec Ideal S1x128 .f32) (d : Fin 128) (a0 a1 a2 a3 b0 b1 b2 b3 c0 c1 c2 c3 e0 e1 e2 e3) :
    headG (View.ld (iblk m c 0 t) (Rect.unit (s := S512x512) ![0, 384] ![512, 128] a3))
      (View.ld (iblk m c 1 t) (Rect.unit (s := S256x1024) ![0, 384] ![256, 128] b3))
      (View.ld (iblk m c 1 t) (Rect.unit (s := S256x1024) ![0, 896] ![256, 128] c3)) (iblk m c 2 t) (iblk m c 3 t)
      (View.ld (iblk m c 4 t) (Rect.unit (s := S512x512) ![0, 384] ![512, 128] e3))
      (headG (View.ld (iblk m c 0 t) (Rect.unit (s := S512x512) ![0, 256] ![512, 128] a2))
        (View.ld (iblk m c 1 t) (Rect.unit (s := S256x1024) ![0, 256] ![256, 128] b2))
        (View.ld (iblk m c 1 t) (Rect.unit (s := S256x1024) ![0, 768] ![256, 128] c2)) (iblk m c 2 t) (iblk m c 3 t)
        (View.ld (iblk m c 4 t) (Rect.unit (s := S512x512) ![0, 256] ![512, 128] e2))
        (headG (View.ld (iblk m c 0 t) (Rect.unit (s := S512x512) ![0, 128] ![512, 128] a1))
          (View.ld (iblk m c 1 t) (Rect.unit (s := S256x1024) ![0, 128] ![256, 128] b1))
          (View.ld (iblk m c 1 t) (Rect.unit (s := S256x1024) ![0, 640] ![256, 128] c1)) (iblk m c 2 t) (iblk m c 3 t)
          (View.ld (iblk m c 4 t) (Rect.unit (s := S512x512) ![0, 128] ![512, 128] e1))
          (headG (View.ld (iblk m c 0 t) (Rect.unit (s := S512x512) ![0, 0] ![512, 128] a0))
            (View.ld (iblk m c 1 t) (Rect.unit (s := S256x1024) ![0, 0] ![256, 128] b0))
            (View.ld (iblk m c 1 t) (Rect.unit (s := S256x1024) ![0, 512] ![256, 128] c0)) (iblk m c 2 t) (iblk m c 3 t)
            (View.ld (iblk m c 4 t) (Rect.unit (s := S512x512) ![0, 0] ![512, 128] e0)) q))) (ix2 0 d)
      = q (ix2 0 d) + (partG zr kr gq gk er t d : EReal) := by
  rw [headG_at m c zr hz kr hk gq hq gk hg er he t 3 384 896 rfl rfl (by norm_num),
    headG_at m c zr hz kr hk gq hq gk hg er he t 2 256 768 rfl rfl (by norm_num),
    headG_at m c zr hz kr hk gq hq gk hg er he t 1 128 640 rfl rfl (by norm_num),
    headG_at m c zr hz kr hk gq hq gk hg er he t 0 0 512 rfl rfl (by norm_num)]
  simp only [add_assoc, ← EReal.coe_add, ← Finset.sum_add_distrib]
  refine congrArg (fun r : ℝ => q (ix2 0 d) + (r : EReal)) (Finset.sum_congr rfl fun s _ => ?_)
  rw [Fin.sum_univ_four]
  unfold rowG
  simp only [Fin.val_zero, Fin.val_one, Fin.val_two, show ((3 : Fin 4) : ℕ) = 3 from rfl, add_assoc]

include hz hk hq hg he in
theorem dg_first (h0 : t.val % 8 = 0) (d : Fin 128) :
    (outsAt0 m c t.val t.isLt).2.2.2 (ix2 0 d) = 0 + (partG zr kr gq gk er t d : EReal) := by
  rw [outsAt0_A m c t h0]
  frame_open
  simp (disch := decide) only [↓ View.readCov_skip, ↓ View.readCov_cons_toLoadRect, ↓ View.readCov_fill]
  frame_out
  simp only [g0, g1, g2, g3]
  have z0 : (0 : EReal) = k0_pay5 (F := Ideal) (ix2 0 d) := by pointwise [k0_pay5]
  rw [z0]
  exact gain_step m c zr hz kr hk gq hq gk hg er he t _ d _ _ _ _ _ _ _ _ _ _ _ _ _ _ _ _

include hz hk hq hg he in
theorem dg_next (h0 : ¬ t.val % 8 = 0) (d : Fin 128) :
    (outsAt0 m c t.val t.isLt).2.2.2 (ix2 0 d)
      = (outsAt0 m c (t.val - 1) (Nat.lt_of_le_of_lt (Nat.sub_le _ _) t.isLt)).2.2.2 (ix2 0 d)
        + (partG zr kr gq gk er t d : EReal) := by
  rw [outsAt0_B m c t h0]
  frame_out
  simp only [g0, g1, g2, g3]
  exact gain_step m c zr hz kr hk gq hq gk hg er he t _ d _ _ _ _ _ _ _ _ _ _ _ _ _ _ _ _

/-! ## The arrays the points leave -/

/-- Eight points' sums of 512 rows are one sum of 4096 rows. -/
theorem rows_sum (f : ℕ → ℝ) : (∑ t : Fin cfg0.N, ((∑ s : Fin 512, f (row t s) : ℝ) : EReal)) = ((∑ s : Fin 4096, f s : ℝ) : EReal) := by
  rw [sum_coe]
  refine congrArg _ ?_
  refine Fin.sum_mul_add_congr (fun t r hl => ?_) (by rw [show cfg0.N = 8 from N_0])
  exact congrArg f (by show 512 * t.val + r.val = t.val * 512 + r.val; omega)

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)

include hz hk hq hg he in
theorem final6 : (dats m 0 c).arrAt 6 cfg0.N
    = MemAttnRefIdeal.Read.val_main_v118 (F := Ideal) (A0 m c) (A1 m c) (A2 m c) (A3 m c) (A4 m c) := by
  refine (dats m 0 c).arrAt_eq_of_after_last 6 t0_7 (by decide +kernel) _ fun i => ?_
  blk_simp
  rw [after0_6]
  idx_vars i
  rw [Pipeline.eq_sum_fin_of_reset_step_apply_last (fun n h i => (outsAt0 m c n h).2.1 (ix2 i.1 i.2)) 8 (fun _ => 0)
    (fun t i => ((∑ s : Fin 512, rowK zr kr gq gk er (row t s) i.1 i.2 : ℝ) : EReal))
    (fun t h i => dkn_first m c zr hz kr hk gq hq gk hg er he t h i.1 i.2)
    (fun t h i => dkn_next m c zr hz kr hk gq hq gk hg er he t h i.1 i.2) (le_of_eq N_0) t0_7 rfl (i0, i1), zero_add,
    rows_sum (fun s => rowK zr kr gq gk er s i0 i1)]
  exact (ref_dkn _ _ _ _ _ zr hz kr hk gq hq gk hg er he i0 ⟨i1.val / 128, by omega⟩ ⟨i1.val % 128, by omega⟩ i1
    (by show i1.val = i1.val / 128 * 128 + i1.val % 128; omega)).symm

include hz hk hq hg he in
theorem final7 : (dats m 0 c).arrAt 7 cfg0.N
    = MemAttnRefIdeal.Read.val_main_v119 (F := Ideal) (A0 m c) (A1 m c) (A2 m c) (A3 m c) (A4 m c) := by
  refine (dats m 0 c).arrAt_eq_of_after_last 7 t0_7 (by decide +kernel) _ fun i => ?_
  blk_simp
  rw [after0_7]
  idx_vars i
  rw [Pipeline.eq_sum_fin_of_reset_step_apply_last (fun n h i => (outsAt0 m c n h).2.2.1 (ix2 i.1 i.2)) 8 (fun _ => 0)
    (fun t i => ((∑ s : Fin 512, rowV zr kr gq gk er (row t s) i.1 i.2 : ℝ) : EReal))
    (fun t h i => dv_first m c zr hz kr hk gq hq gk hg er he t h i.1 i.2)
    (fun t h i => dv_next m c zr hz kr hk gq hq gk hg er he t h i.1 i.2) (le_of_eq N_0) t0_7 rfl (i0, i1), zero_add,
    rows_sum (fun s => rowV zr kr gq gk er s i0 i1)]
  exact (ref_dv _ _ _ _ _ zr hz kr hk gq hq gk hg er he i0 ⟨i1.val / 128, by omega⟩ ⟨i1.val % 128, by omega⟩ i1
    (by show i1.val = i1.val / 128 * 128 + i1.val % 128; omega)).symm

include hz hk hq hg he in
theorem final8 : (dats m 0 c).arrAt 8 cfg0.N
    = MemAttnRefIdeal.Read.val_main_v120 (F := Ideal) (A0 m c) (A1 m c) (A2 m c) (A3 m c) (A4 m c) := by
  refine (dats m 0 c).arrAt_eq_of_after_last 8 t0_7 (by decide +kernel) _ fun i => ?_
  blk_simp
  rw [after0_8]
  idx_vars i
  obtain rfl : i0 = 0 := Subsingleton.elim _ _
  rw [Pipeline.eq_sum_fin_of_reset_step_apply_last (fun n h d => (outsAt0 m c n h).2.2.2 (ix2 0 d)) 8 (fun _ => 0)
    (fun t d => (partG zr kr gq gk er t d : EReal))
    (fun t h d => dg_first m c zr hz kr hk gq hq gk hg er he t h d)
    (fun t h d => dg_next m c zr hz kr hk gq hq gk hg er he t h d) (le_of_eq N_0) t0_7 rfl i1, zero_add]
  unfold partG
  rw [rows_sum (fun s => ∑ h : Fin 4, rowG zr kr gq gk er s h i1)]
  exact (ref_dg _ _ _ _ _ zr hz kr hk gq hq gk hg er he i1).symm

theorem entry_dz : V m c (Pipeline.arrRef spec0 5) = A5 m c := by unfold V; after_results; try rfl

include hz hk hq hg he ho hp hh in
theorem pieceZ (s : Fin 4096) (n : Fin 3584) (i0 i1 i2 i4) (r : Fin 512) (d : Fin 128) (hs : s.val = t.val * 512 + r.val)
    (hn : n.val = 3072 + (h * 128 + d.val)) (x5 : FVec Ideal S4096x3584 .bf16) :
    headZ (View.ld (iblk m c 0 t) (Rect.unit (s := S512x512) ![0, o] ![512, 128] i0))
        (View.ld (iblk m c 1 t) (Rect.unit (s := S256x1024) ![0, o] ![256, 128] i1))
        (View.ld (iblk m c 1 t) (Rect.unit (s := S256x1024) ![0, p] ![256, 128] i2)) (iblk m c 2 t) (iblk m c 3 t)
        (View.ld (iblk m c 4 t) (Rect.unit (s := S512x512) ![0, o] ![512, 128] i4)) (ix2 r d)
      = MemAttnRefIdeal.Read.val_main_v117 (F := Ideal) (A0 m c) (A1 m c) (A2 m c) (A3 m c) (A4 m c) x5 (ix2 s n) := by
  have e : row t r = s := Fin.ext (by show 512 * t.val + r.val = s.val; omega)
  rw [headZ_at m c zr hz kr hk gq hq gk hg er he t h o p ho hp hh, e]
  exact (ref_out1 _ _ _ _ _ zr hz kr hk gq hq gk hg er he x5 s ⟨h, hh⟩ d n hn).symm

include hz hk hq hg he in
theorem tile_dz (y : Fin 512) (n : Fin 512) (s : Fin 4096) (q : Fin 3584) (hs : s.val = t.val * 512 + y.val)
    (hq' : q.val = 3072 + n.val) (x5 : FVec Ideal S4096x3584 .bf16) :
    (outsAt0 m c t.val t.isLt).1 (ix2 y n)
      = MemAttnRefIdeal.Read.val_main_v117 (F := Ideal) (A0 m c) (A1 m c) (A2 m c) (A3 m c) (A4 m c) x5 (ix2 s q) := by
  by_cases hc : t.val % 8 = 0
  · rw [outsAt0_A m c t hc]
    frame_out
    simp only [z0, z1, z2, z3]
    canon_tiles x h using View.cover_of_tiledBy _ ![512, 128] (by sl_kernel_rfl) (ix2 y n)
    all_goals idx_vars x
    · exact pieceZ m c zr hz kr hk gq hq gk hg er he t 3 384 896 rfl rfl (by norm_num) s q _ _ _ _ x0 x1 (by omega) (by omega) x5
    · exact pieceZ m c zr hz kr hk gq hq gk hg er he t 2 256 768 rfl rfl (by norm_num) s q _ _ _ _ x0 x1 (by omega) (by omega) x5
    · exact pieceZ m c zr hz kr hk gq hq gk hg er he t 1 128 640 rfl rfl (by norm_num) s q _ _ _ _ x0 x1 (by omega) (by omega) x5
    · exact pieceZ m c zr hz kr hk gq hq gk hg er he t 0 0 512 rfl rfl (by norm_num) s q _ _ _ _ x0 x1 (by omega) (by omega) x5
  · rw [outsAt0_B m c t hc]
    frame_out
    simp only [z0, z1, z2, z3]
    canon_tiles x h using View.cover_of_tiledBy _ ![512, 128] (by sl_kernel_rfl) (ix2 y n)
    all_goals idx_vars x
    · exact pieceZ m c zr hz kr hk gq hq gk hg er he t 3 384 896 rfl rfl (by norm_num) s q _ _ _ _ x0 x1 (by omega) (by omega) x5
    · exact pieceZ m c zr hz kr hk gq hq gk hg er he t 2 256 768 rfl rfl (by norm_num) s q _ _ _ _ x0 x1 (by omega) (by omega) x5
    · exact pieceZ m c zr hz kr hk gq hq gk hg er he t 1 128 640 rfl rfl (by norm_num) s q _ _ _ _ x0 x1 (by omega) (by omega) x5
    · exact pieceZ m c zr hz kr hk gq hq gk hg er he t 0 0 512 rfl rfl (by norm_num) s q _ _ _ _ x0 x1 (by omega) (by omega) x5

include hz hk hq hg he in
theorem final5 : (dats m 0 c).arrAt 5 cfg0.N
    = MemAttnRefIdeal.Read.val_main_v117 (F := Ideal) (A0 m c) (A1 m c) (A2 m c) (A3 m c) (A4 m c) (A5 m c) := by
  refine (dats m 0 c).arrAt_eq_of_coversWhere_of_agree 5 _ (fun β => 6 ≤ β 1) (by decide +kernel) (fun t hf y => ?_) (fun j hj => ?_)
  · blk_simp
    rw [after0_5]
    idx_vars y
    refine (tile_dz m c zr hz kr hk gq hq gk hg er he t y0 y1 ⟨t.val * 512 + y0.val, ?_⟩ ⟨3072 + y1.val, by omega⟩ rfl rfl _).trans
      (congrArg _ ?_)
    · have := lt_of_lt_of_eq t.isLt N_0
      omega
    · blk_ext [idx t]
  · idx_vars j
    blk_simp [Pipeline.Window.cell_apply] at hj
    rw [A_eq, entry_dz]
    exact (ref_out0 _ _ _ _ _ _ j0 j1 (by omega)).symm

end Kernel

/-! ## The claim -/

/-- The precondition says that the queries' columns, the keys and values, the gains and the heads' incoming gradient are real numbers. -/
theorem finite (x0 : FVec Ideal Pre_finite_mem.S4096x3584 .f32) (x1 : FVec Ideal Pre_finite_mem.S256x1024 .f32)
    (x2 x3 : FVec Ideal Pre_finite_mem.S128 .f32) (x4 : FVec Ideal Pre_finite_mem.S4096x2048 .bf16)
    (x5 : FVec Ideal Pre_finite_mem.S4096x3584 .bf16)
    (h : Pre_finite_mem.fn (F := Ideal) x0 x1 x2 x3 x4 x5 = fun _ => 1#1) :
    (∃ r : ℕ → ℕ → ℝ, ∀ (s : Fin 4096) (n : ℕ) (hn : n < 3584), 3072 ≤ n → x0 (ix2 s ⟨n, hn⟩) = (r s n : EReal))
    ∧ (∃ r : ℕ → ℕ → ℝ, ∀ (s : Fin 256) (n : ℕ) (hn : n < 1024), x1 (ix2 s ⟨n, hn⟩) = (r s n : EReal))
    ∧ (∃ g : Fin 128 → ℝ, ∀ d, x2 (ix1 d) = (g d : EReal)) ∧ (∃ g : Fin 128 → ℝ, ∀ d, x3 (ix1 d) = (g d : EReal))
    ∧ (∃ r : ℕ → ℕ → ℝ, ∀ (s : Fin 4096) (n : ℕ) (hn : n < 2048), 1536 ≤ n → x4 (ix2 s ⟨n, hn⟩) = (r s n : EReal)) := by
  have h0 := congrFun h ix0
  unfold Pre_finite_mem.fn at h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨table x0 3072 fun s n hn hl => ?_, ?_, ⟨_, fun d => real_of_all _ _ _ _ _ _ h2 (fun _ => rfl) (ix1 d)⟩,
    ⟨_, fun d => real_of_all _ _ _ _ _ _ h3 (fun _ => rfl) (ix1 d)⟩, table x4 1536 fun s n hn hl => ?_⟩
  · obtain ⟨d, rfl⟩ := Nat.exists_eq_add_of_le hl
    have e := real_of_all _ _ _ _ _ _ h0 (fun _ => rfl) (ix2 s ⟨d, by omega⟩)
    pointwise at e
    exact e
  · obtain ⟨r, hr⟩ := table x1 0 fun s n hn _ => real_of_all _ _ _ _ _ _ h1 (fun _ => rfl) (ix2 s ⟨n, hn⟩)
    exact ⟨r, fun s n hn => hr s n hn (Nat.zero_le _)⟩
  · obtain ⟨d, rfl⟩ := Nat.exists_eq_add_of_le hl
    have e := real_of_all _ _ _ _ _ _ h4 (fun _ => rfl) (ix2 s ⟨d, by omega⟩)
    pointwise at e
    exact e

theorem frame_ref : Cert.quiescent_MemAttnRefIdeal := fun m ρ _ =>
  (θ_run Cert.MemAttnRefIdeal.defs _ _).mono (fun r h => ⟨fun c => (h c).2.2.2.2, sem_eq_zero_of_no_sems (by decide) r.2⟩)
    (Cert.MemAttnRefIdeal.Value.run (F := Ideal) m ρ)

theorem algebraic : Cert.algebraic_MemAttnIdeal_MemAttnRefIdeal_pre_finite_mem := by
  pair_intro
  · run_from Cert.MemAttnIdeal.Value.run_blocks m g
  · run_from Cert.MemAttnRefIdeal.Value.run m' g'
    all_goals obtain ⟨e0, e1, e2, e3, e4, e5⟩ := hagree c
    all_goals obtain ⟨⟨zr, hz⟩, ⟨kr, hk⟩, ⟨gq, hq⟩, ⟨gk, hg⟩, ⟨er, he⟩⟩ := finite _ _ _ _ _ _ (hpre c)
    · refine (MemAttnRefIdeal.Read.val_main_v117_eq m' c).trans ?_
      rw [e0, e1, e2, e3, e4, e5]
      exact (final5 m c zr hz kr hk gq hq gk hg er he).symm
    · refine (MemAttnRefIdeal.Read.val_main_v118_eq m' c).trans ?_
      rw [e0, e1, e2, e3, e4]
      exact (final6 m c zr hz kr hk gq hq gk hg er he).symm
    · refine (MemAttnRefIdeal.Read.val_main_v119_eq m' c).trans ?_
      rw [e0, e1, e2, e3, e4]
      exact (final7 m c zr hz kr hk gq hq gk hg er he).symm
    · refine (MemAttnRefIdeal.Read.val_main_v120_eq m' c).trans ?_
      rw [e0, e1, e2, e3, e4]
      exact (final8 m c zr hz kr hk gq hq gk hg er he).symm

end Cert.MemAttnProof
-- ==== Proof.PrepReal.lean ====
/- The rotary embedding's gradient in real numbers: the angles, and one head of one row. -/
module

public import proofs.«01_k».proof.Proof.MemReal
public import Idealize.ShloMosaic.Lib.WordCmp

@[expose] public section

set_option maxRecDepth 16384

noncomputable section

namespace Cert.PrepProof

open Idealize.ShloMosaic
open Cert.Lift
open Cert.MemAttnProof (rms hat)

/-- The frequency of a pair of lanes, and the angle of a row's lane: the first half of a head turns by the row of the grid of
    positions, the second by its column. -/
def freq (i : ℕ) : ℝ := (10000 : ℝ) ^ (-(i : ℝ) / 32)
def ang (s d : ℕ) : ℝ := (if d < 64 then ((s / 64 : ℕ) : ℝ) else ((s % 64 : ℕ) : ℝ)) * freq (d % 32)

/-- The two lanes of a pair turn by one angle. -/
theorem ang_add (s d : ℕ) (h : d % 64 < 32) : ang s (d + 32) = ang s d := by
  unfold ang
  have e : d + 32 < 64 ↔ d < 64 := by omega
  simp only [e, Nat.add_mod_right]

/-- The gradient of a normed head: the embedding's transpose of the gradient `e` of the embedded one. -/
def dxn (s : ℕ) (e : ℕ → ℝ) (d : ℕ) : ℝ :=
  e d * Real.cos (ang s d)
    + if d % 64 < 32 then e (d + 32) * Real.sin (ang s (d + 32)) else -(e (d - 32) * Real.sin (ang s (d - 32)))

/-- The gradient of the head itself, from its values `x` and the norm's gain `g`. -/
def dz (s : ℕ) (x : Fin 128 → ℝ) (g : Fin 128 → ℝ) (e : ℕ → ℝ) (d : Fin 128) : ℝ := rmsGrad x (fun k => dxn s e k) g d

/-! ## Literals, positions and angles under the ideal reading -/

theorem lit_32 : Ideal.ofBits .f32 0x42000000#32 = ((32 : ℝ) : EReal) := by
  simp [Ideal.ofBits, Ideal.ieee]; rw [← EReal.coe_mul]; congr 1; norm_num

theorem lit_theta : Ideal.ofBits .f32 0x461C4000#32 = ((10000 : ℝ) : EReal) := by
  simp [Ideal.ofBits, Ideal.ieee]; rw [← EReal.coe_mul]; congr 1; norm_num

theorem word_real (n : ℕ) (h : n < 2 ^ 31) : FloatOps.sitofp (F := Ideal) .f32 (BitVec.ofNat 32 n) = ((n : ℝ) : EReal) := by
  show (((BitVec.ofNat 32 n).toInt : ℝ) : EReal) = _
  rw [WordCmp.toInt_ofNat_of_lt h]
  rfl

theorem pow_coe (a b : ℝ) : Ideal.pow (a : EReal) (b : EReal) = ((a ^ b : ℝ) : EReal) := rfl
theorem cos_coe (r : ℝ) : Ideal.cos (r : EReal) = ((Real.cos r : ℝ) : EReal) := rfl
theorem sin_coe (r : ℝ) : Ideal.sin (r : EReal) = ((Real.sin r : ℝ) : EReal) := rfl

end Cert.PrepProof
-- ==== Proof.PrepTab.lean ====
/- The rotary embedding's tables as the kernel's host code computes them, in real numbers. -/
module

public import Idealize.ShloMosaic.Lib.StableHlo.RunRead
public import Idealize.ShloMosaic.Lib.StableHlo.RunLoop
import proofs.«01_k».proof.Defs
public import proofs.«01_k».proof.Proof.Gen.PrepIdeal.Value
public import proofs.«01_k».proof.Proof.Lift
public import proofs.«01_k».proof.Proof.PrepReal

@[expose] public section

set_option maxRecDepth 16384

noncomputable section

namespace Cert.PrepProof

open Idealize.ShloMosaic Idealize.ShloMosaic.TcCoe Idealize.SL.Sem
open Cert.Lift
open Cert.PrepIdeal Cert.PrepIdeal.Gen

/-! ## The parts of the host line, each from any contents -/

variable (σ : Valuation τ sig (Elt Ideal))

theorem angles (r : Fin 4096) (i : Fin 128) :
    (StableHlo.after (hostOps0 (F := Ideal)) σ (Proc.devRef .tc main_v28) : Vec Ideal S4096x128 .f32) (ix2 r i)
      = (ang r i : EReal) := by
  after_reads_simp
  pointwise
  after_reads_simp
  pointwise
  simp (disch := first | omega | norm_num) only [lit_32, lit_theta, word_real, ← EReal.coe_neg, div_coe, pow_coe, ← EReal.coe_mul]
  unfold ang freq
  split_ifs with h1 h2 h3 h4 h5 h6 <;> first | omega | (congr 4; congr 2; congr 1; omega)

theorem cos0 (r : Fin 4096) (i : Fin 128) :
    (StableHlo.after (hostOps0 (F := Ideal)) σ (Proc.devRef .tc main_v29) : Vec Ideal S4096x128 .f32) (ix2 r i)
      = (Real.cos (ang r i) : EReal) := by
  have h : @Eq (FVec Ideal S4096x128 .f32) (StableHlo.after (hostOps0 (F := Ideal)) σ (Proc.devRef .tc main_v29))
      (Host.cos (F := Ideal) (φ := .f32) (StableHlo.after (hostOps0 (F := Ideal)) σ (Proc.devRef .tc main_v28))) := by
    after_reads_simp
  rw [h]
  pointwise
  rw [angles, cos_coe]

theorem sin0 (r : Fin 4096) (i : Fin 128) :
    (StableHlo.after (hostOps0 (F := Ideal)) σ (Proc.devRef .tc main_v30) : Vec Ideal S4096x128 .f32) (ix2 r i)
      = (Real.sin (ang r i) : EReal) := by
  have h : @Eq (FVec Ideal S4096x128 .f32) (StableHlo.after (hostOps0 (F := Ideal)) σ (Proc.devRef .tc main_v30))
      (Host.sin (F := Ideal) (φ := .f32) (StableHlo.after (hostOps0 (F := Ideal)) σ (Proc.devRef .tc main_v28))) := by
    after_reads_simp
  rw [h]
  pointwise
  rw [angles, sin_coe]

theorem lane0 : (StableHlo.after (hostOps0 (F := Ideal)) σ (Proc.devRef .tc main_v31) : IVec S128 32) = iotaInDim S128 32 0 := by
  after_reads_simp; try rfl

theorem sixty_four :
    (StableHlo.after (hostOps0 (F := Ideal)) σ (Proc.devRef .tc main_c) : IVec S_ 32) = constantI S_ 32 64#32 := by
  after_reads_simp; try rfl

/-- The lane's place in its half of a head. -/
theorem lane_mod (h : (σ (Proc.devRef .tc main_v31) : IVec S128 32) = iotaInDim S128 32 0)
    (hc : (σ (Proc.devRef .tc main_c) : IVec S_ 32) = constantI S_ 32 64#32) (i : Fin 128) :
    (StableHlo.after (hostOps0_1 (F := Ideal)) σ (Proc.devRef .tc main_v32) : IVec S128 32) (ix1 i) = BitVec.ofNat 32 (i % 64) := by
  after_reads_simp
  rw [h, hc]
  simp -implicitDefEqProofs only [StableHlo.TRef.toBuf, StableHlo.TRef.ofBuf, cast_cast, cast_eq, id]
  pointwise
  revert i
  decide +kernel

theorem first_half (h : ∀ i, (σ (Proc.devRef .tc main_v32) : IVec S128 32) (ix1 i) = BitVec.ofNat 32 (i % 64)) (i : Fin 128) :
    (StableHlo.after (hostOps0_2 (F := Ideal)) σ (Proc.devRef .tc main_v34) : IVec S128 1) (ix1 i)
      = if i.val % 64 < 32 then (1 : BitVec 1) else 0 := by
  after_reads_simp
  pointwise
  rw [h]
  exact (by decide +kernel : ∀ i : Fin 128, IntOp.cmpi .slt (BitVec.ofNat 32 (i.val % 64)) 32#32
    = if i.val % 64 < 32 then (1 : BitVec 1) else 0) i

theorem minus_sin (r : Fin 4096) (i : Fin 128) (s : ℝ)
    (h : (σ (Proc.devRef .tc main_v30) : Vec Ideal S4096x128 .f32) (ix2 r i) = (s : EReal)) :
    (StableHlo.after (hostOps0_2 (F := Ideal)) σ (Proc.devRef .tc main_v35) : Vec Ideal S4096x128 .f32) (ix2 r i)
      = ((-s : ℝ) : EReal) := by
  after_reads_simp
  pointwise
  rw [h, EReal.coe_neg]

theorem zero2 : (StableHlo.after (hostOps0_2 (F := Ideal)) σ (Proc.devRef .tc main_cst_2) : Vec Ideal S_ .f32) ix0 = (0 : EReal) := by
  after_reads_simp
  pointwise

theorem zero4 : (StableHlo.after (hostOps0_4 (F := Ideal)) σ (Proc.devRef .tc main_cst_3) : Vec Ideal S_ .f32) ix0 = (0 : EReal) := by
  after_reads_simp
  pointwise

theorem where3 (r : Fin 4096) (i : Fin 128) (s : ℝ)
    (hm : (σ (Proc.devRef .tc main_v34) : IVec S128 1) (ix1 i) = if i.val % 64 < 32 then (1 : BitVec 1) else 0)
    (h : (σ (Proc.devRef .tc main_v35) : Vec Ideal S4096x128 .f32) (ix2 r i) = (s : EReal))
    (h0 : (σ (Proc.devRef .tc main_cst_2) : Vec Ideal S_ .f32) ix0 = (0 : EReal)) :
    (StableHlo.after (hostOps0_3 (F := Ideal)) σ (Proc.devRef .tc main_v36) : Vec Ideal S4096x128 .f32) (ix2 r i)
      = ((if i.val % 64 < 32 then s else 0 : ℝ) : EReal) := by
  after_reads_simp
  simp -implicitDefEqProofs only [StableHlo.TRef.toBuf, StableHlo.TRef.ofBuf, cast_cast, cast_eq, id]
  pointwise
  rw [hm, h, h0]
  split_ifs <;> rfl

theorem where5 (r : Fin 4096) (i : Fin 128) (s : ℝ)
    (hm : (σ (Proc.devRef .tc main_v34) : IVec S128 1) (ix1 i) = if i.val % 64 < 32 then (1 : BitVec 1) else 0)
    (h : (σ (Proc.devRef .tc main_v30) : Vec Ideal S4096x128 .f32) (ix2 r i) = (s : EReal))
    (h0 : (σ (Proc.devRef .tc main_cst_3) : Vec Ideal S_ .f32) ix0 = (0 : EReal)) :
    (StableHlo.after (hostOps0_5 (F := Ideal)) σ (Proc.devRef .tc main_v37) : Vec Ideal S4096x128 .f32) (ix2 r i)
      = ((if i.val % 64 < 32 then 0 else s : ℝ) : EReal) := by
  after_reads_simp
  simp -implicitDefEqProofs only [StableHlo.TRef.toBuf, StableHlo.TRef.ofBuf, cast_cast, cast_eq, id]
  pointwise
  rw [hm, h, h0]
  split_ifs <;> rfl

/-! ## The tables the kernel is launched on -/

variable (m : (ℓ : Loc nD τ sig) → Buf (Elt Ideal) ℓ)

/-- The contents after the first parts of the line. -/
abbrev σ1 (c : Dev nD) : Valuation τ sig (Elt Ideal) := StableHlo.after (hostOps0 (F := Ideal)) (fun b => m (c, b))
abbrev σ2 (c : Dev nD) : Valuation τ sig (Elt Ideal) := StableHlo.after (hostOps0_1 (F := Ideal)) (σ1 m c)
abbrev σ3 (c : Dev nD) : Valuation τ sig (Elt Ideal) := StableHlo.after (hostOps0_2 (F := Ideal)) (σ2 m c)
abbrev σ4 (c : Dev nD) : Valuation τ sig (Elt Ideal) := StableHlo.after (hostOps0_3 (F := Ideal)) (σ3 m c)
abbrev σ5 (c : Dev nD) : Valuation τ sig (Elt Ideal) := StableHlo.after (hostOps0_4 (F := Ideal)) (σ4 m c)

theorem V_eq (c : Dev nD) (b : Ref sig .tc) :
    V m c b = StableHlo.after (hostOps0_5 (F := Ideal)) (σ5 m c) (Proc.devRef .tc b) := by
  unfold V
  rw [← StableHlo.afterL_eq_after_flatten]
  rfl

theorem keep30_1 : StableHlo.after (hostOps0_1 (F := Ideal)) σ (Proc.devRef .tc main_v30) = σ (Proc.devRef .tc main_v30) := by
  after_reads_simp
theorem keep30_2 : StableHlo.after (hostOps0_2 (F := Ideal)) σ (Proc.devRef .tc main_v30) = σ (Proc.devRef .tc main_v30) := by
  after_reads_simp
theorem keep30_3 : StableHlo.after (hostOps0_3 (F := Ideal)) σ (Proc.devRef .tc main_v30) = σ (Proc.devRef .tc main_v30) := by
  after_reads_simp
theorem keep30_4 : StableHlo.after (hostOps0_4 (F := Ideal)) σ (Proc.devRef .tc main_v30) = σ (Proc.devRef .tc main_v30) := by
  after_reads_simp
theorem keep34_3 : StableHlo.after (hostOps0_3 (F := Ideal)) σ (Proc.devRef .tc main_v34) = σ (Proc.devRef .tc main_v34) := by
  after_reads_simp
theorem keep34_4 : StableHlo.after (hostOps0_4 (F := Ideal)) σ (Proc.devRef .tc main_v34) = σ (Proc.devRef .tc main_v34) := by
  after_reads_simp
theorem keep36_4 : StableHlo.after (hostOps0_4 (F := Ideal)) σ (Proc.devRef .tc main_v36) = σ (Proc.devRef .tc main_v36) := by
  after_reads_simp
theorem keep36_5 : StableHlo.after (hostOps0_5 (F := Ideal)) σ (Proc.devRef .tc main_v36) = σ (Proc.devRef .tc main_v36) := by
  after_reads_simp
theorem keep29 (c : Dev nD) : StableHlo.after (hostOps0_5 (F := Ideal)) (σ5 m c) (Proc.devRef .tc main_v29) = σ1 m c (Proc.devRef .tc main_v29) := by
  unfold σ5 σ4 σ3 σ2
  generalize σ1 m c = s
  after_reads_simp

theorem mask (c : Dev nD) (i : Fin 128) :
    (σ3 m c (Proc.devRef .tc main_v34) : IVec S128 1) (ix1 i) = if i.val % 64 < 32 then (1 : BitVec 1) else 0 :=
  first_half _ (fun i => lane_mod _ (lane0 _) (sixty_four _) i) i

theorem cos_tab (c : Dev nD) (r : Fin 4096) (i : Fin 128) :
    (V m c main_v29 : Vec Ideal S4096x128 .f32) (ix2 r i) = (Real.cos (ang r i) : EReal) := by
  rw [V_eq, keep29]
  exact cos0 _ r i

theorem sa_tab (c : Dev nD) (r : Fin 4096) (i : Fin 128) :
    (V m c main_v36 : Vec Ideal S4096x128 .f32) (ix2 r i)
      = ((if i.val % 64 < 32 then -Real.sin (ang r i) else 0 : ℝ) : EReal) := by
  rw [V_eq, keep36_5]
  unfold σ5
  rw [keep36_4]
  exact where3 _ r i _ (mask m c i)
    (minus_sin _ r i _ ((congrFun (keep30_1 (σ1 m c)) _).trans (sin0 _ r i))) (zero2 _)

theorem sb_tab (c : Dev nD) (r : Fin 4096) (i : Fin 128) :
    (V m c main_v37 : Vec Ideal S4096x128 .f32) (ix2 r i)
      = ((if i.val % 64 < 32 then 0 else Real.sin (ang r i) : ℝ) : EReal) := by
  rw [V_eq]
  refine where5 _ r i _ ?_ ?_ (zero4 _)
  · unfold σ5 σ4
    rw [keep34_4, keep34_3]
    exact mask m c i
  · unfold σ5 σ4 σ3 σ2
    rw [keep30_4, keep30_3, keep30_2, keep30_1]
    exact sin0 _ r i

end Cert.PrepProof
-- ==== Proof.PrepPoint.lean ====
/- One head of 256 rows as the kernel's body computes it: the gradient of its values and its share of the gain's gradient. -/
module

import proofs.«01_k».proof.Defs
public import proofs.«01_k».proof.Proof.Gen.PrepIdeal.Value
public import proofs.«01_k».proof.Proof.PrepTab

@[expose] public section

set_option maxRecDepth 16384

noncomputable section

namespace Cert.PrepProof

open Idealize.ShloMosaic Idealize.ShloMosaic.TcCoe
open Cert.Lift
open Cert.MemAttnProof (rms hat)
open Cert.PrepIdeal Cert.PrepIdeal.Gen

variable (co sa sb z e : Vec Ideal S256x128 .f32) (g q : Vec Ideal S1x128 .f32)

/-- The gradient of a head's values, and the gain's gradient with the head's rows added. -/
def headZ : FVec Ideal S256x128 .bf16 := k0_pay12 (k0_pay8 z) (k0_pay9 z) (k0_pay10 co sa sb e) g
def headG : FVec Ideal S1x128 .f32 := k0_pay11 co sa sb z e q

variable (R : Fin 256 → ℕ)
  (hc : ∀ s d, co (ix2 s d) = (Real.cos (ang (R s) d) : EReal))
  (ha : ∀ s (d : Fin 128), sa (ix2 s d) = ((if d.val % 64 < 32 then -Real.sin (ang (R s) d) else 0 : ℝ) : EReal))
  (hb : ∀ s (d : Fin 128), sb (ix2 s d) = ((if d.val % 64 < 32 then 0 else Real.sin (ang (R s) d) : ℝ) : EReal))
  (zr : Fin 256 → Fin 128 → ℝ) (hz : ∀ s d, z (ix2 s d) = (zr s d : EReal))
  (er : Fin 256 → ℕ → ℝ) (he : ∀ s (d : Fin 128), e (ix2 s d) = (er s d : EReal))
  (gr : Fin 128 → ℝ) (hg : ∀ d, g (ix2 0 d) = (gr d : EReal))

include hz in
theorem rms_at (s : Fin 256) : k0_pay8 (F := Ideal) z (ix2 s 0) = (rms (zr s) : EReal) := by
  have hr := eps_pos
  pointwise [k0_pay8]
  simp (disch := first | omega | positivity | norm_num) only [hz, lit_128, lit_eps, ← EReal.coe_mul, ← EReal.coe_add, sum_coe,
    sq_real, div_coe, rsqrt_coe]
  rfl

include hz in
theorem hat_at (s : Fin 256) (d : Fin 128) : k0_pay9 (F := Ideal) z (ix2 s d) = (hat (zr s) d : EReal) := by
  pointwise [k0_pay9]
  rw [rms_at z zr hz, hz, ← EReal.coe_mul]
  rfl

include hc ha hb he in
theorem dxn_at (s : Fin 256) (d : Fin 128) : k0_pay10 (F := Ideal) co sa sb e (ix2 s d) = (dxn (R s) (er s) d : EReal) := by
  pointwise [k0_pay10, k0_pay5, k0_pay6, k0_pay7]
  simp only [hc, ha, hb, he, ← EReal.coe_mul, ← EReal.coe_add, ← EReal.coe_sub]
  refine congrArg _ ?_
  unfold dxn
  by_cases h : d.val % 64 < 32
  · rw [if_pos h, if_pos h, if_pos h, ang_add _ _ h]
    have e1 : (d.val + 128 - 96) % 128 = d.val + 32 := by omega
    simp only [e1]
    ring
  · rw [if_neg h, if_neg h, if_neg h]
    have e1 : (d.val + 128 - 32) % 128 = d.val - 32 := by omega
    have e2 : ang (R s) d.val = ang (R s) (d.val - 32) := by
      rw [← ang_add (R s) (d.val - 32) (by omega)]
      exact congrArg _ (by omega)
    simp only [e1, e2]
    ring

include hc ha hb hz he hg in
theorem headZ_at (s : Fin 256) (d : Fin 128) :
    headZ co sa sb z e g (ix2 s d) = (dz (R s) (zr s) gr (er s) d : EReal) := by
  unfold headZ
  pointwise [k0_pay12]
  simp (disch := norm_num) only [rms_at z zr hz, hat_at z zr hz, dxn_at co sa sb e R hc ha hb er he, hg, lit_128, ← EReal.coe_mul, sum_coe, div_coe,
    ← EReal.coe_sub]
  refine congrArg _ ?_
  unfold dz rmsGrad
  rfl

include hc ha hb hz he in
theorem headG_at (d : Fin 128) :
    headG co sa sb z e q (ix2 0 d) = q (ix2 0 d) + ((∑ s, dxn (R s) (er s) d * hat (zr s) d : ℝ) : EReal) := by
  unfold headG
  pointwise [k0_pay11]
  simp only [hat_at z zr hz, dxn_at co sa sb e R hc ha hb er he, ← EReal.coe_mul, sum_coe]

end Cert.PrepProof
-- ==== Proof.PrepRef.lean ====
/- The reference of the embedding's gradient, stage by stage, in real numbers. -/
module

public import proofs.«01_k».proof.Defs
public import proofs.«01_k».proof.Proof.Gen.PrepRefIdeal.Read
public import proofs.«01_k».proof.Proof.Lift
public import proofs.«01_k».proof.Proof.PrepReal

@[expose] public section

set_option maxRecDepth 16384

noncomputable section

namespace Cert.PrepProof

open Idealize.ShloMosaic Idealize.ShloMosaic.TcCoe Idealize.SL.Sem
open Idealize.ShloMosaic.Pipeline (Dat)
open Cert.Lift

open Cert.MemAttnProof (rms hat)
open Cert.PrepRefIdeal Cert.PrepRefIdeal.Read

/-! ## The angles -/

theorem ref_freq (i : Fin 32) : val_main_v13 (F := Ideal) (ix1 i) = (freq i : EReal) := by
  pointwise [val_main_v8, val_main_v9, val_main_cst, val_main_v10, val_main_v11, val_main_cst_0, val_main_v12, val_main_v13]
  simp (disch := first | omega | norm_num) only [lit_32, lit_theta, word_real, ← EReal.coe_neg, div_coe, pow_coe]
  rfl

theorem ref_ang (s : Fin 4096) (d : Fin 128) : val_main_v26 (F := Ideal) (ix2 s d) = (ang s d : EReal) := by
  unfold val_main_v26
  pointwise [val_main_v0, val_main_v1, val_main_v2, val_main_v3, val_main_v4, val_main_v5, val_main_v6, val_main_v7, val_main_v14,
    val_main_v15, val_main_v16, val_main_v17, val_main_v18, val_main_v19, val_main_v20, val_main_v21, val_main_v22,
    val_main_v23, val_main_v24, val_main_v25]
  simp (disch := omega) only [ref_freq, word_real, ← EReal.coe_mul]
  unfold ang
  split_ifs with h1 h2 h3 h4 h5 h6 <;> first | omega | (congr 3; omega)

variable (x0 : FVec Ideal S4096x3072 .f32) (x1 x2 : FVec Ideal S128 .f32) (x3 : FVec Ideal S4096x1536 .f32)
  (x4 x5 : FVec Ideal S4096x512 .f32)

variable (zr : ℕ → ℕ → ℝ) (hz : ∀ s n (hn : n < 3072), n < 2048 → x0 (ix2 s ⟨n, hn⟩) = (zr s n : EReal))
  (gq : Fin 128 → ℝ) (hq : ∀ d, x1 (ix1 d) = (gq d : EReal))
  (gk : Fin 128 → ℝ) (hg : ∀ d, x2 (ix1 d) = (gk d : EReal))
  (er : ℕ → ℕ → ℝ) (he : ∀ s n hn, x3 (ix2 s ⟨n, hn⟩) = (er s n : EReal))
  (fr : ℕ → ℕ → ℝ) (hf : ∀ s n hn, x4 (ix2 s ⟨n, hn⟩) = (fr s n : EReal))

/-- A head's columns of the projections, and of an incoming gradient. -/
def zrow (zr : ℕ → ℕ → ℝ) (s h : ℕ) (d : Fin 128) : ℝ := zr s (h * 128 + d)
def krow (zr : ℕ → ℕ → ℝ) (s h : ℕ) (d : Fin 128) : ℝ := zr s (1536 + (h * 128 + d))
def erow (er : ℕ → ℕ → ℝ) (s h : ℕ) (d : ℕ) : ℝ := er s (h * 128 + d)

/-- The two halves of a pair of lanes, as the reference's pads lay them out. -/
theorem turn (s h : ℕ) (d : Fin 128) (er : ℕ → ℕ → ℝ) :
    ((er s (h * 128 + d) * Real.cos (ang s d) : ℝ) : EReal)
        + ((if d.val / 64 < 2 ∧ d.val / 32 % 2 < 1 ∧ d.val % 32 < 32 then
              ((er s (h * 128 + (d / 64 * 64 + 32 + d % 32)) * Real.sin (ang s (d / 64 * 64 + 32 + d % 32)) : ℝ) : EReal) else 0)
          + if d.val / 64 < 2 ∧ (1 ≤ d.val / 32 % 2 ∧ d.val / 32 % 2 - 1 < 1) ∧ d.val % 32 < 32 then
              ((-(er s (h * 128 + (d / 64 * 64 + d % 32)) * Real.sin (ang s (d / 64 * 64 + d % 32))) : ℝ) : EReal) else 0)
      = (dxn s (erow er s h) d : EReal) := by
  unfold dxn erow
  have hd := d.isLt
  by_cases hc : d.val % 64 < 32
  · rw [if_pos (by omega), if_neg (by omega), if_pos hc, add_zero, ← EReal.coe_add,
      show d.val / 64 * 64 + 32 + d.val % 32 = d.val + 32 by omega]
  · rw [if_neg (by omega), if_pos (by omega), if_neg hc, zero_add, ← EReal.coe_add,
      show d.val / 64 * 64 + d.val % 32 = d.val - 32 by omega]

/-! ## The queries -/

include he in
theorem q_dxn (s : Fin 4096) (h : Fin 12) (d : Fin 128) :
    val_main_v157 (F := Ideal) x3 (ix3 s h d) = (dxn s (erow er s h) d : EReal) := by
  pointwise [val_main_v27, val_main_v28, val_main_v50, val_main_v51, val_main_v101, val_main_v141, val_main_v142, val_main_v143,
    val_main_v144, val_main_v145, val_main_v146, val_main_v147, val_main_v148, val_main_v149, val_main_v150, val_main_cst_16,
    val_main_v151, val_main_v152, val_main_v153, val_main_cst_17, val_main_v154, val_main_v155, val_main_v156, val_main_v157]
  simp only [he, ref_ang, cos_coe, sin_coe, ← EReal.coe_mul, ← EReal.coe_neg]
  exact turn s h d er

include hz in
theorem q_rms (s : Fin 4096) (h : Fin 12) :
    val_main_v41 (F := Ideal) x0 (ix3 s h 0) = (rms (zrow zr s h) : EReal) := by
  have hr := eps_pos
  pointwise [val_main_v29, val_main_v30, val_main_v33, val_main_v34, val_main_cst_1, val_main_v35, val_main_v36, val_main_cst_2,
    val_main_v37, val_main_v38, val_main_cst_3, val_main_v39, val_main_v40, val_main_v41]
  simp (disch := first | omega | positivity | norm_num) only [hz, lit_128, lit_eps, ← EReal.coe_mul, ← EReal.coe_add, sum_coe,
    sq_real, div_coe, rsqrt_coe]
  rfl

include hz in
theorem q_hat (s : Fin 4096) (h : Fin 12) (d : Fin 128) :
    val_main_v46 (F := Ideal) x0 (ix3 s h d) = (hat (zrow zr s h) d : EReal) := by
  pointwise [val_main_v29, val_main_v30, val_main_v33, val_main_v45, val_main_v46]
  simp (disch := omega) only [hz, q_rms x0 zr hz, ← EReal.coe_mul]
  rfl

include hz hq he in
theorem q_dz (s : Fin 4096) (h : Fin 12) (d : Fin 128) :
    val_main_v177 (F := Ideal) x0 x1 x3 (ix3 s h d) = (dz s (zrow zr s h) gq (erow er s h) d : EReal) := by
  have hr := eps_pos
  pointwise [val_main_v29, val_main_v30, val_main_v33, val_main_v34, val_main_cst_1, val_main_v35, val_main_v36, val_main_cst_2,
    val_main_v37, val_main_v38, val_main_cst_3, val_main_v39, val_main_v40, val_main_v41, val_main_v42, val_main_cst_4,
    val_main_v43, val_main_v44, val_main_v47, val_main_v48, val_main_v161, val_main_v162, val_main_v164, val_main_cst_20,
    val_main_v165, val_main_v166, val_main_v167, val_main_v168, val_main_v169, val_main_cst_21, val_main_v170, val_main_v171,
    val_main_cst_22, val_main_v172, val_main_v173, val_main_v174, val_main_v175, val_main_v176, val_main_v177]
  simp only [Finset.univ_unique, Finset.sum_singleton]
  simp (disch := first | omega | positivity | norm_num) only [hz, hq, q_dxn x3 er he, lit_128, lit_eps, lit_neg_half,
    ← EReal.coe_mul, ← EReal.coe_add, sum_coe, sq_real, div_coe, rsqrt_coe]
  refine congrArg _ (Eq.trans ?_ (rms_grad (zrow zr s h) (fun k => dxn s (erow er s h) k) gq d).symm)
  rfl

include hz he in
theorem q_dg (d : Fin 128) :
    val_main_v183 (F := Ideal) x0 x3 (ix2 0 d)
      = ((∑ s : Fin 4096, ∑ h : Fin 12, dxn s (erow er s h) d * hat (zrow zr s h) d : ℝ) : EReal) := by
  pointwise [hostReduceAdd_01, val_main_v158, val_main_cst_18, val_main_v159, val_main_v160, val_main_cst_19, val_main_v163,
    val_main_v183]
  simp only [Finset.univ_unique, Finset.sum_singleton, q_hat x0 zr hz, q_dxn x3 er he, ← EReal.coe_mul, sum_coe]
  exact congrArg _ (Finset.sum_congr rfl fun s _ => Finset.sum_congr rfl fun h _ => mul_comm _ _)

/-! ## The keys -/

include hf in
theorem k_dxn (s : Fin 4096) (h : Fin 4) (d : Fin 128) :
    val_main_v119 (F := Ideal) x4 (ix3 s h d) = (dxn s (erow fr s h) d : EReal) := by
  pointwise [val_main_v27, val_main_v28, val_main_v84, val_main_v85, val_main_v102, val_main_v103, val_main_v104, val_main_v105,
    val_main_v106, val_main_v107, val_main_v108, val_main_v109, val_main_v110, val_main_v111, val_main_v112, val_main_cst_9,
    val_main_v113, val_main_v114, val_main_v115, val_main_cst_10, val_main_v116, val_main_v117, val_main_v118, val_main_v119]
  simp only [hf, ref_ang, cos_coe, sin_coe, ← EReal.coe_mul, ← EReal.coe_neg]
  exact turn s h d fr

include hz in
theorem k_rms (s : Fin 4096) (h : Fin 4) :
    val_main_v75 (F := Ideal) x0 (ix3 s h 0) = (rms (krow zr s h) : EReal) := by
  have hr := eps_pos
  pointwise [val_main_v29, val_main_v31, val_main_v67, val_main_v68, val_main_cst_5, val_main_v69, val_main_v70, val_main_cst_6,
    val_main_v71, val_main_v72, val_main_cst_7, val_main_v73, val_main_v74, val_main_v75]
  simp (disch := first | omega | positivity | norm_num) only [hz, lit_128, lit_eps, ← EReal.coe_mul, ← EReal.coe_add, sum_coe,
    sq_real, div_coe, rsqrt_coe]
  rfl

include hz in
theorem k_hat (s : Fin 4096) (h : Fin 4) (d : Fin 128) :
    val_main_v80 (F := Ideal) x0 (ix3 s h d) = (hat (krow zr s h) d : EReal) := by
  pointwise [val_main_v29, val_main_v31, val_main_v67, val_main_v79, val_main_v80]
  simp (disch := omega) only [hz, k_rms x0 zr hz, ← EReal.coe_mul]
  rfl

include hz hg hf in
theorem k_dz (s : Fin 4096) (h : Fin 4) (d : Fin 128) :
    val_main_v139 (F := Ideal) x0 x2 x4 (ix3 s h d) = (dz s (krow zr s h) gk (erow fr s h) d : EReal) := by
  have hr := eps_pos
  pointwise [val_main_v29, val_main_v31, val_main_v67, val_main_v68, val_main_cst_5, val_main_v69, val_main_v70, val_main_cst_6,
    val_main_v71, val_main_v72, val_main_cst_7, val_main_v73, val_main_v74, val_main_v75, val_main_v76, val_main_cst_8,
    val_main_v77, val_main_v78, val_main_v81, val_main_v123, val_main_v124, val_main_v126, val_main_cst_13, val_main_v127,
    val_main_v128, val_main_v129, val_main_v130, val_main_v131, val_main_cst_14, val_main_v132, val_main_v133, val_main_cst_15,
    val_main_v134, val_main_v135, val_main_v136, val_main_v137, val_main_v138, val_main_v139]
  simp only [Finset.univ_unique, Finset.sum_singleton]
  simp (disch := first | omega | positivity | norm_num) only [hz, hg, k_dxn x4 fr hf, lit_128, lit_eps, lit_neg_half,
    ← EReal.coe_mul, ← EReal.coe_add, sum_coe, sq_real, div_coe, rsqrt_coe]
  refine congrArg _ (Eq.trans ?_ (rms_grad (krow zr s h) (fun k => dxn s (erow fr s h) k) gk d).symm)
  rfl

include hz hf in
theorem k_dg (d : Fin 128) :
    val_main_v184 (F := Ideal) x0 x4 (ix2 0 d)
      = ((∑ s : Fin 4096, ∑ h : Fin 4, dxn s (erow fr s h) d * hat (krow zr s h) d : ℝ) : EReal) := by
  pointwise [hostReduceAdd_01, val_main_v120, val_main_cst_11, val_main_v121, val_main_v122, val_main_cst_12, val_main_v125,
    val_main_v184]
  simp only [Finset.univ_unique, Finset.sum_singleton, k_hat x0 zr hz, k_dxn x4 fr hf, ← EReal.coe_mul, sum_coe]
  exact congrArg _ (Finset.sum_congr rfl fun s _ => Finset.sum_congr rfl fun h _ => mul_comm _ _)

/-! ## The gradient of the projections, part by part -/

include hz hq he in
theorem out_q (s : Fin 4096) (h : Fin 12) (d : Fin 128) (n : Fin 3072) (hn : n.val = h.val * 128 + d.val) :
    val_main_v182 (F := Ideal) x0 x1 x2 x3 x4 x5 (ix2 s n) = (dz s (zrow zr s h) gq (erow er s h) d : EReal) := by
  have hl : h.val * 128 + d.val < 3072 := by omega
  obtain rfl : n = ⟨h.val * 128 + d.val, hl⟩ := Fin.ext hn
  unfold val_main_v182 val_main_v181 val_main_v179
  pointwise [val_main_v178]
  rw [dif_pos (by omega), dif_pos (by omega)]
  exact q_dz x0 x1 x3 zr hz gq hq er he s h d

include hz hg hf in
theorem out_k (s : Fin 4096) (h : Fin 4) (d : Fin 128) (n : Fin 3072) (hn : n.val = 1536 + (h.val * 128 + d.val)) :
    val_main_v182 (F := Ideal) x0 x1 x2 x3 x4 x5 (ix2 s n) = (dz s (krow zr s h) gk (erow fr s h) d : EReal) := by
  have hl : 1536 + (h.val * 128 + d.val) < 3072 := by omega
  obtain rfl : n = ⟨1536 + (h.val * 128 + d.val), hl⟩ := Fin.ext hn
  unfold val_main_v182 val_main_v181 val_main_v179
  pointwise [val_main_v140]
  rw [dif_pos (by omega), dif_pos (by omega)]
  exact k_dz x0 x2 x4 zr hz gk hg fr hf s h d

theorem out_v (s : Fin 4096) (d : Fin 512) (n : Fin 3072) (hn : n.val = 2048 + d.val) :
    val_main_v182 (F := Ideal) x0 x1 x2 x3 x4 x5 (ix2 s n) = x5 (ix2 s d) := by
  have hl : 2048 + d.val < 3072 := by omega
  obtain rfl : n = ⟨2048 + d.val, hl⟩ := Fin.ext hn
  unfold val_main_v182 val_main_v181 val_main_v179
  pointwise
  rw [dif_pos (by omega), dif_neg (by omega), dif_neg (by omega)]
  exact congrArg (fun k => x5 (ix2 s k)) (Fin.ext (by show 2048 + d.val - 1536 - 512 = d.val; omega))

end Cert.PrepProof
-- ==== Proof.PrepSum.lean ====
/- The rotary embedding's and the norms' gradient at one grid point: what the kernel writes there. -/
module

import proofs.«01_k».proof.Defs
public import proofs.«01_k».proof.Proof.Gen.PrepIdeal.Value
public import proofs.«01_k».proof.Proof.PrepPoint
public import proofs.«01_k».proof.Proof.PrepRef
public import Idealize.ShloMosaic.Lib.Pipeline.ReadBack

@[expose] public section

set_option maxRecDepth 16384

noncomputable section

namespace Cert.PrepProof

open Idealize.ShloMosaic Idealize.ShloMosaic.TcCoe Idealize.SL.Sem
open Idealize.ShloMosaic.Pipeline (Dat)
open Cert.Lift
open Cert.MemAttnProof (rms hat)
open Cert.PrepIdeal Cert.PrepIdeal.Gen

section Kernel

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, 0]
    ∧ win0_11.index t = ![0, 0] :=
  (by decide +kernel : ∀ t : Fin grid0.N, _)

/-- The row of the sequence that a point's row is. -/
def row (t : Fin cfg0.N) (r : Fin 256) : Fin 4096 :=
  ⟨256 * t.val + r, by have := lt_of_lt_of_eq t.isLt N_0; omega⟩

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)

/-! ## The blocks -/

theorem iblk0 (t : Fin cfg0.N) (r : Fin 256) (d : Fin 2560) : X0_0 m c t (ix2 r d) = A0 m c (ix2 (row t r) ⟨d, by omega⟩) := by
  unfold X0_0 Pipeline.Window.fill
  rw [dif_pos (moved0_0 t _)]
  blk_ext [iblk, V, row, idx t]

theorem keep_v0 : V m c main_v0 = StableHlo.after (hostOps0 (F := Ideal)) (fun b => m (c, b)) (Proc.devRef .tc main_v0) := by
  rw [V_eq]
  unfold σ5 σ4 σ3 σ2 σ1
  generalize StableHlo.after (hostOps0 (F := Ideal)) (fun b => m (c, b)) = s
  after_reads_simp
theorem keep_v1 : V m c main_v1 = StableHlo.after (hostOps0 (F := Ideal)) (fun b => m (c, b)) (Proc.devRef .tc main_v1) := by
  rw [V_eq]
  unfold σ5 σ4 σ3 σ2 σ1
  generalize StableHlo.after (hostOps0 (F := Ideal)) (fun b => m (c, b)) = s
  after_reads_simp

theorem gain1 (d : Fin 128) : (V m c main_v0 : Vec Ideal S1x128 .f32) (ix2 0 d) = A1 m c (ix1 d) := by
  rw [keep_v0]
  after_reads_simp
  pointwise
theorem gain2 (d : Fin 128) : (V m c main_v1 : Vec Ideal S1x128 .f32) (ix2 0 d) = A2 m c (ix1 d) := by
  rw [keep_v1]
  after_reads_simp
  pointwise

theorem iblk1 (t : Fin cfg0.N) (d : Fin 128) : (iblk m c 1 t : Vec Ideal S1x128 .f32) (ix2 0 d) = A1 m c (ix1 d) := by
  rw [← gain1]
  blk_ext [iblk, idx t]
theorem iblk2 (t : Fin cfg0.N) (d : Fin 128) : (iblk m c 2 t : Vec Ideal S1x128 .f32) (ix2 0 d) = A2 m c (ix1 d) := by
  rw [← gain2]
  blk_ext [iblk, idx t]
theorem iblk3 (t : Fin cfg0.N) (r : Fin 256) (d : Fin 128) :
    (iblk m c 3 t : Vec Ideal S256x128 .f32) (ix2 r d) = (Real.cos (ang (row t r) d) : EReal) := by
  rw [← cos_tab m c]
  blk_ext [iblk, row, idx t]
theorem iblk4 (t : Fin cfg0.N) (r : Fin 256) (d : Fin 128) : (iblk m c 4 t : Vec Ideal S256x128 .f32) (ix2 r d)
    = ((if d.val % 64 < 32 then -Real.sin (ang (row t r) d) else 0 : ℝ) : EReal) := by
  rw [← sa_tab m c]
  blk_ext [iblk, row, idx t]
theorem iblk5 (t : Fin cfg0.N) (r : Fin 256) (d : Fin 128) : (iblk m c 5 t : Vec Ideal S256x128 .f32) (ix2 r d)
    = ((if d.val % 64 < 32 then 0 else Real.sin (ang (row t r) d) : ℝ) : EReal) := by
  rw [← sb_tab m c]
  blk_ext [iblk, row, idx t]
theorem iblk6 (t : Fin cfg0.N) (r : Fin 256) (d : Fin 1536) :
    (iblk m c 6 t : Vec Ideal S256x1536 .f32) (ix2 r d) = A3 m c (ix2 (row t r) d) := by
  blk_ext [iblk, row, V, idx t]
theorem iblk7 (t : Fin cfg0.N) (r : Fin 256) (d : Fin 512) :
    (iblk m c 7 t : Vec Ideal S256x512 .f32) (ix2 r d) = A4 m c (ix2 (row t r) d) := by
  blk_ext [iblk, row, V, idx t]
theorem iblk8 (t : Fin cfg0.N) (r : Fin 256) (d : Fin 512) :
    (iblk m c 8 t : Vec Ideal S256x512 .f32) (ix2 r d) = A5 m c (ix2 (row t r) d) := by
  blk_ext [iblk, row, V, idx t]

variable (zr : ℕ → ℕ → ℝ) (hz : ∀ s n (hn : n < 3072), n < 2048 → A0 m c (ix2 s ⟨n, hn⟩) = (zr s n : EReal))
  (gq : Fin 128 → ℝ) (hq : ∀ d, A1 m c (ix1 d) = (gq d : EReal))
  (gk : Fin 128 → ℝ) (hg : ∀ d, A2 m c (ix1 d) = (gk d : EReal))
  (er : ℕ → ℕ → ℝ) (he : ∀ s n hn, A3 m c (ix2 s ⟨n, hn⟩) = (er s n : EReal))
  (fr : ℕ → ℕ → ℝ) (hf : ∀ s n hn, A4 m c (ix2 s ⟨n, hn⟩) = (fr s n : EReal))

/-! ## The heads a point's blocks are cut into -/

variable (t : Fin cfg0.N)

/-- A head's values among the queries' or the keys' columns, and its incoming gradient. -/
def qz (n : ℕ) (h : n < 12) : Vec Ideal S256x128 .f32 :=
  View.ld (X0_0 m c t) (Rect.unit (s := S256x2560) ![0, n * 128] ![256, 128] (by intro a; fin_cases a <;> simp <;> omega))
def qe (n : ℕ) (h : n < 12) : Vec Ideal S256x128 .f32 :=
  View.ld (iblk m c 6 t) (Rect.unit (s := S256x1536) ![0, n * 128] ![256, 128] (by intro a; fin_cases a <;> simp <;> omega))
def kz (n : ℕ) (h : n < 4) : Vec Ideal S256x128 .f32 :=
  View.ld (X0_0 m c t) (Rect.unit (s := S256x2560) ![0, 1536 + n * 128] ![256, 128] (by intro a; fin_cases a <;> simp <;> omega))
def ke (n : ℕ) (h : n < 4) : Vec Ideal S256x128 .f32 :=
  View.ld (iblk m c 7 t) (Rect.unit (s := S256x512) ![0, n * 128] ![256, 128] (by intro a; fin_cases a <;> simp <;> omega))

include hz in
theorem qz_at (n : ℕ) (h : n < 12) (r : Fin 256) (d : Fin 128) : qz m c t n h (ix2 r d) = (zrow zr (row t r) n d : EReal) := by
  unfold qz
  refine (View.ld_unit_apply_of _ _ _ _ _ (ix2 r ⟨n * 128 + d, by omega⟩) fun a => ?_).trans ?_
  · fin_cases a <;> simp
  rw [iblk0]
  exact hz _ _ _ (by show n * 128 + d.val < 2048; omega)
include hz in
theorem kz_at (n : ℕ) (h : n < 4) (r : Fin 256) (d : Fin 128) : kz m c t n h (ix2 r d) = (krow zr (row t r) n d : EReal) := by
  unfold kz
  refine (View.ld_unit_apply_of _ _ _ _ _ (ix2 r ⟨1536 + (n * 128 + d), by omega⟩) fun a => ?_).trans ?_
  · fin_cases a <;> simp <;> omega
  rw [iblk0]
  exact hz _ _ _ (by show 1536 + (n * 128 + d.val) < 2048; omega)
include he in
theorem qe_at (n : ℕ) (h : n < 12) (r : Fin 256) (d : Fin 128) : qe m c t n h (ix2 r d) = (erow er (row t r) n d : EReal) := by
  unfold qe
  refine (View.ld_unit_apply_of _ _ _ _ _ (ix2 r ⟨n * 128 + d, by omega⟩) fun a => ?_).trans ?_
  · fin_cases a <;> simp
  rw [iblk6]
  exact he _ _ _
include hf in
theorem ke_at (n : ℕ) (h : n < 4) (r : Fin 256) (d : Fin 128) : ke m c t n h (ix2 r d) = (erow fr (row t r) n d : EReal) := by
  unfold ke
  refine (View.ld_unit_apply_of _ _ _ _ _ (ix2 r ⟨n * 128 + d, by omega⟩) fun a => ?_).trans ?_
  · fin_cases a <;> simp
  rw [iblk7]
  exact hf _ _ _

/-! ## The gains' gradients: head after head -/

def chainQ (q : Vec Ideal S1x128 .f32) : (n : ℕ) → n ≤ 12 → Vec Ideal S1x128 .f32
  | 0, _ => q
  | n + 1, h => headG (iblk m c 3 t) (iblk m c 4 t) (iblk m c 5 t) (qz m c t n h) (qe m c t n h) (chainQ q n (Nat.le_of_succ_le h))
def chainK (q : Vec Ideal S1x128 .f32) : (n : ℕ) → n ≤ 4 → Vec Ideal S1x128 .f32
  | 0, _ => q
  | n + 1, h => headG (iblk m c 3 t) (iblk m c 4 t) (iblk m c 5 t) (kz m c t n h) (ke m c t n h) (chainK q n (Nat.le_of_succ_le h))

/-- A row's share from one head. -/
def partQ (zr er : ℕ → ℕ → ℝ) (s h : ℕ) (d : Fin 128) : ℝ := dxn s (erow er s h) d * hat (zrow zr s h) d
def partK (zr fr : ℕ → ℕ → ℝ) (s h : ℕ) (d : Fin 128) : ℝ := dxn s (erow fr s h) d * hat (krow zr s h) d

include hz he in
theorem chainQ_at (q : Vec Ideal S1x128 .f32) (d : Fin 128) (n : ℕ) (h : n ≤ 12) :
    chainQ m c t q n h (ix2 0 d) = q (ix2 0 d) + ((∑ k : Fin n, ∑ r, partQ zr er (row t r) k d : ℝ) : EReal) := by
  induction n with
  | zero => simp [chainQ]
  | succ n ih =>
    unfold chainQ
    have e := Fin.sum_univ_castSucc fun k : Fin (n + 1) => ∑ r, partQ zr er (row t r) k d
    rw [headG_at _ _ _ _ _ _ (fun r => row t r) (iblk3 m c t) (iblk4 m c t) (iblk5 m c t) (fun r => zrow zr (row t r) n)
      (qz_at m c zr hz t n h) (fun r => erow er (row t r) n) (qe_at m c er he t n h), ih, e, add_assoc,
      EReal.coe_add]
    rfl
include hz hf in
theorem chainK_at (q : Vec Ideal S1x128 .f32) (d : Fin 128) (n : ℕ) (h : n ≤ 4) :
    chainK m c t q n h (ix2 0 d) = q (ix2 0 d) + ((∑ k : Fin n, ∑ r, partK zr fr (row t r) k d : ℝ) : EReal) := by
  induction n with
  | zero => simp [chainK]
  | succ n ih =>
    unfold chainK
    have e := Fin.sum_univ_castSucc fun k : Fin (n + 1) => ∑ r, partK zr fr (row t r) k d
    rw [headG_at _ _ _ _ _ _ (fun r => row t r) (iblk3 m c t) (iblk4 m c t) (iblk5 m c t) (fun r => krow zr (row t r) n)
      (kz_at m c zr hz t n h) (fun r => erow fr (row t r) n) (ke_at m c fr hf t n h), ih, e, add_assoc,
      EReal.coe_add]
    rfl

/-- What a point adds to the gains' gradients. -/
def pointQ (zr er : ℕ → ℕ → ℝ) (t : Fin cfg0.N) (d : Fin 128) : ℝ := ∑ k : Fin 12, ∑ r, partQ zr er (row t r) k d
def pointK (zr fr : ℕ → ℕ → ℝ) (t : Fin cfg0.N) (d : Fin 128) : ℝ := ∑ k : Fin 4, ∑ r, partK zr fr (row t r) k d

theorem zero3 (d : Fin 128) : k0_pay3 (F := Ideal) (ix2 0 d) = 0 := by pointwise [k0_pay3]
theorem zero4' (d : Fin 128) : k0_pay4 (F := Ideal) (ix2 0 d) = 0 := by pointwise [k0_pay4]

set_option maxHeartbeats 4000000 in
theorem outQ_A (h : t.val % 16 = 0) : (outsAt0 m c t t.isLt).2.1 = chainQ m c t (k0_pay3 (F := Ideal)) 12 (le_refl _) := by
  rw [outsAt0_A m c t h]
  frame_open
  simp (disch := decide) only [↓ View.readCov_skip, ↓ View.readCov_cons_toLoadRect, ↓ View.readCov_fill]
  frame_out
  rfl
set_option maxHeartbeats 4000000 in
theorem outQ_B (h : ¬ t.val % 16 = 0) : (outsAt0 m c t t.isLt).2.1
    = chainQ m c t (outsAt0 m c (t.val - 1) (Nat.lt_of_le_of_lt (Nat.sub_le _ _) t.isLt)).2.1 12 (le_refl _) := by
  rw [outsAt0_B m c t h]
  frame_open
  simp (disch := decide) only [↓ View.readCov_skip, ↓ View.readCov_cons_toLoadRect, ↓ View.readCov_fill]
  frame_out
  rfl
set_option maxHeartbeats 4000000 in
theorem outK_A (h : t.val % 16 = 0) : (outsAt0 m c t t.isLt).2.2 = chainK m c t (k0_pay4 (F := Ideal)) 4 (le_refl _) := by
  rw [outsAt0_A m c t h]
  frame_open
  simp (disch := decide) only [↓ View.readCov_skip, ↓ View.readCov_cons_toLoadRect, ↓ View.readCov_fill]
  frame_out
  rfl
set_option maxHeartbeats 4000000 in
theorem outK_B (h : ¬ t.val % 16 = 0) : (outsAt0 m c t t.isLt).2.2
    = chainK m c t (outsAt0 m c (t.val - 1) (Nat.lt_of_le_of_lt (Nat.sub_le _ _) t.isLt)).2.2 4 (le_refl _) := by
  rw [outsAt0_B m c t h]
  frame_open
  simp (disch := decide) only [↓ View.readCov_skip, ↓ View.readCov_cons_toLoadRect, ↓ View.readCov_fill]
  frame_out
  rfl

end Kernel

end Cert.PrepProof
-- ==== Proof.Prep.lean ====
/- The claims about the gradient of the rotary embedding and of the queries' and keys' norms. -/
module

import proofs.«01_k».proof.Defs
public import proofs.«01_k».proof.Proof.Gen.Pre_finite_prep
public import proofs.«01_k».proof.Proof.Gen.On_prep_mask
public import proofs.«01_k».proof.Proof.Gen.PrepRefIdeal.Run
public import proofs.«01_k».proof.Proof.Gen.PrepRefIdeal.Read
public import proofs.«01_k».proof.Proof.Gen.PrepIdeal.Value
public import proofs.«01_k».proof.Proof.PrepSum

@[expose] public section

set_option maxRecDepth 16384

noncomputable section

namespace Cert.PrepProof

open Idealize.ShloMosaic Idealize.ShloMosaic.TcCoe Idealize.SL.Sem
open Idealize.ShloMosaic.Pipeline (Dat)
open Cert.Lift
open Cert.MemAttnProof (rms hat)
open Cert.PrepIdeal Cert.PrepIdeal.Gen

section Kernel

variable (m : (ℓ : Loc nD τ sig) → Buf (Elt Ideal) ℓ) (c : Dev nD)
variable (zr : ℕ → ℕ → ℝ) (hz : ∀ s n (hn : n < 3072), n < 2048 → A0 m c (ix2 s ⟨n, hn⟩) = (zr s n : EReal))
  (gq : Fin 128 → ℝ) (hq : ∀ d, A1 m c (ix1 d) = (gq d : EReal))
  (gk : Fin 128 → ℝ) (hg : ∀ d, A2 m c (ix1 d) = (gk d : EReal))
  (er : ℕ → ℕ → ℝ) (he : ∀ s n hn, A3 m c (ix2 s ⟨n, hn⟩) = (er s n : EReal))
  (fr : ℕ → ℕ → ℝ) (hf : ∀ s n hn, A4 m c (ix2 s ⟨n, hn⟩) = (fr s n : EReal))

/-! ## The gains -/

theorem rows_sum (H : ℕ) (f : ℕ → Fin H → ℝ) : (∑ t : Fin cfg0.N, ((∑ k, ∑ r : Fin 256, f (row t r) k : ℝ) : EReal))
    = ((∑ s : Fin 4096, ∑ k, f s k : ℝ) : EReal) := by
  rw [sum_coe]
  refine congrArg _ ?_
  have e : ∀ t : Fin cfg0.N, (∑ k, ∑ r : Fin 256, f (row t r) k) = ∑ r : Fin 256, ∑ k, f (row t r) k := fun t => Finset.sum_comm
  simp only [e]
  refine Fin.sum_mul_add_congr (fun t r hl => ?_) (by rw [show cfg0.N = 16 from N_0])
  exact Finset.sum_congr rfl fun k _ => congrArg (f · k) (by show 256 * t.val + r.val = t.val * 256 + r.val; omega)

include hz he in
theorem final10 : (dats m 0 c).arrAt 10 cfg0.N = PrepRefIdeal.Read.val_main_v183 (F := Ideal) (A0 m c) (A3 m c) := by
  refine (dats m 0 c).arrAt_eq_of_after_last 10 t0_15 (by decide +kernel) _ fun i => ?_
  blk_simp
  rw [after0_10]
  idx_vars i
  obtain rfl : i0 = 0 := Subsingleton.elim _ _
  rw [Pipeline.eq_sum_fin_of_reset_step_apply_last (fun n h d => (outsAt0 m c n h).2.1 (ix2 0 d)) 16 (fun _ => 0)
    (fun t d => (pointQ zr er t d : EReal))
    (fun t h d => by
      show (outsAt0 m c t t.isLt).2.1 (ix2 0 d) = _
      rw [outQ_A m c t h, chainQ_at m c zr hz er he, zero3]; rfl)
    (fun t h d => by
      show (outsAt0 m c t t.isLt).2.1 (ix2 0 d) = _
      rw [outQ_B m c t h, chainQ_at m c zr hz er he]; rfl)
    (le_of_eq N_0) t0_15 rfl i1, zero_add]
  unfold pointQ
  rw [rows_sum 12 (fun s k => partQ zr er s k i1)]
  exact (q_dg _ _ zr hz er he i1).symm

include hz hf in
theorem final11 : (dats m 0 c).arrAt 11 cfg0.N = PrepRefIdeal.Read.val_main_v184 (F := Ideal) (A0 m c) (A4 m c) := by
  refine (dats m 0 c).arrAt_eq_of_after_last 11 t0_15 (by decide +kernel) _ fun i => ?_
  blk_simp
  rw [after0_11]
  idx_vars i
  obtain rfl : i0 = 0 := Subsingleton.elim _ _
  rw [Pipeline.eq_sum_fin_of_reset_step_apply_last (fun n h d => (outsAt0 m c n h).2.2 (ix2 0 d)) 16 (fun _ => 0)
    (fun t d => (pointK zr fr t d : EReal))
    (fun t h d => by
      show (outsAt0 m c t t.isLt).2.2 (ix2 0 d) = _
      rw [outK_A m c t h, chainK_at m c zr hz fr hf, zero4']; rfl)
    (fun t h d => by
      show (outsAt0 m c t t.isLt).2.2 (ix2 0 d) = _
      rw [outK_B m c t h, chainK_at m c zr hz fr hf]; rfl)
    (le_of_eq N_0) t0_15 rfl i1, zero_add]
  unfold pointK
  rw [rows_sum 4 (fun s k => partK zr fr s k i1)]
  exact (k_dg _ _ zr hz fr hf i1).symm

/-! ## The values' gradient -/

variable (t : Fin cfg0.N)

include hz hq he in
theorem pieceQ (h : ℕ) (hh : h < 12) (s : Fin 4096) (n : Fin 3072) (r : Fin 256) (d : Fin 128) (hs : s.val = t.val * 256 + r.val)
    (hn : n.val = h * 128 + d.val) :
    headZ (iblk m c 3 t) (iblk m c 4 t) (iblk m c 5 t) (qz m c t h hh) (qe m c t h hh) (iblk m c 1 t) (ix2 r d)
      = PrepRefIdeal.Read.val_main_v182 (F := Ideal) (A0 m c) (A1 m c) (A2 m c) (A3 m c) (A4 m c) (A5 m c) (ix2 s n) := by
  have e : row t r = s := Fin.ext (by show 256 * t.val + r.val = s.val; omega)
  rw [headZ_at _ _ _ _ _ _ (fun r => row t r) (iblk3 m c t) (iblk4 m c t) (iblk5 m c t) (fun r => zrow zr (row t r) h)
    (qz_at m c zr hz t h hh) (fun r => erow er (row t r) h) (qe_at m c er he t h hh) gq
    (fun d => (iblk1 m c t d).trans (hq d)), e]
  exact (out_q _ _ _ _ _ _ zr hz gq hq er he s ⟨h, hh⟩ d n hn).symm

include hz hg hf in
theorem pieceK (h : ℕ) (hh : h < 4) (s : Fin 4096) (n : Fin 3072) (r : Fin 256) (d : Fin 128) (hs : s.val = t.val * 256 + r.val)
    (hn : n.val = 1536 + (h * 128 + d.val)) :
    headZ (iblk m c 3 t) (iblk m c 4 t) (iblk m c 5 t) (kz m c t h hh) (ke m c t h hh) (iblk m c 2 t) (ix2 r d)
      = PrepRefIdeal.Read.val_main_v182 (F := Ideal) (A0 m c) (A1 m c) (A2 m c) (A3 m c) (A4 m c) (A5 m c) (ix2 s n) := by
  have e : row t r = s := Fin.ext (by show 256 * t.val + r.val = s.val; omega)
  rw [headZ_at _ _ _ _ _ _ (fun r => row t r) (iblk3 m c t) (iblk4 m c t) (iblk5 m c t) (fun r => krow zr (row t r) h)
    (kz_at m c zr hz t h hh) (fun r => erow fr (row t r) h) (ke_at m c fr hf t h hh) gk
    (fun d => (iblk2 m c t d).trans (hg d)), e]
  exact (out_k _ _ _ _ _ _ zr hz gk hg fr hf s ⟨h, hh⟩ d n hn).symm

theorem pieceV (s : Fin 4096) (n : Fin 3072) (r : Fin 256) (d : Fin 512) (hs : s.val = t.val * 256 + r.val)
    (hn : n.val = 2048 + d.val) :
    k0_pay2 (F := Ideal) (iblk m c 8 t) (ix2 r d)
      = PrepRefIdeal.Read.val_main_v182 (F := Ideal) (A0 m c) (A1 m c) (A2 m c) (A3 m c) (A4 m c) (A5 m c) (ix2 s n) := by
  have e : row t r = s := Fin.ext (by show 256 * t.val + r.val = s.val; omega)
  pointwise [k0_pay2]
  rw [iblk8, e]
  exact (out_v _ _ _ _ _ _ s d n hn).symm

include hz hq hg he hf in
theorem tile_dz (y : Fin 256) (n : Fin 2560) (s : Fin 4096) (q : Fin 3072) (hs : s.val = t.val * 256 + y.val) (hq' : q.val = n.val) :
    (outsAt0 m c t.val t.isLt).1 (ix2 y n)
      = PrepRefIdeal.Read.val_main_v182 (F := Ideal) (A0 m c) (A1 m c) (A2 m c) (A3 m c) (A4 m c) (A5 m c) (ix2 s q) := by
  by_cases hc : t.val % 16 = 0
  · rw [outsAt0_A m c t hc]
    frame_open
    simp (disch := decide) only [↓ View.readCov_skip, ↓ View.readCov_cons_toLoadRect, ↓ View.readCov_fill]
    frame_out
    canon_tiles x h using View.cover_of_tiledBy _ ![256, 128] (by sl_kernel_rfl) (ix2 y n)
    all_goals idx_vars x
    · exact pieceV m c t s q x0 x1 (by omega) (by omega)
    · exact pieceK m c zr hz gk hg fr hf t 3 (by omega) s q x0 x1 (by omega) (by omega)
    · exact pieceK m c zr hz gk hg fr hf t 2 (by omega) s q x0 x1 (by omega) (by omega)
    · exact pieceK m c zr hz gk hg fr hf t 1 (by omega) s q x0 x1 (by omega) (by omega)
    · exact pieceK m c zr hz gk hg fr hf t 0 (by omega) s q x0 x1 (by omega) (by omega)
    · exact pieceQ m c zr hz gq hq er he t 11 (by omega) s q x0 x1 (by omega) (by omega)
    · exact pieceQ m c zr hz gq hq er he t 10 (by omega) s q x0 x1 (by omega) (by omega)
    · exact pieceQ m c zr hz gq hq er he t 9 (by omega) s q x0 x1 (by omega) (by omega)
    · exact pieceQ m c zr hz gq hq er he t 8 (by omega) s q x0 x1 (by omega) (by omega)
    · exact pieceQ m c zr hz gq hq er he t 7 (by omega) s q x0 x1 (by omega) (by omega)
    · exact pieceQ m c zr hz gq hq er he t 6 (by omega) s q x0 x1 (by omega) (by omega)
    · exact pieceQ m c zr hz gq hq er he t 5 (by omega) s q x0 x1 (by omega) (by omega)
    · exact pieceQ m c zr hz gq hq er he t 4 (by omega) s q x0 x1 (by omega) (by omega)
    · exact pieceQ m c zr hz gq hq er he t 3 (by omega) s q x0 x1 (by omega) (by omega)
    · exact pieceQ m c zr hz gq hq er he t 2 (by omega) s q x0 x1 (by omega) (by omega)
    · exact pieceQ m c zr hz gq hq er he t 1 (by omega) s q x0 x1 (by omega) (by omega)
    · exact pieceQ m c zr hz gq hq er he t 0 (by omega) s q x0 x1 (by omega) (by omega)
  · rw [outsAt0_B m c t hc]
    frame_open
    simp (disch := decide) only [↓ View.readCov_skip, ↓ View.readCov_cons_toLoadRect, ↓ View.readCov_fill]
    frame_out
    canon_tiles x h using View.cover_of_tiledBy _ ![256, 128] (by sl_kernel_rfl) (ix2 y n)
    all_goals idx_vars x
    · exact pieceV m c t s q x0 x1 (by omega) (by omega)
    · exact pieceK m c zr hz gk hg fr hf t 3 (by omega) s q x0 x1 (by omega) (by omega)
    · exact pieceK m c zr hz gk hg fr hf t 2 (by omega) s q x0 x1 (by omega) (by omega)
    · exact pieceK m c zr hz gk hg fr hf t 1 (by omega) s q x0 x1 (by omega) (by omega)
    · exact pieceK m c zr hz gk hg fr hf t 0 (by omega) s q x0 x1 (by omega) (by omega)
    · exact pieceQ m c zr hz gq hq er he t 11 (by omega) s q x0 x1 (by omega) (by omega)
    · exact pieceQ m c zr hz gq hq er he t 10 (by omega) s q x0 x1 (by omega) (by omega)
    · exact pieceQ m c zr hz gq hq er he t 9 (by omega) s q x0 x1 (by omega) (by omega)
    · exact pieceQ m c zr hz gq hq er he t 8 (by omega) s q x0 x1 (by omega) (by omega)
    · exact pieceQ m c zr hz gq hq er he t 7 (by omega) s q x0 x1 (by omega) (by omega)
    · exact pieceQ m c zr hz gq hq er he t 6 (by omega) s q x0 x1 (by omega) (by omega)
    · exact pieceQ m c zr hz gq hq er he t 5 (by omega) s q x0 x1 (by omega) (by omega)
    · exact pieceQ m c zr hz gq hq er he t 4 (by omega) s q x0 x1 (by omega) (by omega)
    · exact pieceQ m c zr hz gq hq er he t 3 (by omega) s q x0 x1 (by omega) (by omega)
    · exact pieceQ m c zr hz gq hq er he t 2 (by omega) s q x0 x1 (by omega) (by omega)
    · exact pieceQ m c zr hz gq hq er he t 1 (by omega) s q x0 x1 (by omega) (by omega)
    · exact pieceQ m c zr hz gq hq er he t 0 (by omega) s q x0 x1 (by omega) (by omega)

include hz hq hg he hf in
theorem final9 (i : S4096x3072.Idx) (hi : (i 1).val < 2560) : (dats m 0 c).arrAt 9 cfg0.N i
    = PrepRefIdeal.Read.val_main_v182 (F := Ideal) (A0 m c) (A1 m c) (A2 m c) (A3 m c) (A4 m c) (A5 m c) i := by
  have key := (dats m 0 c).arrAt_apply_of_coversWhere 9
    (PrepRefIdeal.Read.val_main_v182 (F := Ideal) (A0 m c) (A1 m c) (A2 m c) (A3 m c) (A4 m c) (A5 m c))
    (P := fun i : S4096x3072.Idx => (i 1).val < 2560) (fun β => β 1 < 1) (by decide +kernel) (fun t hf' y => ?_) (fun j => ?_) i
  · rw [key, if_pos hi]
  · blk_simp
    rw [after0_9]
    obtain ⟨u, hu⟩ : ∃ u : S256x2560.Idx, u = (cfg0.win 9).xinj (cfg0.grid.coords t) y := ⟨_, rfl⟩
    have h0 : (u 0).val = (y 0).val := by rw [hu]
    have h1 : (u 1).val = (y 1).val := by rw [hu]
    have hN := lt_of_lt_of_eq t.isLt N_0
    rw [← hu]
    clear hu
    idx_vars u
    have b0 := u0.isLt
    have b1 := u1.isLt
    refine (tile_dz m c zr hz gq hq gk hg er he fr hf t u0 u1 ⟨t.val * 256 + u0.val, by omega⟩ ⟨u1.val, by omega⟩ rfl rfl).trans
      (congrArg _ ?_)
    blk_ext [idx t, ← h0, ← h1]
  · blk_simp [Pipeline.Window.cell_apply]
    omega

end Kernel

/-! ## The claim -/

/-- The mask leaves out the columns the kernel never writes. -/
theorem mask_dz (x0 : FVec Ideal On_prep_mask.S4096x3072 .f32) (x1 x2 : FVec Ideal On_prep_mask.S128 .f32) (x3 : FVec Ideal On_prep_mask.S4096x1536 .f32)
    (x4 x5 : FVec Ideal On_prep_mask.S4096x512 .f32) (i : On_prep_mask.S4096x3072.Idx)
    (h : (On_prep_mask.fn (F := Ideal) x0 x1 x2 x3 x4 x5).1 i = 1#1) : (i 1).val < 2560 := by
  unfold On_prep_mask.fn at h
  idx_vars i
  pointwise at h
  exact (by decide +kernel : ∀ n : Fin 3072, IntOp.cmpi .slt (BitVec.ofNat 32 n.val) 2560#32 = 1#1 → n.val < 2560) i1 h

/-- Entries of a matrix that are real numbers in some columns, as a table of real numbers. -/
theorem columns {A B : ℕ} (x : FVec Ideal ⟨2, ![A, B]⟩ .f32) (p : ℕ → Prop)
    (h : ∀ (s : Fin A) (n : ℕ) (hn : n < B), p n → ((x (ix2 s ⟨n, hn⟩) : EReal)) = ((x (ix2 s ⟨n, hn⟩) : EReal).toReal : EReal)) :
    ∃ r : ℕ → ℕ → ℝ, ∀ (s : Fin A) (n : ℕ) (hn : n < B), p n → x (ix2 s ⟨n, hn⟩) = (r s n : EReal) :=
  ⟨fun s n => if h : s < A ∧ n < B then (x (ix2 ⟨s, h.1⟩ ⟨n, h.2⟩) : EReal).toReal else 0,
    fun s n hn hl => by dsimp only; rw [dif_pos ⟨s.isLt, hn⟩]; exact h s n hn hl⟩

/-- The precondition says that the queries' and keys' columns, the gains and the incoming gradients are real numbers. -/
theorem finite (x0 : FVec Ideal Pre_finite_prep.S4096x3072 .f32) (x1 x2 : FVec Ideal Pre_finite_prep.S128 .f32)
    (x3 : FVec Ideal Pre_finite_prep.S4096x1536 .f32) (x4 x5 : FVec Ideal Pre_finite_prep.S4096x512 .f32)
    (h : Pre_finite_prep.fn (F := Ideal) x0 x1 x2 x3 x4 x5 = fun _ => 1#1) :
    (∃ r : ℕ → ℕ → ℝ, ∀ (s : Fin 4096) (n : ℕ) (hn : n < 3072), n < 2048 → x0 (ix2 s ⟨n, hn⟩) = (r s n : EReal))
    ∧ (∃ g : Fin 128 → ℝ, ∀ d, x1 (ix1 d) = (g d : EReal)) ∧ (∃ g : Fin 128 → ℝ, ∀ d, x2 (ix1 d) = (g d : EReal))
    ∧ (∃ r : ℕ → ℕ → ℝ, ∀ (s : Fin 4096) (n : ℕ) (hn : n < 1536), x3 (ix2 s ⟨n, hn⟩) = (r s n : EReal))
    ∧ (∃ r : ℕ → ℕ → ℝ, ∀ (s : Fin 4096) (n : ℕ) (hn : n < 512), x4 (ix2 s ⟨n, hn⟩) = (r s n : EReal)) := by
  have h0 := congrFun h ix0
  unfold Pre_finite_prep.fn Pre_finite_prep.fn_part1 at h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨columns x0 (· < 2048) fun s n hn hl => ?_, ⟨_, fun d => real_of_all _ _ _ _ _ _ h1 (fun _ => rfl) (ix1 d)⟩,
    ⟨_, fun d => real_of_all _ _ _ _ _ _ h2 (fun _ => rfl) (ix1 d)⟩, ?_, ?_⟩
  · have e := real_of_all _ _ _ _ _ _ h0 (fun _ => rfl) (ix2 s ⟨n, hl⟩)
    pointwise at e
    exact e
  · obtain ⟨r, hr⟩ := columns x3 (fun _ => True) fun s n hn _ => real_of_all _ _ _ _ _ _ h3 (fun _ => rfl) (ix2 s ⟨n, hn⟩)
    exact ⟨r, fun s n hn => hr s n hn trivial⟩
  · obtain ⟨r, hr⟩ := columns x4 (fun _ => True) fun s n hn _ => real_of_all _ _ _ _ _ _ h4 (fun _ => rfl) (ix2 s ⟨n, hn⟩)
    exact ⟨r, fun s n hn => hr s n hn trivial⟩

theorem frame_ref : Cert.quiescent_PrepRefIdeal := fun m ρ _ =>
  (θ_run Cert.PrepRefIdeal.defs _ _).mono (fun r h => ⟨fun c => (h c).2.2.2, sem_eq_zero_of_no_sems (by decide) r.2⟩)
    (Cert.PrepRefIdeal.Value.run (F := Ideal) m ρ)

theorem algebraic : Cert.algebraic_PrepIdeal_PrepRefIdeal_on_prep_mask_pre_finite_prep := by
  intro m g m' g' hpre hagree
  refine ⟨fun c => (dats m 0 c).arrAt 9 cfg0.N, fun c => (dats m 0 c).arrAt 10 cfg0.N, fun c => (dats m 0 c).arrAt 11 cfg0.N, ?_, ?_⟩
  · run_from Cert.PrepIdeal.Value.run_blocks m g
    all_goals exact fun _ _ => trivial
  · run_from Cert.PrepRefIdeal.Value.run m' g'
    all_goals obtain ⟨e0, e1, e2, e3, e4, e5⟩ := hagree c
    all_goals obtain ⟨⟨zr, hz⟩, ⟨gq, hq⟩, ⟨gk, hg⟩, ⟨er, he⟩, ⟨fr, hf⟩⟩ := finite _ _ _ _ _ _ (hpre c)
    · intro i hi
      refine (congrFun (PrepRefIdeal.Read.val_main_v182_eq (StableHlo.launchContents m' c)) i).trans ?_
      rw [show StableHlo.launchContents m' c (Proc.tc.devRef PrepRefIdeal.main_arg0) = _ from e0, show StableHlo.launchContents m' c (Proc.tc.devRef PrepRefIdeal.main_arg1) = _ from e1, show StableHlo.launchContents m' c (Proc.tc.devRef PrepRefIdeal.main_arg2) = _ from e2, show StableHlo.launchContents m' c (Proc.tc.devRef PrepRefIdeal.main_arg3) = _ from e3, show StableHlo.launchContents m' c (Proc.tc.devRef PrepRefIdeal.main_arg4) = _ from e4, show StableHlo.launchContents m' c (Proc.tc.devRef PrepRefIdeal.main_arg5) = _ from e5]
      exact (final9 m c zr hz gq hq gk hg er he fr hf i (mask_dz _ _ _ _ _ _ i hi)).symm
    · intro i _
      refine (congrFun (PrepRefIdeal.Read.val_main_v183_eq (StableHlo.launchContents m' c)) i).trans ?_
      rw [show StableHlo.launchContents m' c (Proc.tc.devRef PrepRefIdeal.main_arg0) = _ from e0, show StableHlo.launchContents m' c (Proc.tc.devRef PrepRefIdeal.main_arg3) = _ from e3]
      exact (congrFun (final10 m c zr hz er he) i).symm
    · intro i _
      refine (congrFun (PrepRefIdeal.Read.val_main_v184_eq (StableHlo.launchContents m' c)) i).trans ?_
      rw [show StableHlo.launchContents m' c (Proc.tc.devRef PrepRefIdeal.main_arg0) = _ from e0, show StableHlo.launchContents m' c (Proc.tc.devRef PrepRefIdeal.main_arg4) = _ from e4]
      exact (congrFun (final11 m c zr hz fr hf) i).symm

end Cert.PrepProof
-- ==== Proof.FwdReal.lean ====
/- The attention's forward pass in real numbers: a row of scores is read a tile at a time, with the largest score so far taken
   from the exponents; what the row's sums come to, and what is left when the last tile has been read. -/
module

public import proofs.«01_k».proof.Proof.FlashReal
public import proofs.«01_k».proof.Proof.Soft

@[expose] public section

set_option maxRecDepth 16384

noncomputable section

namespace Cert.FwdProof

open Idealize.ShloMosaic Idealize.ShloMosaic.TcCoe Idealize.SL.Sem
open Cert.Lift

/-- The sum over the first `b` keys of the powers of two of the scores `a` less `M`, each weighted by `w`. -/
def part (a w : ℕ → ℝ) (M : ℝ) (b : ℕ) : ℝ := ∑ i ∈ Finset.range b, (2 : ℝ) ^ (a i - M) * w i

/-- What a row holds when `b` keys have been read: nothing yet, or the number taken from the scores and the weighted sums. -/
def Held {ι : Type} (a : ℕ → ℝ) (w : ι → ℕ → ℝ) (b : ℕ) (m : EReal) (acc : ι → EReal) : Prop :=
  (b = 0 ∧ m = ⊥ ∧ ∀ d, acc d = 0) ∨ ∃ M : ℝ, m = (M : EReal) ∧ ∀ d, acc d = (part a (w d) M b : EReal)

theorem exp2_bot : Ideal.exp2 (⊥ : EReal) = 0 := rfl

theorem part_step (a w : ℕ → ℝ) (M M' : ℝ) (b n : ℕ) :
    (2 : ℝ) ^ (M - M') * part a w M b + ∑ l : Fin n, (2 : ℝ) ^ (a (b + l) - M') * w (b + l) = part a w M' (b + n) := by
  unfold part
  rw [Finset.sum_range_add, Finset.mul_sum, ← Finset.sum_range (fun l => (2 : ℝ) ^ (a (b + l) - M') * w (b + l))]
  refine congrArg (· + _) (Finset.sum_congr rfl fun i _ => ?_)
  rw [← mul_assoc, ← Real.rpow_add (by norm_num)]
  congr 2
  ring

/-- One tile of `n` keys: the row's largest score is renewed, the sums so far are scaled to it, and the tile's are added. -/
theorem held_step {ι : Type} (a : ℕ → ℝ) (w : ι → ℕ → ℝ) (b n : ℕ) [NeZero n] (m : EReal) (acc : ι → EReal) (h : Held a w b m acc)
    (m' : EReal) (acc' : ι → EReal)
    (hm : m' = max m (Finset.univ.fold max ⊥ fun l : Fin n => (a (b + l) : EReal)))
    (ha : ∀ d, acc' d = Ideal.exp2 (m - m') * acc d + ∑ l : Fin n, Ideal.exp2 ((a (b + l) : EReal) - m') * (w d (b + l) : EReal)) :
    Held a w (b + n) m' acc' := by
  obtain ⟨R, hR⟩ := fold_max_coe fun l : Fin n => a (b + l)
  rw [hR] at hm
  rcases h with ⟨rfl, rfl, h0⟩ | ⟨M, rfl, h0⟩
  · rw [max_eq_right bot_le] at hm
    subst hm
    refine Or.inr ⟨R, rfl, fun d => ?_⟩
    rw [ha, h0, mul_zero, zero_add]
    simp only [← EReal.coe_sub, FlashProof.exp2_coe, ← EReal.coe_mul, sum_coe]
    refine congrArg _ ?_
    rw [← part_step a (w d) 0 R 0 n]
    simp [part]
  · rw [max_coe] at hm
    subst hm
    refine Or.inr ⟨max M R, rfl, fun d => ?_⟩
    rw [ha, h0]
    simp only [← EReal.coe_sub, FlashProof.exp2_coe, ← EReal.coe_mul, sum_coe, ← EReal.coe_add]
    exact congrArg _ (part_step a (w d) M (max M R) b n)

/-! ## After the last tile -/

/-- A power of two of a score over the logarithm of two. -/
theorem two_pow (x M : ℝ) : (2 : ℝ) ^ (x / Real.log 2 - M) = Real.exp (x - M * Real.log 2) := by
  rw [Real.rpow_def_of_pos (by norm_num), mul_sub, mul_div_cancel₀ _ FlashProof.log2_pos.ne', mul_comm M]

/-- The row's scores, over the logarithm of two, read at natural numbers. -/
def row (x : Fin 4096 → ℝ) (i : ℕ) : ℝ := if h : i < 4096 then x ⟨i, h⟩ else 0

theorem row_at (x : Fin 4096 → ℝ) (i : Fin 4096) : row x i.val = x i := by
  unfold row; rw [dif_pos i.isLt]

theorem part_all (x w : Fin 4096 → ℝ) (M : ℝ) :
    part (row fun i => x i / Real.log 2) (row w) M 4096 = ∑ i, Real.exp (x i - M * Real.log 2) * w i := by
  unfold part
  rw [Finset.sum_range]
  exact Finset.sum_congr rfl fun i _ => by rw [row_at, row_at, two_pow]

/-- The quotient of a weighted sum by the sum of the exponentials is the sum weighted by the probabilities. -/
theorem out_all (x w : Fin 4096 → ℝ) (M : ℝ) :
    (∑ i, Real.exp (x i - M) * w i) / ∑ i, Real.exp (x i - M) = ∑ i, w i * (Real.exp (x i) / ∑ j, Real.exp (x j)) := by
  rw [Finset.sum_div]
  exact Finset.sum_congr rfl fun i _ => by rw [mul_div_right_comm, FlashProof.shift, mul_comm]

/-- The logarithm of the sum of the exponentials does not depend on what is taken from the scores. -/
theorem lse_shift (x : Fin 4096 → ℝ) (M : ℝ) : M + Real.log (∑ i, Real.exp (x i - M)) = Real.log (∑ i, Real.exp (x i)) := by
  simp only [Real.exp_sub]
  rw [← Finset.sum_div, Real.log_div (FlashProof.sum_exp_pos x).ne' (Real.exp_ne_zero _), Real.log_exp]
  ring

/-! ## Rows and columns -/

/-- The row, within a head, of block `i` of queries, group `g`, row `x`; the query there; the row and the column in a block. -/
def lr (i : Fin 8) (g : Fin 3) (x : Fin 512) : Fin 12288 := ⟨i.val * 1536 + g.val * 512 + x.val, by omega⟩
def qr (i : Fin 8) (x : Fin 512) : Fin 4096 := ⟨i.val * 512 + x.val, by omega⟩
def br (g : Fin 3) (x : Fin 512) : Fin 1536 := ⟨g.val * 512 + x.val, by omega⟩
def bc (g : Fin 3) (d : Fin 128) : Fin 384 := ⟨g.val * 128 + d.val, by omega⟩

end Cert.FwdProof
-- ==== Proof.FwdPoint.lean ====
/- The attention's forward pass: what one grid point does to one group of query rows. -/
module

public import proofs.«01_k».proof.Defs
public import proofs.«01_k».proof.Proof.Gen.FlashFwdIdeal.Value
public import proofs.«01_k».proof.Proof.FwdReal

@[expose] public section

set_option maxRecDepth 16384

noncomputable section

namespace Cert.FwdProof

open Idealize.ShloMosaic Idealize.ShloMosaic.TcCoe Idealize.SL.Sem
open Cert.Lift
open Cert.FlashFwdIdeal Cert.FlashFwdIdeal.Gen

/-- A query row's product with a tile's key. -/
def dotS (q : Vec Ideal S512x128 .bf16) (k : Vec Ideal S1024x128 .bf16) (r : Fin 512) (l : Fin 1024) : EReal :=
  ∑ d, (q (ix2 r d) : EReal) * (k (ix2 l d) : EReal)

/-- A tile's values, with a column of ones behind each. -/
def ext (v : Vec Ideal S1024x128 .bf16) (l : Fin 1024) (d : Fin 256) : EReal :=
  if h : d.val < 128 then v (ix2 l ⟨d.val, h⟩) else 1

/-- The row's largest score with the tile's, and the row's sums with the tile's. -/
def maxS (s : Fin 1024 → EReal) (m : EReal) : EReal := max m (Finset.univ.fold max ⊥ s)
def accS (s : Fin 1024 → EReal) (w : Fin 1024 → EReal) (m acc : EReal) : EReal :=
  Ideal.exp2 (m - maxS s m) * acc + ∑ l, Ideal.exp2 (s l - maxS s m) * w l

variable (q : Vec Ideal S512x128 .bf16) (k v : Vec Ideal S1024x128 .bf16) (mo : Vec Ideal S512x1 .f32) (ao : Vec Ideal S512x256 .f32)
  (r : Fin 512) (d : Fin 256)

theorem ext_at (l : Fin 1024) : k0_pay12 (F := Ideal) v (ix2 l d) = ext v l d := by
  unfold k0_pay12
  pointwise
  rfl

theorem max0 : k0_pay17 (F := Ideal) (k0_pay15 k q mo) (ix2 r 0) = maxS (dotS q k r) (mo (ix2 r 0)) := by
  pointwise [k0_pay17, k0_pay15, k0_pay13, k0_pay11]
  simp only [lit_bot]
  rfl

theorem max1 : k0_pay21 (F := Ideal) (k0_pay14 k q) mo (ix2 r 0) = maxS (dotS q k r) (mo (ix2 r 0)) := by
  pointwise [k0_pay21, k0_pay19, k0_pay14, k0_pay11]
  simp only [lit_bot]
  rfl

theorem max2 : k0_pay2 (F := Ideal) (k0_pay22 (k0_pay11 k) q mo) (ix2 r 0) = maxS (dotS q k r) (mo (ix2 r 0)) := by
  pointwise [k0_pay2, k0_pay22, k0_pay18, k0_pay11]
  simp only [lit_bot]
  rfl

theorem acc0 : k0_pay16 (F := Ideal) k v q mo ao (ix2 r d) = accS (dotS q k r) (fun l => ext v l d) (mo (ix2 r 0)) (ao (ix2 r d)) := by
  have hm : k0_pay15 (F := Ideal) k q mo (ix2 r 0) = maxS (dotS q k r) (mo (ix2 r 0)) := by
    pointwise [k0_pay15, k0_pay13, k0_pay11]
    simp only [lit_bot]
    rfl
  pointwise [k0_pay16, k0_pay13, k0_pay11]
  simp only [ext_at, hm]
  rfl

theorem acc1 : k0_pay20 (F := Ideal) (k0_pay12 v) (k0_pay14 k q) mo ao (ix2 r d)
    = accS (dotS q k r) (fun l => ext v l d) (mo (ix2 r 0)) (ao (ix2 r d)) := by
  have hm : k0_pay19 (F := Ideal) (k0_pay14 k q) mo (ix2 r 0) = maxS (dotS q k r) (mo (ix2 r 0)) := by
    pointwise [k0_pay19, k0_pay14, k0_pay11]
    simp only [lit_bot]
    rfl
  have hs (l : Fin 1024) : k0_pay14 (F := Ideal) k q (ix2 r l) = dotS q k r l := by
    pointwise [k0_pay14, k0_pay11]
    rfl
  pointwise [k0_pay20]
  simp only [ext_at, hm, hs]
  rfl

theorem acc2 : k0_pay1 (F := Ideal) (k0_pay12 v) (k0_pay23 (k0_pay11 k) q mo) (k0_pay24 (k0_pay11 k) q mo) ao (ix2 r d)
    = accS (dotS q k r) (fun l => ext v l d) (mo (ix2 r 0)) (ao (ix2 r d)) := by
  have hm : k0_pay22 (F := Ideal) (k0_pay11 k) q mo (ix2 r 0) = maxS (dotS q k r) (mo (ix2 r 0)) := by
    pointwise [k0_pay22, k0_pay18, k0_pay11]
    simp only [lit_bot]
    rfl
  have hs (l : Fin 1024) : k0_pay18 (F := Ideal) (k0_pay11 k) q (ix2 r l) = dotS q k r l := by
    pointwise [k0_pay18, k0_pay11]
    rfl
  pointwise [k0_pay1, k0_pay23, k0_pay24]
  simp only [ext_at, hm, hs]
  rfl

end Cert.FwdProof
-- ==== Proof.FwdTile.lean ====
/- The attention's forward pass: what a grid point leaves in the scratch and in the outputs. -/
module

public import proofs.«01_k».proof.Proof.FwdPoint
public import Idealize.ShloMosaic.Lib.Pipeline.ReadBack

@[expose] public section

set_option maxRecDepth 16384

noncomputable section

namespace Cert.FwdProof

open Idealize.ShloMosaic Idealize.ShloMosaic.TcCoe Idealize.SL.Sem
open Cert.Lift
open Cert.FlashFwdIdeal Cert.FlashFwdIdeal.Gen

/-- The scores of row `r` of a block of queries, the block's three heads one after another. -/
def rowS (q : Vec Ideal S512x384 .bf16) (k : Vec Ideal S1024x128 .bf16) (r : Fin 1536) (l : Fin 1024) : EReal :=
  ∑ d : Fin 128, (q (ix2 (⟨r.val % 512, by omega⟩ : Fin 512) (⟨r.val / 512 * 128 + d.val, by omega⟩ : Fin 384)) : EReal) * (k (ix2 l d) : EReal)

theorem dotS_head (q : Vec Ideal S512x384 .bf16) (k : Vec Ideal S1024x128 .bf16) (g : ℕ) (hg : g < 3) (o : ℕ) (ho : o = 128 * g)
    (hi) (x : Fin 512) :
    dotS (View.ld q (Rect.unit ![0, o] ![512, 128] hi)) k x = rowS q k ⟨g * 512 + x.val, by omega⟩ := by
  funext l
  unfold dotS rowS
  refine Finset.sum_congr rfl fun d _ => congrArg (· * _) ?_
  refine View.ld_unit_apply_of q _ _ _ _ _ fun a => ?_
  fin_cases a
  · show (g * 512 + x.val) % 512 = 0 + x.val
    omega
  · show (g * 512 + x.val) / 512 * 128 + d.val = o + d.val
    omega

variable (q : Vec Ideal S512x384 .bf16) (k v : Vec Ideal S1024x128 .bf16) (m0 : Vec Ideal S1536x1 .f32) (a0 : Vec Ideal S1536x256 .f32)

/-- The scratch of the largest scores after a tile. -/
def newM : Vec Ideal S1536x1 .f32 := fun y => maxS (rowS q k (y 0)) (m0 y)
/-- The scratch of the sums after a tile. -/
def newA : Vec Ideal S1536x256 .f32 := fun y => accS (rowS q k (y 0)) (fun l => ext v l (y 1)) (m0 (ix2 (y 0) (0 : Fin 1))) (a0 y)

/-- One head's rows of the largest scores. -/
theorem piece_m (g : ℕ) (hg : g < 3) (o b : ℕ) (ho : o = 128 * g) (hb : b = 512 * g) (hi) (hj) (X : Vec Ideal S512x1 .f32)
    (hX : ∀ r : Fin 512, X (ix2 r 0) = maxS (dotS (View.ld q (Rect.unit ![0, o] ![512, 128] hi)) k r)
      (View.ld m0 (Rect.unit ![b, 0] ![512, 1] hj) (ix2 r (0 : Fin 1)))) (x : (Rect.unit (s := S1536x1) ![b, 0] ![512, 1] hj).shape.Idx) :
    X x = newM q k m0 ((Rect.unit ![b, 0] ![512, 1] hj).emb x) := by
  obtain ⟨r, rfl⟩ : ∃ r : Fin 512, x = ix2 r (0 : Fin 1) := ⟨x 0, by funext a; fin_cases a <;> first | rfl | exact Subsingleton.elim (α := Fin 1) _ _⟩
  rw [hX, dotS_head q k g hg o ho]
  unfold newM
  refine congrArg (fun r => maxS (rowS q k r) _) (Fin.ext ?_)
  rw [show ((Rect.unit (s := S1536x1) ![b, 0] ![512, 1] hj).emb (ix2 r (0 : Fin 1)) 0).val = _ from
    Rect.idx_unit_val (s := S1536x1) ![b, 0] ![512, 1] hj (ix2 r (0 : Fin 1)) 0]
  show g * 512 + r.val = b + r.val
  omega

theorem canon_m (L' : List (View.Piece (Elt Ideal) S1536x1 .f32)) :
    View.canon ([⟨Rect.unit ![1024, 0] ![512, 1] inb_S1536x1_S512x1_1024_0,
        k0_pay2 (k0_pay22 (k0_pay11 k) (View.ld q (Rect.unit ![0, 256] ![512, 128] inb_S512x384_S512x128_0_256))
          (View.ld m0 (Rect.unit ![1024, 0] ![512, 1] inb_S1536x1_S512x1_1024_0)))⟩,
      ⟨Rect.unit ![512, 0] ![512, 1] inb_S1536x1_S512x1_512_0,
        k0_pay21 (k0_pay14 k (View.ld q (Rect.unit ![0, 128] ![512, 128] inb_S512x384_S512x128_0_128)))
          (View.ld m0 (Rect.unit ![512, 0] ![512, 1] inb_S1536x1_S512x1_512_0))⟩,
      ⟨Rect.unit ![0, 0] ![512, 1] inb_S1536x1_S512x1_0_0,
        k0_pay17 (k0_pay15 k (View.ld q (Rect.unit ![0, 0] ![512, 128] inb_S512x384_S512x128_0_0))
          (View.ld m0 (Rect.unit ![0, 0] ![512, 1] inb_S1536x1_S512x1_0_0)))⟩] ++ L') = newM q k m0 := by
  funext y
  refine View.canon_append_of_piecesOf (newM q k m0) _ _ ?_ y (View.cover_of_tiledBy _ ![512, 1] (by sl_kernel_rfl) y)
  exact ⟨piece_m q k m0 2 (by omega) 256 1024 rfl rfl _ _ _ (max2 _ _ _), piece_m q k m0 1 (by omega) 128 512 rfl rfl _ _ _ (max1 _ _ _),
    piece_m q k m0 0 (by omega) 0 0 rfl rfl _ _ _ (max0 _ _ _), trivial⟩

/-- One head's rows of the sums. -/
theorem piece_a (g : ℕ) (hg : g < 3) (o b : ℕ) (ho : o = 128 * g) (hb : b = 512 * g) (hi) (hj) (hl) (X : Vec Ideal S512x256 .f32)
    (hX : ∀ (r : Fin 512) (d : Fin 256), X (ix2 r d) = accS (dotS (View.ld q (Rect.unit ![0, o] ![512, 128] hi)) k r) (fun l => ext v l d)
      (View.ld m0 (Rect.unit ![b, 0] ![512, 1] hj) (ix2 r (0 : Fin 1))) (View.ld a0 (Rect.unit ![b, 0] ![512, 256] hl) (ix2 r d)))
    (x : (Rect.unit (s := S1536x256) ![b, 0] ![512, 256] hl).shape.Idx) :
    X x = newA q k v m0 a0 ((Rect.unit ![b, 0] ![512, 256] hl).emb x) := by
  obtain ⟨r, d, rfl⟩ : ∃ (r : Fin 512) (d : Fin 256), x = ix2 r d := ⟨x 0, x 1, by funext a; fin_cases a <;> rfl⟩
  have e : (Rect.unit (s := S1536x256) ![b, 0] ![512, 256] hl).emb (ix2 r d) = ix2 (⟨g * 512 + r.val, by omega⟩ : Fin 1536) d := by
    funext a
    refine Fin.ext ((Rect.idx_unit_val (s := S1536x256) ![b, 0] ![512, 256] hl (ix2 r d) a).trans ?_)
    fin_cases a
    · show b + r.val = g * 512 + r.val
      omega
    · show 0 + d.val = d.val
      omega
  have e1 : View.ld m0 (Rect.unit ![b, 0] ![512, 1] hj) (ix2 r (0 : Fin 1)) = m0 (ix2 (⟨g * 512 + r.val, by omega⟩ : Fin 1536) (0 : Fin 1)) := by
    refine View.ld_unit_apply_of m0 _ _ _ _ _ fun a => ?_
    fin_cases a
    · show g * 512 + r.val = b + r.val
      omega
    · rfl
  rw [hX, dotS_head q k g hg o ho, e1, View.ld_apply, e]
  exact congrArg (fun z => accS _ _ _ (a0 z)) e

theorem canon_a (L' : List (View.Piece (Elt Ideal) S1536x256 .f32)) :
    View.canon ([⟨Rect.unit ![1024, 0] ![512, 256] inb_S1536x256_S512x256_1024_0,
        k0_pay1 (k0_pay12 v)
          (k0_pay23 (k0_pay11 k) (View.ld q (Rect.unit ![0, 256] ![512, 128] inb_S512x384_S512x128_0_256))
            (View.ld m0 (Rect.unit ![1024, 0] ![512, 1] inb_S1536x1_S512x1_1024_0)))
          (k0_pay24 (k0_pay11 k) (View.ld q (Rect.unit ![0, 256] ![512, 128] inb_S512x384_S512x128_0_256))
            (View.ld m0 (Rect.unit ![1024, 0] ![512, 1] inb_S1536x1_S512x1_1024_0)))
          (View.ld a0 (Rect.unit ![1024, 0] ![512, 256] inb_S1536x256_S512x256_1024_0))⟩,
      ⟨Rect.unit ![512, 0] ![512, 256] inb_S1536x256_S512x256_512_0,
        k0_pay20 (k0_pay12 v) (k0_pay14 k (View.ld q (Rect.unit ![0, 128] ![512, 128] inb_S512x384_S512x128_0_128)))
          (View.ld m0 (Rect.unit ![512, 0] ![512, 1] inb_S1536x1_S512x1_512_0))
          (View.ld a0 (Rect.unit ![512, 0] ![512, 256] inb_S1536x256_S512x256_512_0))⟩,
      ⟨Rect.unit ![0, 0] ![512, 256] inb_S1536x256_S512x256_0_0,
        k0_pay16 k v (View.ld q (Rect.unit ![0, 0] ![512, 128] inb_S512x384_S512x128_0_0))
          (View.ld m0 (Rect.unit ![0, 0] ![512, 1] inb_S1536x1_S512x1_0_0))
          (View.ld a0 (Rect.unit ![0, 0] ![512, 256] inb_S1536x256_S512x256_0_0))⟩] ++ L') = newA q k v m0 a0 := by
  funext y
  refine View.canon_append_of_piecesOf (newA q k v m0 a0) _ _ ?_ y (View.cover_of_tiledBy _ ![512, 256] (by sl_kernel_rfl) y)
  exact ⟨piece_a q k v m0 a0 2 (by omega) 256 1024 rfl rfl _ _ _ _ (acc2 _ _ _ _ _), piece_a q k v m0 a0 1 (by omega) 128 512 rfl rfl _ _ _ _ (acc1 _ _ _ _ _),
    piece_a q k v m0 a0 0 (by omega) 0 0 rfl rfl _ _ _ _ (acc0 _ _ _ _ _), trivial⟩

/-! ## The grid points -/

variable (m : (ℓ : Loc nD τ sig) → Buf (Elt Ideal) ℓ) (c : Dev nD) (t : Fin cfg0.N)

theorem m_first (h0 : t.val % 4 = 0) :
    (outsAt0 m c t.val t.isLt).2.2.1 = newM (iblk m c 0 t) (iblk m c 1 t) (k0_pay9 (F := Ideal)) := by
  rw [outsAt0_A m c t h0 (by omega)]
  frame_open
  simp (disch := decide) only [↓ View.readCov_skip, ↓ View.readCov_cons_toLoadRect, ↓ View.readCov_fill]
  frame_out
  exact canon_m _ _ _ [_]

theorem a_first (h0 : t.val % 4 = 0) :
    (outsAt0 m c t.val t.isLt).2.2.2 = newA (iblk m c 0 t) (iblk m c 1 t) (iblk m c 2 t) (k0_pay9 (F := Ideal)) (k0_pay10 (F := Ideal)) := by
  rw [outsAt0_A m c t h0 (by omega)]
  frame_open
  simp (disch := decide) only [↓ View.readCov_skip, ↓ View.readCov_cons_toLoadRect, ↓ View.readCov_fill]
  frame_out
  exact canon_a _ _ _ _ _ [_]

theorem m_next (h0 : ¬ t.val % 4 = 0) (ht : t.val - 1 < cfg0.N) :
    (outsAt0 m c t.val t.isLt).2.2.1 = newM (iblk m c 0 t) (iblk m c 1 t) (outsAt0 m c (t.val - 1) ht).2.2.1 := by
  by_cases h1 : t.val % 4 = 3
  · rw [outsAt0_C m c t h0 h1]
    frame_open
    simp (disch := decide) only [↓ View.readCov_skip, ↓ View.readCov_cons_toLoadRect, ↓ View.readCov_fill]
    frame_out
    simp only [read_unread_whole]
    exact canon_m _ _ _ []
  · rw [outsAt0_B m c t h0 h1]
    frame_open
    simp (disch := decide) only [↓ View.readCov_skip, ↓ View.readCov_cons_toLoadRect, ↓ View.readCov_fill]
    frame_out
    simp only [read_unread_whole]
    exact canon_m _ _ _ []

theorem a_next (h0 : ¬ t.val % 4 = 0) (ht : t.val - 1 < cfg0.N) :
    (outsAt0 m c t.val t.isLt).2.2.2 = newA (iblk m c 0 t) (iblk m c 1 t) (iblk m c 2 t)
      (outsAt0 m c (t.val - 1) ht).2.2.1 (outsAt0 m c (t.val - 1) ht).2.2.2 := by
  by_cases h1 : t.val % 4 = 3
  · rw [outsAt0_C m c t h0 h1]
    frame_open
    simp (disch := decide) only [↓ View.readCov_skip, ↓ View.readCov_cons_toLoadRect, ↓ View.readCov_fill]
    frame_out
    simp only [read_unread_whole]
    exact canon_a _ _ _ _ _ []
  · rw [outsAt0_B m c t h0 h1]
    frame_open
    simp (disch := decide) only [↓ View.readCov_skip, ↓ View.readCov_cons_toLoadRect, ↓ View.readCov_fill]
    frame_out
    simp only [read_unread_whole]
    exact canon_a _ _ _ _ _ []

/-- The scratch read as a whole after its stores. -/
theorem read_m (L : List (View.Piece (Elt Ideal) S1536x1 .f32)) :
    (View.whole cc0_scratch0).readCov L (Rect.unit (s := S1536x1) ![0, 0] ![1536, 1] inb_S1536x1_S1536x1_0_0).toLoadRect = View.canon L := by
  rw [View.readCov_eq_canon']
  funext j
  refine congrArg (View.canon L) (funext fun a => Fin.ext ((Rect.idx_unit_val (s := S1536x1) ![0, 0] ![1536, 1] inb_S1536x1_S1536x1_0_0 j a).trans ?_))
  fin_cases a <;> exact Nat.zero_add _

theorem read_a (L : List (View.Piece (Elt Ideal) S1536x256 .f32)) :
    (View.whole cc0_scratch1).readCov L (Rect.unit (s := S1536x256) ![0, 0] ![1536, 256] inb_S1536x256_S1536x256_0_0).toLoadRect = View.canon L := by
  rw [View.readCov_eq_canon']
  funext j
  refine congrArg (View.canon L) (funext fun a => Fin.ext ((Rect.idx_unit_val (s := S1536x256) ![0, 0] ![1536, 256] inb_S1536x256_S1536x256_0_0 j a).trans ?_))
  fin_cases a <;> exact Nat.zero_add _

theorem l_last (h1 : t.val % 4 = 3) :
    (outsAt0 m c t.val t.isLt).2.1 = k0_pay8 (outsAt0 m c t.val t.isLt).2.2.2 (outsAt0 m c t.val t.isLt).2.2.1 := by
  have h0 : ¬ t.val % 4 = 0 := by omega
  have ht : t.val - 1 < cfg0.N := by omega
  rw [a_next m c t h0 ht, m_next m c t h0 ht, outsAt0_C m c t h0 h1]
  frame_open
  simp (disch := decide) only [↓ View.readCov_skip, ↓ View.readCov_cons_toLoadRect, ↓ View.readCov_fill]
  frame_out
  simp only [read_unread_whole]
  rw [read_m, read_a]
  exact congr_arg₂ k0_pay8 (canon_a _ _ _ _ _ []) (canon_m _ _ _ [])

/-- The quotients of the sums, a head's rows beside the others'. -/
def quo (A : Vec Ideal S1536x256 .f32) : Vec Ideal S512x384 .bf16 := fun y =>
  Ideal.div (A (ix2 (⟨(y 1).val / 128 * 512 + (y 0).val, by have := (y 1).isLt; have := (y 0).isLt; simp at *; omega⟩ : Fin 1536) (⟨(y 1).val % 128, by omega⟩ : Fin 256)))
    (A (ix2 (⟨(y 1).val / 128 * 512 + (y 0).val, by have := (y 1).isLt; have := (y 0).isLt; simp at *; omega⟩ : Fin 1536) (128 : Fin 256)))

theorem piece_o (A : Vec Ideal S1536x256 .f32) (g : Fin 3) (o : ℕ) (ho : o = 128 * g.val) (hi) (X : Vec Ideal S512x128 .bf16)
    (hX : ∀ (r : Fin 512) (d : Fin 128), X (ix2 r d) = Ideal.div (A (ix2 (br g r) (⟨d.val, by omega⟩ : Fin 256))) (A (ix2 (br g r) (128 : Fin 256))))
    (x : (Rect.unit (s := S512x384) ![0, o] ![512, 128] hi).shape.Idx) :
    X x = quo A ((Rect.unit ![0, o] ![512, 128] hi).emb x) := by
  obtain ⟨r, d, rfl⟩ : ∃ (r : Fin 512) (d : Fin 128), x = ix2 r d := ⟨x 0, x 1, by funext a; fin_cases a <;> rfl⟩
  have e : (Rect.unit (s := S512x384) ![0, o] ![512, 128] hi).emb (ix2 r d) = ix2 r (bc g d) := by
    funext a
    refine Fin.ext ((Rect.idx_unit_val (s := S512x384) ![0, o] ![512, 128] hi (ix2 r d) a).trans ?_)
    fin_cases a
    · show 0 + r.val = r.val
      omega
    · show o + d.val = g.val * 128 + d.val
      omega
  rw [hX, e]
  have e1 : (bc g d).val / 128 * 512 + r.val = (br g r).val := by unfold bc br; dsimp only; omega
  have e2 : (bc g d).val % 128 = d.val := by unfold bc; dsimp only; omega
  unfold quo
  have f1 : br g r = ⟨(bc g d).val / 128 * 512 + r.val, by omega⟩ := Fin.ext e1.symm
  have f2 : (⟨d.val, by omega⟩ : Fin 256) = ⟨(bc g d).val % 128, by omega⟩ := Fin.ext e2.symm
  rw [f1, f2]
  rfl

theorem quo_at (A : Vec Ideal S1536x256 .f32) (r : Fin 1536) (d : Fin 128) :
    k0_pay4 (F := Ideal) A (ix2 r d) = Ideal.div (A (ix2 r (⟨d.val, by omega⟩ : Fin 256))) (A (ix2 r (128 : Fin 256))) := by
  pointwise [k0_pay4, k0_pay3]

theorem quo0 (A : Vec Ideal S1536x256 .f32) (r : Fin 512) (d : Fin 128) :
    k0_pay5 (F := Ideal) A (ix2 r d) = Ideal.div (A (ix2 (br 0 r) (⟨d.val, by omega⟩ : Fin 256))) (A (ix2 (br 0 r) (128 : Fin 256))) := by
  rw [← quo_at]
  unfold br
  pointwise [k0_pay5]

theorem quo1 (A : Vec Ideal S1536x256 .f32) (r : Fin 512) (d : Fin 128) :
    k0_pay6 (F := Ideal) A (ix2 r d) = Ideal.div (A (ix2 (br 1 r) (⟨d.val, by omega⟩ : Fin 256))) (A (ix2 (br 1 r) (128 : Fin 256))) := by
  rw [← quo_at]
  unfold br
  pointwise [k0_pay6]

theorem quo2 (A : Vec Ideal S1536x256 .f32) (r : Fin 512) (d : Fin 128) :
    k0_pay7 (F := Ideal) A (ix2 r d) = Ideal.div (A (ix2 (br 2 r) (⟨d.val, by omega⟩ : Fin 256))) (A (ix2 (br 2 r) (128 : Fin 256))) := by
  rw [← quo_at]
  unfold br
  pointwise [k0_pay7]

theorem canon_o (A A0 A1 A2 : Vec Ideal S1536x256 .f32) (h0 : A0 = A) (h1 : A1 = A) (h2 : A2 = A)
    (L' : List (View.Piece (Elt Ideal) S512x384 .bf16)) :
    View.canon ([⟨Rect.unit (s := S512x384) ![0, 256] ![512, 128] inb_S512x384_S512x128_0_256, k0_pay7 (F := Ideal) A2⟩,
      ⟨Rect.unit ![0, 128] ![512, 128] inb_S512x384_S512x128_0_128, k0_pay6 A1⟩,
      ⟨Rect.unit ![0, 0] ![512, 128] inb_S512x384_S512x128_0_0, k0_pay5 A0⟩] ++ L') = quo A := by
  subst h0 h1 h2
  funext y
  refine View.canon_append_of_piecesOf (quo A2) _ _ ?_ y (View.cover_of_tiledBy _ ![512, 128] (by sl_kernel_rfl) y)
  exact ⟨piece_o A2 2 256 rfl inb_S512x384_S512x128_0_256 _ (quo2 A2), piece_o A2 1 128 rfl inb_S512x384_S512x128_0_128 _ (quo1 A2), piece_o A2 0 0 rfl inb_S512x384_S512x128_0_0 _ (quo0 A2), trivial⟩

theorem o_last (h1 : t.val % 4 = 3) :
    (outsAt0 m c t.val t.isLt).1 = quo (outsAt0 m c t.val t.isLt).2.2.2 := by
  have h0 : ¬ t.val % 4 = 0 := by omega
  have ht : t.val - 1 < cfg0.N := by omega
  rw [a_next m c t h0 ht, outsAt0_C m c t h0 h1]
  frame_open
  simp (disch := decide) only [↓ View.readCov_skip, ↓ View.readCov_cons_toLoadRect, ↓ View.readCov_fill]
  frame_out
  simp only [read_unread_whole]
  exact canon_o _ _ _ _ ((read_a _).trans (canon_a _ _ _ _ _ [])) ((read_a _).trans (canon_a _ _ _ _ _ []))
    ((read_a _).trans (canon_a _ _ _ _ _ [])) []

end Cert.FwdProof
-- ==== Proof.FwdRef.lean ====
/- The attention's forward pass: what the reference computes, in real numbers. -/
module

public import proofs.«01_k».proof.Defs
public import proofs.«01_k».proof.Proof.Gen.FlashFwdRefIdeal.Read
public import proofs.«01_k».proof.Proof.FwdReal

@[expose] public section

set_option maxRecDepth 16384

noncomputable section

namespace Cert.FwdProof

open Idealize.ShloMosaic Idealize.ShloMosaic.TcCoe Idealize.SL.Sem
open Cert.Lift
open Cert.FlashFwdRefIdeal Cert.FlashFwdRefIdeal.Gen Cert.FlashFwdRefIdeal.Read
open Cert.FlashProof (qc kc sc pr lit_s0 log_coe lit_two log2_pos)

variable (xq : FVec Ideal S4096x1536 .f32) (xk xv : FVec Ideal S4096x512 .f32)

variable (Q : Fin 4096 → Fin 1536 → ℝ) (hQ : ∀ s j, xq (ix2 s j) = (Q s j : EReal))
  (K : Fin 4096 → Fin 512 → ℝ) (hK : ∀ s j, xk (ix2 s j) = (K s j : EReal))
  (V : Fin 4096 → Fin 512 → ℝ) (hV : ∀ s j, xv (ix2 s j) = (V s j : EReal))

include hQ hK in
theorem ref_sc (h : Fin 4) (g : Fin 3) (s k : Fin 4096) :
    val_main_v6 (F := Ideal) xq xk (ix4 h g s k) = (sc Q K h g s k : EReal) := by
  pointwise [val_main_v0, val_main_v1, val_main_v3, val_main_v4, val_main_cst, val_main_v5, val_main_v6]
  simp only [hQ, hK, lit_s0, ← EReal.coe_mul, sum_coe]
  refine congrArg _ ?_
  unfold sc
  refine congrArg (· * FlashProof.s0) (Finset.sum_congr rfl fun x _ => mul_comm _ _)

include hQ hK in
/-- The scores' row maximum, whatever it is. -/
theorem ref_max (h : Fin 4) (g : Fin 3) (s : Fin 4096) : ∃ M : ℝ, val_main_v7 (F := Ideal) xq xk (ix3 h g s) = (M : EReal) := by
  unfold val_main_v7
  refine FlashProof.reduce_max_real _ _ _ (fun i => ?_) _ (fun i => lit_bot) h g s 0
  idx_vars i
  exact ⟨_, ref_sc xq xk Q hQ K hK i0 i1 i2 i3⟩

include hQ hK in
theorem ref_e (h : Fin 4) (g : Fin 3) (s : Fin 4096) :
    ∃ M : ℝ, ∀ k, val_main_v13 (F := Ideal) xq xk (ix4 h g s k) = ((Real.exp (sc Q K h g s k - M) : ℝ) : EReal) := by
  obtain ⟨M, hM⟩ := ref_max xq xk Q hQ K hK h g s
  refine ⟨M, fun k => ?_⟩
  have e9 : val_main_v9 (F := Ideal) xq xk (ix3 h g s) = (M : EReal) := by
    rw [val_main_v9_apply, hM]
    show max (Ideal.ofBits .f32 4286578688#32) (M : EReal) = _
    rw [lit_bot, max_eq_right bot_le]
  have e11 : val_main_v11 (F := Ideal) xq xk (ix4 h g s k) = (M : EReal) := by
    rw [val_main_v11_apply, val_main_v10_apply, ← e9]
    refine congrArg _ ?_
    funext a; fin_cases a <;> rfl
  rw [val_main_v13_apply, val_main_v12_apply, e11, ref_sc xq xk Q hQ K hK]
  show Ideal.exp ((sc Q K h g s k : EReal) - (M : EReal)) = _
  rw [← EReal.coe_sub, exp_coe]

include hQ hK in
theorem ref_p (h : Fin 4) (g : Fin 3) (s k : Fin 4096) :
    val_main_v17 (F := Ideal) xq xk (ix4 h g s k) = (pr Q K h g s k : EReal) := by
  obtain ⟨M, hM⟩ := ref_e xq xk Q hQ K hK h g s
  pointwise [val_main_v17, val_main_v16, val_main_v15, val_main_cst_2, val_main_v14]
  have hs : (∑ k', Real.exp (sc Q K h g s k' - M)) ≠ 0 := (FlashProof.sum_exp_pos _).ne'
  simp (disch := exact hs) only [hM, sum_coe, div_coe]
  exact congrArg _ (FlashProof.shift (fun k => sc Q K h g s k) M k)

include hQ hK hV in
/-- The output, on the columns the kernel writes. -/
theorem ref_out (s : Fin 4096) (h : Fin 4) (g : Fin 3) (d : Fin 128) (j : Fin 2048) (hj : j.val = (qc h g d).val) :
    val_main_v38 (F := Ideal) xq xk xv (ix2 s j) = ((∑ k, V k (kc h d) * pr Q K h g s k : ℝ) : EReal) := by
  have hq : (qc h g d).val < 2048 := by omega
  obtain rfl : (⟨(qc h g d).val, hq⟩ : Fin 2048) = j := Fin.ext hj.symm
  have e : val_main_v38 (F := Ideal) xq xk xv (ix2 s ⟨(qc h g d).val, hq⟩) = val_main_v20 (F := Ideal) xq xk xv (ix2 s (qc h g d)) := by
    unfold val_main_v38 val_main_v37
    pointwise
  rw [e]
  unfold qc
  pointwise [val_main_v2, val_main_v18, val_main_v19, val_main_v20]
  simp only [ref_p xq xk Q hQ K hK, hV, ← EReal.coe_mul, sum_coe]
  rfl

/-- One number per query, laid out by blocks of queries. -/
theorem laid_at (X : FVec Ideal S4x3x4096x1 .f32) (h : Fin 4) (i : Fin 8) (g : Fin 3) (x : Fin 512) (d : Fin 128) :
    broadcastInDim S4x12288x128 ![0, 1, 2] bcast_S4x12288x1_S4x12288x128_0_1_2
        (shapeCast S4x12288x1 (transpose S4x8x3x512 [0, 2, 1, 3] (shapeCast S4x3x8x512 X shapeCasts_S4x3x4096x1_S4x3x8x512)
          transposes_S4x3x8x512_S4x8x3x512_0_2_1_3) shapeCasts_S4x8x3x512_S4x12288x1) (ix3 h (lr i g x) d)
      = X (ix4 h g (qr i x) (0 : Fin 1)) := by
  unfold lr qr
  pointwise

include hQ hK in
theorem ref_max' (h : Fin 4) (g : Fin 3) (s : Fin 4096) : ∃ M : ℝ, val_main_v21 (F := Ideal) xq xk (ix3 h g s) = (M : EReal) := by
  unfold val_main_v21
  refine FlashProof.reduce_max_real _ _ _ (fun i => ?_) _ (fun i => lit_bot) h g s 0
  idx_vars i
  exact ⟨_, ref_sc xq xk Q hQ K hK i0 i1 i2 i3⟩

include hQ hK in
theorem ref_e' (h : Fin 4) (g : Fin 3) (s k : Fin 4096) (M : ℝ) (hM : val_main_v21 (F := Ideal) xq xk (ix3 h g s) = (M : EReal)) :
    val_main_v25 (F := Ideal) xq xk (ix4 h g s k) = ((Real.exp (sc Q K h g s k - M) : ℝ) : EReal) := by
  have e23 : val_main_v23 (F := Ideal) xq xk (ix4 h g s k) = (M : EReal) := by
    rw [val_main_v23_apply, val_main_v22_apply, ← hM]
    refine congrArg _ ?_
    funext a; fin_cases a <;> rfl
  rw [val_main_v25_apply, val_main_v24_apply, e23, ref_sc xq xk Q hQ K hK]
  show Ideal.exp ((sc Q K h g s k : EReal) - (M : EReal)) = _
  rw [← EReal.coe_sub, exp_coe]

include hQ hK in
theorem ref_l (h : Fin 4) (g : Fin 3) (s : Fin 4096) (M : ℝ) (hM : val_main_v21 (F := Ideal) xq xk (ix3 h g s) = (M : EReal)) :
    val_main_v27 (F := Ideal) xq xk (ix4 h g s (0 : Fin 1)) = ((∑ k, Real.exp (sc Q K h g s k - M) : ℝ) : EReal) := by
  pointwise [val_main_v27, val_main_v26, val_main_cst_4]
  simp only [ref_e' xq xk Q hQ K hK h g s _ M hM, sum_coe]

/-- A row's logarithm from its maximum and its sum. -/
theorem log_at (A B : FVec Ideal S4x3x4096x1 .f32) (i : S4x3x4096x1.Idx) (M L : ℝ) (hL : 0 < L) (hA : A i = (M : EReal)) (hB : B i = (L : EReal)) :
    Host.divf (addf A (Host.log B)) (broadcastInDim S4x3x4096x1 ![] bcast_S_S4x3x4096x1 (Host.log (constant S_ .f32 0x40000000#32))) i
      = (((M + Real.log L) / Real.log 2 : ℝ) : EReal) := by
  pointwise
  rw [hA, hB, lit_two, log_coe 2 (by norm_num), log_coe L hL, ← EReal.coe_add, div_coe _ _ log2_pos.ne']

include hQ hK in
theorem ref_log (h : Fin 4) (g : Fin 3) (s : Fin 4096) :
    val_main_v32 (F := Ideal) xq xk (ix4 h g s (0 : Fin 1)) = ((Real.log (∑ k, Real.exp (sc Q K h g s k)) / Real.log 2 : ℝ) : EReal) := by
  obtain ⟨M, hM⟩ := ref_max' xq xk Q hQ K hK h g s
  have e22 : val_main_v22 (F := Ideal) xq xk (ix4 h g s (0 : Fin 1)) = (M : EReal) := by
    rw [val_main_v22_apply, ← hM]
    refine congrArg _ ?_
    funext a; fin_cases a <;> rfl
  rw [← lse_shift (fun k => sc Q K h g s k) M]
  exact log_at _ _ _ M _ (FlashProof.sum_exp_pos _) e22 (ref_l xq xk Q hQ K hK h g s M hM)

include hQ hK in
/-- The logarithms of the rows' sums, in powers of two. -/
theorem ref_lse (h : Fin 4) (i : Fin 8) (g : Fin 3) (x : Fin 512) (d : Fin 128) :
    val_main_v39 (F := Ideal) xq xk (ix3 h (lr i g x) d)
      = ((Real.log (∑ k, Real.exp (sc Q K h g (qr i x) k)) / Real.log 2 : ℝ) : EReal) :=
  (laid_at (val_main_v32 (F := Ideal) xq xk) h i g x d).trans (ref_log xq xk Q hQ K hK h g (qr i x))

end Cert.FwdProof
-- ==== Proof.FlashFwd.lean ====
/- The attention's forward pass: the rows, read a tile of keys at a time, come to the reference's outputs and logarithms. -/
module

public import proofs.«01_k».proof.Proof.FwdTile
public import proofs.«01_k».proof.Proof.FwdRef
public import proofs.«01_k».proof.Proof.Gen.Pre_finite_fwd
public import proofs.«01_k».proof.Proof.Gen.On_fwd_mask

@[expose] public section

set_option maxRecDepth 16384

noncomputable section

namespace Cert.FlashFwdProof

open Idealize.ShloMosaic Idealize.ShloMosaic.TcCoe Idealize.SL.Sem
open Cert.Lift Cert.FwdProof
open Cert.FlashProof (qc kc sc pr s0 lit_s0 log_coe lit_two log2_pos)

section Kernel
open Cert.FlashFwdIdeal Cert.FlashFwdIdeal.Gen

variable (m : (ℓ : Loc nD τ sig) → Buf (Elt Ideal) ℓ) (c : Dev nD)

/-! ## The operands -/

variable (Q : Fin 4096 → Fin 1536 → ℝ) (hQ : ∀ s j, m ((c : Thread nD τ).loc main_arg0) (ix2 s j) = (Q s j : EReal))
  (K : Fin 4096 → Fin 512 → ℝ) (hK : ∀ s j, m ((c : Thread nD τ).loc main_arg1) (ix2 s j) = (K s j : EReal))
  (Vr : Fin 4096 → Fin 512 → ℝ) (hV : ∀ s j, m ((c : Thread nD τ).loc main_arg2) (ix2 s j) = (Vr s j : EReal))

include hQ in
theorem q_at (s : Fin 4096) (j : Fin 1536) : V (F := Ideal) m c main_v5 (ix2 s j) = ((Q s j * s0 / Real.log 2 : ℝ) : EReal) := by
  entry_read
  pointwise
  rw [lit_two, log_coe 2 (by norm_num)]
  simp (disch := exact log2_pos.ne') only [lit_s0, ← EReal.coe_mul, div_coe, hQ]

include hK in
theorem k_at (s : Fin 4096) (j : Fin 512) : V (F := Ideal) m c main_v6 (ix2 s j) = (K s j : EReal) := by
  entry_read
  pointwise
  exact hK s j

include hV in
theorem v_at (s : Fin 4096) (j : Fin 512) : V (F := Ideal) m c main_v7 (ix2 s j) = (Vr s j : EReal) := by
  entry_read
  pointwise
  exact hV s j

/-! ## Where a point's blocks lie: head `t / 32`, queries `t / 4 % 8`, keys `t % 4` -/

theorem idx : ∀ t : Fin cfg0.N, win0_0.index t = ![t.val / 4 % 8, t.val / 32] ∧ win0_1.index t = ![t.val % 4, t.val / 32]
    ∧ win0_2.index t = ![t.val % 4, t.val / 32] ∧ win0_3.index t = ![t.val / 4 % 8, t.val / 32]
    ∧ win0_4.index t = ![t.val / 32, t.val / 4 % 8, 0] :=
  (by decide +kernel : ∀ t : Fin grid0.N, _)

def hd (t : Fin cfg0.N) : Fin 4 := ⟨t.val / 32, by have := lt_of_lt_of_eq t.isLt N_0; omega⟩
def qi (t : Fin cfg0.N) : Fin 8 := ⟨t.val / 4 % 8, by omega⟩

def kj (t : Fin cfg0.N) : Fin 4 := ⟨t.val % 4, by omega⟩
/-- Key `l` of tile `j`. -/
def kr (j : Fin 4) (l : Fin 1024) : Fin 4096 := ⟨j.val * 1024 + l.val, by omega⟩

section Blocks
variable (t : Fin cfg0.N)

theorem iblk0 (x : Fin 512) (n : Fin 384) (j : Fin 1536) (hj : j.val = t.val / 32 * 384 + n.val) :
    iblk m c 0 t (ix2 x n) = V (F := Ideal) m c main_v5 (ix2 (qr (qi t) x) j) := by
  unfold iblk
  generalize V (F := Ideal) m c = W
  blk_ext [idx t, qr, qi, hj]

theorem iblk1 (l : Fin 1024) (d : Fin 128) : iblk m c 1 t (ix2 l d) = V (F := Ideal) m c main_v6 (ix2 (kr (kj t) l) (kc (hd t) d)) := by
  unfold iblk
  generalize V (F := Ideal) m c = W
  blk_ext [idx t, kr, kc, kj, hd]

theorem iblk2 (l : Fin 1024) (d : Fin 128) : iblk m c 2 t (ix2 l d) = V (F := Ideal) m c main_v7 (ix2 (kr (kj t) l) (kc (hd t) d)) := by
  unfold iblk
  generalize V (F := Ideal) m c = W
  blk_ext [idx t, kr, kc, kj, hd]

/-- The scores of a head's query, over the logarithm of two, by the key's number. -/
def scores (h : Fin 4) (g : Fin 3) (s : Fin 4096) : ℕ → ℝ := row fun k => sc Q K h g s k / Real.log 2

/-- What a key's exponential is weighted by in column `d` of the sums: its values, then one. -/
def wt (h : Fin 4) (d : Fin 256) (k : Fin 4096) : ℝ := if hd : d.val < 128 then Vr k (kc h ⟨d.val, hd⟩) else 1

include hQ hK in
theorem row_at_key (g : Fin 3) (x : Fin 512) (l : Fin 1024) :
    rowS (iblk m c 0 t) (iblk m c 1 t) (br g x) l = ((scores Q K (hd t) g (qr (qi t) x) (t.val % 4 * 1024 + l.val) : ℝ) : EReal) := by
  have e : scores Q K (hd t) g (qr (qi t) x) (t.val % 4 * 1024 + l.val) = sc Q K (hd t) g (qr (qi t) x) (kr (kj t) l) / Real.log 2 :=
    row_at (fun k => sc Q K (hd t) g (qr (qi t) x) k / Real.log 2) (kr (kj t) l)
  rw [e]
  unfold rowS
  have h1 : (⟨(br g x).val % 512, by omega⟩ : Fin 512) = x := Fin.ext (by show (g.val * 512 + x.val) % 512 = x.val; omega)
  have h2 (d : Fin 128) : iblk m c 0 t (ix2 (⟨(br g x).val % 512, by omega⟩ : Fin 512) (⟨(br g x).val / 512 * 128 + d.val, by have := (br g x).isLt; omega⟩ : Fin 384))
      = ((Q (qr (qi t) x) (qc (hd t) g d) * s0 / Real.log 2 : ℝ) : EReal) := by
    rw [h1, iblk0 m c t x _ (qc (hd t) g d) ?_, q_at m c Q hQ]
    show t.val / 32 * 384 + g.val * 128 + d.val = t.val / 32 * 384 + ((g.val * 512 + x.val) / 512 * 128 + d.val)
    omega
  simp only [h2, iblk1, k_at m c K hK, ← EReal.coe_mul, sum_coe]
  refine congrArg _ ?_
  unfold sc
  rw [Finset.sum_mul, Finset.sum_div]
  exact Finset.sum_congr rfl fun d _ => by ring

include hV in
theorem ext_at_key (d : Fin 256) (l : Fin 1024) :
    ext (iblk m c 2 t) l d = ((row (wt Vr (hd t) d) (t.val % 4 * 1024 + l.val) : ℝ) : EReal) := by
  have e : row (wt Vr (hd t) d) (t.val % 4 * 1024 + l.val) = wt Vr (hd t) d (kr (kj t) l) := row_at (wt Vr (hd t) d) (kr (kj t) l)
  rw [e]
  unfold ext wt
  split
  · rw [iblk2, v_at m c Vr hV]
  · rfl

include hQ hK hV in
/-- One tile: a row that holds the tiles before holds this one too. -/
theorem tile_held (g : Fin 3) (x : Fin 512) (m0 : Vec Ideal S1536x1 .f32) (a0 : Vec Ideal S1536x256 .f32)
    (h : Held (scores Q K (hd t) g (qr (qi t) x)) (fun d => row (wt Vr (hd t) d)) (t.val % 4 * 1024) (m0 (ix2 (br g x) 0))
      (fun d => a0 (ix2 (br g x) d))) :
    Held (scores Q K (hd t) g (qr (qi t) x)) (fun d => row (wt Vr (hd t) d)) (t.val % 4 * 1024 + 1024)
      (newM (iblk m c 0 t) (iblk m c 1 t) m0 (ix2 (br g x) 0))
      (fun d => newA (iblk m c 0 t) (iblk m c 1 t) (iblk m c 2 t) m0 a0 (ix2 (br g x) d)) := by
  have hs : rowS (iblk m c 0 t) (iblk m c 1 t) (br g x)
      = fun l => ((scores Q K (hd t) g (qr (qi t) x) (t.val % 4 * 1024 + l.val) : ℝ) : EReal) := funext (row_at_key m c Q hQ K hK t g x)
  refine held_step _ _ _ 1024 _ _ h _ _ ?_ fun d => ?_
  · show maxS (rowS (iblk m c 0 t) (iblk m c 1 t) (br g x)) _ = _
    rw [hs]
    rfl
  · show accS (rowS (iblk m c 0 t) (iblk m c 1 t) (br g x)) (fun l => ext (iblk m c 2 t) l d) _ _ = _
    have hm : newM (iblk m c 0 t) (iblk m c 1 t) m0 (ix2 (br g x) 0) = maxS (rowS (iblk m c 0 t) (iblk m c 1 t) (br g x)) (m0 (ix2 (br g x) 0)) := rfl
    rw [hm, hs]
    simp only [ext_at_key m c Vr hV t d]
    rfl

end Blocks

include hQ hK hV in
/-- What a row holds after each point. -/
theorem held (g : Fin 3) (x : Fin 512) (j n : ℕ) (hn : n < cfg0.N) (hj : n % 4 = j) :
    Held (scores Q K (hd ⟨n, hn⟩) g (qr (qi ⟨n, hn⟩) x)) (fun d => row (wt Vr (hd ⟨n, hn⟩) d)) (n % 4 * 1024 + 1024)
      ((outsAt0 m c n hn).2.2.1 (ix2 (br g x) 0)) (fun d => (outsAt0 m c n hn).2.2.2 (ix2 (br g x) d)) := by
  induction j generalizing n with
  | zero =>
    rw [m_first m c ⟨n, hn⟩ hj, a_first m c ⟨n, hn⟩ hj]
    refine tile_held m c Q hQ K hK Vr hV ⟨n, hn⟩ g x _ _ (Or.inl ⟨by show n % 4 * 1024 = 0; omega, ?_, fun d => ?_⟩)
    · pointwise [k0_pay9]
      exact lit_bot
    · pointwise [k0_pay10]
  | succ j ih =>
    have h0 : ¬ n % 4 = 0 := by omega
    have hp : n - 1 < cfg0.N := by omega
    have h := ih (n - 1) hp (by omega)
    rw [m_next m c ⟨n, hn⟩ h0 hp, a_next m c ⟨n, hn⟩ h0 hp]
    refine tile_held m c Q hQ K hK Vr hV ⟨n, hn⟩ g x _ _ ?_
    have e1 : hd ⟨n - 1, hp⟩ = hd ⟨n, hn⟩ := Fin.ext (by show (n - 1) / 32 = n / 32; omega)
    have e2 : qi ⟨n - 1, hp⟩ = qi ⟨n, hn⟩ := Fin.ext (by show (n - 1) / 4 % 8 = n / 4 % 8; omega)
    have e3 : (n - 1) % 4 * 1024 + 1024 = n % 4 * 1024 := by omega
    rw [e1, e2, e3] at h
    exact h

/-! ## The outputs -/

include hQ hK hV in
/-- After the last tile: the sums over all the keys, and the number taken from the scores. -/
theorem done (t : Fin cfg0.N) (h1 : t.val % 4 = 3) (g : Fin 3) (x : Fin 512) :
    ∃ M : ℝ, (outsAt0 m c t.val t.isLt).2.2.1 (ix2 (br g x) 0) = (M : EReal) ∧ ∀ d, (outsAt0 m c t.val t.isLt).2.2.2 (ix2 (br g x) d)
      = ((∑ k, Real.exp (sc Q K (hd t) g (qr (qi t) x) k - M * Real.log 2) * wt Vr (hd t) d k : ℝ) : EReal) := by
  rcases held m c Q hQ K hK Vr hV g x _ t.val t.isLt rfl with ⟨h, -, -⟩ | ⟨M, hM, hA⟩
  · omega
  · refine ⟨M, hM, fun d => (hA d).trans (congrArg _ ?_)⟩
    rw [h1]
    exact part_all _ _ M

theorem wt_one (h : Fin 4) (k : Fin 4096) : wt Vr h (128 : Fin 256) k = 1 := dif_neg (by decide)

include hQ hK hV in
theorem out_at (t : Fin cfg0.N) (h1 : t.val % 4 = 3) (g : Fin 3) (x : Fin 512) (d : Fin 128) :
    (outsAt0 m c t.val t.isLt).1 (ix2 x (bc g d))
      = ((∑ k, Vr k (kc (hd t) d) * pr Q K (hd t) g (qr (qi t) x) k : ℝ) : EReal) := by
  obtain ⟨M, -, hA⟩ := done m c Q hQ K hK Vr hV t h1 g x
  rw [o_last m c t h1]
  have e1 : (⟨(bc g d).val / 128 * 512 + x.val, by have := (bc g d).isLt; omega⟩ : Fin 1536) = br g x :=
    Fin.ext (by show (g.val * 128 + d.val) / 128 * 512 + x.val = g.val * 512 + x.val; omega)
  have e2 : (⟨(bc g d).val % 128, by omega⟩ : Fin 256) = ⟨d.val, by omega⟩ := Fin.ext (by show (g.val * 128 + d.val) % 128 = d.val; omega)
  show Ideal.div ((outsAt0 m c t.val t.isLt).2.2.2 (ix2 (⟨(bc g d).val / 128 * 512 + x.val, _⟩ : Fin 1536) (⟨(bc g d).val % 128, _⟩ : Fin 256)))
    ((outsAt0 m c t.val t.isLt).2.2.2 (ix2 (⟨(bc g d).val / 128 * 512 + x.val, _⟩ : Fin 1536) (128 : Fin 256))) = _
  rw [e1, e2, hA, hA]
  simp only [wt_one, mul_one]
  rw [div_coe _ _ (FlashProof.sum_exp_pos _).ne']
  have hw (k : Fin 4096) : wt Vr (hd t) ⟨d.val, by omega⟩ k = Vr k (kc (hd t) d) := dif_pos d.isLt
  simp only [hw]
  exact congrArg _ (out_all (fun k => sc Q K (hd t) g (qr (qi t) x) k) (fun k => Vr k (kc (hd t) d)) (M * Real.log 2))

/-- A row's logarithm, in powers of two, from the sums and the number taken from the scores. -/
theorem lse_of (A : Vec Ideal S1536x256 .f32) (B : Vec Ideal S1536x1 .f32) (r : Fin 1536) (d : Fin 128) (M L : ℝ) (hL : 0 < L)
    (hA : A (ix2 r (128 : Fin 256)) = (L : EReal)) (hB : B (ix2 r (0 : Fin 1)) = (M : EReal)) :
    k0_pay8 (F := Ideal) A B (ix3 (0 : Fin 1) r d) = ((M + Real.log L * (Real.log 2)⁻¹ : ℝ) : EReal) := by
  pointwise [k0_pay8, k0_pay3]
  rw [hB, hA, log_coe _ hL]
  exact ((congrArg _ (EReal.coe_mul _ _).symm).trans (EReal.coe_add _ _).symm)

include hQ hK hV in
theorem lse_at (t : Fin cfg0.N) (h1 : t.val % 4 = 3) (g : Fin 3) (x : Fin 512) (d : Fin 128) :
    (outsAt0 m c t.val t.isLt).2.1 (ix3 (0 : Fin 1) (br g x) d)
      = ((Real.log (∑ k, Real.exp (sc Q K (hd t) g (qr (qi t) x) k)) / Real.log 2 : ℝ) : EReal) := by
  obtain ⟨M, hM, hA⟩ := done m c Q hQ K hK Vr hV t h1 g x
  have hL := hA 128
  simp only [wt_one, mul_one] at hL
  rw [l_last m c t h1, lse_of _ _ _ d M _ (FlashProof.sum_exp_pos _) hL hM]
  rw [← lse_shift (fun k => sc Q K (hd t) g (qr (qi t) x) k) (M * Real.log 2), ← div_eq_mul_inv, add_div, mul_div_cancel_right₀ _ log2_pos.ne']

theorem flush_at : ∀ t : Fin cfg0.N, ((cfg0.win 3).flush t = true → t.val % 4 = 3) ∧ ((cfg0.win 4).flush t = true → t.val % 4 = 3) :=
  (by decide +kernel : ∀ t : Fin grid0.N, _)

include hQ hK hV in
theorem final3 (i : S4096x2048.Idx) (hi : (i 1).val < 1536) : (dats m 0 c).arrAt 3 cfg0.N i
    = FlashFwdRefIdeal.Read.val_main_v38 (F := Ideal) (m ((c : Thread nD τ).loc main_arg0)) (m ((c : Thread nD τ).loc main_arg1))
        (m ((c : Thread nD τ).loc main_arg2)) i := by
  have key := (dats m 0 c).arrAt_apply_of_coversWhere 3
    (FlashFwdRefIdeal.Read.val_main_v38 (F := Ideal) (m ((c : Thread nD τ).loc main_arg0)) (m ((c : Thread nD τ).loc main_arg1))
        (m ((c : Thread nD τ).loc main_arg2)))
    (P := fun i : S4096x2048.Idx => (i 1).val < 1536) (fun β => β 1 < 4) (by decide +kernel) (fun t hf y => ?_) (fun j => ?_) i
  · rw [key, if_pos hi]
  · have h3 := (flush_at t).1 hf
    blk_simp
    rw [after0_3]
    obtain ⟨u, hu⟩ : ∃ u : S512x384.Idx, u = (cfg0.win 3).xinj (cfg0.grid.coords t) y := ⟨_, rfl⟩
    have h0 : (u 0).val = (y 0).val := by rw [hu]
    have h1 : (u 1).val = (y 1).val := by rw [hu]
    rw [← hu]
    clear hu
    idx_vars u
    have b1 : u1.val < 384 := u1.isLt
    obtain ⟨g, d, hy⟩ : ∃ (g : Fin 3) (d : Fin 128), u1 = bc g d :=
      ⟨⟨u1.val / 128, by omega⟩, ⟨u1.val % 128, by omega⟩, Fin.ext (by show u1.val = u1.val / 128 * 128 + u1.val % 128; omega)⟩
    subst hy
    have hq : (qc (hd t) g d).val < 2048 := by omega
    refine (out_at m c Q hQ K hK Vr hV t h3 g u0 d).trans ?_
    refine ((ref_out _ _ _ Q hQ K hK Vr hV (qr (qi t) u0) (hd t) g d ⟨(qc (hd t) g d).val, hq⟩ rfl).symm).trans (congrArg _ ?_)
    blk_ext [idx t, ← h0, ← h1, qr, qc, qi, hd, bc]
  · blk_simp [Pipeline.Window.cell_apply]
    omega

include hQ hK hV in
theorem final4 : (dats m 0 c).arrAt 4 cfg0.N
    = FlashFwdRefIdeal.Read.val_main_v39 (F := Ideal) (m ((c : Thread nD τ).loc main_arg0)) (m ((c : Thread nD τ).loc main_arg1)) := by
  refine (dats m 0 c).arrAt_eq_of_covers 4 _ (by decide +kernel) fun t hf y => ?_
  have h3 := (flush_at t).2 hf
  blk_simp
  rw [after0_4]
  idx_vars y
  obtain rfl : y0 = 0 := Subsingleton.elim _ _
  obtain ⟨g, x, hy⟩ : ∃ (g : Fin 3) (x : Fin 512), y1 = br g x :=
    ⟨⟨y1.val / 512, by omega⟩, ⟨y1.val % 512, by omega⟩, Fin.ext (by show y1.val = y1.val / 512 * 512 + y1.val % 512; omega)⟩
  subst hy
  refine (lse_at m c Q hQ K hK Vr hV t h3 g x y2).trans ?_
  refine ((ref_lse _ _ Q hQ K hK (hd t) (qi t) g x y2).symm).trans (congrArg _ ?_)
  blk_ext [idx t, lr, qi, hd, br]

end Kernel

/-! ## The claims -/

/-- The mask leaves out the columns the kernel never writes. -/
theorem mask_out (x0 : FVec Ideal On_fwd_mask.S4096x1536 .f32) (x1 x2 : FVec Ideal On_fwd_mask.S4096x512 .f32) (i : On_fwd_mask.S4096x2048.Idx)
    (h : (On_fwd_mask.fn (F := Ideal) x0 x1 x2).1 i = 1#1) : (i 1).val < 1536 := by
  unfold On_fwd_mask.fn at h
  idx_vars i
  pointwise at h
  exact (by decide +kernel : ∀ n : Fin 2048, IntOp.cmpi .slt (BitVec.ofNat 32 n.val) 1536#32 = 1#1 → n.val < 1536) i1 h

theorem finite (q : FVec Ideal FlashFwdIdeal.S4096x1536 .f32) (k v : FVec Ideal FlashFwdIdeal.S4096x512 .f32)
    (h : Pre_finite_fwd.fn (F := Ideal) q k v = fun _ => 1#1) :
    (∀ s j, q (ix2 s j) = ((q (ix2 s j)).toReal : EReal)) ∧ (∀ s j, k (ix2 s j) = ((k (ix2 s j)).toReal : EReal))
      ∧ (∀ s j, v (ix2 s j) = ((v (ix2 s j)).toReal : EReal)) := by
  have h0 := congrFun h ix0
  unfold Pre_finite_fwd.fn at h0
  obtain ⟨h01, h2⟩ := IntOp.andi_eq_one.1 h0
  obtain ⟨h0, h1⟩ := IntOp.andi_eq_one.1 h01
  exact ⟨fun s j => real_of_all _ _ _ _ _ _ h0 (fun _ => rfl) _, fun s j => real_of_all _ _ _ _ _ _ h1 (fun _ => rfl) _,
    fun s j => real_of_all _ _ _ _ _ _ h2 (fun _ => rfl) _⟩

theorem preserves : Cert.preserves_FlashFwd_FlashFwdIdeal :=
  IdealRules.named_const.statement Cert.FlashFwdIdeal.κ "log2e" .f32 0x3FB8AA3B#32 (((Real.log 2)⁻¹ : ℝ) : EReal) rfl

theorem frame_ref : Cert.quiescent_FlashFwdRefIdeal := fun m ρ _ =>
  (θ_run Cert.FlashFwdRefIdeal.defs _ _).mono (fun r h => ⟨fun c => (h c).2.2, sem_eq_zero_of_no_sems (by decide) r.2⟩)
    (Cert.FlashFwdRefIdeal.Value.run (F := Ideal) m ρ)

theorem algebraic : Cert.algebraic_FlashFwdIdeal_FlashFwdRefIdeal_on_fwd_mask_pre_finite_fwd := by
  intro m g m' g' hpre hagree
  refine ⟨fun c => (Cert.FlashFwdIdeal.Gen.dats m 0 c).arrAt 3 Cert.FlashFwdIdeal.cfg0.N,
    fun c => (Cert.FlashFwdIdeal.Gen.dats m 0 c).arrAt 4 Cert.FlashFwdIdeal.cfg0.N, ?_, ?_⟩
  · run_from Cert.FlashFwdIdeal.Value.run_blocks m g
    all_goals exact fun _ _ => trivial
  · run_from Cert.FlashFwdRefIdeal.Value.run m' g'
    all_goals obtain ⟨e0, e1, e2⟩ := hagree c
    all_goals obtain ⟨hq, hk, hv⟩ := finite _ _ _ (hpre c)
    · intro i hi
      refine (congrFun (FlashFwdRefIdeal.Read.val_main_v38_eq _ _ _) i).trans ?_
      rw [e2]
      exact (final3 m c _ hq _ hk _ hv i (mask_out _ _ _ i hi)).symm
    · intro i _
      refine (congrFun (FlashFwdRefIdeal.Read.val_main_v39_eq _ _) i).trans ?_
      exact (congrFun (final4 m c _ hq _ hk _ hv) i).symm

end Cert.FlashFwdProof
-- ==== Proof.GmlpSpec.lean ====
/- The spatial gate's gradients, row by row: what both programs compute, over the extended reals. Row `s` belongs to the chunk of
   128 rows that starts at `s / 128 * 128`; column `c` belongs to the head `c / 128`. -/
module

public import proofs.«01_k».proof.Proof.Lift

@[expose] public section

set_option maxRecDepth 16384

noncomputable section

namespace Cert.GmlpProof

open Idealize.ShloMosaic Idealize.ShloMosaic.TcCoe
open Cert.Lift

/-- The gelu and its derivative. -/
def gel (x : EReal) : EReal :=
  Ideal.ofBits .f32 0x3F000000#32 * x * (1 + Ideal.erf (x * Ideal.ofBits .f32 0x3F3504F3#32))
def dgel (x : EReal) : EReal :=
  Ideal.ofBits .f32 0x3F000000#32 * (1 + Ideal.erf (x * Ideal.ofBits .f32 0x3F3504F3#32))
    + x * Ideal.exp (Ideal.ofBits .f32 0xBF000000#32 * x * x) * Ideal.ofBits .f32 0x3ECC422A#32

/-- The arguments, read at natural numbers. -/
structure In where
  z : ℕ → ℕ → EReal
  g : ℕ → EReal
  w : ℕ → ℕ → ℕ → EReal
  b : ℕ → ℕ → EReal
  dt : ℕ → ℕ → EReal

variable (I : In) (s c : ℕ)

/-- The half that is gated, and the half that gates. -/
def In.u : EReal := gel (I.z s c)
def In.v : EReal := gel (I.z s (1536 + c))
/-- The gating half's reciprocal root mean square, the half over it, and that times the gain. -/
def In.r : EReal := Ideal.rsqrt (Ideal.div (∑ c : Fin 1536, I.v s c * I.v s c) (Ideal.ofBits .f32 0x44C00000#32) + Ideal.ofBits .f32 0x358637BD#32)
def In.h : EReal := I.v s c * I.r s
def In.n : EReal := I.h s c * I.g c
/-- The cotangent of the gate. -/
def In.ds : EReal := I.dt s c * I.u s c
/-- The gate: the chunk's rows mixed by the head's matrix, and the bias. -/
def In.sg : EReal := (∑ l : Fin 128, I.w (c / 128) (s % 128) l * I.n (s / 128 * 128 + l) c) + I.b (s % 128) (c / 128)
/-- The cotangent of the normed half, of it before the gain, and of the half before the norm. -/
def In.dn : EReal := ∑ r : Fin 128, I.w (c / 128) r (s % 128) * I.ds (s / 128 * 128 + r) c
def In.gy : EReal := I.dn s c * I.g c
def In.dv : EReal :=
  I.r s * (I.gy s c - I.h s c * Ideal.div (∑ c : Fin 1536, I.gy s c * I.h s c) (Ideal.ofBits .f32 0x44C00000#32))
/-- The cotangent of the gelu's result, and of its argument. -/
def In.da : EReal := if c < 1536 then I.dt s c * I.sg s c else I.dv s (c - 1536)
def In.dz : EReal := I.da s c * dgel (I.z s c)

/-- What one chunk adds to the gradients of the matrices, the biases and the gain. -/
def In.dw (p h a b : ℕ) : EReal := ∑ d : Fin 128, I.ds (p * 128 + a) (h * 128 + d) * I.n (p * 128 + b) (h * 128 + d)
def In.dg (p c : ℕ) : EReal := ∑ r : Fin 128, I.dn (p * 128 + r) c * I.h (p * 128 + r) c

/-! ## The arguments as arrays -/

section
variable (z : FVec Ideal ⟨2, ![4096, 3584]⟩ .f32) (g : FVec Ideal ⟨1, ![1536]⟩ .f32) (w : FVec Ideal ⟨3, ![12, 128, 128]⟩ .f32)
  (b : FVec Ideal ⟨2, ![12, 128]⟩ .f32) (dt : FVec Ideal ⟨2, ![4096, 2048]⟩ .bf16)

def inOf : In where
  z s c := if h : s < 4096 ∧ c < 3584 then z (ix2 ⟨s, h.1⟩ ⟨c, h.2⟩) else 0
  g c := if h : c < 1536 then g (ix1 ⟨c, h⟩) else 0
  w h a b := if k : h < 12 ∧ a < 128 ∧ b < 128 then w (ix3 ⟨h, k.1⟩ ⟨a, k.2.1⟩ ⟨b, k.2.2⟩) else 0
  b a h := if k : h < 12 ∧ a < 128 then b (ix2 ⟨h, k.1⟩ ⟨a, k.2⟩) else 0
  dt s c := if h : s < 4096 ∧ c < 2048 then dt (ix2 ⟨s, h.1⟩ ⟨c, h.2⟩) else 0

theorem inOf_z (s c : ℕ) (hs : s < 4096) (hc : c < 3584) : (inOf z g w b dt).z s c = z (ix2 ⟨s, hs⟩ ⟨c, hc⟩) := dif_pos ⟨hs, hc⟩
theorem inOf_g (c : ℕ) (hc : c < 1536) : (inOf z g w b dt).g c = g (ix1 ⟨c, hc⟩) := dif_pos hc
theorem inOf_w (h x y : ℕ) (hh : h < 12) (hx : x < 128) (hy : y < 128) :
    (inOf z g w b dt).w h x y = w (ix3 ⟨h, hh⟩ ⟨x, hx⟩ ⟨y, hy⟩) := dif_pos ⟨hh, hx, hy⟩
theorem inOf_b (x h : ℕ) (hh : h < 12) (hx : x < 128) : (inOf z g w b dt).b x h = b (ix2 ⟨h, hh⟩ ⟨x, hx⟩) := dif_pos ⟨hh, hx⟩
theorem inOf_dt (s c : ℕ) (hs : s < 4096) (hc : c < 2048) : (inOf z g w b dt).dt s c = dt (ix2 ⟨s, hs⟩ ⟨c, hc⟩) := dif_pos ⟨hs, hc⟩
end

end Cert.GmlpProof
-- ==== Proof.GmlpRef.lean ====
/- The reference of the spatial gate's gradients, read at an index: the same rows. -/
module

public import proofs.«01_k».proof.Proof.Gen.GmlpRefIdeal.Read
public import proofs.«01_k».proof.Proof.GmlpSpec

@[expose] public section

set_option maxRecDepth 16384

noncomputable section

namespace Cert.GmlpProof.Ref

open Idealize.ShloMosaic Idealize.ShloMosaic.TcCoe
open Cert.Lift Cert.GmlpProof
open Cert.GmlpRefIdeal Cert.GmlpRefIdeal.Read

variable (x0 : FVec Ideal S4096x3584 .f32) (x1 : FVec Ideal S1536 .f32) (x2 : FVec Ideal S12x128x128 .f32)
  (x3 : FVec Ideal S12x128 .f32) (x4 : FVec Ideal S4096x2048 .bf16)

local notation "I" => inOf x0 x1 x2 x3 x4

/-! ## The gelu and the norm -/

theorem gel_at (s : Fin 4096) (n : Fin 3072) : val_main_v14 (F := Ideal) x0 (ix2 s n) = gel ((I).z s n) := by
  rw [inOf_z _ _ _ _ _ s n (by omega) (by omega)]
  pointwise [val_main_v0, val_main_cst_1, val_main_v7, val_main_v8, val_main_cst_2, val_main_v9, val_main_v10, val_main_v11,
    val_main_cst_3, val_main_v12, val_main_v13, val_main_v14]
  rfl

theorem dgel_at (s : Fin 4096) (n : Fin 3072) : val_main_v23 (F := Ideal) x0 (ix2 s n) = dgel ((I).z s n) := by
  rw [inOf_z _ _ _ _ _ s n (by omega) (by omega)]
  pointwise [val_main_v0, val_main_cst, val_main_v1, val_main_v2, val_main_v3, val_main_v4, val_main_cst_0, val_main_v5,
    val_main_v6, val_main_cst_4, val_main_v15, val_main_v16, val_main_v17, val_main_cst_5, val_main_v18, val_main_v19,
    val_main_cst_6, val_main_v20, val_main_v21, val_main_v22, val_main_v23]
  unfold dgel
  rw [mul_assoc _ (Ideal.exp _) _]

theorem u_at (s : Fin 4096) (c : Fin 1536) : val_main_v24 (F := Ideal) x0 (ix2 s c) = (I).u s c := by
  refine Eq.trans ?_ (gel_at x0 x1 x2 x3 x4 s ⟨c.val, by omega⟩)
  pointwise [val_main_v24]

theorem v_at (s : Fin 4096) (c : Fin 1536) : val_main_v25 (F := Ideal) x0 (ix2 s c) = (I).v s c := by
  refine Eq.trans ?_ (gel_at x0 x1 x2 x3 x4 s ⟨1536 + c.val, by omega⟩)
  pointwise [val_main_v25]

theorem r_at (s : Fin 4096) : val_main_v33 (F := Ideal) x0 (ix2 s 0) = (I).r s := by
  pointwise [val_main_v26, val_main_cst_7, val_main_v27, val_main_v28, val_main_cst_8, val_main_v29, val_main_v30,
    val_main_cst_9, val_main_v31, val_main_v32, val_main_v33]
  simp only [v_at x0 x1 x2 x3 x4]
  rfl

theorem h_at (s : Fin 4096) (c : Fin 1536) : val_main_v38 (F := Ideal) x0 (ix2 s c) = (I).h s c := by
  pointwise [val_main_v37, val_main_v38]
  rw [v_at x0 x1 x2 x3 x4, r_at x0 x1 x2 x3 x4]
  rfl

theorem n_at (s : Fin 4096) (c : Fin 1536) : val_main_v41 (F := Ideal) x0 x1 (ix2 s c) = (I).n s c := by
  pointwise [val_main_v39, val_main_v40, val_main_v41]
  rw [h_at x0 x1 x2 x3 x4]
  unfold In.n
  rw [inOf_g _ _ _ _ _ c c.isLt]

theorem ds_at (s : Fin 4096) (c : Fin 1536) : val_main_v53 (F := Ideal) x0 x4 (ix2 s c) = (I).ds s c := by
  pointwise [val_main_v51, val_main_v52, val_main_v53]
  rw [u_at x0 x1 x2 x3 x4]
  unfold In.ds
  rw [inOf_dt _ _ _ _ _ s c s.isLt (by omega)]
  exact mul_comm _ _

/-! ## The chunks and the heads -/

theorem n4_at (p : Fin 32) (l : Fin 128) (h : Fin 12) (d : Fin 128) :
    val_main_v42 (F := Ideal) x0 x1 (ix4 p l h d) = (I).n (p * 128 + l) (h * 128 + d) := by
  refine Eq.trans ?_ (n_at x0 x1 x2 x3 x4 ⟨p * 128 + l, by omega⟩ ⟨h * 128 + d, by omega⟩)
  pointwise [val_main_v42]

theorem ds4_at (p : Fin 32) (l : Fin 128) (h : Fin 12) (d : Fin 128) :
    val_main_v55 (F := Ideal) x0 x4 (ix4 p l h d) = (I).ds (p * 128 + l) (h * 128 + d) := by
  refine Eq.trans ?_ (ds_at x0 x1 x2 x3 x4 ⟨p * 128 + l, by omega⟩ ⟨h * 128 + d, by omega⟩)
  pointwise [val_main_v55]

theorem sg4_at (p : Fin 32) (l : Fin 128) (h : Fin 12) (d : Fin 128) :
    val_main_v48 (F := Ideal) x0 x1 x2 x3 (ix4 p l h d)
      = (∑ k : Fin 128, x2 (ix3 h l k) * (I).n (p * 128 + k) (h * 128 + d)) + x3 (ix2 h l) := by
  pointwise [val_main_v43, val_main_v44, val_main_v45, val_main_v46, val_main_v47, val_main_v48]
  exact congrArg (· + _) (Finset.sum_congr rfl fun k _ => by rw [n4_at x0 x1 x2 x3 x4]; exact mul_comm _ _)

theorem sg_at (s : Fin 4096) (c : Fin 1536) : val_main_v49 (F := Ideal) x0 x1 x2 x3 (ix2 s c) = (I).sg s c := by
  obtain ⟨p, l, rfl⟩ : ∃ (p : Fin 32) (l : Fin 128), s = ⟨p * 128 + l, by omega⟩ :=
    ⟨⟨s / 128, by omega⟩, ⟨s % 128, by omega⟩, Fin.ext (by dsimp only; omega)⟩
  obtain ⟨h, d, rfl⟩ : ∃ (h : Fin 12) (d : Fin 128), c = ⟨h * 128 + d, by omega⟩ :=
    ⟨⟨c / 128, by omega⟩, ⟨c % 128, by omega⟩, Fin.ext (by dsimp only; omega)⟩
  have e : val_main_v49 (F := Ideal) x0 x1 x2 x3 (ix2 ⟨p * 128 + l, by omega⟩ ⟨h * 128 + d, by omega⟩)
      = val_main_v48 (F := Ideal) x0 x1 x2 x3 (ix4 p l h d) := by
    pointwise [val_main_v49]
  rw [e, sg4_at x0 x1 x2 x3 x4]
  unfold In.sg
  have e1 : (h.val * 128 + d.val) / 128 = h := by omega
  have e2 : (p.val * 128 + l.val) % 128 = l := by omega
  have e3 : (p.val * 128 + l.val) / 128 = p := by omega
  dsimp only
  rw [e1, e2, e3, inOf_b _ _ _ _ _ l h h.isLt l.isLt]
  exact congrArg (· + _) (Finset.sum_congr rfl fun k _ => by rw [inOf_w _ _ _ _ _ h l k h.isLt l.isLt k.isLt])

theorem dw_at (h : Fin 12) (a b : Fin 128) :
    val_main_v61 (F := Ideal) x0 x1 x4 (ix3 h a b) = ∑ p : Fin 32, (I).dw p h a b := by
  pointwise [val_main_v60, val_main_v61]
  refine Finset.sum_congr rfl fun p _ => Finset.sum_congr rfl fun d _ => ?_
  rw [n4_at x0 x1 x2 x3 x4, ds4_at x0 x1 x2 x3 x4]

theorem dn_at (s : Fin 4096) (c : Fin 1536) : val_main_v64 (F := Ideal) x0 x2 x4 (ix2 s c) = (I).dn s c := by
  obtain ⟨p, l, rfl⟩ : ∃ (p : Fin 32) (l : Fin 128), s = ⟨p * 128 + l, by omega⟩ :=
    ⟨⟨s / 128, by omega⟩, ⟨s % 128, by omega⟩, Fin.ext (by dsimp only; omega)⟩
  obtain ⟨h, d, rfl⟩ : ∃ (h : Fin 12) (d : Fin 128), c = ⟨h * 128 + d, by omega⟩ :=
    ⟨⟨c / 128, by omega⟩, ⟨c % 128, by omega⟩, Fin.ext (by dsimp only; omega)⟩
  have e : val_main_v64 (F := Ideal) x0 x2 x4 (ix2 ⟨p * 128 + l, by omega⟩ ⟨h * 128 + d, by omega⟩)
      = val_main_v62 (F := Ideal) x0 x2 x4 (ix4 h p d l) := by
    pointwise [val_main_v63, val_main_v64]
  rw [e]
  unfold In.dn
  have e1 : (h.val * 128 + d.val) / 128 = h := by omega
  have e2 : (p.val * 128 + l.val) % 128 = l := by omega
  have e3 : (p.val * 128 + l.val) / 128 = p := by omega
  dsimp only
  rw [e1, e2, e3]
  pointwise [val_main_v60, val_main_v62]
  refine Finset.sum_congr rfl fun k _ => ?_
  rw [ds4_at x0 x1 x2 x3 x4, inOf_w _ _ _ _ _ h k l h.isLt k.isLt l.isLt]
  exact mul_comm _ _

theorem gy_at (s : Fin 4096) (c : Fin 1536) : val_main_v69 (F := Ideal) x0 x1 x2 x4 (ix2 s c) = (I).gy s c := by
  pointwise [val_main_v39, val_main_v68, val_main_v69]
  rw [dn_at x0 x1 x2 x3 x4]
  unfold In.gy
  rw [inOf_g _ _ _ _ _ c c.isLt]

/-! ## The three sums over the rows -/

theorem dg_at (c : Fin 1536) : val_main_v91 (F := Ideal) x0 x2 x4 (ix2 0 c) = ∑ p : Fin 32, (I).dg p c := by
  have e : val_main_v91 (F := Ideal) x0 x2 x4 (ix2 0 c) = ∑ s : Fin 4096, (I).dn s c * (I).h s c := by
    pointwise [val_main_v65, val_main_cst_13, val_main_v66, val_main_v67, val_main_cst_14, val_main_v70, val_main_v91]
    simp only [Finset.univ_unique, Finset.sum_singleton]
    refine Finset.sum_congr rfl fun s _ => ?_
    rw [dn_at x0 x1 x2 x3 x4, h_at x0 x1 x2 x3 x4]
    exact mul_comm _ _
  rw [e]
  symm
  unfold In.dg
  exact Fin.sum_mul_add_congr (fun p r hl => rfl) rfl

theorem drop_03 {A B C D : ℕ} (h : (⟨4, ![A, B, C, D]⟩ : Shape).ReducesTo [0, 3] ⟨2, ![B, C]⟩) (a : Fin A) (b : Fin B) (c : Fin C)
    (d : Fin D) : h.drop (ix4 a b c d) = ix2 b c := by
  funext k
  fin_cases k <;> rfl

theorem reduce_03 {A B C D : ℕ} (h : (⟨4, ![A, B, C, D]⟩ : Shape).ReducesTo [0, 3] ⟨2, ![B, C]⟩)
    (x : (⟨4, ![A, B, C, D]⟩ : Shape).Idx → EReal) (init : EReal) (b : Fin B) (c : Fin C) :
    Ideal.hostReduceAdd h x init (ix2 b c) = init + ∑ a, ∑ d, x (ix4 a b c d) := by
  unfold Ideal.hostReduceAdd
  rw [Finset.sum_filter, sum_idx4]
  refine congrArg _ (Finset.sum_congr rfl fun a _ => ?_)
  have e : ∀ (b' : Fin B) (c' : Fin C) (d : Fin D),
      (if h.drop (ix4 a b' c' d) = ix2 b c then x (ix4 a b' c' d) else 0)
        = if b' = b then (if c' = c then x (ix4 a b c d) else 0) else 0 := by
    intro b' c' d
    rw [drop_03]
    by_cases hb : b' = b
    · by_cases hc : c' = c
      · rw [hb, hc, if_pos rfl, if_pos rfl, if_pos rfl]
      · rw [if_pos hb, if_neg hc, if_neg fun he => hc (congrFun he 1)]
    · rw [if_neg hb, if_neg fun he => hb (congrFun he 0)]
  simp only [e]
  rw [Finset.sum_eq_single b (fun b' _ hb => by simp only [if_neg hb, Finset.sum_const_zero]) (fun hb => absurd (Finset.mem_univ b) hb),
    Finset.sum_eq_single c (fun c' _ hc => by simp only [if_pos, if_neg hc, Finset.sum_const_zero]) (fun hc => absurd (Finset.mem_univ c) hc)]
  simp only [if_pos]

theorem db_at (a : Fin 128) (h : Fin 12) :
    val_main_v90 (F := Ideal) x0 x4 (ix2 a h) = ∑ l : Fin 128, ∑ p : Fin 32, (I).ds (p * 128 + a) (h * 128 + l) := by
  pointwise [val_main_cst_11, val_main_v56, val_main_v57, val_main_cst_12, val_main_v58, val_main_v59, val_main_v90]
  rw [reduce_03, zero_add]
  simp only [Finset.univ_unique, Finset.sum_singleton]
  pointwise
  rw [reduce_03]
  simp only [ds4_at x0 x1 x2 x3 x4]
  rw [zero_add]
  exact Finset.sum_comm

/-! ## The rows of real numbers -/

/-- A row norm's gradient as the kernel forms it, and as the reference's chain of derivatives does. -/
theorem row_eq (v y : Fin 1536 → ℝ) (k : Fin 1536) (q : ℝ) (hq : 0 < q) :
    (√q)⁻¹ * (y k - v k * (√q)⁻¹ * ((∑ j, y j * (v j * (√q)⁻¹)) / 1536))
      = y k * (√q)⁻¹ + v k * ((∑ j, v j * y j) * (-(1 / 2) * ((√q)⁻¹ / q)) / 1536)
        + (∑ j, v j * y j) * (-(1 / 2) * ((√q)⁻¹ / q)) / 1536 * v k := by
  rw [inv_sqrt_div _ hq]
  generalize (√q)⁻¹ = r
  have hs : ∑ j, y j * (v j * r) = (∑ j, v j * y j) * r := by
    rw [Finset.sum_mul]; exact Finset.sum_congr rfl fun j _ => by ring
  rw [hs]
  ring

theorem lit_1536 : Ideal.ofBits .f32 0x44C00000#32 = ((1536 : ℝ) : EReal) := by
  simp [Ideal.ofBits, Ideal.ieee]; rw [← EReal.coe_mul]; congr 1; norm_num

theorem dv_at (s : Fin 4096) (v y : Fin 1536 → ℝ) (hv : ∀ c : Fin 1536, (I).v s c = (v c : EReal))
    (hy : ∀ c : Fin 1536, (I).gy s c = (y c : EReal)) (c : Fin 1536) :
    val_main_v84 (F := Ideal) x0 x1 x2 x4 (ix2 s c) = (I).dv s c := by
  have hp : 0 < (∑ k, v k ^ 2) / 1536 + eps := by have := eps_pos; positivity
  have hn := hp.ne'
  have hr : (I).r s = ((√((∑ k, v k ^ 2) / 1536 + eps))⁻¹ : ℝ) := by
    unfold In.r
    simp (disch := first | assumption | norm_num) only [hv, lit_1536, lit_eps, ← EReal.coe_mul, ← EReal.coe_add, sum_coe, sq_real, div_coe,
      rsqrt_coe]
  have hw : val_main_v32 (F := Ideal) x0 (ix2 s 0) = (((∑ k, v k ^ 2) / 1536 + eps : ℝ) : EReal) := by
    pointwise [val_main_v26, val_main_cst_7, val_main_v27, val_main_v28, val_main_cst_8, val_main_v29, val_main_v30,
      val_main_cst_9, val_main_v31, val_main_v32]
    simp (disch := norm_num) only [v_at x0 x1 x2 x3 x4, hv, lit_1536, lit_eps, ← EReal.coe_mul, ← EReal.coe_add, sum_coe, sq_real, div_coe]
  unfold In.dv In.h
  pointwise [val_main_v34, val_main_cst_10, val_main_v35, val_main_v36, val_main_v71, val_main_cst_15, val_main_v72, val_main_v73,
    val_main_v74, val_main_v75, val_main_v76, val_main_cst_16, val_main_v77, val_main_v78, val_main_cst_17, val_main_v79,
    val_main_v80, val_main_v81, val_main_v82, val_main_v83, val_main_v84]
  simp only [Finset.univ_unique, Finset.sum_singleton]
  simp only [Fin.default_eq_zero, Fin.isValue, v_at x0 x1 x2 x3 x4, gy_at x0 x1 x2 x3 x4, r_at x0 x1 x2 x3 x4, hw, hv, hy, hr]
  generalize hq : (∑ k, v k ^ 2) / 1536 + eps = q at *
  simp (disch := first | assumption | norm_num) only [lit_1536, lit_neg_half, ← EReal.coe_mul, ← EReal.coe_add, ← EReal.coe_sub, sum_coe, div_coe]
  exact congrArg _ (row_eq v y c q hp).symm

theorem da_at (s : Fin 4096) (v y : Fin 1536 → ℝ) (hv : ∀ c : Fin 1536, (I).v s c = (v c : EReal))
    (hy : ∀ c : Fin 1536, (I).gy s c = (y c : EReal)) (c : Fin 3072) :
    val_main_v85 (F := Ideal) x0 x1 x2 x3 x4 (ix2 s c) = (I).da s c := by
  unfold In.da
  by_cases h : c.val < 1536
  · have e : val_main_v85 (F := Ideal) x0 x1 x2 x3 x4 (ix2 s c) = val_main_v54 (F := Ideal) x0 x1 x2 x3 x4 (ix2 s ⟨c.val, h⟩) := by
      pointwise [val_main_v85]
      exact dif_pos h
    rw [e, if_pos h]
    pointwise [val_main_v51, val_main_v52, val_main_v54]
    rw [sg_at x0 x1 x2 x3 x4, inOf_dt _ _ _ _ _ s c s.isLt (by omega)]
  · have e : val_main_v85 (F := Ideal) x0 x1 x2 x3 x4 (ix2 s c)
        = val_main_v84 (F := Ideal) x0 x1 x2 x4 (ix2 s ⟨c.val - 1536, by omega⟩) := by
      pointwise [val_main_v85]
      exact dif_neg h
    rw [e, if_neg h]
    exact dv_at x0 x1 x2 x3 x4 s v y hv hy _

theorem dz_at (s : Fin 4096) (v y : Fin 1536 → ℝ) (hv : ∀ c : Fin 1536, (I).v s c = (v c : EReal))
    (hy : ∀ c : Fin 1536, (I).gy s c = (y c : EReal)) (c : Fin 3584) (h : c.val < 3072) :
    val_main_v89 (F := Ideal) x0 x1 x2 x3 x4 (ix2 s c) = (I).dz s c := by
  have e : val_main_v89 (F := Ideal) x0 x1 x2 x3 x4 (ix2 s c) = val_main_v86 (F := Ideal) x0 x1 x2 x3 x4 (ix2 s ⟨c.val, h⟩) := by
    pointwise [val_main_v88, val_main_v89]
    exact dif_pos h
  rw [e]
  pointwise [val_main_v86]
  rw [da_at x0 x1 x2 x3 x4 s v y hv hy, dgel_at x0 x1 x2 x3 x4]
  exact mul_comm _ _

/-! ## Where the arguments are real numbers, so are the rows -/

theorem gel_real (z : ℝ) : ∃ r : ℝ, gel (z : EReal) = (r : EReal) := by
  obtain ⟨k, hk⟩ : ∃ k : ℝ, Ideal.ofBits .f32 0x3F3504F3#32 = (k : EReal) := ⟨11863283 / 2 ^ 24, by
    simp [Ideal.ofBits, Ideal.ieee]; rw [← EReal.coe_mul]; congr 1⟩
  unfold gel
  rw [hk, lit_half, ← EReal.coe_mul, ← EReal.coe_mul, Ideal.erf_coe, one_coe, ← EReal.coe_add, ← EReal.coe_mul]
  exact ⟨_, rfl⟩

theorem ds_real (hz : ∀ (s : Fin 4096) (n : Fin 3072), ∃ r : ℝ, x0 (ix2 s ⟨n.val, by omega⟩) = (r : EReal))
    (hd : ∀ (s : Fin 4096) (n : Fin 1536), ∃ r : ℝ, x4 (ix2 s ⟨n.val, by omega⟩) = (r : EReal)) (s c : ℕ) (hs : s < 4096) (hc : c < 1536) :
    ∃ r : ℝ, (I).ds s c = (r : EReal) := by
  obtain ⟨a, ha⟩ := hz ⟨s, hs⟩ ⟨c, by omega⟩
  obtain ⟨b, hb⟩ := hd ⟨s, hs⟩ ⟨c, hc⟩
  obtain ⟨u, hu⟩ := gel_real a
  refine ⟨b * u, ?_⟩
  unfold In.ds In.u
  rw [inOf_dt _ _ _ _ _ s c hs (by omega), inOf_z _ _ _ _ _ s c hs (by omega), EReal.coe_mul]
  exact congrArg₂ (· * ·) hb ((congrArg gel ha).trans hu)

theorem v_real (hz : ∀ (s : Fin 4096) (n : Fin 3072), ∃ r : ℝ, x0 (ix2 s ⟨n.val, by omega⟩) = (r : EReal)) (s : Fin 4096) :
    ∃ v : Fin 1536 → ℝ, ∀ c : Fin 1536, (I).v s c = (v c : EReal) := by
  suffices k : ∀ c : Fin 1536, ∃ r : ℝ, (I).v s c = (r : EReal) from ⟨_, fun c => (k c).choose_spec⟩
  intro c
  obtain ⟨a, ha⟩ := hz s ⟨1536 + c.val, by omega⟩
  obtain ⟨u, hu⟩ := gel_real a
  refine ⟨u, ?_⟩
  unfold In.v
  rw [inOf_z _ _ _ _ _ s _ s.isLt (by omega)]
  exact (congrArg gel ha).trans hu

theorem gy_real (hz : ∀ (s : Fin 4096) (n : Fin 3072), ∃ r : ℝ, x0 (ix2 s ⟨n.val, by omega⟩) = (r : EReal))
    (hg : ∀ d : Fin 1536, ∃ r : ℝ, x1 (ix1 d) = (r : EReal))
    (hw : ∀ (h : Fin 12) (a b : Fin 128), ∃ r : ℝ, x2 (ix3 h a b) = (r : EReal))
    (hd : ∀ (s : Fin 4096) (n : Fin 1536), ∃ r : ℝ, x4 (ix2 s ⟨n.val, by omega⟩) = (r : EReal)) (s : Fin 4096) :
    ∃ y : Fin 1536 → ℝ, ∀ c : Fin 1536, (I).gy s c = (y c : EReal) := by
  suffices k : ∀ c : Fin 1536, ∃ r : ℝ, (I).gy s c = (r : EReal) from ⟨_, fun c => (k c).choose_spec⟩
  intro c
  obtain ⟨g, hg⟩ := hg c
  have k (r : Fin 128) : ∃ q : ℝ, (I).w (c / 128) r (s % 128) = (q : EReal) := by
    rw [inOf_w _ _ _ _ _ _ _ _ (by omega) r.isLt (by omega)]
    exact hw _ _ _
  have l (r : Fin 128) : ∃ q : ℝ, (I).ds (s / 128 * 128 + r) c = (q : EReal) :=
    ds_real x0 x1 x2 x3 x4 hz hd _ c (by omega) c.isLt
  refine ⟨(∑ r, (k r).choose * (l r).choose) * g, ?_⟩
  unfold In.gy In.dn
  rw [inOf_g _ _ _ _ _ c c.isLt, EReal.coe_mul, ← sum_coe]
  refine congrArg₂ (· * ·) (Finset.sum_congr rfl fun r _ => ?_) hg
  rw [EReal.coe_mul]
  exact congrArg₂ (· * ·) (k r).choose_spec (l r).choose_spec

end Cert.GmlpProof.Ref
-- ==== Proof.GmlpPoint.lean ====
/- The spatial gate's gradients: what the kernel does to one chunk of 128 rows. -/
module

public import proofs.«01_k».proof.Defs
public import proofs.«01_k».proof.Proof.Gen.GmlpIdeal.Value
public import proofs.«01_k».proof.Proof.GmlpSpec

@[expose] public section

set_option maxRecDepth 16384

noncomputable section

namespace Cert.GmlpProof

open Idealize.ShloMosaic Idealize.ShloMosaic.TcCoe Idealize.SL.Sem
open Cert.Lift
open Cert.GmlpIdeal Cert.GmlpIdeal.Gen

/-! ## One head's products -/

variable (w : FVec Ideal S1x128x128 .f32) (vn ds : FVec Ideal S128x1536 .bf16) (dt : FVec Ideal S128x1536 .f32) (b : FVec Ideal S128x1 .f32)
  (o : ℕ) (hs : S128x1536.Slices ![0, o] S128x128) (r d : Fin 128)

theorem lt_of_slice {o : ℕ} (hs : S128x1536.Slices ![0, o] S128x128) (d : Fin 128) : o + d.val < 1536 := by
  have := hs.2 1
  have h : o + 128 ≤ 1536 := this
  omega

theorem slice_at {φ : FTy} (x : FVec Ideal S128x1536 φ) :
    extractStridedSlice S128x128 ![0, o] x hs (ix2 r d) = x (ix2 r ⟨o + d.val, lt_of_slice hs d⟩) := by
  pointwise

/-- The rows mixed by the head's matrix, and the bias, times the cotangent. -/
theorem mix_at : mulf (extractStridedSlice S128x128 ![0, o] dt hs)
      (addf (matmul dot_S128x128_S128x128_S128x128_1_0_0_1_n_n none (truncf (F := Ideal) .bf16 (shapeCast S128x128 w shapeCasts_S1x128x128_S128x128) bitsLt_bf16_f32)
        (extractStridedSlice S128x128 ![0, o] vn hs) (constant (F := Ideal) S128x128 .f32 0x00000000#32))
        (broadcastTo S128x128 (shapeCast S128x1 b shapeCasts_S128x1_S128x1) broadcasts_S128x1_S128x128)) (ix2 r d)
    = (dt (ix2 r ⟨o + d.val, lt_of_slice hs d⟩) : EReal) * ((∑ l : Fin 128, (w (ix3 0 r l) : EReal) * (vn (ix2 l ⟨o + d.val, lt_of_slice hs d⟩) : EReal))
      + (b (ix2 r 0) : EReal)) := by
  pointwise

/-- The cotangent's rows mixed by the head's matrix the other way. -/
theorem back_at : matmul dot_S128x128_S128x128_S128x128_0_0_1_1_n_n none (truncf (F := Ideal) .bf16 (shapeCast S128x128 w shapeCasts_S1x128x128_S128x128) bitsLt_bf16_f32)
      (extractStridedSlice S128x128 ![0, o] ds hs) (constant (F := Ideal) S128x128 .f32 0x00000000#32) (ix2 r d)
    = ∑ l : Fin 128, (w (ix3 0 l r) : EReal) * (ds (ix2 l ⟨o + d.val, lt_of_slice hs d⟩) : EReal) := by
  pointwise

/-- What the chunk adds to the head's matrix. -/
theorem outer_at : shapeCast S1x128x128 (addf (shapeCast S128x128 w shapeCasts_S1x128x128_S128x128)
      (matmul dot_S128x128_S128x128_S128x128_1_1_0_0_n_n none (extractStridedSlice S128x128 ![0, o] ds hs) (extractStridedSlice S128x128 ![0, o] vn hs)
        (constant (F := Ideal) S128x128 .f32 0x00000000#32))) shapeCasts_S128x128_S1x128x128 (ix3 0 r d)
    = (w (ix3 0 r d) : EReal) + ∑ l : Fin 128, (ds (ix2 r ⟨o + l.val, lt_of_slice hs l⟩) : EReal) * (vn (ix2 d ⟨o + l.val, lt_of_slice hs l⟩) : EReal) := by
  pointwise

/-! ## Heads beside one another -/

section
variable {P0 P1 P2 P3 P4 P5 P6 P7 P8 P9 P10 P11 : FVec Ideal S128x128 .f32} (Q : FVec Ideal S128x1536 .f32) (f : ℕ → Fin 128 → ℕ → EReal)

theorem dite_of {k : Prop} [Decidable k] {a : k → EReal} {b : ¬ k → EReal} {v : EReal} (h1 : ∀ h, a h = v) (h2 : ∀ h, b h = v) : dite k a b = v := by
  by_cases h : k
  · rw [dif_pos h, h1]
  · rw [dif_neg h, h2]

theorem head_at (c g e : ℕ) (he : e < 128) (h : c = 128 * g + e) : f g r e = f (c / 128) r (c % 128) := by
  subst h
  rw [show (128 * g + e) / 128 = g by omega, show (128 * g + e) % 128 = e by omega]

set_option maxHeartbeats 2000000 in
theorem heads (h : ∀ (g : Fin 12) (r d : Fin 128), (![P0, P1, P2, P3, P4, P5, P6, P7, P8, P9, P10, P11] g) (ix2 r d) = f g r d) (hcat)
    (c : ℕ) (hc : c < 1536) :
    concatenate S128x1536 1 [⟨S128x128, P0⟩, ⟨S128x128, P1⟩, ⟨S128x128, P2⟩, ⟨S128x128, P3⟩, ⟨S128x128, P4⟩, ⟨S128x128, P5⟩, ⟨S128x128, P6⟩,
      ⟨S128x128, P7⟩, ⟨S128x128, P8⟩, ⟨S128x128, P9⟩, ⟨S128x128, P10⟩, ⟨S128x128, P11⟩] hcat (ix2 r ⟨c, hc⟩) = f (c / 128) r (c % 128) := by
  pointwise
  refine dite_of (fun k => (h 0 r ⟨_, k⟩).trans (head_at r f c 0 _ k (by dsimp only; omega))) fun _ => ?_
  refine dite_of (fun k => (h 1 r ⟨_, k⟩).trans (head_at r f c 1 _ k (by dsimp only; omega))) fun _ => ?_
  refine dite_of (fun k => (h 2 r ⟨_, k⟩).trans (head_at r f c 2 _ k (by dsimp only; omega))) fun _ => ?_
  refine dite_of (fun k => (h 3 r ⟨_, k⟩).trans (head_at r f c 3 _ k (by dsimp only; omega))) fun _ => ?_
  refine dite_of (fun k => (h 4 r ⟨_, k⟩).trans (head_at r f c 4 _ k (by dsimp only; omega))) fun _ => ?_
  refine dite_of (fun k => (h 5 r ⟨_, k⟩).trans (head_at r f c 5 _ k (by dsimp only; omega))) fun _ => ?_
  refine dite_of (fun k => (h 6 r ⟨_, k⟩).trans (head_at r f c 6 _ k (by dsimp only; omega))) fun _ => ?_
  refine dite_of (fun k => (h 7 r ⟨_, k⟩).trans (head_at r f c 7 _ k (by dsimp only; omega))) fun _ => ?_
  refine dite_of (fun k => (h 8 r ⟨_, k⟩).trans (head_at r f c 8 _ k (by dsimp only; omega))) fun _ => ?_
  refine dite_of (fun k => (h 9 r ⟨_, k⟩).trans (head_at r f c 9 _ k (by dsimp only; omega))) fun _ => ?_
  refine dite_of (fun k => (h 10 r ⟨_, k⟩).trans (head_at r f c 10 _ k (by dsimp only; omega))) fun _ => ?_
  exact (h 11 r ⟨_, by omega⟩).trans (head_at r f c 11 _ (by dsimp only; omega) (by dsimp only; omega))

set_option maxHeartbeats 2000000 in
theorem heads_rest (h : ∀ (g : Fin 12) (r d : Fin 128), (![P0, P1, P2, P3, P4, P5, P6, P7, P8, P9, P10, P11] g) (ix2 r d) = f g r d)
    (q : ℕ → EReal) (hq : ∀ d : Fin 1536, Q (ix2 r d) = q d) (hcat) (c : Fin 3072) :
    concatenate S128x3072 1 [⟨S128x128, P0⟩, ⟨S128x128, P1⟩, ⟨S128x128, P2⟩, ⟨S128x128, P3⟩, ⟨S128x128, P4⟩, ⟨S128x128, P5⟩, ⟨S128x128, P6⟩,
      ⟨S128x128, P7⟩, ⟨S128x128, P8⟩, ⟨S128x128, P9⟩, ⟨S128x128, P10⟩, ⟨S128x128, P11⟩, ⟨S128x1536, Q⟩] hcat (ix2 r c)
      = if c.val < 1536 then f (c.val / 128) r (c.val % 128) else q (c.val - 1536) := by
  have hc := c.isLt
  pointwise
  by_cases hl : c.val < 1536
  · rw [if_pos hl]
    refine dite_of (fun k => (h 0 r ⟨_, k⟩).trans (head_at r f c 0 _ k (by dsimp only; omega))) fun _ => ?_
    refine dite_of (fun k => (h 1 r ⟨_, k⟩).trans (head_at r f c 1 _ k (by dsimp only; omega))) fun _ => ?_
    refine dite_of (fun k => (h 2 r ⟨_, k⟩).trans (head_at r f c 2 _ k (by dsimp only; omega))) fun _ => ?_
    refine dite_of (fun k => (h 3 r ⟨_, k⟩).trans (head_at r f c 3 _ k (by dsimp only; omega))) fun _ => ?_
    refine dite_of (fun k => (h 4 r ⟨_, k⟩).trans (head_at r f c 4 _ k (by dsimp only; omega))) fun _ => ?_
    refine dite_of (fun k => (h 5 r ⟨_, k⟩).trans (head_at r f c 5 _ k (by dsimp only; omega))) fun _ => ?_
    refine dite_of (fun k => (h 6 r ⟨_, k⟩).trans (head_at r f c 6 _ k (by dsimp only; omega))) fun _ => ?_
    refine dite_of (fun k => (h 7 r ⟨_, k⟩).trans (head_at r f c 7 _ k (by dsimp only; omega))) fun _ => ?_
    refine dite_of (fun k => (h 8 r ⟨_, k⟩).trans (head_at r f c 8 _ k (by dsimp only; omega))) fun _ => ?_
    refine dite_of (fun k => (h 9 r ⟨_, k⟩).trans (head_at r f c 9 _ k (by dsimp only; omega))) fun _ => ?_
    refine dite_of (fun k => (h 10 r ⟨_, k⟩).trans (head_at r f c 10 _ k (by dsimp only; omega))) fun _ => ?_
    refine dite_of (fun k => (h 11 r ⟨_, k⟩).trans (head_at r f c 11 _ k (by dsimp only; omega))) fun _ => ?_
    omega
  · rw [if_neg hl]
    iterate 12 refine dite_of (fun k => absurd hl (by omega)) fun _ => ?_
    refine (hq _).trans (congrArg q ?_)
    show c.val - 128 - 128 - 128 - 128 - 128 - 128 - 128 - 128 - 128 - 128 - 128 - 128 = c.val - 1536
    omega
end

/-! ## The chunk before its heads -/

/-- A chunk's blocks hold the arguments' rows from `p * 128` on. -/
structure Chunk (I : In) (p : ℕ) (zz : FVec Ideal S128x3072 .f32) (g : FVec Ideal S1x1536 .f32) (dt : FVec Ideal S128x1536 .bf16) : Prop where
  z : ∀ (r : Fin 128) (c : Fin 3072), (zz (ix2 r c) : EReal) = I.z (p * 128 + r) c
  g : ∀ c : Fin 1536, (g (ix2 0 c) : EReal) = I.g c
  dt : ∀ (r : Fin 128) (c : Fin 1536), (dt (ix2 r c) : EReal) = I.dt (p * 128 + r) c

section
variable {I : In} {p : ℕ} {zz : FVec Ideal S128x3072 .f32} {gg : FVec Ideal S1x1536 .f32} {dd : FVec Ideal S128x1536 .bf16}
  (H : Chunk I p zz gg dd) (x : Fin 1536)
include H

theorem gel_at (c : Fin 3072) : k0_pay16 (F := Ideal) zz (ix2 r c) = gel (I.z (p * 128 + r) c) := by
  pointwise [k0_pay16]
  rw [H.z]
  rfl

theorem v_at : k0_pay17 (F := Ideal) zz (ix2 r x) = I.v (p * 128 + r) x := by
  pointwise [k0_pay17]
  exact gel_at r H _

theorem r_at : k0_pay18 (F := Ideal) zz (ix2 r 0) = I.r (p * 128 + r) := by
  pointwise [k0_pay18]
  simp only [v_at r H]
  rfl

theorem h_at : k0_pay19 (F := Ideal) zz (ix2 r x) = I.h (p * 128 + r) x := by
  pointwise [k0_pay19]
  rw [v_at r H, r_at r H]
  rfl

theorem n_at : k0_pay20 (F := Ideal) zz gg (ix2 r x) = I.n (p * 128 + r) x := by
  pointwise [k0_pay20]
  rw [h_at r H, H.g]
  rfl

theorem ds_at : k0_pay22 (F := Ideal) zz dd (ix2 r x) = I.ds (p * 128 + r) x := by
  pointwise [k0_pay22, k0_pay21]
  rw [gel_at r H, H.dt]
  rfl

theorem dsb_at : k0_pay24 (F := Ideal) zz dd (ix2 r x) = I.ds (p * 128 + r) x := by
  pointwise [k0_pay24]
  exact ds_at r H x
end

end Cert.GmlpProof
-- ==== Proof.GmlpHeads.lean ====
/- The spatial gate's gradients: the heads of one chunk, and what the chunk adds to each result. -/
module

public import proofs.«01_k».proof.Defs
public import proofs.«01_k».proof.Proof.Gen.GmlpIdeal.Value
public import proofs.«01_k».proof.Proof.GmlpPoint

@[expose] public section

set_option maxRecDepth 16384

noncomputable section

namespace Cert.GmlpProof

open Idealize.ShloMosaic Idealize.ShloMosaic.TcCoe Idealize.SL.Sem
open Cert.Lift
open Cert.GmlpIdeal Cert.GmlpIdeal.Gen

variable (I : In) (p : ℕ)

/-- One head of the normed half's cotangent, and of the gated half's. -/
def In.dnP (g : ℕ) (r : Fin 128) (d : ℕ) : EReal := ∑ l : Fin 128, I.w g l r * I.ds (p * 128 + l) (g * 128 + d)
def In.sgP (g : ℕ) (r : Fin 128) (d : ℕ) : EReal :=
  I.dt (p * 128 + r) (g * 128 + d) * ((∑ l : Fin 128, I.w g r l * I.n (p * 128 + l) (g * 128 + d)) + I.b r g)

theorem dnP_eq (r : Fin 128) (c : ℕ) : I.dnP p (c / 128) r (c % 128) = I.dn (p * 128 + r) c := by
  unfold In.dnP In.dn
  have e1 : (p * 128 + r.val) % 128 = r.val := by omega
  have e2 : (p * 128 + r.val) / 128 * 128 = p * 128 := by omega
  have e3 : c / 128 * 128 + c % 128 = c := by omega
  simp only [e1, e2, e3]

theorem sgP_eq (r : Fin 128) (c : ℕ) : I.sgP p (c / 128) r (c % 128) = I.dt (p * 128 + r) c * I.sg (p * 128 + r) c := by
  unfold In.sgP In.sg
  have e1 : (p * 128 + r.val) % 128 = r.val := by omega
  have e2 : (p * 128 + r.val) / 128 * 128 = p * 128 := by omega
  have e3 : c / 128 * 128 + c % 128 = c := by omega
  simp only [e1, e2, e3]

/-! ## A head of the chunk -/

variable {I p}
variable {Wb : Vec Ideal S12x128x128 .f32} (hW : ∀ (h : Fin 12) (a b : Fin 128), (Wb (ix3 h a b) : EReal) = I.w h a b)
  {bb : Vec Ideal S128x12 .f32} (hB : ∀ (a : Fin 128) (h : Fin 12), (bb (ix2 a h) : EReal) = I.b a h)
  {ds vn : FVec Ideal S128x1536 .bf16} {dt : FVec Ideal S128x1536 .f32}
  (hds : ∀ (r : Fin 128) (x : Fin 1536), (ds (ix2 r x) : EReal) = I.ds (p * 128 + r) x)
  (hn : ∀ (r : Fin 128) (x : Fin 1536), (vn (ix2 r x) : EReal) = I.n (p * 128 + r) x)
  (hdt : ∀ (r : Fin 128) (x : Fin 1536), (dt (ix2 r x) : EReal) = I.dt (p * 128 + r) x)
  (g : Fin 12) (j o : ℕ) (hj : j = g.val) (ho : o = g.val * 128)

theorem ld_head (X : Vec Ideal S12x128x128 .f32) (hj : j = g.val) (hi : ∀ a, (![j, 0, 0] : Fin 3 → ℕ) a + S1x128x128.size a ≤ S12x128x128.size a) (a b : Fin 128) :
    View.ld X (Rect.unit (s := S12x128x128) ![j, 0, 0] S1x128x128.size hi) (ix3 (0 : Fin 1) a b) = X (ix3 g a b) := by
  refine View.ld_unit_apply_of X _ _ _ _ _ fun k => ?_
  fin_cases k
  · show g.val = j + 0
    omega
  · show a.val = 0 + a.val
    omega
  · show b.val = 0 + b.val
    omega

theorem ld_bias (X : Vec Ideal S128x12 .f32) (hj : j = g.val) (hi : ∀ a, (![0, j] : Fin 2 → ℕ) a + S128x1.size a ≤ S128x12.size a) (a : Fin 128) :
    View.ld X (Rect.unit (s := S128x12) ![0, j] S128x1.size hi) (ix2 a (0 : Fin 1)) = X (ix2 a g) := by
  refine View.ld_unit_apply_of X _ _ _ _ _ fun k => ?_
  fin_cases k
  · show a.val = 0 + a.val
    omega
  · show g.val = j + 0
    omega

include hW hds hj ho in
theorem back_of (hi) (hs : S128x1536.Slices ![0, o] S128x128) (r d : Fin 128) :
    matmul dot_S128x128_S128x128_S128x128_0_0_1_1_n_n none (truncf (F := Ideal) .bf16 (shapeCast S128x128
        (View.ld Wb (Rect.unit (s := S12x128x128) ![j, 0, 0] S1x128x128.size hi)) shapeCasts_S1x128x128_S128x128) bitsLt_bf16_f32)
      (extractStridedSlice S128x128 ![0, o] ds hs) (constant (F := Ideal) S128x128 .f32 0x00000000#32) (ix2 r d) = I.dnP p g r d := by
  rw [back_at]
  subst ho
  exact Finset.sum_congr rfl fun l _ => by rw [hds, ld_head g j Wb hj, hW]

include hW hB hn hdt hj ho in
theorem mix_of (hi hk) (hs : S128x1536.Slices ![0, o] S128x128) (r d : Fin 128) :
    mulf (extractStridedSlice S128x128 ![0, o] dt hs)
      (addf (matmul dot_S128x128_S128x128_S128x128_1_0_0_1_n_n none (truncf (F := Ideal) .bf16 (shapeCast S128x128
          (View.ld Wb (Rect.unit (s := S12x128x128) ![j, 0, 0] S1x128x128.size hi)) shapeCasts_S1x128x128_S128x128) bitsLt_bf16_f32)
        (extractStridedSlice S128x128 ![0, o] vn hs) (constant (F := Ideal) S128x128 .f32 0x00000000#32))
        (broadcastTo S128x128 (shapeCast S128x1 (View.ld bb (Rect.unit (s := S128x12) ![0, j] S128x1.size hk)) shapeCasts_S128x1_S128x1)
          broadcasts_S128x1_S128x128)) (ix2 r d) = I.sgP p g r d := by
  rw [mix_at]
  subst ho
  rw [hdt, ld_bias g j bb hj, hB]
  unfold In.sgP
  refine congrArg (fun z => _ * (z + _)) (Finset.sum_congr rfl fun l _ => ?_)
  rw [hn, ld_head g j Wb hj, hW]

include hds hn ho in
theorem outer_of (Y : Vec Ideal S1x128x128 .f32) (hs : S128x1536.Slices ![0, o] S128x128) (r d : Fin 128) :
    shapeCast S1x128x128 (addf (shapeCast S128x128 Y shapeCasts_S1x128x128_S128x128)
      (matmul dot_S128x128_S128x128_S128x128_1_1_0_0_n_n none (extractStridedSlice S128x128 ![0, o] ds hs) (extractStridedSlice S128x128 ![0, o] vn hs)
        (constant (F := Ideal) S128x128 .f32 0x00000000#32))) shapeCasts_S128x128_S1x128x128 (ix3 (0 : Fin 1) r d)
      = (Y (ix3 (0 : Fin 1) r d) : EReal) + I.dw p g r d := by
  rw [outer_at]
  subst ho
  refine congrArg (_ + ·) (Finset.sum_congr rfl fun l _ => ?_)
  rw [hn, hds]

/-! ## The chunk after its heads -/

variable {D h : FVec Ideal S128x1536 .f32}
  (hD : ∀ (r : Fin 128) (x : Fin 1536), (D (ix2 r x) : EReal) = I.dn (p * 128 + r) x)
  (hh : ∀ (r : Fin 128) (x : Fin 1536), (h (ix2 r x) : EReal) = I.h (p * 128 + r) x)

include hD hh in
theorem gain_of (q : Vec Ideal S1x1536 .f32) (x : Fin 1536) :
    addf (shapeCast S1x1536 q shapeCasts_S1x1536_S1x1536) (shapeCast S1x1536 (multiReduction (F := Ideal) .add [0] S1536 (mulf D h) 0x00000000#32
      reduces_S128x1536_S1536 (.inl rfl) rfl) shapeCasts_S1536_S1x1536) (ix2 (0 : Fin 1) x) = (q (ix2 (0 : Fin 1) x) : EReal) + I.dg p x := by
  pointwise
  simp only [hD, hh]
  rfl

theorem norm_of {rr : FVec Ideal S128x1 .f32} (hr : ∀ r : Fin 128, (rr (ix2 r 0) : EReal) = I.r (p * 128 + r))
    (hh : ∀ (r : Fin 128) (x : Fin 1536), (h (ix2 r x) : EReal) = I.h (p * 128 + r) x) {y yh : FVec Ideal S128x1536 .f32}
    (hy : ∀ (r : Fin 128) (x : Fin 1536), (y (ix2 r x) : EReal) = I.gy (p * 128 + r) x)
    (hyh : ∀ (r : Fin 128) (x : Fin 1536), (yh (ix2 r x) : EReal) = I.gy (p * 128 + r) x * I.h (p * 128 + r) x) (r : Fin 128) (x : Fin 1536) :
    k0_pay150 (F := Ideal) rr h y yh (ix2 r x) = I.dv (p * 128 + r) x := by
  pointwise [k0_pay150]
  simp only [hr, hh, hy, hyh]
  rfl

theorem gy_of {gg : Vec Ideal S1x1536 .f32} (hg : ∀ x : Fin 1536, (gg (ix2 0 x) : EReal) = I.g x)
    (hD : ∀ (r : Fin 128) (x : Fin 1536), (D (ix2 r x) : EReal) = I.dn (p * 128 + r) x) (r : Fin 128) (x : Fin 1536) :
    mulf D (broadcastTo S128x1536 (shapeCast S1x1536 gg shapeCasts_S1x1536_S1x1536) broadcasts_S1x1536_S128x1536) (ix2 r x) = I.gy (p * 128 + r) x := by
  pointwise
  rw [hD, hg]
  rfl

theorem dz_of {zz : Vec Ideal S128x3072 .f32} (hz : ∀ (r : Fin 128) (c : Fin 3072), (zz (ix2 r c) : EReal) = I.z (p * 128 + r) c)
    (A : FVec Ideal S128x3072 .f32) (r : Fin 128) (c : Fin 3072) :
    k0_pay83 (F := Ideal) zz A (k0_pay82 zz) (ix2 r c) = (A (ix2 r c) : EReal) * dgel (I.z (p * 128 + r) c) := by
  pointwise [k0_pay83, k0_pay82]
  rw [hz]
  rfl

section
variable {P0 P1 P2 P3 P4 P5 P6 P7 P8 P9 P10 P11 : FVec Ideal S128x128 .f32}

theorem dn_of (hP : ∀ (g : Fin 12) (r d : Fin 128), (![P0, P1, P2, P3, P4, P5, P6, P7, P8, P9, P10, P11] g) (ix2 r d) = I.dnP p g r d)
    (r : Fin 128) (x : Fin 1536) :
    concatenate S128x1536 1 [⟨S128x128, P0⟩, ⟨S128x128, P1⟩, ⟨S128x128, P2⟩, ⟨S128x128, P3⟩, ⟨S128x128, P4⟩, ⟨S128x128, P5⟩, ⟨S128x128, P6⟩,
      ⟨S128x128, P7⟩, ⟨S128x128, P8⟩, ⟨S128x128, P9⟩, ⟨S128x128, P10⟩, ⟨S128x128, P11⟩] concatenates_S128x128_S128x128_S128x128_S128x128_S128x128_S128x128_S128x128_S128x128_S128x128_S128x128_S128x128_S128x128_S128x1536_d1
      (ix2 r x) = I.dn (p * 128 + r) x :=
  (heads r (fun g r d => I.dnP p g r d) (fun g r d => hP g r d) _ x.val x.isLt).trans (dnP_eq I p r x)

theorem da_of (hP : ∀ (g : Fin 12) (r d : Fin 128), (![P0, P1, P2, P3, P4, P5, P6, P7, P8, P9, P10, P11] g) (ix2 r d) = I.sgP p g r d)
    {Q : FVec Ideal S128x1536 .f32} (hQ : ∀ (r : Fin 128) (x : Fin 1536), (Q (ix2 r x) : EReal) = I.dv (p * 128 + r) x)
    (r : Fin 128) (c : Fin 3072) :
    concatenate S128x3072 1 [⟨S128x128, P0⟩, ⟨S128x128, P1⟩, ⟨S128x128, P2⟩, ⟨S128x128, P3⟩, ⟨S128x128, P4⟩, ⟨S128x128, P5⟩, ⟨S128x128, P6⟩,
      ⟨S128x128, P7⟩, ⟨S128x128, P8⟩, ⟨S128x128, P9⟩, ⟨S128x128, P10⟩, ⟨S128x128, P11⟩, ⟨S128x1536, Q⟩]
      concatenates_S128x128_S128x128_S128x128_S128x128_S128x128_S128x128_S128x128_S128x128_S128x128_S128x128_S128x128_S128x128_S128x1536_S128x3072_d1 (ix2 r c) = I.da (p * 128 + r) c := by
  refine (heads_rest r Q (fun g r d => I.sgP p g r d) (fun g r d => hP g r d) (fun x => I.dv (p * 128 + r) x) (fun d => hQ r d) _ c).trans ?_
  unfold In.da
  rw [sgP_eq]
end

end Cert.GmlpProof
-- ==== Proof.GmlpBlock.lean ====
/- The spatial gate's gradients: the blocks of a grid point, as the two chunks they hold. -/
module

public import proofs.«01_k».proof.Defs
public import proofs.«01_k».proof.Proof.Gen.GmlpIdeal.Value
public import proofs.«01_k».proof.Proof.GmlpHeads

@[expose] public section

set_option maxRecDepth 16384

noncomputable section

namespace Cert.GmlpProof

open Idealize.ShloMosaic Idealize.ShloMosaic.TcCoe Idealize.SL.Sem
open Cert.Lift
open Cert.GmlpIdeal Cert.GmlpIdeal.Gen

variable (m : (ℓ : Loc nD τ sig) → Buf (Elt Ideal) ℓ) (c : Dev nD) (t : Fin cfg0.N)

theorem idx : ∀ t : Fin cfg0.N, win0_0.index t = ![t.val, 0] ∧ win0_1.index t = ![0, 0] ∧ win0_2.index t = ![0, 0, 0]
    ∧ win0_3.index t = ![0, 0] ∧ win0_4.index t = ![t.val, 0] ∧ win0_5.index t = ![t.val, 0] ∧ win0_6.index t = ![0, 0, 0]
    ∧ win0_7.index t = ![0, 0] ∧ win0_8.index t = ![0, 0] :=
  (by decide +kernel : ∀ t : Fin grid0.N, _)

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)

abbrev args : In := inOf (A0 m c) (A1 m c) (A2 m c) (A3 m c) (A4 m c)

theorem blk0 (r : Fin 256) (d : Fin 3072) : (X0_0 m c t (ix2 r d) : EReal) = (args m c).z (t.val * 256 + r) d := by
  have hN := lt_of_lt_of_eq t.isLt N_0
  rw [inOf_z _ _ _ _ _ _ _ (by omega) (by omega)]
  unfold X0_0 Pipeline.Window.fill
  rw [dif_pos (moved0_0 t _)]
  blk_ext [iblk, V, idx t]

theorem blk4 (r : Fin 256) (d : Fin 1536) : (X0_4 m c t (ix2 r d) : EReal) = (args m c).dt (t.val * 256 + r) d := by
  have hN := lt_of_lt_of_eq t.isLt N_0
  rw [inOf_dt _ _ _ _ _ _ _ (by omega) (by omega)]
  unfold X0_4 Pipeline.Window.fill
  rw [dif_pos (moved0_4 t _)]
  blk_ext [iblk, V, idx t]

theorem blk2 (h : Fin 12) (a b : Fin 128) : ((iblk m c 2 t : Vec Ideal S12x128x128 .f32) (ix3 h a b) : EReal) = (args m c).w h a b := by
  rw [inOf_w _ _ _ _ _ _ _ _ h.isLt a.isLt b.isLt]
  blk_ext [iblk, V, idx t]

theorem gain_row (d : Fin 1536) : (V m c main_v0 : Vec Ideal S1x1536 .f32) (ix2 0 d) = A1 m c (ix1 d) := by
  entry_read
  pointwise
theorem bias_col (a : Fin 128) (h : Fin 12) : (V m c main_v1 : Vec Ideal S128x12 .f32) (ix2 a h) = A3 m c (ix2 h a) := by
  entry_read
  pointwise

theorem blk1 (d : Fin 1536) : ((iblk m c 1 t : Vec Ideal S1x1536 .f32) (ix2 0 d) : EReal) = (args m c).g d := by
  rw [inOf_g _ _ _ _ _ _ d.isLt]
  refine Eq.trans ?_ (gain_row m c d)
  blk_ext [iblk, idx t]
theorem blk3 (a : Fin 128) (h : Fin 12) : ((iblk m c 3 t : Vec Ideal S128x12 .f32) (ix2 a h) : EReal) = (args m c).b a h := by
  rw [inOf_b _ _ _ _ _ _ _ h.isLt a.isLt]
  refine Eq.trans ?_ (bias_col m c a h)
  blk_ext [iblk, idx t]

/-! ## The two chunks -/

def z0 : Vec Ideal S128x3072 .f32 := View.ld (X0_0 m c t) (Rect.unit (s := S256x3072) ![0, 0] S128x3072.size inb_S256x3072_S128x3072_0_0)
def z1 : Vec Ideal S128x3072 .f32 := View.ld (X0_0 m c t) (Rect.unit (s := S256x3072) ![128, 0] S128x3072.size inb_S256x3072_S128x3072_128_0)
def d0 : Vec Ideal S128x1536 .bf16 := View.ld (X0_4 m c t) (Rect.unit (s := S256x1536) ![0, 0] S128x1536.size inb_S256x1536_S128x1536_0_0)
def d1 : Vec Ideal S128x1536 .bf16 := View.ld (X0_4 m c t) (Rect.unit (s := S256x1536) ![128, 0] S128x1536.size inb_S256x1536_S128x1536_128_0)

theorem chunk0 : Chunk (args m c) (2 * t.val) (z0 m c t) (iblk m c 1 t) (d0 m c t) where
  z r n := by
    refine (View.ld_unit_apply_of _ _ _ _ _ (ix2 (⟨r.val, by omega⟩ : Fin 256) n) fun a => ?_).trans ?_
    · fin_cases a <;> simp
    · rw [blk0]
      exact congrArg (fun s => (args m c).z s n) (by show t.val * 256 + r.val = 2 * t.val * 128 + r.val; omega)
  g n := blk1 m c t n
  dt r n := by
    refine (View.ld_unit_apply_of _ _ _ _ _ (ix2 (⟨r.val, by omega⟩ : Fin 256) n) fun a => ?_).trans ?_
    · fin_cases a <;> simp
    · rw [blk4]
      exact congrArg (fun s => (args m c).dt s n) (by show t.val * 256 + r.val = 2 * t.val * 128 + r.val; omega)

theorem chunk1 : Chunk (args m c) (2 * t.val + 1) (z1 m c t) (iblk m c 1 t) (d1 m c t) where
  z r n := by
    refine (View.ld_unit_apply_of _ _ _ _ _ (ix2 (⟨128 + r.val, by omega⟩ : Fin 256) n) fun a => ?_).trans ?_
    · fin_cases a <;> simp
    · rw [blk0]
      exact congrArg (fun s => (args m c).z s n) (by show t.val * 256 + (128 + r.val) = (2 * t.val + 1) * 128 + r.val; omega)
  g n := blk1 m c t n
  dt r n := by
    refine (View.ld_unit_apply_of _ _ _ _ _ (ix2 (⟨128 + r.val, by omega⟩ : Fin 256) n) fun a => ?_).trans ?_
    · fin_cases a <;> simp
    · rw [blk4]
      exact congrArg (fun s => (args m c).dt s n) (by show t.val * 256 + (128 + r.val) = (2 * t.val + 1) * 128 + r.val; omega)

end Cert.GmlpProof
-- ==== Proof.GmlpTile.lean ====
/- The spatial gate's gradients: what a grid point leaves in each result. -/
module

public import proofs.«01_k».proof.Defs
public import proofs.«01_k».proof.Proof.Gen.GmlpIdeal.Value
public import proofs.«01_k».proof.Proof.GmlpBlock
public import Idealize.ShloMosaic.Lib.Pipeline.ReadBack

@[expose] public section

set_option maxRecDepth 16384

noncomputable section

namespace Cert.GmlpProof

open Idealize.ShloMosaic Idealize.ShloMosaic.TcCoe Idealize.SL.Sem
open Cert.Lift
open Cert.GmlpIdeal Cert.GmlpIdeal.Gen

/-! ## The second chunk's values -/

section
variable {I : In} {p : ℕ} {zz : FVec Ideal S128x3072 .f32} {gg : FVec Ideal S1x1536 .f32} {dd : FVec Ideal S128x1536 .bf16}
  (H : Chunk I p zz gg dd) (r : Fin 128) (x : Fin 1536)
include H

theorem r2_at : k0_pay87 (F := Ideal) zz (ix2 r 0) = I.r (p * 128 + r) := r_at r H
theorem h2_at : k0_pay88 (F := Ideal) zz (ix2 r x) = I.h (p * 128 + r) x := h_at r H x
theorem n2_at : k0_pay89 (F := Ideal) zz gg (ix2 r x) = I.n (p * 128 + r) x := n_at r H x
theorem ds2_at : k0_pay93 (F := Ideal) (k0_pay85 zz) dd (ix2 r x) = I.ds (p * 128 + r) x := dsb_at r H x
theorem dt_at : k0_pay21 (F := Ideal) dd (ix2 r x) = I.dt (p * 128 + r) x := H.dt r x
theorem dt2_at : k0_pay90 (F := Ideal) dd (ix2 r x) = I.dt (p * 128 + r) x := H.dt r x
theorem acc_at (q : FVec Ideal S128x1536 .f32) : k0_pay23 (F := Ideal) zz dd q (ix2 r x) = (q (ix2 r x) : EReal) + I.ds (p * 128 + r) x := by
  pointwise [k0_pay23]
  rw [ds_at r H x]
theorem acc2_at (q : FVec Ideal S128x1536 .f32) : k0_pay92 (F := Ideal) (k0_pay85 zz) dd q (ix2 r x) = (q (ix2 r x) : EReal) + I.ds (p * 128 + r) x :=
  acc_at H r x q
end

/-! ## The matrices' gradient, head by head -/

theorem piece_w (g : Fin 12) (j : ℕ) (hj : j = g.val) (hi) (X : Vec Ideal S1x128x128 .f32) (G : Vec Ideal S12x128x128 .f32)
    (hX : ∀ a b : Fin 128, X (ix3 (0 : Fin 1) a b) = G (ix3 g a b)) (x : (Rect.unit (s := S12x128x128) ![j, 0, 0] S1x128x128.size hi).shape.Idx) :
    X x = G ((Rect.unit (s := S12x128x128) ![j, 0, 0] S1x128x128.size hi).emb x) := by
  obtain ⟨a, b, rfl⟩ : ∃ a b : Fin 128, x = ix3 (0 : Fin 1) a b :=
    ⟨x 1, x 2, by funext k; fin_cases k <;> first | rfl | exact Subsingleton.elim (α := Fin 1) _ _⟩
  rw [hX]
  refine congrArg G (funext fun k => Fin.ext ?_)
  refine Eq.trans ?_ (Rect.idx_unit_val (s := S12x128x128) ![j, 0, 0] S1x128x128.size hi (ix3 (0 : Fin 1) a b) k).symm
  fin_cases k
  · show g.val = j + 0
    omega
  · show a.val = 0 + a.val
    omega
  · show b.val = 0 + b.val
    omega

theorem canon_w {X0 X1 X2 X3 X4 X5 X6 X7 X8 X9 X10 X11 : Vec Ideal S1x128x128 .f32} (G : Vec Ideal S12x128x128 .f32)
    (h : ∀ (g : Fin 12) (a b : Fin 128), (![X0, X1, X2, X3, X4, X5, X6, X7, X8, X9, X10, X11] g) (ix3 (0 : Fin 1) a b) = G (ix3 g a b))
    (L' : List (View.Piece (Elt Ideal) S12x128x128 .f32)) :
    View.canon ([
      ⟨Rect.unit ![11, 0, 0] S1x128x128.size inb_S12x128x128_S1x128x128_11_0_0, X11⟩,
      ⟨Rect.unit ![10, 0, 0] S1x128x128.size inb_S12x128x128_S1x128x128_10_0_0, X10⟩,
      ⟨Rect.unit ![9, 0, 0] S1x128x128.size inb_S12x128x128_S1x128x128_9_0_0, X9⟩,
      ⟨Rect.unit ![8, 0, 0] S1x128x128.size inb_S12x128x128_S1x128x128_8_0_0, X8⟩,
      ⟨Rect.unit ![7, 0, 0] S1x128x128.size inb_S12x128x128_S1x128x128_7_0_0, X7⟩,
      ⟨Rect.unit ![6, 0, 0] S1x128x128.size inb_S12x128x128_S1x128x128_6_0_0, X6⟩,
      ⟨Rect.unit ![5, 0, 0] S1x128x128.size inb_S12x128x128_S1x128x128_5_0_0, X5⟩,
      ⟨Rect.unit ![4, 0, 0] S1x128x128.size inb_S12x128x128_S1x128x128_4_0_0, X4⟩,
      ⟨Rect.unit ![3, 0, 0] S1x128x128.size inb_S12x128x128_S1x128x128_3_0_0, X3⟩,
      ⟨Rect.unit ![2, 0, 0] S1x128x128.size inb_S12x128x128_S1x128x128_2_0_0, X2⟩,
      ⟨Rect.unit ![1, 0, 0] S1x128x128.size inb_S12x128x128_S1x128x128_1_0_0, X1⟩,
      ⟨Rect.unit ![0, 0, 0] S1x128x128.size inb_S12x128x128_S1x128x128_0_0_0, X0⟩] ++ L') = G := by
  funext y
  refine View.canon_append_of_piecesOf G _ _ ?_ y (View.cover_of_tiledBy _ ![1, 128, 128] (by sl_kernel_rfl) y)
  exact ⟨piece_w 11 11 rfl inb_S12x128x128_S1x128x128_11_0_0 _ G (h 11), piece_w 10 10 rfl inb_S12x128x128_S1x128x128_10_0_0 _ G (h 10), piece_w 9 9 rfl inb_S12x128x128_S1x128x128_9_0_0 _ G (h 9), piece_w 8 8 rfl inb_S12x128x128_S1x128x128_8_0_0 _ G (h 8), piece_w 7 7 rfl inb_S12x128x128_S1x128x128_7_0_0 _ G (h 7), piece_w 6 6 rfl inb_S12x128x128_S1x128x128_6_0_0 _ G (h 6), piece_w 5 5 rfl inb_S12x128x128_S1x128x128_5_0_0 _ G (h 5), piece_w 4 4 rfl inb_S12x128x128_S1x128x128_4_0_0 _ G (h 4), piece_w 3 3 rfl inb_S12x128x128_S1x128x128_3_0_0 _ G (h 3), piece_w 2 2 rfl inb_S12x128x128_S1x128x128_2_0_0 _ G (h 2), piece_w 1 1 rfl inb_S12x128x128_S1x128x128_1_0_0 _ G (h 1), piece_w 0 0 rfl inb_S12x128x128_S1x128x128_0_0_0 _ G (h 0), trivial⟩

/-! ## The grid points -/

variable (m : (ℓ : Loc nD τ sig) → Buf (Elt Ideal) ℓ) (c : Dev nD) (t : Fin cfg0.N)

theorem dw_first (h0 : t.val % 16 = 0) (g : Fin 12) (a b : Fin 128) :
    (outsAt0 m c t.val t.isLt).2.1 (ix3 g a b) = k0_pay13 (F := Ideal) (ix3 g a b) + (args m c).dw (2 * t.val) g a b + (args m c).dw (2 * t.val + 1) g a b := by
  rw [outsAt0_A m c t h0 (by omega)]
  frame_open
  simp (disch := decide) only [↓ View.readCov_skip, ↓ View.readCov_cons_toLoadRect, ↓ View.readCov_fill]
  frame_out
  try simp only [read_unread_whole]
  refine congrFun (canon_w (fun i => k0_pay13 (F := Ideal) i + (args m c).dw (2 * t.val) (i 0).val (i 1).val (i 2).val
    + (args m c).dw (2 * t.val + 1) (i 0).val (i 1).val (i 2).val) ?_ _) (ix3 g a b)
  intro g a b
  fin_cases g <;> exact (outer_of (ds2_at (chunk1 m c t)) (n2_at (chunk1 m c t)) _ _ (by rfl) _ (by decide) a b).trans (congrArg (· + _)
    ((outer_of (dsb_at (H := chunk0 m c t)) (n_at (H := chunk0 m c t)) _ _ (by rfl) _ (by decide) a b).trans (congrArg (· + _)
      (ld_head _ _ _ (by rfl) (by decide) a b))))

theorem dw_next (h0 : ¬ t.val % 16 = 0) (ht : t.val - 1 < cfg0.N) (g : Fin 12) (a b : Fin 128) :
    (outsAt0 m c t.val t.isLt).2.1 (ix3 g a b) = (outsAt0 m c (t.val - 1) ht).2.1 (ix3 g a b) + (args m c).dw (2 * t.val) g a b + (args m c).dw (2 * t.val + 1) g a b := by
  by_cases h1 : t.val % 16 = 15
  · rw [outsAt0_C m c t h0 h1]
    frame_open
    simp (disch := decide) only [↓ View.readCov_skip, ↓ View.readCov_cons_toLoadRect, ↓ View.readCov_fill]
    frame_out
    try simp only [read_unread_whole]
    refine congrFun (canon_w (fun i => (outsAt0 m c (t.val - 1) ht).2.1 i + (args m c).dw (2 * t.val) (i 0).val (i 1).val (i 2).val
      + (args m c).dw (2 * t.val + 1) (i 0).val (i 1).val (i 2).val) ?_ _) (ix3 g a b)
    intro g a b
    fin_cases g <;> exact (outer_of (ds2_at (chunk1 m c t)) (n2_at (chunk1 m c t)) _ _ (by rfl) _ (by decide) a b).trans (congrArg (· + _)
      ((outer_of (dsb_at (H := chunk0 m c t)) (n_at (H := chunk0 m c t)) _ _ (by rfl) _ (by decide) a b).trans (congrArg (· + _)
        (ld_head _ _ _ (by rfl) (by decide) a b))))
  · rw [outsAt0_B m c t h0 h1]
    frame_open
    simp (disch := decide) only [↓ View.readCov_skip, ↓ View.readCov_cons_toLoadRect, ↓ View.readCov_fill]
    frame_out
    try simp only [read_unread_whole]
    refine congrFun (canon_w (fun i => (outsAt0 m c (t.val - 1) ht).2.1 i + (args m c).dw (2 * t.val) (i 0).val (i 1).val (i 2).val
      + (args m c).dw (2 * t.val + 1) (i 0).val (i 1).val (i 2).val) ?_ _) (ix3 g a b)
    intro g a b
    fin_cases g <;> exact (outer_of (ds2_at (chunk1 m c t)) (n2_at (chunk1 m c t)) _ _ (by rfl) _ (by decide) a b).trans (congrArg (· + _)
      ((outer_of (dsb_at (H := chunk0 m c t)) (n_at (H := chunk0 m c t)) _ _ (by rfl) _ (by decide) a b).trans (congrArg (· + _)
        (ld_head _ _ _ (by rfl) (by decide) a b))))

theorem acc_first (h0 : t.val % 16 = 0) (r : Fin 128) (x : Fin 1536) :
    (outsAt0 m c t.val t.isLt).2.2.2.2 (ix2 r x) = k0_pay15 (F := Ideal) (ix2 r x) + (args m c).ds (2 * t.val * 128 + r) x + (args m c).ds ((2 * t.val + 1) * 128 + r) x := by
  rw [outsAt0_A m c t h0 (by omega)]
  frame_open
  simp (disch := decide) only [↓ View.readCov_skip, ↓ View.readCov_cons_toLoadRect, ↓ View.readCov_fill]
  frame_out
  try simp only [read_unread_whole]
  exact (acc2_at (chunk1 m c t) r x _).trans (congrArg (· + _) (acc_at (chunk0 m c t) r x _))

theorem acc_next (h0 : ¬ t.val % 16 = 0) (ht : t.val - 1 < cfg0.N) (r : Fin 128) (x : Fin 1536) :
    (outsAt0 m c t.val t.isLt).2.2.2.2 (ix2 r x) = (outsAt0 m c (t.val - 1) ht).2.2.2.2 (ix2 r x) + (args m c).ds (2 * t.val * 128 + r) x + (args m c).ds ((2 * t.val + 1) * 128 + r) x := by
  by_cases h1 : t.val % 16 = 15
  · rw [outsAt0_C m c t h0 h1]
    frame_open
    simp (disch := decide) only [↓ View.readCov_skip, ↓ View.readCov_cons_toLoadRect, ↓ View.readCov_fill]
    frame_out
    try simp only [read_unread_whole]
    exact (acc2_at (chunk1 m c t) r x _).trans (congrArg (· + _) (acc_at (chunk0 m c t) r x _))
  · rw [outsAt0_B m c t h0 h1]
    frame_open
    simp (disch := decide) only [↓ View.readCov_skip, ↓ View.readCov_cons_toLoadRect, ↓ View.readCov_fill]
    frame_out
    try simp only [read_unread_whole]
    exact (acc2_at (chunk1 m c t) r x _).trans (congrArg (· + _) (acc_at (chunk0 m c t) r x _))

theorem dg_first (h0 : t.val % 16 = 0) (x : Fin 1536) :
    (outsAt0 m c t.val t.isLt).2.2.2.1 (ix2 0 x) = k0_pay14 (F := Ideal) (ix2 0 x) + (args m c).dg (2 * t.val) x + (args m c).dg (2 * t.val + 1) x := by
  rw [outsAt0_A m c t h0 (by omega)]
  frame_open
  simp (disch := decide) only [↓ View.readCov_skip, ↓ View.readCov_cons_toLoadRect, ↓ View.readCov_fill]
  frame_out
  try simp only [read_unread_whole]
  refine (gain_of (dn_of ?_) (h2_at (chunk1 m c t)) _ x).trans (congrArg (· + _) (gain_of (dn_of ?_) (h_at (H := chunk0 m c t)) _ x))
  · intro g r d
    fin_cases g <;> exact back_of (blk2 m c t) (ds2_at (chunk1 m c t)) _ _ _ (by rfl) (by rfl) (by decide) (by decide) r d
  · intro g r d
    fin_cases g <;> exact back_of (blk2 m c t) (dsb_at (H := chunk0 m c t)) _ _ _ (by rfl) (by rfl) (by decide) (by decide) r d

theorem dg_next (h0 : ¬ t.val % 16 = 0) (ht : t.val - 1 < cfg0.N) (x : Fin 1536) :
    (outsAt0 m c t.val t.isLt).2.2.2.1 (ix2 0 x) = (outsAt0 m c (t.val - 1) ht).2.2.2.1 (ix2 0 x) + (args m c).dg (2 * t.val) x + (args m c).dg (2 * t.val + 1) x := by
  by_cases h1 : t.val % 16 = 15
  · rw [outsAt0_C m c t h0 h1]
    frame_open
    simp (disch := decide) only [↓ View.readCov_skip, ↓ View.readCov_cons_toLoadRect, ↓ View.readCov_fill]
    frame_out
    try simp only [read_unread_whole]
    refine (gain_of (dn_of ?_) (h2_at (chunk1 m c t)) _ x).trans (congrArg (· + _) (gain_of (dn_of ?_) (h_at (H := chunk0 m c t)) _ x))
    · intro g r d
      fin_cases g <;> exact back_of (blk2 m c t) (ds2_at (chunk1 m c t)) _ _ _ (by rfl) (by rfl) (by decide) (by decide) r d
    · intro g r d
      fin_cases g <;> exact back_of (blk2 m c t) (dsb_at (H := chunk0 m c t)) _ _ _ (by rfl) (by rfl) (by decide) (by decide) r d
  · rw [outsAt0_B m c t h0 h1]
    frame_open
    simp (disch := decide) only [↓ View.readCov_skip, ↓ View.readCov_cons_toLoadRect, ↓ View.readCov_fill]
    frame_out
    try simp only [read_unread_whole]
    refine (gain_of (dn_of ?_) (h2_at (chunk1 m c t)) _ x).trans (congrArg (· + _) (gain_of (dn_of ?_) (h_at (H := chunk0 m c t)) _ x))
    · intro g r d
      fin_cases g <;> exact back_of (blk2 m c t) (ds2_at (chunk1 m c t)) _ _ _ (by rfl) (by rfl) (by decide) (by decide) r d
    · intro g r d
      fin_cases g <;> exact back_of (blk2 m c t) (dsb_at (H := chunk0 m c t)) _ _ _ (by rfl) (by rfl) (by decide) (by decide) r d

end Cert.GmlpProof
-- ==== Proof.GmlpOut.lean ====
/- The spatial gate's gradients: the rows of the values' gradient and the biases' gradient at a grid point. -/
module

public import proofs.«01_k».proof.Defs
public import proofs.«01_k».proof.Proof.Gen.GmlpIdeal.Value
public import proofs.«01_k».proof.Proof.GmlpTile
public import Idealize.ShloMosaic.Lib.Pipeline.ReadBack

@[expose] public section

set_option maxRecDepth 16384

noncomputable section

namespace Cert.GmlpProof

open Idealize.ShloMosaic Idealize.ShloMosaic.TcCoe Idealize.SL.Sem
open Cert.Lift
open Cert.GmlpIdeal Cert.GmlpIdeal.Gen

theorem gyh_of {I : In} {p : ℕ} {y h : FVec Ideal S128x1536 .f32} (hy : ∀ (r : Fin 128) (x : Fin 1536), (y (ix2 r x) : EReal) = I.gy (p * 128 + r) x)
    (hh : ∀ (r : Fin 128) (x : Fin 1536), (h (ix2 r x) : EReal) = I.h (p * 128 + r) x) (r : Fin 128) (x : Fin 1536) :
    mulf y h (ix2 r x) = I.gy (p * 128 + r) x * I.h (p * 128 + r) x := by
  pointwise
  rw [hy, hh]

theorem row_dz (I : In) {a b x n : ℕ} (ha : a = b) (hx : x = n) : I.da a x * dgel (I.z a x) = I.dz b n := by
  subst ha hx
  rfl

variable (m : (ℓ : Loc nD τ sig) → Buf (Elt Ideal) ℓ) (c : Dev nD) (t : Fin cfg0.N)

theorem dz_at (y : Fin 256) (n : Fin 3072) : (outsAt0 m c t.val t.isLt).1 (ix2 y n) = (args m c).dz (t.val * 256 + y) n := by
  by_cases h0 : t.val % 16 = 0
  · rw [outsAt0_A m c t h0 (by omega)]
    frame_open
    simp (disch := decide) only [↓ View.readCov_skip, ↓ View.readCov_cons_toLoadRect, ↓ View.readCov_fill]
    frame_out
    try simp only [read_unread_whole]
    canon_tiles x h using View.cover_of_tiledBy _ ![128, 3072] (by sl_kernel_rfl) (ix2 y n)
    all_goals idx_vars x
    · refine (dz_of (chunk1 m c t).z _ x0 x1).trans ((congrArg (· * _) (da_of ?_ (norm_of (r2_at (chunk1 m c t)) (h2_at (chunk1 m c t))
        (gy_of (chunk1 m c t).g (dn_of ?_)) (gyh_of (gy_of (chunk1 m c t).g (dn_of ?_)) (h2_at (chunk1 m c t)))) x0 x1)).trans
        (row_dz _ (by omega) (by omega)))
      · intro g r d
        fin_cases g <;> exact mix_of (blk2 m c t) (blk3 m c t) (n2_at (chunk1 m c t)) (dt2_at (chunk1 m c t)) _ _ _ (by rfl) (by rfl) (by decide) (by decide) (by decide) r d
      all_goals
        intro g r d
        fin_cases g <;> exact back_of (blk2 m c t) (ds2_at (chunk1 m c t)) _ _ _ (by rfl) (by rfl) (by decide) (by decide) r d
    · refine (dz_of (chunk0 m c t).z _ x0 x1).trans ((congrArg (· * _) (da_of ?_ (norm_of (r_at (H := chunk0 m c t)) (h_at (H := chunk0 m c t))
        (gy_of (chunk0 m c t).g (dn_of ?_)) (gyh_of (gy_of (chunk0 m c t).g (dn_of ?_)) (h_at (H := chunk0 m c t)))) x0 x1)).trans
        (row_dz _ (by omega) (by omega)))
      · intro g r d
        fin_cases g <;> exact mix_of (blk2 m c t) (blk3 m c t) (n_at (H := chunk0 m c t)) (dt_at (chunk0 m c t)) _ _ _ (by rfl) (by rfl) (by decide) (by decide) (by decide) r d
      all_goals
        intro g r d
        fin_cases g <;> exact back_of (blk2 m c t) (dsb_at (H := chunk0 m c t)) _ _ _ (by rfl) (by rfl) (by decide) (by decide) r d
  · by_cases h1 : t.val % 16 = 15
    · rw [outsAt0_C m c t h0 h1]
      frame_open
      simp (disch := decide) only [↓ View.readCov_skip, ↓ View.readCov_cons_toLoadRect, ↓ View.readCov_fill]
      frame_out
      try simp only [read_unread_whole]
      canon_tiles x h using View.cover_of_tiledBy _ ![128, 3072] (by sl_kernel_rfl) (ix2 y n)
      all_goals idx_vars x
      · refine (dz_of (chunk1 m c t).z _ x0 x1).trans ((congrArg (· * _) (da_of ?_ (norm_of (r2_at (chunk1 m c t)) (h2_at (chunk1 m c t))
          (gy_of (chunk1 m c t).g (dn_of ?_)) (gyh_of (gy_of (chunk1 m c t).g (dn_of ?_)) (h2_at (chunk1 m c t)))) x0 x1)).trans
          (row_dz _ (by omega) (by omega)))
        · intro g r d
          fin_cases g <;> exact mix_of (blk2 m c t) (blk3 m c t) (n2_at (chunk1 m c t)) (dt2_at (chunk1 m c t)) _ _ _ (by rfl) (by rfl) (by decide) (by decide) (by decide) r d
        all_goals
          intro g r d
          fin_cases g <;> exact back_of (blk2 m c t) (ds2_at (chunk1 m c t)) _ _ _ (by rfl) (by rfl) (by decide) (by decide) r d
      · refine (dz_of (chunk0 m c t).z _ x0 x1).trans ((congrArg (· * _) (da_of ?_ (norm_of (r_at (H := chunk0 m c t)) (h_at (H := chunk0 m c t))
          (gy_of (chunk0 m c t).g (dn_of ?_)) (gyh_of (gy_of (chunk0 m c t).g (dn_of ?_)) (h_at (H := chunk0 m c t)))) x0 x1)).trans
          (row_dz _ (by omega) (by omega)))
        · intro g r d
          fin_cases g <;> exact mix_of (blk2 m c t) (blk3 m c t) (n_at (H := chunk0 m c t)) (dt_at (chunk0 m c t)) _ _ _ (by rfl) (by rfl) (by decide) (by decide) (by decide) r d
        all_goals
          intro g r d
          fin_cases g <;> exact back_of (blk2 m c t) (dsb_at (H := chunk0 m c t)) _ _ _ (by rfl) (by rfl) (by decide) (by decide) r d
    · rw [outsAt0_B m c t h0 h1]
      frame_open
      simp (disch := decide) only [↓ View.readCov_skip, ↓ View.readCov_cons_toLoadRect, ↓ View.readCov_fill]
      frame_out
      try simp only [read_unread_whole]
      canon_tiles x h using View.cover_of_tiledBy _ ![128, 3072] (by sl_kernel_rfl) (ix2 y n)
      all_goals idx_vars x
      · refine (dz_of (chunk1 m c t).z _ x0 x1).trans ((congrArg (· * _) (da_of ?_ (norm_of (r2_at (chunk1 m c t)) (h2_at (chunk1 m c t))
          (gy_of (chunk1 m c t).g (dn_of ?_)) (gyh_of (gy_of (chunk1 m c t).g (dn_of ?_)) (h2_at (chunk1 m c t)))) x0 x1)).trans
          (row_dz _ (by omega) (by omega)))
        · intro g r d
          fin_cases g <;> exact mix_of (blk2 m c t) (blk3 m c t) (n2_at (chunk1 m c t)) (dt2_at (chunk1 m c t)) _ _ _ (by rfl) (by rfl) (by decide) (by decide) (by decide) r d
        all_goals
          intro g r d
          fin_cases g <;> exact back_of (blk2 m c t) (ds2_at (chunk1 m c t)) _ _ _ (by rfl) (by rfl) (by decide) (by decide) r d
      · refine (dz_of (chunk0 m c t).z _ x0 x1).trans ((congrArg (· * _) (da_of ?_ (norm_of (r_at (H := chunk0 m c t)) (h_at (H := chunk0 m c t))
          (gy_of (chunk0 m c t).g (dn_of ?_)) (gyh_of (gy_of (chunk0 m c t).g (dn_of ?_)) (h_at (H := chunk0 m c t)))) x0 x1)).trans
          (row_dz _ (by omega) (by omega)))
        · intro g r d
          fin_cases g <;> exact mix_of (blk2 m c t) (blk3 m c t) (n_at (H := chunk0 m c t)) (dt_at (chunk0 m c t)) _ _ _ (by rfl) (by rfl) (by decide) (by decide) (by decide) r d
        all_goals
          intro g r d
          fin_cases g <;> exact back_of (blk2 m c t) (dsb_at (H := chunk0 m c t)) _ _ _ (by rfl) (by rfl) (by decide) (by decide) r d

theorem col_of (A : Vec Ideal S128x1536 .f32) (g : Fin 12) (o : ℕ) (ho : o = g.val * 128) (hi) (a : Fin 128) :
    shapeCast S128x1 (multiReduction (F := Ideal) .add [1] S128 (View.ld A (Rect.unit (s := S128x1536) ![0, o] S128x128.size hi)) 0x00000000#32
      reduces_S128x128_S128 (.inl rfl) rfl) shapeCasts_S128_S128x1 (ix2 a (0 : Fin 1)) = ∑ l : Fin 128, (A (ix2 a ⟨g.val * 128 + l.val, by omega⟩) : EReal) := by
  generalize hB : View.ld A (Rect.unit (s := S128x1536) ![0, o] S128x128.size hi) = B
  have e : ∀ l : Fin 128, (B (ix2 a l) : EReal) = A (ix2 a ⟨g.val * 128 + l.val, by omega⟩) := fun l => by
    rw [← hB]
    refine View.ld_unit_apply_of A _ _ _ _ _ fun k => ?_
    fin_cases k
    · show a.val = 0 + a.val
      omega
    · show g.val * 128 + l.val = o + l.val
      omega
  clear hB
  pointwise
  simp only [e]

set_option maxHeartbeats 2000000 in
theorem db_at (h0 : ¬ t.val % 16 = 0) (h1 : t.val % 16 = 15) (ht : t.val - 1 < cfg0.N) (a : Fin 128) (g : Fin 12) : (outsAt0 m c t.val t.isLt).2.2.1 (ix2 a g)
    = ∑ l : Fin 128, (((outsAt0 m c (t.val - 1) ht).2.2.2.2 (ix2 a ⟨g.val * 128 + l.val, by omega⟩) : EReal)
      + (args m c).ds (2 * t.val * 128 + a) (g.val * 128 + l.val) + (args m c).ds ((2 * t.val + 1) * 128 + a) (g.val * 128 + l.val)) := by
  rw [outsAt0_C m c t h0 h1]
  frame_open
  simp (disch := decide) only [↓ View.readCov_skip, ↓ View.readCov_cons_toLoadRect, ↓ View.readCov_fill]
  frame_out
  try simp only [read_unread_whole]
  canon_tiles x h using View.cover_of_tiledBy _ ![128, 1] (by sl_kernel_rfl) (ix2 a g)
  · idx_vars x
    obtain rfl : x1 = (0 : Fin 1) := Subsingleton.elim (α := Fin 1) _ _
    obtain rfl : g = 11 := Fin.ext (by show g.val = 11; omega)
    obtain rfl : x0 = a := Fin.ext (by show x0.val = a.val; omega)
    exact (col_of _ 11 _ (by rfl) (by decide) x0).trans (Finset.sum_congr rfl fun l _ =>
      (acc2_at (chunk1 m c t) x0 _ _).trans (congrArg (· + _) (acc_at (chunk0 m c t) x0 _ _)))
  · idx_vars x
    obtain rfl : x1 = (0 : Fin 1) := Subsingleton.elim (α := Fin 1) _ _
    obtain rfl : g = 10 := Fin.ext (by show g.val = 10; omega)
    obtain rfl : x0 = a := Fin.ext (by show x0.val = a.val; omega)
    exact (col_of _ 10 _ (by rfl) (by decide) x0).trans (Finset.sum_congr rfl fun l _ =>
      (acc2_at (chunk1 m c t) x0 _ _).trans (congrArg (· + _) (acc_at (chunk0 m c t) x0 _ _)))
  · idx_vars x
    obtain rfl : x1 = (0 : Fin 1) := Subsingleton.elim (α := Fin 1) _ _
    obtain rfl : g = 9 := Fin.ext (by show g.val = 9; omega)
    obtain rfl : x0 = a := Fin.ext (by show x0.val = a.val; omega)
    exact (col_of _ 9 _ (by rfl) (by decide) x0).trans (Finset.sum_congr rfl fun l _ =>
      (acc2_at (chunk1 m c t) x0 _ _).trans (congrArg (· + _) (acc_at (chunk0 m c t) x0 _ _)))
  · idx_vars x
    obtain rfl : x1 = (0 : Fin 1) := Subsingleton.elim (α := Fin 1) _ _
    obtain rfl : g = 8 := Fin.ext (by show g.val = 8; omega)
    obtain rfl : x0 = a := Fin.ext (by show x0.val = a.val; omega)
    exact (col_of _ 8 _ (by rfl) (by decide) x0).trans (Finset.sum_congr rfl fun l _ =>
      (acc2_at (chunk1 m c t) x0 _ _).trans (congrArg (· + _) (acc_at (chunk0 m c t) x0 _ _)))
  · idx_vars x
    obtain rfl : x1 = (0 : Fin 1) := Subsingleton.elim (α := Fin 1) _ _
    obtain rfl : g = 7 := Fin.ext (by show g.val = 7; omega)
    obtain rfl : x0 = a := Fin.ext (by show x0.val = a.val; omega)
    exact (col_of _ 7 _ (by rfl) (by decide) x0).trans (Finset.sum_congr rfl fun l _ =>
      (acc2_at (chunk1 m c t) x0 _ _).trans (congrArg (· + _) (acc_at (chunk0 m c t) x0 _ _)))
  · idx_vars x
    obtain rfl : x1 = (0 : Fin 1) := Subsingleton.elim (α := Fin 1) _ _
    obtain rfl : g = 6 := Fin.ext (by show g.val = 6; omega)
    obtain rfl : x0 = a := Fin.ext (by show x0.val = a.val; omega)
    exact (col_of _ 6 _ (by rfl) (by decide) x0).trans (Finset.sum_congr rfl fun l _ =>
      (acc2_at (chunk1 m c t) x0 _ _).trans (congrArg (· + _) (acc_at (chunk0 m c t) x0 _ _)))
  · idx_vars x
    obtain rfl : x1 = (0 : Fin 1) := Subsingleton.elim (α := Fin 1) _ _
    obtain rfl : g = 5 := Fin.ext (by show g.val = 5; omega)
    obtain rfl : x0 = a := Fin.ext (by show x0.val = a.val; omega)
    exact (col_of _ 5 _ (by rfl) (by decide) x0).trans (Finset.sum_congr rfl fun l _ =>
      (acc2_at (chunk1 m c t) x0 _ _).trans (congrArg (· + _) (acc_at (chunk0 m c t) x0 _ _)))
  · idx_vars x
    obtain rfl : x1 = (0 : Fin 1) := Subsingleton.elim (α := Fin 1) _ _
    obtain rfl : g = 4 := Fin.ext (by show g.val = 4; omega)
    obtain rfl : x0 = a := Fin.ext (by show x0.val = a.val; omega)
    exact (col_of _ 4 _ (by rfl) (by decide) x0).trans (Finset.sum_congr rfl fun l _ =>
      (acc2_at (chunk1 m c t) x0 _ _).trans (congrArg (· + _) (acc_at (chunk0 m c t) x0 _ _)))
  · idx_vars x
    obtain rfl : x1 = (0 : Fin 1) := Subsingleton.elim (α := Fin 1) _ _
    obtain rfl : g = 3 := Fin.ext (by show g.val = 3; omega)
    obtain rfl : x0 = a := Fin.ext (by show x0.val = a.val; omega)
    exact (col_of _ 3 _ (by rfl) (by decide) x0).trans (Finset.sum_congr rfl fun l _ =>
      (acc2_at (chunk1 m c t) x0 _ _).trans (congrArg (· + _) (acc_at (chunk0 m c t) x0 _ _)))
  · idx_vars x
    obtain rfl : x1 = (0 : Fin 1) := Subsingleton.elim (α := Fin 1) _ _
    obtain rfl : g = 2 := Fin.ext (by show g.val = 2; omega)
    obtain rfl : x0 = a := Fin.ext (by show x0.val = a.val; omega)
    exact (col_of _ 2 _ (by rfl) (by decide) x0).trans (Finset.sum_congr rfl fun l _ =>
      (acc2_at (chunk1 m c t) x0 _ _).trans (congrArg (· + _) (acc_at (chunk0 m c t) x0 _ _)))
  · idx_vars x
    obtain rfl : x1 = (0 : Fin 1) := Subsingleton.elim (α := Fin 1) _ _
    obtain rfl : g = 1 := Fin.ext (by show g.val = 1; omega)
    obtain rfl : x0 = a := Fin.ext (by show x0.val = a.val; omega)
    exact (col_of _ 1 _ (by rfl) (by decide) x0).trans (Finset.sum_congr rfl fun l _ =>
      (acc2_at (chunk1 m c t) x0 _ _).trans (congrArg (· + _) (acc_at (chunk0 m c t) x0 _ _)))
  · idx_vars x
    obtain rfl : x1 = (0 : Fin 1) := Subsingleton.elim (α := Fin 1) _ _
    obtain rfl : g = 0 := Fin.ext (by show g.val = 0; omega)
    obtain rfl : x0 = a := Fin.ext (by show x0.val = a.val; omega)
    exact (col_of _ 0 _ (by rfl) (by decide) x0).trans (Finset.sum_congr rfl fun l _ =>
      (acc2_at (chunk1 m c t) x0 _ _).trans (congrArg (· + _) (acc_at (chunk0 m c t) x0 _ _)))

end Cert.GmlpProof
-- ==== Proof.GmlpSum.lean ====
/- The sums over the grid: what the last point leaves of the gradients of the matrices, the biases and the gain. -/
module

public import proofs.«01_k».proof.Proof.GmlpOut

@[expose] public section

set_option maxRecDepth 16384

noncomputable section

namespace Cert.GmlpProof

open Idealize.ShloMosaic Idealize.ShloMosaic.TcCoe Idealize.SL.Sem
open Idealize.ShloMosaic.Pipeline (Dat)
open Cert.Lift
open Cert.GmlpIdeal Cert.GmlpIdeal.Gen

variable (m : (ℓ : Loc nD τ sig) → Buf (Elt Ideal) ℓ) (c : Dev nD)

theorem zero_w (i : S12x128x128.Idx) : (k0_pay13 (F := Ideal) i : EReal) = 0 := by pointwise [k0_pay13]
theorem zero_g (i : S1x1536.Idx) : (k0_pay14 (F := Ideal) i : EReal) = 0 := by pointwise [k0_pay14]
theorem zero_s (i : S128x1536.Idx) : (k0_pay15 (F := Ideal) i : EReal) = 0 := by idx_vars i; pointwise [k0_pay15]

/-- Two chunks a point, sixteen points. -/
theorem pairs (f : ℕ → EReal) : ∑ t : Fin cfg0.N, (f (2 * t.val) + f (2 * t.val + 1)) = ∑ p : Fin 32, f p := by
  refine (Finset.sum_congr rfl fun t _ => (Fin.sum_univ_two (fun r : Fin 2 => f (2 * t.val + r.val))).symm).trans
    (Fin.sum_mul_add_congr (fun t r hl => ?_) (by rw [show cfg0.N = 16 from N_0]))
  exact congrArg f (by show 2 * t.val + r.val = t.val * 2 + r.val; omega)

theorem sum_w (g : Fin 12) (a b : Fin 128) :
    (outsAt0 m c t0_15.val t0_15.isLt).2.1 (ix3 g a b) = ∑ p : Fin 32, (args m c).dw p g a b := by
  rw [Pipeline.eq_sum_fin_of_reset_step_apply_last (fun n h (i : S12x128x128.Idx) => (outsAt0 m c n h).2.1 i) 16 (fun _ => 0)
    (fun t i => (args m c).dw (2 * t.val) (i 0).val (i 1).val (i 2).val + (args m c).dw (2 * t.val + 1) (i 0).val (i 1).val (i 2).val)
    (fun t h i => by
      idx_vars i
      refine (dw_first m c t h i0 i1 i2).trans ?_
      rw [zero_w, add_assoc])
    (fun t h i => by
      idx_vars i
      refine (dw_next m c t h (lt_of_le_of_lt (Nat.sub_le _ _) t.isLt) i0 i1 i2).trans ?_
      rw [add_assoc])
    (le_of_eq N_0) t0_15 rfl (ix3 g a b), zero_add]
  exact pairs fun p => (args m c).dw p g a b

theorem sum_g (x : Fin 1536) :
    (outsAt0 m c t0_15.val t0_15.isLt).2.2.2.1 (ix2 0 x) = ∑ p : Fin 32, (args m c).dg p x := by
  rw [Pipeline.eq_sum_fin_of_reset_step_apply_last (fun n h (x : Fin 1536) => (outsAt0 m c n h).2.2.2.1 (ix2 0 x)) 16 (fun _ => 0)
    (fun t x => (args m c).dg (2 * t.val) x + (args m c).dg (2 * t.val + 1) x)
    (fun t h x => by
      refine (dg_first m c t h x).trans ?_
      rw [zero_g, add_assoc])
    (fun t h x => by
      refine (dg_next m c t h (lt_of_le_of_lt (Nat.sub_le _ _) t.isLt) x).trans ?_
      rw [add_assoc])
    (le_of_eq N_0) t0_15 rfl x, zero_add]
  exact pairs fun p => (args m c).dg p x

theorem sum_s (r : Fin 128) (x : Fin 1536) :
    (outsAt0 m c t0_15.val t0_15.isLt).2.2.2.2 (ix2 r x) = ∑ p : Fin 32, (args m c).ds (p * 128 + r) x := by
  rw [Pipeline.eq_sum_fin_of_reset_step_apply_last (fun n h (x : Fin 1536) => (outsAt0 m c n h).2.2.2.2 (ix2 r x)) 16 (fun _ => 0)
    (fun t x => (args m c).ds (2 * t.val * 128 + r) x + (args m c).ds ((2 * t.val + 1) * 128 + r) x)
    (fun t h x => by
      refine (acc_first m c t h r x).trans ?_
      rw [zero_s, add_assoc])
    (fun t h x => by
      refine (acc_next m c t h (lt_of_le_of_lt (Nat.sub_le _ _) t.isLt) r x).trans ?_
      rw [add_assoc])
    (le_of_eq N_0) t0_15 rfl x, zero_add]
  exact pairs fun p => (args m c).ds (p * 128 + r) x

theorem sum_b (a : Fin 128) (g : Fin 12) :
    (outsAt0 m c t0_15.val t0_15.isLt).2.2.1 (ix2 a g) = ∑ l : Fin 128, ∑ p : Fin 32, (args m c).ds (p * 128 + a) (g * 128 + l) := by
  have ht : t0_15.val - 1 < cfg0.N := lt_of_le_of_lt (Nat.sub_le _ _) t0_15.isLt
  refine (db_at m c t0_15 (by decide) (by decide) ht a g).trans (Finset.sum_congr rfl fun l _ => ?_)
  exact (acc_next m c t0_15 (by decide) ht a ⟨g.val * 128 + l.val, by omega⟩).symm.trans (sum_s m c a ⟨g.val * 128 + l.val, by omega⟩)

end Cert.GmlpProof
-- ==== Proof.Gmlp.lean ====
/- The spatial gate's gradients (`_gmlp_bwd`): the kernel's four results are the reference's.

   A grid point takes two chunks of 128 rows. In each chunk it recomputes the gelu, the norm and the gate, sends the incoming
   gradient back through them, and adds to the gradients of the gate's matrices, biases and gain in blocks that stay; the biases'
   gradient is summed within the rows at the last point only. The sums are the reference's whatever the arguments; the gradient
   of the gate's argument needs them to be real numbers, for the norm's derivative is written otherwise there. -/
module

public import proofs.«01_k».proof.Defs
public import proofs.«01_k».proof.Proof.Gen.Pre_finite_gmlp
public import proofs.«01_k».proof.Proof.Gen.On_gmlp_mask
public import proofs.«01_k».proof.Proof.Gen.GmlpRefIdeal.Run
public import proofs.«01_k».proof.Proof.GmlpRef
public import proofs.«01_k».proof.Proof.GmlpSum

@[expose] public section

set_option maxRecDepth 16384

noncomputable section

namespace Cert.GmlpProof

open Idealize.ShloMosaic Idealize.ShloMosaic.TcCoe Idealize.SL.Sem
open Idealize.ShloMosaic.Pipeline (Dat)
open Cert.Lift
open Cert.GmlpIdeal Cert.GmlpIdeal.Gen

variable (m : (ℓ : Loc nD τ sig) → Buf (Elt Ideal) ℓ) (c : Dev nD)

theorem final6 : (dats m 0 c).arrAt 6 cfg0.N = GmlpRefIdeal.Read.val_main_v61 (F := Ideal) (A0 m c) (A1 m c) (A4 m c) := by
  refine (dats m 0 c).arrAt_eq_of_after_last 6 t0_15 (by decide +kernel) _ fun i => ?_
  blk_simp
  rw [after0_6]
  idx_vars i
  exact (sum_w m c i0 i1 i2).trans (Ref.dw_at (A0 m c) (A1 m c) (A2 m c) (A3 m c) (A4 m c) i0 i1 i2).symm

theorem final7 : (dats m 0 c).arrAt 7 cfg0.N = GmlpRefIdeal.Read.val_main_v90 (F := Ideal) (A0 m c) (A4 m c) := by
  refine (dats m 0 c).arrAt_eq_of_after_last 7 t0_15 (by decide +kernel) _ fun i => ?_
  blk_simp
  rw [after0_7]
  idx_vars i
  exact (sum_b m c i0 i1).trans (Ref.db_at (A0 m c) (A1 m c) (A2 m c) (A3 m c) (A4 m c) i0 i1).symm

theorem final8 : (dats m 0 c).arrAt 8 cfg0.N = GmlpRefIdeal.Read.val_main_v91 (F := Ideal) (A0 m c) (A2 m c) (A4 m c) := by
  refine (dats m 0 c).arrAt_eq_of_after_last 8 t0_15 (by decide +kernel) _ fun i => ?_
  blk_simp
  rw [after0_8]
  idx_vars i
  obtain rfl : i0 = 0 := Subsingleton.elim _ _
  exact (sum_g m c i1).trans (Ref.dg_at (A0 m c) (A1 m c) (A2 m c) (A3 m c) (A4 m c) i1).symm

section
variable (hz : ∀ (s : Fin 4096) (n : Fin 3072), ∃ r : ℝ, A0 m c (ix2 s ⟨n.val, by omega⟩) = (r : EReal))
  (hg : ∀ d : Fin 1536, ∃ r : ℝ, A1 m c (ix1 d) = (r : EReal))
  (hw : ∀ (h : Fin 12) (a b : Fin 128), ∃ r : ℝ, A2 m c (ix3 h a b) = (r : EReal))
  (hd : ∀ (s : Fin 4096) (n : Fin 1536), ∃ r : ℝ, A4 m c (ix2 s ⟨n.val, by omega⟩) = (r : EReal))

include hz hg hw hd in
theorem final5 (i : S4096x3584.Idx) (hi : (i 1).val < 3072) : (dats m 0 c).arrAt 5 cfg0.N i
    = GmlpRefIdeal.Read.val_main_v89 (F := Ideal) (A0 m c) (A1 m c) (A2 m c) (A3 m c) (A4 m c) i := by
  have key := (dats m 0 c).arrAt_apply_of_coversWhere 5
    (GmlpRefIdeal.Read.val_main_v89 (F := Ideal) (A0 m c) (A1 m c) (A2 m c) (A3 m c) (A4 m c))
    (P := fun i : S4096x3584.Idx => (i 1).val < 3072) (fun β => β 1 < 1) (by decide +kernel) (fun t hf' y => ?_) (fun j => ?_) i
  · rw [key, if_pos hi]
  · blk_simp
    rw [after0_5]
    obtain ⟨u, hu⟩ : ∃ u : S256x3072.Idx, u = (cfg0.win 5).xinj (cfg0.grid.coords t) y := ⟨_, rfl⟩
    have h0 : (u 0).val = (y 0).val := by rw [hu]
    have h1 : (u 1).val = (y 1).val := by rw [hu]
    have hN := lt_of_lt_of_eq t.isLt N_0
    rw [← hu]
    clear hu
    idx_vars u
    have b0 := u0.isLt
    have b1 := u1.isLt
    obtain ⟨v, hv⟩ := Ref.v_real (A0 m c) (A1 m c) (A2 m c) (A3 m c) (A4 m c) hz ⟨t.val * 256 + u0.val, by omega⟩
    obtain ⟨x, hx⟩ := Ref.gy_real (A0 m c) (A1 m c) (A2 m c) (A3 m c) (A4 m c) hz hg hw hd ⟨t.val * 256 + u0.val, by omega⟩
    refine ((dz_at m c t u0 u1).trans (Ref.dz_at (A0 m c) (A1 m c) (A2 m c) (A3 m c) (A4 m c) ⟨t.val * 256 + u0.val, by omega⟩ v x hv hx
      ⟨u1.val, by omega⟩ b1).symm).trans (congrArg _ ?_)
    blk_ext [idx t, ← h0, ← h1]
  · blk_simp [Pipeline.Window.cell_apply]
    omega
end

/-! ## The claim -/

/-- The mask leaves out the columns the kernel never writes. -/
theorem mask_dz (x0 : FVec Ideal On_gmlp_mask.S4096x3584 .f32) (x1 : FVec Ideal On_gmlp_mask.S1536 .f32) (x2 : FVec Ideal On_gmlp_mask.S12x128x128 .f32)
    (x3 : FVec Ideal On_gmlp_mask.S12x128 .f32) (x4 : FVec Ideal On_gmlp_mask.S4096x2048 .bf16) (i : On_gmlp_mask.S4096x3584.Idx)
    (h : (On_gmlp_mask.fn (F := Ideal) x0 x1 x2 x3 x4).1 i = 1#1) : (i 1).val < 3072 := by
  unfold On_gmlp_mask.fn at h
  idx_vars i
  pointwise at h
  exact (by decide +kernel : ∀ n : Fin 3584, IntOp.cmpi .slt (BitVec.ofNat 32 n.val) 3072#32 = 1#1 → n.val < 3072) i1 h

/-- The precondition says that the columns the gate reads, its gain and its matrices are real numbers. -/
theorem finite (x0 : FVec Ideal Pre_finite_gmlp.S4096x3584 .f32) (x1 : FVec Ideal Pre_finite_gmlp.S1536 .f32)
    (x2 : FVec Ideal Pre_finite_gmlp.S12x128x128 .f32) (x3 : FVec Ideal Pre_finite_gmlp.S12x128 .f32)
    (x4 : FVec Ideal Pre_finite_gmlp.S4096x2048 .bf16) (h : Pre_finite_gmlp.fn (F := Ideal) x0 x1 x2 x3 x4 = fun _ => 1#1) :
    (∀ (s : Fin 4096) (n : Fin 3072), ∃ r : ℝ, x0 (ix2 s ⟨n.val, by omega⟩) = (r : EReal))
    ∧ (∀ d : Fin 1536, ∃ r : ℝ, x1 (ix1 d) = (r : EReal))
    ∧ (∀ (h : Fin 12) (a b : Fin 128), ∃ r : ℝ, x2 (ix3 h a b) = (r : EReal))
    ∧ (∀ (s : Fin 4096) (n : Fin 1536), ∃ r : ℝ, x4 (ix2 s ⟨n.val, by omega⟩) = (r : EReal)) := by
  have h0 := congrFun h ix0
  unfold Pre_finite_gmlp.fn at h0
  obtain ⟨h0, h3⟩ := IntOp.andi_eq_one.1 h0
  obtain ⟨h0, h2⟩ := IntOp.andi_eq_one.1 h0
  obtain ⟨h0, h1⟩ := IntOp.andi_eq_one.1 h0
  refine ⟨fun s n => ?_, fun d => ⟨_, real_of_all _ _ _ _ _ _ h1 (fun _ => rfl) (ix1 d)⟩,
    fun h a b => ⟨_, real_of_all _ _ _ _ _ _ h2 (fun _ => rfl) (ix3 h a b)⟩, fun s n => ?_⟩
  · have e := real_of_all _ _ _ _ _ _ h0 (fun _ => rfl) (ix2 s n)
    pointwise at e
    exact ⟨_, e⟩
  · have e := real_of_all _ _ _ _ _ _ h3 (fun _ => rfl) (ix2 s n)
    pointwise at e
    exact ⟨_, e⟩

theorem frame_ref : Cert.quiescent_GmlpRefIdeal := fun m ρ _ =>
  (θ_run Cert.GmlpRefIdeal.defs _ _).mono (fun r h => ⟨fun c => (h c).2.2.2.2, sem_eq_zero_of_no_sems (by decide) r.2⟩)
    (Cert.GmlpRefIdeal.Value.run (F := Ideal) m ρ)

theorem algebraic : Cert.algebraic_GmlpIdeal_GmlpRefIdeal_on_gmlp_mask_pre_finite_gmlp := by
  intro m g m' g' hpre hagree
  refine ⟨fun c => (dats m 0 c).arrAt 5 cfg0.N, fun c => (dats m 0 c).arrAt 6 cfg0.N, fun c => (dats m 0 c).arrAt 7 cfg0.N,
    fun c => (dats m 0 c).arrAt 8 cfg0.N, ?_, ?_⟩
  · run_from Cert.GmlpIdeal.Value.run_blocks m g
    all_goals exact fun _ _ => trivial
  · run_from Cert.GmlpRefIdeal.Value.run m' g'
    all_goals obtain ⟨e0, e1, e2, e3, e4⟩ := hagree c
    · obtain ⟨hz, hg, hw, hd⟩ := finite _ _ _ _ _ (hpre c)
      intro i hi
      refine (congrFun (GmlpRefIdeal.Read.val_main_v89_eq m' c) i).trans ?_
      rw [e0, e1, e2, e3, e4]
      exact (final5 m c hz hg hw hd i (mask_dz _ _ _ _ _ i hi)).symm
    · intro i _
      refine (congrFun (GmlpRefIdeal.Read.val_main_v61_eq _ _ _) i).trans ?_
      exact (congrFun (final6 m c) i).symm
    · intro i _
      refine (congrFun (GmlpRefIdeal.Read.val_main_v90_eq _ _) i).trans ?_
      exact (congrFun (final7 m c) i).symm
    · intro i _
      refine (congrFun (GmlpRefIdeal.Read.val_main_v91_eq _ _ _) i).trans ?_
      exact (congrFun (final8 m c) i).symm

end Cert.GmlpProof
-- ==== Proof.RmsFwd.lean ====
/- The root-mean-square norm of a layer (`_rms_fwd`): the kernel's result is the reference's, whatever the arguments.

   A grid point takes 512 rows, and a normed row asks for nothing but that row and the gain. -/
module

public import proofs.«01_k».proof.Defs
public import proofs.«01_k».proof.Proof.Gen.RmsFwdRefIdeal.Read
public import proofs.«01_k».proof.Proof.Gen.RmsFwdIdeal.Value
public import proofs.«01_k».proof.Proof.Lift

@[expose] public section

set_option maxRecDepth 16384

noncomputable section

namespace Cert.RmsFwdProof

open Idealize.ShloMosaic Idealize.ShloMosaic.TcCoe Idealize.SL.Sem
open Idealize.ShloMosaic.Pipeline (Dat)

/-- An entry of a normed row. -/
def normed (x : Fin 2048 → EReal) (g : EReal) (d : Fin 2048) : EReal :=
  x d * Ideal.rsqrt (Ideal.div (∑ k : Fin 2048, x k * x k) (Ideal.ofBits .f32 0x45000000#32) + Ideal.ofBits .f32 0x358637BD#32) * g

section Reference
open Cert.RmsFwdRefIdeal Cert.RmsFwdRefIdeal.Read

theorem ref_at (x : FVec Ideal S4096x2048 .f32) (g : FVec Ideal S2048 .f32) (s : Fin 4096) (d : Fin 2048) :
    val_main_v13 (F := Ideal) x g (ix2 s d) = normed (fun k => x (ix2 s k)) (g (ix1 d)) d := by
  pointwise [
    val_main_v0, val_main_cst, val_main_v1, val_main_v2, val_main_cst_0, val_main_v3, val_main_v4, val_main_cst_1, val_main_v5,
    val_main_v6, val_main_v7, val_main_v8, val_main_v9, val_main_v10, val_main_v11, val_main_v12, val_main_v13]
  rfl

end Reference

section Kernel
open Cert.RmsFwdIdeal Cert.RmsFwdIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- Row `r` of the `t`-th block of 512 rows. -/
def row (t : Fin cfg0.N) (r : Fin 512) : Fin 4096 :=
  ⟨512 * t.val + r, by have := lt_of_lt_of_eq t.isLt N_0; omega⟩

theorem iblk0 (c : Dev nD) (t : Fin cfg0.N) (r : Fin 512) (d : Fin 2048) :
    iblk m c 0 t (ix2 r d) = m ((c : Thread nD τ).loc main_arg0) (ix2 (row t r) d) := by
  blk_ext [iblk, V, row, idx t]

theorem iblk1 (c : Dev nD) (t : Fin cfg0.N) (d : Fin 2048) :
    iblk m c 1 t (ix2 0 d) = m ((c : Thread nD τ).loc main_arg1) (ix1 d) := by
  blk_simp [iblk]
  entry_read
  pointwise
  blk_ext [idx t]

theorem pay (c : Dev nD) (t : Fin cfg0.N) (r : Fin 512) (d : Fin 2048) :
    k0_pay1 (iblk m c 0 t) (iblk m c 1 t) (ix2 r d)
      = normed (fun k => m ((c : Thread nD τ).loc main_arg0) (ix2 (row t r) k)) (m ((c : Thread nD τ).loc main_arg1) (ix1 d)) d := by
  pointwise [k0_pay1]
  simp only [iblk0 m c t, iblk1 m c t]
  rfl

theorem final2 (c : Dev nD) :
    (dats m 0 c).arrAt 2 cfg0.N
      = RmsFwdRefIdeal.Read.val_main_v13 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  refine (pay m c t y0 y1).trans ((ref_at _ _ (row t y0) y1).symm.trans ?_)
  blk_ext [row, idx t]

end Kernel

/-! ## The claim -/

theorem frame_ref : Cert.quiescent_RmsFwdRefIdeal := fun m ρ _ =>
  (θ_run Cert.RmsFwdRefIdeal.defs _ _).mono (fun r h => ⟨fun c => (h c).2, sem_eq_zero_of_no_sems (by decide) r.2⟩)
    (Cert.RmsFwdRefIdeal.Value.run (F := Ideal) m ρ)

theorem algebraic : Cert.algebraic_RmsFwdIdeal_RmsFwdRefIdeal := by
  pair_intro
  · run_from Cert.RmsFwdIdeal.Value.run_blocks m g
  · run_from Cert.RmsFwdRefIdeal.Value.run m' g'
    all_goals obtain ⟨e0, e1⟩ := hagree c
    exact (Cert.RmsFwdRefIdeal.Read.val_main_v13_eq _ _).trans (final2 m c).symm

end Cert.RmsFwdProof
-- ==== Proof.FfnUp.lean ====
/- The feed-forward layer's first half (`_ffn_up`): the kernel's three results are the reference's, whatever the arguments.

   The weights come as eight blocks of 1408 columns: the first four are the gate's, the last four the other factor's. A grid point
   takes 512 rows, one of the first four blocks and the block four further on, and forms the gate, the other factor, and the
   product of the gate's `x / (1 + exp (-x))` with the other factor. -/
module

public import proofs.«01_k».proof.Defs
public import proofs.«01_k».proof.Proof.Gen.FfnUpRefIdeal.Read
public import proofs.«01_k».proof.Proof.Gen.FfnUpIdeal.Value
public import proofs.«01_k».proof.Proof.Lift

@[expose] public section

set_option maxRecDepth 16384

noncomputable section

namespace Cert.FfnUpProof

open Idealize.ShloMosaic Idealize.ShloMosaic.TcCoe Idealize.SL.Sem
open Idealize.ShloMosaic.Pipeline (Dat)
open Cert.Lift

/-- An entry of the product of the rows with the weights. -/
def prod (x : FVec Ideal FfnUpRefIdeal.S4096x2048 .bf16) (w : FVec Ideal FfnUpRefIdeal.S2048x11264 .f32) (s : Fin 4096) (f : Fin 11264) : EReal :=
  ∑ k : Fin 2048, x (ix2 s k) * w (ix2 k f)

/-- The gated product of the two halves. -/
def act (g u : EReal) : EReal := g * Ideal.div 1 (1 + Ideal.exp (-g)) * u

/-! ## The reference at an index -/

section Reference
open Cert.FfnUpRefIdeal Cert.FfnUpRefIdeal.Read

variable (x : FVec Ideal S4096x2048 .bf16) (w : FVec Ideal S2048x11264 .f32) (s : Fin 4096) (f : Fin 5632)

theorem ref_gate : val_main_v4 (F := Ideal) x w (ix2 s f) = prod x w s ⟨f, by omega⟩ := by
  pointwise [val_main_v0, val_main_v1, val_main_v2, val_main_v4]
  rfl

theorem ref_up : val_main_v5 (F := Ideal) x w (ix2 s f) = prod x w s ⟨5632 + f, by omega⟩ := by
  pointwise [val_main_v0, val_main_v1, val_main_v3, val_main_v5]
  rfl

theorem ref_act :
    val_main_v8 (F := Ideal) x w (ix2 s f) = act (prod x w s ⟨f, by omega⟩) (prod x w s ⟨5632 + f, by omega⟩) := by
  pointwise [val_main_v0, val_main_v1, val_main_v2, val_main_v3, val_main_call0_v0, val_main_call0_v1, val_main_call0_cst,
    val_main_call0_v2, val_main_call0_v3, val_main_call0_cst_0, val_main_call0_v4, val_main_call0_v5, val_main_v6, val_main_v7, val_main_v8]
  rfl

end Reference

/-! ## The kernel's blocks -/

section Kernel
open Cert.FfnUpIdeal Cert.FfnUpIdeal.Gen

variable (m : (ℓ : Loc nD τ sig) → Buf (Elt Ideal) ℓ)

/-- Point `t` is rows `t / 4` and columns `t % 4`. -/
theorem idx : ∀ t : Fin cfg0.N, win0_0.index t = ![t.val / 4, 0] ∧ win0_1.index t = ![t.val % 4, 0, 0]
    ∧ win0_2.index t = ![t.val % 4 + 4, 0, 0] ∧ win0_3.index t = ![t.val / 4, t.val % 4] ∧ win0_4.index t = ![t.val / 4, t.val % 4]
    ∧ win0_5.index t = ![t.val / 4, t.val % 4] :=
  (by decide +kernel : ∀ t : Fin grid0.N, _)

def row (t : Fin cfg0.N) (r : Fin 512) : Fin 4096 :=
  ⟨512 * (t.val / 4) + r, by have := lt_of_lt_of_eq t.isLt N_0; omega⟩

def col (t : Fin cfg0.N) (q : Fin 1408) : Fin 5632 := ⟨1408 * (t.val % 4) + q, by omega⟩

theorem iblk0 (c : Dev nD) (t : Fin cfg0.N) (r : Fin 512) (d : Fin 2048) :
    iblk m c 0 t (ix2 r d) = m ((c : Thread nD τ).loc main_arg0) (ix2 (row t r) d) := by
  blk_ext [iblk, V, row, idx t]

theorem iblk1 (c : Dev nD) (t : Fin cfg0.N) (k : Fin 2048) (q : Fin 1408) :
    iblk m c 1 t (ix3 0 k q) = m ((c : Thread nD τ).loc main_arg1) (ix2 k ⟨col t q, by omega⟩) := by
  blk_simp [iblk]
  entry_read
  pointwise
  blk_ext [idx t, col]

theorem iblk2 (c : Dev nD) (t : Fin cfg0.N) (k : Fin 2048) (q : Fin 1408) :
    iblk m c 2 t (ix3 0 k q) = m ((c : Thread nD τ).loc main_arg1) (ix2 k ⟨5632 + col t q, by omega⟩) := by
  blk_simp [iblk]
  entry_read
  pointwise
  blk_ext [idx t, col]

/-! ## The payloads -/

variable (c : Dev nD) (t : Fin cfg0.N) (r : Fin 512) (q : Fin 1408)

theorem pay_gate : k0_pay1 (iblk m c 0 t) (iblk m c 1 t) (ix2 r q)
    = prod (m ((c : Thread nD τ).loc main_arg0)) (m ((c : Thread nD τ).loc main_arg1)) (row t r) ⟨col t q, by omega⟩ := by
  pointwise [k0_pay1]
  simp only [iblk0 m c t, iblk1 m c t]
  rfl

theorem pay_up : k0_pay2 (iblk m c 0 t) (iblk m c 2 t) (ix2 r q)
    = prod (m ((c : Thread nD τ).loc main_arg0)) (m ((c : Thread nD τ).loc main_arg1)) (row t r) ⟨5632 + col t q, by omega⟩ := by
  pointwise [k0_pay2]
  simp only [iblk0 m c t, iblk2 m c t]
  rfl

theorem pay_act : k0_pay5 (iblk m c 0 t) (iblk m c 1 t) (iblk m c 2 t) (ix2 r q)
    = act (k0_pay1 (iblk m c 0 t) (iblk m c 1 t) (ix2 r q)) (k0_pay2 (iblk m c 0 t) (iblk m c 2 t) (ix2 r q)) := rfl

/-! ## The three results -/

theorem final3 (c : Dev nD) :
    (dats m 0 c).arrAt 3 cfg0.N
      = FfnUpRefIdeal.Read.val_main_v4 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  frame_out
  idx_vars y
  refine (pay_gate m c t y0 y1).trans ((ref_gate _ _ (row t y0) (col t y1)).symm.trans ?_)
  blk_ext [row, col, idx t]

theorem final4 (c : Dev nD) :
    (dats m 0 c).arrAt 4 cfg0.N
      = FfnUpRefIdeal.Read.val_main_v5 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  frame_out
  idx_vars y
  refine (pay_up m c t y0 y1).trans ((ref_up _ _ (row t y0) (col t y1)).symm.trans ?_)
  blk_ext [row, col, idx t]

theorem final5 (c : Dev nD) :
    (dats m 0 c).arrAt 5 cfg0.N
      = FfnUpRefIdeal.Read.val_main_v8 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  frame_out
  idx_vars y
  refine (pay_act m c t y0 y1).trans ?_
  rw [pay_gate, pay_up]
  refine (ref_act _ _ (row t y0) (col t y1)).symm.trans ?_
  blk_ext [row, col, idx t]

end Kernel

/-! ## The claim -/

theorem frame_ref : Cert.quiescent_FfnUpRefIdeal := fun m ρ _ =>
  (θ_run Cert.FfnUpRefIdeal.defs _ _).mono (fun r h => ⟨fun c => (h c).2.2.2, sem_eq_zero_of_no_sems (by decide) r.2⟩)
    (Cert.FfnUpRefIdeal.Value.run (F := Ideal) m ρ)

theorem algebraic : Cert.algebraic_FfnUpIdeal_FfnUpRefIdeal := by
  pair_intro
  · run_from Cert.FfnUpIdeal.Value.run_blocks m g
  · run_from Cert.FfnUpRefIdeal.Value.run m' g'
    all_goals obtain ⟨e0, e1⟩ := hagree c
    · exact (Cert.FfnUpRefIdeal.Read.val_main_v4_eq _ _).trans (final3 m c).symm
    · exact (Cert.FfnUpRefIdeal.Read.val_main_v5_eq _ _).trans (final4 m c).symm
    · exact (Cert.FfnUpRefIdeal.Read.val_main_v8_eq _ _).trans (final5 m c).symm

end Cert.FfnUpProof
-- ==== Proof.GmlpFwdRef.lean ====
/- The reference of the spatial gate, read at an index: the gated half of the gelu times the gate. -/
module

public import proofs.«01_k».proof.Proof.Gen.GmlpFwdRefIdeal.Read
public import proofs.«01_k».proof.Proof.GmlpSpec

@[expose] public section

set_option maxRecDepth 16384

noncomputable section

namespace Cert.GmlpFwdProof.Ref

open Idealize.ShloMosaic Idealize.ShloMosaic.TcCoe
open Cert.Lift Cert.GmlpProof
open Cert.GmlpFwdRefIdeal Cert.GmlpFwdRefIdeal.Read

variable (x0 : FVec Ideal S4096x3584 .f32) (x1 : FVec Ideal S1536 .f32) (x2 : FVec Ideal S12x128x128 .f32) (x3 : FVec Ideal S12x128 .f32)

/-- The arguments, with nothing for the cotangent, which the gate does not take. -/
abbrev ins : In := inOf x0 x1 x2 x3 fun _ => 0

/-- The reference's gelu is written with the complement of the error function at the negated argument. -/
theorem gel_at (s : Fin 4096) (n : Fin 3072) : val_main_v7 (F := Ideal) x0 (ix2 s n) = gel ((ins x0 x1 x2 x3).z s n) := by
  rw [inOf_z _ _ _ _ _ s n (by omega) (by omega)]
  pointwise [val_main_v0, val_main_cst, val_main_v1, val_main_v2, val_main_v3, val_main_cst_0, val_main_v4, val_main_v5, val_main_v6,
    val_main_v7]
  rw [neg_mul, Ideal.erfc_neg]
  rfl

theorem u_at (s : Fin 4096) (c : Fin 1536) : val_main_v8 (F := Ideal) x0 (ix2 s c) = (ins x0 x1 x2 x3).u s c := by
  refine Eq.trans ?_ (gel_at x0 x1 x2 x3 s ⟨c.val, by omega⟩)
  pointwise [val_main_v8]

theorem v_at (s : Fin 4096) (c : Fin 1536) : val_main_v9 (F := Ideal) x0 (ix2 s c) = (ins x0 x1 x2 x3).v s c := by
  refine Eq.trans ?_ (gel_at x0 x1 x2 x3 s ⟨1536 + c.val, by omega⟩)
  pointwise [val_main_v9]

theorem n_at (s : Fin 4096) (c : Fin 1536) : val_main_v22 (F := Ideal) x0 x1 (ix2 s c) = (ins x0 x1 x2 x3).n s c := by
  pointwise [val_main_v10, val_main_cst_1, val_main_v11, val_main_v12, val_main_cst_2, val_main_v13, val_main_v14, val_main_cst_3,
    val_main_v15, val_main_v16, val_main_v17, val_main_v18, val_main_v19, val_main_v20, val_main_v21, val_main_v22]
  simp only [v_at x0 x1 x2 x3]
  unfold In.n
  rw [inOf_g _ _ _ _ _ c c.isLt]
  rfl

theorem n4_at (p : Fin 32) (l : Fin 128) (h : Fin 12) (d : Fin 128) :
    val_main_v23 (F := Ideal) x0 x1 (ix4 p l h d) = (ins x0 x1 x2 x3).n (p * 128 + l) (h * 128 + d) := by
  refine Eq.trans ?_ (n_at x0 x1 x2 x3 ⟨p * 128 + l, by omega⟩ ⟨h * 128 + d, by omega⟩)
  pointwise [val_main_v23]

theorem sg4_at (p : Fin 32) (l : Fin 128) (h : Fin 12) (d : Fin 128) :
    val_main_v29 (F := Ideal) x0 x1 x2 x3 (ix4 p l h d)
      = (∑ k : Fin 128, x2 (ix3 h l k) * (ins x0 x1 x2 x3).n (p * 128 + k) (h * 128 + d)) + x3 (ix2 h l) := by
  pointwise [val_main_v24, val_main_v25, val_main_v26, val_main_v27, val_main_v28, val_main_v29]
  exact congrArg (· + _) (Finset.sum_congr rfl fun k _ => by rw [n4_at x0 x1 x2 x3]; exact mul_comm _ _)

theorem sg_at (s : Fin 4096) (c : Fin 1536) : val_main_v30 (F := Ideal) x0 x1 x2 x3 (ix2 s c) = (ins x0 x1 x2 x3).sg s c := by
  obtain ⟨p, l, rfl⟩ : ∃ (p : Fin 32) (l : Fin 128), s = ⟨p * 128 + l, by omega⟩ :=
    ⟨⟨s / 128, by omega⟩, ⟨s % 128, by omega⟩, Fin.ext (by dsimp only; omega)⟩
  obtain ⟨h, d, rfl⟩ : ∃ (h : Fin 12) (d : Fin 128), c = ⟨h * 128 + d, by omega⟩ :=
    ⟨⟨c / 128, by omega⟩, ⟨c % 128, by omega⟩, Fin.ext (by dsimp only; omega)⟩
  have e : val_main_v30 (F := Ideal) x0 x1 x2 x3 (ix2 ⟨p * 128 + l, by omega⟩ ⟨h * 128 + d, by omega⟩)
      = val_main_v29 (F := Ideal) x0 x1 x2 x3 (ix4 p l h d) := by
    pointwise [val_main_v30]
  rw [e, sg4_at x0 x1 x2 x3]
  unfold In.sg
  have e1 : (h.val * 128 + d.val) / 128 = h := by omega
  have e2 : (p.val * 128 + l.val) % 128 = l := by omega
  have e3 : (p.val * 128 + l.val) / 128 = p := by omega
  dsimp only
  rw [e1, e2, e3, inOf_b _ _ _ _ _ l h h.isLt l.isLt]
  exact congrArg (· + _) (Finset.sum_congr rfl fun k _ => by rw [inOf_w _ _ _ _ _ h l k h.isLt l.isLt k.isLt])

theorem out_at (s : Fin 4096) (c : Fin 2048) (hc : c.val < 1536) :
    val_main_v34 (F := Ideal) x0 x1 x2 x3 (ix2 s c) = (ins x0 x1 x2 x3).u s c * (ins x0 x1 x2 x3).sg s c := by
  rw [← u_at x0 x1 x2 x3 s ⟨c.val, hc⟩, ← sg_at x0 x1 x2 x3 s ⟨c.val, hc⟩]
  pointwise [val_main_v31, val_main_v33, val_main_v34]
  exact dif_pos hc

end Cert.GmlpFwdProof.Ref
-- ==== Proof.GmlpFwd.lean ====
/- The spatial gate (`_gmlp_fwd`): in the columns the kernel writes, its result is the reference's, whatever the arguments.

   A grid point takes two chunks of 128 rows. Of each it forms the gelu, the normed half and, head by head, the chunk's rows mixed
   by the head's matrix, with the bias, times the gated half; the twelve heads of the two chunks are its twenty-four stores. -/
module

public import proofs.«01_k».proof.Defs
public import proofs.«01_k».proof.Proof.Gen.On_gate_mask
public import proofs.«01_k».proof.Proof.Gen.GmlpFwdIdeal.Value
public import proofs.«01_k».proof.Proof.GmlpFwdRef

@[expose] public section

set_option maxRecDepth 16384

noncomputable section

namespace Cert.GmlpFwdProof

open Idealize.ShloMosaic Idealize.ShloMosaic.TcCoe Idealize.SL.Sem
open Idealize.ShloMosaic.Pipeline (Dat)
open Cert.Lift Cert.GmlpProof
open Cert.GmlpFwdIdeal Cert.GmlpFwdIdeal.Gen

/-! ## A chunk -/

section
variable {I : In} {p : ℕ} {zz : FVec Ideal S128x3072 .f32} {gg : FVec Ideal S1x1536 .f32}
  (hz : ∀ (r : Fin 128) (n : Fin 3072), (zz (ix2 r n) : EReal) = I.z (p * 128 + r) n) (hg : ∀ n : Fin 1536, (gg (ix2 0 n) : EReal) = I.g n)
  (r : Fin 128)
include hz

theorem gel_at (n : Fin 3072) : k0_pay1 (F := Ideal) zz (ix2 r n) = gel (I.z (p * 128 + r) n) := by
  pointwise [k0_pay1]
  rw [hz]
  rfl

theorem u_at (x : Fin 1536) : k0_pay2 (F := Ideal) zz (ix2 r x) = I.u (p * 128 + r) x := by
  pointwise [k0_pay2]
  exact gel_at hz r _

include hg in
theorem n_at (x : Fin 1536) : k0_pay3 (F := Ideal) zz gg (ix2 r x) = I.n (p * 128 + r) x := by
  have hv : ∀ y : Fin 1536, k0_pay1 (F := Ideal) zz (ix2 r ⟨1536 + y.val, by omega⟩) = I.v (p * 128 + r) y := fun y => gel_at hz r _
  pointwise [k0_pay3]
  simp only [hv, hg]
  rfl

/-- The second chunk's values are formed the same way. -/
theorem u2_at (x : Fin 1536) : k0_pay20 (F := Ideal) zz (ix2 r x) = I.u (p * 128 + r) x := u_at hz r x

include hg in
theorem n2_at (x : Fin 1536) : k0_pay21 (F := Ideal) zz gg (ix2 r x) = I.n (p * 128 + r) x := n_at hz hg r x

end

/-! ## A head of the chunk -/

theorem ld_head (X : Vec Ideal S12x128x128 .f32) (j : ℕ) (hg : j < 12)
    (hi : ∀ a, (![j, 0, 0] : Fin 3 → ℕ) a + S1x128x128.size a ≤ S12x128x128.size a) (a b : Fin 128) :
    View.ld X (Rect.unit (s := S12x128x128) ![j, 0, 0] S1x128x128.size hi) (ix3 (0 : Fin 1) a b) = X (ix3 ⟨j, hg⟩ a b) := by
  refine View.ld_unit_apply_of X _ _ _ _ _ fun k => ?_
  fin_cases k <;> simp

theorem ld_bias (X : Vec Ideal S128x12 .f32) (j : ℕ) (hg : j < 12)
    (hi : ∀ a, (![0, j] : Fin 2 → ℕ) a + S128x1.size a ≤ S128x12.size a) (a : Fin 128) :
    View.ld X (Rect.unit (s := S128x12) ![0, j] S128x1.size hi) (ix2 a (0 : Fin 1)) = X (ix2 a ⟨j, hg⟩) := by
  refine View.ld_unit_apply_of X _ _ _ _ _ fun k => ?_
  fin_cases k <;> simp

theorem mix_at (u : FVec Ideal S128x1536 .f32) (vn : FVec Ideal S128x1536 .bf16) (w : FVec Ideal S1x128x128 .f32) (b : FVec Ideal S128x1 .f32)
    (o : ℕ) (ho : o + 128 ≤ 1536) (hs : S128x1536.Slices ![0, o] S128x128) (r d : Fin 128) :
    truncf (F := Ideal) .bf16 (mulf (extractStridedSlice S128x128 ![0, o] u hs)
      (addf (matmul dot_S128x128_S128x128_S128x128_1_0_0_1_n_n none (truncf (F := Ideal) .bf16 (shapeCast S128x128 w shapeCasts_S1x128x128_S128x128) bitsLt_bf16_f32)
        (extractStridedSlice S128x128 ![0, o] vn hs) (constant (F := Ideal) S128x128 .f32 0x00000000#32))
        (broadcastTo S128x128 (shapeCast S128x1 b shapeCasts_S128x1_S128x1) broadcasts_S128x1_S128x128))) bitsLt_bf16_f32 (ix2 r d)
    = (u (ix2 r ⟨o + d.val, by omega⟩) : EReal) * ((∑ l : Fin 128, (w (ix3 0 r l) : EReal) * (vn (ix2 l ⟨o + d.val, by omega⟩) : EReal))
      + (b (ix2 r 0) : EReal)) := by
  pointwise

section
variable {I : In} {p : ℕ} {u : FVec Ideal S128x1536 .f32} {vn : FVec Ideal S128x1536 .bf16} {W : Vec Ideal S12x128x128 .f32}
  {b : Vec Ideal S128x12 .f32}
  (hu : ∀ (r : Fin 128) (x : Fin 1536), (u (ix2 r x) : EReal) = I.u (p * 128 + r) x)
  (hn : ∀ (r : Fin 128) (x : Fin 1536), (vn (ix2 r x) : EReal) = I.n (p * 128 + r) x)
  (hW : ∀ (h : Fin 12) (a b : Fin 128), (W (ix3 h a b) : EReal) = I.w h a b)
  (hb : ∀ (a : Fin 128) (h : Fin 12), (b (ix2 a h) : EReal) = I.b a h)
include hu hn hW hb

/-- What the store of a head of the chunk holds, at the row `s` and the column `n` of the result. -/
theorem mix_of {s n : ℕ} (j o : ℕ) (hg : j < 12) (ho : o = 128 * j) (hi hk) (hs : S128x1536.Slices ![0, o] S128x128)
    (r d : Fin 128) (es : p * 128 + r = s) (en : n = o + d) :
    truncf (F := Ideal) .bf16 (mulf (extractStridedSlice S128x128 ![0, o] u hs)
      (addf (matmul dot_S128x128_S128x128_S128x128_1_0_0_1_n_n none (truncf (F := Ideal) .bf16 (shapeCast S128x128
          (View.ld W (Rect.unit (s := S12x128x128) ![j, 0, 0] S1x128x128.size hi)) shapeCasts_S1x128x128_S128x128) bitsLt_bf16_f32)
        (extractStridedSlice S128x128 ![0, o] vn hs) (constant (F := Ideal) S128x128 .f32 0x00000000#32))
        (broadcastTo S128x128 (shapeCast S128x1 (View.ld b (Rect.unit (s := S128x12) ![0, j] S128x1.size hk)) shapeCasts_S128x1_S128x1)
          broadcasts_S128x1_S128x128))) bitsLt_bf16_f32 (ix2 r d) = I.u s n * I.sg s n := by
  subst es en
  rw [mix_at _ _ _ _ o (by omega), hu, ld_bias b j hg, hb]
  unfold In.sg
  have e1 : (p * 128 + r.val) % 128 = r.val := by omega
  have e2 : (p * 128 + r.val) / 128 * 128 = p * 128 := by omega
  have e3 : (o + d.val) / 128 = j := by omega
  rw [e1, e2, e3]
  refine congrArg (fun z => _ * (z + _)) (Finset.sum_congr rfl fun l _ => ?_)
  rw [hn, ld_head W j hg, hW]

end

/-! ## The blocks of a grid point -/

variable (m : (ℓ : Loc nD τ sig) → Buf (Elt Ideal) ℓ) (c : Dev nD) (t : Fin cfg0.N)

theorem idx : ∀ t : Fin cfg0.N, win0_0.index t = ![t.val, 0] ∧ win0_1.index t = ![0, 0] ∧ win0_2.index t = ![0, 0, 0]
    ∧ win0_3.index t = ![0, 0] ∧ win0_4.index t = ![t.val, 0] :=
  (by decide +kernel : ∀ t : Fin grid0.N, _)

abbrev args : In := Ref.ins (m ((c : Thread nD τ).loc main_arg0)) (m ((c : Thread nD τ).loc main_arg1)) (m ((c : Thread nD τ).loc main_arg2))
  (m ((c : Thread nD τ).loc main_arg3))

theorem blk0 (r : Fin 256) (d : Fin 3072) : (X0_0 m c t (ix2 r d) : EReal) = (args m c).z (t.val * 256 + r) d := by
  have hN := lt_of_lt_of_eq t.isLt N_0
  rw [inOf_z _ _ _ _ _ _ _ (by omega) (by omega)]
  unfold X0_0 Pipeline.Window.fill
  rw [dif_pos (moved0_0 t _)]
  blk_ext [iblk, V, idx t]

theorem blk1 (d : Fin 1536) : ((iblk m c 1 t : Vec Ideal S1x1536 .f32) (ix2 0 d) : EReal) = (args m c).g d := by
  rw [inOf_g _ _ _ _ _ _ d.isLt]
  blk_simp [iblk]
  entry_read
  pointwise
  blk_ext [idx t]

theorem blk2 (h : Fin 12) (a b : Fin 128) : ((iblk m c 2 t : Vec Ideal S12x128x128 .f32) (ix3 h a b) : EReal) = (args m c).w h a b := by
  rw [inOf_w _ _ _ _ _ _ _ _ h.isLt a.isLt b.isLt]
  blk_ext [iblk, V, idx t]

theorem blk3 (a : Fin 128) (h : Fin 12) : ((iblk m c 3 t : Vec Ideal S128x12 .f32) (ix2 a h) : EReal) = (args m c).b a h := by
  rw [inOf_b _ _ _ _ _ _ _ h.isLt a.isLt]
  blk_simp [iblk]
  entry_read
  pointwise
  blk_ext [idx t]

/-- The rows a chunk loads: `k` is the chunk of the two. -/
theorem rows (k o : ℕ) (hk : k < 2) (ho : o = 128 * k) (hi : ∀ a, (![o, 0] : Fin 2 → ℕ) a + S128x3072.size a ≤ S256x3072.size a)
    (r : Fin 128) (n : Fin 3072) :
    (View.ld (X0_0 m c t) (Rect.unit (s := S256x3072) ![o, 0] S128x3072.size hi) (ix2 r n) : EReal) = (args m c).z ((2 * t.val + k) * 128 + r) n := by
  refine (View.ld_unit_apply_of _ _ _ _ _ (ix2 (⟨o + r.val, by omega⟩ : Fin 256) n) fun a => ?_).trans ?_
  · fin_cases a <;> simp
  · rw [blk0]
    exact congrArg (fun s => (args m c).z s n) (by show t.val * 256 + (o + r.val) = (2 * t.val + k) * 128 + r.val; omega)

set_option maxHeartbeats 4000000 in
theorem point (y : Fin 256) (n : Fin 1536) :
    outsAt0 m c t (ix2 y n) = (args m c).u (t.val * 256 + y) n * (args m c).sg (t.val * 256 + y) n := by
  unfold outsAt0
  frame_out
  canon_tiles x h using View.cover_of_tiledBy _ ![128, 128] (by sl_kernel_rfl) (ix2 y n)
  all_goals idx_vars x
  iterate 12
    exact mix_of (u2_at (rows m c t 1 128 (by decide) (by rfl) _)) (n2_at (rows m c t 1 128 (by decide) (by rfl) _) (blk1 m c t)) (blk2 m c t) (blk3 m c t) _ _
      (by decide) (by rfl) _ _ _ x0 x1 (by omega) (by omega)
  all_goals
    exact mix_of (u_at (rows m c t 0 0 (by decide) (by rfl) _)) (n_at (rows m c t 0 0 (by decide) (by rfl) _) (blk1 m c t)) (blk2 m c t) (blk3 m c t) _ _
      (by decide) (by rfl) _ _ _ x0 x1 (by omega) (by omega)

/-! ## The result -/

theorem final4 (i : S4096x2048.Idx) (hi : (i 1).val < 1536) : (dats m 0 c).arrAt 4 cfg0.N i
    = GmlpFwdRefIdeal.Read.val_main_v34 (F := Ideal) (m ((c : Thread nD τ).loc main_arg0)) (m ((c : Thread nD τ).loc main_arg1))
        (m ((c : Thread nD τ).loc main_arg2)) (m ((c : Thread nD τ).loc main_arg3)) i := by
  have key := (dats m 0 c).arrAt_apply_of_coversWhere 4
    (GmlpFwdRefIdeal.Read.val_main_v34 (F := Ideal) (m ((c : Thread nD τ).loc main_arg0)) (m ((c : Thread nD τ).loc main_arg1))
        (m ((c : Thread nD τ).loc main_arg2)) (m ((c : Thread nD τ).loc main_arg3)))
    (P := fun i : S4096x2048.Idx => (i 1).val < 1536) (fun β => β 1 < 1) (by decide +kernel) (fun t hf' y => ?_) (fun j => ?_) i
  · rw [key, if_pos hi]
  · blk_simp
    rw [after0_4]
    obtain ⟨u, hu⟩ : ∃ u : S256x1536.Idx, u = (cfg0.win 4).xinj (cfg0.grid.coords t) y := ⟨_, rfl⟩
    have h0 : (u 0).val = (y 0).val := by rw [hu]
    have h1 : (u 1).val = (y 1).val := by rw [hu]
    have hN := lt_of_lt_of_eq t.isLt N_0
    rw [← hu]
    clear hu
    idx_vars u
    have b0 := u0.isLt
    have b1 := u1.isLt
    refine ((point m c t u0 u1).trans (Ref.out_at _ _ _ _ ⟨t.val * 256 + u0.val, by omega⟩ ⟨u1.val, by omega⟩ b1).symm).trans (congrArg _ ?_)
    blk_ext [idx t, ← h0, ← h1]
  · blk_simp [Pipeline.Window.cell_apply]
    omega

/-! ## The claim -/

/-- The mask leaves out the columns the kernel never writes. -/
theorem mask_out (x0 : FVec Ideal On_gate_mask.S4096x3584 .f32) (x1 : FVec Ideal On_gate_mask.S1536 .f32) (x2 : FVec Ideal On_gate_mask.S12x128x128 .f32)
    (x3 : FVec Ideal On_gate_mask.S12x128 .f32) (i : On_gate_mask.S4096x2048.Idx)
    (h : On_gate_mask.fn (F := Ideal) x0 x1 x2 x3 i = 1#1) : (i 1).val < 1536 := by
  unfold On_gate_mask.fn at h
  idx_vars i
  pointwise at h
  exact (by decide +kernel : ∀ n : Fin 2048, IntOp.cmpi .slt (BitVec.ofNat 32 n.val) 1536#32 = 1#1 → n.val < 1536) i1 h

theorem frame_ref : Cert.quiescent_GmlpFwdRefIdeal := fun m ρ _ =>
  (θ_run Cert.GmlpFwdRefIdeal.defs _ _).mono (fun r h => ⟨fun c => (h c).2, sem_eq_zero_of_no_sems (by decide) r.2⟩)
    (Cert.GmlpFwdRefIdeal.Value.run (F := Ideal) m ρ)

theorem algebraic : Cert.algebraic_GmlpFwdIdeal_GmlpFwdRefIdeal_on_gate_mask := by
  intro m g m' g' _ hagree
  refine ⟨fun c => (dats m 0 c).arrAt 4 cfg0.N, ?_, ?_⟩
  · run_from Cert.GmlpFwdIdeal.Value.run_blocks m g
    all_goals exact fun _ _ => trivial
  · run_from Cert.GmlpFwdRefIdeal.Value.run m' g'
    all_goals obtain ⟨e0, e1, e2, e3⟩ := hagree c
    intro i hi
    refine (congrFun (GmlpFwdRefIdeal.Read.val_main_v34_eq _ _ _ _) i).trans ?_
    rw [e3]
    exact (final4 m c i (mask_out _ _ _ _ i hi)).symm

end Cert.GmlpFwdProof
-- ==== Proof.MemOut.lean ====
/- The memory's attention (`_mem_fwd`): what the reference computes, in real numbers. -/
module

public import proofs.«01_k».proof.Defs
public import proofs.«01_k».proof.Proof.Gen.MemFwdRefIdeal.Read
public import proofs.«01_k».proof.Proof.MemReal

@[expose] public section

set_option maxRecDepth 16384

noncomputable section

namespace Cert.MemFwdProof

open Idealize.ShloMosaic Idealize.ShloMosaic.TcCoe Idealize.SL.Sem
open Cert.Lift
open Cert.MemAttnProof (rms hat qn kn sc pr zrow krow vrow)

/-- A lane of a head's result. -/
def res (x : Fin 128 → ℝ) (k v : Fin 256 → Fin 128 → ℝ) (gq gk : Fin 128 → ℝ) (d : Fin 128) : ℝ := ∑ j, pr x k gq gk j * v j d

namespace Ref

open Cert.MemFwdRefIdeal Cert.MemFwdRefIdeal.Read

variable (x0 : FVec Ideal S4096x3584 .f32) (x1 : FVec Ideal S256x1024 .f32) (x2 x3 : FVec Ideal S128 .f32)

variable (zr : ℕ → ℕ → ℝ) (hz : ∀ s n (hn : n < 3584), 3072 ≤ n → x0 (ix2 s ⟨n, hn⟩) = (zr s n : EReal))
  (kr : ℕ → ℕ → ℝ) (hk : ∀ s n hn, x1 (ix2 s ⟨n, hn⟩) = (kr s n : EReal))
  (gq : Fin 128 → ℝ) (hq : ∀ d, x2 (ix1 d) = (gq d : EReal))
  (gk : Fin 128 → ℝ) (hg : ∀ d, x3 (ix1 d) = (gk d : EReal))

include hk hg in
theorem key_at (j : Fin 256) (h : Fin 4) (d : Fin 128) :
    val_main_v16 (F := Ideal) x1 x3 (ix3 j h d) = (kn (krow kr h) gk j d : EReal) := by
  have hr := eps_pos
  pointwise [val_main_v1, val_main_v3, val_main_v4, val_main_cst, val_main_v5, val_main_v6, val_main_cst_0, val_main_v7, val_main_v8,
    val_main_cst_1, val_main_v9, val_main_v10, val_main_v11, val_main_v12, val_main_v13, val_main_v14, val_main_v15, val_main_v16]
  simp (disch := first | omega | positivity | norm_num) only [hk, hg, lit_128, lit_eps, ← EReal.coe_mul, ← EReal.coe_add, sum_coe,
    sq_real, div_coe, rsqrt_coe]
  rfl

include hz hq in
theorem query_at (s : Fin 4096) (h : Fin 4) (d : Fin 128) :
    val_main_v31 (F := Ideal) x0 x2 (ix3 s h d) = (qn (zrow zr s h) gq d : EReal) := by
  have hr := eps_pos
  pointwise [val_main_v0, val_main_v18, val_main_v19, val_main_cst_2, val_main_v20, val_main_v21, val_main_cst_3, val_main_v22,
    val_main_v23, val_main_cst_4, val_main_v24, val_main_v25, val_main_v26, val_main_v27, val_main_v28, val_main_v29, val_main_v30,
    val_main_v31]
  simp (disch := first | omega | positivity | norm_num) only [hz, hq, lit_128, lit_eps, ← EReal.coe_mul, ← EReal.coe_add, sum_coe,
    sq_real, div_coe, rsqrt_coe]
  rfl

include hz hk hq hg in
theorem score_at (h : Fin 4) (s : Fin 4096) (j : Fin 256) :
    val_main_v34 (F := Ideal) x0 x1 x2 x3 (ix3 h s j) = (sc (zrow zr s h) (krow kr h) gq gk j : EReal) := by
  pointwise [val_main_v32, val_main_cst_5, val_main_v33, val_main_v34]
  simp only [query_at x0 x2 zr hz gq hq, key_at x1 x3 kr hk gk hg, lit_scale, ← EReal.coe_mul, sum_coe]
  rfl

include hz hk hq hg in
theorem top_at (h : Fin 4) (s : Fin 4096) : ∃ M : ℝ, val_main_v37 (F := Ideal) x0 x1 x2 x3 (ix2 h s) = (M : EReal) := by
  have k : ∃ M : ℝ, val_main_v35 (F := Ideal) x0 x1 x2 x3 (ix2 h s) = (M : EReal) := by
    unfold val_main_v35
    refine host_max_real _ _ _ (fun i => ?_) _ (fun i => lit_bot) (ix2 h s) (ix3 h s 0) (by funext k; fin_cases k <;> rfl)
    idx_vars i
    exact ⟨_, score_at x0 x1 x2 x3 zr hz kr hk gq hq gk hg i0 i1 i2⟩
  obtain ⟨M, hM⟩ := k
  refine ⟨M, ?_⟩
  rw [val_main_v37_apply, hM]
  show max (Ideal.ofBits .f32 4286578688#32) (M : EReal) = _
  rw [lit_bot, max_eq_right bot_le]

theorem spread (h : Fin 4) (s : Fin 4096) (j : Fin 256) :
    val_main_v39 (F := Ideal) x0 x1 x2 x3 (ix3 h s j) = val_main_v37 (F := Ideal) x0 x1 x2 x3 (ix2 h s) := by
  rw [val_main_v39_apply, val_main_v38_apply]
  refine congrArg _ ?_
  funext a; fin_cases a <;> rfl

include hz hk hq hg in
theorem prob_at (h : Fin 4) (s : Fin 4096) (j : Fin 256) :
    val_main_v45 (F := Ideal) x0 x1 x2 x3 (ix3 h s j) = (pr (zrow zr s h) (krow kr h) gq gk j : EReal) := by
  obtain ⟨M, hM⟩ := top_at x0 x1 x2 x3 zr hz kr hk gq hq gk hg h s
  have he (j : Fin 256) : val_main_v41 (F := Ideal) x0 x1 x2 x3 (ix3 h s j)
      = ((Real.exp (sc (zrow zr s h) (krow kr h) gq gk j - M) : ℝ) : EReal) := by
    rw [val_main_v41_apply, val_main_v40_apply, spread, hM, score_at x0 x1 x2 x3 zr hz kr hk gq hq gk hg]
    show Ideal.exp ((sc (zrow zr s h) (krow kr h) gq gk j : EReal) - (M : EReal)) = _
    rw [← EReal.coe_sub, exp_coe]
  pointwise [val_main_v45, val_main_v44, val_main_v43, val_main_cst_8, val_main_v42]
  have hs : (∑ j', Real.exp (sc (zrow zr s h) (krow kr h) gq gk j' - M)) ≠ 0 := (exps_pos _).ne'
  simp (disch := exact hs) only [he, sum_coe, div_coe]
  exact congrArg _ (prob_shift (fun j => sc (zrow zr s h) (krow kr h) gq gk j) M j)

include hz hk hq hg in
theorem res_at (s : Fin 4096) (h : Fin 4) (d : Fin 128) :
    val_main_v47 (F := Ideal) x0 x1 x2 x3 (ix3 s h d) = (res (zrow zr s h) (krow kr h) (vrow kr h) gq gk d : EReal) := by
  pointwise [val_main_v2, val_main_v17, val_main_v46, val_main_v47]
  simp (disch := omega) only [prob_at x0 x1 x2 x3 zr hz kr hk gq hq gk hg, hk, ← EReal.coe_mul, sum_coe]
  exact congrArg _ (Finset.sum_congr rfl fun j _ => mul_comm _ _)

/-- The columns that the call leaves alone. -/
theorem out_left (x4 : FVec Ideal S4096x2048 .bf16) (s : Fin 4096) (n : Fin 2048) (hn : n.val < 1536) :
    val_main_v51 (F := Ideal) x0 x1 x2 x3 x4 (ix2 s n) = x4 (ix2 s n) := by
  unfold val_main_v51 val_main_v50 val_main_v49
  pointwise
  rw [dif_pos hn]

include hz hk hq hg in
theorem out_right (x4 : FVec Ideal S4096x2048 .bf16) (s : Fin 4096) (h : Fin 4) (d : Fin 128) (n : Fin 2048)
    (hn : n.val = 1536 + (h.val * 128 + d.val)) :
    val_main_v51 (F := Ideal) x0 x1 x2 x3 x4 (ix2 s n) = (res (zrow zr s h) (krow kr h) (vrow kr h) gq gk d : EReal) := by
  have hl : 1536 + (h.val * 128 + d.val) < 2048 := by omega
  obtain rfl : n = ⟨1536 + (h.val * 128 + d.val), hl⟩ := Fin.ext hn
  have h1 : ¬ 1536 + (h.val * 128 + d.val) < 1536 := by omega
  unfold val_main_v51 val_main_v50 val_main_v49 val_main_v48
  pointwise
  exact res_at x0 x1 x2 x3 zr hz kr hk gq hq gk hg s h d

end Ref

end Cert.MemFwdProof
-- ==== Proof.MemFwd.lean ====
/- The memory's attention (`_mem_fwd`): the kernel's values are the reference's.

   Each grid point takes 512 rows, norms their queries and the memory's keys, and writes the four heads' weighted values into the
   last 512 columns of its rows of an array whose other columns it leaves as they were. -/
module

public import proofs.«01_k».proof.Defs
public import proofs.«01_k».proof.Proof.Gen.Pre_finite_mfwd
public import proofs.«01_k».proof.Proof.Gen.MemFwdIdeal.Value
public import proofs.«01_k».proof.Proof.Gen.MemFwdRefIdeal.Run
public import proofs.«01_k».proof.Proof.MemOut

@[expose] public section

set_option maxRecDepth 16384

noncomputable section

namespace Cert.MemFwdProof

open Idealize.ShloMosaic Idealize.ShloMosaic.TcCoe Idealize.SL.Sem
open Cert.Lift
open Cert.MemAttnProof (rms hat qn kn sc pr zrow krow vrow)

section Kernel
open Cert.MemFwdIdeal Cert.MemFwdIdeal.Gen

/-! ## A head of a tile -/

section Head
/- A head's block of the queries, of the keys and of the values, and the two gains. -/
variable (z : FVec Ideal S512x128 .f32) (k v : FVec Ideal S256x128 .f32) (g b : FVec Ideal S1x128 .f32)

/-- What a head stores. The four heads' stores are it, up to how their values are named. -/
def head : FVec Ideal S512x128 .bf16 := k0_pay4 (k0_pay1 v) (k0_pay2 z k b g) (k0_pay3 z k b g)

theorem head0 : k0_pay4 (k0_pay1 v) (k0_pay2 z k b g) (k0_pay3 z k b g) = head z k v g b := rfl
theorem head1 : k0_pay8 (k0_pay5 z) (k0_pay6 k b) (k0_pay7 v) g = head z k v g b := rfl
theorem head2 : k0_pay11 (k0_pay9 z) k (k0_pay10 k) b v g = head z k v g b := rfl
theorem head3 : k0_pay13 (k0_pay12 z) k b v g = head z k v g b := rfl

variable (zr : Fin 512 → Fin 128 → ℝ) (hz : ∀ s d, z (ix2 s d) = (zr s d : EReal))
  (kr : Fin 256 → Fin 128 → ℝ) (hk : ∀ s d, k (ix2 s d) = (kr s d : EReal))
  (vr : Fin 256 → Fin 128 → ℝ) (hv : ∀ s d, v (ix2 s d) = (vr s d : EReal))
  (gq : Fin 128 → ℝ) (hq : ∀ d, g (ix2 0 d) = (gq d : EReal))
  (gk : Fin 128 → ℝ) (hg : ∀ d, b (ix2 0 d) = (gk d : EReal))

include hz hk hq hg in
theorem score_at (s : Fin 512) (j : Fin 256) : k0_pay2 (F := Ideal) z k b g (ix2 s j) = (sc (zr s) kr gq gk j : EReal) := by
  have hr := eps_pos
  pointwise [k0_pay2]
  simp (disch := first | positivity | norm_num) only [hz, hk, hq, hg, lit_128, lit_eps, lit_scale, ← EReal.coe_mul, ← EReal.coe_add,
    sum_coe, sq_real, div_coe, rsqrt_coe]
  rfl

include hz hk hv hq hg in
theorem head_at (s : Fin 512) (d : Fin 128) : head z k v g b (ix2 s d) = (res (zr s) kr vr gq gk d : EReal) := by
  unfold head
  pointwise [k0_pay4, k0_pay3, k0_pay1]
  simp only [score_at z k g b zr hz kr hk gq hq gk hg, hv, lit_bot]
  obtain ⟨M, hM⟩ := fold_max_coe fun j => sc (zr s) kr gq gk j
  rw [hM]
  have hp : (∑ j', Real.exp (sc (zr s) kr gq gk j' - M)) ≠ 0 := (exps_pos _).ne'
  simp (disch := exact hp) only [← EReal.coe_sub, exp_coe, sum_coe, div_coe, ← EReal.coe_mul]
  refine congrArg _ (Finset.sum_congr rfl fun j _ => ?_)
  rw [prob_shift (fun j => sc (zr s) kr gq gk j) M j]
  rfl

end Head

/-! ## The blocks of a grid point -/

variable (m : (ℓ : Loc nD τ sig) → Buf (Elt Ideal) ℓ) (c : Dev nD) (t : Fin cfg0.N)

theorem idx : ∀ t : Fin cfg0.N, win0_0.index t = ![t.val, 6] ∧ win0_1.index t = ![0, 0] ∧ win0_2.index t = ![0, 0]
    ∧ win0_3.index t = ![0, 0] ∧ win0_4.index t = ![t.val, 3] :=
  (by decide +kernel : ∀ t : Fin grid0.N, _)

/-- Row `r` of the `t`-th block of 512 rows. -/
def row (r : Fin 512) : Fin 4096 :=
  ⟨512 * t.val + r, by have := lt_of_lt_of_eq t.isLt N_0; omega⟩

theorem blk0 (r d : Fin 512) : iblk m c 0 t (ix2 r d) = m ((c : Thread nD τ).loc main_arg0) (ix2 (row t r) ⟨3072 + d, by omega⟩) := by
  blk_ext [iblk, V, row, idx t]

theorem blk1 : iblk m c 1 t = m ((c : Thread nD τ).loc main_arg1) := by
  blk_ext! [iblk, V, idx t]

theorem blk2 (d : Fin 128) : iblk m c 2 t (ix2 0 d) = m ((c : Thread nD τ).loc main_arg2) (ix1 d) := by
  blk_simp [iblk]
  entry_read
  pointwise
  blk_ext [idx t]

theorem blk3 (d : Fin 128) : iblk m c 3 t (ix2 0 d) = m ((c : Thread nD τ).loc main_arg3) (ix1 d) := by
  blk_simp [iblk]
  entry_read
  pointwise
  blk_ext [idx t]

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)

variable (zr : ℕ → ℕ → ℝ) (hz : ∀ s n (hn : n < 3584), 3072 ≤ n → A0 m c (ix2 s ⟨n, hn⟩) = (zr s n : EReal))
  (kr : ℕ → ℕ → ℝ) (hk : ∀ s n hn, A1 m c (ix2 s ⟨n, hn⟩) = (kr s n : EReal))
  (gq : Fin 128 → ℝ) (hq : ∀ d, A2 m c (ix1 d) = (gq d : EReal))
  (gk : Fin 128 → ℝ) (hg : ∀ d, A3 m c (ix1 d) = (gk d : EReal))
  (h o p : ℕ) (ho : o = h * 128) (hp : p = 512 + h * 128) (hh : h < 4)

include hz ho hh in
theorem tile_z (inb) (s : Fin 512) (d : Fin 128) :
    View.ld (iblk m c 0 t) (Rect.unit (s := S512x512) ![0, o] ![512, 128] inb) (ix2 s d) = (zrow zr (row t s) h d : EReal) := by
  subst ho
  refine Eq.trans (View.ld_unit_apply_of _ _ _ _ _ (ix2 s ⟨h * 128 + d, by omega⟩) fun a => ?_) ?_
  · fin_cases a <;> simp
  · rw [blk0]; exact hz _ _ _ (by omega)

include hk in
theorem tile_kv (q : ℕ) (hq : q + 128 ≤ 1024) (inb) (s : Fin 256) (d : Fin 128) :
    View.ld (iblk m c 1 t) (Rect.unit (s := S256x1024) ![0, q] ![256, 128] inb) (ix2 s d) = (kr s (q + d) : EReal) := by
  refine Eq.trans (View.ld_unit_apply_of _ _ _ _ _ (ix2 s ⟨q + d, by omega⟩) fun a => ?_) ?_
  · fin_cases a <;> simp
  · rw [blk1]; exact hk _ _ _

include hz hk hq hg ho hp hh in
/-- What a head stores is the reference's entry. -/
theorem piece (i0 i1 i2) (x4 : FVec Ideal S4096x2048 .bf16) (s : Fin 4096) (n : Fin 2048) (r : Fin 512) (d : Fin 128)
    (hs : s.val = t.val * 512 + r.val) (hn : n.val = 1536 + (h * 128 + d.val)) :
    head (View.ld (iblk m c 0 t) (Rect.unit (s := S512x512) ![0, o] ![512, 128] i0))
        (View.ld (iblk m c 1 t) (Rect.unit (s := S256x1024) ![0, o] ![256, 128] i1))
        (View.ld (iblk m c 1 t) (Rect.unit (s := S256x1024) ![0, p] ![256, 128] i2)) (iblk m c 2 t) (iblk m c 3 t) (ix2 r d)
      = MemFwdRefIdeal.Read.val_main_v51 (F := Ideal) (A0 m c) (A1 m c) (A2 m c) (A3 m c) x4 (ix2 s n) := by
  have e : row t r = s := Fin.ext (by show 512 * t.val + r.val = s.val; omega)
  rw [Ref.out_right _ _ _ _ zr hz kr hk gq hq gk hg x4 s ⟨h, hh⟩ d n hn, ← e]
  refine head_at _ _ _ _ _ _ (tile_z m c t zr hz h o ho hh i0) (krow kr h) (fun j d => ?_) (vrow kr h) (fun j d => ?_) gq
    (fun d => (blk2 m c t d).trans (hq d)) gk (fun d => (blk3 m c t d).trans (hg d)) r d
  · rw [tile_kv m c t kr hk o (by omega) i1, ho]; rfl
  · rw [tile_kv m c t kr hk p (by omega) i2, hp, add_assoc]; rfl

include hz hk hq hg in
theorem point (x4 : FVec Ideal S4096x2048 .bf16) (y n : Fin 512) (s : Fin 4096) (q : Fin 2048) (hs : s.val = t.val * 512 + y.val)
    (hn : q.val = 1536 + n.val) :
    outsAt0 m c t (ix2 y n) = MemFwdRefIdeal.Read.val_main_v51 (F := Ideal) (A0 m c) (A1 m c) (A2 m c) (A3 m c) x4 (ix2 s q) := by
  unfold outsAt0
  frame_out
  simp only [head0, head1, head2, head3]
  canon_tiles x h using View.cover_of_tiledBy _ ![512, 128] (by sl_kernel_rfl) (ix2 y n)
  all_goals idx_vars x
  · exact piece m c t zr hz kr hk gq hq gk hg 3 384 896 rfl rfl (by norm_num) _ _ _ x4 s q x0 x1 (by omega) (by omega)
  · exact piece m c t zr hz kr hk gq hq gk hg 2 256 768 rfl rfl (by norm_num) _ _ _ x4 s q x0 x1 (by omega) (by omega)
  · exact piece m c t zr hz kr hk gq hq gk hg 1 128 640 rfl rfl (by norm_num) _ _ _ x4 s q x0 x1 (by omega) (by omega)
  · exact piece m c t zr hz kr hk gq hq gk hg 0 0 512 rfl rfl (by norm_num) _ _ _ x4 s q x0 x1 (by omega) (by omega)

/-! ## The result -/

theorem entry_cat : V m c (Pipeline.arrRef spec0 4) = A4 m c := by unfold V; after_results; try rfl

include hz hk hq hg in
theorem final4 : (dats m 0 c).arrAt 4 cfg0.N
    = MemFwdRefIdeal.Read.val_main_v51 (F := Ideal) (A0 m c) (A1 m c) (A2 m c) (A3 m c) (A4 m c) := by
  refine (dats m 0 c).arrAt_eq_of_coversWhere_of_agree 4 _ (fun β => 3 ≤ β 1) (by decide +kernel) (fun t hf y => ?_) (fun j hj => ?_)
  · blk_simp
    rw [after0_4]
    idx_vars y
    refine (point m c t zr hz kr hk gq hq gk hg _ y0 y1 ⟨t.val * 512 + y0.val, ?_⟩ ⟨1536 + y1.val, by omega⟩ rfl rfl).trans
      (congrArg _ ?_)
    · have := lt_of_lt_of_eq t.isLt N_0
      omega
    · blk_ext [idx t]
  · idx_vars j
    blk_simp [Pipeline.Window.cell_apply] at hj
    rw [A_eq, entry_cat]
    exact (Ref.out_left _ _ _ _ _ j0 j1 (by omega)).symm

end Kernel

/-! ## The claim -/

/-- The precondition says that the queries' columns, the keys and values and the gains are real numbers. -/
theorem finite (x0 : FVec Ideal Pre_finite_mfwd.S4096x3584 .f32) (x1 : FVec Ideal Pre_finite_mfwd.S256x1024 .f32)
    (x2 x3 : FVec Ideal Pre_finite_mfwd.S128 .f32) (x4 : FVec Ideal Pre_finite_mfwd.S4096x2048 .bf16)
    (h : Pre_finite_mfwd.fn (F := Ideal) x0 x1 x2 x3 x4 = fun _ => 1#1) :
    (∃ r : ℕ → ℕ → ℝ, ∀ (s : Fin 4096) (n : ℕ) (hn : n < 3584), 3072 ≤ n → x0 (ix2 s ⟨n, hn⟩) = (r s n : EReal))
    ∧ (∃ r : ℕ → ℕ → ℝ, ∀ (s : Fin 256) (n : ℕ) (hn : n < 1024), x1 (ix2 s ⟨n, hn⟩) = (r s n : EReal))
    ∧ (∃ g : Fin 128 → ℝ, ∀ d, x2 (ix1 d) = (g d : EReal)) ∧ (∃ g : Fin 128 → ℝ, ∀ d, x3 (ix1 d) = (g d : EReal)) := by
  have h0 := congrFun h ix0
  unfold Pre_finite_mfwd.fn at h0
  obtain ⟨h0, h3⟩ := IntOp.andi_eq_one.1 h0
  obtain ⟨h0, h2⟩ := IntOp.andi_eq_one.1 h0
  obtain ⟨h0, h1⟩ := IntOp.andi_eq_one.1 h0
  refine ⟨table x0 3072 fun s n hn hl => ?_, ?_, ⟨_, fun d => real_of_all _ _ _ _ _ _ h2 (fun _ => rfl) (ix1 d)⟩,
    ⟨_, fun d => real_of_all _ _ _ _ _ _ h3 (fun _ => rfl) (ix1 d)⟩⟩
  · obtain ⟨d, rfl⟩ := Nat.exists_eq_add_of_le hl
    have e := real_of_all _ _ _ _ _ _ h0 (fun _ => rfl) (ix2 s ⟨d, by omega⟩)
    pointwise at e
    exact e
  · obtain ⟨r, hr⟩ := table x1 0 fun s n hn _ => real_of_all _ _ _ _ _ _ h1 (fun _ => rfl) (ix2 s ⟨n, hn⟩)
    exact ⟨r, fun s n hn => hr s n hn (Nat.zero_le _)⟩

theorem frame_ref : Cert.quiescent_MemFwdRefIdeal := fun m ρ _ =>
  (θ_run Cert.MemFwdRefIdeal.defs _ _).mono (fun r h => ⟨fun c => (h c).2, sem_eq_zero_of_no_sems (by decide) r.2⟩)
    (Cert.MemFwdRefIdeal.Value.run (F := Ideal) m ρ)

theorem algebraic : Cert.algebraic_MemFwdIdeal_MemFwdRefIdeal_pre_finite_mfwd := by
  pair_intro
  · run_from Cert.MemFwdIdeal.Value.run_blocks m g
  · run_from Cert.MemFwdRefIdeal.Value.run m' g'
    obtain ⟨e0, e1, e2, e3, e4⟩ := hagree c
    obtain ⟨⟨zr, hz⟩, ⟨kr, hk⟩, ⟨gq, hq⟩, ⟨gk, hg⟩⟩ := finite _ _ _ _ _ (hpre c)
    refine (MemFwdRefIdeal.Read.val_main_v51_eq m' c).trans ?_
    rw [e0, e1, e2, e3, e4]
    exact (final4 m c zr hz kr hk gq hq gk hg).symm

end Cert.MemFwdProof
-- ==== Proof.PrepFwdTab.lean ====
/- The rotary embedding's tables as the forward kernel's host code computes them, in real numbers. -/
module

public import Idealize.ShloMosaic.Lib.StableHlo.RunRead
public import Idealize.ShloMosaic.Lib.StableHlo.RunLoop
import proofs.«01_k».proof.Defs
public import proofs.«01_k».proof.Proof.Gen.PrepFwdIdeal.Value
public import proofs.«01_k».proof.Proof.Lift
public import proofs.«01_k».proof.Proof.PrepReal

@[expose] public section

set_option maxRecDepth 16384

noncomputable section

namespace Cert.PrepFwdProof

open Idealize.ShloMosaic Idealize.ShloMosaic.TcCoe Idealize.SL.Sem
open Cert.Lift
open Cert.PrepProof (ang freq lit_32 lit_theta word_real pow_coe cos_coe sin_coe)
open Cert.PrepFwdIdeal Cert.PrepFwdIdeal.Gen

/-! ## The parts of the host line, each from any contents -/

variable (σ : Valuation τ sig (Elt Ideal))

theorem angles (r : Fin 4096) (i : Fin 128) :
    (StableHlo.after (hostOps0 (F := Ideal)) σ (Proc.devRef .tc main_v28) : Vec Ideal S4096x128 .f32) (ix2 r i)
      = (ang r i : EReal) := by
  after_reads_simp
  pointwise
  after_reads_simp
  pointwise
  simp (disch := first | omega | norm_num) only [lit_32, lit_theta, word_real, ← EReal.coe_neg, div_coe, pow_coe, ← EReal.coe_mul]
  unfold ang freq
  split_ifs with h1 h2 h3 h4 h5 h6 <;> first | omega | (congr 4; congr 2; congr 1; omega)

theorem cos0 (r : Fin 4096) (i : Fin 128) :
    (StableHlo.after (hostOps0 (F := Ideal)) σ (Proc.devRef .tc main_v29) : Vec Ideal S4096x128 .f32) (ix2 r i)
      = (Real.cos (ang r i) : EReal) := by
  have h : @Eq (FVec Ideal S4096x128 .f32) (StableHlo.after (hostOps0 (F := Ideal)) σ (Proc.devRef .tc main_v29))
      (Host.cos (F := Ideal) (φ := .f32) (StableHlo.after (hostOps0 (F := Ideal)) σ (Proc.devRef .tc main_v28))) := by
    after_reads_simp
  rw [h]
  pointwise
  rw [angles, cos_coe]

theorem sin0 (r : Fin 4096) (i : Fin 128) :
    (StableHlo.after (hostOps0 (F := Ideal)) σ (Proc.devRef .tc main_v30) : Vec Ideal S4096x128 .f32) (ix2 r i)
      = (Real.sin (ang r i) : EReal) := by
  have h : @Eq (FVec Ideal S4096x128 .f32) (StableHlo.after (hostOps0 (F := Ideal)) σ (Proc.devRef .tc main_v30))
      (Host.sin (F := Ideal) (φ := .f32) (StableHlo.after (hostOps0 (F := Ideal)) σ (Proc.devRef .tc main_v28))) := by
    after_reads_simp
  rw [h]
  pointwise
  rw [angles, sin_coe]

theorem lane0 : (StableHlo.after (hostOps0 (F := Ideal)) σ (Proc.devRef .tc main_v31) : IVec S128 32) = iotaInDim S128 32 0 := by
  after_reads_simp; try rfl

theorem sixty_four :
    (StableHlo.after (hostOps0 (F := Ideal)) σ (Proc.devRef .tc main_c) : IVec S_ 32) = constantI S_ 32 64#32 := by
  after_reads_simp; try rfl

/-- The lane's place in its half of a head. -/
theorem lane_mod (h : (σ (Proc.devRef .tc main_v31) : IVec S128 32) = iotaInDim S128 32 0)
    (hc : (σ (Proc.devRef .tc main_c) : IVec S_ 32) = constantI S_ 32 64#32) (i : Fin 128) :
    (StableHlo.after (hostOps0_1 (F := Ideal)) σ (Proc.devRef .tc main_v32) : IVec S128 32) (ix1 i) = BitVec.ofNat 32 (i % 64) := by
  after_reads_simp
  rw [h, hc]
  simp -implicitDefEqProofs only [StableHlo.TRef.toBuf, StableHlo.TRef.ofBuf, cast_cast, cast_eq, id]
  pointwise
  revert i
  decide +kernel

theorem first_half (h : ∀ i, (σ (Proc.devRef .tc main_v32) : IVec S128 32) (ix1 i) = BitVec.ofNat 32 (i % 64)) (i : Fin 128) :
    (StableHlo.after (hostOps0_2 (F := Ideal)) σ (Proc.devRef .tc main_v34) : IVec S128 1) (ix1 i)
      = if i.val % 64 < 32 then (1 : BitVec 1) else 0 := by
  after_reads_simp
  pointwise
  rw [h]
  exact (by decide +kernel : ∀ i : Fin 128, IntOp.cmpi .slt (BitVec.ofNat 32 (i.val % 64)) 32#32
    = if i.val % 64 < 32 then (1 : BitVec 1) else 0) i

theorem minus_sin (r : Fin 4096) (i : Fin 128) (s : ℝ)
    (h : (σ (Proc.devRef .tc main_v30) : Vec Ideal S4096x128 .f32) (ix2 r i) = (s : EReal)) :
    (StableHlo.after (hostOps0_2 (F := Ideal)) σ (Proc.devRef .tc main_v35) : Vec Ideal S4096x128 .f32) (ix2 r i)
      = ((-s : ℝ) : EReal) := by
  after_reads_simp
  pointwise
  rw [h, EReal.coe_neg]

theorem zero2 : (StableHlo.after (hostOps0_2 (F := Ideal)) σ (Proc.devRef .tc main_cst_2) : Vec Ideal S_ .f32) ix0 = (0 : EReal) := by
  after_reads_simp
  pointwise

theorem zero4 : (StableHlo.after (hostOps0_4 (F := Ideal)) σ (Proc.devRef .tc main_cst_3) : Vec Ideal S_ .f32) ix0 = (0 : EReal) := by
  after_reads_simp
  pointwise

theorem where3 (r : Fin 4096) (i : Fin 128) (s : ℝ)
    (hm : (σ (Proc.devRef .tc main_v34) : IVec S128 1) (ix1 i) = if i.val % 64 < 32 then (1 : BitVec 1) else 0)
    (h : (σ (Proc.devRef .tc main_v35) : Vec Ideal S4096x128 .f32) (ix2 r i) = (s : EReal))
    (h0 : (σ (Proc.devRef .tc main_cst_2) : Vec Ideal S_ .f32) ix0 = (0 : EReal)) :
    (StableHlo.after (hostOps0_3 (F := Ideal)) σ (Proc.devRef .tc main_v36) : Vec Ideal S4096x128 .f32) (ix2 r i)
      = ((if i.val % 64 < 32 then s else 0 : ℝ) : EReal) := by
  after_reads_simp
  simp -implicitDefEqProofs only [StableHlo.TRef.toBuf, StableHlo.TRef.ofBuf, cast_cast, cast_eq, id]
  pointwise
  rw [hm, h, h0]
  split_ifs <;> rfl

theorem where5 (r : Fin 4096) (i : Fin 128) (s : ℝ)
    (hm : (σ (Proc.devRef .tc main_v34) : IVec S128 1) (ix1 i) = if i.val % 64 < 32 then (1 : BitVec 1) else 0)
    (h : (σ (Proc.devRef .tc main_v30) : Vec Ideal S4096x128 .f32) (ix2 r i) = (s : EReal))
    (h0 : (σ (Proc.devRef .tc main_cst_3) : Vec Ideal S_ .f32) ix0 = (0 : EReal)) :
    (StableHlo.after (hostOps0_5 (F := Ideal)) σ (Proc.devRef .tc main_v37) : Vec Ideal S4096x128 .f32) (ix2 r i)
      = ((if i.val % 64 < 32 then 0 else s : ℝ) : EReal) := by
  after_reads_simp
  simp -implicitDefEqProofs only [StableHlo.TRef.toBuf, StableHlo.TRef.ofBuf, cast_cast, cast_eq, id]
  pointwise
  rw [hm, h, h0]
  split_ifs <;> rfl

/-! ## The tables the kernel is launched on -/

variable (m : (ℓ : Loc nD τ sig) → Buf (Elt Ideal) ℓ)

/-- The contents after the first parts of the line. -/
abbrev σ1 (c : Dev nD) : Valuation τ sig (Elt Ideal) := StableHlo.after (hostOps0 (F := Ideal)) (fun b => m (c, b))
abbrev σ2 (c : Dev nD) : Valuation τ sig (Elt Ideal) := StableHlo.after (hostOps0_1 (F := Ideal)) (σ1 m c)
abbrev σ3 (c : Dev nD) : Valuation τ sig (Elt Ideal) := StableHlo.after (hostOps0_2 (F := Ideal)) (σ2 m c)
abbrev σ4 (c : Dev nD) : Valuation τ sig (Elt Ideal) := StableHlo.after (hostOps0_3 (F := Ideal)) (σ3 m c)
abbrev σ5 (c : Dev nD) : Valuation τ sig (Elt Ideal) := StableHlo.after (hostOps0_4 (F := Ideal)) (σ4 m c)

theorem V_eq (c : Dev nD) (b : Ref sig .tc) :
    V m c b = StableHlo.after (hostOps0_5 (F := Ideal)) (σ5 m c) (Proc.devRef .tc b) := by
  unfold V
  rw [← StableHlo.afterL_eq_after_flatten]
  rfl

theorem keep30_1 : StableHlo.after (hostOps0_1 (F := Ideal)) σ (Proc.devRef .tc main_v30) = σ (Proc.devRef .tc main_v30) := by
  after_reads_simp
theorem keep30_2 : StableHlo.after (hostOps0_2 (F := Ideal)) σ (Proc.devRef .tc main_v30) = σ (Proc.devRef .tc main_v30) := by
  after_reads_simp
theorem keep30_3 : StableHlo.after (hostOps0_3 (F := Ideal)) σ (Proc.devRef .tc main_v30) = σ (Proc.devRef .tc main_v30) := by
  after_reads_simp
theorem keep30_4 : StableHlo.after (hostOps0_4 (F := Ideal)) σ (Proc.devRef .tc main_v30) = σ (Proc.devRef .tc main_v30) := by
  after_reads_simp
theorem keep34_3 : StableHlo.after (hostOps0_3 (F := Ideal)) σ (Proc.devRef .tc main_v34) = σ (Proc.devRef .tc main_v34) := by
  after_reads_simp
theorem keep34_4 : StableHlo.after (hostOps0_4 (F := Ideal)) σ (Proc.devRef .tc main_v34) = σ (Proc.devRef .tc main_v34) := by
  after_reads_simp
theorem keep36_4 : StableHlo.after (hostOps0_4 (F := Ideal)) σ (Proc.devRef .tc main_v36) = σ (Proc.devRef .tc main_v36) := by
  after_reads_simp
theorem keep36_5 : StableHlo.after (hostOps0_5 (F := Ideal)) σ (Proc.devRef .tc main_v36) = σ (Proc.devRef .tc main_v36) := by
  after_reads_simp
theorem keep29 (c : Dev nD) : StableHlo.after (hostOps0_5 (F := Ideal)) (σ5 m c) (Proc.devRef .tc main_v29) = σ1 m c (Proc.devRef .tc main_v29) := by
  unfold σ5 σ4 σ3 σ2
  generalize σ1 m c = s
  after_reads_simp

theorem mask (c : Dev nD) (i : Fin 128) :
    (σ3 m c (Proc.devRef .tc main_v34) : IVec S128 1) (ix1 i) = if i.val % 64 < 32 then (1 : BitVec 1) else 0 :=
  first_half _ (fun i => lane_mod _ (lane0 _) (sixty_four _) i) i

theorem cos_tab (c : Dev nD) (r : Fin 4096) (i : Fin 128) :
    (V m c main_v29 : Vec Ideal S4096x128 .f32) (ix2 r i) = (Real.cos (ang r i) : EReal) := by
  rw [V_eq, keep29]
  exact cos0 _ r i

theorem sa_tab (c : Dev nD) (r : Fin 4096) (i : Fin 128) :
    (V m c main_v36 : Vec Ideal S4096x128 .f32) (ix2 r i)
      = ((if i.val % 64 < 32 then -Real.sin (ang r i) else 0 : ℝ) : EReal) := by
  rw [V_eq, keep36_5]
  unfold σ5
  rw [keep36_4]
  exact where3 _ r i _ (mask m c i)
    (minus_sin _ r i _ ((congrFun (keep30_1 (σ1 m c)) _).trans (sin0 _ r i))) (zero2 _)

theorem sb_tab (c : Dev nD) (r : Fin 4096) (i : Fin 128) :
    (V m c main_v37 : Vec Ideal S4096x128 .f32) (ix2 r i)
      = ((if i.val % 64 < 32 then 0 else Real.sin (ang r i) : ℝ) : EReal) := by
  rw [V_eq]
  refine where5 _ r i _ ?_ ?_ (zero4 _)
  · unfold σ5 σ4
    rw [keep34_4, keep34_3]
    exact mask m c i
  · unfold σ5 σ4 σ3 σ2
    rw [keep30_4, keep30_3, keep30_2, keep30_1]
    exact sin0 _ r i

end Cert.PrepFwdProof
-- ==== Proof.PrepFwd.lean ====
/- The rotary embedding and the norms of the queries and keys (`_attn_prep_fwd`): the kernel's results are the reference's, whatever
   the arguments.

   A grid point takes 256 rows. A head's turned values ask for nothing but that head's 128 columns of a row, the gain and the row's
   angles. The kernel turns with two rolls and two tables, each zero on the lanes the other serves; the reference pairs the lanes.
   The queries are also multiplied by the score's scale over the logarithm of two, one named constant in the kernel. -/
module

public import proofs.«01_k».proof.Defs
public import proofs.«01_k».proof.Proof.Gen.PrepFwdRefIdeal.Run
public import proofs.«01_k».proof.Proof.Gen.PrepFwdRefIdeal.Read
public import proofs.«01_k».proof.Proof.Gen.PrepFwdIdeal.Value
public import proofs.«01_k».proof.Proof.PrepFwdTab
public import proofs.«01_k».proof.Proof.FlashReal
public import Idealize.ShloMosaic.Lib.Pipeline.ReadBack

@[expose] public section

set_option maxRecDepth 16384

noncomputable section

namespace Cert.PrepFwdProof

open Idealize.ShloMosaic Idealize.ShloMosaic.TcCoe Idealize.SL.Sem
open Idealize.ShloMosaic.Pipeline (Dat)
open Cert.Lift
open Cert.PrepProof (ang freq lit_32 lit_theta word_real pow_coe cos_coe sin_coe)
open Cert.FlashProof (log_coe lit_two log2_pos)

/-! ## One head of one row -/

/-- An entry of a normed head. -/
def nrm (x g : Fin 128 → EReal) (d : Fin 128) : EReal :=
  x d * Ideal.rsqrt (Ideal.div (∑ k : Fin 128, x k * x k) (Ideal.ofBits .f32 0x43000000#32) + Ideal.ofBits .f32 0x358637BD#32) * g d

/-- The lane a lane is paired with. -/
def mate (d : Fin 128) : Fin 128 := if d.val % 64 < 32 then ⟨(d.val + 32) % 128, by omega⟩ else ⟨d.val - 32, by omega⟩

/-- An entry of row `s`'s head after the embedding. -/
def turned (s : ℕ) (x g : Fin 128 → EReal) (d : Fin 128) : EReal :=
  nrm x g d * (Real.cos (ang s d) : EReal)
    + (if d.val % 64 < 32 then -nrm x g (mate d) else nrm x g (mate d)) * (Real.sin (ang s d) : EReal)

/-- The pairs as the reference's reshapes lay them out. -/
theorem paired (x g : Fin 128 → EReal) (s : ℕ) (d : Fin 128) :
    nrm x g d * (Real.cos (ang s d) : EReal)
        + (if h : d.val / 32 % 2 < 1 then -nrm x g ⟨d.val / 64 * 64 + 32 + d.val % 32, by omega⟩
            else nrm x g ⟨d.val / 64 * 64 + d.val % 32, by omega⟩) * (Real.sin (ang s d) : EReal)
      = turned s x g d := by
  unfold turned mate
  by_cases h : d.val % 64 < 32
  · rw [dif_pos (by omega), if_pos h, if_pos h]
    congr 4
    exact Fin.ext (by show d.val / 64 * 64 + 32 + d.val % 32 = (d.val + 32) % 128; omega)
  · rw [dif_neg (by omega), if_neg h, if_neg h]
    congr 3
    exact Fin.ext (by show d.val / 64 * 64 + d.val % 32 = d.val - 32; omega)

/-- The scale of the scores, as its word stores it. -/
theorem lit_scale : Ideal.ofBits .f32 0x3DB504F3#32 = ((11863283 * 134217728⁻¹ : ℝ) : EReal) := by
  simp [Ideal.ofBits, Ideal.ieee]; rw [← EReal.coe_mul]; congr 1; norm_num

/-- Scaling and then dividing by a number is one multiplication. -/
theorem scaled (y : EReal) (a b : ℝ) (hb : b ≠ 0) : Ideal.div (y * (a : EReal)) (b : EReal) = y * ((a * b⁻¹ : ℝ) : EReal) := by
  rw [Ideal.div_coe hb, mul_assoc, ← EReal.coe_mul, one_div]

/-! ## The reference -/

section Reference
open Cert.PrepFwdRefIdeal Cert.PrepFwdRefIdeal.Read

theorem ref_freq (i : Fin 32) : val_main_v13 (F := Ideal) (ix1 i) = (freq i : EReal) := by
  pointwise [val_main_v8, val_main_v9, val_main_cst, val_main_v10, val_main_v11, val_main_cst_0, val_main_v12, val_main_v13]
  simp (disch := first | omega | norm_num) only [lit_32, lit_theta, word_real, ← EReal.coe_neg, div_coe, pow_coe]
  rfl

theorem ref_ang (s : Fin 4096) (d : Fin 128) : val_main_v26 (F := Ideal) (ix2 s d) = (ang s d : EReal) := by
  unfold val_main_v26
  pointwise [val_main_v0, val_main_v1, val_main_v2, val_main_v3, val_main_v4, val_main_v5, val_main_v6, val_main_v7, val_main_v14,
    val_main_v15, val_main_v16, val_main_v17, val_main_v18, val_main_v19, val_main_v20, val_main_v21, val_main_v22,
    val_main_v23, val_main_v24, val_main_v25]
  simp (disch := omega) only [ref_freq, word_real, ← EReal.coe_mul]
  unfold ang
  split_ifs with h1 h2 h3 h4 h5 h6 <;> first | omega | (congr 3; omega)

variable (x0 : FVec Ideal S4096x3072 .f32) (x1 x2 : FVec Ideal S128 .f32)

theorem q_nrm (s : Fin 4096) (h : Fin 12) (d : Fin 128) : val_main_v46 (F := Ideal) x0 x1 (ix3 s h d)
    = nrm (fun k => x0 (ix2 s ⟨h * 128 + k, by omega⟩)) (fun k => x1 (ix1 k)) d := by
  pointwise [val_main_v29, val_main_v30, val_main_v33, val_main_v34, val_main_cst_1, val_main_v35, val_main_v36, val_main_cst_2,
    val_main_v37, val_main_v38, val_main_cst_3, val_main_v39, val_main_v40, val_main_v41, val_main_v42, val_main_v43,
    val_main_v44, val_main_v45, val_main_v46]
  rfl

theorem q_turned (s : Fin 4096) (h : Fin 12) (d : Fin 128) : val_main_v63 (F := Ideal) x0 x1 (ix3 s h d)
    = turned s (fun k => x0 (ix2 s ⟨h * 128 + k, by omega⟩)) (fun k => x1 (ix1 k)) d := by
  unfold val_main_v63 val_main_v62 val_main_v58 val_main_v57
  pointwise [val_main_v27, val_main_v28, val_main_v47, val_main_v48, val_main_v49, val_main_v50, val_main_v51, val_main_v52,
    val_main_v53, val_main_v54, val_main_v55, val_main_v56, val_main_v59, val_main_v60, val_main_v61]
  simp only [q_nrm, ref_ang, cos_coe, sin_coe]
  exact paired _ _ s d

theorem k_nrm (s : Fin 4096) (h : Fin 4) (d : Fin 128) : val_main_v77 (F := Ideal) x0 x2 (ix3 s h d)
    = nrm (fun k => x0 (ix2 s ⟨1536 + (h * 128 + k), by omega⟩)) (fun k => x2 (ix1 k)) d := by
  pointwise [val_main_v29, val_main_v31, val_main_v64, val_main_v65, val_main_cst_4, val_main_v66, val_main_v67, val_main_cst_5,
    val_main_v68, val_main_v69, val_main_cst_6, val_main_v70, val_main_v71, val_main_v72, val_main_v73, val_main_v74,
    val_main_v75, val_main_v76, val_main_v77]
  rfl

theorem k_turned (s : Fin 4096) (h : Fin 4) (d : Fin 128) : val_main_v94 (F := Ideal) x0 x2 (ix3 s h d)
    = turned s (fun k => x0 (ix2 s ⟨1536 + (h * 128 + k), by omega⟩)) (fun k => x2 (ix1 k)) d := by
  unfold val_main_v94 val_main_v93 val_main_v89 val_main_v88
  pointwise [val_main_v27, val_main_v28, val_main_v78, val_main_v79, val_main_v80, val_main_v81, val_main_v82, val_main_v83,
    val_main_v84, val_main_v85, val_main_v86, val_main_v87, val_main_v90, val_main_v91, val_main_v92]
  simp only [k_nrm, ref_ang, cos_coe, sin_coe]
  exact paired _ _ s d

theorem out_q (s : Fin 4096) (h : Fin 12) (d : Fin 128) (n : Fin 1536) (hn : n.val = h.val * 128 + d.val) :
    val_main_v102 (F := Ideal) x0 x1 (ix2 s n)
      = turned s (fun k => x0 (ix2 s ⟨h * 128 + k, by omega⟩)) (fun k => x1 (ix1 k)) d
        * ((11863283 * 134217728⁻¹ * (Real.log 2)⁻¹ : ℝ) : EReal) := by
  have hl : h.val * 128 + d.val < 1536 := by omega
  obtain rfl : n = ⟨h.val * 128 + d.val, hl⟩ := Fin.ext hn
  pointwise [val_main_cst_7, val_main_v95, val_main_v96, val_main_cst_8, val_main_v97, val_main_v98, val_main_v99, val_main_v100,
    val_main_v101, val_main_v102]
  rw [lit_scale]
  refine Eq.trans (congrArg (Ideal.div _) (show _ = (Real.log 2 : EReal) from ?_)) ?_
  · show Ideal.log (Ideal.ofBits .f32 0x40000000#32) = _
    rw [lit_two, log_coe 2 (by norm_num)]
  · rw [scaled _ _ _ log2_pos.ne', q_turned x0 x1 s h d]

theorem out_k (s : Fin 4096) (h : Fin 4) (d : Fin 128) (n : Fin 512) (hn : n.val = h.val * 128 + d.val) :
    val_main_v104 (F := Ideal) x0 x2 (ix2 s n)
      = turned s (fun k => x0 (ix2 s ⟨1536 + (h * 128 + k), by omega⟩)) (fun k => x2 (ix1 k)) d := by
  have hl : h.val * 128 + d.val < 512 := by omega
  obtain rfl : n = ⟨h.val * 128 + d.val, hl⟩ := Fin.ext hn
  pointwise [val_main_v103, val_main_v104]
  exact k_turned x0 x2 s h d

theorem out_v (s : Fin 4096) (d : Fin 512) : val_main_v105 (F := Ideal) x0 (ix2 s d) = x0 (ix2 s ⟨2048 + d, by omega⟩) := by
  pointwise [val_main_v29, val_main_v32, val_main_v105]

end Reference

/-! ## The kernel's body on one head -/

section Kernel
open Cert.PrepFwdIdeal Cert.PrepFwdIdeal.Gen

/-- A head of 256 rows of the queries, and of the keys. -/
def headQ (co sa sb z : Vec Ideal S256x128 .f32) (g : Vec Ideal S1x128 .f32) : FVec Ideal S256x128 .bf16 := k0_pay6 co sa sb z g
def headK (co sa sb z : Vec Ideal S256x128 .f32) (g : Vec Ideal S1x128 .f32) : FVec Ideal S256x128 .bf16 :=
  k0_pay31 (k0_pay3 co) (k0_pay4 sa) (k0_pay5 sb) z g

/-- The two rolls' sum is the paired lane's turn. -/
theorem rolled (f : Fin 128 → EReal) (s : ℕ) (d : Fin 128) (i j : Fin 128) (hi : i.val = (d.val + 128 - 96) % 128)
    (hj : j.val = (d.val + 128 - 32) % 128) :
    f i * ((if d.val % 64 < 32 then -Real.sin (ang s d) else 0 : ℝ) : EReal)
        + f j * ((if d.val % 64 < 32 then 0 else Real.sin (ang s d) : ℝ) : EReal)
      = (if d.val % 64 < 32 then -f (mate d) else f (mate d)) * (Real.sin (ang s d) : EReal) := by
  have hd := d.isLt
  by_cases h : d.val % 64 < 32
  · simp only [if_pos h]
    rw [EReal.coe_zero, mul_zero, add_zero, EReal.coe_neg, mul_neg, neg_mul, show mate d = i from ?_]
    unfold mate
    rw [if_pos h]
    exact Fin.ext (by show (d.val + 32) % 128 = i.val; omega)
  · simp only [if_neg h]
    rw [EReal.coe_zero, mul_zero, zero_add, show mate d = j from ?_]
    unfold mate
    rw [if_neg h]
    exact Fin.ext (by show d.val - 32 = j.val; omega)

variable (co sa sb z : Vec Ideal S256x128 .f32) (g : Vec Ideal S1x128 .f32) (R : Fin 256 → ℕ)
  (hc : ∀ s d, co (ix2 s d) = (Real.cos (ang (R s) d) : EReal))
  (ha : ∀ s (d : Fin 128), sa (ix2 s d) = ((if d.val % 64 < 32 then -Real.sin (ang (R s) d) else 0 : ℝ) : EReal))
  (hb : ∀ s (d : Fin 128), sb (ix2 s d) = ((if d.val % 64 < 32 then 0 else Real.sin (ang (R s) d) : ℝ) : EReal))

include hc ha hb in
theorem headK_at (s : Fin 256) (d : Fin 128) :
    headK co sa sb z g (ix2 s d) = turned (R s) (fun k => z (ix2 s k)) (fun k => g (ix2 0 k)) d := by
  unfold headK turned
  rw [← rolled _ (R s) d ⟨(d.val + 128 - 96) % 128, by omega⟩ ⟨(d.val + 128 - 32) % 128, by omega⟩ rfl rfl]
  pointwise [k0_pay31, k0_pay3, k0_pay4, k0_pay5]
  rw [hc, ha, hb]
  rfl

include hc ha hb in
theorem headQ_at (s : Fin 256) (d : Fin 128) :
    headQ co sa sb z g (ix2 s d) = turned (R s) (fun k => z (ix2 s k)) (fun k => g (ix2 0 k)) d
      * ((11863283 * 134217728⁻¹ * (Real.log 2)⁻¹ : ℝ) : EReal) := by
  refine Eq.trans ?_ (congrArg (· * _) (headK_at co sa sb z g R hc ha hb s d))
  unfold headK headQ
  pointwise [k0_pay31, k0_pay3, k0_pay4, k0_pay5, k0_pay6]
  rfl

/-! ## A grid point -/

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The row of the sequence that a point's row is. -/
def row (t : Fin cfg0.N) (r : Fin 256) : Fin 4096 :=
  ⟨256 * t.val + r, by have := lt_of_lt_of_eq t.isLt N_0; omega⟩

abbrev A0 := m ((c : Thread nD τ).loc main_arg0)
abbrev A1 := m ((c : Thread nD τ).loc main_arg1)
abbrev A2 := m ((c : Thread nD τ).loc main_arg2)

theorem iblk0 (t : Fin cfg0.N) (r : Fin 256) (d : Fin 2560) : X0_0 m c t (ix2 r d) = A0 m c (ix2 (row t r) ⟨d, by omega⟩) := by
  unfold X0_0 Pipeline.Window.fill
  rw [dif_pos (moved0_0 t _)]
  blk_ext [iblk, V, row, idx t]

/-- The gains are what the first part of the host line makes of the arguments. -/
theorem gain (b : Ref sig .tc) (hb : b = main_v0 ∨ b = main_v1) :
    V m c b = StableHlo.after (hostOps0 (F := Ideal)) (fun b => m (c, b)) (Proc.devRef .tc b) := by
  rw [V_eq]
  unfold σ5 σ4 σ3 σ2 σ1
  generalize StableHlo.after (hostOps0 (F := Ideal)) (fun b => m (c, b)) = s
  obtain rfl | rfl := hb <;> after_reads_simp

theorem iblk1 (t : Fin cfg0.N) (d : Fin 128) : (iblk m c 1 t : Vec Ideal S1x128 .f32) (ix2 0 d) = A1 m c (ix1 d) := by
  have e : (V m c main_v0 : Vec Ideal S1x128 .f32) (ix2 0 d) = A1 m c (ix1 d) := by
    rw [gain m c _ (Or.inl rfl)]
    after_reads_simp
    pointwise
  rw [← e]
  blk_ext [iblk, idx t]
theorem iblk2 (t : Fin cfg0.N) (d : Fin 128) : (iblk m c 2 t : Vec Ideal S1x128 .f32) (ix2 0 d) = A2 m c (ix1 d) := by
  have e : (V m c main_v1 : Vec Ideal S1x128 .f32) (ix2 0 d) = A2 m c (ix1 d) := by
    rw [gain m c _ (Or.inr rfl)]
    after_reads_simp
    pointwise
  rw [← e]
  blk_ext [iblk, idx t]
theorem iblk3 (t : Fin cfg0.N) (r : Fin 256) (d : Fin 128) :
    (iblk m c 3 t : Vec Ideal S256x128 .f32) (ix2 r d) = (Real.cos (ang (row t r) d) : EReal) := by
  rw [← cos_tab m c]
  blk_ext [iblk, row, idx t]
theorem iblk4 (t : Fin cfg0.N) (r : Fin 256) (d : Fin 128) : (iblk m c 4 t : Vec Ideal S256x128 .f32) (ix2 r d)
    = ((if d.val % 64 < 32 then -Real.sin (ang (row t r) d) else 0 : ℝ) : EReal) := by
  rw [← sa_tab m c]
  blk_ext [iblk, row, idx t]
theorem iblk5 (t : Fin cfg0.N) (r : Fin 256) (d : Fin 128) : (iblk m c 5 t : Vec Ideal S256x128 .f32) (ix2 r d)
    = ((if d.val % 64 < 32 then 0 else Real.sin (ang (row t r) d) : ℝ) : EReal) := by
  rw [← sb_tab m c]
  blk_ext [iblk, row, idx t]

variable (t : Fin cfg0.N)

/-- A head's columns, from column `o` on. -/
def cut (o : ℕ) (h : o + 128 ≤ 2560) : Vec Ideal S256x128 .f32 :=
  View.ld (X0_0 m c t) (Rect.unit (s := S256x2560) ![0, o] ![256, 128] (by intro a; fin_cases a <;> simp <;> omega))

theorem cut_at (o : ℕ) (h : o + 128 ≤ 2560) (r : Fin 256) (d : Fin 128) :
    cut m c t o h (ix2 r d) = A0 m c (ix2 (row t r) ⟨o + d, by omega⟩) := by
  unfold cut
  refine (View.ld_unit_apply_of _ _ _ _ _ (ix2 r ⟨o + d, by omega⟩) fun a => ?_).trans (iblk0 m c t r _)
  fin_cases a <;> simp

theorem pieceQ (h : ℕ) (hh : h < 12) (s : Fin 4096) (n : Fin 1536) (r : Fin 256) (d : Fin 128) (hs : s = row t r)
    (hn : n.val = h * 128 + d.val) :
    headQ (iblk m c 3 t) (iblk m c 4 t) (iblk m c 5 t) (cut m c t (h * 128) (by omega)) (iblk m c 1 t) (ix2 r d)
      = PrepFwdRefIdeal.Read.val_main_v102 (F := Ideal) (A0 m c) (A1 m c) (ix2 s n) := by
  rw [headQ_at _ _ _ _ _ (fun r => row t r) (iblk3 m c t) (iblk4 m c t) (iblk5 m c t)]
  simp only [cut_at, iblk1 m c t]
  rw [hs]
  exact (out_q (A0 m c) (A1 m c) (row t r) ⟨h, hh⟩ d n hn).symm

theorem pieceK (h : ℕ) (hh : h < 4) (s : Fin 4096) (n : Fin 512) (r : Fin 256) (d : Fin 128) (hs : s = row t r)
    (hn : n.val = h * 128 + d.val) :
    headK (iblk m c 3 t) (iblk m c 4 t) (iblk m c 5 t) (cut m c t (1536 + h * 128) (by omega)) (iblk m c 2 t) (ix2 r d)
      = PrepFwdRefIdeal.Read.val_main_v104 (F := Ideal) (A0 m c) (A2 m c) (ix2 s n) := by
  rw [headK_at _ _ _ _ _ (fun r => row t r) (iblk3 m c t) (iblk4 m c t) (iblk5 m c t)]
  simp only [cut_at, iblk2 m c t, Nat.add_assoc]
  rw [hs]
  exact (out_k (A0 m c) (A2 m c) (row t r) ⟨h, hh⟩ d n hn).symm

theorem tile_q (y : Fin 256) (n : Fin 1536) :
    (outsAt0 m c t).1 (ix2 y n) = PrepFwdRefIdeal.Read.val_main_v102 (F := Ideal) (A0 m c) (A1 m c) (ix2 (row t y) n) := by
  unfold outsAt0
  frame_out
  canon_tiles x h using View.cover_of_tiledBy _ ![256, 128] (by sl_kernel_rfl) (ix2 y n)
  all_goals idx_vars x
  · exact pieceQ m c t 11 (by omega) _ n x0 x1 (congrArg (row t) (Fin.ext h0)) (by omega)
  · exact pieceQ m c t 10 (by omega) _ n x0 x1 (congrArg (row t) (Fin.ext h0)) (by omega)
  · exact pieceQ m c t 9 (by omega) _ n x0 x1 (congrArg (row t) (Fin.ext h0)) (by omega)
  · exact pieceQ m c t 8 (by omega) _ n x0 x1 (congrArg (row t) (Fin.ext h0)) (by omega)
  · exact pieceQ m c t 7 (by omega) _ n x0 x1 (congrArg (row t) (Fin.ext h0)) (by omega)
  · exact pieceQ m c t 6 (by omega) _ n x0 x1 (congrArg (row t) (Fin.ext h0)) (by omega)
  · exact pieceQ m c t 5 (by omega) _ n x0 x1 (congrArg (row t) (Fin.ext h0)) (by omega)
  · exact pieceQ m c t 4 (by omega) _ n x0 x1 (congrArg (row t) (Fin.ext h0)) (by omega)
  · exact pieceQ m c t 3 (by omega) _ n x0 x1 (congrArg (row t) (Fin.ext h0)) (by omega)
  · exact pieceQ m c t 2 (by omega) _ n x0 x1 (congrArg (row t) (Fin.ext h0)) (by omega)
  · exact pieceQ m c t 1 (by omega) _ n x0 x1 (congrArg (row t) (Fin.ext h0)) (by omega)
  · exact pieceQ m c t 0 (by omega) _ n x0 x1 (congrArg (row t) (Fin.ext h0)) (by omega)

theorem tile_k (y : Fin 256) (n : Fin 512) :
    (outsAt0 m c t).2.1 (ix2 y n) = PrepFwdRefIdeal.Read.val_main_v104 (F := Ideal) (A0 m c) (A2 m c) (ix2 (row t y) n) := by
  unfold outsAt0
  frame_out
  canon_tiles x h using View.cover_of_tiledBy _ ![256, 128] (by sl_kernel_rfl) (ix2 y n)
  all_goals idx_vars x
  · exact pieceK m c t 3 (by omega) _ n x0 x1 (congrArg (row t) (Fin.ext h0)) (by omega)
  · exact pieceK m c t 2 (by omega) _ n x0 x1 (congrArg (row t) (Fin.ext h0)) (by omega)
  · exact pieceK m c t 1 (by omega) _ n x0 x1 (congrArg (row t) (Fin.ext h0)) (by omega)
  · exact pieceK m c t 0 (by omega) _ n x0 x1 (congrArg (row t) (Fin.ext h0)) (by omega)

/-! ## The results -/

theorem final6 : (dats m 0 c).arrAt 6 cfg0.N = PrepFwdRefIdeal.Read.val_main_v102 (F := Ideal) (A0 m c) (A1 m c) := by
  refine (dats m 0 c).arrAt_eq_of_covers 6 _ (by decide +kernel) fun t _ y => ?_
  blk_simp
  rw [after0_6]
  idx_vars y
  refine (tile_q m c t y0 y1).trans ?_
  blk_ext [row, idx t]

theorem final7 : (dats m 0 c).arrAt 7 cfg0.N = PrepFwdRefIdeal.Read.val_main_v104 (F := Ideal) (A0 m c) (A2 m c) := by
  refine (dats m 0 c).arrAt_eq_of_covers 7 _ (by decide +kernel) fun t _ y => ?_
  blk_simp
  rw [after0_7]
  idx_vars y
  refine (tile_k m c t y0 y1).trans ?_
  blk_ext [row, idx t]

theorem final8 : (dats m 0 c).arrAt 8 cfg0.N = PrepFwdRefIdeal.Read.val_main_v105 (F := Ideal) (A0 m c) := by
  refine (dats m 0 c).arrAt_eq_of_covers 8 _ (by decide +kernel) fun t _ y => ?_
  blk_simp
  rw [after0_8]
  unfold outsAt0
  frame_out
  idx_vars y
  pointwise [k0_pay2]
  refine (iblk0 m c t y0 ⟨2048 + y1.val, by omega⟩).trans ((out_v (A0 m c) (row t y0) y1).symm.trans ?_)
  blk_ext [row, idx t]

end Kernel

/-! ## The claims -/

theorem preserves : Cert.preserves_PrepFwd_PrepFwdIdeal :=
  IdealRules.named_const.statement Cert.PrepFwdIdeal.κ "scale2" .f32 0x3E0293EE#32
    (((11863283 * 134217728⁻¹) * (Real.log 2)⁻¹ : ℝ) : EReal) rfl

theorem frame_ref : Cert.quiescent_PrepFwdRefIdeal := fun m ρ _ =>
  (θ_run Cert.PrepFwdRefIdeal.defs _ _).mono (fun r h => ⟨fun c => (h c).2.2.2, sem_eq_zero_of_no_sems (by decide) r.2⟩)
    (Cert.PrepFwdRefIdeal.Value.run (F := Ideal) m ρ)

theorem algebraic : Cert.algebraic_PrepFwdIdeal_PrepFwdRefIdeal := by
  pair_intro
  · run_from Cert.PrepFwdIdeal.Value.run_blocks m g
  · run_from Cert.PrepFwdRefIdeal.Value.run m' g'
    all_goals obtain ⟨e0, e1, e2⟩ := hagree c
    · refine (Cert.PrepFwdRefIdeal.Read.val_main_v102_eq _ _).trans ?_
      rw [e0, e1]
      exact (final6 m c).symm
    · refine (Cert.PrepFwdRefIdeal.Read.val_main_v104_eq _ _).trans ?_
      rw [e0, e2]
      exact (final7 m c).symm
    · refine (Cert.PrepFwdRefIdeal.Read.val_main_v105_eq _).trans ?_
      exact (final8 m c).symm

end Cert.PrepFwdProof
-- ==== Proof.Delta.lean ====
/- The row sums of the attention's output times its cotangent (`_flash_delta`): the kernel's result is the reference's, whatever
   the arguments.

   The output is formed before the call from the queries, keys and values. It is never opened here: its softmax differs from
   the reference's only in a maximum with minus infinity, so the two are one array. -/
module

public import proofs.«01_k».proof.Defs
public import proofs.«01_k».proof.Proof.Gen.DeltaRefIdeal.Read
public import proofs.«01_k».proof.Proof.Gen.DeltaIdeal.Value
public import proofs.«01_k».proof.Proof.FwdReal

@[expose] public section

set_option maxRecDepth 16384

noncomputable section

namespace Cert.DeltaProof

open Idealize.ShloMosaic Idealize.ShloMosaic.TcCoe Idealize.SL.Sem
open Idealize.ShloMosaic.Pipeline (Dat)
open Cert.FlashProof (qc)
open Cert.FwdProof (lr qr br bc)

section Reference
open Cert.DeltaRefIdeal Cert.DeltaRefIdeal.Read

variable (q : FVec Ideal S4096x1536 .f32) (k v : FVec Ideal S4096x512 .f32) (d : FVec Ideal S4096x2048 .bf16)

theorem ref_at (h : Fin 4) (i : Fin 8) (g : Fin 3) (x : Fin 512) (l : Fin 128) :
    val_main_v29 (F := Ideal) q k v d (ix3 h (lr i g x) l)
      = ∑ j : Fin 128, val_main_v19 (F := Ideal) q k v (ix4 (qr i x) h g j) * d (ix2 (qr i x) ⟨(qc h g j).val, by omega⟩) := by
  unfold lr qr qc
  pointwise [val_main_v20, val_main_v21, val_main_v22, val_main_v23, val_main_v24, val_main_v25, val_main_v26, val_main_v27,
    val_main_v28, val_main_v29]

/-- A maximum is not less than minus infinity. -/
theorem max_eq : val_main_v9 (F := Ideal) q k = val_main_v7 (F := Ideal) q k := by
  funext i
  rw [val_main_v9_apply]
  show max (Ideal.ofBits .f32 4286578688#32) _ = _
  rw [FlashProof.lit_bot, max_eq_right bot_le]

end Reference

section Kernel
open Cert.DeltaIdeal Cert.DeltaIdeal.Gen

variable (m : (ℓ : Loc nD τ sig) → Buf (Elt Ideal) ℓ) (c : Dev nD)

abbrev A0 := m ((c : Thread nD τ).loc main_arg0)
abbrev A1 := m ((c : Thread nD τ).loc main_arg1)
abbrev A2 := m ((c : Thread nD τ).loc main_arg2)
abbrev A3 := m ((c : Thread nD τ).loc main_arg3)

/-- The reference's output, as a matrix. -/
def out : FVec Ideal S4096x1536 .bf16 :=
  truncf .bf16 (shapeCast S4096x1536 (DeltaRefIdeal.Read.val_main_v19 (F := Ideal) (A0 m c) (A1 m c) (A2 m c)) shapeCasts_S4096x4x3x128_S4096x1536)
    bitsLt_bf16_f32

theorem out_at (s : Fin 4096) (h : Fin 4) (g : Fin 3) (j : Fin 128) :
    out m c (ix2 s (qc h g j)) = DeltaRefIdeal.Read.val_main_v19 (F := Ideal) (A0 m c) (A1 m c) (A2 m c) (ix4 s h g j) := by
  unfold out qc
  generalize DeltaRefIdeal.Read.val_main_v19 (F := Ideal) (A0 m c) (A1 m c) (A2 m c) = y
  pointwise

theorem V21 : V (F := Ideal) m c main_v21
    = concatenate S4096x2048 1 [⟨S4096x1536, out m c⟩, ⟨S4096x512, broadcastInDim S4096x512 ![] bcast_S_S4096x512 (constant S_ .bf16 0x0000#16)⟩]
        concatenates_S4096x1536_S4096x512_S4096x2048_d1 := by
  unfold out DeltaRefIdeal.Read.val_main_v19 DeltaRefIdeal.Read.val_main_v18 DeltaRefIdeal.Read.val_main_v17 DeltaRefIdeal.Read.val_main_v16
    DeltaRefIdeal.Read.val_main_v15 DeltaRefIdeal.Read.val_main_v14 DeltaRefIdeal.Read.val_main_v13 DeltaRefIdeal.Read.val_main_v12
    DeltaRefIdeal.Read.val_main_v11 DeltaRefIdeal.Read.val_main_v10
  rw [max_eq]
  entry_read
  rfl

theorem V21_at (s : Fin 4096) (h : Fin 4) (g : Fin 3) (j : Fin 128) :
    V (F := Ideal) m c main_v21 (ix2 s ⟨(qc h g j).val, by omega⟩)
      = DeltaRefIdeal.Read.val_main_v19 (F := Ideal) (A0 m c) (A1 m c) (A2 m c) (ix4 s h g j) := by
  rw [V21, ← out_at]
  refine concatenate_pair_apply_left (t := S4096x2048) (s₁ := S4096x1536) (s₂ := S4096x512) 1 _ _ _ (ix2 s ⟨(qc h g j).val, by omega⟩) rfl
    (ix2 s (qc h g j)) fun b => ?_
  fin_cases b <;> rfl

theorem idx : ∀ t : Fin cfg0.N, win0_0.index t = ![t.val % 8, t.val / 8] ∧ win0_1.index t = ![t.val % 8, t.val / 8]
    ∧ win0_2.index t = ![t.val / 8, t.val % 8, 0] :=
  (by decide +kernel : ∀ t : Fin grid0.N, _)

/-- The group of heads and the tile of rows of a grid point. -/
def hd (t : Fin cfg0.N) : Fin 4 := ⟨t.val / 8, by have := lt_of_lt_of_eq t.isLt N_0; omega⟩
def qi (t : Fin cfg0.N) : Fin 8 := ⟨t.val % 8, by omega⟩

variable (t : Fin cfg0.N)

theorem x0_at (x : Fin 512) (g : Fin 3) (j : Fin 128) :
    X0_0 m c t (ix2 x (bc g j)) = DeltaRefIdeal.Read.val_main_v19 (F := Ideal) (A0 m c) (A1 m c) (A2 m c) (ix4 (qr (qi t) x) (hd t) g j) := by
  rw [← V21_at]
  unfold X0_0 Pipeline.Window.fill
  rw [dif_pos (moved0_0 t _)]
  blk_ext [iblk, qr, qc, bc, hd, qi, idx t]

theorem x1_at (x : Fin 512) (g : Fin 3) (j : Fin 128) :
    X0_1 m c t (ix2 x (bc g j)) = A3 m c (ix2 (qr (qi t) x) ⟨(qc (hd t) g j).val, by omega⟩) := by
  unfold X0_1 Pipeline.Window.fill
  rw [dif_pos (moved0_1 t _)]
  blk_ext [iblk, V, qr, qc, bc, hd, qi, idx t]

/-- The row sums of a head. -/
def sums (O D : Vec Ideal S512x384 .bf16) (g : Fin 3) (x : Fin 512) : EReal := ∑ j : Fin 128, O (ix2 x (bc g j)) * D (ix2 x (bc g j))

theorem sums_at (g : Fin 3) (x : Fin 512) (l : Fin 128) :
    sums (X0_0 m c t) (X0_1 m c t) g x
      = DeltaRefIdeal.Read.val_main_v29 (F := Ideal) (A0 m c) (A1 m c) (A2 m c) (A3 m c) (ix3 (hd t) (lr (qi t) g x) l) := by
  rw [ref_at]
  exact Finset.sum_congr rfl fun j _ => congrArg₂ _ (x0_at m c t x g j) (x1_at m c t x g j)

/-- The columns of a head, from column `o` on. -/
def cut (X : Vec Ideal S512x384 .bf16) (o : ℕ) (h : o + 128 ≤ 384) : Vec Ideal S512x128 .bf16 :=
  View.ld X (Rect.unit (s := S512x384) ![0, o] ![512, 128] (by intro a; fin_cases a <;> simp <;> omega))

theorem cut_at (X : Vec Ideal S512x384 .bf16) (o : ℕ) (h : o + 128 ≤ 384) (g : Fin 3) (hg : g.val * 128 = o) (x : Fin 512) (d : Fin 128) :
    cut X o h (ix2 x d) = X (ix2 x (bc g d)) := by
  unfold cut
  refine View.ld_unit_apply_of _ _ _ _ _ (ix2 x (bc g d)) fun a => ?_
  fin_cases a <;> simp [bc] <;> omega

theorem piece (O D : Vec Ideal S512x384 .bf16) (x : Fin 512) (l : Fin 128) :
    k0_pay2 (cut O 0 (by omega)) (cut D 0 (by omega)) (ix3 (0 : Fin 1) x l) = sums O D 0 x
      ∧ k0_pay3 (cut O 128 (by omega)) (cut D 128 (by omega)) (ix3 (0 : Fin 1) x l) = sums O D 1 x
      ∧ k0_pay1 (k0_pay4 (cut O 256 (by omega)) (cut D 256 (by omega))) (ix3 (0 : Fin 1) x l) = sums O D 2 x := by
  refine ⟨?_, ?_, ?_⟩
  · pointwise [k0_pay2]
    exact Finset.sum_congr rfl fun j _ => congrArg₂ _ (cut_at O 0 _ 0 rfl x j) (cut_at D 0 _ 0 rfl x j)
  · pointwise [k0_pay3]
    exact Finset.sum_congr rfl fun j _ => congrArg₂ _ (cut_at O 128 _ 1 rfl x j) (cut_at D 128 _ 1 rfl x j)
  · pointwise [k0_pay1, k0_pay4]
    exact Finset.sum_congr rfl fun j _ => congrArg₂ _ (cut_at O 256 _ 2 rfl x j) (cut_at D 256 _ 2 rfl x j)

theorem tile (g : Fin 3) (x : Fin 512) (l : Fin 128) :
    outsAt0 m c t (ix3 (0 : Fin 1) (br g x) l) = sums (X0_0 m c t) (X0_1 m c t) g x := by
  have key (e : Fin 3) (y : Fin 512) (h : g.val * 512 + x.val = e.val * 512 + y.val) :
      sums (X0_0 m c t) (X0_1 m c t) e y = sums (X0_0 m c t) (X0_1 m c t) g x := by
    obtain rfl : e = g := Fin.ext (by omega)
    obtain rfl : y = x := Fin.ext (by omega)
    rfl
  unfold outsAt0
  frame_out
  canon_tiles z h using View.cover_of_tiledBy _ ![1, 512, 128] (by sl_kernel_rfl) (ix3 (0 : Fin 1) (br g x) l)
  all_goals
    idx_vars z
    obtain rfl : z0 = 0 := Subsingleton.elim _ _
  · exact (piece _ _ z1 z2).2.2.trans (key 2 z1 (by have : g.val * 512 + x.val = 1024 + z1.val := h1; simpa using this))
  · exact (piece _ _ z1 z2).2.1.trans (key 1 z1 (by have : g.val * 512 + x.val = 512 + z1.val := h1; simpa using this))
  · exact (piece _ _ z1 z2).1.trans (key 0 z1 (by have : g.val * 512 + x.val = z1.val := h1; simpa using this))

theorem final2 : (dats m 0 c).arrAt 2 cfg0.N
    = DeltaRefIdeal.Read.val_main_v29 (F := Ideal) (A0 m c) (A1 m c) (A2 m c) (A3 m c) := by
  refine (dats m 0 c).arrAt_eq_of_covers 2 _ (by decide +kernel) fun t _ y => ?_
  blk_simp
  rw [after0_2]
  idx_vars y
  obtain rfl : y0 = 0 := Subsingleton.elim _ _
  obtain ⟨g, x, hy⟩ : ∃ (g : Fin 3) (x : Fin 512), y1 = br g x :=
    ⟨⟨y1.val / 512, by omega⟩, ⟨y1.val % 512, by omega⟩, Fin.ext (by show y1.val = y1.val / 512 * 512 + y1.val % 512; omega)⟩
  subst hy
  refine (tile m c t g x y2).trans ((sums_at m c t g x y2).trans (congrArg _ ?_))
  blk_ext [idx t, lr, qi, hd, br]

end Kernel

/-! ## The claim -/

theorem frame_ref : Cert.quiescent_DeltaRefIdeal := fun m ρ _ =>
  (θ_run Cert.DeltaRefIdeal.defs _ _).mono (fun r h => ⟨fun c => (h c).2, sem_eq_zero_of_no_sems (by decide) r.2⟩)
    (Cert.DeltaRefIdeal.Value.run (F := Ideal) m ρ)

theorem algebraic : Cert.algebraic_DeltaIdeal_DeltaRefIdeal := by
  pair_intro
  · run_from Cert.DeltaIdeal.Value.run_blocks m g
  · run_from Cert.DeltaRefIdeal.Value.run m' g'
    all_goals obtain ⟨e0, e1, e2, e3⟩ := hagree c
    refine (Cert.DeltaRefIdeal.Read.val_main_v29_eq _ _ _ _).trans ?_
    exact (final2 m c).symm

end Cert.DeltaProof
-- ==== Proof.ColsFwd.lean ====
/- The product with the weights cut into blocks of columns (`_mm_cols_fwd`): the kernel's result is the reference's, whatever
   the arguments.

   The weights come as eight blocks of 448 columns. A grid point takes 1024 rows and two neighbouring blocks, and lays the two
   products beside each other. -/
module

public import proofs.«01_k».proof.Defs
public import proofs.«01_k».proof.Proof.Gen.ColsFwdRefIdeal.Read
public import proofs.«01_k».proof.Proof.Gen.ColsFwdIdeal.Value
public import proofs.«01_k».proof.Proof.Lift

@[expose] public section

set_option maxRecDepth 16384

noncomputable section

namespace Cert.ColsFwdProof

open Idealize.ShloMosaic Idealize.ShloMosaic.TcCoe Idealize.SL.Sem
open Idealize.ShloMosaic.Pipeline (Dat)
open Cert.Lift

/-- An entry of the product. -/
def prod (x : FVec Ideal ColsFwdRefIdeal.S4096x2048 .bf16) (w : FVec Ideal ColsFwdRefIdeal.S2048x3584 .f32) (s : Fin 4096) (f : Fin 3584) : EReal :=
  ∑ k : Fin 2048, x (ix2 s k) * w (ix2 k f)

section Reference
open Cert.ColsFwdRefIdeal Cert.ColsFwdRefIdeal.Read

theorem ref_at (x : FVec Ideal S4096x2048 .bf16) (w : FVec Ideal S2048x3584 .f32) (s : Fin 4096) (f : Fin 3584) :
    val_main_v1 (F := Ideal) x w (ix2 s f) = prod x w s f := by
  pointwise [val_main_v0, val_main_v1]
  rfl

end Reference

section Kernel
open Cert.ColsFwdIdeal Cert.ColsFwdIdeal.Gen

variable (m : (ℓ : Loc nD τ sig) → Buf (Elt Ideal) ℓ)

theorem idx : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

def row (t : Fin cfg0.N) (r : Fin 1024) : Fin 4096 :=
  ⟨1024 * (t.val / 4) + r, by have := lt_of_lt_of_eq t.isLt N_0; omega⟩

def col (t : Fin cfg0.N) (q : Fin 896) : Fin 3584 := ⟨896 * (t.val % 4) + q, by omega⟩

theorem iblk0 (c : Dev nD) (t : Fin cfg0.N) (r : Fin 1024) (d : Fin 2048) :
    iblk m c 0 t (ix2 r d) = m ((c : Thread nD τ).loc main_arg0) (ix2 (row t r) d) := by
  blk_ext [iblk, V, row, idx t]

theorem iblk1 (c : Dev nD) (t : Fin cfg0.N) (p : Fin 2) (k : Fin 2048) (q : Fin 448) :
    iblk m c 1 t (ix3 p k q) = m ((c : Thread nD τ).loc main_arg1) (ix2 k (col t ⟨448 * p + q, by omega⟩)) := by
  blk_simp [iblk]
  entry_read
  pointwise
  blk_ext [idx t, col]

variable (c : Dev nD) (t : Fin cfg0.N) (r : Fin 1024)

theorem pay_left (x0 : Vec Ideal S1024x2048 .bf16) (w0 w1 : Vec Ideal S1x2048x448 .bf16) (q : Fin 448) :
    k0_pay1 x0 w0 w1 (ix2 r ⟨q, by omega⟩) = ∑ k : Fin 2048, x0 (ix2 r k) * w0 (ix3 0 k q) := by
  unfold k0_pay1
  refine (concatenate_pair_apply_left (t := S1024x896) (s₁ := S1024x448) (s₂ := S1024x448) 1 _ _ _ (ix2 r ⟨q, by omega⟩) rfl
    (ix2 r q) fun b => by fin_cases b <;> rfl).trans ?_
  pointwise

theorem pay_right (x0 : Vec Ideal S1024x2048 .bf16) (w0 w1 : Vec Ideal S1x2048x448 .bf16) (q : Fin 448) :
    k0_pay1 x0 w0 w1 (ix2 r ⟨448 + q, by omega⟩) = ∑ k : Fin 2048, x0 (ix2 r k) * w1 (ix3 0 k q) := by
  unfold k0_pay1
  refine (concatenate_pair_apply_right (t := S1024x896) (s₁ := S1024x448) (s₂ := S1024x448) 1 _ _ _ (ix2 r ⟨448 + q, by omega⟩) rfl rfl
    (ix2 r q) (fun b hb => ?_) (Nat.add_comm _ _)).trans ?_
  · fin_cases b
    · rfl
    · exact absurd rfl hb
  pointwise

/-- The first of the two blocks. -/
theorem ld_left (w : Vec Ideal S2x2048x448 .bf16) (k : Fin 2048) (q : Fin 448) : View.ld w r0_1 (ix3 0 k q) = w (ix3 0 k q) := by
  refine congrArg w (funext fun a => Fin.ext ((Rect.idx_unit_val (s := S2x2048x448) ![0, 0, 0] S1x2048x448.size _ (ix3 0 k q) a).trans ?_))
  fin_cases a <;> exact Nat.zero_add _

/-- The second. -/
theorem ld_right (w : Vec Ideal S2x2048x448 .bf16) (k : Fin 2048) (q : Fin 448) : View.ld w r0_2 (ix3 0 k q) = w (ix3 1 k q) := by
  refine congrArg w (funext fun a => Fin.ext ((Rect.idx_unit_val (s := S2x2048x448) ![1, 0, 0] S1x2048x448.size _ (ix3 0 k q) a).trans ?_))
  fin_cases a
  · rfl
  · exact Nat.zero_add _
  · exact Nat.zero_add _

theorem pay (q : Fin 896) :
    k0_pay1 (iblk m c 0 t) (View.ld (iblk m c 1 t) r0_1) (View.ld (iblk m c 1 t) r0_2) (ix2 r q)
      = prod (m ((c : Thread nD τ).loc main_arg0)) (m ((c : Thread nD τ).loc main_arg1)) (row t r) (col t q) := by
  by_cases hq : q.val < 448
  · refine (pay_left r _ _ _ ⟨q, hq⟩).trans (Finset.sum_congr rfl fun k _ => congr_arg₂ _ (iblk0 m c t r k) ?_)
    rw [ld_left, iblk1]
    exact congrArg (fun f => m ((c : Thread nD τ).loc main_arg1) (ix2 k (col t f))) (Fin.ext (Nat.zero_add _))
  · obtain ⟨p, hp⟩ : ∃ p : Fin 448, q.val = 448 + p.val := ⟨⟨q - 448, by omega⟩, by show q.val = 448 + (q.val - 448); omega⟩
    rw [show q = ⟨448 + p.val, Nat.add_lt_add_left p.isLt 448⟩ from Fin.ext hp]
    refine (pay_right r _ _ _ p).trans (Finset.sum_congr rfl fun k _ => congr_arg₂ _ (iblk0 m c t r k) ?_)
    rw [ld_right, iblk1]
    rfl

theorem final (c : Dev nD) :
    (dats m 0 c).arrAt 2 cfg0.N
      = ColsFwdRefIdeal.Read.val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  refine (pay m c t y0 y1).trans ((ref_at _ _ (row t y0) (col t y1)).symm.trans ?_)
  blk_ext [row, col, idx t]

end Kernel

theorem frame_ref : Cert.quiescent_ColsFwdRefIdeal := fun m ρ _ =>
  (θ_run Cert.ColsFwdRefIdeal.defs _ _).mono (fun r h => ⟨fun c => (h c).2, sem_eq_zero_of_no_sems (by decide) r.2⟩)
    (Cert.ColsFwdRefIdeal.Value.run (F := Ideal) m ρ)

theorem algebraic : Cert.algebraic_ColsFwdIdeal_ColsFwdRefIdeal := by
  pair_intro
  · run_from Cert.ColsFwdIdeal.Value.run_blocks m g
  · run_from Cert.ColsFwdRefIdeal.Value.run m' g'
    all_goals obtain ⟨e0, e1⟩ := hagree c
    exact (Cert.ColsFwdRefIdeal.Read.val_main_v1_eq _ _).trans (final m c).symm

end Cert.ColsFwdProof
-- ==== Proof.Tiles.lean ====
/- Sums taken a tile at a time: the sum of the first terms, and what a further tile adds to it. -/
module

public import proofs.«01_k».proof.Proof.Lift

@[expose] public section

noncomputable section

namespace Cert.Tiles

/-- The sum of the first `a` terms. -/
def upto {n : ℕ} (f : Fin n → EReal) (a : ℕ) : EReal := ∑ k ∈ Finset.range a, if h : k < n then f ⟨k, h⟩ else 0

theorem upto_zero {n : ℕ} (f : Fin n → EReal) : upto f 0 = 0 := Finset.sum_range_zero _

theorem upto_all {n : ℕ} (f : Fin n → EReal) : upto f n = ∑ k, f k := by
  unfold upto
  rw [Finset.sum_range]
  exact Finset.sum_congr rfl fun k _ => dif_pos k.isLt

/-- A tile of `b` terms after the first `a`. -/
theorem upto_add {n : ℕ} (f : Fin n → EReal) (a b : ℕ) (h : a + b ≤ n) :
    upto f (a + b) = upto f a + ∑ l : Fin b, f ⟨a + l.val, by omega⟩ := by
  unfold upto
  rw [Finset.sum_range_add, Finset.sum_range (n := b)]
  exact congrArg _ (Finset.sum_congr rfl fun l _ => dif_pos (show a + l.val < n by omega))

end Cert.Tiles
-- ==== Proof.Matmul.lean ====
/- The product of the transposed activations with the gradient (`_matmul`): the kernel's result is the reference's, whatever
   the arguments.

   Four grid points after each other take 1024 rows each of both factors and add their products in a scratch buffer; the last
   of the four rounds the buffer into the result. -/
module

public import proofs.«01_k».proof.Defs
public import proofs.«01_k».proof.Proof.Gen.MatmulRefIdeal.Read
public import proofs.«01_k».proof.Proof.Gen.MatmulIdeal.Value
public import proofs.«01_k».proof.Proof.Tiles
public import Idealize.ShloMosaic.Lib.Pipeline.ReadBack

@[expose] public section

set_option maxRecDepth 16384

noncomputable section

namespace Cert.MatmulProof

open Idealize.ShloMosaic Idealize.ShloMosaic.TcCoe Idealize.SL.Sem
open Idealize.ShloMosaic.Pipeline (Dat)
open Cert.Lift Cert.Tiles

/-- A term of an entry of the product. -/
def term (a : FVec Ideal MatmulRefIdeal.S4096x5632 .bf16) (d : FVec Ideal MatmulRefIdeal.S4096x2048 .bf16) (i : Fin 5632) (j : Fin 2048)
    (s : Fin 4096) : EReal := a (ix2 s i) * d (ix2 s j)

section Reference
open Cert.MatmulRefIdeal Cert.MatmulRefIdeal.Read

theorem ref_at (a : FVec Ideal S4096x5632 .bf16) (d : FVec Ideal S4096x2048 .bf16) (i : Fin 5632) (j : Fin 2048) :
    val_main_v6 (F := Ideal) a d (ix2 i j) = ∑ s, term a d i j s := by
  pointwise [val_main_v0, val_main_v1, val_main_v4, val_main_v5, val_main_v6]
  exact Finset.sum_congr rfl fun s _ => mul_comm _ _

end Reference

section Kernel
open Cert.MatmulIdeal Cert.MatmulIdeal.Gen

variable (m : (ℓ : Loc nD τ sig) → Buf (Elt Ideal) ℓ)

theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

def row (t : Fin cfg0.N) (r : Fin 1024) : Fin 4096 := ⟨t.val % 4 * 1024 + r, by omega⟩

def ri (t : Fin cfg0.N) (p : Fin 1408) : Fin 5632 := ⟨1408 * (t.val / 8) + p, by have := lt_of_lt_of_eq t.isLt N_0; omega⟩

def rj (t : Fin cfg0.N) (q : Fin 1024) : Fin 2048 := ⟨1024 * (t.val / 4 % 2) + q, by omega⟩

theorem iblk0 (c : Dev nD) (t : Fin cfg0.N) (r : Fin 1024) (p : Fin 1408) :
    iblk m c 0 t (ix2 r p) = m ((c : Thread nD τ).loc main_arg0) (ix2 (row t r) (ri t p)) := by
  blk_ext [iblk, V, row, ri, idx t]

theorem iblk1 (c : Dev nD) (t : Fin cfg0.N) (r : Fin 1024) (q : Fin 1024) :
    iblk m c 1 t (ix2 r q) = m ((c : Thread nD τ).loc main_arg1) (ix2 (row t r) (rj t q)) := by
  blk_ext [iblk, V, row, rj, idx t]

/-! ## The scratch buffer -/

section Scratch
variable (c : Dev nD) (t : Fin cfg0.N)

theorem first (h0 : t.val % 4 = 0) : (outsAt0 m c t.val t.isLt).2 = k0_pay2 (iblk m c 0 t) (iblk m c 1 t) := by
  rw [outsAt0_A m c t h0 (by omega) (by omega)]
  frame_out

theorem next (h0 : ¬ t.val % 4 = 0) (ht : t.val - 1 < cfg0.N) :
    (outsAt0 m c t.val t.isLt).2 = k0_pay3 (iblk m c 0 t) (iblk m c 1 t) (outsAt0 m c (t.val - 1) ht).2 := by
  by_cases h2 : t.val % 4 = 3
  · rw [outsAt0_C m c t h0 (by omega) h2]
    frame_out
    simp only [read_unread_whole]
  · rw [outsAt0_B m c t h0 (by omega) h2]
    frame_out
    simp only [read_unread_whole]

theorem last (h2 : t.val % 4 = 3) : (outsAt0 m c t.val t.isLt).1 = k0_pay4 (outsAt0 m c t.val t.isLt).2 := by
  have h0 : ¬ t.val % 4 = 0 := by omega
  rw [next m c t h0 (by omega), outsAt0_C m c t h0 (by omega) h2]
  frame_out
  simp only [read_unread_whole]

end Scratch

theorem pay (c : Dev nD) (t : Fin cfg0.N) (p : Fin 1408) (q : Fin 1024) :
    k0_pay1 (iblk m c 0 t) (iblk m c 1 t) (ix2 p q)
      = ∑ r, term (m ((c : Thread nD τ).loc main_arg0)) (m ((c : Thread nD τ).loc main_arg1)) (ri t p) (rj t q) (row t r) := by
  pointwise [k0_pay1]
  simp only [iblk0 m c t, iblk1 m c t]
  rfl

/-- After each point the buffer holds the sums over the rows so far. -/
theorem held (c : Dev nD) (p : Fin 1408) (q : Fin 1024) (j n : ℕ) (hn : n < cfg0.N) (hj : n % 4 = j) :
    (outsAt0 m c n hn).2 (ix2 p q)
      = upto (term (m ((c : Thread nD τ).loc main_arg0)) (m ((c : Thread nD τ).loc main_arg1)) (ri ⟨n, hn⟩ p) (rj ⟨n, hn⟩ q)) (n % 4 * 1024 + 1024) := by
  induction j generalizing n with
  | zero =>
    rw [first m c ⟨n, hn⟩ hj, show n % 4 * 1024 + 1024 = 0 + 1024 by omega, upto_add _ _ _ (by omega), upto_zero, zero_add]
    pointwise [k0_pay2]
    refine (pay m c ⟨n, hn⟩ p q).trans (Finset.sum_congr rfl fun r _ => congrArg (term _ _ _ _) (Fin.ext ?_))
    show n % 4 * 1024 + r.val = r.val
    omega
  | succ j ih =>
    have h0 : ¬ n % 4 = 0 := by omega
    have hp : n - 1 < cfg0.N := by omega
    have h := ih (n - 1) hp (by omega)
    have e1 : ri ⟨n - 1, hp⟩ p = ri ⟨n, hn⟩ p := Fin.ext (by show 1408 * ((n - 1) / 8) + p.val = 1408 * (n / 8) + p.val; omega)
    have e2 : rj ⟨n - 1, hp⟩ q = rj ⟨n, hn⟩ q := Fin.ext (by show 1024 * ((n - 1) / 4 % 2) + q.val = 1024 * (n / 4 % 2) + q.val; omega)
    have e3 : (n - 1) % 4 * 1024 + 1024 = n % 4 * 1024 := by omega
    rw [e1, e2, e3] at h
    rw [next m c ⟨n, hn⟩ h0 hp, upto_add _ _ _ (by omega), ← h]
    pointwise [k0_pay3]
    exact congrArg _ (pay m c ⟨n, hn⟩ p q)

theorem final (c : Dev nD) :
    (dats m 0 c).arrAt 2 cfg0.N
      = MatmulRefIdeal.Read.val_main_v6 (F := Ideal) (m ((c : Thread nD τ).loc main_arg0)) (m ((c : Thread nD τ).loc main_arg1)) := by
  refine (dats m 0 c).arrAt_eq_of_covers 2 _ (by decide +kernel) fun t hf y => ?_
  have hl : t.val % 4 = 3 := (flush0_2 t).1 hf
  blk_simp
  rw [after0_2]
  idx_vars y
  rw [last m c t hl]
  pointwise [k0_pay4]
  rw [held m c y0 y1 3 t.val t.isLt hl, hl]
  refine (upto_all _).trans ((ref_at _ _ (ri t y0) (rj t y1)).symm.trans ?_)
  blk_ext [ri, rj, idx t]

end Kernel

theorem frame_ref : Cert.quiescent_MatmulRefIdeal := fun m ρ _ =>
  (θ_run Cert.MatmulRefIdeal.defs _ _).mono (fun r h => ⟨fun c => (h c).2, sem_eq_zero_of_no_sems (by decide) r.2⟩)
    (Cert.MatmulRefIdeal.Value.run (F := Ideal) m ρ)

theorem algebraic : Cert.algebraic_MatmulIdeal_MatmulRefIdeal := by
  pair_intro
  · run_from Cert.MatmulIdeal.Value.run_blocks m g
  · run_from Cert.MatmulRefIdeal.Value.run m' g'
    all_goals obtain ⟨e0, e1⟩ := hagree c
    exact (Cert.MatmulRefIdeal.Read.val_main_v6_eq _ _).trans (final m c).symm

end Cert.MatmulProof
-- ==== Proof.ColsDgrad.lean ====
/- The product of the gradient with the transposed weights, cut into blocks of columns (`_mm_cols_dgrad`): the kernel's result is
   the reference's, whatever the arguments.

   The gradient comes as two arrays, the first and the second half of its columns. Four grid points after each other take two
   blocks of 1408 columns each and add their products in a scratch buffer; the last of the four writes the buffer out. -/
module

public import proofs.«01_k».proof.Defs
public import proofs.«01_k».proof.Proof.Gen.ColsDgradRefIdeal.Read
public import proofs.«01_k».proof.Proof.Gen.ColsDgradIdeal.Value
public import proofs.«01_k».proof.Proof.Tiles
public import Idealize.ShloMosaic.Lib.Pipeline.ReadBack

@[expose] public section

set_option maxRecDepth 16384

noncomputable section

namespace Cert.ColsDgradProof

open Idealize.ShloMosaic Idealize.ShloMosaic.TcCoe Idealize.SL.Sem
open Idealize.ShloMosaic.Pipeline (Dat)
open Cert.Lift Cert.Tiles

/-- The two halves of the gradient beside each other. -/
def dz (g u : FVec Ideal ColsDgradRefIdeal.S4096x5632 .bf16) (s : Fin 4096) (f : Fin 11264) : EReal :=
  if h : f.val < 5632 then g (ix2 s ⟨f, h⟩) else u (ix2 s ⟨f - 5632, by omega⟩)

/-- A term of an entry of the product. -/
def term (g u : FVec Ideal ColsDgradRefIdeal.S4096x5632 .bf16) (w : FVec Ideal ColsDgradRefIdeal.S2048x11264 .f32) (s : Fin 4096) (k : Fin 2048)
    (f : Fin 11264) : EReal := dz g u s f * w (ix2 k f)

section Reference
open Cert.ColsDgradRefIdeal Cert.ColsDgradRefIdeal.Read

variable (g u : FVec Ideal S4096x5632 .bf16) (w : FVec Ideal S2048x11264 .f32)

theorem ref_dz (s : Fin 4096) (f : Fin 11264) : val_main_v0 (F := Ideal) g u (ix2 s f) = dz g u s f := by
  unfold val_main_v0 dz
  by_cases hf : f.val < 5632
  · rw [dif_pos hf]
    refine concatenate_pair_apply_left (t := S4096x11264) (s₁ := S4096x5632) (s₂ := S4096x5632) 1 _ _ _ (ix2 s f) rfl
      (ix2 s ⟨f, hf⟩) fun b => ?_
    fin_cases b <;> rfl
  · rw [dif_neg hf]
    refine concatenate_pair_apply_right (t := S4096x11264) (s₁ := S4096x5632) (s₂ := S4096x5632) 1 _ _ _ (ix2 s f) rfl rfl
      (ix2 s ⟨f - 5632, by omega⟩) (fun b hb => ?_) (by show f.val - 5632 + 5632 = f.val; omega)
    fin_cases b
    · rfl
    · exact absurd rfl hb

theorem ref_at (s : Fin 4096) (k : Fin 2048) : val_main_v4 (F := Ideal) g u w (ix2 s k) = ∑ f, term g u w s k f := by
  pointwise [val_main_v1, val_main_v4]
  exact Finset.sum_congr rfl fun f _ => congrArg (· * _) (ref_dz g u s f)

end Reference

section Kernel
open Cert.ColsDgradIdeal Cert.ColsDgradIdeal.Gen

variable (m : (ℓ : Loc nD τ sig) → Buf (Elt Ideal) ℓ)

theorem idx : ∀ t : Fin cfg0.N, win0_0.index t = ![t.val / 4, min (t.val % 4) 1] ∧ win0_1.index t = ![t.val / 4, t.val % 4 - 2]
    ∧ win0_2.index t = ![t.val % 4, 0, 0] ∧ win0_3.index t = ![t.val / 4, 0] ∧ (grid0.coords t 1).val = t.val % 4 :=
  (by decide +kernel : ∀ t : Fin grid0.N, _)

def row (t : Fin cfg0.N) (r : Fin 512) : Fin 4096 := ⟨512 * (t.val / 4) + r, by have := lt_of_lt_of_eq t.isLt N_0; omega⟩

theorem iblk0 (c : Dev nD) (t : Fin cfg0.N) (h : t.val % 4 < 2) (r : Fin 512) (l : Fin 2816) :
    iblk m c 0 t (ix2 r l) = m ((c : Thread nD τ).loc main_arg0) (ix2 (row t r) ⟨t.val % 4 * 2816 + l, by omega⟩) := by
  have e : min (t.val % 4) 1 = t.val % 4 := by omega
  blk_ext [iblk, V, row, idx t, e]

theorem iblk1 (c : Dev nD) (t : Fin cfg0.N) (h : ¬ t.val % 4 < 2) (r : Fin 512) (l : Fin 2816) :
    iblk m c 1 t (ix2 r l) = m ((c : Thread nD τ).loc main_arg1) (ix2 (row t r) ⟨t.val % 4 * 2816 + l - 5632, by omega⟩) := by
  blk_ext [iblk, V, row, idx t]

theorem iblk2 (c : Dev nD) (t : Fin cfg0.N) (p : Fin 2) (k : Fin 2048) (l : Fin 1408) :
    iblk m c 2 t (ix3 p k l) = m ((c : Thread nD τ).loc main_arg2) (ix2 k ⟨t.val % 4 * 2816 + 1408 * p + l, by omega⟩) := by
  blk_simp [iblk]
  entry_read
  pointwise
  blk_ext [idx t]

/-! ## The payload -/

/-- The half of the gradient a point's columns lie in. -/
def pick (i : grid0.Coords) (x y : Vec Ideal S512x2816 .bf16) : Vec Ideal S512x2816 .bf16 := if (i 1).val < 2 then x else y

theorem pick_eq (i : grid0.Coords) (x y : Vec Ideal S512x2816 .bf16) :
    Scalar.select (Scalar.cmpi .sge (BitVec.ofNat 32 (i 1).val) 2#32) y x = pick i x y := by
  have e : ∀ n : Fin 4, Scalar.cmpi .sge (BitVec.ofNat 32 n.val) 2#32 = if n.val < 2 then 0#1 else 1#1 := by decide
  rw [show Scalar.cmpi .sge (BitVec.ofNat 32 (i 1).val) 2#32 = _ from e (i 1)]
  unfold pick
  by_cases h : (i 1).val < 2
  · rw [if_pos h, if_pos h]
    rfl
  · rw [if_neg h, if_neg h]
    rfl

theorem pay_at (i : grid0.Coords) (x y : Vec Ideal S512x2816 .bf16) (w0 w1 : Vec Ideal S1x2048x1408 .bf16) (r : Fin 512) (k : Fin 2048) :
    k0_pay1 i x y w0 w1 (ix2 r k)
      = (∑ l : Fin 1408, pick i x y (ix2 r ⟨l, by omega⟩) * w0 (ix3 0 k l)) + ∑ l : Fin 1408, pick i x y (ix2 r ⟨1408 + l, by omega⟩) * w1 (ix3 0 k l) := by
  unfold k0_pay1
  dsimp only
  rw [pick_eq]
  pointwise

/-- The first of the two blocks of weights. -/
def w0 (c : Dev nD) (t : Fin cfg0.N) : Vec Ideal S1x2048x1408 .bf16 :=
  View.ld (iblk m c 2 t) (Rect.unit (s := S2x2048x1408) ![0, 0, 0] S1x2048x1408.size inb_S2x2048x1408_S1x2048x1408_0_0_0)

/-- The second. -/
def w1 (c : Dev nD) (t : Fin cfg0.N) : Vec Ideal S1x2048x1408 .bf16 :=
  View.ld (iblk m c 2 t) (Rect.unit (s := S2x2048x1408) ![1, 0, 0] S1x2048x1408.size inb_S2x2048x1408_S1x2048x1408_1_0_0)

theorem w0_at (c : Dev nD) (t : Fin cfg0.N) (k : Fin 2048) (l : Fin 1408) :
    w0 m c t (ix3 0 k l) = m ((c : Thread nD τ).loc main_arg2) (ix2 k ⟨t.val % 4 * 2816 + l, by omega⟩) := by
  refine (View.ld_unit_apply_of (iblk m c 2 t) _ _ _ _ (ix3 0 k l) fun a => ?_).trans (iblk2 m c t 0 k l)
  fin_cases a <;> exact (Nat.zero_add _).symm

theorem w1_at (c : Dev nD) (t : Fin cfg0.N) (k : Fin 2048) (l : Fin 1408) :
    w1 m c t (ix3 0 k l) = m ((c : Thread nD τ).loc main_arg2) (ix2 k ⟨t.val % 4 * 2816 + 1408 + l, by omega⟩) := by
  refine (View.ld_unit_apply_of (iblk m c 2 t) _ _ _ _ (ix3 1 k l) fun a => ?_).trans (iblk2 m c t 1 k l)
  fin_cases a
  · rfl
  · exact (Nat.zero_add _).symm
  · exact (Nat.zero_add _).symm

theorem pick_at (c : Dev nD) (t : Fin cfg0.N) (r : Fin 512) (l : Fin 2816) :
    pick (grid0.coords t) (iblk m c 0 t) (iblk m c 1 t) (ix2 r l)
      = dz (m ((c : Thread nD τ).loc main_arg0)) (m ((c : Thread nD τ).loc main_arg1)) (row t r) ⟨t.val % 4 * 2816 + l, by omega⟩ := by
  unfold pick dz
  rw [(idx t).2.2.2.2]
  by_cases h : t.val % 4 < 2
  · rw [if_pos h, dif_pos (show t.val % 4 * 2816 + l.val < 5632 by omega)]
    exact iblk0 m c t h r l
  · rw [if_neg h, dif_neg (show ¬ t.val % 4 * 2816 + l.val < 5632 by omega)]
    exact iblk1 m c t h r l

section Scratch
variable (c : Dev nD) (t : Fin cfg0.N)

/-- An entry of the product. -/
def entry (r : Fin 512) (k : Fin 2048) : Fin 11264 → EReal :=
  term (m ((c : Thread nD τ).loc main_arg0)) (m ((c : Thread nD τ).loc main_arg1)) (m ((c : Thread nD τ).loc main_arg2)) (row t r) k

/-- What a point adds. -/
theorem pay (r : Fin 512) (k : Fin 2048) (s : EReal) :
    s + k0_pay1 (grid0.coords t) (iblk m c 0 t) (iblk m c 1 t) (w0 m c t) (w1 m c t) (ix2 r k)
      = s + (∑ l : Fin 1408, entry m c t r k ⟨t.val % 4 * 2816 + l, by omega⟩) + ∑ l : Fin 1408, entry m c t r k ⟨t.val % 4 * 2816 + 1408 + l, by omega⟩ := by
  rw [pay_at, add_assoc]
  refine congrArg _ (congr_arg₂ _ ?_ ?_)
  · refine Finset.sum_congr rfl fun l _ => ?_
    rw [pick_at, w0_at]
    rfl
  · refine Finset.sum_congr rfl fun l _ => ?_
    rw [pick_at, w1_at]
    exact congrArg (fun f => dz _ _ (row t r) f * _) (Fin.ext (Nat.add_assoc _ _ _).symm)

theorem first (h0 : t.val % 4 = 0) :
    (outsAt0 m c t.val t.isLt).2 = k0_pay2 (grid0.coords t) (iblk m c 0 t) (iblk m c 1 t) (w0 m c t) (w1 m c t) := by
  rw [outsAt0_A m c t h0 (by omega) (by omega)]
  frame_out
  rfl

theorem next (h0 : ¬ t.val % 4 = 0) (ht : t.val - 1 < cfg0.N) :
    (outsAt0 m c t.val t.isLt).2
      = k0_pay3 (grid0.coords t) (iblk m c 0 t) (iblk m c 1 t) (w0 m c t) (w1 m c t) (outsAt0 m c (t.val - 1) ht).2 := by
  by_cases h2 : t.val % 4 = 3
  · rw [outsAt0_C m c t h0 (by omega) h2]
    frame_out
    simp only [read_unread_whole]
    rfl
  · rw [outsAt0_B m c t h0 (by omega) h2]
    frame_out
    simp only [read_unread_whole]
    rfl

theorem last (h2 : t.val % 4 = 3) : (outsAt0 m c t.val t.isLt).1 = (outsAt0 m c t.val t.isLt).2 := by
  have h0 : ¬ t.val % 4 = 0 := by omega
  rw [next m c t h0 (by omega), outsAt0_C m c t h0 (by omega) h2]
  frame_out
  simp only [read_unread_whole]
  rfl

end Scratch

/-- After each point the buffer holds the sums over the columns so far. -/
theorem held (c : Dev nD) (r : Fin 512) (k : Fin 2048) (j n : ℕ) (hn : n < cfg0.N) (hj : n % 4 = j) :
    (outsAt0 m c n hn).2 (ix2 r k) = upto (entry m c ⟨n, hn⟩ r k) (n % 4 * 2816 + 1408 + 1408) := by
  rw [upto_add _ (n % 4 * 2816 + 1408) _ (by omega), upto_add _ (n % 4 * 2816) _ (by omega)]
  induction j generalizing n with
  | zero =>
    rw [first m c ⟨n, hn⟩ hj, ← pay m c ⟨n, hn⟩ r k, show upto (entry m c ⟨n, hn⟩ r k) (n % 4 * 2816) = 0 by rw [hj, Nat.zero_mul]; exact upto_zero _, zero_add]
    pointwise [k0_pay2]
  | succ j ih =>
    have h0 : ¬ n % 4 = 0 := by omega
    have hp : n - 1 < cfg0.N := by omega
    have h := ih (n - 1) hp (by omega)
    rw [← upto_add _ _ _ (by omega), ← upto_add _ _ _ (by omega)] at h
    have e1 : entry m c ⟨n - 1, hp⟩ r k = entry m c ⟨n, hn⟩ r k :=
      congrArg (fun s => term _ _ _ s k) (Fin.ext (by show 512 * ((n - 1) / 4) + r.val = 512 * (n / 4) + r.val; omega))
    have e3 : (n - 1) % 4 * 2816 + 1408 + 1408 = n % 4 * 2816 := by omega
    rw [e1, e3] at h
    rw [next m c ⟨n, hn⟩ h0 hp, ← pay m c ⟨n, hn⟩ r k, ← h]
    pointwise [k0_pay3]

theorem final (c : Dev nD) :
    (dats m 0 c).arrAt 3 cfg0.N
      = ColsDgradRefIdeal.Read.val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hl : t.val % 4 = 3 := (flush0_3 t).1 hf
  blk_simp
  rw [after0_3]
  idx_vars y
  rw [last m c t hl, held m c y0 y1 3 t.val t.isLt hl, hl]
  refine (upto_all _).trans ((ref_at _ _ _ (row t y0) y1).symm.trans ?_)
  blk_ext [row, idx t]

end Kernel

theorem frame_ref : Cert.quiescent_ColsDgradRefIdeal := fun m ρ _ =>
  (θ_run Cert.ColsDgradRefIdeal.defs _ _).mono (fun r h => ⟨fun c => (h c).2, sem_eq_zero_of_no_sems (by decide) r.2⟩)
    (Cert.ColsDgradRefIdeal.Value.run (F := Ideal) m ρ)

theorem algebraic : Cert.algebraic_ColsDgradIdeal_ColsDgradRefIdeal := by
  pair_intro
  · run_from Cert.ColsDgradIdeal.Value.run_blocks m g
  · run_from Cert.ColsDgradRefIdeal.Value.run m' g'
    all_goals obtain ⟨e0, e1, e2⟩ := hagree c
    exact (Cert.ColsDgradRefIdeal.Read.val_main_v4_eq _ _ _).trans (final m c).symm

end Cert.ColsDgradProof
-- ==== Proof.ColsWgrad.lean ====
/- The product of the transposed activations with the gradient, cut into blocks of columns (`_mm_cols_wgrad`): the kernel's result
   is the reference's, whatever the arguments.

   The gradient comes as two arrays, the first and the second half of its columns, and the result as eight blocks of 1408
   columns. Two grid points after each other take 2048 rows each and add their products in a scratch buffer; the second of
   them rounds the buffer into the result. -/
module

public import proofs.«01_k».proof.Defs
public import proofs.«01_k».proof.Proof.Gen.ColsWgradRefIdeal.Read
public import proofs.«01_k».proof.Proof.Gen.ColsWgradIdeal.Value
public import proofs.«01_k».proof.Proof.Tiles
public import Idealize.ShloMosaic.Lib.Pipeline.ReadBack

@[expose] public section

set_option maxRecDepth 16384

noncomputable section

namespace Cert.ColsWgradProof

open Idealize.ShloMosaic Idealize.ShloMosaic.TcCoe Idealize.SL.Sem
open Idealize.ShloMosaic.Pipeline (Dat)
open Cert.Lift Cert.Tiles

/-- The column of the gradient that is column `q` of block `b`. -/
def col (b : Fin 8) (q : Fin 1408) : Fin 11264 := ⟨1408 * b + q, by omega⟩

/-- The two halves of the gradient beside each other. -/
def dz (g u : FVec Ideal ColsWgradRefIdeal.S4096x5632 .bf16) (s : Fin 4096) (f : Fin 11264) : EReal :=
  if h : f.val < 5632 then g (ix2 s ⟨f, h⟩) else u (ix2 s ⟨f - 5632, by omega⟩)

/-- A term of an entry of the product. -/
def term (x : FVec Ideal ColsWgradRefIdeal.S4096x2048 .bf16) (g u : FVec Ideal ColsWgradRefIdeal.S4096x5632 .bf16) (k : Fin 2048)
    (f : Fin 11264) (s : Fin 4096) : EReal := x (ix2 s k) * dz g u s f

section Reference
open Cert.ColsWgradRefIdeal Cert.ColsWgradRefIdeal.Read

variable (x : FVec Ideal S4096x2048 .bf16) (g u : FVec Ideal S4096x5632 .bf16)

theorem ref_dz (s : Fin 4096) (f : Fin 11264) : val_main_v1 (F := Ideal) g u (ix2 s f) = dz g u s f := by
  unfold val_main_v1 dz
  by_cases hf : f.val < 5632
  · rw [dif_pos hf]
    refine concatenate_pair_apply_left (t := S4096x11264) (s₁ := S4096x5632) (s₂ := S4096x5632) 1 _ _ _ (ix2 s f) rfl
      (ix2 s ⟨f, hf⟩) fun b => ?_
    fin_cases b <;> rfl
  · rw [dif_neg hf]
    refine concatenate_pair_apply_right (t := S4096x11264) (s₁ := S4096x5632) (s₂ := S4096x5632) 1 _ _ _ (ix2 s f) rfl rfl
      (ix2 s ⟨f - 5632, by omega⟩) (fun b hb => ?_) (by show f.val - 5632 + 5632 = f.val; omega)
    fin_cases b
    · rfl
    · exact absurd rfl hb

theorem ref_at (b : Fin 8) (k : Fin 2048) (q : Fin 1408) :
    val_main_v9 (F := Ideal) x g u (ix3 b k q) = ∑ s, term x g u k (col b q) s := by
  have h : val_main_v6 (F := Ideal) x g u (ix2 k (col b q)) = ∑ s, term x g u k (col b q) s := by
    pointwise [val_main_v0, val_main_v2, val_main_v5, val_main_v6]
    exact Finset.sum_congr rfl fun s _ => (congrArg (· * _) (ref_dz g u s (col b q))).trans (mul_comm _ _)
  rw [← h]
  pointwise [val_main_v7, val_main_v8, val_main_v9]
  blk_ext [col]

end Reference

section Kernel
open Cert.ColsWgradIdeal Cert.ColsWgradIdeal.Gen

variable (m : (ℓ : Loc nD τ sig) → Buf (Elt Ideal) ℓ)

theorem idx : ∀ t : Fin cfg0.N, win0_0.index t = ![t.val % 2, t.val / 16] ∧ win0_1.index t = ![t.val % 2, min (t.val / 2 % 8) 3]
    ∧ win0_2.index t = ![t.val % 2, t.val / 2 % 8 - 4] ∧ win0_3.index t = ![t.val / 2 % 8, t.val / 16, 0]
    ∧ (grid0.coords t 1).val = t.val / 2 % 8 :=
  (by decide +kernel : ∀ t : Fin grid0.N, _)

def row (t : Fin cfg0.N) (r : Fin 2048) : Fin 4096 := ⟨t.val % 2 * 2048 + r, by omega⟩

def ki (t : Fin cfg0.N) (p : Fin 1024) : Fin 2048 := ⟨1024 * (t.val / 16) + p, by have := lt_of_lt_of_eq t.isLt N_0; omega⟩

def bi (t : Fin cfg0.N) : Fin 8 := ⟨t.val / 2 % 8, by omega⟩

theorem iblk0 (c : Dev nD) (t : Fin cfg0.N) (r : Fin 2048) (p : Fin 1024) :
    iblk m c 0 t (ix2 r p) = m ((c : Thread nD τ).loc main_arg0) (ix2 (row t r) (ki t p)) := by
  blk_ext [iblk, V, row, ki, idx t]

theorem iblk1 (c : Dev nD) (t : Fin cfg0.N) (h : t.val / 2 % 8 < 4) (r : Fin 2048) (q : Fin 1408) :
    iblk m c 1 t (ix2 r q) = m ((c : Thread nD τ).loc main_arg1) (ix2 (row t r) ⟨1408 * (t.val / 2 % 8) + q, by omega⟩) := by
  have e : min (t.val / 2 % 8) 3 = t.val / 2 % 8 := by omega
  blk_ext [iblk, V, row, idx t, e]

theorem iblk2 (c : Dev nD) (t : Fin cfg0.N) (h : ¬ t.val / 2 % 8 < 4) (r : Fin 2048) (q : Fin 1408) :
    iblk m c 2 t (ix2 r q) = m ((c : Thread nD τ).loc main_arg2) (ix2 (row t r) ⟨1408 * (t.val / 2 % 8) + q - 5632, by omega⟩) := by
  blk_ext [iblk, V, row, idx t]

/-! ## The payload -/

/-- The half of the gradient a point's columns lie in. -/
def pick (i : grid0.Coords) (x y : Vec Ideal S2048x1408 .bf16) : Vec Ideal S2048x1408 .bf16 := if (i 1).val < 4 then x else y

theorem pick_eq (i : grid0.Coords) (x y : Vec Ideal S2048x1408 .bf16) :
    Scalar.select (Scalar.cmpi .sge (BitVec.ofNat 32 (i 1).val) 4#32) y x = pick i x y := by
  have e : ∀ n : Fin 8, Scalar.cmpi .sge (BitVec.ofNat 32 n.val) 4#32 = if n.val < 4 then 0#1 else 1#1 := by decide
  rw [show Scalar.cmpi .sge (BitVec.ofNat 32 (i 1).val) 4#32 = _ from e (i 1)]
  unfold pick
  by_cases h : (i 1).val < 4
  · rw [if_pos h, if_pos h]
    rfl
  · rw [if_neg h, if_neg h]
    rfl

theorem pay_at (i : grid0.Coords) (a : Vec Ideal S2048x1024 .bf16) (x y : Vec Ideal S2048x1408 .bf16) (p : Fin 1024) (q : Fin 1408) :
    k0_pay1 i a x y (ix2 p q) = ∑ r : Fin 2048, a (ix2 r p) * pick i x y (ix2 r q) := by
  unfold k0_pay1
  dsimp only
  rw [pick_eq]
  pointwise

theorem pick_at (c : Dev nD) (t : Fin cfg0.N) (r : Fin 2048) (q : Fin 1408) :
    pick (grid0.coords t) (iblk m c 1 t) (iblk m c 2 t) (ix2 r q)
      = dz (m ((c : Thread nD τ).loc main_arg1)) (m ((c : Thread nD τ).loc main_arg2)) (row t r) (col (bi t) q) := by
  unfold pick dz col bi
  rw [(idx t).2.2.2.2]
  by_cases h : t.val / 2 % 8 < 4
  · rw [if_pos h, dif_pos (show 1408 * (t.val / 2 % 8) + q.val < 5632 by omega)]
    exact iblk1 m c t h r q
  · rw [if_neg h, dif_neg (show ¬ 1408 * (t.val / 2 % 8) + q.val < 5632 by omega)]
    exact iblk2 m c t h r q

section Scratch
variable (c : Dev nD) (t : Fin cfg0.N)

/-- The terms of an entry of the product. -/
def entry (p : Fin 1024) (q : Fin 1408) : Fin 4096 → EReal :=
  term (m ((c : Thread nD τ).loc main_arg0)) (m ((c : Thread nD τ).loc main_arg1)) (m ((c : Thread nD τ).loc main_arg2)) (ki t p) (col (bi t) q)

theorem pay (p : Fin 1024) (q : Fin 1408) :
    k0_pay1 (grid0.coords t) (iblk m c 0 t) (iblk m c 1 t) (iblk m c 2 t) (ix2 p q) = ∑ r, entry m c t p q (row t r) := by
  rw [pay_at]
  refine Finset.sum_congr rfl fun r _ => ?_
  rw [pick_at, iblk0]
  rfl

theorem first (h0 : t.val % 2 = 0) :
    (outsAt0 m c t.val t.isLt).2 = k0_pay2 (grid0.coords t) (iblk m c 0 t) (iblk m c 1 t) (iblk m c 2 t) := by
  rw [outsAt0_A m c t h0 (by omega) (by omega)]
  frame_out

theorem last (h1 : t.val % 2 = 1) (ht : t.val - 1 < cfg0.N) :
    (outsAt0 m c t.val t.isLt).1
      = k0_pay4 (k0_pay3 (grid0.coords t) (iblk m c 0 t) (iblk m c 1 t) (iblk m c 2 t) (outsAt0 m c (t.val - 1) ht).2) := by
  rw [outsAt0_B m c t (by omega) h1 h1]
  frame_out
  simp only [read_unread_whole]

end Scratch

/-- The second of two points writes the whole sums. -/
theorem done (c : Dev nD) (t : Fin cfg0.N) (h1 : t.val % 2 = 1) (p : Fin 1024) (q : Fin 1408) :
    (outsAt0 m c t.val t.isLt).1 (ix3 0 p q) = ∑ s, entry m c t p q s := by
  have hp : t.val - 1 < cfg0.N := lt_of_le_of_lt (Nat.sub_le _ _) t.isLt
  have h0 : (t.val - 1) % 2 = 0 := by omega
  have e : entry m c ⟨t.val - 1, hp⟩ p q = entry m c t p q := by
    unfold entry
    rw [show ki ⟨t.val - 1, hp⟩ p = ki t p from Fin.ext (by show 1024 * ((t.val - 1) / 16) + p.val = 1024 * (t.val / 16) + p.val; omega),
      show bi ⟨t.val - 1, hp⟩ = bi t from Fin.ext (by show (t.val - 1) / 2 % 8 = t.val / 2 % 8; omega)]
  have hs := (upto_all (entry m c t p q)).symm.trans (upto_add (entry m c t p q) 2048 2048 (by omega))
  rw [last m c t h1 hp, show (outsAt0 m c (t.val - 1) hp).2 = _ from first m c ⟨t.val - 1, hp⟩ h0]
  pointwise [k0_pay2, k0_pay3, k0_pay4]
  rw [pay, pay, e, hs, show upto (entry m c t p q) 2048 = _ from upto_add (entry m c t p q) 0 2048 (by omega), upto_zero, zero_add]
  refine congr_arg₂ _ ?_ ?_
  · refine Finset.sum_congr rfl fun r _ => congrArg _ (Fin.ext ?_)
    show (t.val - 1) % 2 * 2048 + r.val = 0 + r.val
    omega
  · refine Finset.sum_congr rfl fun r _ => congrArg _ (Fin.ext ?_)
    show t.val % 2 * 2048 + r.val = 2048 + r.val
    omega

theorem final (c : Dev nD) :
    (dats m 0 c).arrAt 3 cfg0.N
      = ColsWgradRefIdeal.Read.val_main_v9 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hl : t.val % 2 = 1 := (flush0_3 t).1 hf
  blk_simp
  rw [after0_3]
  idx_vars y
  obtain rfl : y0 = 0 := Subsingleton.elim _ _
  rw [done m c t hl y1 y2]
  refine (ref_at (m ((c : Thread nD τ).loc main_arg0)) (m ((c : Thread nD τ).loc main_arg1)) (m ((c : Thread nD τ).loc main_arg2)) (bi t) (ki t y1) y2).symm.trans ?_
  blk_ext [ki, bi, idx t]

end Kernel

theorem frame_ref : Cert.quiescent_ColsWgradRefIdeal := fun m ρ _ =>
  (θ_run Cert.ColsWgradRefIdeal.defs _ _).mono (fun r h => ⟨fun c => (h c).2, sem_eq_zero_of_no_sems (by decide) r.2⟩)
    (Cert.ColsWgradRefIdeal.Value.run (F := Ideal) m ρ)

theorem algebraic : Cert.algebraic_ColsWgradIdeal_ColsWgradRefIdeal := by
  pair_intro
  · run_from Cert.ColsWgradIdeal.Value.run_blocks m g
  · run_from Cert.ColsWgradRefIdeal.Value.run m' g'
    all_goals obtain ⟨e0, e1, e2⟩ := hagree c
    refine (Cert.ColsWgradRefIdeal.Read.val_main_v9_eq _ _ _).trans ?_
    rw [e1, e2]
    exact (final m c).symm

end Cert.ColsWgradProof
-- ==== Proof.Shard.lean ====
/- Laying a device's shard of the weights into the array a gather fills (`_shard_into_land`): in the device's own slot, the kernel's
   value is the reference's.

   The other slots are the other devices', and the kernel writes nothing there: the claim's mask leaves them out. -/
module

public import proofs.«01_k».proof.Defs
public import proofs.«01_k».proof.Proof.Gen.ShardRefIdeal.Run
public import proofs.«01_k».proof.Proof.Gen.ShardRefIdeal.Read
public import proofs.«01_k».proof.Proof.Gen.ShardIdeal.Value
public import proofs.«01_k».proof.Proof.Gen.On_shard_mask
public import proofs.«01_k».proof.Proof.Lift

@[expose] public section

set_option maxRecDepth 16384

noncomputable section

namespace Cert.ShardProof

open Idealize.ShloMosaic Idealize.ShloMosaic.TcCoe Idealize.SL.Sem

/-- Every slot of the reference holds the shard of the second layer. -/
theorem ref_at (x : FVec Ideal ShardRefIdeal.S4x2048x1408 .f32) (s : Fin 8) (r : Fin 2048) (d : Fin 1408) :
    ShardRefIdeal.Read.val_main_v3 (F := Ideal) x (ix3 s r d) = x (ix3 1 r d) := by
  pointwise [ShardRefIdeal.Read.val_main_v0, ShardRefIdeal.Read.val_main_v1, ShardRefIdeal.Read.val_main_v2,
    ShardRefIdeal.Read.val_main_v3]

/-- What the run leaves in the first slot is the second layer's shard. -/
theorem slot_at (x : FVec Ideal ShardIdeal.S4x2048x1408 .f32) (s : Fin 8) (hs : s.val < 1) (r : Fin 2048) (d : Fin 1408) :
    ShardIdeal.Value.G1 (F := Ideal) x (ix3 s r d) = x (ix3 1 r d) := by
  refine congrArg x (funext fun a => Fin.ext ?_)
  fin_cases a
  · show (s.val + 1) % 4 = 1
    omega
  · rfl
  · rfl

/-- The mask is the first slot. -/
theorem mask_slot (x : FVec Ideal On_shard_mask.S4x2048x1408 .f32) (i : On_shard_mask.S8x2048x1408.Idx)
    (h : On_shard_mask.fn (F := Ideal) x i = 1#1) : (i 0).val < 1 := by
  unfold On_shard_mask.fn at h
  idx_vars i
  pointwise at h
  exact (by decide +kernel : ∀ n : Fin 8, IntOp.cmpi .eq (BitVec.ofNat 32 n.val) 0#32 = 1#1 → n.val < 1) i0 h

theorem frame_ref : Cert.quiescent_ShardRefIdeal := fun m ρ _ =>
  (θ_run Cert.ShardRefIdeal.defs _ _).mono (fun r h => ⟨fun c => (h c).2, sem_eq_zero_of_no_sems (by decide) r.2⟩)
    (Cert.ShardRefIdeal.Value.run (F := Ideal) m ρ)

theorem algebraic : Cert.algebraic_ShardIdeal_ShardRefIdeal_on_shard_mask := by
  intro m g m' g' _ hagree
  refine ⟨fun c => ShardRefIdeal.Read.val_main_v3 (F := Ideal) (m ((c.tc : Thread ShardIdeal.nD ShardIdeal.τ).loc ShardIdeal.main_arg0)), ?_, ?_⟩
  · run_from Cert.ShardIdeal.Value.run m g
    intro i hi
    have h0 := mask_slot _ i hi
    idx_vars i
    refine (if_pos ⟨Nat.zero_le _, h0, Nat.zero_le _, i1.isLt, Nat.zero_le _, i2.isLt⟩).trans ?_
    exact (slot_at _ i0 h0 i1 i2).trans (ref_at _ i0 i1 i2).symm
  · run_from Cert.ShardRefIdeal.Value.run m' g'
    intro i _
    exact congrFun (ShardRefIdeal.Read.val_main_v3_eq _) i

end Cert.ShardProof
-- ==== Proof.Adamw.lean ====
/- One step of the optimiser over one layer (`_adamw`): the kernel's four results are the reference's, whatever the arguments.

   A grid point takes 128 rows of the second layer: it sums the parts of the gradient, moves the two moments and forms the step, and
   writes each into its rows of an array whose other layers stay as they were. The kernel multiplies the moments by the inverses of the
   bias corrections, two named constants; the reference divides by the corrections. -/
module

public import proofs.«01_k».proof.Defs
public import proofs.«01_k».proof.Proof.Gen.AdamwRefIdeal.Run
public import proofs.«01_k».proof.Proof.Gen.AdamwRefIdeal.Read
public import proofs.«01_k».proof.Proof.Gen.AdamwIdeal.Value
public import proofs.«01_k».proof.Proof.Lift

@[expose] public section

set_option maxRecDepth 16384

noncomputable section

namespace Cert.AdamwProof

open Idealize.ShloMosaic Idealize.ShloMosaic.TcCoe Idealize.SL.Sem

/-! ## The step at one entry -/

/-- The sum of the four parts of a gradient. -/
def grad (p : Fin 4 → EReal) : EReal := p 0 + p 1 + p 2 + p 3

/-- The first moment after the step. -/
def mom (m g : EReal) : EReal := Ideal.ofBits .f32 0x3F666666#32 * m + Ideal.ofBits .f32 0x3DCCCCCD#32 * g

/-- The second moment after the step. -/
def vel (v g : EReal) : EReal := Ideal.ofBits .f32 0x3F7FBE77#32 * v + Ideal.ofBits .f32 0x3A83126F#32 * (g * g)

/-- The step, of the two corrected moments and the weight. -/
def move (m v w : EReal) : EReal :=
  Ideal.ofBits .f32 0xBA83126F#32
    * (Ideal.div m (Ideal.sqrt v + Ideal.ofBits .f32 0x322BCC77#32) + Ideal.ofBits .f32 0x3C23D70A#32 * w)

/-- The step's correction of the first moment. -/
theorem lit_c1 : Ideal.ofBits .f32 0x3F26BD02#32 = ((5463681 / 8388608 : ℝ) : EReal) := by
  simp [Ideal.ofBits, Ideal.ieee]; rw [← EReal.coe_mul]; congr 1; norm_num

/-- The step's correction of the second moment. -/
theorem lit_c2 : Ideal.ofBits .f32 0x3C231ACC#32 = ((2672307 / 268435456 : ℝ) : EReal) := by
  simp [Ideal.ofBits, Ideal.ieee]; rw [← EReal.coe_mul]; congr 1; norm_num

/-- Dividing by a real number other than zero is multiplying by its inverse, at the infinities too. -/
theorem div_real (x : EReal) (r : ℝ) (h : r ≠ 0) : Ideal.div x (r : EReal) = x * ((r⁻¹ : ℝ) : EReal) := by
  unfold Ideal.div
  rw [if_neg (by exact_mod_cast h), EReal.coe_inv]

/-- A layer's new table between the old ones: layer `l` of what the step leaves. -/
def layered (new : EReal) (old : Fin 4 → EReal) (l : Fin 4) : EReal := if l.val = 1 then new else old l

section Reference
open Cert.AdamwRefIdeal Cert.AdamwRefIdeal.Read

variable (p : FVec Ideal S4x2048x1408 .bf16) (w m v o : FVec Ideal S4x2048x1408 .f32) (r : Fin 2048) (d : Fin 1408)

abbrev g_at : EReal := grad fun k => p (ix3 k r d)

theorem ref_grad : val_main_v1 (F := Ideal) p (ix2 r d) = g_at p r d := by
  pointwise [val_main_v0, val_main_cst, val_main_v1]
  rw [Fin.sum_univ_four]
  rfl

theorem ref_mom : val_main_v12 (F := Ideal) p m (ix2 r d) = mom (m (ix3 1 r d)) (g_at p r d) := by
  rw [← ref_grad]
  pointwise [val_main_v4, val_main_v5, val_main_cst_0, val_main_v8, val_main_v9, val_main_cst_1, val_main_v10, val_main_v11,
    val_main_v12]
  rfl

theorem ref_vel : val_main_v18 (F := Ideal) p v (ix2 r d) = vel (v (ix3 1 r d)) (g_at p r d) := by
  rw [← ref_grad]
  pointwise [val_main_v6, val_main_v7, val_main_cst_2, val_main_v13, val_main_v14, val_main_v15, val_main_cst_3, val_main_v16,
    val_main_v17, val_main_v18]
  rfl

theorem ref_move : val_main_v31 (F := Ideal) p w m v (ix2 r d)
    = move (mom (m (ix3 1 r d)) (g_at p r d) * (((5463681 / 8388608)⁻¹ : ℝ) : EReal))
        (vel (v (ix3 1 r d)) (g_at p r d) * (((2672307 / 268435456)⁻¹ : ℝ) : EReal)) (w (ix3 1 r d)) := by
  rw [← ref_mom, ← ref_vel, ← div_real _ _ (by norm_num), ← div_real _ _ (by norm_num), ← lit_c1, ← lit_c2]
  pointwise [val_main_v2, val_main_v3, val_main_cst_4, val_main_v19, val_main_v20, val_main_cst_5, val_main_v21, val_main_v22,
    val_main_v23, val_main_cst_6, val_main_v24, val_main_v25, val_main_v26, val_main_cst_7, val_main_v27, val_main_v28,
    val_main_v29, val_main_cst_8, val_main_v30, val_main_v31]
  rfl

theorem ref0 (l : Fin 4) : val_main_v35 (F := Ideal) p o (ix3 l r d)
    = layered (val_main_v1 (F := Ideal) p (ix2 r d)) (fun l => o (ix3 l r d)) l := by
  fin_cases l <;> pointwise [val_main_v32, val_main_v33, val_main_v34, val_main_v35] <;> simp [layered] <;> rfl

theorem ref1 (l : Fin 4) : val_main_v39 (F := Ideal) p w m v o (ix3 l r d)
    = layered (val_main_v31 (F := Ideal) p w m v (ix2 r d)) (fun l => o (ix3 l r d)) l := by
  fin_cases l <;> pointwise [val_main_v36, val_main_v37, val_main_v38, val_main_v39] <;> simp [layered] <;> rfl

theorem ref2 (l : Fin 4) : val_main_v43 (F := Ideal) p m o (ix3 l r d)
    = layered (val_main_v12 (F := Ideal) p m (ix2 r d)) (fun l => o (ix3 l r d)) l := by
  fin_cases l <;> pointwise [val_main_v40, val_main_v41, val_main_v42, val_main_v43] <;> simp [layered] <;> rfl

theorem ref3 (l : Fin 4) : val_main_v47 (F := Ideal) p v o (ix3 l r d)
    = layered (val_main_v18 (F := Ideal) p v (ix2 r d)) (fun l => o (ix3 l r d)) l := by
  fin_cases l <;> pointwise [val_main_v44, val_main_v45, val_main_v46, val_main_v47] <;> simp [layered] <;> rfl

end Reference

section Kernel
open Cert.AdamwIdeal Cert.AdamwIdeal.Gen

variable (m : (ℓ : Loc nD τ sig) → Buf (Elt Ideal) ℓ) (c : Dev nD) (t : Fin cfg0.N)

theorem idx : ∀ t : Fin cfg0.N, win0_0.index t = ![0, t.val, 0] ∧ win0_1.index t = ![1, t.val, 0] ∧ win0_2.index t = ![1, t.val, 0]
    ∧ win0_3.index t = ![1, t.val, 0] ∧ win0_4.index t = ![1, t.val, 0] ∧ win0_5.index t = ![1, t.val, 0]
    ∧ win0_6.index t = ![1, t.val, 0] ∧ win0_7.index t = ![1, t.val, 0] :=
  (by decide +kernel : ∀ t : Fin grid0.N, _)

/-- Row `r` of the `t`-th block of 128 rows. -/
def row (t : Fin cfg0.N) (r : Fin 128) : Fin 2048 :=
  ⟨128 * t.val + r, by have := lt_of_lt_of_eq t.isLt N_0; omega⟩

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)

variable (r : Fin 128) (d : Fin 1408)

/-- Part `k` of the gradient, as a grid point reads it. -/
theorem part (k : ℕ) (hk : k < 4) (inb) :
    View.ld (iblk m c 0 t) (Rect.unit (s := S4x128x1408) ![k, 0, 0] ![1, 128, 1408] inb) (ix3 0 r d)
      = A0 m c (ix3 ⟨k, hk⟩ (row t r) d) := by
  refine Eq.trans (View.ld_unit_apply_of _ _ _ _ _ (ix3 ⟨k, hk⟩ r d) fun a => ?_) ?_
  · fin_cases a <;> simp
  · blk_ext [iblk, V, row, idx t]

theorem blk1 : iblk m c 1 t (ix3 0 r d) = A1 m c (ix3 1 (row t r) d) := by
  blk_ext [iblk, V, row, idx t]

theorem blk2 : iblk m c 2 t (ix3 0 r d) = A2 m c (ix3 1 (row t r) d) := by
  blk_ext [iblk, V, row, idx t]

theorem blk3 : iblk m c 3 t (ix3 0 r d) = A3 m c (ix3 1 (row t r) d) := by
  blk_ext [iblk, V, row, idx t]

/-! ## What a grid point leaves -/

section Point
variable (p0 p1 p2 p3 : FVec Ideal S1x128x1408 .bf16) (w o v : FVec Ideal S1x128x1408 .f32)

/-- The gradient's sum, of the four parts a grid point reads. -/
abbrev gk : EReal := grad ![p0 (ix3 0 r d), p1 (ix3 0 r d), p2 (ix3 0 r d), p3 (ix3 0 r d)]

theorem pay5 : k0_pay5 (F := Ideal) p0 p1 p2 p3 (ix2 r d) = gk r d p0 p1 p2 p3 := by
  pointwise [k0_pay5]
  rfl

theorem pay6 : k0_pay6 (F := Ideal) p0 p1 p2 p3 o (ix2 r d) = mom (o (ix3 0 r d)) (gk r d p0 p1 p2 p3) := by
  rw [← pay5]
  pointwise [k0_pay6]
  rfl

theorem pay7 : k0_pay7 (F := Ideal) p0 p1 p2 p3 v (ix2 r d) = vel (v (ix3 0 r d)) (gk r d p0 p1 p2 p3) := by
  rw [← pay5]
  pointwise [k0_pay7]
  rfl

theorem pay2 : k0_pay2 (F := Ideal) (k0_pay8 p0 p1 p2 p3 o) (k0_pay9 p0 p1 p2 p3 v) w (ix3 0 r d)
    = move (mom (o (ix3 0 r d)) (gk r d p0 p1 p2 p3) * (((5463681 / 8388608)⁻¹ : ℝ) : EReal))
        (vel (v (ix3 0 r d)) (gk r d p0 p1 p2 p3) * (((2672307 / 268435456)⁻¹ : ℝ) : EReal)) (w (ix3 0 r d)) := by
  rw [← pay6, ← pay7]
  pointwise [k0_pay2, k0_pay8, k0_pay9]
  rfl

end Point

/-- The gradient's sum at a grid point's row is the reference's. -/
theorem sum_at (i0 i1 i2 i3) :
    gk r d (View.ld (iblk m c 0 t) (Rect.unit (s := S4x128x1408) ![0, 0, 0] ![1, 128, 1408] i0))
        (View.ld (iblk m c 0 t) (Rect.unit (s := S4x128x1408) ![1, 0, 0] ![1, 128, 1408] i1))
        (View.ld (iblk m c 0 t) (Rect.unit (s := S4x128x1408) ![2, 0, 0] ![1, 128, 1408] i2))
        (View.ld (iblk m c 0 t) (Rect.unit (s := S4x128x1408) ![3, 0, 0] ![1, 128, 1408] i3))
      = g_at (A0 m c) (row t r) d := by
  show grad ![_, _, _, _] = _
  rw [part m c t r d 0 (by norm_num), part m c t r d 1 (by norm_num), part m c t r d 2 (by norm_num), part m c t r d 3 (by norm_num)]
  rfl

/-! ## The results -/

theorem final4 : (dats m 0 c).arrAt 4 cfg0.N = AdamwRefIdeal.Read.val_main_v35 (F := Ideal) (A0 m c) (A4 m c) := by
  refine (dats m 0 c).arrAt_eq_of_coversWhere_of_agree 4 _ (fun β => β 0 = 1) (by decide +kernel) (fun t hf y => ?_) (fun j hj => ?_)
  · blk_simp
    rw [after0_4]
    unfold outsAt0
    frame_out
    idx_vars y
    refine Eq.trans ?_ ((ref0 (A0 m c) (A4 m c) (row t y1) y2 1).symm.trans (congrArg _ ?_))
    · pointwise [k0_pay1]
      exact (pay5 y1 y2 _ _ _ _).trans ((sum_at m c t y1 y2 _ _ _ _).trans (ref_grad (A0 m c) (row t y1) y2).symm)
    · blk_ext [row, idx t]
  · idx_vars j
    blk_simp [Pipeline.Window.cell_apply] at hj
    refine Eq.trans ?_ ((ref0 (A0 m c) (A4 m c) j1 j2 j0).symm.trans (congrArg _ ?_))
    · rw [A_eq, layered, if_neg (by omega)]
      unfold V; after_results; try rfl
    · rfl

theorem final5 : (dats m 0 c).arrAt 5 cfg0.N
    = AdamwRefIdeal.Read.val_main_v39 (F := Ideal) (A0 m c) (A1 m c) (A2 m c) (A3 m c) (A5 m c) := by
  refine (dats m 0 c).arrAt_eq_of_coversWhere_of_agree 5 _ (fun β => β 0 = 1) (by decide +kernel) (fun t hf y => ?_) (fun j hj => ?_)
  · blk_simp
    rw [after0_5]
    unfold outsAt0
    frame_out
    idx_vars y
    refine Eq.trans ?_ ((ref1 (A0 m c) (A1 m c) (A2 m c) (A3 m c) (A5 m c) (row t y1) y2 1).symm.trans (congrArg _ ?_))
    · obtain rfl : y0 = 0 := Subsingleton.elim _ _
      refine (pay2 y1 y2 _ _ _ _ _ _ _).trans ?_
      rw [sum_at, blk1, blk2, blk3, ← ref_move]
      rfl
    · blk_ext [row, idx t]
  · idx_vars j
    blk_simp [Pipeline.Window.cell_apply] at hj
    refine Eq.trans ?_ ((ref1 (A0 m c) (A1 m c) (A2 m c) (A3 m c) (A5 m c) j1 j2 j0).symm.trans (congrArg _ ?_))
    · rw [A_eq, layered, if_neg (by omega)]
      unfold V; after_results; try rfl
    · rfl

theorem final6 : (dats m 0 c).arrAt 6 cfg0.N
    = AdamwRefIdeal.Read.val_main_v43 (F := Ideal) (A0 m c) (A2 m c) (A6 m c) := by
  refine (dats m 0 c).arrAt_eq_of_coversWhere_of_agree 6 _ (fun β => β 0 = 1) (by decide +kernel) (fun t hf y => ?_) (fun j hj => ?_)
  · blk_simp
    rw [after0_6]
    unfold outsAt0
    frame_out
    idx_vars y
    refine Eq.trans ?_ ((ref2 (A0 m c) (A2 m c) (A6 m c) (row t y1) y2 1).symm.trans (congrArg _ ?_))
    · pointwise [k0_pay3]
      refine (pay6 y1 y2 _ _ _ _ _).trans ?_
      rw [sum_at, blk2, ← ref_mom]
      rfl
    · blk_ext [row, idx t]
  · idx_vars j
    blk_simp [Pipeline.Window.cell_apply] at hj
    refine Eq.trans ?_ ((ref2 (A0 m c) (A2 m c) (A6 m c) j1 j2 j0).symm.trans (congrArg _ ?_))
    · rw [A_eq, layered, if_neg (by omega)]
      unfold V; after_results; try rfl
    · rfl

theorem final7 : (dats m 0 c).arrAt 7 cfg0.N
    = AdamwRefIdeal.Read.val_main_v47 (F := Ideal) (A0 m c) (A3 m c) (A7 m c) := by
  refine (dats m 0 c).arrAt_eq_of_coversWhere_of_agree 7 _ (fun β => β 0 = 1) (by decide +kernel) (fun t hf y => ?_) (fun j hj => ?_)
  · blk_simp
    rw [after0_7]
    unfold outsAt0
    frame_out
    idx_vars y
    refine Eq.trans ?_ ((ref3 (A0 m c) (A3 m c) (A7 m c) (row t y1) y2 1).symm.trans (congrArg _ ?_))
    · pointwise [k0_pay4]
      refine (pay7 y1 y2 _ _ _ _ _).trans ?_
      rw [sum_at, blk3, ← ref_vel]
      rfl
    · blk_ext [row, idx t]
  · idx_vars j
    blk_simp [Pipeline.Window.cell_apply] at hj
    refine Eq.trans ?_ ((ref3 (A0 m c) (A3 m c) (A7 m c) j1 j2 j0).symm.trans (congrArg _ ?_))
    · rw [A_eq, layered, if_neg (by omega)]
      unfold V; after_results; try rfl
    · rfl

end Kernel

/-! ## The claims -/

theorem preserves : Cert.preserves_Adamw_AdamwIdeal :=
  ⟨IdealRules.named_const.statement Cert.AdamwIdeal.κ "c1" .f32 0x3FC48605#32 (((5463681 / 8388608)⁻¹ : ℝ) : EReal) rfl,
    IdealRules.named_const.statement Cert.AdamwIdeal.κ "c2" .f32 0x42C8E6D3#32 (((2672307 / 268435456)⁻¹ : ℝ) : EReal) rfl⟩

theorem frame_ref : Cert.quiescent_AdamwRefIdeal := fun m ρ _ =>
  (θ_run Cert.AdamwRefIdeal.defs _ _).mono (fun r h => ⟨fun c => (h c).2.2.2.2, sem_eq_zero_of_no_sems (by decide) r.2⟩)
    (Cert.AdamwRefIdeal.Value.run (F := Ideal) m ρ)

theorem algebraic : Cert.algebraic_AdamwIdeal_AdamwRefIdeal := by
  pair_intro
  · run_from Cert.AdamwIdeal.Value.run_blocks m g
  · run_from Cert.AdamwRefIdeal.Value.run m' g'
    all_goals obtain ⟨e0, e1, e2, e3, e4, e5, e6, e7⟩ := hagree c
    · refine (Cert.AdamwRefIdeal.Read.val_main_v35_eq _ _).trans ?_
      rw [e4]
      exact (final4 m c).symm
    · refine (Cert.AdamwRefIdeal.Read.val_main_v39_eq _ _ _ _ _).trans ?_
      rw [e5]
      exact (final5 m c).symm
    · refine (Cert.AdamwRefIdeal.Read.val_main_v43_eq _ _ _).trans ?_
      rw [e2, e6]
      exact (final6 m c).symm
    · refine (Cert.AdamwRefIdeal.Read.val_main_v47_eq _ _ _).trans ?_
      rw [e3, e7]
      exact (final7 m c).symm

end Cert.AdamwProof
-- ==== Proof.PairFrame.lean ====
module

public import proofs.«01_k».proof.Proof.Gen.PairSumIdeal.Frame
public import proofs.«01_k».proof.Proof.Gen.PairSumIdeal.Skeleton
public import Idealize.ShloMosaic.Lib.Pipeline.TableIdle
public import Idealize.ShloMosaic.Lib.VecWindow
public import Idealize.ShloMosaic.Lib.Pipeline.ValueKit
public import Idealize.ShloMosaic.Lib.Claim

/-! The sum of two shards, over the whole grid: blocks of 1024 rows, then the four chips. The landing block is stored
at the device's own chip, the first, and stays in its buffer until it is written back after the last. -/

@[expose] public section

set_option maxRecDepth 16384

noncomputable section

namespace Cert.PairSumIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One point -/

set_option maxHeartbeats 1600000 in
/-- The body: the sum into the third buffer, and at the device's own chip into the fourth. -/
theorem run (c : Dev nD) (i : grid0.Coords) (a2 : Memref sig .tc .vmem S1x1024x1408 .bf16) (h2 : a2.IsWhole) (a3 : Memref sig .tc .vmem S1x1024x1408 .bf16) (h3 : a3.IsWhole)
    (a4 : Memref sig .tc .vmem S1x1024x1408 .bf16) (h4 : a4.IsWhole) (a5 : Memref sig .tc .vmem S1x1024x1408 .bf16) (h5 : a5.IsWhole)
    (x0 x1 d2 d3 : Vec F S1x1024x1408 .bf16) (E : Set ℕ) (K : PUnit → sProp 𝕄) :
    iprop(owns (c : Thread nD τ) a2 fullShare x0 ∗ owns (c : Thread nD τ) a3 fullShare x1
        ∗ owns (c : Thread nD τ) a4 fullShare d2 ∗ owns (c : Thread nD τ) a5 fullShare d3
        ∗ (iprop(owns (c : Thread nD τ) a2 fullShare x0 ∗ owns (c : Thread nD τ) a3 fullShare x1
            ∗ owns (c : Thread nD τ) a4 fullShare (k0_pay2 x0 x1)
            ∗ owns (c : Thread nD τ) a5 fullShare (if k0_cond1 i = 1#1 then k0_pay3 x0 x1 else d3)) -∗ K ⟨⟩))
      ⊢ wp frame (wpE (defs₀ (F := F)) Variants.none c none) E (cc0_pair_sum_2048x1408 i a2 h2 a3 h3 a4 h4 a5 h5) K := by
  simp only [cc0_pair_sum_2048x1408_eq_skeleton]; unfold cc0_pair_sum_2048x1408_skel
  unfold owns
  iintro ⟨⟨%f0, %hf0, H0⟩, ⟨%f1, %hf1, H1⟩, ⟨%f2, %hf2, H2⟩, ⟨%f3, %hf3, H3⟩, Hk⟩
  obtain rfl := h2.eq_unread hf0; obtain rfl := h3.eq_unread hf1; obtain rfl := h4.eq_unread hf2; obtain rfl := h5.eq_unread hf3
  by_cases hc : k0_cond1 i = 1#1
  · rw [if_pos hc]
    sl_exec (disch := sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; swap; · iexact H2
      ipureintro
      refine (View.read_writes_full _ _ _ _ _).trans ?_
      frame_out
    · iexists _; isplitr; swap; · iexact H3
      ipureintro
      refine (View.read_writes_full _ _ _ _ _).trans ?_
      frame_out
  · rw [if_neg hc]
    sl_exec (disch := sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; swap; · iexact H2
      ipureintro
      refine (View.read_writes_full _ _ _ _ _).trans ?_
      frame_out
    · iexists _; isplitr; swap; · iexact H3
      ipureintro
      exact h5.read_unread d3

variable (m : (ℓ : Loc nD τ sig) → Buf (Elt F) ℓ) (ρ : Dev nD → PrngReg)

/-! ## The pipeline's proof data -/

abbrev ms0_0 (t : Fin cfg0.N) : Memref sig .tc .vmem S1x1024x1408 .bf16 := win0_0.stage (cfg0.slots t 0)
abbrev ms0_1 (t : Fin cfg0.N) : Memref sig .tc .vmem S1x1024x1408 .bf16 := win0_1.stage (cfg0.slots t 1)
abbrev ms0_2 (t : Fin cfg0.N) : Memref sig .tc .vmem S1x1024x1408 .bf16 := win0_2.stage (cfg0.slots t 2)
abbrev ms0_3 (t : Fin cfg0.N) : Memref sig .tc .vmem S1x1024x1408 .bf16 := win0_3.stage (cfg0.slots t 3)

/-- The point of `n`'s block of rows at the device's own chip. -/
def own (n : ℕ) (h : n < cfg0.N) : Fin cfg0.N := ⟨n - n % 4, Nat.lt_of_le_of_lt (Nat.sub_le _ _) h⟩

/-- The landing block of point `t`'s block of rows. -/
def land (c : Dev nD) (t : Fin cfg0.N) : Vec F S1x1024x1408 .bf16 := k0_pay3 (iblk m c 0 t) (iblk m c 1 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (iblk m c 1 t)
    | ⟨3, _⟩ => land m c (own t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_2 (c : Dev nD) (t : Fin cfg0.N) : (dats m 0 c).after 2 t = k0_pay2 (iblk m c 0 t) (iblk m c 1 t) := by dsimp only [dats]
theorem after0_3 (c : Dev nD) (t : Fin cfg0.N) : (dats m 0 c).after 3 t = land m c (own t.val t.isLt) := by dsimp only [dats]

/-- The inputs' buffers hold their blocks. -/
theorem before_in (c : Dev nD) (t : Fin cfg0.N) :
    (∀ d, (dats m 0 c).before 0 t d = iblk m c 0 t) ∧ (∀ d, (dats m 0 c).before 1 t d = iblk m c 1 t) :=
  ⟨before0_0_of m (dats m 0 c) (A_eq m c 0) (fun _ => by dsimp only [dats]) t, before0_1_of m (dats m 0 c) (A_eq m c 1) (fun _ => by dsimp only [dats]) t⟩

/-- Where the landing block's buffer is stored to, and where it holds nothing yet. -/
theorem idle_at : ∀ t : Fin cfg0.N, (k0_cond1 (grid0.coords t) = 1#1 ↔ t.val % 4 = 0)
    ∧ cfg0.idle 3 (grid0.coords t) = !decide (t.val % 4 = 0) ∧ (cfg0.win 3).flush t = decide (t.val % 4 = 3) := by decide +kernel

theorem fresh_at (n : ℕ) (h : n ≤ cfg0.N) : cfg0.fresh 3 n = decide (n % 4 = 0) := by
  refine cfg0.fresh_tab 3 (fun n => decide (n % 4 = 0)) rfl (fun t => ?_) n h
  obtain ⟨-, i, f⟩ := idle_at t
  rw [i, f]
  have : t.val % 4 < 4 := Nat.mod_lt _ (by norm_num)
  by_cases h0 : t.val % 4 = 0
  · simp only [h0]; have : (t.val + 1) % 4 ≠ 0 := by omega
    simp [this]
  · by_cases h3 : t.val % 4 = 3
    · have : (t.val + 1) % 4 = 0 := by omega
      simp [this, h3]
    · have : (t.val + 1) % 4 ≠ 0 := by omega
      simp [this, h0, h3]

theorem own_pred (n : ℕ) (h : n < cfg0.N) (h' : n - 1 < cfg0.N) (hn : n % 4 ≠ 0) : own n h = own (n - 1) h' := by
  apply Fin.ext; show n - n % 4 = n - 1 - (n - 1) % 4; omega

/-- Once stored, the landing block stays. -/
theorem before3 (c : Dev nD) (t : Fin cfg0.N) (ht : t.val % 4 ≠ 0) (d) : (dats m 0 c).before 3 t d = land m c (own t.val t.isLt) := by
  refine ((dats m 0 c).before_out_traj 3 rfl (fun _ _ => rfl) (fun s _ _ hf => ?_) t.val t rfl d).trans ?_
  · rw [after0_3, after0_3]
    rw [fresh_at _ (Nat.le_of_lt s.isLt)] at hf
    exact congrArg (land m c) (own_pred _ _ _ (of_decide_eq_false hf))
  · rw [fresh_at _ (Nat.le_of_lt t.isLt), decide_eq_false ht, if_neg Bool.false_ne_true, after0_3]
    exact congrArg (land m c) (own_pred _ _ _ ht).symm

theorem leaves_at (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (k0_pay2 (iblk m c 0 t) (iblk m c 1 t)) := by
  refine ⟨?_, ?_, ?_⟩ <;> · unfold Dat.leavesExact; rfl

/-- What the body leaves in the landing block's buffer is what the pipeline expects there. -/
theorem leaves3 (c : Dev nD) (t : Fin cfg0.N) (d) :
    owns (c : Thread nD τ) (ms0_3 t) fullShare (if k0_cond1 (grid0.coords t) = 1#1 then k0_pay3 (iblk m c 0 t) (iblk m c 1 t) else (dats m 0 c).before 3 t d)
      ⊢ (dats m 0 c).leavesExact 3 t := by
  obtain ⟨k, i, f⟩ := idle_at t
  have key : (if k0_cond1 (grid0.coords t) = 1#1 then k0_pay3 (iblk m c 0 t) (iblk m c 1 t) else (dats m 0 c).before 3 t d) = (dats m 0 c).after 3 t := by
    rw [after0_3]
    by_cases h : t.val % 4 = 0
    · rw [if_pos (k.2 h)]
      have e : own t.val t.isLt = t := Fin.ext (by show t.val - t.val % 4 = t.val; omega)
      rw [e]; rfl
    · rw [if_neg fun e => h (k.1 e), before3 m c t h]
  by_cases h : t.val % 4 = 0
  · rw [key, show (dats m 0 c).leavesExact 3 t = owns (c : Thread nD τ) (ms0_3 t) fullShare ((dats m 0 c).after 3 t) from by
      unfold Dat.leavesExact; rw [i, decide_eq_true h]; rfl]
  · by_cases h3 : t.val % 4 = 3
    · rw [key, show (dats m 0 c).leavesExact 3 t = owns (c : Thread nD τ) (ms0_3 t) fullShare ((dats m 0 c).after 3 t) from by
        unfold Dat.leavesExact; rw [i, f, decide_eq_true h3, decide_eq_false h]; rfl]
    · rw [if_neg fun e => h (k.1 e), Dat.leavesExact_idle (dats m 0 c) 3 t (by rw [i, decide_eq_false h]; rfl) (by rw [f, decide_eq_false h3])]
      iintro H; iexists _; iexact H

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

theorem sound_body (c : Dev nD) (t : Fin cfg0.N) :
    bodyPre m c t ⊢ wp frame (wpE (defs₀ (F := F)) Variants.none c none) Set.univ (bodyAt0 t) (fun _ => bodyPost m c t) := by
  obtain ⟨b0, b1⟩ := before_in m c t
  obtain ⟨l0, l1, l2⟩ := leaves_at m c t
  unfold bodyPre bodyPost bodyAt0
  simp only [b0, b1, l0, l1, l2]
  rw [show (dats m 0 c).owesAt () t.succ = (dats m 0 c).owesAt () t.castSucc from rfl,
    show (dats m 0 c).Φ t.succ = (dats m 0 c).Φ t.castSucc from rfl]
  iintro ⟨Hp, Ho, ⟨%d0, H0⟩, ⟨%d1, H1⟩, ⟨%d2, H2⟩, ⟨%d3, H3⟩⟩
  iapply (run c (grid0.coords t) _ _ _ _ _ _ _ _ (iblk m c 0 t) (iblk m c 1 t) _ _ Set.univ _)
  isplitl [H0]; · iexact H0
  isplitl [H1]; · iexact H1
  isplitl [H2]; · iexact H2
  isplitl [H3]; · iexact H3
  iintro ⟨H0, H1, H2, H3⟩
  isplitl [Hp]; · iexact Hp
  isplitl [Ho]; · iexact Ho
  isplitl [H0]; · iexact H0
  isplitl [H1]; · iexact H1
  isplitl [H2]; · iexact H2
  iapply (leaves3 m c t d3); iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The program ends, its arguments unchanged and its semaphores at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.PairSumIdeal.Gen

end
-- ==== Proof.PairSum.lean ====
/- The sum of a gradient's own half with what the paired core sent (`_pair_sum`): the kernel's sum is the reference's, and so is
   the landing array in the device's own slot.

   The other slots of the landing array are the other chips', and the kernel writes nothing there: the claim's mask leaves
   them out. -/
module

public import proofs.«01_k».proof.Defs
public import proofs.«01_k».proof.Proof.PairFrameBits
public import proofs.«01_k».proof.Proof.Gen.PairSumRefIdeal.Run
public import proofs.«01_k».proof.Proof.Gen.PairSumRefIdeal.Read
public import proofs.«01_k».proof.Proof.Gen.On_pair_mask
public import proofs.«01_k».proof.Proof.PairFrame
public import proofs.«01_k».proof.Proof.Lift

@[expose] public section

set_option maxRecDepth 16384

noncomputable section

namespace Cert.PairSumProof

open Idealize.ShloMosaic Idealize.ShloMosaic.TcCoe Idealize.SL.Sem
open Idealize.ShloMosaic.Pipeline (Dat)

/-- The reference adds the even slots of the first array to the second. -/
theorem ref_at (x : FVec Ideal PairSumRefIdeal.S8x2048x1408 .bf16) (y : FVec Ideal PairSumRefIdeal.S4x2048x1408 .bf16) (s : Fin 4) (r : Fin 2048)
    (d : Fin 1408) : PairSumRefIdeal.Read.val_main_v6 (F := Ideal) x y (ix3 s r d) = x (ix3 ⟨s.val * 2, by omega⟩ r d) + y (ix3 s r d) := by
  pointwise [PairSumRefIdeal.Read.val_main_v0, PairSumRefIdeal.Read.val_main_v1, PairSumRefIdeal.Read.val_main_v2,
    PairSumRefIdeal.Read.val_main_v3, PairSumRefIdeal.Read.val_main_v4, PairSumRefIdeal.Read.val_main_v5, PairSumRefIdeal.Read.val_main_v6]

section Kernel
open Cert.PairSumIdeal Cert.PairSumIdeal.Gen

variable (m : (ℓ : Loc nD τ sig) → Buf (Elt Ideal) ℓ)

theorem idx : ∀ t : Fin cfg0.N, win0_0.index t = ![t.val % 4 * 2, t.val / 4, 0] ∧ win0_1.index t = ![t.val % 4, t.val / 4, 0]
    ∧ win0_2.index t = ![t.val % 4, t.val / 4, 0] ∧ win0_3.index t = ![0, t.val / 4, 0] :=
  (by decide +kernel : ∀ t : Fin grid0.N, _)

def chip (t : Fin cfg0.N) : Fin 4 := ⟨t.val % 4, by omega⟩

def row (t : Fin cfg0.N) (r : Fin 1024) : Fin 2048 := ⟨1024 * (t.val / 4) + r, by have := lt_of_lt_of_eq t.isLt N_0; omega⟩

theorem iblk0 (c : Dev nD) (t : Fin cfg0.N) (b : Fin 1) (r : Fin 1024) (d : Fin 1408) :
    iblk m c 0 t (ix3 b r d) = m ((c : Thread nD τ).loc main_arg0) (ix3 ⟨(chip t).val * 2, by omega⟩ (row t r) d) := by
  blk_ext [iblk, V, chip, row, idx t]

theorem iblk1 (c : Dev nD) (t : Fin cfg0.N) (b : Fin 1) (r : Fin 1024) (d : Fin 1408) :
    iblk m c 1 t (ix3 b r d) = m ((c : Thread nD τ).loc main_arg1) (ix3 (chip t) (row t r) d) := by
  blk_ext [iblk, V, chip, row, idx t]

theorem pay2 (x y : FVec Ideal S1x1024x1408 .bf16) (b : Fin 1) (r : Fin 1024) (d : Fin 1408) :
    k0_pay2 (F := Ideal) x y (ix3 b r d) = x (ix3 0 r d) + y (ix3 0 r d) := by
  pointwise [k0_pay1, k0_pay2]

/-- A point's sum is its block of the reference. -/
theorem point (c : Dev nD) (t : Fin cfg0.N) (b : Fin 1) (r : Fin 1024) (d : Fin 1408) :
    k0_pay2 (F := Ideal) (iblk m c 0 t) (iblk m c 1 t) (ix3 b r d)
      = PairSumRefIdeal.Read.val_main_v6 (F := Ideal) (m ((c : Thread nD τ).loc main_arg0)) (m ((c : Thread nD τ).loc main_arg1)) (ix3 (chip t) (row t r) d) := by
  refine (pay2 _ _ b r d).trans ((congrArg₂ (fun p q : EReal => p + q) (iblk0 m c t 0 r d) (iblk1 m c t 0 r d)).trans (ref_at _ _ (chip t) (row t r) d).symm)

theorem final2 (c : Dev nD) : (dats m 0 c).arrAt 2 cfg0.N
    = PairSumRefIdeal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  idx_vars y
  refine (point m c t y0 y1 y2).trans ?_
  blk_ext [chip, row, idx t]

theorem final3 (c : Dev nD) (i : S4x2048x1408.Idx) (hi : (i 0).val < 1) : (dats m 0 c).arrAt 3 cfg0.N i
    = PairSumRefIdeal.Read.val_main_v6 (F := Ideal) (m ((c : Thread nD τ).loc main_arg0)) (m ((c : Thread nD τ).loc main_arg1)) i := by
  have key := (dats m 0 c).arrAt_apply_of_coversWhere 3
    (PairSumRefIdeal.Read.val_main_v6 (F := Ideal) (m ((c : Thread nD τ).loc main_arg0)) (m ((c : Thread nD τ).loc main_arg1)))
    (P := fun i : S4x2048x1408.Idx => (i 0).val < 1) (fun β => β 0 < 1) (by decide +kernel) (fun t hf' y => ?_) (fun j => ?_) i
  · rw [key, if_pos hi]
  · blk_simp
    rw [after0_3]
    have hN := lt_of_lt_of_eq t.isLt N_0
    idx_vars y
    have e0 : (own t.val t.isLt).val % 4 = 0 := by show (t.val - t.val % 4) % 4 = 0; omega
    have e1 : (own t.val t.isLt).val / 4 = t.val / 4 := by show (t.val - t.val % 4) / 4 = t.val / 4; omega
    refine (point m c (own t.val t.isLt) y0 y1 y2).trans (congrArg _ ?_)
    blk_ext [idx t, chip, row, e0, e1]
  · blk_simp [Pipeline.Window.cell_apply]
    omega

end Kernel

/-! ## The claim -/

/-- The second mask is the first slot. -/
theorem mask_slot (x : FVec Ideal On_pair_mask.S8x2048x1408 .bf16) (y : FVec Ideal On_pair_mask.S4x2048x1408 .bf16) (i : On_pair_mask.S4x2048x1408.Idx)
    (h : (On_pair_mask.fn (F := Ideal) x y).2 i = 1#1) : (i 0).val < 1 := by
  unfold On_pair_mask.fn at h
  idx_vars i
  pointwise at h
  exact (by decide +kernel : ∀ n : Fin 4, IntOp.cmpi .eq (BitVec.ofNat 32 n.val) 0#32 = 1#1 → n.val < 1) i0 h

theorem frame_ideal : Cert.quiescent_PairSumIdeal := fun m ρ _ => Cert.PairSumIdeal.Gen.frame m ρ
theorem frame_bits : Cert.quiescent_PairSum := fun m ρ _ => Cert.PairSum.Gen.frame m ρ

theorem frame_ref : Cert.quiescent_PairSumRefIdeal := fun m ρ _ =>
  (θ_run Cert.PairSumRefIdeal.defs _ _).mono (fun r h => ⟨fun c => (h c).2.2, sem_eq_zero_of_no_sems (by decide) r.2⟩)
    (Cert.PairSumRefIdeal.Value.run (F := Ideal) m ρ)

section Run
open Cert.PairSumIdeal Cert.PairSumIdeal.Gen

variable (m : (ℓ : Loc nD τ sig) → Buf (Elt Ideal) ℓ) (ρ : Dev nD → PrngReg)

/-- The run, with what it leaves in the two results. -/
theorem run_blocks : θ_run defs (onTc (τ := τ) (main (F := Ideal))) ⟨m, fun _ => 0, ρ⟩ (fun r => ∀ c : Dev nD,
      r.2.mem ((c.tc : Thread nD τ).loc main_v0_0) = (dats m 0 c).arrAt 2 cfg0.N
      ∧ r.2.mem ((c.tc : Thread nD τ).loc main_v0_1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 2, (h.1 c).1 3, h.2 c⟩)
    (θ_run_and (run_main m ρ) (frame_of m ρ (dats m) (A_eq m) (run_main m ρ)))

end Run

theorem algebraic : Cert.algebraic_PairSumIdeal_PairSumRefIdeal_on_pair_mask := by
  intro m g m' g' _ hagree
  refine ⟨fun c => (Cert.PairSumIdeal.Gen.dats m 0 c).arrAt 2 Cert.PairSumIdeal.cfg0.N,
    fun c => (Cert.PairSumIdeal.Gen.dats m 0 c).arrAt 3 Cert.PairSumIdeal.cfg0.N, ?_, ?_⟩
  · run_from Cert.PairSumProof.run_blocks m g
    all_goals exact fun _ _ => trivial
  · run_from Cert.PairSumRefIdeal.Value.run m' g'
    all_goals obtain ⟨e0, e1⟩ := hagree c
    · intro i _
      exact (congrFun (PairSumRefIdeal.Read.val_main_v6_eq _ _) i).trans (congrFun (final2 m c) i).symm
    · intro i hi
      exact (congrFun (PairSumRefIdeal.Read.val_main_v6_eq _ _) i).trans (final3 m c i (mask_slot _ _ i hi)).symm

end Cert.PairSumProof
-- ==== Proof.lean ====
/- The claims of the statement, put together. Each pair of programs — a call of the kernel and the reference for it — has three
   frames (the kernel as printed, the kernel over the reals, the reference over the reals), the statement that the kernel over
   the reals is the printed kernel's, and the equality of the two programs' results. The generated modules prove the frames
   of most kernels; the pairs' own modules prove the rest. -/
module

public import proofs.«01_k».proof.Defs
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemKvRefIdeal.Read
public import proofs.«01_k».proof.Proof.Gen.Pre_finite_memkv
public import proofs.«01_k».proof.Proof.MemKv
public import proofs.«01_k».proof.Proof.Gen.Rms
public import proofs.«01_k».proof.Proof.Gen.Rms.Frame
public import proofs.«01_k».proof.Proof.Gen.RmsIdeal
public import proofs.«01_k».proof.Proof.Gen.RmsIdeal.Frame
public import proofs.«01_k».proof.Proof.Gen.RmsIdeal.Value
public import proofs.«01_k».proof.Proof.Gen.RmsRefIdeal
public import proofs.«01_k».proof.Proof.Gen.RmsRefIdeal.Run
public import proofs.«01_k».proof.Proof.Gen.RmsRefIdeal.Read
public import proofs.«01_k».proof.Proof.Gen.Pre_finite_rms
public import proofs.«01_k».proof.Proof.Rms
public import proofs.«01_k».proof.Proof.Gen.RmsGain
public import proofs.«01_k».proof.Proof.Gen.RmsGain.Frame
public import proofs.«01_k».proof.Proof.Gen.RmsGainIdeal
public import proofs.«01_k».proof.Proof.Gen.RmsGainIdeal.Frame
public import proofs.«01_k».proof.Proof.Gen.RmsGainIdeal.Value
public import proofs.«01_k».proof.Proof.Gen.RmsGainRefIdeal
public import proofs.«01_k».proof.Proof.Gen.RmsGainRefIdeal.Run
public import proofs.«01_k».proof.Proof.Gen.RmsGainRefIdeal.Read
public import proofs.«01_k».proof.Proof.RmsGain
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Loss
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_finite_ffn
public import proofs.«01_k».proof.Proof.Ffn
public import proofs.«01_k».proof.Proof.Gen.Flash
public import proofs.«01_k».proof.Proof.Gen.Flash.Frame
public import proofs.«01_k».proof.Proof.Gen.FlashIdeal
public import proofs.«01_k».proof.Proof.Gen.FlashIdeal.Frame
public import proofs.«01_k».proof.Proof.Gen.FlashRefIdeal
public import proofs.«01_k».proof.Proof.Gen.FlashRefIdeal.Run
public import proofs.«01_k».proof.Proof.Gen.FlashRefIdeal.Read
public import proofs.«01_k».proof.Proof.Gen.Pre_finite_flash
public import proofs.«01_k».proof.Proof.Flash
public import proofs.«01_k».proof.Proof.Gen.MemAttn
public import proofs.«01_k».proof.Proof.Gen.MemAttn.Frame
public import proofs.«01_k».proof.Proof.Gen.MemAttnIdeal
public import proofs.«01_k».proof.Proof.Gen.MemAttnIdeal.Frame
public import proofs.«01_k».proof.Proof.Gen.MemAttnIdeal.Value
public import proofs.«01_k».proof.Proof.Gen.MemAttnRefIdeal
public import proofs.«01_k».proof.Proof.Gen.MemAttnRefIdeal.Run
public import proofs.«01_k».proof.Proof.Gen.MemAttnRefIdeal.Read
public import proofs.«01_k».proof.Proof.Gen.Pre_finite_mem
public import proofs.«01_k».proof.Proof.MemAttn
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.Pre_finite_prep
public import proofs.«01_k».proof.Proof.Prep
public import proofs.«01_k».proof.Proof.Gen.FlashFwd
public import proofs.«01_k».proof.Proof.Gen.FlashFwd.Frame
public import proofs.«01_k».proof.Proof.Gen.FlashFwdIdeal
public import proofs.«01_k».proof.Proof.Gen.FlashFwdIdeal.Frame
public import proofs.«01_k».proof.Proof.Gen.FlashFwdIdeal.Value
public import proofs.«01_k».proof.Proof.Gen.FlashFwdRefIdeal
public import proofs.«01_k».proof.Proof.Gen.FlashFwdRefIdeal.Run
public import proofs.«01_k».proof.Proof.Gen.FlashFwdRefIdeal.Read
public import proofs.«01_k».proof.Proof.Gen.Pre_finite_fwd
public import proofs.«01_k».proof.Proof.FlashFwd
public import proofs.«01_k».proof.Proof.Gen.Gmlp
public import proofs.«01_k».proof.Proof.Gen.Gmlp.Frame
public import proofs.«01_k».proof.Proof.Gen.GmlpIdeal
public import proofs.«01_k».proof.Proof.Gen.GmlpIdeal.Frame
public import proofs.«01_k».proof.Proof.Gen.GmlpIdeal.Value
public import proofs.«01_k».proof.Proof.Gen.GmlpRefIdeal
public import proofs.«01_k».proof.Proof.Gen.GmlpRefIdeal.Run
public import proofs.«01_k».proof.Proof.Gen.GmlpRefIdeal.Read
public import proofs.«01_k».proof.Proof.Gen.Pre_finite_gmlp
public import proofs.«01_k».proof.Proof.Gmlp
public import proofs.«01_k».proof.Proof.Gen.RmsFwd
public import proofs.«01_k».proof.Proof.Gen.RmsFwd.Frame
public import proofs.«01_k».proof.Proof.Gen.RmsFwdIdeal
public import proofs.«01_k».proof.Proof.Gen.RmsFwdIdeal.Frame
public import proofs.«01_k».proof.Proof.Gen.RmsFwdIdeal.Value
public import proofs.«01_k».proof.Proof.Gen.RmsFwdRefIdeal
public import proofs.«01_k».proof.Proof.Gen.RmsFwdRefIdeal.Run
public import proofs.«01_k».proof.Proof.Gen.RmsFwdRefIdeal.Read
public import proofs.«01_k».proof.Proof.RmsFwd
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.FfnUp
public import proofs.«01_k».proof.Proof.Gen.GmlpFwd
public import proofs.«01_k».proof.Proof.Gen.GmlpFwd.Frame
public import proofs.«01_k».proof.Proof.Gen.GmlpFwdIdeal
public import proofs.«01_k».proof.Proof.Gen.GmlpFwdIdeal.Frame
public import proofs.«01_k».proof.Proof.Gen.GmlpFwdIdeal.Value
public import proofs.«01_k».proof.Proof.Gen.GmlpFwdRefIdeal
public import proofs.«01_k».proof.Proof.Gen.GmlpFwdRefIdeal.Run
public import proofs.«01_k».proof.Proof.Gen.GmlpFwdRefIdeal.Read
public import proofs.«01_k».proof.Proof.GmlpFwd
public import proofs.«01_k».proof.Proof.Gen.MemFwd
public import proofs.«01_k».proof.Proof.Gen.MemFwd.Frame
public import proofs.«01_k».proof.Proof.Gen.MemFwdIdeal
public import proofs.«01_k».proof.Proof.Gen.MemFwdIdeal.Frame
public import proofs.«01_k».proof.Proof.Gen.MemFwdIdeal.Value
public import proofs.«01_k».proof.Proof.Gen.MemFwdRefIdeal
public import proofs.«01_k».proof.Proof.Gen.MemFwdRefIdeal.Run
public import proofs.«01_k».proof.Proof.Gen.MemFwdRefIdeal.Read
public import proofs.«01_k».proof.Proof.Gen.Pre_finite_mfwd
public import proofs.«01_k».proof.Proof.MemFwd
public import proofs.«01_k».proof.Proof.Gen.PrepFwd
public import proofs.«01_k».proof.Proof.Gen.PrepFwd.Frame
public import proofs.«01_k».proof.Proof.Gen.PrepFwdIdeal
public import proofs.«01_k».proof.Proof.Gen.PrepFwdIdeal.Frame
public import proofs.«01_k».proof.Proof.Gen.PrepFwdIdeal.Value
public import proofs.«01_k».proof.Proof.Gen.PrepFwdRefIdeal
public import proofs.«01_k».proof.Proof.Gen.PrepFwdRefIdeal.Run
public import proofs.«01_k».proof.Proof.Gen.PrepFwdRefIdeal.Read
public import proofs.«01_k».proof.Proof.PrepFwd
public import proofs.«01_k».proof.Proof.Gen.Delta
public import proofs.«01_k».proof.Proof.Gen.Delta.Frame
public import proofs.«01_k».proof.Proof.Gen.DeltaIdeal
public import proofs.«01_k».proof.Proof.Gen.DeltaIdeal.Frame
public import proofs.«01_k».proof.Proof.Gen.DeltaIdeal.Value
public import proofs.«01_k».proof.Proof.Gen.DeltaRefIdeal
public import proofs.«01_k».proof.Proof.Gen.DeltaRefIdeal.Run
public import proofs.«01_k».proof.Proof.Gen.DeltaRefIdeal.Read
public import proofs.«01_k».proof.Proof.Delta
public import proofs.«01_k».proof.Proof.Gen.ColsFwd
public import proofs.«01_k».proof.Proof.Gen.ColsFwd.Frame
public import proofs.«01_k».proof.Proof.Gen.ColsFwdIdeal
public import proofs.«01_k».proof.Proof.Gen.ColsFwdIdeal.Frame
public import proofs.«01_k».proof.Proof.Gen.ColsFwdIdeal.Value
public import proofs.«01_k».proof.Proof.Gen.ColsFwdRefIdeal
public import proofs.«01_k».proof.Proof.Gen.ColsFwdRefIdeal.Run
public import proofs.«01_k».proof.Proof.Gen.ColsFwdRefIdeal.Read
public import proofs.«01_k».proof.Proof.ColsFwd
public import proofs.«01_k».proof.Proof.Gen.Matmul
public import proofs.«01_k».proof.Proof.Gen.Matmul.Frame
public import proofs.«01_k».proof.Proof.Gen.MatmulIdeal
public import proofs.«01_k».proof.Proof.Gen.MatmulIdeal.Frame
public import proofs.«01_k».proof.Proof.Gen.MatmulIdeal.Value
public import proofs.«01_k».proof.Proof.Gen.MatmulRefIdeal
public import proofs.«01_k».proof.Proof.Gen.MatmulRefIdeal.Run
public import proofs.«01_k».proof.Proof.Gen.MatmulRefIdeal.Read
public import proofs.«01_k».proof.Proof.Matmul
public import proofs.«01_k».proof.Proof.Gen.ColsDgrad
public import proofs.«01_k».proof.Proof.Gen.ColsDgrad.Frame
public import proofs.«01_k».proof.Proof.Gen.ColsDgradIdeal
public import proofs.«01_k».proof.Proof.Gen.ColsDgradIdeal.Frame
public import proofs.«01_k».proof.Proof.Gen.ColsDgradIdeal.Value
public import proofs.«01_k».proof.Proof.Gen.ColsDgradRefIdeal
public import proofs.«01_k».proof.Proof.Gen.ColsDgradRefIdeal.Run
public import proofs.«01_k».proof.Proof.Gen.ColsDgradRefIdeal.Read
public import proofs.«01_k».proof.Proof.ColsDgrad
public import proofs.«01_k».proof.Proof.Gen.ColsWgrad
public import proofs.«01_k».proof.Proof.Gen.ColsWgrad.Frame
public import proofs.«01_k».proof.Proof.Gen.ColsWgradIdeal
public import proofs.«01_k».proof.Proof.Gen.ColsWgradIdeal.Frame
public import proofs.«01_k».proof.Proof.Gen.ColsWgradIdeal.Value
public import proofs.«01_k».proof.Proof.Gen.ColsWgradRefIdeal
public import proofs.«01_k».proof.Proof.Gen.ColsWgradRefIdeal.Run
public import proofs.«01_k».proof.Proof.Gen.ColsWgradRefIdeal.Read
public import proofs.«01_k».proof.Proof.ColsWgrad
public import proofs.«01_k».proof.Proof.Gen.Shard
public import proofs.«01_k».proof.Proof.Gen.Shard.Frame
public import proofs.«01_k».proof.Proof.Gen.ShardIdeal
public import proofs.«01_k».proof.Proof.Gen.ShardIdeal.Frame
public import proofs.«01_k».proof.Proof.Gen.ShardIdeal.Value
public import proofs.«01_k».proof.Proof.Gen.ShardRefIdeal
public import proofs.«01_k».proof.Proof.Gen.ShardRefIdeal.Run
public import proofs.«01_k».proof.Proof.Gen.ShardRefIdeal.Read
public import proofs.«01_k».proof.Proof.Shard
public import proofs.«01_k».proof.Proof.Gen.Adamw
public import proofs.«01_k».proof.Proof.Gen.Adamw.Frame
public import proofs.«01_k».proof.Proof.Gen.AdamwIdeal
public import proofs.«01_k».proof.Proof.Gen.AdamwIdeal.Frame
public import proofs.«01_k».proof.Proof.Gen.AdamwIdeal.Value
public import proofs.«01_k».proof.Proof.Gen.AdamwRefIdeal
public import proofs.«01_k».proof.Proof.Gen.AdamwRefIdeal.Run
public import proofs.«01_k».proof.Proof.Gen.AdamwRefIdeal.Read
public import proofs.«01_k».proof.Proof.Adamw
public import proofs.«01_k».proof.Proof.Gen.PairSum
public import proofs.«01_k».proof.Proof.Gen.PairSum.Frame
public import proofs.«01_k».proof.Proof.Gen.PairSumIdeal
public import proofs.«01_k».proof.Proof.Gen.PairSumIdeal.Frame
public import proofs.«01_k».proof.Proof.Gen.PairSumRefIdeal
public import proofs.«01_k».proof.Proof.Gen.PairSumRefIdeal.Run
public import proofs.«01_k».proof.Proof.Gen.PairSumRefIdeal.Read
public import proofs.«01_k».proof.Proof.PairSum
public import proofs.«01_k».proof.Proof.Gen.On_prep_mask
public import proofs.«01_k».proof.Proof.Gen.On_fwd_mask
public import proofs.«01_k».proof.Proof.Gen.On_gmlp_mask
public import proofs.«01_k».proof.Proof.Gen.On_gate_mask
public import proofs.«01_k».proof.Proof.Gen.On_shard_mask
public import proofs.«01_k».proof.Proof.Gen.On_pair_mask
public import Idealize.ShloMosaic.Adequacy
public import Idealize.ShloMosaic.Init

@[expose] public section

noncomputable section

namespace Cert.Proof

open Idealize.ShloMosaic Idealize.SL.Sem

theorem claim : Cert.Claim := ⟨Cert.MemKv.Gen.facts, Cert.MemKvIdeal.Gen.facts, Cert.MemKvRefIdeal.Gen.facts, Cert.Rms.Gen.facts, Cert.RmsIdeal.Gen.facts, Cert.RmsRefIdeal.Gen.facts, Cert.RmsGain.Gen.facts, Cert.RmsGainIdeal.Gen.facts, Cert.RmsGainRefIdeal.Gen.facts, Cert.Loss.Gen.facts, Cert.LossIdeal.Gen.facts, Cert.LossRefIdeal.Gen.facts, Cert.Ffn.Gen.facts, Cert.FfnIdeal.Gen.facts, Cert.FfnRefIdeal.Gen.facts, Cert.Flash.Gen.facts, Cert.FlashIdeal.Gen.facts, Cert.FlashRefIdeal.Gen.facts, Cert.MemAttn.Gen.facts, Cert.MemAttnIdeal.Gen.facts, Cert.MemAttnRefIdeal.Gen.facts, Cert.Prep.Gen.facts, Cert.PrepIdeal.Gen.facts, Cert.PrepRefIdeal.Gen.facts, Cert.FlashFwd.Gen.facts, Cert.FlashFwdIdeal.Gen.facts, Cert.FlashFwdRefIdeal.Gen.facts, Cert.Gmlp.Gen.facts, Cert.GmlpIdeal.Gen.facts, Cert.GmlpRefIdeal.Gen.facts, Cert.RmsFwd.Gen.facts, Cert.RmsFwdIdeal.Gen.facts, Cert.RmsFwdRefIdeal.Gen.facts, Cert.FfnUp.Gen.facts, Cert.FfnUpIdeal.Gen.facts, Cert.FfnUpRefIdeal.Gen.facts, Cert.GmlpFwd.Gen.facts, Cert.GmlpFwdIdeal.Gen.facts, Cert.GmlpFwdRefIdeal.Gen.facts, Cert.MemFwd.Gen.facts, Cert.MemFwdIdeal.Gen.facts, Cert.MemFwdRefIdeal.Gen.facts, Cert.PrepFwd.Gen.facts, Cert.PrepFwdIdeal.Gen.facts, Cert.PrepFwdRefIdeal.Gen.facts, Cert.Delta.Gen.facts, Cert.DeltaIdeal.Gen.facts, Cert.DeltaRefIdeal.Gen.facts, Cert.ColsFwd.Gen.facts, Cert.ColsFwdIdeal.Gen.facts, Cert.ColsFwdRefIdeal.Gen.facts, Cert.Matmul.Gen.facts, Cert.MatmulIdeal.Gen.facts, Cert.MatmulRefIdeal.Gen.facts, Cert.ColsDgrad.Gen.facts, Cert.ColsDgradIdeal.Gen.facts, Cert.ColsDgradRefIdeal.Gen.facts, Cert.ColsWgrad.Gen.facts, Cert.ColsWgradIdeal.Gen.facts, Cert.ColsWgradRefIdeal.Gen.facts, Cert.Shard.Gen.facts, Cert.ShardIdeal.Gen.facts, Cert.ShardRefIdeal.Gen.facts, Cert.Adamw.Gen.facts, Cert.AdamwIdeal.Gen.facts, Cert.AdamwRefIdeal.Gen.facts, Cert.PairSum.Gen.facts, Cert.PairSumIdeal.Gen.facts, Cert.PairSumRefIdeal.Gen.facts, Cert.Pre_finite_memkv.Gen.facts, Cert.Pre_finite_rms.Gen.facts, Cert.Pre_finite_ffn.Gen.facts, Cert.Pre_finite_flash.Gen.facts, Cert.Pre_finite_mem.Gen.facts, Cert.Pre_finite_prep.Gen.facts, Cert.Pre_finite_fwd.Gen.facts, Cert.Pre_finite_gmlp.Gen.facts, Cert.Pre_finite_mfwd.Gen.facts, Cert.On_prep_mask.Gen.facts, Cert.On_fwd_mask.Gen.facts, Cert.On_gmlp_mask.Gen.facts, Cert.On_gate_mask.Gen.facts, Cert.On_shard_mask.Gen.facts, Cert.On_pair_mask.Gen.facts, by
  refine ⟨fun m ρ _ => Cert.MemKv.Gen.frame m ρ,
    fun m ρ _ => Cert.MemKvIdeal.Gen.frame m ρ,
    fun m ρ _ => Cert.MemKvIdeal.Gen.frame m ρ,
    Cert.MemKvProof.frame_ref,
    fun m ρ _ => Cert.MemKvProof.frame_ref m ρ trivial,
    fun m ρ _ => Cert.Rms.Gen.frame m ρ,
    fun m ρ _ => Cert.RmsIdeal.Gen.frame m ρ,
    fun m ρ _ => Cert.RmsIdeal.Gen.frame m ρ,
    Cert.RmsProof.frame_ref,
    fun m ρ _ => Cert.RmsProof.frame_ref m ρ trivial,
    fun m ρ _ => Cert.RmsGain.Gen.frame m ρ,
    fun m ρ _ => Cert.RmsGainIdeal.Gen.frame m ρ,
    Cert.RmsGainProof.frame_ref,
    fun m ρ _ => Cert.Loss.Gen.frame m ρ,
    fun m ρ _ => Cert.LossIdeal.Gen.frame m ρ,
    Cert.LossProof.frame_ref,
    fun m ρ _ => Cert.Ffn.Gen.frame m ρ,
    fun m ρ _ => Cert.FfnIdeal.Gen.frame m ρ,
    fun m ρ _ => Cert.FfnIdeal.Gen.frame m ρ,
    Cert.FfnProof.frame_ref,
    fun m ρ _ => Cert.FfnProof.frame_ref m ρ trivial,
    Cert.FlashProof.frame_bits,
    Cert.FlashProof.frame_ideal,
    fun m ρ _ => Cert.FlashProof.frame_ideal m ρ trivial,
    Cert.FlashProof.frame_ref,
    fun m ρ _ => Cert.FlashProof.frame_ref m ρ trivial,
    fun m ρ _ => Cert.MemAttn.Gen.frame m ρ,
    fun m ρ _ => Cert.MemAttnIdeal.Gen.frame m ρ,
    fun m ρ _ => Cert.MemAttnIdeal.Gen.frame m ρ,
    Cert.MemAttnProof.frame_ref,
    fun m ρ _ => Cert.MemAttnProof.frame_ref m ρ trivial,
    fun m ρ _ => Cert.Prep.Gen.frame m ρ,
    fun m ρ _ => Cert.PrepIdeal.Gen.frame m ρ,
    fun m ρ _ => Cert.PrepIdeal.Gen.frame m ρ,
    Cert.PrepProof.frame_ref,
    fun m ρ _ => Cert.PrepProof.frame_ref m ρ trivial,
    fun m ρ _ => Cert.FlashFwd.Gen.frame m ρ,
    fun m ρ _ => Cert.FlashFwdIdeal.Gen.frame m ρ,
    fun m ρ _ => Cert.FlashFwdIdeal.Gen.frame m ρ,
    Cert.FlashFwdProof.frame_ref,
    fun m ρ _ => Cert.FlashFwdProof.frame_ref m ρ trivial,
    fun m ρ _ => Cert.Gmlp.Gen.frame m ρ,
    fun m ρ _ => Cert.GmlpIdeal.Gen.frame m ρ,
    fun m ρ _ => Cert.GmlpIdeal.Gen.frame m ρ,
    Cert.GmlpProof.frame_ref,
    fun m ρ _ => Cert.GmlpProof.frame_ref m ρ trivial,
    fun m ρ _ => Cert.RmsFwd.Gen.frame m ρ,
    fun m ρ _ => Cert.RmsFwdIdeal.Gen.frame m ρ,
    Cert.RmsFwdProof.frame_ref,
    fun m ρ _ => Cert.FfnUp.Gen.frame m ρ,
    fun m ρ _ => Cert.FfnUpIdeal.Gen.frame m ρ,
    Cert.FfnUpProof.frame_ref,
    fun m ρ _ => Cert.GmlpFwd.Gen.frame m ρ,
    fun m ρ _ => Cert.GmlpFwdIdeal.Gen.frame m ρ,
    Cert.GmlpFwdProof.frame_ref,
    fun m ρ _ => Cert.MemFwd.Gen.frame m ρ,
    fun m ρ _ => Cert.MemFwdIdeal.Gen.frame m ρ,
    fun m ρ _ => Cert.MemFwdIdeal.Gen.frame m ρ,
    Cert.MemFwdProof.frame_ref,
    fun m ρ _ => Cert.MemFwdProof.frame_ref m ρ trivial,
    fun m ρ _ => Cert.PrepFwd.Gen.frame m ρ,
    fun m ρ _ => Cert.PrepFwdIdeal.Gen.frame m ρ,
    Cert.PrepFwdProof.frame_ref,
    fun m ρ _ => Cert.Delta.Gen.frame m ρ,
    fun m ρ _ => Cert.DeltaIdeal.Gen.frame m ρ,
    Cert.DeltaProof.frame_ref,
    fun m ρ _ => Cert.ColsFwd.Gen.frame m ρ,
    fun m ρ _ => Cert.ColsFwdIdeal.Gen.frame m ρ,
    Cert.ColsFwdProof.frame_ref,
    fun m ρ _ => Cert.Matmul.Gen.frame m ρ,
    fun m ρ _ => Cert.MatmulIdeal.Gen.frame m ρ,
    Cert.MatmulProof.frame_ref,
    fun m ρ _ => Cert.ColsDgrad.Gen.frame m ρ,
    fun m ρ _ => Cert.ColsDgradIdeal.Gen.frame m ρ,
    Cert.ColsDgradProof.frame_ref,
    fun m ρ _ => Cert.ColsWgrad.Gen.frame m ρ,
    fun m ρ _ => Cert.ColsWgradIdeal.Gen.frame m ρ,
    Cert.ColsWgradProof.frame_ref,
    fun m ρ _ => Cert.Shard.Gen.frame m ρ,
    fun m ρ _ => Cert.ShardIdeal.Gen.frame m ρ,
    Cert.ShardProof.frame_ref,
    fun m ρ _ => Cert.Adamw.Gen.frame m ρ,
    fun m ρ _ => Cert.AdamwIdeal.Gen.frame m ρ,
    Cert.AdamwProof.frame_ref,
    Cert.PairSumProof.frame_bits,
    Cert.PairSumProof.frame_ideal,
    Cert.PairSumProof.frame_ref,
    -- each kernel over the reals is the printed kernel's; its results are the reference's
    trivial, Cert.MemKvProof.algebraic,
    trivial, Cert.RmsProof.algebraic,
    trivial, Cert.RmsGainProof.algebraic,
    trivial, Cert.LossProof.algebraic,
    trivial, Cert.FfnProof.algebraic,
    Cert.FlashProof.preserves, Cert.FlashProof.algebraic,
    trivial, Cert.MemAttnProof.algebraic,
    trivial, Cert.PrepProof.algebraic,
    Cert.FlashFwdProof.preserves, Cert.FlashFwdProof.algebraic,
    trivial, Cert.GmlpProof.algebraic,
    trivial, Cert.RmsFwdProof.algebraic,
    trivial, Cert.FfnUpProof.algebraic,
    trivial, Cert.GmlpFwdProof.algebraic,
    trivial, Cert.MemFwdProof.algebraic,
    Cert.PrepFwdProof.preserves, Cert.PrepFwdProof.algebraic,
    trivial, Cert.DeltaProof.algebraic,
    trivial, Cert.ColsFwdProof.algebraic,
    trivial, Cert.MatmulProof.algebraic,
    trivial, Cert.ColsDgradProof.algebraic,
    trivial, Cert.ColsWgradProof.algebraic,
    trivial, Cert.ShardProof.algebraic,
    Cert.AdamwProof.preserves, Cert.AdamwProof.algebraic,
    trivial, Cert.PairSumProof.algebraic⟩⟩

end Cert.Proof

end
